-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_AMix (m : (ℓ : Loc Cert.AMix.nD Cert.AMix.τ Cert.AMix.sig) → Buf (Elt Bits) ℓ) : Prop :=
  True

def Pre_AMixIdeal (m : (ℓ : Loc Cert.AMixIdeal.nD Cert.AMixIdeal.τ Cert.AMixIdeal.sig) → Buf (Elt Ideal) ℓ) : Prop :=
  True

def Pre_AMixRefIdeal (m : (ℓ : Loc Cert.AMixRefIdeal.nD Cert.AMixRefIdeal.τ Cert.AMixRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))) = (fun _ => 1#1)

def Pre_BMix (m : (ℓ : Loc Cert.BMix.nD Cert.BMix.τ Cert.BMix.sig) → Buf (Elt Bits) ℓ) : Prop :=
  True

def Pre_BMixIdeal (m : (ℓ : Loc Cert.BMixIdeal.nD Cert.BMixIdeal.τ Cert.BMixIdeal.sig) → Buf (Elt Ideal) ℓ) : Prop :=
  True

def Pre_BMixIdeal_b_finite [hPre_b_finite : Cert.Pre_b_finite.Facts] (m : (ℓ : Loc Cert.BMixIdeal.nD Cert.BMixIdeal.τ Cert.BMixIdeal.sig) → Buf (Elt Ideal) ℓ) : Prop :=
  ∀ c : Dev Cert.BMixIdeal.nD,
    (Cert.Pre_b_finite.fn (F := Ideal) (m ((c.tc : Thread Cert.BMixIdeal.nD Cert.BMixIdeal.τ).loc Cert.BMixIdeal.main_arg0)) (m ((c.tc : Thread Cert.BMixIdeal.nD Cert.BMixIdeal.τ).loc Cert.BMixIdeal.main_arg1)) (m ((c.tc : Thread Cert.BMixIdeal.nD Cert.BMixIdeal.τ).loc Cert.BMixIdeal.main_arg2)) (m ((c.tc : Thread Cert.BMixIdeal.nD Cert.BMixIdeal.τ).loc Cert.BMixIdeal.main_arg3)) (m ((c.tc : Thread Cert.BMixIdeal.nD Cert.BMixIdeal.τ).loc Cert.BMixIdeal.main_arg4))) = (fun _ => 1#1)

def Pre_BMixRefIdeal (m : (ℓ : Loc Cert.BMixRefIdeal.nD Cert.BMixRefIdeal.τ Cert.BMixRefIdeal.sig) → Buf (Elt Ideal) ℓ) : Prop :=
  True

def Pre_BMixRefIdeal_b_finite [hPre_b_finite : Cert.Pre_b_finite.Facts] (m : (ℓ : Loc Cert.BMixRefIdeal.nD Cert.BMixRefIdeal.τ Cert.BMixRefIdeal.sig) → Buf (Elt Ideal) ℓ) : Prop :=
  ∀ c : Dev Cert.BMixRefIdeal.nD,
    (Cert.Pre_b_finite.fn (F := Ideal) (m ((c.tc : Thread Cert.BMixRefIdeal.nD Cert.BMixRefIdeal.τ).loc Cert.BMixRefIdeal.main_arg0)) (m ((c.tc : Thread Cert.BMixRefIdeal.nD Cert.BMixRefIdeal.τ).loc Cert.BMixRefIdeal.main_arg1)) (m ((c.tc : Thread Cert.BMixRefIdeal.nD Cert.BMixRefIdeal.τ).loc Cert.BMixRefIdeal.main_arg2)) (m ((c.tc : Thread Cert.BMixRefIdeal.nD Cert.BMixRefIdeal.τ).loc Cert.BMixRefIdeal.main_arg3)) (m ((c.tc : Thread Cert.BMixRefIdeal.nD Cert.BMixRefIdeal.τ).loc Cert.BMixRefIdeal.main_arg4))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_CMix (m : (ℓ : Loc Cert.CMix.nD Cert.CMix.τ Cert.CMix.sig) → Buf (Elt Bits) ℓ) : Prop :=
  True

def Pre_CMixIdeal (m : (ℓ : Loc Cert.CMixIdeal.nD Cert.CMixIdeal.τ Cert.CMixIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_p_finite [hPre_p_finite : Cert.Pre_p_finite.Facts] (m : (ℓ : Loc Cert.PoolIdeal.nD Cert.PoolIdeal.τ Cert.PoolIdeal.sig) → Buf (Elt Ideal) ℓ) : Prop :=
  ∀ c : Dev Cert.PoolIdeal.nD,
    (Cert.Pre_p_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))) = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_p_finite [hPre_p_finite : Cert.Pre_p_finite.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_p_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))) = (fun _ => 1#1)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_AMix [hAMix : Cert.AMix.Facts] : Prop :=
  ∀ (m : (ℓ : Loc Cert.AMix.nD Cert.AMix.τ Cert.AMix.sig) → Buf (Elt Bits) ℓ) (g : Dev Cert.AMix.nD → PrngReg), Pre_AMix m →
    θ_run (Cert.AMix.defs (F := Bits)) (onTc (τ := Cert.AMix.τ) (Cert.AMix.main (F := Bits))) ⟨m, fun _ => 0, g⟩ (fun r => (∀ c : Dev Cert.AMix.nD,
      r.2.mem ((c.tc : Thread Cert.AMix.nD Cert.AMix.τ).loc Cert.AMix.main_arg0) = m ((c.tc : Thread Cert.AMix.nD Cert.AMix.τ).loc Cert.AMix.main_arg0)
      ∧ r.2.mem ((c.tc : Thread Cert.AMix.nD Cert.AMix.τ).loc Cert.AMix.main_arg1) = m ((c.tc : Thread Cert.AMix.nD Cert.AMix.τ).loc Cert.AMix.main_arg1)
      ∧ r.2.mem ((c.tc : Thread Cert.AMix.nD Cert.AMix.τ).loc Cert.AMix.main_arg2) = m ((c.tc : Thread Cert.AMix.nD Cert.AMix.τ).loc Cert.AMix.main_arg2)
      ∧ r.2.mem ((c.tc : Thread Cert.AMix.nD Cert.AMix.τ).loc Cert.AMix.main_arg3) = m ((c.tc : Thread Cert.AMix.nD Cert.AMix.τ).loc Cert.AMix.main_arg3))
      ∧ r.2.sem = fun _ => 0)

def quiescent_AMixIdeal [hAMixIdeal : Cert.AMixIdeal.Facts] : Prop :=
  ∀ (m : (ℓ : Loc Cert.AMixIdeal.nD Cert.AMixIdeal.τ Cert.AMixIdeal.sig) → Buf (Elt Ideal) ℓ) (g : Dev Cert.AMixIdeal.nD → PrngReg), Pre_AMixIdeal m →
    θ_run (Cert.AMixIdeal.defs (F := Ideal)) (onTc (τ := Cert.AMixIdeal.τ) (Cert.AMixIdeal.main (F := Ideal))) ⟨m, fun _ => 0, g⟩ (fun r => (∀ c : Dev Cert.AMixIdeal.nD,
      r.2.mem ((c.tc : Thread Cert.AMixIdeal.nD Cert.AMixIdeal.τ).loc Cert.AMixIdeal.main_arg0) = m ((c.tc : Thread Cert.AMixIdeal.nD Cert.AMixIdeal.τ).loc Cert.AMixIdeal.main_arg0)
      ∧ r.2.mem ((c.tc : Thread Cert.AMixIdeal.nD Cert.AMixIdeal.τ).loc Cert.AMixIdeal.main_arg1) = m ((c.tc : Thread Cert.AMixIdeal.nD Cert.AMixIdeal.τ).loc Cert.AMixIdeal.main_arg1)
      ∧ r.2.mem ((c.tc : Thread Cert.AMixIdeal.nD Cert.AMixIdeal.τ).loc Cert.AMixIdeal.main_arg2) = m ((c.tc : Thread Cert.AMixIdeal.nD Cert.AMixIdeal.τ).loc Cert.AMixIdeal.main_arg2)
      ∧ r.2.mem ((c.tc : Thread Cert.AMixIdeal.nD Cert.AMixIdeal.τ).loc Cert.AMixIdeal.main_arg3) = m ((c.tc : Thread Cert.AMixIdeal.nD Cert.AMixIdeal.τ).loc Cert.AMixIdeal.main_arg3))
      ∧ r.2.sem = fun _ => 0)

def quiescent_AMixRefIdeal [hAMixRefIdeal : Cert.AMixRefIdeal.Facts] : Prop :=
  ∀ (m : (ℓ : Loc Cert.AMixRefIdeal.nD Cert.AMixRefIdeal.τ Cert.AMixRefIdeal.sig) → Buf (Elt Ideal) ℓ) (g : Dev Cert.AMixRefIdeal.nD → PrngReg), Pre_AMixRefIdeal m →
    θ_run (Cert.AMixRefIdeal.defs (F := Ideal)) (onTc (τ := Cert.AMixRefIdeal.τ) (Cert.AMixRefIdeal.main (F := Ideal))) ⟨m, fun _ => 0, g⟩ (fun r => (∀ c : Dev Cert.AMixRefIdeal.nD,
      r.2.mem ((c.tc : Thread Cert.AMixRefIdeal.nD Cert.AMixRefIdeal.τ).loc Cert.AMixRefIdeal.main_arg0) = m ((c.tc : Thread Cert.AMixRefIdeal.nD Cert.AMixRefIdeal.τ).loc Cert.AMixRefIdeal.main_arg0)
      ∧ r.2.mem ((c.tc : Thread Cert.AMixRefIdeal.nD Cert.AMixRefIdeal.τ).loc Cert.AMixRefIdeal.main_arg1) = m ((c.tc : Thread Cert.AMixRefIdeal.nD Cert.AMixRefIdeal.τ).loc Cert.AMixRefIdeal.main_arg1)
      ∧ r.2.mem ((c.tc : Thread Cert.AMixRefIdeal.nD Cert.AMixRefIdeal.τ).loc Cert.AMixRefIdeal.main_arg2) = m ((c.tc : Thread Cert.AMixRefIdeal.nD Cert.AMixRefIdeal.τ).loc Cert.AMixRefIdeal.main_arg2)
      ∧ r.2.mem ((c.tc : Thread Cert.AMixRefIdeal.nD Cert.AMixRefIdeal.τ).loc Cert.AMixRefIdeal.main_arg3) = m ((c.tc : Thread Cert.AMixRefIdeal.nD Cert.AMixRefIdeal.τ).loc Cert.AMixRefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_BMix [hBMix : Cert.BMix.Facts] : Prop :=
  ∀ (m : (ℓ : Loc Cert.BMix.nD Cert.BMix.τ Cert.BMix.sig) → Buf (Elt Bits) ℓ) (g : Dev Cert.BMix.nD → PrngReg), Pre_BMix m →
    θ_run (Cert.BMix.defs (F := Bits)) (onTc (τ := Cert.BMix.τ) (Cert.BMix.main (F := Bits))) ⟨m, fun _ => 0, g⟩ (fun r => (∀ c : Dev Cert.BMix.nD,
      r.2.mem ((c.tc : Thread Cert.BMix.nD Cert.BMix.τ).loc Cert.BMix.main_arg0) = m ((c.tc : Thread Cert.BMix.nD Cert.BMix.τ).loc Cert.BMix.main_arg0)
      ∧ r.2.mem ((c.tc : Thread Cert.BMix.nD Cert.BMix.τ).loc Cert.BMix.main_arg1) = m ((c.tc : Thread Cert.BMix.nD Cert.BMix.τ).loc Cert.BMix.main_arg1)
      ∧ r.2.mem ((c.tc : Thread Cert.BMix.nD Cert.BMix.τ).loc Cert.BMix.main_arg2) = m ((c.tc : Thread Cert.BMix.nD Cert.BMix.τ).loc Cert.BMix.main_arg2)
      ∧ r.2.mem ((c.tc : Thread Cert.BMix.nD Cert.BMix.τ).loc Cert.BMix.main_arg3) = m ((c.tc : Thread Cert.BMix.nD Cert.BMix.τ).loc Cert.BMix.main_arg3)
      ∧ r.2.mem ((c.tc : Thread Cert.BMix.nD Cert.BMix.τ).loc Cert.BMix.main_arg4) = m ((c.tc : Thread Cert.BMix.nD Cert.BMix.τ).loc Cert.BMix.main_arg4))
      ∧ r.2.sem = fun _ => 0)

def quiescent_BMixIdeal [hBMixIdeal : Cert.BMixIdeal.Facts] : Prop :=
  ∀ (m : (ℓ : Loc Cert.BMixIdeal.nD Cert.BMixIdeal.τ Cert.BMixIdeal.sig) → Buf (Elt Ideal) ℓ) (g : Dev Cert.BMixIdeal.nD → PrngReg), Pre_BMixIdeal m →
    θ_run (Cert.BMixIdeal.defs (F := Ideal)) (onTc (τ := Cert.BMixIdeal.τ) (Cert.BMixIdeal.main (F := Ideal))) ⟨m, fun _ => 0, g⟩ (fun r => (∀ c : Dev Cert.BMixIdeal.nD,
      r.2.mem ((c.tc : Thread Cert.BMixIdeal.nD Cert.BMixIdeal.τ).loc Cert.BMixIdeal.main_arg0) = m ((c.tc : Thread Cert.BMixIdeal.nD Cert.BMixIdeal.τ).loc Cert.BMixIdeal.main_arg0)
      ∧ r.2.mem ((c.tc : Thread Cert.BMixIdeal.nD Cert.BMixIdeal.τ).loc Cert.BMixIdeal.main_arg1) = m ((c.tc : Thread Cert.BMixIdeal.nD Cert.BMixIdeal.τ).loc Cert.BMixIdeal.main_arg1)
      ∧ r.2.mem ((c.tc : Thread Cert.BMixIdeal.nD Cert.BMixIdeal.τ).loc Cert.BMixIdeal.main_arg2) = m ((c.tc : Thread Cert.BMixIdeal.nD Cert.BMixIdeal.τ).loc Cert.BMixIdeal.main_arg2)
      ∧ r.2.mem ((c.tc : Thread Cert.BMixIdeal.nD Cert.BMixIdeal.τ).loc Cert.BMixIdeal.main_arg3) = m ((c.tc : Thread Cert.BMixIdeal.nD Cert.BMixIdeal.τ).loc Cert.BMixIdeal.main_arg3)
      ∧ r.2.mem ((c.tc : Thread Cert.BMixIdeal.nD Cert.BMixIdeal.τ).loc Cert.BMixIdeal.main_arg4) = m ((c.tc : Thread Cert.BMixIdeal.nD Cert.BMixIdeal.τ).loc Cert.BMixIdeal.main_arg4))
      ∧ r.2.sem = fun _ => 0)

def quiescent_BMixIdeal_pre_b_finite [hBMixIdeal : Cert.BMixIdeal.Facts] [hPre_b_finite : Cert.Pre_b_finite.Facts] : Prop :=
  ∀ (m : (ℓ : Loc Cert.BMixIdeal.nD Cert.BMixIdeal.τ Cert.BMixIdeal.sig) → Buf (Elt Ideal) ℓ) (g : Dev Cert.BMixIdeal.nD → PrngReg), Pre_BMixIdeal_b_finite m →
    θ_run (Cert.BMixIdeal.defs (F := Ideal)) (onTc (τ := Cert.BMixIdeal.τ) (Cert.BMixIdeal.main (F := Ideal))) ⟨m, fun _ => 0, g⟩ (fun r => (∀ c : Dev Cert.BMixIdeal.nD,
      r.2.mem ((c.tc : Thread Cert.BMixIdeal.nD Cert.BMixIdeal.τ).loc Cert.BMixIdeal.main_arg0) = m ((c.tc : Thread Cert.BMixIdeal.nD Cert.BMixIdeal.τ).loc Cert.BMixIdeal.main_arg0)
      ∧ r.2.mem ((c.tc : Thread Cert.BMixIdeal.nD Cert.BMixIdeal.τ).loc Cert.BMixIdeal.main_arg1) = m ((c.tc : Thread Cert.BMixIdeal.nD Cert.BMixIdeal.τ).loc Cert.BMixIdeal.main_arg1)
      ∧ r.2.mem ((c.tc : Thread Cert.BMixIdeal.nD Cert.BMixIdeal.τ).loc Cert.BMixIdeal.main_arg2) = m ((c.tc : Thread Cert.BMixIdeal.nD Cert.BMixIdeal.τ).loc Cert.BMixIdeal.main_arg2)
      ∧ r.2.mem ((c.tc : Thread Cert.BMixIdeal.nD Cert.BMixIdeal.τ).loc Cert.BMixIdeal.main_arg3) = m ((c.tc : Thread Cert.BMixIdeal.nD Cert.BMixIdeal.τ).loc Cert.BMixIdeal.main_arg3)
      ∧ r.2.mem ((c.tc : Thread Cert.BMixIdeal.nD Cert.BMixIdeal.τ).loc Cert.BMixIdeal.main_arg4) = m ((c.tc : Thread Cert.BMixIdeal.nD Cert.BMixIdeal.τ).loc Cert.BMixIdeal.main_arg4))
      ∧ r.2.sem = fun _ => 0)

def quiescent_BMixRefIdeal [hBMixRefIdeal : Cert.BMixRefIdeal.Facts] : Prop :=
  ∀ (m : (ℓ : Loc Cert.BMixRefIdeal.nD Cert.BMixRefIdeal.τ Cert.BMixRefIdeal.sig) → Buf (Elt Ideal) ℓ) (g : Dev Cert.BMixRefIdeal.nD → PrngReg), Pre_BMixRefIdeal m →
    θ_run (Cert.BMixRefIdeal.defs (F := Ideal)) (onTc (τ := Cert.BMixRefIdeal.τ) (Cert.BMixRefIdeal.main (F := Ideal))) ⟨m, fun _ => 0, g⟩ (fun r => (∀ c : Dev Cert.BMixRefIdeal.nD,
      r.2.mem ((c.tc : Thread Cert.BMixRefIdeal.nD Cert.BMixRefIdeal.τ).loc Cert.BMixRefIdeal.main_arg0) = m ((c.tc : Thread Cert.BMixRefIdeal.nD Cert.BMixRefIdeal.τ).loc Cert.BMixRefIdeal.main_arg0)
      ∧ r.2.mem ((c.tc : Thread Cert.BMixRefIdeal.nD Cert.BMixRefIdeal.τ).loc Cert.BMixRefIdeal.main_arg1) = m ((c.tc : Thread Cert.BMixRefIdeal.nD Cert.BMixRefIdeal.τ).loc Cert.BMixRefIdeal.main_arg1)
      ∧ r.2.mem ((c.tc : Thread Cert.BMixRefIdeal.nD Cert.BMixRefIdeal.τ).loc Cert.BMixRefIdeal.main_arg2) = m ((c.tc : Thread Cert.BMixRefIdeal.nD Cert.BMixRefIdeal.τ).loc Cert.BMixRefIdeal.main_arg2)
      ∧ r.2.mem ((c.tc : Thread Cert.BMixRefIdeal.nD Cert.BMixRefIdeal.τ).loc Cert.BMixRefIdeal.main_arg3) = m ((c.tc : Thread Cert.BMixRefIdeal.nD Cert.BMixRefIdeal.τ).loc Cert.BMixRefIdeal.main_arg3)
      ∧ r.2.mem ((c.tc : Thread Cert.BMixRefIdeal.nD Cert.BMixRefIdeal.τ).loc Cert.BMixRefIdeal.main_arg4) = m ((c.tc : Thread Cert.BMixRefIdeal.nD Cert.BMixRefIdeal.τ).loc Cert.BMixRefIdeal.main_arg4))
      ∧ r.2.sem = fun _ => 0)

def quiescent_BMixRefIdeal_pre_b_finite [hBMixRefIdeal : Cert.BMixRefIdeal.Facts] [hPre_b_finite : Cert.Pre_b_finite.Facts] : Prop :=
  ∀ (m : (ℓ : Loc Cert.BMixRefIdeal.nD Cert.BMixRefIdeal.τ Cert.BMixRefIdeal.sig) → Buf (Elt Ideal) ℓ) (g : Dev Cert.BMixRefIdeal.nD → PrngReg), Pre_BMixRefIdeal_b_finite m →
    θ_run (Cert.BMixRefIdeal.defs (F := Ideal)) (onTc (τ := Cert.BMixRefIdeal.τ) (Cert.BMixRefIdeal.main (F := Ideal))) ⟨m, fun _ => 0, g⟩ (fun r => (∀ c : Dev Cert.BMixRefIdeal.nD,
      r.2.mem ((c.tc : Thread Cert.BMixRefIdeal.nD Cert.BMixRefIdeal.τ).loc Cert.BMixRefIdeal.main_arg0) = m ((c.tc : Thread Cert.BMixRefIdeal.nD Cert.BMixRefIdeal.τ).loc Cert.BMixRefIdeal.main_arg0)
      ∧ r.2.mem ((c.tc : Thread Cert.BMixRefIdeal.nD Cert.BMixRefIdeal.τ).loc Cert.BMixRefIdeal.main_arg1) = m ((c.tc : Thread Cert.BMixRefIdeal.nD Cert.BMixRefIdeal.τ).loc Cert.BMixRefIdeal.main_arg1)
      ∧ r.2.mem ((c.tc : Thread Cert.BMixRefIdeal.nD Cert.BMixRefIdeal.τ).loc Cert.BMixRefIdeal.main_arg2) = m ((c.tc : Thread Cert.BMixRefIdeal.nD Cert.BMixRefIdeal.τ).loc Cert.BMixRefIdeal.main_arg2)
      ∧ r.2.mem ((c.tc : Thread Cert.BMixRefIdeal.nD Cert.BMixRefIdeal.τ).loc Cert.BMixRefIdeal.main_arg3) = m ((c.tc : Thread Cert.BMixRefIdeal.nD Cert.BMixRefIdeal.τ).loc Cert.BMixRefIdeal.main_arg3)
      ∧ r.2.mem ((c.tc : Thread Cert.BMixRefIdeal.nD Cert.BMixRefIdeal.τ).loc Cert.BMixRefIdeal.main_arg4) = m ((c.tc : Thread Cert.BMixRefIdeal.nD Cert.BMixRefIdeal.τ).loc Cert.BMixRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_CMix [hCMix : Cert.CMix.Facts] : Prop :=
  ∀ (m : (ℓ : Loc Cert.CMix.nD Cert.CMix.τ Cert.CMix.sig) → Buf (Elt Bits) ℓ) (g : Dev Cert.CMix.nD → PrngReg), Pre_CMix m →
    θ_run (Cert.CMix.defs (F := Bits)) (onTc (τ := Cert.CMix.τ) (Cert.CMix.main (F := Bits))) ⟨m, fun _ => 0, g⟩ (fun r => (∀ c : Dev Cert.CMix.nD,
      r.2.mem ((c.tc : Thread Cert.CMix.nD Cert.CMix.τ).loc Cert.CMix.main_arg0) = m ((c.tc : Thread Cert.CMix.nD Cert.CMix.τ).loc Cert.CMix.main_arg0)
      ∧ r.2.mem ((c.tc : Thread Cert.CMix.nD Cert.CMix.τ).loc Cert.CMix.main_arg1) = m ((c.tc : Thread Cert.CMix.nD Cert.CMix.τ).loc Cert.CMix.main_arg1)
      ∧ r.2.mem ((c.tc : Thread Cert.CMix.nD Cert.CMix.τ).loc Cert.CMix.main_arg2) = m ((c.tc : Thread Cert.CMix.nD Cert.CMix.τ).loc Cert.CMix.main_arg2)
      ∧ r.2.mem ((c.tc : Thread Cert.CMix.nD Cert.CMix.τ).loc Cert.CMix.main_arg3) = m ((c.tc : Thread Cert.CMix.nD Cert.CMix.τ).loc Cert.CMix.main_arg3)
      ∧ r.2.mem ((c.tc : Thread Cert.CMix.nD Cert.CMix.τ).loc Cert.CMix.main_arg4) = m ((c.tc : Thread Cert.CMix.nD Cert.CMix.τ).loc Cert.CMix.main_arg4)
      ∧ r.2.mem ((c.tc : Thread Cert.CMix.nD Cert.CMix.τ).loc Cert.CMix.main_arg5) = m ((c.tc : Thread Cert.CMix.nD Cert.CMix.τ).loc Cert.CMix.main_arg5)
      ∧ r.2.mem ((c.tc : Thread Cert.CMix.nD Cert.CMix.τ).loc Cert.CMix.main_arg6) = m ((c.tc : Thread Cert.CMix.nD Cert.CMix.τ).loc Cert.CMix.main_arg6))
      ∧ r.2.sem = fun _ => 0)

def quiescent_CMixIdeal [hCMixIdeal : Cert.CMixIdeal.Facts] : Prop :=
  ∀ (m : (ℓ : Loc Cert.CMixIdeal.nD Cert.CMixIdeal.τ Cert.CMixIdeal.sig) → Buf (Elt Ideal) ℓ) (g : Dev Cert.CMixIdeal.nD → PrngReg), Pre_CMixIdeal m →
    θ_run (Cert.CMixIdeal.defs (F := Ideal)) (onTc (τ := Cert.CMixIdeal.τ) (Cert.CMixIdeal.main (F := Ideal))) ⟨m, fun _ => 0, g⟩ (fun r => (∀ c : Dev Cert.CMixIdeal.nD,
      r.2.mem ((c.tc : Thread Cert.CMixIdeal.nD Cert.CMixIdeal.τ).loc Cert.CMixIdeal.main_arg0) = m ((c.tc : Thread Cert.CMixIdeal.nD Cert.CMixIdeal.τ).loc Cert.CMixIdeal.main_arg0)
      ∧ r.2.mem ((c.tc : Thread Cert.CMixIdeal.nD Cert.CMixIdeal.τ).loc Cert.CMixIdeal.main_arg1) = m ((c.tc : Thread Cert.CMixIdeal.nD Cert.CMixIdeal.τ).loc Cert.CMixIdeal.main_arg1)
      ∧ r.2.mem ((c.tc : Thread Cert.CMixIdeal.nD Cert.CMixIdeal.τ).loc Cert.CMixIdeal.main_arg2) = m ((c.tc : Thread Cert.CMixIdeal.nD Cert.CMixIdeal.τ).loc Cert.CMixIdeal.main_arg2)
      ∧ r.2.mem ((c.tc : Thread Cert.CMixIdeal.nD Cert.CMixIdeal.τ).loc Cert.CMixIdeal.main_arg3) = m ((c.tc : Thread Cert.CMixIdeal.nD Cert.CMixIdeal.τ).loc Cert.CMixIdeal.main_arg3)
      ∧ r.2.mem ((c.tc : Thread Cert.CMixIdeal.nD Cert.CMixIdeal.τ).loc Cert.CMixIdeal.main_arg4) = m ((c.tc : Thread Cert.CMixIdeal.nD Cert.CMixIdeal.τ).loc Cert.CMixIdeal.main_arg4)
      ∧ r.2.mem ((c.tc : Thread Cert.CMixIdeal.nD Cert.CMixIdeal.τ).loc Cert.CMixIdeal.main_arg5) = m ((c.tc : Thread Cert.CMixIdeal.nD Cert.CMixIdeal.τ).loc Cert.CMixIdeal.main_arg5)
      ∧ r.2.mem ((c.tc : Thread Cert.CMixIdeal.nD Cert.CMixIdeal.τ).loc Cert.CMixIdeal.main_arg6) = m ((c.tc : Thread Cert.CMixIdeal.nD Cert.CMixIdeal.τ).loc Cert.CMixIdeal.main_arg6))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5)
      ∧ r.2.mem ((c.tc : Thread Cert.Conv.nD Cert.Conv.τ).loc Cert.Conv.main_arg6) = m ((c.tc : Thread Cert.Conv.nD Cert.Conv.τ).loc Cert.Conv.main_arg6)
      ∧ r.2.mem ((c.tc : Thread Cert.Conv.nD Cert.Conv.τ).loc Cert.Conv.main_arg7) = m ((c.tc : Thread Cert.Conv.nD Cert.Conv.τ).loc Cert.Conv.main_arg7))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
      ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5)
      ∧ r.2.mem ((c.tc : Thread Cert.ConvRefIdeal.nD Cert.ConvRefIdeal.τ).loc Cert.ConvRefIdeal.main_arg6) = m ((c.tc : Thread Cert.ConvRefIdeal.nD Cert.ConvRefIdeal.τ).loc Cert.ConvRefIdeal.main_arg6)
      ∧ r.2.mem ((c.tc : Thread Cert.ConvRefIdeal.nD Cert.ConvRefIdeal.τ).loc Cert.ConvRefIdeal.main_arg7) = m ((c.tc : Thread Cert.ConvRefIdeal.nD Cert.ConvRefIdeal.τ).loc Cert.ConvRefIdeal.main_arg7))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolIdeal_pre_p_finite [hPoolIdeal : Cert.PoolIdeal.Facts] [hPre_p_finite : Cert.Pre_p_finite.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_p_finite m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_PoolRefIdeal_pre_p_finite [hPoolRefIdeal : Cert.PoolRefIdeal.Facts] [hPre_p_finite : Cert.Pre_p_finite.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_p_finite m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v51) = v0 c
          ∧ r.2.mem ((c.tc : Thread Cert.LossRefIdeal.nD Cert.LossRefIdeal.τ).loc Cert.LossRefIdeal.main_v50) = v1 c
          ∧ r.2.mem ((c.tc : Thread Cert.LossRefIdeal.nD Cert.LossRefIdeal.τ).loc Cert.LossRefIdeal.main_v52) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_AMix_AMixIdeal : Prop :=
  True

def algebraic_AMixIdeal_AMixRefIdeal [hAMixIdeal : Cert.AMixIdeal.Facts] [hAMixRefIdeal : Cert.AMixRefIdeal.Facts] : Prop :=
  ∀ (m : (ℓ : Loc Cert.AMixIdeal.nD Cert.AMixIdeal.τ Cert.AMixIdeal.sig) → Buf (Elt Ideal) ℓ) (g : Dev Cert.AMixIdeal.nD → PrngReg)
    (m' : (ℓ : Loc Cert.AMixRefIdeal.nD Cert.AMixRefIdeal.τ Cert.AMixRefIdeal.sig) → Buf (Elt Ideal) ℓ) (g' : Dev Cert.AMixRefIdeal.nD → PrngReg), Pre_AMixIdeal m →
    (∀ c : Dev Cert.AMixIdeal.nD,
      m' ((c.tc : Thread Cert.AMixRefIdeal.nD Cert.AMixRefIdeal.τ).loc Cert.AMixRefIdeal.main_arg0) = m ((c.tc : Thread Cert.AMixIdeal.nD Cert.AMixIdeal.τ).loc Cert.AMixIdeal.main_arg0)
      ∧ m' ((c.tc : Thread Cert.AMixRefIdeal.nD Cert.AMixRefIdeal.τ).loc Cert.AMixRefIdeal.main_arg1) = m ((c.tc : Thread Cert.AMixIdeal.nD Cert.AMixIdeal.τ).loc Cert.AMixIdeal.main_arg1)
      ∧ m' ((c.tc : Thread Cert.AMixRefIdeal.nD Cert.AMixRefIdeal.τ).loc Cert.AMixRefIdeal.main_arg2) = m ((c.tc : Thread Cert.AMixIdeal.nD Cert.AMixIdeal.τ).loc Cert.AMixIdeal.main_arg2)
      ∧ m' ((c.tc : Thread Cert.AMixRefIdeal.nD Cert.AMixRefIdeal.τ).loc Cert.AMixRefIdeal.main_arg3) = m ((c.tc : Thread Cert.AMixIdeal.nD Cert.AMixIdeal.τ).loc Cert.AMixIdeal.main_arg3)) →
    ∃ (v0 : (c : Dev Cert.AMixIdeal.nD) → Buf (Elt Ideal) ((c.tc : Thread Cert.AMixIdeal.nD Cert.AMixIdeal.τ).loc Cert.AMixIdeal.main_v9_0)) (v1 : (c : Dev Cert.AMixIdeal.nD) → Buf (Elt Ideal) ((c.tc : Thread Cert.AMixIdeal.nD Cert.AMixIdeal.τ).loc Cert.AMixIdeal.main_v9_1)) (v2 : (c : Dev Cert.AMixIdeal.nD) → Buf (Elt Ideal) ((c.tc : Thread Cert.AMixIdeal.nD Cert.AMixIdeal.τ).loc Cert.AMixIdeal.main_v9_2)),
      θ_run (Cert.AMixIdeal.defs (F := Ideal)) (onTc (τ := Cert.AMixIdeal.τ) (Cert.AMixIdeal.main (F := Ideal))) ⟨m, fun _ => 0, g⟩ (fun r => ∀ c : Dev Cert.AMixIdeal.nD,
          r.2.mem ((c.tc : Thread Cert.AMixIdeal.nD Cert.AMixIdeal.τ).loc Cert.AMixIdeal.main_v9_0) = v0 c
          ∧ r.2.mem ((c.tc : Thread Cert.AMixIdeal.nD Cert.AMixIdeal.τ).loc Cert.AMixIdeal.main_v9_1) = v1 c
          ∧ r.2.mem ((c.tc : Thread Cert.AMixIdeal.nD Cert.AMixIdeal.τ).loc Cert.AMixIdeal.main_v9_2) = v2 c
          ∧ r.2.mem ((c.tc : Thread Cert.AMixIdeal.nD Cert.AMixIdeal.τ).loc Cert.AMixIdeal.main_arg0) = m ((c.tc : Thread Cert.AMixIdeal.nD Cert.AMixIdeal.τ).loc Cert.AMixIdeal.main_arg0)
          ∧ r.2.mem ((c.tc : Thread Cert.AMixIdeal.nD Cert.AMixIdeal.τ).loc Cert.AMixIdeal.main_arg1) = m ((c.tc : Thread Cert.AMixIdeal.nD Cert.AMixIdeal.τ).loc Cert.AMixIdeal.main_arg1)
          ∧ r.2.mem ((c.tc : Thread Cert.AMixIdeal.nD Cert.AMixIdeal.τ).loc Cert.AMixIdeal.main_arg2) = m ((c.tc : Thread Cert.AMixIdeal.nD Cert.AMixIdeal.τ).loc Cert.AMixIdeal.main_arg2)
          ∧ r.2.mem ((c.tc : Thread Cert.AMixIdeal.nD Cert.AMixIdeal.τ).loc Cert.AMixIdeal.main_arg3) = m ((c.tc : Thread Cert.AMixIdeal.nD Cert.AMixIdeal.τ).loc Cert.AMixIdeal.main_arg3))
      ∧ θ_run (Cert.AMixRefIdeal.defs (F := Ideal)) (onTc (τ := Cert.AMixRefIdeal.τ) (Cert.AMixRefIdeal.main (F := Ideal))) ⟨m', fun _ => 0, g'⟩ (fun r => ∀ c : Dev Cert.AMixRefIdeal.nD,
          r.2.mem ((c.tc : Thread Cert.AMixRefIdeal.nD Cert.AMixRefIdeal.τ).loc Cert.AMixRefIdeal.main_v71) = v0 c
          ∧ r.2.mem ((c.tc : Thread Cert.AMixRefIdeal.nD Cert.AMixRefIdeal.τ).loc Cert.AMixRefIdeal.main_v72) = v1 c
          ∧ r.2.mem ((c.tc : Thread Cert.AMixRefIdeal.nD Cert.AMixRefIdeal.τ).loc Cert.AMixRefIdeal.main_v65) = v2 c
          ∧ r.2.mem ((c.tc : Thread Cert.AMixRefIdeal.nD Cert.AMixRefIdeal.τ).loc Cert.AMixRefIdeal.main_arg0) = m' ((c.tc : Thread Cert.AMixRefIdeal.nD Cert.AMixRefIdeal.τ).loc Cert.AMixRefIdeal.main_arg0)
          ∧ r.2.mem ((c.tc : Thread Cert.AMixRefIdeal.nD Cert.AMixRefIdeal.τ).loc Cert.AMixRefIdeal.main_arg1) = m' ((c.tc : Thread Cert.AMixRefIdeal.nD Cert.AMixRefIdeal.τ).loc Cert.AMixRefIdeal.main_arg1)
          ∧ r.2.mem ((c.tc : Thread Cert.AMixRefIdeal.nD Cert.AMixRefIdeal.τ).loc Cert.AMixRefIdeal.main_arg2) = m' ((c.tc : Thread Cert.AMixRefIdeal.nD Cert.AMixRefIdeal.τ).loc Cert.AMixRefIdeal.main_arg2)
          ∧ r.2.mem ((c.tc : Thread Cert.AMixRefIdeal.nD Cert.AMixRefIdeal.τ).loc Cert.AMixRefIdeal.main_arg3) = m' ((c.tc : Thread Cert.AMixRefIdeal.nD Cert.AMixRefIdeal.τ).loc Cert.AMixRefIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v2_0)) (v1 : (c : Dev Cert.InProjIdeal.nD) → Buf (Elt Ideal) ((c.tc : Thread Cert.InProjIdeal.nD Cert.InProjIdeal.τ).loc Cert.InProjIdeal.main_v2_1)) (v2 : (c : Dev Cert.InProjIdeal.nD) → Buf (Elt Ideal) ((c.tc : Thread Cert.InProjIdeal.nD Cert.InProjIdeal.τ).loc Cert.InProjIdeal.main_v2_2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2_0) = v0 c
          ∧ r.2.mem ((c.tc : Thread Cert.InProjIdeal.nD Cert.InProjIdeal.τ).loc Cert.InProjIdeal.main_v2_1) = v1 c
          ∧ r.2.mem ((c.tc : Thread Cert.InProjIdeal.nD Cert.InProjIdeal.τ).loc Cert.InProjIdeal.main_v2_2) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v46) = v0 c
          ∧ r.2.mem ((c.tc : Thread Cert.InProjRefIdeal.nD Cert.InProjRefIdeal.τ).loc Cert.InProjRefIdeal.main_v47) = v1 c
          ∧ r.2.mem ((c.tc : Thread Cert.InProjRefIdeal.nD Cert.InProjRefIdeal.τ).loc Cert.InProjRefIdeal.main_v48) = v2 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v10_0)) (v1 : (c : Dev Cert.FfnIdeal.nD) → Buf (Elt Ideal) ((c.tc : Thread Cert.FfnIdeal.nD Cert.FfnIdeal.τ).loc Cert.FfnIdeal.main_v10_1)) (v2 : (c : Dev Cert.FfnIdeal.nD) → Buf (Elt Ideal) ((c.tc : Thread Cert.FfnIdeal.nD Cert.FfnIdeal.τ).loc Cert.FfnIdeal.main_v10_2)) (v3 : (c : Dev Cert.FfnIdeal.nD) → Buf (Elt Ideal) ((c.tc : Thread Cert.FfnIdeal.nD Cert.FfnIdeal.τ).loc Cert.FfnIdeal.main_v10_3)) (v4 : (c : Dev Cert.FfnIdeal.nD) → Buf (Elt Ideal) ((c.tc : Thread Cert.FfnIdeal.nD Cert.FfnIdeal.τ).loc Cert.FfnIdeal.main_v10_4)) (v5 : (c : Dev Cert.FfnIdeal.nD) → Buf (Elt Ideal) ((c.tc : Thread Cert.FfnIdeal.nD Cert.FfnIdeal.τ).loc Cert.FfnIdeal.main_v8_0)) (v6 : (c : Dev Cert.FfnIdeal.nD) → Buf (Elt Ideal) ((c.tc : Thread Cert.FfnIdeal.nD Cert.FfnIdeal.τ).loc Cert.FfnIdeal.main_v8_1)) (v7 : (c : Dev Cert.FfnIdeal.nD) → Buf (Elt Ideal) ((c.tc : Thread Cert.FfnIdeal.nD Cert.FfnIdeal.τ).loc Cert.FfnIdeal.main_v8_2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v10_0) = v0 c
          ∧ r.2.mem ((c.tc : Thread Cert.FfnIdeal.nD Cert.FfnIdeal.τ).loc Cert.FfnIdeal.main_v10_1) = v1 c
          ∧ r.2.mem ((c.tc : Thread Cert.FfnIdeal.nD Cert.FfnIdeal.τ).loc Cert.FfnIdeal.main_v10_2) = v2 c
          ∧ r.2.mem ((c.tc : Thread Cert.FfnIdeal.nD Cert.FfnIdeal.τ).loc Cert.FfnIdeal.main_v10_3) = v3 c
          ∧ r.2.mem ((c.tc : Thread Cert.FfnIdeal.nD Cert.FfnIdeal.τ).loc Cert.FfnIdeal.main_v10_4) = v4 c
          ∧ r.2.mem ((c.tc : Thread Cert.FfnIdeal.nD Cert.FfnIdeal.τ).loc Cert.FfnIdeal.main_v8_0) = v5 c
          ∧ r.2.mem ((c.tc : Thread Cert.FfnIdeal.nD Cert.FfnIdeal.τ).loc Cert.FfnIdeal.main_v8_1) = v6 c
          ∧ r.2.mem ((c.tc : Thread Cert.FfnIdeal.nD Cert.FfnIdeal.τ).loc Cert.FfnIdeal.main_v8_2) = v7 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v50) = v0 c
          ∧ r.2.mem ((c.tc : Thread Cert.FfnRefIdeal.nD Cert.FfnRefIdeal.τ).loc Cert.FfnRefIdeal.main_v53) = v1 c
          ∧ r.2.mem ((c.tc : Thread Cert.FfnRefIdeal.nD Cert.FfnRefIdeal.τ).loc Cert.FfnRefIdeal.main_v56) = v2 c
          ∧ r.2.mem ((c.tc : Thread Cert.FfnRefIdeal.nD Cert.FfnRefIdeal.τ).loc Cert.FfnRefIdeal.main_v57) = v3 c
          ∧ r.2.mem ((c.tc : Thread Cert.FfnRefIdeal.nD Cert.FfnRefIdeal.τ).loc Cert.FfnRefIdeal.main_v58) = v4 c
          ∧ r.2.mem ((c.tc : Thread Cert.FfnRefIdeal.nD Cert.FfnRefIdeal.τ).loc Cert.FfnRefIdeal.main_v22) = v5 c
          ∧ r.2.mem ((c.tc : Thread Cert.FfnRefIdeal.nD Cert.FfnRefIdeal.τ).loc Cert.FfnRefIdeal.main_v61) = v6 c
          ∧ r.2.mem ((c.tc : Thread Cert.FfnRefIdeal.nD Cert.FfnRefIdeal.τ).loc Cert.FfnRefIdeal.main_v75) = v7 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_BMix_BMixIdeal : Prop :=
  True

def algebraic_BMixIdeal_BMixRefIdeal_pre_b_finite [hBMixIdeal : Cert.BMixIdeal.Facts] [hBMixRefIdeal : Cert.BMixRefIdeal.Facts] [hPre_b_finite : Cert.Pre_b_finite.Facts] : Prop :=
  ∀ (m : (ℓ : Loc Cert.BMixIdeal.nD Cert.BMixIdeal.τ Cert.BMixIdeal.sig) → Buf (Elt Ideal) ℓ) (g : Dev Cert.BMixIdeal.nD → PrngReg)
    (m' : (ℓ : Loc Cert.BMixRefIdeal.nD Cert.BMixRefIdeal.τ Cert.BMixRefIdeal.sig) → Buf (Elt Ideal) ℓ) (g' : Dev Cert.BMixRefIdeal.nD → PrngReg), Pre_BMixIdeal_b_finite m →
    (∀ c : Dev Cert.BMixIdeal.nD,
      m' ((c.tc : Thread Cert.BMixRefIdeal.nD Cert.BMixRefIdeal.τ).loc Cert.BMixRefIdeal.main_arg0) = m ((c.tc : Thread Cert.BMixIdeal.nD Cert.BMixIdeal.τ).loc Cert.BMixIdeal.main_arg0)
      ∧ m' ((c.tc : Thread Cert.BMixRefIdeal.nD Cert.BMixRefIdeal.τ).loc Cert.BMixRefIdeal.main_arg1) = m ((c.tc : Thread Cert.BMixIdeal.nD Cert.BMixIdeal.τ).loc Cert.BMixIdeal.main_arg1)
      ∧ m' ((c.tc : Thread Cert.BMixRefIdeal.nD Cert.BMixRefIdeal.τ).loc Cert.BMixRefIdeal.main_arg2) = m ((c.tc : Thread Cert.BMixIdeal.nD Cert.BMixIdeal.τ).loc Cert.BMixIdeal.main_arg2)
      ∧ m' ((c.tc : Thread Cert.BMixRefIdeal.nD Cert.BMixRefIdeal.τ).loc Cert.BMixRefIdeal.main_arg3) = m ((c.tc : Thread Cert.BMixIdeal.nD Cert.BMixIdeal.τ).loc Cert.BMixIdeal.main_arg3)
      ∧ m' ((c.tc : Thread Cert.BMixRefIdeal.nD Cert.BMixRefIdeal.τ).loc Cert.BMixRefIdeal.main_arg4) = m ((c.tc : Thread Cert.BMixIdeal.nD Cert.BMixIdeal.τ).loc Cert.BMixIdeal.main_arg4)) →
    ∃ (v0 : (c : Dev Cert.BMixIdeal.nD) → Buf (Elt Ideal) ((c.tc : Thread Cert.BMixIdeal.nD Cert.BMixIdeal.τ).loc Cert.BMixIdeal.main_v7_0)) (v1 : (c : Dev Cert.BMixIdeal.nD) → Buf (Elt Ideal) ((c.tc : Thread Cert.BMixIdeal.nD Cert.BMixIdeal.τ).loc Cert.BMixIdeal.main_v7_1)) (v2 : (c : Dev Cert.BMixIdeal.nD) → Buf (Elt Ideal) ((c.tc : Thread Cert.BMixIdeal.nD Cert.BMixIdeal.τ).loc Cert.BMixIdeal.main_v7_2)) (v3 : (c : Dev Cert.BMixIdeal.nD) → Buf (Elt Ideal) ((c.tc : Thread Cert.BMixIdeal.nD Cert.BMixIdeal.τ).loc Cert.BMixIdeal.main_v7_3)),
      θ_run (Cert.BMixIdeal.defs (F := Ideal)) (onTc (τ := Cert.BMixIdeal.τ) (Cert.BMixIdeal.main (F := Ideal))) ⟨m, fun _ => 0, g⟩ (fun r => ∀ c : Dev Cert.BMixIdeal.nD,
          r.2.mem ((c.tc : Thread Cert.BMixIdeal.nD Cert.BMixIdeal.τ).loc Cert.BMixIdeal.main_v7_0) = v0 c
          ∧ r.2.mem ((c.tc : Thread Cert.BMixIdeal.nD Cert.BMixIdeal.τ).loc Cert.BMixIdeal.main_v7_1) = v1 c
          ∧ r.2.mem ((c.tc : Thread Cert.BMixIdeal.nD Cert.BMixIdeal.τ).loc Cert.BMixIdeal.main_v7_2) = v2 c
          ∧ r.2.mem ((c.tc : Thread Cert.BMixIdeal.nD Cert.BMixIdeal.τ).loc Cert.BMixIdeal.main_v7_3) = v3 c
          ∧ r.2.mem ((c.tc : Thread Cert.BMixIdeal.nD Cert.BMixIdeal.τ).loc Cert.BMixIdeal.main_arg0) = m ((c.tc : Thread Cert.BMixIdeal.nD Cert.BMixIdeal.τ).loc Cert.BMixIdeal.main_arg0)
          ∧ r.2.mem ((c.tc : Thread Cert.BMixIdeal.nD Cert.BMixIdeal.τ).loc Cert.BMixIdeal.main_arg1) = m ((c.tc : Thread Cert.BMixIdeal.nD Cert.BMixIdeal.τ).loc Cert.BMixIdeal.main_arg1)
          ∧ r.2.mem ((c.tc : Thread Cert.BMixIdeal.nD Cert.BMixIdeal.τ).loc Cert.BMixIdeal.main_arg2) = m ((c.tc : Thread Cert.BMixIdeal.nD Cert.BMixIdeal.τ).loc Cert.BMixIdeal.main_arg2)
          ∧ r.2.mem ((c.tc : Thread Cert.BMixIdeal.nD Cert.BMixIdeal.τ).loc Cert.BMixIdeal.main_arg3) = m ((c.tc : Thread Cert.BMixIdeal.nD Cert.BMixIdeal.τ).loc Cert.BMixIdeal.main_arg3)
          ∧ r.2.mem ((c.tc : Thread Cert.BMixIdeal.nD Cert.BMixIdeal.τ).loc Cert.BMixIdeal.main_arg4) = m ((c.tc : Thread Cert.BMixIdeal.nD Cert.BMixIdeal.τ).loc Cert.BMixIdeal.main_arg4))
      ∧ θ_run (Cert.BMixRefIdeal.defs (F := Ideal)) (onTc (τ := Cert.BMixRefIdeal.τ) (Cert.BMixRefIdeal.main (F := Ideal))) ⟨m', fun _ => 0, g'⟩ (fun r => ∀ c : Dev Cert.BMixRefIdeal.nD,
          r.2.mem ((c.tc : Thread Cert.BMixRefIdeal.nD Cert.BMixRefIdeal.τ).loc Cert.BMixRefIdeal.main_v176) = v0 c
          ∧ r.2.mem ((c.tc : Thread Cert.BMixRefIdeal.nD Cert.BMixRefIdeal.τ).loc Cert.BMixRefIdeal.main_v177) = v1 c
          ∧ r.2.mem ((c.tc : Thread Cert.BMixRefIdeal.nD Cert.BMixRefIdeal.τ).loc Cert.BMixRefIdeal.main_v104) = v2 c
          ∧ r.2.mem ((c.tc : Thread Cert.BMixRefIdeal.nD Cert.BMixRefIdeal.τ).loc Cert.BMixRefIdeal.main_v178) = v3 c
          ∧ r.2.mem ((c.tc : Thread Cert.BMixRefIdeal.nD Cert.BMixRefIdeal.τ).loc Cert.BMixRefIdeal.main_arg0) = m' ((c.tc : Thread Cert.BMixRefIdeal.nD Cert.BMixRefIdeal.τ).loc Cert.BMixRefIdeal.main_arg0)
          ∧ r.2.mem ((c.tc : Thread Cert.BMixRefIdeal.nD Cert.BMixRefIdeal.τ).loc Cert.BMixRefIdeal.main_arg1) = m' ((c.tc : Thread Cert.BMixRefIdeal.nD Cert.BMixRefIdeal.τ).loc Cert.BMixRefIdeal.main_arg1)
          ∧ r.2.mem ((c.tc : Thread Cert.BMixRefIdeal.nD Cert.BMixRefIdeal.τ).loc Cert.BMixRefIdeal.main_arg2) = m' ((c.tc : Thread Cert.BMixRefIdeal.nD Cert.BMixRefIdeal.τ).loc Cert.BMixRefIdeal.main_arg2)
          ∧ r.2.mem ((c.tc : Thread Cert.BMixRefIdeal.nD Cert.BMixRefIdeal.τ).loc Cert.BMixRefIdeal.main_arg3) = m' ((c.tc : Thread Cert.BMixRefIdeal.nD Cert.BMixRefIdeal.τ).loc Cert.BMixRefIdeal.main_arg3)
          ∧ r.2.mem ((c.tc : Thread Cert.BMixRefIdeal.nD Cert.BMixRefIdeal.τ).loc Cert.BMixRefIdeal.main_arg4) = m' ((c.tc : Thread Cert.BMixRefIdeal.nD Cert.BMixRefIdeal.τ).loc Cert.BMixRefIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v3_0)) (v1 : (c : Dev Cert.ProjIdeal.nD) → Buf (Elt Ideal) ((c.tc : Thread Cert.ProjIdeal.nD Cert.ProjIdeal.τ).loc Cert.ProjIdeal.main_v3_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3_0) = v0 c
          ∧ r.2.mem ((c.tc : Thread Cert.ProjIdeal.nD Cert.ProjIdeal.τ).loc Cert.ProjIdeal.main_v3_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v17) = v0 c
          ∧ r.2.mem ((c.tc : Thread Cert.ProjRefIdeal.nD Cert.ProjRefIdeal.τ).loc Cert.ProjRefIdeal.main_v18) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v9)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v9) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v29) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_CMix_CMixIdeal : Prop :=
  True

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)
      ∧ m' ((c.tc : Thread Cert.ConvRefIdeal.nD Cert.ConvRefIdeal.τ).loc Cert.ConvRefIdeal.main_arg6) = m ((c.tc : Thread Cert.ConvIdeal.nD Cert.ConvIdeal.τ).loc Cert.ConvIdeal.main_arg6)
      ∧ m' ((c.tc : Thread Cert.ConvRefIdeal.nD Cert.ConvRefIdeal.τ).loc Cert.ConvRefIdeal.main_arg7) = m ((c.tc : Thread Cert.ConvIdeal.nD Cert.ConvIdeal.τ).loc Cert.ConvIdeal.main_arg7)) →
    ∃ (v0 : (c : Dev Cert.ConvIdeal.nD) → Buf (Elt Ideal) ((c.tc : Thread Cert.ConvIdeal.nD Cert.ConvIdeal.τ).loc Cert.ConvIdeal.main_v13_0)) (v1 : (c : Dev Cert.ConvIdeal.nD) → Buf (Elt Ideal) ((c.tc : Thread Cert.ConvIdeal.nD Cert.ConvIdeal.τ).loc Cert.ConvIdeal.main_v13_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v13_0) = v0 c
          ∧ r.2.mem ((c.tc : Thread Cert.ConvIdeal.nD Cert.ConvIdeal.τ).loc Cert.ConvIdeal.main_v13_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
          ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
          ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v260) = v0 c
          ∧ r.2.mem ((c.tc : Thread Cert.ConvRefIdeal.nD Cert.ConvRefIdeal.τ).loc Cert.ConvRefIdeal.main_v232) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5)
          ∧ r.2.mem ((c.tc : Thread Cert.ConvRefIdeal.nD Cert.ConvRefIdeal.τ).loc Cert.ConvRefIdeal.main_arg6) = m' ((c.tc : Thread Cert.ConvRefIdeal.nD Cert.ConvRefIdeal.τ).loc Cert.ConvRefIdeal.main_arg6)
          ∧ r.2.mem ((c.tc : Thread Cert.ConvRefIdeal.nD Cert.ConvRefIdeal.τ).loc Cert.ConvRefIdeal.main_arg7) = m' ((c.tc : Thread Cert.ConvRefIdeal.nD Cert.ConvRefIdeal.τ).loc Cert.ConvRefIdeal.main_arg7))

def preserves_Pool_PoolIdeal : Prop :=
  True

def algebraic_PoolIdeal_PoolRefIdeal_pre_p_finite [hPoolIdeal : Cert.PoolIdeal.Facts] [hPoolRefIdeal : Cert.PoolRefIdeal.Facts] [hPre_p_finite : Cert.Pre_p_finite.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_p_finite m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)) →
    ∃ (v0 : (c : Dev Cert.PoolIdeal.nD) → Buf (Elt Ideal) ((c.tc : Thread Cert.PoolIdeal.nD Cert.PoolIdeal.τ).loc Cert.PoolIdeal.main_v7)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v7) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v84) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3))

def Claim : Prop :=
  ∃ (hLoss : Cert.Loss.Facts) (hLossIdeal : Cert.LossIdeal.Facts) (hLossRefIdeal : Cert.LossRefIdeal.Facts) (hAMix : Cert.AMix.Facts) (hAMixIdeal : Cert.AMixIdeal.Facts) (hAMixRefIdeal : Cert.AMixRefIdeal.Facts) (hInProj : Cert.InProj.Facts) (hInProjIdeal : Cert.InProjIdeal.Facts) (hInProjRefIdeal : Cert.InProjRefIdeal.Facts) (hFfn : Cert.Ffn.Facts) (hFfnIdeal : Cert.FfnIdeal.Facts) (hFfnRefIdeal : Cert.FfnRefIdeal.Facts) (hBMix : Cert.BMix.Facts) (hBMixIdeal : Cert.BMixIdeal.Facts) (hBMixRefIdeal : Cert.BMixRefIdeal.Facts) (hProj : Cert.Proj.Facts) (hProjIdeal : Cert.ProjIdeal.Facts) (hProjRefIdeal : Cert.ProjRefIdeal.Facts) (hGate : Cert.Gate.Facts) (hGateIdeal : Cert.GateIdeal.Facts) (hGateRefIdeal : Cert.GateRefIdeal.Facts) (hCMix : Cert.CMix.Facts) (hCMixIdeal : Cert.CMixIdeal.Facts) (hConv : Cert.Conv.Facts) (hConvIdeal : Cert.ConvIdeal.Facts) (hConvRefIdeal : Cert.ConvRefIdeal.Facts) (hPool : Cert.Pool.Facts) (hPoolIdeal : Cert.PoolIdeal.Facts) (hPoolRefIdeal : Cert.PoolRefIdeal.Facts) (hPre_ffn_finite : Cert.Pre_ffn_finite.Facts) (hPre_b_finite : Cert.Pre_b_finite.Facts) (hPre_p_finite : Cert.Pre_p_finite.Facts),
    quiescent_Loss (hLoss := hLoss)
    ∧ quiescent_LossIdeal (hLossIdeal := hLossIdeal)
    ∧ quiescent_LossRefIdeal (hLossRefIdeal := hLossRefIdeal)
    ∧ quiescent_AMix (hAMix := hAMix)
    ∧ quiescent_AMixIdeal (hAMixIdeal := hAMixIdeal)
    ∧ quiescent_AMixRefIdeal (hAMixRefIdeal := hAMixRefIdeal)
    ∧ quiescent_InProj (hInProj := hInProj)
    ∧ quiescent_InProjIdeal (hInProjIdeal := hInProjIdeal)
    ∧ quiescent_InProjRefIdeal (hInProjRefIdeal := hInProjRefIdeal)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_BMix (hBMix := hBMix)
    ∧ quiescent_BMixIdeal (hBMixIdeal := hBMixIdeal)
    ∧ quiescent_BMixIdeal_pre_b_finite (hBMixIdeal := hBMixIdeal) (hPre_b_finite := hPre_b_finite)
    ∧ quiescent_BMixRefIdeal (hBMixRefIdeal := hBMixRefIdeal)
    ∧ quiescent_BMixRefIdeal_pre_b_finite (hBMixRefIdeal := hBMixRefIdeal) (hPre_b_finite := hPre_b_finite)
    ∧ quiescent_Proj (hProj := hProj)
    ∧ quiescent_ProjIdeal (hProjIdeal := hProjIdeal)
    ∧ quiescent_ProjRefIdeal (hProjRefIdeal := hProjRefIdeal)
    ∧ quiescent_Gate (hGate := hGate)
    ∧ quiescent_GateIdeal (hGateIdeal := hGateIdeal)
    ∧ quiescent_GateRefIdeal (hGateRefIdeal := hGateRefIdeal)
    ∧ quiescent_CMix (hCMix := hCMix)
    ∧ quiescent_CMixIdeal (hCMixIdeal := hCMixIdeal)
    ∧ quiescent_Conv (hConv := hConv)
    ∧ quiescent_ConvIdeal (hConvIdeal := hConvIdeal)
    ∧ quiescent_ConvRefIdeal (hConvRefIdeal := hConvRefIdeal)
    ∧ quiescent_Pool (hPool := hPool)
    ∧ quiescent_PoolIdeal (hPoolIdeal := hPoolIdeal)
    ∧ quiescent_PoolIdeal_pre_p_finite (hPoolIdeal := hPoolIdeal) (hPre_p_finite := hPre_p_finite)
    ∧ quiescent_PoolRefIdeal (hPoolRefIdeal := hPoolRefIdeal)
    ∧ quiescent_PoolRefIdeal_pre_p_finite (hPoolRefIdeal := hPoolRefIdeal) (hPre_p_finite := hPre_p_finite)
    ∧ preserves_Loss_LossIdeal
    ∧ algebraic_LossIdeal_LossRefIdeal (hLossIdeal := hLossIdeal) (hLossRefIdeal := hLossRefIdeal)
    ∧ preserves_AMix_AMixIdeal
    ∧ algebraic_AMixIdeal_AMixRefIdeal (hAMixIdeal := hAMixIdeal) (hAMixRefIdeal := hAMixRefIdeal)
    ∧ preserves_InProj_InProjIdeal
    ∧ algebraic_InProjIdeal_InProjRefIdeal (hInProjIdeal := hInProjIdeal) (hInProjRefIdeal := hInProjRefIdeal)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_BMix_BMixIdeal
    ∧ algebraic_BMixIdeal_BMixRefIdeal_pre_b_finite (hBMixIdeal := hBMixIdeal) (hBMixRefIdeal := hBMixRefIdeal) (hPre_b_finite := hPre_b_finite)
    ∧ preserves_Proj_ProjIdeal
    ∧ algebraic_ProjIdeal_ProjRefIdeal (hProjIdeal := hProjIdeal) (hProjRefIdeal := hProjRefIdeal)
    ∧ preserves_Gate_GateIdeal
    ∧ algebraic_GateIdeal_GateRefIdeal (hGateIdeal := hGateIdeal) (hGateRefIdeal := hGateRefIdeal)
    ∧ preserves_CMix_CMixIdeal
    ∧ preserves_Conv_ConvIdeal
    ∧ algebraic_ConvIdeal_ConvRefIdeal (hConvIdeal := hConvIdeal) (hConvRefIdeal := hConvRefIdeal)
    ∧ preserves_Pool_PoolIdeal
    ∧ algebraic_PoolIdeal_PoolRefIdeal_pre_p_finite (hPoolIdeal := hPoolIdeal) (hPoolRefIdeal := hPoolRefIdeal) (hPre_p_finite := hPre_p_finite)
-- ==== Pre_b_finite.lean ====
abbrev S4096x1024 : Shape := ⟨2, ![4096, 1024]⟩
abbrev S1024 : Shape := ⟨1, ![1024]⟩
abbrev S4x256x256 : Shape := ⟨3, ![4, 256, 256]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S4x256x256 : S_.BroadcastsInDim S4x256x256 (![] : Fin 0 → Fin S4x256x256.rank)
  reducesTo_S4x256x256_S_d0_1_2 : S4x256x256.ReducesTo [0, 1, 2] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4096x1024 .f32) (main_arg1 : FVec F S4096x1024 .f32) (main_arg2 : FVec F S1024 .f32) (main_arg3 : FVec F S4x256x256 .f32) (main_arg4 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S4x256x256 .f32 := Host.absf main_arg3
  let main_cst_2 : FVec F S_ .f32 := constant S_ .f32 0x7F800000#32
  let main_v10 : FVec F S4x256x256 .f32 := broadcastInDim S4x256x256 ![] bcast_S_S4x256x256 main_cst_2
  let main_v11 : IVec S4x256x256 1 := cmpf .olt main_v9 main_v10
  let main_c_3 : IVec S_ 1 := constantI S_ 1 1#1
  let main_v12 : IVec S_ 1 := (fun x v => Host.reduce IntOp.andi x v reducesTo_S4x256x256_S_d0_1_2 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Pre_ffn_finite.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  main_v18

def fn {F : FTy → Type} [FloatOps F] (main_arg0 : FVec F S4096x1024 .f32) (main_arg1 : FVec F S4096x1024 .f32) (main_arg2 : FVec F S1024 .f32) (main_arg3 : FVec F S1024x5632 .f32) (main_arg4 : FVec F S2816x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x5632 .f32 := Host.absf main_arg3
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S2816x1024 .f32 := Host.absf main_arg4
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_v13 main_v16
-- ==== Pre_p_finite.lean ====
abbrev S4096x1024 : Shape := ⟨2, ![4096, 1024]⟩
abbrev S1024 : Shape := ⟨1, ![1024]⟩
abbrev S4x256x256 : Shape := ⟨3, ![4, 256, 256]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S4096x1024 .f32) (main_arg1 : FVec F S1024 .f32) (main_arg2 : FVec F S4x256x256 .f32) (main_arg3 : FVec F S1024 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  main_v3
-- ==== Loss.lean ====
abbrev S4096x1024 : Shape := ⟨2, ![4096, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S1x128, .f32⟩
  | .hbm, ⟨5, _⟩ => ⟨S4096x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S1x128, .f32⟩
  | .hbm, ⟨72, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== AMix.lean ====
abbrev S4096x1024 : Shape := ⟨2, ![4096, 1024]⟩
abbrev S4096x3072 : Shape := ⟨2, ![4096, 3072]⟩
abbrev S3x1024 : Shape := ⟨2, ![3, 1024]⟩
abbrev S1024x1024 : Shape := ⟨2, ![1024, 1024]⟩
abbrev S3x8x128 : Shape := ⟨3, ![3, 8, 128]⟩
abbrev S8x3x128 : Shape := ⟨3, ![8, 3, 128]⟩
abbrev S8x128x1024 : Shape := ⟨3, ![8, 128, 1024]⟩
abbrev S512x1024 : Shape := ⟨2, ![512, 1024]⟩
abbrev S32x1024 : Shape := ⟨2, ![32, 1024]⟩
abbrev S512x3072 : Shape := ⟨2, ![512, 3072]⟩
abbrev S32x3072 : Shape := ⟨2, ![32, 3072]⟩
abbrev S544x1024 : Shape := ⟨2, ![544, 1024]⟩
abbrev S1x1024 : Shape := ⟨2, ![1, 1024]⟩
abbrev S1024 : Shape := ⟨1, ![1024]⟩

abbrev nBuf : Space → Nat
  | .hbm => 16
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x3072, .bf16⟩
  | .hbm, ⟨2, _⟩ => ⟨S3x1024, .f32⟩
  | .hbm, ⟨3, _⟩ => ⟨S1024x1024, .f32⟩
  | .hbm, ⟨4, _⟩ => ⟨S3x1024, .bf16⟩
  | .hbm, ⟨5, _⟩ => ⟨S3x8x128, .bf16⟩
  | .hbm, ⟨6, _⟩ => ⟨S8x3x128, .bf16⟩
  | .hbm, ⟨7, _⟩ => ⟨S3x8x128, .bf16⟩
  | .hbm, ⟨8, _⟩ => ⟨S3x1024, .bf16⟩
  | .hbm, ⟨9, _⟩ => ⟨S3x1024, .f32⟩
  | .hbm, ⟨10, _⟩ => ⟨S1024x1024, .bf16⟩
  | .hbm, ⟨11, _⟩ => ⟨S8x128x1024, .bf16⟩
  | .hbm, ⟨12, _⟩ => ⟨S1024x1024, .bf16⟩
  | .hbm, ⟨13, _⟩ => ⟨S4096x3072, .bf16⟩
  | .hbm, ⟨14, _⟩ => ⟨S1024x1024, .bf16⟩
  | .hbm, ⟨15, _⟩ => ⟨S3x1024, .f32⟩
  | .local _ .vmem, ⟨0, _⟩ => ⟨S512x1024, .f32⟩
  | .local _ .vmem, ⟨1, _⟩ => ⟨S512x1024, .f32⟩
  | .local _ .vmem, ⟨2, _⟩ => ⟨S32x1024, .f32⟩
  | .local _ .vmem, ⟨3, _⟩ => ⟨S32x1024, .f32⟩
  | .local _ .vmem, ⟨4, _⟩ => ⟨S512x3072, .bf16⟩
  | .local _ .vmem, ⟨5, _⟩ => ⟨S512x3072, .bf16⟩
  | .local _ .vmem, ⟨6, _⟩ => ⟨S32x3072, .bf16⟩
  | .local _ .vmem, ⟨7, _⟩ => ⟨S32x3072, .bf16⟩
  | .local _ .vmem, ⟨8, _⟩ => ⟨S32x3072, .bf16⟩
  | .local _ .vmem, ⟨9, _⟩ => ⟨S32x3072, .bf16⟩
  | .local _ .vmem, ⟨10, _⟩ => ⟨S3x1024, .f32⟩
  | .local _ .vmem, ⟨11, _⟩ => ⟨S1024x1024, .bf16⟩
  | .local _ .vmem, ⟨12, _⟩ => ⟨S512x3072, .bf16⟩
  | .local _ .vmem, ⟨13, _⟩ => ⟨S512x3072, .bf16⟩
  | .local _ .vmem, ⟨14, _⟩ => ⟨S1024x1024, .bf16⟩
  | .local _ .vmem, ⟨15, _⟩ => ⟨S3x1024, .f32⟩
  | .local _ .vmem, ⟨16, _⟩ => ⟨S544x1024, .f32⟩
  | .local _ .vmem, ⟨17, _⟩ => ⟨S544x1024, .f32⟩
  | .local _ .vmem, ⟨18, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v9_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v0 : BitVec 1 := Scalar.cmpi .eq arg0 c7_i32
  let v126 : BitVec 32 := Scalar.extui v0
  let c0_i32_82 : BitVec 32 := 0#32
  let v127 : BitVec 1 := Scalar.cmpi .ne v126 c0_i32_82
  v127

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== AMixRefIdeal.lean ====
abbrev S4096x1024 : Shape := ⟨2, ![4096, 1024]⟩
abbrev S4096x3072 : Shape := ⟨2, ![4096, 3072]⟩
abbrev S3x1024 : Shape := ⟨2, ![3, 1024]⟩
abbrev S1024x1024 : Shape := ⟨2, ![1024, 1024]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩
abbrev S1024 : Shape := ⟨1, ![1024]⟩

abbrev nBuf : Space → Nat
  | .hbm => 91
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3072, .bf16⟩
  | .hbm, ⟨2, _⟩ => ⟨S3x1024, .f32⟩
  | .hbm, ⟨3, _⟩ => ⟨S1024x1024, .f32⟩
  | .hbm, ⟨4, _⟩ => ⟨S4096x3072, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S2x1024, .f32⟩
  | .hbm, ⟨10, _⟩ => ⟨S4096x1024, .f32⟩
  | .hbm, ⟨11, _⟩ => ⟨S4098x1024, .f32⟩
  | .hbm, ⟨12, _⟩ => ⟨S_, .f32⟩
  | .hbm, ⟨13, _⟩ => ⟨S2x1024, .f32⟩
  | .hbm, ⟨14, _⟩ => ⟨S1x1024, .f32⟩
  | .hbm, ⟨15, _⟩ => ⟨S1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S1024x1024, .f32⟩
  | .hbm, ⟨37, _⟩ => ⟨S1024x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S_, .f32⟩
  | .hbm, ⟨48, _⟩ => ⟨S1024, .f32⟩
  | .hbm, ⟨49, _⟩ => ⟨S_, .f32⟩
  | .hbm, ⟨50, _⟩ => ⟨S4098x1024, .f32⟩
  | .hbm, ⟨51, _⟩ => ⟨S1x1024, .f32⟩
  | .hbm, ⟨52, _⟩ => ⟨S_, .f32⟩
  | .hbm, ⟨53, _⟩ => ⟨S3x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S_, .f32⟩
  | .hbm, ⟨61, _⟩ => ⟨S1024, .f32⟩
  | .hbm, ⟨62, _⟩ => ⟨S_, .f32⟩
  | .hbm, ⟨63, _⟩ => ⟨S4098x1024, .f32⟩
  | .hbm, ⟨64, _⟩ => ⟨S4098x1024, .f32⟩
  | .hbm, ⟨65, _⟩ => ⟨S1x1024, .f32⟩
  | .hbm, ⟨66, _⟩ => ⟨S_, .f32⟩
  | .hbm, ⟨67, _⟩ => ⟨S3x1024, .f32⟩
  | .hbm, ⟨68, _⟩ => ⟨S3x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S_, .f32⟩
  | .hbm, ⟨76, _⟩ => ⟨S1024, .f32⟩
  | .hbm, ⟨77, _⟩ => ⟨S_, .f32⟩
  | .hbm, ⟨78, _⟩ => ⟨S4098x1024, .f32⟩
  | .hbm, ⟨79, _⟩ => ⟨S4098x1024, .f32⟩
  | .hbm, ⟨80, _⟩ => ⟨S1x1024, .f32⟩
  | .hbm, ⟨81, _⟩ => ⟨S_, .f32⟩
  | .hbm, ⟨82, _⟩ => ⟨S3x1024, .f32⟩
  | .hbm, ⟨83, _⟩ => ⟨S3x1024, .f32⟩
  | .hbm, ⟨84, _⟩ => ⟨S2x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x3072, .f32⟩
  | .hbm, ⟨89, _⟩ => ⟨S4096x3072, .bf16⟩
  | .hbm, ⟨90, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_1 : Ref sig .tc := ⟨.hbm, 44, rfl⟩
abbrev main_v38 : Ref sig .tc := ⟨.hbm, 45, rfl⟩
abbrev main_v39 : Ref sig .tc := ⟨.hbm, 46, rfl⟩
abbrev main_cst_2 : Ref sig .tc := ⟨.hbm, 47, rfl⟩
abbrev main_v40 : Ref sig .tc := ⟨.hbm, 48, rfl⟩
abbrev main_cst_3 : Ref sig .tc := ⟨.hbm, 49, rfl⟩
abbrev main_v41 : Ref sig .tc := ⟨.hbm, 50, rfl⟩
abbrev main_v42 : Ref sig .tc := ⟨.hbm, 51, rfl⟩
abbrev main_cst_4 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_5 : Ref sig .tc := ⟨.hbm, 57, rfl⟩
abbrev main_v47 : Ref sig .tc := ⟨.hbm, 58, rfl⟩
abbrev main_v48 : Ref sig .tc := ⟨.hbm, 59, rfl⟩
abbrev main_cst_6 : Ref sig .tc := ⟨.hbm, 60, rfl⟩
abbrev main_v49 : Ref sig .tc := ⟨.hbm, 61, rfl⟩
abbrev main_cst_7 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_8 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_9 : Ref sig .tc := ⟨.hbm, 72, rfl⟩
abbrev main_v58 : Ref sig .tc := ⟨.hbm, 73, rfl⟩
abbrev main_v59 : Ref sig .tc := ⟨.hbm, 74, rfl⟩
abbrev main_cst_10 : Ref sig .tc := ⟨.hbm, 75, rfl⟩
abbrev main_v60 : Ref sig .tc := ⟨.hbm, 76, rfl⟩
abbrev main_cst_11 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_12 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩

abbrev nD : Nat := 1
abbrev τ : Topo := Topo.v7x

variable {F : FTy → Type} [FloatOps F]
-- ==== InProj.lean ====
abbrev S4096x2048 : Shape := ⟨2, ![4096, 2048]⟩
abbrev S1024x2048 : Shape := ⟨2, ![1024, 2048]⟩
abbrev S4096x1024 : Shape := ⟨2, ![4096, 1024]⟩
abbrev S1024 : Shape := ⟨1, ![1024]⟩
abbrev S1x1024 : Shape := ⟨2, ![1, 1024]⟩
abbrev S1x2048 : Shape := ⟨2, ![1, 2048]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S2048 : Shape := ⟨1, ![2048]⟩

abbrev nBuf : Space → Nat
  | .hbm => 10
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1024x2048, .bf16⟩
  | .hbm, ⟨6, _⟩ => ⟨S1x1024, .f32⟩
  | .hbm, ⟨7, _⟩ => ⟨S4096x1024, .f32⟩
  | .hbm, ⟨8, _⟩ => ⟨S1x1024, .f32⟩
  | .hbm, ⟨9, _⟩ => ⟨S1x2048, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== InProjRefIdeal.lean ====
abbrev S4096x2048 : Shape := ⟨2, ![4096, 2048]⟩
abbrev S1024x2048 : Shape := ⟨2, ![1024, 2048]⟩
abbrev S4096x1024 : Shape := ⟨2, ![4096, 1024]⟩
abbrev S1024 : Shape := ⟨1, ![1024]⟩
abbrev S_ : Shape := ⟨0, ![]⟩
abbrev S2048 : Shape := ⟨1, ![2048]⟩
abbrev S4096 : Shape := ⟨1, ![4096]⟩
abbrev S4096x1 : Shape := ⟨2, ![4096, 1]⟩
abbrev S1x1024 : Shape := ⟨2, ![1, 1024]⟩
abbrev S1x2048 : Shape := ⟨2, ![1, 2048]⟩

abbrev nBuf : Space → Nat
  | .hbm => 66
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S2048, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S2048, .f32⟩
  | .hbm, ⟨34, _⟩ => ⟨S1x2048, .f32⟩
  | .hbm, ⟨35, _⟩ => ⟨S_, .f32⟩
  | .hbm, ⟨36, _⟩ => ⟨S2048, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S1024, .f32⟩
  | .hbm, ⟨46, _⟩ => ⟨S4096x1024, .f32⟩
  | .hbm, ⟨47, _⟩ => ⟨S_, .f32⟩
  | .hbm, ⟨48, _⟩ => ⟨S4096, .f32⟩
  | .hbm, ⟨49, _⟩ => ⟨S4096x1, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S_, .f32⟩
  | .hbm, ⟨58, _⟩ => ⟨S4096, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S1x1024, .f32⟩
  | .hbm, ⟨65, _⟩ => ⟨S1x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_cst_10 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== Ffn.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S5632x1024 : Shape := ⟨2, ![5632, 1024]⟩
abbrev S8x704x1024 : Shape := ⟨3, ![8, 704, 1024]⟩
abbrev S2x4x704x1024 : Shape := ⟨4, ![2, 4, 704, 1024]⟩
abbrev S8x352x1024 : Shape := ⟨3, ![8, 352, 1024]⟩
abbrev S4x704x1024 : Shape := ⟨3, ![4, 704, 1024]⟩
abbrev S1x1024 : Shape := ⟨2, ![1, 1024]⟩
abbrev S2x4x4096x704 : Shape := ⟨4, ![2, 4, 4096, 704]⟩
abbrev S1024x1024 : Shape := ⟨2, ![1024, 1024]⟩
abbrev S2x1x704x1024 : Shape := ⟨4, ![2, 1, 704, 1024]⟩
abbrev S1x704x1024 : Shape := ⟨3, ![1, 704, 1024]⟩
abbrev S2x1x1024x704 : Shape := ⟨4, ![2, 1, 1024, 704]⟩
abbrev S1024x1 : Shape := ⟨2, ![1024, 1]⟩
abbrev S1x1x704x1024 : Shape := ⟨4, ![1, 1, 704, 1024]⟩
abbrev S704x1024 : Shape := ⟨2, ![704, 1024]⟩
abbrev S1024x704 : Shape := ⟨2, ![1024, 704]⟩
abbrev S1x1x1024x704 : Shape := ⟨4, ![1, 1, 1024, 704]⟩
abbrev S4x4096x704 : Shape := ⟨3, ![4, 4096, 704]⟩
abbrev S512x1024 : Shape := ⟨2, ![512, 1024]⟩
abbrev S2x1x512x704 : Shape := ⟨4, ![2, 1, 512, 704]⟩
abbrev S1x512x704 : Shape := ⟨3, ![1, 512, 704]⟩
abbrev S512x704 : Shape := ⟨2, ![512, 704]⟩
abbrev S1x1x512x704 : Shape := ⟨4, ![1, 1, 512, 704]⟩
abbrev S512x512 : Shape := ⟨2, ![512, 512]⟩
abbrev S1x1x704x512 : Shape := ⟨4, ![1, 1, 704, 512]⟩
abbrev S704x512 : Shape := ⟨2, ![704, 512]⟩
abbrev S512 : Shape := ⟨1, ![512]⟩
abbrev S512x1 : Shape := ⟨2, ![512, 1]⟩

abbrev nBuf : Space → Nat
  | .hbm => 22
  | .vmem => 35
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S5632x1024, .f32⟩
  | .hbm, ⟨6, _⟩ => ⟨S5632x1024, .bf16⟩
  | .hbm, ⟨7, _⟩ => ⟨S8x704x1024, .bf16⟩
  | .hbm, ⟨8, _⟩ => ⟨S2x4x704x1024, .bf16⟩
  | .hbm, ⟨9, _⟩ => ⟨S2816x1024, .bf16⟩
  | .hbm, ⟨10, _⟩ => ⟨S8x352x1024, .bf16⟩
  | .hbm, ⟨11, _⟩ => ⟨S4x704x1024, .bf16⟩
  | .hbm, ⟨12, _⟩ => ⟨S1x1024, .f32⟩
  | .hbm, ⟨13, _⟩ => ⟨S4096x1024, .f32⟩
  | .hbm, ⟨14, _⟩ => ⟨S2x4x4096x704, .bf16⟩
  | .hbm, ⟨15, _⟩ => ⟨S4096x1024, .bf16⟩
  | .hbm, ⟨16, _⟩ => ⟨S1x1024, .f32⟩
  | .hbm, ⟨17, _⟩ => ⟨S4096x1024, .f32⟩
  | .hbm, ⟨18, _⟩ => ⟨S2x4x4096x704, .bf16⟩
  | .hbm, ⟨19, _⟩ => ⟨S4x4096x704, .bf16⟩
  | .hbm, ⟨20, _⟩ => ⟨S1x1024, .f32⟩
  | .hbm, ⟨21, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S2x1x704x1024, .bf16⟩
  | .local _ .vmem, ⟨4, _⟩ => ⟨S2x1x704x1024, .bf16⟩
  | .local _ .vmem, ⟨5, _⟩ => ⟨S1x704x1024, .bf16⟩
  | .local _ .vmem, ⟨6, _⟩ => ⟨S1x704x1024, .bf16⟩
  | .local _ .vmem, ⟨7, _⟩ => ⟨S1024x1024, .f32⟩
  | .local _ .vmem, ⟨8, _⟩ => ⟨S1024x1024, .f32⟩
  | .local _ .vmem, ⟨9, _⟩ => ⟨S2x1x1024x704, .bf16⟩
  | .local _ .vmem, ⟨10, _⟩ => ⟨S2x1x1024x704, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S2x1x512x704, .bf16⟩
  | .local _ .vmem, ⟨20, _⟩ => ⟨S2x1x512x704, .bf16⟩
  | .local _ .vmem, ⟨21, _⟩ => ⟨S2x1x704x1024, .bf16⟩
  | .local _ .vmem, ⟨22, _⟩ => ⟨S2x1x704x1024, .bf16⟩
  | .local _ .vmem, ⟨23, _⟩ => ⟨S1x704x1024, .bf16⟩
  | .local _ .vmem, ⟨24, _⟩ => ⟨S1x704x1024, .bf16⟩
  | .local _ .vmem, ⟨25, _⟩ => ⟨S512x1024, .f32⟩
  | .local _ .vmem, ⟨26, _⟩ => ⟨S512x1024, .f32⟩
  | .local _ .vmem, ⟨27, _⟩ => ⟨S2x1x512x704, .bf16⟩
  | .local _ .vmem, ⟨28, _⟩ => ⟨S2x1x512x704, .bf16⟩
  | .local _ .vmem, ⟨29, _⟩ => ⟨S1x512x704, .bf16⟩
  | .local _ .vmem, ⟨30, _⟩ => ⟨S1x512x704, .bf16⟩
  | .local _ .vmem, ⟨31, _⟩ => ⟨S1x1024, .f32⟩
  | .local _ .vmem, ⟨32, _⟩ => ⟨S512x1024, .bf16⟩
  | .local _ .vmem, ⟨33, _⟩ => ⟨S512x1024, .bf16⟩
  | .local _ .vmem, ⟨34, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev main_v10_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg7_0 : Ref sig .tc := ⟨.vmem, 27, rfl⟩
abbrev cc1_stg7_1 : Ref sig .tc := ⟨.vmem, 28, rfl⟩
abbrev cc1_stg8_0 : Ref sig .tc := ⟨.vmem, 29, rfl⟩
abbrev cc1_stg8_1 : Ref sig .tc := ⟨.vmem, 30, rfl⟩
abbrev cc1_stg9_0 : Ref sig .tc := ⟨.vmem, 31, rfl⟩
abbrev cc1_stg10_0 : Ref sig .tc := ⟨.vmem, 32, rfl⟩
abbrev cc1_stg10_1 : Ref sig .tc := ⟨.vmem, 33, rfl⟩
abbrev cc1_scratch0 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem10_0 : DmaSem sig := 31
abbrev cc1_sem10_1 : DmaSem sig := 32

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v31 : BitVec 1 := Scalar.cmpi .eq arg1 c3_i32
  let v32 : BitVec 32 := Scalar.extui v31
  let c0_i32_26 : BitVec 32 := 0#32
  let v33 : BitVec 1 := Scalar.cmpi .ne v32 c0_i32_26
  v33

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![8, 4], ![false, false]⟩

def k1_cond3 (i : grid1.Coords) : BitVec 1 :=
  let arg1 : BitVec 32 := BitVec.ofNat 32 (i 1).val
  let c3_i32 : BitVec 32 := 3#32
  let v67 : BitVec 1 := Scalar.cmpi .eq arg1 c3_i32
  let v68 : BitVec 32 := Scalar.extui v67
  let c0_i32_55 : BitVec 32 := 0#32
  let v69 : BitVec 1 := Scalar.cmpi .ne v68 c0_i32_55
  v69

def k1_cond2 (i : grid1.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2x1x512x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S2x1x704x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x704x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S2x1x512x704 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x512x704 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 2 → Memref sig .tc .vmem S512x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]
-- ==== FfnRefIdeal.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S4096x2x4x704 : Shape := ⟨4, ![4096, 2, 4, 704]⟩
abbrev S2x4x4096x704 : Shape := ⟨4, ![2, 4, 4096, 704]⟩
abbrev S4096x4x704 : Shape := ⟨3, ![4096, 4, 704]⟩
abbrev S4x4096x704 : Shape := ⟨3, ![4, 4096, 704]⟩

abbrev nBuf : Space → Nat
  | .hbm => 108
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x5632, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x5632, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S1024, .f32⟩
  | .hbm, ⟨62, _⟩ => ⟨S4096x1024, .f32⟩
  | .hbm, ⟨63, _⟩ => ⟨S_, .f32⟩
  | .hbm, ⟨64, _⟩ => ⟨S4096, .f32⟩
  | .hbm, ⟨65, _⟩ => ⟨S4096x1, .f32⟩
  | .hbm, ⟨66, _⟩ => ⟨S4096x1024, .f32⟩
  | .hbm, ⟨67, _⟩ => ⟨S4096x1024, .f32⟩
  | .hbm, ⟨68, _⟩ => ⟨S4096x1, .f32⟩
  | .hbm, ⟨69, _⟩ => ⟨S_, .f32⟩
  | .hbm, ⟨70, _⟩ => ⟨S4096x1, .f32⟩
  | .hbm, ⟨71, _⟩ => ⟨S4096x1, .f32⟩
  | .hbm, ⟨72, _⟩ => ⟨S_, .f32⟩
  | .hbm, ⟨73, _⟩ => ⟨S4096, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x2x4x704, .f32⟩
  | .hbm, ⟨81, _⟩ => ⟨S2x4x4096x704, .f32⟩
  | .hbm, ⟨82, _⟩ => ⟨S2x4x4096x704, .bf16⟩
  | .hbm, ⟨83, _⟩ => ⟨S4096x4x704, .f32⟩
  | .hbm, ⟨84, _⟩ => ⟨S4x4096x704, .f32⟩
  | .hbm, ⟨85, _⟩ => ⟨S4x4096x704, .bf16⟩
  | .hbm, ⟨86, _⟩ => ⟨S1x1024, .f32⟩
  | .hbm, ⟨87, _⟩ => ⟨S4096x1024, .bf16⟩
  | .hbm, ⟨88, _⟩ => ⟨S4096x2x4x704, .f32⟩
  | .hbm, ⟨89, _⟩ => ⟨S2x4x4096x704, .f32⟩
  | .hbm, ⟨90, _⟩ => ⟨S2x4x4096x704, .bf16⟩
  | .hbm, ⟨91, _⟩ => ⟨S4096x1024, .f32⟩
  | .hbm, ⟨92, _⟩ => ⟨S_, .f32⟩
  | .hbm, ⟨93, _⟩ => ⟨S4096, .f32⟩
  | .hbm, ⟨94, _⟩ => ⟨S4096x1, .f32⟩
  | .hbm, ⟨95, _⟩ => ⟨S_, .f32⟩
  | .hbm, ⟨96, _⟩ => ⟨S4096x1, .f32⟩
  | .hbm, ⟨97, _⟩ => ⟨S4096x1, .f32⟩
  | .hbm, ⟨98, _⟩ => ⟨S_, .f32⟩
  | .hbm, ⟨99, _⟩ => ⟨S4096x1, .f32⟩
  | .hbm, ⟨100, _⟩ => ⟨S4096x1, .f32⟩
  | .hbm, ⟨101, _⟩ => ⟨S4096x1, .f32⟩
  | .hbm, ⟨102, _⟩ => ⟨S4096x1024, .f32⟩
  | .hbm, ⟨103, _⟩ => ⟨S4096x1024, .f32⟩
  | .hbm, ⟨104, _⟩ => ⟨S1x1024, .f32⟩
  | .hbm, ⟨105, _⟩ => ⟨S4096x1024, .f32⟩
  | .hbm, ⟨106, _⟩ => ⟨S4096x1024, .f32⟩
  | .hbm, ⟨107, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v19_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v19_1 : Ref sig .tc := ⟨.hbm, 39, rfl⟩
abbrev main_v19_0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_3 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_4 : Ref sig .tc := ⟨.hbm, 60, rfl⟩
abbrev main_v35 : Ref sig .tc := ⟨.hbm, 61, rfl⟩
abbrev main_v36 : Ref sig .tc := ⟨.hbm, 62, rfl⟩
abbrev main_cst_5 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_6 : Ref sig .tc := ⟨.hbm, 69, rfl⟩
abbrev main_v42 : Ref sig .tc := ⟨.hbm, 70, rfl⟩
abbrev main_v43 : Ref sig .tc := ⟨.hbm, 71, rfl⟩
abbrev main_cst_7 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_8 : Ref sig .tc := ⟨.hbm, 92, rfl⟩
abbrev main_v63 : Ref sig .tc := ⟨.hbm, 93, rfl⟩
abbrev main_v64 : Ref sig .tc := ⟨.hbm, 94, rfl⟩
abbrev main_cst_9 : Ref sig .tc := ⟨.hbm, 95, rfl⟩
abbrev main_v65 : Ref sig .tc := ⟨.hbm, 96, rfl⟩
abbrev main_v66 : Ref sig .tc := ⟨.hbm, 97, rfl⟩
abbrev main_cst_10 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩

abbrev nD : Nat := 1
abbrev τ : Topo := Topo.v7x

variable {F : FTy → Type} [FloatOps F]
-- ==== BMix.lean ====
abbrev S4096x1024 : Shape := ⟨2, ![4096, 1024]⟩
abbrev S1024 : Shape := ⟨1, ![1024]⟩
abbrev S4x256x256 : Shape := ⟨3, ![4, 256, 256]⟩
abbrev S4x8x32x256 : Shape := ⟨4, ![4, 8, 32, 256]⟩
abbrev S8x4x32x256 : Shape := ⟨4, ![8, 4, 32, 256]⟩
abbrev S1x1024 : Shape := ⟨2, ![1, 1024]⟩
abbrev S512x1024 : Shape := ⟨2, ![512, 1024]⟩
abbrev S32x1024 : Shape := ⟨2, ![32, 1024]⟩
abbrev S544x1024 : Shape := ⟨2, ![544, 1024]⟩
abbrev S32 : Shape := ⟨1, ![32]⟩
abbrev S32x1 : Shape := ⟨2, ![32, 1]⟩
abbrev S512 : Shape := ⟨1, ![512]⟩
abbrev S512x1 : Shape := ⟨2, ![512, 1]⟩
abbrev S512x256 : Shape := ⟨2, ![512, 256]⟩
abbrev S1x256 : Shape := ⟨2, ![1, 256]⟩
abbrev S1x256x256 : Shape := ⟨3, ![1, 256, 256]⟩
abbrev S256x256 : Shape := ⟨2, ![256, 256]⟩
abbrev S256 : Shape := ⟨1, ![256]⟩
abbrev S32x256 : Shape := ⟨2, ![32, 256]⟩

abbrev nBuf : Space → Nat
  | .hbm => 16
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4x256x256, .f32⟩
  | .hbm, ⟨4, _⟩ => ⟨S1024, .f32⟩
  | .hbm, ⟨5, _⟩ => ⟨S4x256x256, .bf16⟩
  | .hbm, ⟨6, _⟩ => ⟨S4x8x32x256, .bf16⟩
  | .hbm, ⟨7, _⟩ => ⟨S8x4x32x256, .bf16⟩
  | .hbm, ⟨8, _⟩ => ⟨S4x8x32x256, .bf16⟩
  | .hbm, ⟨9, _⟩ => ⟨S4x256x256, .bf16⟩
  | .hbm, ⟨10, _⟩ => ⟨S1x1024, .f32⟩
  | .hbm, ⟨11, _⟩ => ⟨S1x1024, .f32⟩
  | .hbm, ⟨12, _⟩ => ⟨S4096x1024, .f32⟩
  | .hbm, ⟨13, _⟩ => ⟨S1x1024, .f32⟩
  | .hbm, ⟨14, _⟩ => ⟨S4x256x256, .f32⟩
  | .hbm, ⟨15, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S32x1024, .f32⟩
  | .local _ .vmem, ⟨3, _⟩ => ⟨S32x1024, .f32⟩
  | .local _ .vmem, ⟨4, _⟩ => ⟨S512x1024, .f32⟩
  | .local _ .vmem, ⟨5, _⟩ => ⟨S512x1024, .f32⟩
  | .local _ .vmem, ⟨6, _⟩ => ⟨S32x1024, .f32⟩
  | .local _ .vmem, ⟨7, _⟩ => ⟨S32x1024, .f32⟩
  | .local _ .vmem, ⟨8, _⟩ => ⟨S1x1024, .f32⟩
  | .local _ .vmem, ⟨9, _⟩ => ⟨S4x256x256, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S4x256x256, .f32⟩
  | .local _ .vmem, ⟨15, _⟩ => ⟨S1x1024, .f32⟩
  | .local _ .vmem, ⟨16, _⟩ => ⟨S544x1024, .f32⟩
  | .local _ .vmem, ⟨17, _⟩ => ⟨S544x1024, .f32⟩
  | .local _ .vmem, ⟨18, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== BMixRefIdeal.lean ====
abbrev S4096x1024 : Shape := ⟨2, ![4096, 1024]⟩
abbrev S1024 : Shape := ⟨1, ![1024]⟩
abbrev S4x256x256 : Shape := ⟨3, ![4, 256, 256]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4x256 : Shape := ⟨3, ![4096, 4, 256]⟩
abbrev S4096x1x256 : Shape := ⟨3, ![4096, 1, 256]⟩
abbrev S4096x256 : Shape := ⟨2, ![4096, 256]⟩
abbrev S2x256 : Shape := ⟨2, ![2, 256]⟩
abbrev S4098x256 : Shape := ⟨2, ![4098, 256]⟩
abbrev S4x256 : Shape := ⟨2, ![4, 256]⟩
abbrev S4100x256 : Shape := ⟨2, ![4100, 256]⟩
abbrev S8x256 : Shape := ⟨2, ![8, 256]⟩
abbrev S4104x256 : Shape := ⟨2, ![4104, 256]⟩
abbrev S16x256 : Shape := ⟨2, ![16, 256]⟩
abbrev S4112x256 : Shape := ⟨2, ![4112, 256]⟩
abbrev S4x256x4096 : Shape := ⟨3, ![4, 256, 4096]⟩
abbrev S4x4096x256 : Shape := ⟨3, ![4, 4096, 256]⟩

abbrev nBuf : Space → Nat
  | .hbm => 223
  | .vmem => 0
  | .smem => 0
  | _ => 0

abbrev hbmTy0_0 (i : Nat) : BufTy := match i % 128 with
  | 0 => ⟨S4096x1024, .f32⟩
  | 1 => ⟨S4096x1024, .f32⟩
  | 2 => ⟨S1024, .f32⟩
  | 3 => ⟨S4x256x256, .f32⟩
  | 4 => ⟨S1024, .f32⟩
  | 5 => ⟨S4096x1024, .f32⟩
  | 6 => ⟨S_, .f32⟩
  | 7 => ⟨S4096, .f32⟩
  | 8 => ⟨S4096x1, .f32⟩
  | 9 => ⟨S_, .f32⟩
  | 10 => ⟨S4096x1, .f32⟩
  | 11 => ⟨S4096x1, .f32⟩
  | 12 => ⟨S_, .f32⟩
  | 13 => ⟨S4096x1, .f32⟩
  | 14 => ⟨S4096x1, .f32⟩
  | 15 => ⟨S4096x1, .f32⟩
  | 16 => ⟨S4096x1, .f32⟩
  | 17 => ⟨S_, .f32⟩
  | 18 => ⟨S4096x1, .f32⟩
  | 19 => ⟨S4096x1, .f32⟩
  | 20 => ⟨S4096x1024, .f32⟩
  | 21 => ⟨S4096x1024, .f32⟩
  | 22 => ⟨S1x1024, .f32⟩
  | 23 => ⟨S4096x1024, .f32⟩
  | 24 => ⟨S4096x1024, .f32⟩
  | 25 => ⟨S4096x4x256, .f32⟩
  | 26 => ⟨S_, .f32⟩
  | 27 => ⟨S_, .f32⟩
  | 28 => ⟨S4096x4x256, .f32⟩
  | 29 => ⟨S4096, .i32⟩
  | 30 => ⟨S4096x1x256, .f32⟩
  | 31 => ⟨S4096x256, .f32⟩
  | 32 => ⟨S_, .f32⟩
  | 33 => ⟨S2x256, .f32⟩
  | 34 => ⟨S4098x256, .f32⟩
  | 35 => ⟨S_, .f32⟩
  | 36 => ⟨S2x256, .f32⟩
  | 37 => ⟨S4096x256, .f32⟩
  | 38 => ⟨S_, .i32⟩
  | 39 => ⟨S4096, .i32⟩
  | 40 => ⟨S4096, .i32⟩
  | 41 => ⟨S_, .i32⟩
  | 42 => ⟨S4096, .i32⟩
  | 43 => ⟨S4096, .i32⟩
  | 44 => ⟨S4096, .f32⟩
  | 45 => ⟨S4096x1, .f32⟩
  | 46 => ⟨S4096x256, .f32⟩
  | 47 => ⟨S4096x256, .f32⟩
  | 48 => ⟨S4096x256, .f32⟩
  | 49 => ⟨S4096x1x256, .f32⟩
  | 50 => ⟨S4096x256, .f32⟩
  | 51 => ⟨S_, .f32⟩
  | 52 => ⟨S4x256, .f32⟩
  | 53 => ⟨S4100x256, .f32⟩
  | 54 => ⟨S_, .f32⟩
  | 55 => ⟨S4x256, .f32⟩
  | 56 => ⟨S4096x256, .f32⟩
  | 57 => ⟨S_, .i32⟩
  | 58 => ⟨S4096, .i32⟩
  | 59 => ⟨S4096, .i32⟩
  | 60 => ⟨S_, .i32⟩
  | 61 => ⟨S4096, .i32⟩
  | 62 => ⟨S4096, .i32⟩
  | 63 => ⟨S4096, .f32⟩
  | 64 => ⟨S4096x1, .f32⟩
  | 65 => ⟨S4096x256, .f32⟩
  | 66 => ⟨S4096x256, .f32⟩
  | 67 => ⟨S4096x256, .f32⟩
  | 68 => ⟨S4096x1x256, .f32⟩
  | 69 => ⟨S4096x256, .f32⟩
  | 70 => ⟨S_, .f32⟩
  | 71 => ⟨S8x256, .f32⟩
  | 72 => ⟨S4104x256, .f32⟩
  | 73 => ⟨S_, .f32⟩
  | 74 => ⟨S8x256, .f32⟩
  | 75 => ⟨S4096x256, .f32⟩
  | 76 => ⟨S_, .i32⟩
  | 77 => ⟨S4096, .i32⟩
  | 78 => ⟨S4096, .i32⟩
  | 79 => ⟨S_, .i32⟩
  | 80 => ⟨S4096, .i32⟩
  | 81 => ⟨S4096, .i32⟩
  | 82 => ⟨S4096, .f32⟩
  | 83 => ⟨S4096x1, .f32⟩
  | 84 => ⟨S4096x256, .f32⟩
  | 85 => ⟨S4096x256, .f32⟩
  | 86 => ⟨S4096x256, .f32⟩
  | 87 => ⟨S4096x1x256, .f32⟩
  | 88 => ⟨S4096x256, .f32⟩
  | 89 => ⟨S_, .f32⟩
  | 90 => ⟨S16x256, .f32⟩
  | 91 => ⟨S4112x256, .f32⟩
  | 92 => ⟨S_, .f32⟩
  | 93 => ⟨S16x256, .f32⟩
  | 94 => ⟨S4096x256, .f32⟩
  | 95 => ⟨S_, .i32⟩
  | 96 => ⟨S4096, .i32⟩
  | 97 => ⟨S4096, .i32⟩
  | 98 => ⟨S_, .i32⟩
  | 99 => ⟨S4096, .i32⟩
  | 100 => ⟨S4096, .i32⟩
  | 101 => ⟨S4096, .f32⟩
  | 102 => ⟨S4096x1, .f32⟩
  | 103 => ⟨S4096x256, .f32⟩
  | 104 => ⟨S4096x256, .f32⟩
  | 105 => ⟨S4096x256, .f32⟩
  | 106 => ⟨S4096x1x256, .f32⟩
  | 107 => ⟨S4096x1x256, .f32⟩
  | 108 => ⟨S4096x1x256, .f32⟩
  | 109 => ⟨S4096x1x256, .f32⟩
  | 110 => ⟨S4096x4x256, .f32⟩
  | 111 => ⟨S4096x4x256, .f32⟩
  | 112 => ⟨S4x256x4096, .f32⟩
  | 113 => ⟨S4096x4x256, .f32⟩
  | 114 => ⟨S4096x1024, .f32⟩
  | 115 => ⟨S1x1024, .f32⟩
  | 116 => ⟨S4096x1024, .f32⟩
  | 117 => ⟨S4096x1024, .f32⟩
  | 118 => ⟨S4096x1024, .f32⟩
  | 119 => ⟨S4096x1024, .f32⟩
  | 120 => ⟨S4096x1024, .f32⟩
  | 121 => ⟨S_, .f32⟩
  | 122 => ⟨S1024, .f32⟩
  | 123 => ⟨S1x1024, .f32⟩
  | 124 => ⟨S4096x1024, .f32⟩
  | 125 => ⟨S4096x1024, .f32⟩
  | 126 => ⟨S_, .f32⟩
  | 127 => ⟨S1024, .f32⟩
  | _ => ⟨S4096x1024, .f32⟩

abbrev hbmTy0_1 (i : Nat) : BufTy := match i % 128 with
  | 0 => ⟨S4096x4x256, .f32⟩
  | 1 => ⟨S4x256x4096, .f32⟩
  | 2 => ⟨S4x4096x256, .f32⟩
  | 3 => ⟨S4096x4x256, .f32⟩
  | 4 => ⟨S4x256x256, .f32⟩
  | 5 => ⟨S4x256x256, .f32⟩
  | 6 => ⟨S4096x4x256, .f32⟩
  | 7 => ⟨S4096x1x256, .f32⟩
  | 8 => ⟨S4096x256, .f32⟩
  | 9 => ⟨S4096x1x256, .f32⟩
  | 10 => ⟨S4096x256, .f32⟩
  | 11 => ⟨S4096x1x256, .f32⟩
  | 12 => ⟨S4096x256, .f32⟩
  | 13 => ⟨S4096x1x256, .f32⟩
  | 14 => ⟨S4096x256, .f32⟩
  | 15 => ⟨S4096x256, .f32⟩
  | 16 => ⟨S4096x256, .f32⟩
  | 17 => ⟨S4096x256, .f32⟩
  | 18 => ⟨S_, .f32⟩
  | 19 => ⟨S4112x256, .f32⟩
  | 20 => ⟨S16x256, .f32⟩
  | 21 => ⟨S4096x256, .f32⟩
  | 22 => ⟨S4096x256, .f32⟩
  | 23 => ⟨S4096x1x256, .f32⟩
  | 24 => ⟨S_, .f32⟩
  | 25 => ⟨S4096x4x256, .f32⟩
  | 26 => ⟨S4096x256, .f32⟩
  | 27 => ⟨S4096x256, .f32⟩
  | 28 => ⟨S4096x256, .f32⟩
  | 29 => ⟨S_, .f32⟩
  | 30 => ⟨S4104x256, .f32⟩
  | 31 => ⟨S8x256, .f32⟩
  | 32 => ⟨S4096x256, .f32⟩
  | 33 => ⟨S4096x256, .f32⟩
  | 34 => ⟨S4096x1x256, .f32⟩
  | 35 => ⟨S_, .f32⟩
  | 36 => ⟨S4096x4x256, .f32⟩
  | 37 => ⟨S4096x4x256, .f32⟩
  | 38 => ⟨S4096x256, .f32⟩
  | 39 => ⟨S4096x256, .f32⟩
  | 40 => ⟨S4096x256, .f32⟩
  | 41 => ⟨S_, .f32⟩
  | 42 => ⟨S4100x256, .f32⟩
  | 43 => ⟨S4x256, .f32⟩
  | 44 => ⟨S4096x256, .f32⟩
  | 45 => ⟨S4096x256, .f32⟩
  | 46 => ⟨S4096x1x256, .f32⟩
  | 47 => ⟨S_, .f32⟩
  | 48 => ⟨S4096x4x256, .f32⟩
  | 49 => ⟨S4096x4x256, .f32⟩
  | 50 => ⟨S4096x256, .f32⟩
  | 51 => ⟨S4096x256, .f32⟩
  | 52 => ⟨S4096x256, .f32⟩
  | 53 => ⟨S_, .f32⟩
  | 54 => ⟨S4098x256, .f32⟩
  | 55 => ⟨S2x256, .f32⟩
  | 56 => ⟨S4096x256, .f32⟩
  | 57 => ⟨S4096x256, .f32⟩
  | 58 => ⟨S4096x1x256, .f32⟩
  | 59 => ⟨S_, .f32⟩
  | 60 => ⟨S4096x4x256, .f32⟩
  | 61 => ⟨S4096x4x256, .f32⟩
  | 62 => ⟨S_, .f32⟩
  | 63 => ⟨S_, .f32⟩
  | 64 => ⟨S4096x4x256, .f32⟩
  | 65 => ⟨S4096x4x256, .f32⟩
  | 66 => ⟨S4096x1024, .f32⟩
  | 67 => ⟨S4096x1024, .f32⟩
  | 68 => ⟨S_, .f32⟩
  | 69 => ⟨S1024, .f32⟩
  | 70 => ⟨S1x1024, .f32⟩
  | 71 => ⟨S4096x1024, .f32⟩
  | 72 => ⟨S4096x1024, .f32⟩
  | 73 => ⟨S_, .f32⟩
  | 74 => ⟨S1024, .f32⟩
  | 75 => ⟨S4096x1024, .f32⟩
  | 76 => ⟨S_, .f32⟩
  | 77 => ⟨S4096, .f32⟩
  | 78 => ⟨S4096x1, .f32⟩
  | 79 => ⟨S4096x1024, .f32⟩
  | 80 => ⟨S4096x1024, .f32⟩
  | 81 => ⟨S4096x1024, .f32⟩
  | 82 => ⟨S4096x1, .f32⟩
  | 83 => ⟨S_, .f32⟩
  | 84 => ⟨S4096x1, .f32⟩
  | 85 => ⟨S4096x1, .f32⟩
  | 86 => ⟨S_, .f32⟩
  | 87 => ⟨S4096, .f32⟩
  | 88 => ⟨S4096x1024, .f32⟩
  | 89 => ⟨S4096x1024, .f32⟩
  | 90 => ⟨S4096x1024, .f32⟩
  | 91 => ⟨S4096x1024, .f32⟩
  | 92 => ⟨S4096x1024, .f32⟩
  | 93 => ⟨S1x1024, .f32⟩
  | 94 => ⟨S1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_call0_cst : Ref sig .tc := ⟨.hbm, 26, rfl⟩
abbrev main_call0_call0_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_c : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_c_8 : Ref sig .tc := ⟨.hbm, 57, rfl⟩
abbrev main_v40 : Ref sig .tc := ⟨.hbm, 58, rfl⟩
abbrev main_v41 : Ref sig .tc := ⟨.hbm, 59, rfl⟩
abbrev main_c_9 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_10 : Ref sig .tc := ⟨.hbm, 70, rfl⟩
abbrev main_v51 : Ref sig .tc := ⟨.hbm, 71, rfl⟩
abbrev main_v52 : Ref sig .tc := ⟨.hbm, 72, rfl⟩
abbrev main_cst_11 : Ref sig .tc := ⟨.hbm, 73, rfl⟩
abbrev main_v53 : Ref sig .tc := ⟨.hbm, 74, rfl⟩
abbrev main_v54 : Ref sig .tc := ⟨.hbm, 75, rfl⟩
abbrev main_c_12 : Ref sig .tc := ⟨.hbm, 76, rfl⟩
abbrev main_v55 : Ref sig .tc := ⟨.hbm, 77, rfl⟩
abbrev main_v56 : Ref sig .tc := ⟨.hbm, 78, rfl⟩
abbrev main_c_13 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_14 : Ref sig .tc := ⟨.hbm, 89, rfl⟩
abbrev main_v66 : Ref sig .tc := ⟨.hbm, 90, rfl⟩
abbrev main_v67 : Ref sig .tc := ⟨.hbm, 91, rfl⟩
abbrev main_cst_15 : Ref sig .tc := ⟨.hbm, 92, rfl⟩
abbrev main_v68 : Ref sig .tc := ⟨.hbm, 93, rfl⟩
abbrev main_v69 : Ref sig .tc := ⟨.hbm, 94, rfl⟩
abbrev main_c_16 : Ref sig .tc := ⟨.hbm, 95, rfl⟩
abbrev main_v70 : Ref sig .tc := ⟨.hbm, 96, rfl⟩
abbrev main_v71 : Ref sig .tc := ⟨.hbm, 97, rfl⟩
abbrev main_c_17 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_cst_18 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_cst_19 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_cst_20 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_cst_21 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_cst_22 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_cst_23 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_cst_24 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_cst_25 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_cst_26 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_cst_27 : Ref sig .tc := ⟨.hbm, 187, rfl⟩
abbrev main_v151 : Ref sig .tc := ⟨.hbm, 188, rfl⟩
abbrev main_v152 : Ref sig .tc := ⟨.hbm, 189, rfl⟩
abbrev main_call1_call0_cst : Ref sig .tc := ⟨.hbm, 190, rfl⟩
abbrev main_call1_call0_v0 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_cst_28 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_cst_29 : Ref sig .tc := ⟨.hbm, 201, rfl⟩
abbrev main_v161 : Ref sig .tc := ⟨.hbm, 202, rfl⟩
abbrev main_v162 : Ref sig .tc := ⟨.hbm, 203, rfl⟩
abbrev main_cst_30 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_cst_31 : Ref sig .tc := ⟨.hbm, 211, rfl⟩
abbrev main_v169 : Ref sig .tc := ⟨.hbm, 212, rfl⟩
abbrev main_v170 : Ref sig .tc := ⟨.hbm, 213, rfl⟩
abbrev main_cst_32 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩

abbrev nD : Nat := 1
abbrev τ : Topo := Topo.v7x

variable {F : FTy → Type} [FloatOps F]
-- ==== Proj.lean ====
abbrev S4096x1024 : Shape := ⟨2, ![4096, 1024]⟩
abbrev S1024 : Shape := ⟨1, ![1024]⟩
abbrev S1024x2048 : Shape := ⟨2, ![1024, 2048]⟩
abbrev S2048 : Shape := ⟨1, ![2048]⟩
abbrev S1x1024 : Shape := ⟨2, ![1, 1024]⟩
abbrev S1x2048 : Shape := ⟨2, ![1, 2048]⟩
abbrev S4096x2048 : Shape := ⟨2, ![4096, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S2048, .f32⟩
  | .hbm, ⟨4, _⟩ => ⟨S1x1024, .f32⟩
  | .hbm, ⟨5, _⟩ => ⟨S1024x2048, .bf16⟩
  | .hbm, ⟨6, _⟩ => ⟨S1x2048, .f32⟩
  | .hbm, ⟨7, _⟩ => ⟨S4096x2048, .bf16⟩
  | .hbm, ⟨8, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | .local _ .vmem, ⟨7, _⟩ => ⟨S512x1024, .bf16⟩
  | .local _ .vmem, ⟨8, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ProjRefIdeal.lean ====
abbrev S4096x1024 : Shape := ⟨2, ![4096, 1024]⟩
abbrev S1024 : Shape := ⟨1, ![1024]⟩
abbrev S1024x2048 : Shape := ⟨2, ![1024, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2048 : Shape := ⟨2, ![4096, 2048]⟩
abbrev S1x2048 : Shape := ⟨2, ![1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S2048, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .bf16⟩
  | .hbm, ⟨25, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Gate.lean ====
abbrev S4096x3072 : Shape := ⟨2, ![4096, 3072]⟩
abbrev S4096x1024 : Shape := ⟨2, ![4096, 1024]⟩
abbrev S3x1024 : Shape := ⟨2, ![3, 1024]⟩
abbrev S1024x1024 : Shape := ⟨2, ![1024, 1024]⟩
abbrev S3x8x128 : Shape := ⟨3, ![3, 8, 128]⟩
abbrev S8x3x128 : Shape := ⟨3, ![8, 3, 128]⟩
abbrev S8x128x1024 : Shape := ⟨3, ![8, 128, 1024]⟩
abbrev S512x3072 : Shape := ⟨2, ![512, 3072]⟩
abbrev S32x3072 : Shape := ⟨2, ![32, 3072]⟩
abbrev S512x1024 : Shape := ⟨2, ![512, 1024]⟩
abbrev S544x1024 : Shape := ⟨2, ![544, 1024]⟩
abbrev S32x1024 : Shape := ⟨2, ![32, 1024]⟩
abbrev S1x1024 : Shape := ⟨2, ![1, 1024]⟩

abbrev nBuf : Space → Nat
  | .hbm => 14
  | .vmem => 11
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .f32⟩
  | .hbm, ⟨2, _⟩ => ⟨S3x1024, .f32⟩
  | .hbm, ⟨3, _⟩ => ⟨S1024x1024, .f32⟩
  | .hbm, ⟨4, _⟩ => ⟨S3x1024, .bf16⟩
  | .hbm, ⟨5, _⟩ => ⟨S3x8x128, .bf16⟩
  | .hbm, ⟨6, _⟩ => ⟨S8x3x128, .bf16⟩
  | .hbm, ⟨7, _⟩ => ⟨S3x8x128, .bf16⟩
  | .hbm, ⟨8, _⟩ => ⟨S3x1024, .bf16⟩
  | .hbm, ⟨9, _⟩ => ⟨S3x1024, .f32⟩
  | .hbm, ⟨10, _⟩ => ⟨S1024x1024, .bf16⟩
  | .hbm, ⟨11, _⟩ => ⟨S8x128x1024, .bf16⟩
  | .hbm, ⟨12, _⟩ => ⟨S1024x1024, .bf16⟩
  | .hbm, ⟨13, _⟩ => ⟨S4096x1024, .f32⟩
  | .local _ .vmem, ⟨0, _⟩ => ⟨S512x3072, .bf16⟩
  | .local _ .vmem, ⟨1, _⟩ => ⟨S512x3072, .bf16⟩
  | .local _ .vmem, ⟨2, _⟩ => ⟨S32x3072, .bf16⟩
  | .local _ .vmem, ⟨3, _⟩ => ⟨S32x3072, .bf16⟩
  | .local _ .vmem, ⟨4, _⟩ => ⟨S512x1024, .f32⟩
  | .local _ .vmem, ⟨5, _⟩ => ⟨S512x1024, .f32⟩
  | .local _ .vmem, ⟨6, _⟩ => ⟨S3x1024, .f32⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | .local _ .vmem, ⟨10, _⟩ => ⟨S544x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GateRefIdeal.lean ====
abbrev S4096x3072 : Shape := ⟨2, ![4096, 3072]⟩
abbrev S4096x1024 : Shape := ⟨2, ![4096, 1024]⟩
abbrev S3x1024 : Shape := ⟨2, ![3, 1024]⟩
abbrev S1024x1024 : Shape := ⟨2, ![1024, 1024]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩
abbrev S1024 : Shape := ⟨1, ![1024]⟩

abbrev nBuf : Space → Nat
  | .hbm => 35
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .f32⟩
  | .hbm, ⟨2, _⟩ => ⟨S3x1024, .f32⟩
  | .hbm, ⟨3, _⟩ => ⟨S1024x1024, .f32⟩
  | .hbm, ⟨4, _⟩ => ⟨S4096x3072, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S2x1024, .f32⟩
  | .hbm, ⟨10, _⟩ => ⟨S4096x1024, .f32⟩
  | .hbm, ⟨11, _⟩ => ⟨S4098x1024, .f32⟩
  | .hbm, ⟨12, _⟩ => ⟨S1x1024, .f32⟩
  | .hbm, ⟨13, _⟩ => ⟨S1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩

abbrev nD : Nat := 1
abbrev τ : Topo := Topo.v7x

variable {F : FTy → Type} [FloatOps F]
-- ==== CMix.lean ====
abbrev S4096x1024 : Shape := ⟨2, ![4096, 1024]⟩
abbrev S4096x2048 : Shape := ⟨2, ![4096, 2048]⟩
abbrev S31x1024 : Shape := ⟨2, ![31, 1024]⟩
abbrev S1x1024 : Shape := ⟨2, ![1, 1024]⟩
abbrev S1024x1024 : Shape := ⟨2, ![1024, 1024]⟩
abbrev S256x1024 : Shape := ⟨2, ![256, 1024]⟩
abbrev S32x1024 : Shape := ⟨2, ![32, 1024]⟩
abbrev S256x2048 : Shape := ⟨2, ![256, 2048]⟩
abbrev S32x2048 : Shape := ⟨2, ![32, 2048]⟩
abbrev S288x1024 : Shape := ⟨2, ![288, 1024]⟩
abbrev S7x280x1024 : Shape := ⟨3, ![7, 280, 1024]⟩
abbrev S256 : Shape := ⟨1, ![256]⟩
abbrev S256x1 : Shape := ⟨2, ![256, 1]⟩
abbrev S1024 : Shape := ⟨1, ![1024]⟩
abbrev S32 : Shape := ⟨1, ![32]⟩
abbrev S32x1 : Shape := ⟨2, ![32, 1]⟩
abbrev S280x1024 : Shape := ⟨2, ![280, 1024]⟩
abbrev S1x280x1024 : Shape := ⟨3, ![1, 280, 1024]⟩
abbrev S64x128 : Shape := ⟨2, ![64, 128]⟩
abbrev S1x128 : Shape := ⟨2, ![1, 128]⟩
abbrev S8x128 : Shape := ⟨2, ![8, 128]⟩
abbrev S8x8x128 : Shape := ⟨3, ![8, 8, 128]⟩
abbrev S128 : Shape := ⟨1, ![128]⟩

abbrev nBuf : Space → Nat
  | .hbm => 14
  | .vmem => 29
  | .smem => 0
  | _ => 0

abbrev bufTy : (tb : Table) → Fin (tcTables nBuf tb) → BufTy
  | .hbm, ⟨0, _⟩ => ⟨S4096x1024, .f32⟩
  | .hbm, ⟨1, _⟩ => ⟨S4096x2048, .bf16⟩
  | .hbm, ⟨2, _⟩ => ⟨S4096x1024, .f32⟩
  | .hbm, ⟨3, _⟩ => ⟨S31x1024, .f32⟩
  | .hbm, ⟨4, _⟩ => ⟨S1x1024, .f32⟩
  | .hbm, ⟨5, _⟩ => ⟨S1x1024, .f32⟩
  | .hbm, ⟨6, _⟩ => ⟨S1024x1024, .bf16⟩
  | .hbm, ⟨7, _⟩ => ⟨S4096x2048, .bf16⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S31x1024, .f32⟩
  | .local _ .vmem, ⟨0, _⟩ => ⟨S256x1024, .f32⟩
  | .local _ .vmem, ⟨1, _⟩ => ⟨S256x1024, .f32⟩
  | .local _ .vmem, ⟨2, _⟩ => ⟨S32x1024, .f32⟩
  | .local _ .vmem, ⟨3, _⟩ => ⟨S32x1024, .f32⟩
  | .local _ .vmem, ⟨4, _⟩ => ⟨S256x2048, .bf16⟩
  | .local _ .vmem, ⟨5, _⟩ => ⟨S256x2048, .bf16⟩
  | .local _ .vmem, ⟨6, _⟩ => ⟨S32x2048, .bf16⟩
  | .local _ .vmem, ⟨7, _⟩ => ⟨S32x2048, .bf16⟩
  | .local _ .vmem, ⟨8, _⟩ => ⟨S256x1024, .f32⟩
  | .local _ .vmem, ⟨9, _⟩ => ⟨S256x1024, .f32⟩
  | .local _ .vmem, ⟨10, _⟩ => ⟨S32x1024, .f32⟩
  | .local _ .vmem, ⟨11, _⟩ => ⟨S32x1024, .f32⟩
  | .local _ .vmem, ⟨12, _⟩ => ⟨S31x1024, .f32⟩
  | .local _ .vmem, ⟨13, _⟩ => ⟨S1x1024, .f32⟩
  | .local _ .vmem, ⟨14, _⟩ => ⟨S1x1024, .f32⟩
  | .local _ .vmem, ⟨15, _⟩ => ⟨S1024x1024, .bf16⟩
  | .local _ .vmem, ⟨16, _⟩ => ⟨S256x2048, .bf16⟩
  | .local _ .vmem, ⟨17, _⟩ => ⟨S256x2048, .bf16⟩
  | .local _ .vmem, ⟨18, _⟩ => ⟨S1024x1024, .bf16⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S31x1024, .f32⟩
  | .local _ .vmem, ⟨24, _⟩ => ⟨S288x1024, .f32⟩
  | .local _ .vmem, ⟨25, _⟩ => ⟨S288x1024, .f32⟩
  | .local _ .vmem, ⟨26, _⟩ => ⟨S1024x1024, .f32⟩
  | .local _ .vmem, ⟨27, _⟩ => ⟨S7x280x1024, .f32⟩
  | .local _ .vmem, ⟨28, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v0 : BitVec 1 := Scalar.cmpi .eq arg0 c15_i32
  let v15514 : BitVec 32 := Scalar.extui v0
  let c0_i32_13881 : BitVec 32 := 0#32
  let v15515 : BitVec 1 := Scalar.cmpi .ne v15514 c0_i32_13881
  v15515

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S31x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S31x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Conv.lean ====
abbrev S4096x2048 : Shape := ⟨2, ![4096, 2048]⟩
abbrev S4096x1024 : Shape := ⟨2, ![4096, 1024]⟩
abbrev S31x1024 : Shape := ⟨2, ![31, 1024]⟩
abbrev S1024 : Shape := ⟨1, ![1024]⟩
abbrev S1024x1024 : Shape := ⟨2, ![1024, 1024]⟩
abbrev S31x8x128 : Shape := ⟨3, ![31, 8, 128]⟩
abbrev S8x31x128 : Shape := ⟨3, ![8, 31, 128]⟩
abbrev S8x128x1024 : Shape := ⟨3, ![8, 128, 1024]⟩
abbrev S1x1024 : Shape := ⟨2, ![1, 1024]⟩
abbrev S256x2048 : Shape := ⟨2, ![256, 2048]⟩
abbrev S32x2048 : Shape := ⟨2, ![32, 2048]⟩
abbrev S256x1024 : Shape := ⟨2, ![256, 1024]⟩
abbrev S288x1024 : Shape := ⟨2, ![288, 1024]⟩
abbrev S7x280x1024 : Shape := ⟨3, ![7, 280, 1024]⟩
abbrev S32x1024 : Shape := ⟨2, ![32, 1024]⟩
abbrev S280x1024 : Shape := ⟨2, ![280, 1024]⟩
abbrev S1x280x1024 : Shape := ⟨3, ![1, 280, 1024]⟩
abbrev S64x128 : Shape := ⟨2, ![64, 128]⟩
abbrev S1x128 : Shape := ⟨2, ![1, 128]⟩
abbrev S256 : Shape := ⟨1, ![256]⟩
abbrev S256x1 : Shape := ⟨2, ![256, 1]⟩

abbrev nBuf : Space → Nat
  | .hbm => 23
  | .vmem => 18
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .f32⟩
  | .hbm, ⟨2, _⟩ => ⟨S31x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S31x1024, .bf16⟩
  | .hbm, ⟨9, _⟩ => ⟨S31x8x128, .bf16⟩
  | .hbm, ⟨10, _⟩ => ⟨S8x31x128, .bf16⟩
  | .hbm, ⟨11, _⟩ => ⟨S31x8x128, .bf16⟩
  | .hbm, ⟨12, _⟩ => ⟨S31x1024, .bf16⟩
  | .hbm, ⟨13, _⟩ => ⟨S31x1024, .f32⟩
  | .hbm, ⟨14, _⟩ => ⟨S1024x1024, .bf16⟩
  | .hbm, ⟨15, _⟩ => ⟨S8x128x1024, .bf16⟩
  | .hbm, ⟨16, _⟩ => ⟨S1024x1024, .bf16⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S4096x1024, .f32⟩
  | .hbm, ⟨22, _⟩ => ⟨S4096x1024, .f32⟩
  | .local _ .vmem, ⟨0, _⟩ => ⟨S256x2048, .bf16⟩
  | .local _ .vmem, ⟨1, _⟩ => ⟨S256x2048, .bf16⟩
  | .local _ .vmem, ⟨2, _⟩ => ⟨S32x2048, .bf16⟩
  | .local _ .vmem, ⟨3, _⟩ => ⟨S32x2048, .bf16⟩
  | .local _ .vmem, ⟨4, _⟩ => ⟨S256x1024, .f32⟩
  | .local _ .vmem, ⟨5, _⟩ => ⟨S256x1024, .f32⟩
  | .local _ .vmem, ⟨6, _⟩ => ⟨S31x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S288x1024, .f32⟩
  | .local _ .vmem, ⟨17, _⟩ => ⟨S7x280x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S31x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ConvRefIdeal.lean ====
abbrev S4096x2048 : Shape := ⟨2, ![4096, 2048]⟩
abbrev S4096x1024 : Shape := ⟨2, ![4096, 1024]⟩
abbrev S31x1024 : Shape := ⟨2, ![31, 1024]⟩
abbrev S1024 : Shape := ⟨1, ![1024]⟩
abbrev S1024x1024 : Shape := ⟨2, ![1024, 1024]⟩
abbrev S_ : Shape := ⟨0, ![]⟩
abbrev S30x1024 : Shape := ⟨2, ![30, 1024]⟩
abbrev S4126x1024 : Shape := ⟨2, ![4126, 1024]⟩
abbrev S1x1024 : Shape := ⟨2, ![1, 1024]⟩
abbrev S4096 : Shape := ⟨1, ![4096]⟩
abbrev S4096x1 : Shape := ⟨2, ![4096, 1]⟩

abbrev nBuf : Space → Nat
  | .hbm => 286
  | .vmem => 0
  | .smem => 0
  | _ => 0

abbrev hbmTy0_0 (i : Nat) : BufTy := match i % 128 with
  | 0 => ⟨S4096x2048, .bf16⟩
  | 1 => ⟨S4096x1024, .f32⟩
  | 2 => ⟨S31x1024, .f32⟩
  | 3 => ⟨S1024, .f32⟩
  | 4 => ⟨S1024, .f32⟩
  | 5 => ⟨S1024, .f32⟩
  | 6 => ⟨S1024x1024, .f32⟩
  | 7 => ⟨S1024, .f32⟩
  | 8 => ⟨S4096x2048, .f32⟩
  | 9 => ⟨S4096x1024, .f32⟩
  | 10 => ⟨S4096x1024, .f32⟩
  | 11 => ⟨S_, .f32⟩
  | 12 => ⟨S30x1024, .f32⟩
  | 13 => ⟨S4096x1024, .f32⟩
  | 14 => ⟨S4096x1024, .f32⟩
  | 15 => ⟨S_, .f32⟩
  | 16 => ⟨S4096x1024, .f32⟩
  | 17 => ⟨S4096x1024, .f32⟩
  | 18 => ⟨S_, .f32⟩
  | 19 => ⟨S4096x1024, .f32⟩
  | 20 => ⟨S4096x1024, .f32⟩
  | 21 => ⟨S4096x1024, .f32⟩
  | 22 => ⟨S4126x1024, .f32⟩
  | 23 => ⟨S1x1024, .f32⟩
  | 24 => ⟨S1024, .f32⟩
  | 25 => ⟨S4096x1024, .f32⟩
  | 26 => ⟨S1x1024, .f32⟩
  | 27 => ⟨S4096x1024, .f32⟩
  | 28 => ⟨S4096x1024, .f32⟩
  | 29 => ⟨S_, .f32⟩
  | 30 => ⟨S4096x1024, .f32⟩
  | 31 => ⟨S4096x1024, .f32⟩
  | 32 => ⟨S1x1024, .f32⟩
  | 33 => ⟨S1024, .f32⟩
  | 34 => ⟨S4096x1024, .f32⟩
  | 35 => ⟨S1x1024, .f32⟩
  | 36 => ⟨S4096x1024, .f32⟩
  | 37 => ⟨S4096x1024, .f32⟩
  | 38 => ⟨S4096x1024, .f32⟩
  | 39 => ⟨S1x1024, .f32⟩
  | 40 => ⟨S1024, .f32⟩
  | 41 => ⟨S4096x1024, .f32⟩
  | 42 => ⟨S1x1024, .f32⟩
  | 43 => ⟨S4096x1024, .f32⟩
  | 44 => ⟨S4096x1024, .f32⟩
  | 45 => ⟨S4096x1024, .f32⟩
  | 46 => ⟨S1x1024, .f32⟩
  | 47 => ⟨S1024, .f32⟩
  | 48 => ⟨S4096x1024, .f32⟩
  | 49 => ⟨S1x1024, .f32⟩
  | 50 => ⟨S4096x1024, .f32⟩
  | 51 => ⟨S4096x1024, .f32⟩
  | 52 => ⟨S4096x1024, .f32⟩
  | 53 => ⟨S1x1024, .f32⟩
  | 54 => ⟨S1024, .f32⟩
  | 55 => ⟨S4096x1024, .f32⟩
  | 56 => ⟨S1x1024, .f32⟩
  | 57 => ⟨S4096x1024, .f32⟩
  | 58 => ⟨S4096x1024, .f32⟩
  | 59 => ⟨S4096x1024, .f32⟩
  | 60 => ⟨S1x1024, .f32⟩
  | 61 => ⟨S1024, .f32⟩
  | 62 => ⟨S4096x1024, .f32⟩
  | 63 => ⟨S1x1024, .f32⟩
  | 64 => ⟨S4096x1024, .f32⟩
  | 65 => ⟨S4096x1024, .f32⟩
  | 66 => ⟨S4096x1024, .f32⟩
  | 67 => ⟨S1x1024, .f32⟩
  | 68 => ⟨S1024, .f32⟩
  | 69 => ⟨S4096x1024, .f32⟩
  | 70 => ⟨S1x1024, .f32⟩
  | 71 => ⟨S4096x1024, .f32⟩
  | 72 => ⟨S4096x1024, .f32⟩
  | 73 => ⟨S4096x1024, .f32⟩
  | 74 => ⟨S1x1024, .f32⟩
  | 75 => ⟨S1024, .f32⟩
  | 76 => ⟨S4096x1024, .f32⟩
  | 77 => ⟨S1x1024, .f32⟩
  | 78 => ⟨S4096x1024, .f32⟩
  | 79 => ⟨S4096x1024, .f32⟩
  | 80 => ⟨S4096x1024, .f32⟩
  | 81 => ⟨S1x1024, .f32⟩
  | 82 => ⟨S1024, .f32⟩
  | 83 => ⟨S4096x1024, .f32⟩
  | 84 => ⟨S1x1024, .f32⟩
  | 85 => ⟨S4096x1024, .f32⟩
  | 86 => ⟨S4096x1024, .f32⟩
  | 87 => ⟨S4096x1024, .f32⟩
  | 88 => ⟨S1x1024, .f32⟩
  | 89 => ⟨S1024, .f32⟩
  | 90 => ⟨S4096x1024, .f32⟩
  | 91 => ⟨S1x1024, .f32⟩
  | 92 => ⟨S4096x1024, .f32⟩
  | 93 => ⟨S4096x1024, .f32⟩
  | 94 => ⟨S4096x1024, .f32⟩
  | 95 => ⟨S1x1024, .f32⟩
  | 96 => ⟨S1024, .f32⟩
  | 97 => ⟨S4096x1024, .f32⟩
  | 98 => ⟨S1x1024, .f32⟩
  | 99 => ⟨S4096x1024, .f32⟩
  | 100 => ⟨S4096x1024, .f32⟩
  | 101 => ⟨S4096x1024, .f32⟩
  | 102 => ⟨S1x1024, .f32⟩
  | 103 => ⟨S1024, .f32⟩
  | 104 => ⟨S4096x1024, .f32⟩
  | 105 => ⟨S1x1024, .f32⟩
  | 106 => ⟨S4096x1024, .f32⟩
  | 107 => ⟨S4096x1024, .f32⟩
  | 108 => ⟨S4096x1024, .f32⟩
  | 109 => ⟨S1x1024, .f32⟩
  | 110 => ⟨S1024, .f32⟩
  | 111 => ⟨S4096x1024, .f32⟩
  | 112 => ⟨S1x1024, .f32⟩
  | 113 => ⟨S4096x1024, .f32⟩
  | 114 => ⟨S4096x1024, .f32⟩
  | 115 => ⟨S4096x1024, .f32⟩
  | 116 => ⟨S1x1024, .f32⟩
  | 117 => ⟨S1024, .f32⟩
  | 118 => ⟨S4096x1024, .f32⟩
  | 119 => ⟨S1x1024, .f32⟩
  | 120 => ⟨S4096x1024, .f32⟩
  | 121 => ⟨S4096x1024, .f32⟩
  | 122 => ⟨S4096x1024, .f32⟩
  | 123 => ⟨S1x1024, .f32⟩
  | 124 => ⟨S1024, .f32⟩
  | 125 => ⟨S4096x1024, .f32⟩
  | 126 => ⟨S1x1024, .f32⟩
  | 127 => ⟨S4096x1024, .f32⟩
  | _ => ⟨S4096x2048, .bf16⟩

abbrev hbmTy0_1 (i : Nat) : BufTy := match i % 128 with
  | 0 => ⟨S4096x1024, .f32⟩
  | 1 => ⟨S4096x1024, .f32⟩
  | 2 => ⟨S1x1024, .f32⟩
  | 3 => ⟨S1024, .f32⟩
  | 4 => ⟨S4096x1024, .f32⟩
  | 5 => ⟨S1x1024, .f32⟩
  | 6 => ⟨S4096x1024, .f32⟩
  | 7 => ⟨S4096x1024, .f32⟩
  | 8 => ⟨S4096x1024, .f32⟩
  | 9 => ⟨S1x1024, .f32⟩
  | 10 => ⟨S1024, .f32⟩
  | 11 => ⟨S4096x1024, .f32⟩
  | 12 => ⟨S1x1024, .f32⟩
  | 13 => ⟨S4096x1024, .f32⟩
  | 14 => ⟨S4096x1024, .f32⟩
  | 15 => ⟨S4096x1024, .f32⟩
  | 16 => ⟨S1x1024, .f32⟩
  | 17 => ⟨S1024, .f32⟩
  | 18 => ⟨S4096x1024, .f32⟩
  | 19 => ⟨S1x1024, .f32⟩
  | 20 => ⟨S4096x1024, .f32⟩
  | 21 => ⟨S4096x1024, .f32⟩
  | 22 => ⟨S4096x1024, .f32⟩
  | 23 => ⟨S1x1024, .f32⟩
  | 24 => ⟨S1024, .f32⟩
  | 25 => ⟨S4096x1024, .f32⟩
  | 26 => ⟨S1x1024, .f32⟩
  | 27 => ⟨S4096x1024, .f32⟩
  | 28 => ⟨S4096x1024, .f32⟩
  | 29 => ⟨S4096x1024, .f32⟩
  | 30 => ⟨S1x1024, .f32⟩
  | 31 => ⟨S1024, .f32⟩
  | 32 => ⟨S4096x1024, .f32⟩
  | 33 => ⟨S1x1024, .f32⟩
  | 34 => ⟨S4096x1024, .f32⟩
  | 35 => ⟨S4096x1024, .f32⟩
  | 36 => ⟨S4096x1024, .f32⟩
  | 37 => ⟨S1x1024, .f32⟩
  | 38 => ⟨S1024, .f32⟩
  | 39 => ⟨S4096x1024, .f32⟩
  | 40 => ⟨S1x1024, .f32⟩
  | 41 => ⟨S4096x1024, .f32⟩
  | 42 => ⟨S4096x1024, .f32⟩
  | 43 => ⟨S4096x1024, .f32⟩
  | 44 => ⟨S1x1024, .f32⟩
  | 45 => ⟨S1024, .f32⟩
  | 46 => ⟨S4096x1024, .f32⟩
  | 47 => ⟨S1x1024, .f32⟩
  | 48 => ⟨S4096x1024, .f32⟩
  | 49 => ⟨S4096x1024, .f32⟩
  | 50 => ⟨S4096x1024, .f32⟩
  | 51 => ⟨S1x1024, .f32⟩
  | 52 => ⟨S1024, .f32⟩
  | 53 => ⟨S4096x1024, .f32⟩
  | 54 => ⟨S1x1024, .f32⟩
  | 55 => ⟨S4096x1024, .f32⟩
  | 56 => ⟨S4096x1024, .f32⟩
  | 57 => ⟨S4096x1024, .f32⟩
  | 58 => ⟨S1x1024, .f32⟩
  | 59 => ⟨S1024, .f32⟩
  | 60 => ⟨S4096x1024, .f32⟩
  | 61 => ⟨S1x1024, .f32⟩
  | 62 => ⟨S4096x1024, .f32⟩
  | 63 => ⟨S4096x1024, .f32⟩
  | 64 => ⟨S4096x1024, .f32⟩
  | 65 => ⟨S1x1024, .f32⟩
  | 66 => ⟨S1024, .f32⟩
  | 67 => ⟨S4096x1024, .f32⟩
  | 68 => ⟨S1x1024, .f32⟩
  | 69 => ⟨S4096x1024, .f32⟩
  | 70 => ⟨S4096x1024, .f32⟩
  | 71 => ⟨S4096x1024, .f32⟩
  | 72 => ⟨S1x1024, .f32⟩
  | 73 => ⟨S1024, .f32⟩
  | 74 => ⟨S4096x1024, .f32⟩
  | 75 => ⟨S1x1024, .f32⟩
  | 76 => ⟨S4096x1024, .f32⟩
  | 77 => ⟨S4096x1024, .f32⟩
  | 78 => ⟨S4096x1024, .f32⟩
  | 79 => ⟨S1x1024, .f32⟩
  | 80 => ⟨S1024, .f32⟩
  | 81 => ⟨S4096x1024, .f32⟩
  | 82 => ⟨S1x1024, .f32⟩
  | 83 => ⟨S4096x1024, .f32⟩
  | 84 => ⟨S4096x1024, .f32⟩
  | 85 => ⟨S4096x1024, .f32⟩
  | 86 => ⟨S1x1024, .f32⟩
  | 87 => ⟨S1024, .f32⟩
  | 88 => ⟨S4096x1024, .f32⟩
  | 89 => ⟨S1x1024, .f32⟩
  | 90 => ⟨S4096x1024, .f32⟩
  | 91 => ⟨S4096x1024, .f32⟩
  | 92 => ⟨S4096x1024, .f32⟩
  | 93 => ⟨S1x1024, .f32⟩
  | 94 => ⟨S1024, .f32⟩
  | 95 => ⟨S4096x1024, .f32⟩
  | 96 => ⟨S1x1024, .f32⟩
  | 97 => ⟨S4096x1024, .f32⟩
  | 98 => ⟨S4096x1024, .f32⟩
  | 99 => ⟨S4096x1024, .f32⟩
  | 100 => ⟨S1x1024, .f32⟩
  | 101 => ⟨S1024, .f32⟩
  | 102 => ⟨S4096x1024, .f32⟩
  | 103 => ⟨S1x1024, .f32⟩
  | 104 => ⟨S4096x1024, .f32⟩
  | 105 => ⟨S4096x1024, .f32⟩
  | 106 => ⟨S4096x1024, .f32⟩
  | 107 => ⟨S1x1024, .f32⟩
  | 108 => ⟨S1024, .f32⟩
  | 109 => ⟨S4096x1024, .f32⟩
  | 110 => ⟨S1x1024, .f32⟩
  | 111 => ⟨S4096x1024, .f32⟩
  | 112 => ⟨S4096x1024, .f32⟩
  | 113 => ⟨S4096x1024, .f32⟩
  | 114 => ⟨S1x1024, .f32⟩
  | 115 => ⟨S4096x1024, .f32⟩
  | 116 => ⟨S4096x1024, .f32⟩
  | 117 => ⟨S_, .f32⟩
  | 118 => ⟨S4096, .f32⟩
  | 119 => ⟨S4096x1, .f32⟩
  | 120 => ⟨S_, .f32⟩
  | 121 => ⟨S4096x1, .f32⟩
  | 122 => ⟨S4096x1, .f32⟩
  | 123 => ⟨S4096x1024, .f32⟩
  | 124 => ⟨S4096x1024, .f32⟩
  | 125 => ⟨S4096x1024, .f32⟩
  | 126 => ⟨S_, .f32⟩
  | 127 => ⟨S4096, .f32⟩
  | _ => ⟨S4096x2048, .bf16⟩

abbrev hbmTy0_2 (i : Nat) : BufTy := match i % 128 with
  | 0 => ⟨S4096x1, .f32⟩
  | 1 => ⟨S_, .f32⟩
  | 2 => ⟨S4096x1, .f32⟩
  | 3 => ⟨S4096x1, .f32⟩
  | 4 => ⟨S_, .f32⟩
  | 5 => ⟨S4096x1, .f32⟩
  | 6 => ⟨S4096x1, .f32⟩
  | 7 => ⟨S4096x1, .f32⟩
  | 8 => ⟨S4096x1024, .f32⟩
  | 9 => ⟨S4096x1024, .f32⟩
  | 10 => ⟨S1x1024, .f32⟩
  | 11 => ⟨S4096x1024, .f32⟩
  | 12 => ⟨S4096x1024, .f32⟩
  | 13 => ⟨S1x1024, .f32⟩
  | 14 => ⟨S4096x1024, .f32⟩
  | 15 => ⟨S4096x1024, .f32⟩
  | 16 => ⟨S4096x1024, .f32⟩
  | 17 => ⟨S4096x1024, .f32⟩
  | 18 => ⟨S_, .f32⟩
  | 19 => ⟨S4096x1024, .f32⟩
  | 20 => ⟨S4096x1024, .f32⟩
  | 21 => ⟨S_, .f32⟩
  | 22 => ⟨S4096x1024, .f32⟩
  | 23 => ⟨S4096x1024, .f32⟩
  | 24 => ⟨S4096x1024, .f32⟩
  | 25 => ⟨S4096x1024, .f32⟩
  | 26 => ⟨S1x1024, .f32⟩
  | 27 => ⟨S4096x1024, .f32⟩
  | 28 => ⟨S4096x1024, .f32⟩
  | 29 => ⟨S4096x1024, .f32⟩
  | _ => ⟨S4096x2048, .bf16⟩

abbrev hbmTy (i : Nat) : BufTy := match i / 128 with
  | 0 => hbmTy0_0 i
  | 1 => hbmTy0_1 i
  | 2 => hbmTy0_2 i
  | _ => ⟨S4096x2048, .bf16⟩

abbrev bufTy : (tb : Table) → Fin (tcTables nBuf tb) → BufTy
  | .hbm, ⟨i, _⟩ => hbmTy i
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_v164 : Ref sig .tc := ⟨.hbm, 176, rfl⟩
abbrev main_v165 : Ref sig .tc := ⟨.hbm, 177, rfl⟩
abbrev main_v166 : Ref sig .tc := ⟨.hbm, 178, rfl⟩
abbrev main_v167 : Ref sig .tc := ⟨.hbm, 179, rfl⟩
abbrev main_v168 : Ref sig .tc := ⟨.hbm, 180, rfl⟩
abbrev main_v169 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_v175 : Ref sig .tc := ⟨.hbm, 187, rfl⟩
abbrev main_v176 : Ref sig .tc := ⟨.hbm, 188, rfl⟩
abbrev main_v177 : Ref sig .tc := ⟨.hbm, 189, rfl⟩
abbrev main_v178 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_v182 : Ref sig .tc := ⟨.hbm, 194, rfl⟩
abbrev main_v183 : Ref sig .tc := ⟨.hbm, 195, rfl⟩
abbrev main_v184 : Ref sig .tc := ⟨.hbm, 196, rfl⟩
abbrev main_v185 : Ref sig .tc := ⟨.hbm, 197, rfl⟩
abbrev main_v186 : Ref sig .tc := ⟨.hbm, 198, rfl⟩
abbrev main_v187 : Ref sig .tc := ⟨.hbm, 199, rfl⟩
abbrev main_v188 : Ref sig .tc := ⟨.hbm, 200, rfl⟩
abbrev main_v189 : Ref sig .tc := ⟨.hbm, 201, rfl⟩
abbrev main_v190 : Ref sig .tc := ⟨.hbm, 202, rfl⟩
abbrev main_v191 : Ref sig .tc := ⟨.hbm, 203, rfl⟩
abbrev main_v192 : Ref sig .tc := ⟨.hbm, 204, rfl⟩
abbrev main_v193 : Ref sig .tc := ⟨.hbm, 205, rfl⟩
abbrev main_v194 : Ref sig .tc := ⟨.hbm, 206, rfl⟩
abbrev main_v195 : Ref sig .tc := ⟨.hbm, 207, rfl⟩
abbrev main_v196 : Ref sig .tc := ⟨.hbm, 208, rfl⟩
abbrev main_v197 : Ref sig .tc := ⟨.hbm, 209, rfl⟩
abbrev main_v198 : Ref sig .tc := ⟨.hbm, 210, rfl⟩
abbrev main_v199 : Ref sig .tc := ⟨.hbm, 211, rfl⟩
abbrev main_v200 : Ref sig .tc := ⟨.hbm, 212, rfl⟩
abbrev main_v201 : Ref sig .tc := ⟨.hbm, 213, rfl⟩
abbrev main_v202 : Ref sig .tc := ⟨.hbm, 214, rfl⟩
abbrev main_v203 : Ref sig .tc := ⟨.hbm, 215, rfl⟩
abbrev main_v204 : Ref sig .tc := ⟨.hbm, 216, rfl⟩
abbrev main_v205 : Ref sig .tc := ⟨.hbm, 217, rfl⟩
abbrev main_v206 : Ref sig .tc := ⟨.hbm, 218, rfl⟩
abbrev main_v207 : Ref sig .tc := ⟨.hbm, 219, rfl⟩
abbrev main_v208 : Ref sig .tc := ⟨.hbm, 220, rfl⟩
abbrev main_v209 : Ref sig .tc := ⟨.hbm, 221, rfl⟩
abbrev main_v210 : Ref sig .tc := ⟨.hbm, 222, rfl⟩
abbrev main_v211 : Ref sig .tc := ⟨.hbm, 223, rfl⟩
abbrev main_v212 : Ref sig .tc := ⟨.hbm, 224, rfl⟩
abbrev main_v213 : Ref sig .tc := ⟨.hbm, 225, rfl⟩
abbrev main_v214 : Ref sig .tc := ⟨.hbm, 226, rfl⟩
abbrev main_v215 : Ref sig .tc := ⟨.hbm, 227, rfl⟩
abbrev main_v216 : Ref sig .tc := ⟨.hbm, 228, rfl⟩
abbrev main_v217 : Ref sig .tc := ⟨.hbm, 229, rfl⟩
abbrev main_v218 : Ref sig .tc := ⟨.hbm, 230, rfl⟩
abbrev main_v219 : Ref sig .tc := ⟨.hbm, 231, rfl⟩
abbrev main_v220 : Ref sig .tc := ⟨.hbm, 232, rfl⟩
abbrev main_v221 : Ref sig .tc := ⟨.hbm, 233, rfl⟩
abbrev main_v222 : Ref sig .tc := ⟨.hbm, 234, rfl⟩
abbrev main_v223 : Ref sig .tc := ⟨.hbm, 235, rfl⟩
abbrev main_v224 : Ref sig .tc := ⟨.hbm, 236, rfl⟩
abbrev main_v225 : Ref sig .tc := ⟨.hbm, 237, rfl⟩
abbrev main_v226 : Ref sig .tc := ⟨.hbm, 238, rfl⟩
abbrev main_v227 : Ref sig .tc := ⟨.hbm, 239, rfl⟩
abbrev main_v228 : Ref sig .tc := ⟨.hbm, 240, rfl⟩
abbrev main_v229 : Ref sig .tc := ⟨.hbm, 241, rfl⟩
abbrev main_v230 : Ref sig .tc := ⟨.hbm, 242, rfl⟩
abbrev main_v231 : Ref sig .tc := ⟨.hbm, 243, rfl⟩
abbrev main_v232 : Ref sig .tc := ⟨.hbm, 244, rfl⟩
abbrev main_cst_3 : Ref sig .tc := ⟨.hbm, 245, rfl⟩
abbrev main_v233 : Ref sig .tc := ⟨.hbm, 246, rfl⟩
abbrev main_v234 : Ref sig .tc := ⟨.hbm, 247, rfl⟩
abbrev main_cst_4 : Ref sig .tc := ⟨.hbm, 248, rfl⟩
abbrev main_v235 : Ref sig .tc := ⟨.hbm, 249, rfl⟩
abbrev main_v236 : Ref sig .tc := ⟨.hbm, 250, rfl⟩
abbrev main_v237 : Ref sig .tc := ⟨.hbm, 251, rfl⟩
abbrev main_v238 : Ref sig .tc := ⟨.hbm, 252, rfl⟩
abbrev main_v239 : Ref sig .tc := ⟨.hbm, 253, rfl⟩
abbrev main_cst_5 : Ref sig .tc := ⟨.hbm, 254, rfl⟩
abbrev main_v240 : Ref sig .tc := ⟨.hbm, 255, rfl⟩
abbrev main_v241 : Ref sig .tc := ⟨.hbm, 256, rfl⟩
abbrev main_cst_6 : Ref sig .tc := ⟨.hbm, 257, rfl⟩
abbrev main_v242 : Ref sig .tc := ⟨.hbm, 258, rfl⟩
abbrev main_v243 : Ref sig .tc := ⟨.hbm, 259, rfl⟩
abbrev main_cst_7 : Ref sig .tc := ⟨.hbm, 260, rfl⟩
abbrev main_v244 : Ref sig .tc := ⟨.hbm, 261, rfl⟩
abbrev main_v245 : Ref sig .tc := ⟨.hbm, 262, rfl⟩
abbrev main_v246 : Ref sig .tc := ⟨.hbm, 263, rfl⟩
abbrev main_v247 : Ref sig .tc := ⟨.hbm, 264, rfl⟩
abbrev main_v248 : Ref sig .tc := ⟨.hbm, 265, rfl⟩
abbrev main_v249 : Ref sig .tc := ⟨.hbm, 266, rfl⟩
abbrev main_v250 : Ref sig .tc := ⟨.hbm, 267, rfl⟩
abbrev main_v251 : Ref sig .tc := ⟨.hbm, 268, rfl⟩
abbrev main_v252 : Ref sig .tc := ⟨.hbm, 269, rfl⟩
abbrev main_v253 : Ref sig .tc := ⟨.hbm, 270, rfl⟩
abbrev main_v254 : Ref sig .tc := ⟨.hbm, 271, rfl⟩
abbrev main_call0_v0 : Ref sig .tc := ⟨.hbm, 272, rfl⟩
abbrev main_call0_v1 : Ref sig .tc := ⟨.hbm, 273, rfl⟩
abbrev main_call0_cst : Ref sig .tc := ⟨.hbm, 274, rfl⟩
abbrev main_call0_v2 : Ref sig .tc := ⟨.hbm, 275, rfl⟩
abbrev main_call0_v3 : Ref sig .tc := ⟨.hbm, 276, rfl⟩
abbrev main_call0_cst_0 : Ref sig .tc := ⟨.hbm, 277, rfl⟩
abbrev main_call0_v4 : Ref sig .tc := ⟨.hbm, 278, rfl⟩
abbrev main_call0_v5 : Ref sig .tc := ⟨.hbm, 279, rfl⟩
abbrev main_v255 : Ref sig .tc := ⟨.hbm, 280, rfl⟩
abbrev main_v256 : Ref sig .tc := ⟨.hbm, 281, rfl⟩
abbrev main_v257 : Ref sig .tc := ⟨.hbm, 282, rfl⟩
abbrev main_v258 : Ref sig .tc := ⟨.hbm, 283, rfl⟩
abbrev main_v259 : Ref sig .tc := ⟨.hbm, 284, rfl⟩
abbrev main_v260 : Ref sig .tc := ⟨.hbm, 285, rfl⟩

abbrev nD : Nat := 1
abbrev τ : Topo := Topo.v7x

variable {F : FTy → Type} [FloatOps F]
-- ==== Pool.lean ====
abbrev S4096x1024 : Shape := ⟨2, ![4096, 1024]⟩
abbrev S1024 : Shape := ⟨1, ![1024]⟩
abbrev S4x256x256 : Shape := ⟨3, ![4, 256, 256]⟩
abbrev S4x8x32x256 : Shape := ⟨4, ![4, 8, 32, 256]⟩
abbrev S8x4x32x256 : Shape := ⟨4, ![8, 4, 32, 256]⟩
abbrev S1x1024 : Shape := ⟨2, ![1, 1024]⟩
abbrev S512x1024 : Shape := ⟨2, ![512, 1024]⟩
abbrev S32x1024 : Shape := ⟨2, ![32, 1024]⟩
abbrev S544x1024 : Shape := ⟨2, ![544, 1024]⟩
abbrev S32 : Shape := ⟨1, ![32]⟩
abbrev S32x1 : Shape := ⟨2, ![32, 1]⟩
abbrev S512 : Shape := ⟨1, ![512]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 12
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4x256x256, .f32⟩
  | .hbm, ⟨3, _⟩ => ⟨S1024, .f32⟩
  | .hbm, ⟨4, _⟩ => ⟨S4x256x256, .bf16⟩
  | .hbm, ⟨5, _⟩ => ⟨S4x8x32x256, .bf16⟩
  | .hbm, ⟨6, _⟩ => ⟨S8x4x32x256, .bf16⟩
  | .hbm, ⟨7, _⟩ => ⟨S4x8x32x256, .bf16⟩
  | .hbm, ⟨8, _⟩ => ⟨S4x256x256, .bf16⟩
  | .hbm, ⟨9, _⟩ => ⟨S1x1024, .f32⟩
  | .hbm, ⟨10, _⟩ => ⟨S1x1024, .f32⟩
  | .hbm, ⟨11, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S32x1024, .f32⟩
  | .local _ .vmem, ⟨3, _⟩ => ⟨S32x1024, .f32⟩
  | .local _ .vmem, ⟨4, _⟩ => ⟨S1x1024, .f32⟩
  | .local _ .vmem, ⟨5, _⟩ => ⟨S4x256x256, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S544x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PoolRefIdeal.lean ====
abbrev S4096x1024 : Shape := ⟨2, ![4096, 1024]⟩
abbrev S1024 : Shape := ⟨1, ![1024]⟩
abbrev S4x256x256 : Shape := ⟨3, ![4, 256, 256]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4x256 : Shape := ⟨3, ![4096, 4, 256]⟩
abbrev S4096x1x256 : Shape := ⟨3, ![4096, 1, 256]⟩
abbrev S4096x256 : Shape := ⟨2, ![4096, 256]⟩
abbrev S2x256 : Shape := ⟨2, ![2, 256]⟩
abbrev S4098x256 : Shape := ⟨2, ![4098, 256]⟩
abbrev S4x256 : Shape := ⟨2, ![4, 256]⟩
abbrev S4100x256 : Shape := ⟨2, ![4100, 256]⟩
abbrev S8x256 : Shape := ⟨2, ![8, 256]⟩
abbrev S4104x256 : Shape := ⟨2, ![4104, 256]⟩
abbrev S16x256 : Shape := ⟨2, ![16, 256]⟩
abbrev S4112x256 : Shape := ⟨2, ![4112, 256]⟩
abbrev S4x256x4096 : Shape := ⟨3, ![4, 256, 4096]⟩

abbrev nBuf : Space → Nat
  | .hbm => 106
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4x256x256, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x4x256, .f32⟩
  | .hbm, ⟨21, _⟩ => ⟨S_, .f32⟩
  | .hbm, ⟨22, _⟩ => ⟨S_, .f32⟩
  | .hbm, ⟨23, _⟩ => ⟨S4096x4x256, .f32⟩
  | .hbm, ⟨24, _⟩ => ⟨S4096, .i32⟩
  | .hbm, ⟨25, _⟩ => ⟨S4096x1x256, .f32⟩
  | .hbm, ⟨26, _⟩ => ⟨S4096x256, .f32⟩
  | .hbm, ⟨27, _⟩ => ⟨S_, .f32⟩
  | .hbm, ⟨28, _⟩ => ⟨S2x256, .f32⟩
  | .hbm, ⟨29, _⟩ => ⟨S4098x256, .f32⟩
  | .hbm, ⟨30, _⟩ => ⟨S4096x256, .f32⟩
  | .hbm, ⟨31, _⟩ => ⟨S_, .i32⟩
  | .hbm, ⟨32, _⟩ => ⟨S4096, .i32⟩
  | .hbm, ⟨33, _⟩ => ⟨S4096, .i32⟩
  | .hbm, ⟨34, _⟩ => ⟨S_, .i32⟩
  | .hbm, ⟨35, _⟩ => ⟨S4096, .i32⟩
  | .hbm, ⟨36, _⟩ => ⟨S4096, .i32⟩
  | .hbm, ⟨37, _⟩ => ⟨S4096, .f32⟩
  | .hbm, ⟨38, _⟩ => ⟨S4096x1, .f32⟩
  | .hbm, ⟨39, _⟩ => ⟨S4096x256, .f32⟩
  | .hbm, ⟨40, _⟩ => ⟨S4096x256, .f32⟩
  | .hbm, ⟨41, _⟩ => ⟨S4096x256, .f32⟩
  | .hbm, ⟨42, _⟩ => ⟨S4096x1x256, .f32⟩
  | .hbm, ⟨43, _⟩ => ⟨S4096x256, .f32⟩
  | .hbm, ⟨44, _⟩ => ⟨S_, .f32⟩
  | .hbm, ⟨45, _⟩ => ⟨S4x256, .f32⟩
  | .hbm, ⟨46, _⟩ => ⟨S4100x256, .f32⟩
  | .hbm, ⟨47, _⟩ => ⟨S4096x256, .f32⟩
  | .hbm, ⟨48, _⟩ => ⟨S_, .i32⟩
  | .hbm, ⟨49, _⟩ => ⟨S4096, .i32⟩
  | .hbm, ⟨50, _⟩ => ⟨S4096, .i32⟩
  | .hbm, ⟨51, _⟩ => ⟨S_, .i32⟩
  | .hbm, ⟨52, _⟩ => ⟨S4096, .i32⟩
  | .hbm, ⟨53, _⟩ => ⟨S4096, .i32⟩
  | .hbm, ⟨54, _⟩ => ⟨S4096, .f32⟩
  | .hbm, ⟨55, _⟩ => ⟨S4096x1, .f32⟩
  | .hbm, ⟨56, _⟩ => ⟨S4096x256, .f32⟩
  | .hbm, ⟨57, _⟩ => ⟨S4096x256, .f32⟩
  | .hbm, ⟨58, _⟩ => ⟨S4096x256, .f32⟩
  | .hbm, ⟨59, _⟩ => ⟨S4096x1x256, .f32⟩
  | .hbm, ⟨60, _⟩ => ⟨S4096x256, .f32⟩
  | .hbm, ⟨61, _⟩ => ⟨S_, .f32⟩
  | .hbm, ⟨62, _⟩ => ⟨S8x256, .f32⟩
  | .hbm, ⟨63, _⟩ => ⟨S4104x256, .f32⟩
  | .hbm, ⟨64, _⟩ => ⟨S4096x256, .f32⟩
  | .hbm, ⟨65, _⟩ => ⟨S_, .i32⟩
  | .hbm, ⟨66, _⟩ => ⟨S4096, .i32⟩
  | .hbm, ⟨67, _⟩ => ⟨S4096, .i32⟩
  | .hbm, ⟨68, _⟩ => ⟨S_, .i32⟩
  | .hbm, ⟨69, _⟩ => ⟨S4096, .i32⟩
  | .hbm, ⟨70, _⟩ => ⟨S4096, .i32⟩
  | .hbm, ⟨71, _⟩ => ⟨S4096, .f32⟩
  | .hbm, ⟨72, _⟩ => ⟨S4096x1, .f32⟩
  | .hbm, ⟨73, _⟩ => ⟨S4096x256, .f32⟩
  | .hbm, ⟨74, _⟩ => ⟨S4096x256, .f32⟩
  | .hbm, ⟨75, _⟩ => ⟨S4096x256, .f32⟩
  | .hbm, ⟨76, _⟩ => ⟨S4096x1x256, .f32⟩
  | .hbm, ⟨77, _⟩ => ⟨S4096x256, .f32⟩
  | .hbm, ⟨78, _⟩ => ⟨S_, .f32⟩
  | .hbm, ⟨79, _⟩ => ⟨S16x256, .f32⟩
  | .hbm, ⟨80, _⟩ => ⟨S4112x256, .f32⟩
  | .hbm, ⟨81, _⟩ => ⟨S4096x256, .f32⟩
  | .hbm, ⟨82, _⟩ => ⟨S_, .i32⟩
  | .hbm, ⟨83, _⟩ => ⟨S4096, .i32⟩
  | .hbm, ⟨84, _⟩ => ⟨S4096, .i32⟩
  | .hbm, ⟨85, _⟩ => ⟨S_, .i32⟩
  | .hbm, ⟨86, _⟩ => ⟨S4096, .i32⟩
  | .hbm, ⟨87, _⟩ => ⟨S4096, .i32⟩
  | .hbm, ⟨88, _⟩ => ⟨S4096, .f32⟩
  | .hbm, ⟨89, _⟩ => ⟨S4096x1, .f32⟩
  | .hbm, ⟨90, _⟩ => ⟨S4096x256, .f32⟩
  | .hbm, ⟨91, _⟩ => ⟨S4096x256, .f32⟩
  | .hbm, ⟨92, _⟩ => ⟨S4096x256, .f32⟩
  | .hbm, ⟨93, _⟩ => ⟨S4096x1x256, .f32⟩
  | .hbm, ⟨94, _⟩ => ⟨S4096x1x256, .f32⟩
  | .hbm, ⟨95, _⟩ => ⟨S4096x1x256, .f32⟩
  | .hbm, ⟨96, _⟩ => ⟨S4096x1x256, .f32⟩
  | .hbm, ⟨97, _⟩ => ⟨S4096x4x256, .f32⟩
  | .hbm, ⟨98, _⟩ => ⟨S4096x4x256, .f32⟩
  | .hbm, ⟨99, _⟩ => ⟨S4x256x4096, .f32⟩
  | .hbm, ⟨100, _⟩ => ⟨S4096x4x256, .f32⟩
  | .hbm, ⟨101, _⟩ => ⟨S4096x1024, .f32⟩
  | .hbm, ⟨102, _⟩ => ⟨S1x1024, .f32⟩
  | .hbm, ⟨103, _⟩ => ⟨S4096x1024, .f32⟩
  | .hbm, ⟨104, _⟩ => ⟨S4096x1024, .f32⟩
  | .hbm, ⟨105, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_call0_cst : Ref sig .tc := ⟨.hbm, 21, rfl⟩
abbrev main_call0_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_5 : Ref sig .tc := ⟨.hbm, 48, rfl⟩
abbrev main_v35 : Ref sig .tc := ⟨.hbm, 49, rfl⟩
abbrev main_v36 : Ref sig .tc := ⟨.hbm, 50, rfl⟩
abbrev main_c_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_8 : Ref sig .tc := ⟨.hbm, 65, rfl⟩
abbrev main_v49 : Ref sig .tc := ⟨.hbm, 66, rfl⟩
abbrev main_v50 : Ref sig .tc := ⟨.hbm, 67, rfl⟩
abbrev main_c_9 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_10 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_c_11 : Ref sig .tc := ⟨.hbm, 82, rfl⟩
abbrev main_v63 : Ref sig .tc := ⟨.hbm, 83, rfl⟩
abbrev main_v64 : Ref sig .tc := ⟨.hbm, 84, rfl⟩
abbrev main_c_12 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩

abbrev nD : Nat := 1
abbrev τ : Topo := Topo.v7x

variable {F : FTy → Type} [FloatOps F]
-- ==== Proof.RmsLaws.lean ====
/- Laws of the extended reals used by the norms: a nonnegative real distributes over sums, the reciprocal root of a
   mean square is a nonnegative real, and two ways to write the gradient of an RMS norm agree. -/
module

public import Idealize.ShloMosaic.Lib.Pointwise
public import Idealize.ShloMosaic.Lib.ValueIdx

@[expose] public section

noncomputable section

namespace Cert.Proof.Rms

open Idealize.ShloMosaic

/-! ### Constants -/

theorem c1024 : Ideal.ofBits .f32 0x44800000#32 = ((1024 : ℝ) : EReal) := by
  simp [Ideal.ofBits, Ideal.ieee, -EReal.coe_mul]; norm_num

theorem cInv1024 : Ideal.ofBits .f32 0x3A800000#32 = ((1 / 1024 : ℝ) : EReal) := by
  simp [Ideal.ofBits, Ideal.ieee, -EReal.coe_mul]; norm_num

theorem cHalf : Ideal.ofBits .f32 0x3F000000#32 = ((1 / 2 : ℝ) : EReal) := by
  simp [Ideal.ofBits, Ideal.ieee, -EReal.coe_mul]; norm_num

theorem cNegHalf : Ideal.ofBits .f32 0xBF000000#32 = ((-(1 / 2) : ℝ) : EReal) := by
  simp [Ideal.ofBits, Ideal.ieee, -EReal.coe_mul, -EReal.coe_neg]; norm_num

theorem cTwo : Ideal.ofBits .f32 0x40000000#32 = ((2 : ℝ) : EReal) := by
  simp [Ideal.ofBits, Ideal.ieee, -EReal.coe_mul]; norm_num

/-- The small constant under the root, as the real its word is. -/
def eps : ℝ := 8796093 * (2 : ℝ) ^ (-43 : ℤ)

theorem eps_pos : 0 < eps := by unfold eps; positivity

theorem cEps : Ideal.ofBits .f32 0x358637BD#32 = ((eps : ℝ) : EReal) := by
  unfold eps; simp [Ideal.ofBits, Ideal.ieee, -EReal.coe_mul]

/-! ### Sums -/

/-- A nonnegative real distributes over a finite sum of extended reals. -/
theorem mul_sum {ι : Type*} (s : Finset ι) {r : ℝ} (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (by exact_mod_cast hr) (EReal.coe_ne_top r), ih]

theorem add_self (a : EReal) : a + a = ((2 : ℝ) : EReal) * a := by
  induction a with
  | bot => rw [EReal.coe_mul_bot_of_pos two_pos]; rfl
  | top => rw [EReal.coe_mul_top_of_pos two_pos]; rfl
  | coe x => norm_cast; ring

theorem sq_nonneg (a : EReal) : 0 ≤ a * a := by
  induction a with
  | bot => simp
  | top => simp
  | coe x => rw [← EReal.coe_mul]; exact_mod_cast mul_self_nonneg x

/-! ### The reciprocal root of a mean square -/

/-- For a nonnegative sum of squares `q`, finite or not, `1 / √(q / 1024 + eps)` is a nonnegative real `r`, and dividing it
    once more by what is under the root gives `r³`. -/
theorem root (q : EReal) (hq : 0 ≤ q) : ∃ r : ℝ, 0 ≤ r ∧
    Ideal.rsqrt (Ideal.div q ((1024 : ℝ) : EReal) + ((eps : ℝ) : EReal)) = (r : EReal) ∧
    Ideal.div (r : EReal) (Ideal.div q ((1024 : ℝ) : EReal) + ((eps : ℝ) : EReal)) = ((r * r * r : ℝ) : EReal) := by
  rw [Ideal.div_coe (by norm_num)]
  induction q with
  | bot => simp at hq
  | top =>
    refine ⟨0, le_refl _, ?_, ?_⟩
    · rw [EReal.top_mul_coe_of_pos (by norm_num), EReal.top_add_coe]; simp
    · rw [EReal.top_mul_coe_of_pos (by norm_num), EReal.top_add_coe]; simp [Ideal.div]
  | coe x =>
    have hx : 0 ≤ x := by exact_mod_cast hq
    have hp : 0 < x * (1 / 1024) + eps := by have := eps_pos; positivity
    rw [← EReal.coe_mul, ← EReal.coe_add]
    refine ⟨(Real.sqrt (x * (1 / 1024) + eps))⁻¹, by positivity, ?_, ?_⟩
    · rw [Ideal.rsqrt_coe, if_neg (not_lt.mpr hp.le), if_neg hp.ne']
    · rw [Ideal.div_coe hp.ne', ← EReal.coe_mul]
      congr 1
      have hs : Real.sqrt (x * (1 / 1024) + eps) ≠ 0 := (Real.sqrt_pos.mpr hp).ne'
      rw [mul_assoc, ← mul_inv, Real.mul_self_sqrt hp.le, one_div (x * (1 / 1024) + eps)]

/-- The gradient of an RMS norm in a row, written with the normalised row and the mean of its product with the cotangent `D`
    (already times the gain), is the gradient written with the derivative of the reciprocal root. -/
theorem grad (x D : Fin 1024 → EReal) {r : ℝ} (hr : 0 ≤ r) (j : Fin 1024) :
    (r : EReal) * (D j - x j * r * Ideal.div (∑ k, D k * (x k * r)) ((1024 : ℝ) : EReal))
      = D j * r + x j * Ideal.div ((∑ k, x k * D k) * (((-(1 / 2) : ℝ) : EReal) * ((r * r * r : ℝ) : EReal))) ((1024 : ℝ) : EReal)
        + Ideal.div ((∑ k, x k * D k) * (((-(1 / 2) : ℝ) : EReal) * ((r * r * r : ℝ) : EReal))) ((1024 : ℝ) : EReal) * x j := by
  have hS : ∑ k, D k * (x k * r) = (r : EReal) * ∑ k, x k * D k := by
    rw [mul_sum _ hr]
    exact Finset.sum_congr rfl fun k _ => by ac_rfl
  rw [hS]
  generalize ∑ k, x k * D k = S
  rw [Ideal.div_coe (by norm_num), Ideal.div_coe (by norm_num), sub_eq_add_neg,
    EReal.left_distrib_of_nonneg_of_ne_top (by exact_mod_cast hr) (EReal.coe_ne_top r), mul_comm (r : EReal) (D j), add_assoc]
  congr 1
  rw [mul_comm _ (x j), add_self, ← EReal.coe_mul]
  have e : ∀ a b c d e : ℝ, ((a : ℝ) : EReal) * -(x j * (b : EReal) * ((c : EReal) * S * (d : EReal)))
      = x j * S * ((-(a * b * c * d) : ℝ) : EReal) := fun a b c d _ => by
    rw [mul_neg, EReal.coe_neg, mul_neg]; push_cast; congr 1; ac_rfl
  rw [e _ _ _ _ 0]
  have e' : ∀ a b c : ℝ, ((a : ℝ) : EReal) * (x j * (S * (b : EReal) * (c : EReal))) = x j * S * ((a * b * c : ℝ) : EReal) :=
    fun a b c => by push_cast; ac_rfl
  rw [e']
  congr 2
  ring

/-! ### The norm of a row and its gradient -/

/-- What is under the root: the mean square of a row plus the small constant. -/
def under (x : Fin 1024 → EReal) : EReal := Ideal.div (∑ k, x k * x k) ((1024 : ℝ) : EReal) + ((eps : ℝ) : EReal)

/-- The reciprocal root mean square of a row. -/
def rr (x : Fin 1024 → EReal) : EReal := Ideal.rsqrt (under x)

/-- The gradient of the norm's input, from the cotangent `D` of the normalised row. -/
def dx (x D : Fin 1024 → EReal) (j : Fin 1024) : EReal :=
  rr x * (D j - x j * rr x * Ideal.div (∑ k, D k * (x k * rr x)) ((1024 : ℝ) : EReal))

/-- The part of that gradient that goes through the root, for one of the two factors of the square. -/
def thr (x D : Fin 1024 → EReal) : EReal :=
  Ideal.div ((∑ k, x k * D k) * (((-(1 / 2) : ℝ) : EReal) * Ideal.div (rr x) (under x))) ((1024 : ℝ) : EReal)

theorem dx_eq (x D : Fin 1024 → EReal) (j : Fin 1024) : dx x D j = D j * rr x + x j * thr x D + thr x D * x j := by
  obtain ⟨r, hr, e1, e2⟩ := root (∑ k, x k * x k) (Finset.sum_nonneg fun k _ => sq_nonneg _)
  have e1' : rr x = r := e1
  have e2' : Ideal.div (r : EReal) (under x) = ((r * r * r : ℝ) : EReal) := e2
  unfold dx thr
  rw [e1', e2']
  exact grad x D hr j

end Cert.Proof.Rms

end
-- ==== Proof.Whole.lean ====
/- Loads and stores through the rectangle that is the whole block, at ranks two to four: the load reads the block, the store
   leaves its payload. -/
module

public import Idealize.ShloMosaic.Lib.Pointwise
public import Idealize.ShloMosaic.Lib.ValueIdx
public import Idealize.ShloMosaic.Lib.Pipeline.Value

@[expose] public section

noncomputable section

namespace Cert.Proof.Whole

open Idealize.ShloMosaic

variable {Val : EltTy → Type} {e : EltTy}

theorem zeros2 : (![0, 0] : Fin 2 → Nat) = fun _ => 0 := by
  funext a; match a with | ⟨0, _⟩ => rfl | ⟨1, _⟩ => rfl

theorem zeros3 : (![0, 0, 0] : Fin 3 → Nat) = fun _ => 0 := by
  funext a; match a with | ⟨0, _⟩ => rfl | ⟨1, _⟩ => rfl | ⟨2, _⟩ => rfl

theorem zeros4 : (![0, 0, 0, 0] : Fin 4 → Nat) = fun _ => 0 := by
  funext a; match a with | ⟨0, _⟩ => rfl | ⟨1, _⟩ => rfl | ⟨2, _⟩ => rfl | ⟨3, _⟩ => rfl

variable {d2 : Fin 2 → Nat} {d3 : Fin 3 → Nat} {d4 : Fin 4 → Nat}

theorem ld2 (inb) (X : (⟨2, d2⟩ : Shape).Idx → Val e) : View.ld X (Rect.unit (s := ⟨2, d2⟩) ![0, 0] d2 inb) = X :=
  View.ld_unit_zero (S := ⟨2, d2⟩) zeros2 inb X

theorem ld3 (inb) (X : (⟨3, d3⟩ : Shape).Idx → Val e) : View.ld X (Rect.unit (s := ⟨3, d3⟩) ![0, 0, 0] d3 inb) = X :=
  View.ld_unit_zero (S := ⟨3, d3⟩) zeros3 inb X

theorem ld4 (inb) (X : (⟨4, d4⟩ : Shape).Idx → Val e) : View.ld X (Rect.unit (s := ⟨4, d4⟩) ![0, 0, 0, 0] d4 inb) = X :=
  View.ld_unit_zero (S := ⟨4, d4⟩) zeros4 inb X

variable [∀ e, Nonempty (Val e)]

theorem canon2 (inb) (w : (⟨2, d2⟩ : Shape).Idx → Val e) (L : List (View.Piece Val ⟨2, d2⟩ e)) :
    View.canon ((⟨Rect.unit (s := ⟨2, d2⟩) ![0, 0] d2 inb, w⟩ : View.Piece Val ⟨2, d2⟩ e) :: L) = w :=
  View.canon_cons_unit_zero (S := ⟨2, d2⟩) zeros2 inb w L

theorem canon3 (inb) (w : (⟨3, d3⟩ : Shape).Idx → Val e) (L : List (View.Piece Val ⟨3, d3⟩ e)) :
    View.canon ((⟨Rect.unit (s := ⟨3, d3⟩) ![0, 0, 0] d3 inb, w⟩ : View.Piece Val ⟨3, d3⟩ e) :: L) = w :=
  View.canon_cons_unit_zero (S := ⟨3, d3⟩) zeros3 inb w L

theorem readCov2 {sig : RefSig} {κ : Kind} {sp : Space} (v : View sig κ sp ⟨2, d2⟩ e) (inb)
    (w : (⟨2, d2⟩ : Shape).Idx → Val e) :
    v.readCov [(⟨Rect.unit (s := ⟨2, d2⟩) ![0, 0] d2 inb, w⟩ : View.Piece Val ⟨2, d2⟩ e)] (Rect.unit (s := ⟨2, d2⟩) ![0, 0] d2 inb).toLoadRect = w :=
  View.readCov_unit_zero (S := ⟨2, d2⟩) v zeros2 inb w

theorem readCov3 {sig : RefSig} {κ : Kind} {sp : Space} (v : View sig κ sp ⟨3, d3⟩ e) (inb)
    (w : (⟨3, d3⟩ : Shape).Idx → Val e) :
    v.readCov [(⟨Rect.unit (s := ⟨3, d3⟩) ![0, 0, 0] d3 inb, w⟩ : View.Piece Val ⟨3, d3⟩ e)] (Rect.unit (s := ⟨3, d3⟩) ![0, 0, 0] d3 inb).toLoadRect = w :=
  View.readCov_unit_zero (S := ⟨3, d3⟩) v zeros3 inb w

end Cert.Proof.Whole

end
-- ==== Proof.LossPoint.lean ====
/- What one grid point of the loss and final norm's gradient leaves in its three outputs, as the kernel's own
   expressions of the point's blocks. -/
module

public import proofs.«01_k».proof.Proof.Gen.LossIdeal.Value
public import proofs.«01_k».proof.Proof.RmsLaws
public import proofs.«01_k».proof.Proof.Whole

@[expose] public section

set_option maxRecDepth 16384

noncomputable section

namespace Cert.Proof.LossPoint

open Idealize.ShloMosaic Idealize.SL.Sem Cert.LossIdeal Cert.LossIdeal.Gen Cert.Proof.Rms Cert.Proof.Whole

variable (m : (ℓ : Loc nD τ sig) → Buf (Elt Ideal) ℓ)

/-- The first point: the two running sums start from zero. -/
theorem outs_first (c : Dev nD) (t : Fin cfg0.N) (h0 : t.val % 8 = 0) :
    outsAt0 m c t.val t.isLt =
      (k0_pay9 (iblk m c 0 t) (iblk m c 1 t) (iblk m c 2 t) (k0_pay5 (F := Ideal)),
       k0_pay3 (iblk m c 0 t) (k0_pay7 (iblk m c 1 t)) (k0_pay10 (iblk m c 0 t) (iblk m c 1 t) (iblk m c 2 t)),
       k0_pay4 (iblk m c 0 t) (k0_pay10 (iblk m c 0 t) (iblk m c 1 t) (iblk m c 2 t)) (k0_pay6 (F := Ideal))) := by
  rw [outsAt0_A m c t h0]
  refine Prod.ext ?_ (Prod.ext ?_ ?_)
  · dsimp only
    unfold out0_A_3
    rw [View.read_writes_eq_canon _ _ _ (cover0_A_3 c _ _ _ _ _ _ _ _ _ _ _ _ _ _ _ _ _)]
    unfold kernelRun0_A
    dsimp only
    sl_unfold_words
    simp only [canon2, readCov2, View.readAt_eq_ld,
      (hs0_0 t).read_unread, (hs0_1 t).read_unread, (hs0_2 t).read_unread, ld2]
  · dsimp only
    unfold out0_A_4
    rw [View.read_writes_eq_canon _ _ _ (cover0_A_4 c _ _ _ _ _ _ _ _ _ _ _ _ _ _ _ _ _)]
    unfold kernelRun0_A
    dsimp only
    sl_unfold_words
    simp only [canon2, readCov2, View.readAt_eq_ld,
      (hs0_0 t).read_unread, (hs0_1 t).read_unread, (hs0_2 t).read_unread, ld2]
  · dsimp only
    unfold out0_A_5
    rw [View.read_writes_eq_canon _ _ _ (cover0_A_5 c _ _ _ _ _ _ _ _ _ _ _ _ _ _ _ _ _)]
    unfold kernelRun0_A
    dsimp only
    sl_unfold_words
    simp only [canon2, readCov2, View.readAt_eq_ld,
      (hs0_0 t).read_unread, (hs0_1 t).read_unread, (hs0_2 t).read_unread, ld2]

/-- A later point adds to what the point before left in the two sums. -/
theorem outs_next (c : Dev nD) (t : Fin cfg0.N) (h0 : ¬t.val % 8 = 0) :
    outsAt0 m c t.val t.isLt =
      (k0_pay9 (iblk m c 0 t) (iblk m c 1 t) (iblk m c 2 t) (outsAt0 m c (t.val - 1) (Nat.lt_of_le_of_lt (Nat.sub_le _ _) t.isLt)).1,
       k0_pay3 (iblk m c 0 t) (k0_pay7 (iblk m c 1 t)) (k0_pay10 (iblk m c 0 t) (iblk m c 1 t) (iblk m c 2 t)),
       k0_pay4 (iblk m c 0 t) (k0_pay10 (iblk m c 0 t) (iblk m c 1 t) (iblk m c 2 t))
         (outsAt0 m c (t.val - 1) (Nat.lt_of_le_of_lt (Nat.sub_le _ _) t.isLt)).2.2) := by
  rw [outsAt0_B m c t h0]
  refine Prod.ext ?_ (Prod.ext ?_ ?_)
  · dsimp only
    unfold out0_B_3
    rw [View.read_writes_eq_canon _ _ _ (cover0_B_3 c _ _ _ _ _ _ _ _ _ _ _ _ _ _ _ _ _ _ _)]
    unfold kernelRun0_B
    dsimp only
    sl_unfold_words
    simp only [canon2, View.readAt_eq_ld, (hs0_3 t).read_unread,
      (hs0_0 t).read_unread, (hs0_1 t).read_unread, (hs0_2 t).read_unread, ld2]
  · dsimp only
    unfold out0_B_4
    rw [View.read_writes_eq_canon _ _ _ (cover0_B_4 c _ _ _ _ _ _ _ _ _ _ _ _ _ _ _ _ _ _ _)]
    unfold kernelRun0_B
    dsimp only
    sl_unfold_words
    simp only [canon2, View.readAt_eq_ld,
      (hs0_0 t).read_unread, (hs0_1 t).read_unread, (hs0_2 t).read_unread, ld2]
  · dsimp only
    unfold out0_B_5
    rw [View.read_writes_eq_canon _ _ _ (cover0_B_5 c _ _ _ _ _ _ _ _ _ _ _ _ _ _ _ _ _ _ _)]
    unfold kernelRun0_B
    dsimp only
    sl_unfold_words
    simp only [canon2, View.readAt_eq_ld, (hs0_5 t).read_unread,
      (hs0_0 t).read_unread, (hs0_1 t).read_unread, (hs0_2 t).read_unread, ld2]

end Cert.Proof.LossPoint

end
-- ==== Proof.Tiles.lean ====
/- Sums over the rows of an array taken tile by tile, and running sums over the points of a grid. -/
module

public import Idealize.ShloMosaic.Lib.Pointwise
public import Idealize.ShloMosaic.Lib.ValueIdx

@[expose] public section

noncomputable section

namespace Cert.Proof.Tiles

open Idealize.ShloMosaic

variable {M : Type*} [AddCommMonoid M]

theorem tile_lt {a b n : ℕ} (h : n = a * b) (s : Fin a) (p : Fin b) : s.val * b + p.val < n := by
  subst h
  calc s.val * b + p.val < s.val * b + b := by have := p.isLt; omega
    _ = (s.val + 1) * b := by ring
    _ ≤ a * b := Nat.mul_le_mul_right _ s.isLt

/-- A sum over `a * b` rows is the sum over `a` tiles of the sums over the `b` rows of each. -/
theorem sum_tiles {a b n : ℕ} (h : n = a * b) (f : Fin n → M) :
    ∑ i, f i = ∑ s : Fin a, ∑ p : Fin b, f ⟨s.val * b + p.val, tile_lt h s p⟩ := by
  subst h
  rw [← Fintype.sum_prod_type', ← finProdFinEquiv.sum_comp]
  refine Finset.sum_congr rfl fun x _ => congrArg f (Fin.ext ?_)
  show x.2.val + b * x.1.val = _
  rw [add_comm, mul_comm]

/-- A running sum over the points of a grid ends at the sum over all of them. -/
theorem running {N : ℕ} (f : (n : ℕ) → n < N → M) (L : Fin N → M)
    (h0 : ∀ h : 0 < N, f 0 h = L ⟨0, h⟩)
    (hs : ∀ (n : ℕ) (h : n + 1 < N), f (n + 1) h = f n (Nat.lt_of_succ_lt h) + L ⟨n + 1, h⟩) :
    ∀ (n : ℕ) (h : n < N), f n h = ∑ s : Fin (n + 1), L ⟨s.val, lt_of_lt_of_le s.isLt h⟩
  | 0, h => by rw [h0 h]; simp
  | n + 1, h => by rw [hs n h, running f L h0 hs n, Fin.sum_univ_castSucc (n := n + 1)]; rfl

theorem running_last {N : ℕ} (f : (n : ℕ) → n < N → M) (L : Fin N → M)
    (h0 : ∀ h : 0 < N, f 0 h = L ⟨0, h⟩)
    (hs : ∀ (n : ℕ) (h : n + 1 < N), f (n + 1) h = f n (Nat.lt_of_succ_lt h) + L ⟨n + 1, h⟩)
    (n : ℕ) (h : n < N) (hn : n + 1 = N) : f n h = ∑ s : Fin N, L s := by
  rw [running f L h0 hs n h]
  subst hn
  rfl

end Cert.Proof.Tiles

end
-- ==== Proof.LossValue.lean ====
/- The loss and the gradient of the final norm: what the kernel's outputs hold at the end, as sums over the whole arrays. -/
module

public import proofs.«01_k».proof.Proof.LossPoint
public import proofs.«01_k».proof.Proof.Tiles

@[expose] public section

set_option maxRecDepth 16384

noncomputable section

namespace Cert.Proof.LossValue

open Idealize.ShloMosaic Idealize.SL.Sem Cert.LossIdeal Cert.LossIdeal.Gen Cert.Proof.Rms Cert.Proof.LossPoint Cert.Proof.Tiles
open Idealize.ShloMosaic.Pipeline (Dat Cfg Window)

variable (m : (ℓ : Loc nD τ sig) → Buf (Elt Ideal) ℓ)

/-! ### The kernel's expressions at an index -/

/-- The error of a row: its normalised entries times the gain, less the target. -/
def er (x g y : Fin 1024 → EReal) (j : Fin 1024) : EReal := x j * rr x * g j - y j

/-- The cotangent of the normalised row. -/
def dy (x g y : Fin 1024 → EReal) (j : Fin 1024) : EReal := er x g y j * ((1 / 1024 : ℝ) : EReal)

theorem pay8_at (x : Vec Ideal S512x1024 .f32) (g : Vec Ideal S1x1024 .f32) (y : Vec Ideal S512x1024 .f32) (p : Fin 512) (j : Fin 1024) :
    k0_pay8 x g y (ix2 p j) = er (fun k => x (ix2 p k)) (fun k => g (ix2 0 k)) (fun k => y (ix2 p k)) j := by
  unfold er rr under
  rw [← c1024, ← cEps]
  pointwise [k0_pay8, k0_pay7]

theorem pay10_at (x : Vec Ideal S512x1024 .f32) (g : Vec Ideal S1x1024 .f32) (y : Vec Ideal S512x1024 .f32) (p : Fin 512) (j : Fin 1024) :
    k0_pay10 x g y (ix2 p j) = dy (fun k => x (ix2 p k)) (fun k => g (ix2 0 k)) (fun k => y (ix2 p k)) j := by
  unfold dy
  rw [← pay8_at, ← cInv1024]
  pointwise [k0_pay10]

theorem pay9_at (x : Vec Ideal S512x1024 .f32) (g : Vec Ideal S1x1024 .f32) (y : Vec Ideal S512x1024 .f32) (a : Vec Ideal S1x128 .f32) (j : Fin 128) :
    k0_pay9 x g y a (ix2 0 j) = a (ix2 0 j) + ((1 / 2 : ℝ) : EReal) * ∑ p : Fin 512, Ideal.div
      (∑ k, er (fun k => x (ix2 p k)) (fun k => g (ix2 0 k)) (fun k => y (ix2 p k)) k * er (fun k => x (ix2 p k)) (fun k => g (ix2 0 k)) (fun k => y (ix2 p k)) k) ((1024 : ℝ) : EReal) := by
  simp only [← pay8_at]
  rw [← c1024, ← cHalf]
  pointwise [k0_pay9]

theorem pay3_at (x : Vec Ideal S512x1024 .f32) (g : Vec Ideal S1x1024 .f32) (d : Vec Ideal S512x1024 .f32) (p : Fin 512) (j : Fin 1024) :
    k0_pay3 x (k0_pay7 g) d (ix2 p j) = rr (fun k => x (ix2 p k)) * (d (ix2 p j) * g (ix2 0 j) - x (ix2 p j) * rr (fun k => x (ix2 p k))
      * Ideal.div (∑ k, d (ix2 p k) * g (ix2 0 k) * (x (ix2 p k) * rr (fun k => x (ix2 p k)))) ((1024 : ℝ) : EReal)) := by
  unfold rr under
  rw [← c1024, ← cEps]
  pointwise [k0_pay3, k0_pay1, k0_pay2, k0_pay7]

theorem pay4_at (x : Vec Ideal S512x1024 .f32) (d : Vec Ideal S512x1024 .f32) (a : Vec Ideal S1x1024 .f32) (j : Fin 1024) :
    k0_pay4 x d a (ix2 0 j) = a (ix2 0 j) + ∑ p : Fin 512, d (ix2 p j) * (x (ix2 p j) * rr (fun k => x (ix2 p k))) := by
  unfold rr under
  rw [← c1024, ← cEps]
  pointwise [k0_pay4, k0_pay1, k0_pay2]

/-! ### The blocks of the arguments -/

abbrev ah (c : Dev nD) : S4096x1024.Idx → EReal := m ((c.tc : Thread nD τ).loc main_arg0)
abbrev ag (c : Dev nD) : S1024.Idx → EReal := m ((c.tc : Thread nD τ).loc main_arg1)
abbrev ay (c : Dev nD) : S4096x1024.Idx → EReal := m ((c.tc : Thread nD τ).loc main_arg2)

/-- Row `p` of block `t` in the whole array. -/
def row (t : Fin cfg0.N) (p : Fin 512) : Fin 4096 :=
  ⟨t.val * 512 + p.val, by have := lt_of_lt_of_eq t.isLt (show cfg0.N = 8 from N_0); omega⟩

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)

theorem blk0 (c : Dev nD) (t : Fin cfg0.N) (p : Fin 512) (k : Fin 1024) :
    iblk m c 0 t (ix2 p k) = ah m c (ix2 (row t p) k) := by
  unfold iblk
  rw [View.read_apply]
  show V m c main_arg0 _ = _
  rw [V_main_arg0]
  refine congrArg (ah m c) (Shape.idx_ext₂ ?_ ?_)
  · refine (Window.rect_emb_val win0_0 t (ix2 p k) 0).trans ?_
    rw [(index0 t).1]; rfl
  · refine (Window.rect_emb_val win0_0 t (ix2 p k) 1).trans ?_
    rw [(index0 t).2]; exact Nat.zero_add _

theorem blk2 (c : Dev nD) (t : Fin cfg0.N) (p : Fin 512) (k : Fin 1024) :
    iblk m c 2 t (ix2 p k) = ay m c (ix2 (row t p) k) := by
  unfold iblk
  rw [View.read_apply]
  show V m c main_arg2 _ = _
  rw [V_main_arg2]
  refine congrArg (ay m c) (Shape.idx_ext₂ ?_ ?_)
  · refine (Window.rect_emb_val win0_2 t (ix2 p k) 0).trans ?_
    rw [(index2 t).1]; rfl
  · refine (Window.rect_emb_val win0_2 t (ix2 p k) 1).trans ?_
    rw [(index2 t).2]; exact Nat.zero_add _

theorem blk1 (c : Dev nD) (t : Fin cfg0.N) (k : Fin 1024) :
    iblk m c 1 t (ix2 0 k) = ag m c (ix1 k) := by
  unfold iblk
  rw [View.read_apply]
  show V m c main_v0 _ = _
  have hV : V m c main_v0 = shapeCast S1x1024 (ag m c) shapeCasts_S1024_S1x1024 := by
    dsimp only [V]; after_results_simp <;> rfl
  have he : ((cfg0.win 1).blk t).view.emb (ix2 0 k) = ix2 0 k := by
    refine Shape.idx_ext₂ ?_ ?_
    · refine (Window.rect_emb_val win0_1 t (ix2 0 k) 0).trans ?_
      rw [(index1 t).1]; exact Nat.zero_add _
    · refine (Window.rect_emb_val win0_1 t (ix2 0 k) 1).trans ?_
      rw [(index1 t).2]; exact Nat.zero_add _
  rw [hV, he]
  pointwise

/-! ### The outputs after a point -/

/-- The row's share of the loss, before the half. -/
def ms (x g y : Fin 1024 → EReal) : EReal := Ideal.div (∑ k, er x g y k * er x g y k) ((1024 : ℝ) : EReal)

abbrev xr (c : Dev nD) (i : Fin 4096) : Fin 1024 → EReal := fun k => ah m c (ix2 i k)
abbrev gr (c : Dev nD) : Fin 1024 → EReal := fun k => ag m c (ix1 k)
abbrev yr (c : Dev nD) (i : Fin 4096) : Fin 1024 → EReal := fun k => ay m c (ix2 i k)

/-- What a point adds to the loss, and to the gradient of the gain. -/
def tileLoss (c : Dev nD) (t : Fin cfg0.N) : EReal :=
  ((1 / 2 : ℝ) : EReal) * ∑ p : Fin 512, ms (xr m c (row t p)) (gr m c) (yr m c (row t p))
def tileGain (c : Dev nD) (j : Fin 1024) (t : Fin cfg0.N) : EReal :=
  ∑ p : Fin 512, dy (xr m c (row t p)) (gr m c) (yr m c (row t p)) j * (xr m c (row t p) j * rr (xr m c (row t p)))

theorem out_dh (c : Dev nD) (t : Fin cfg0.N) (p : Fin 512) (j : Fin 1024) :
    (outsAt0 m c t.val t.isLt).2.1 (ix2 p j)
      = dx (xr m c (row t p)) (fun k => dy (xr m c (row t p)) (gr m c) (yr m c (row t p)) k * gr m c k) j := by
  have h : (outsAt0 m c t.val t.isLt).2.1
      = k0_pay3 (iblk m c 0 t) (k0_pay7 (iblk m c 1 t)) (k0_pay10 (iblk m c 0 t) (iblk m c 1 t) (iblk m c 2 t)) := by
    by_cases h0 : t.val % 8 = 0
    · rw [outs_first m c t h0]
    · rw [outs_next m c t h0]
  rw [h]
  refine (pay3_at _ _ _ p j).trans ?_
  simp only [pay10_at, blk0, blk1, blk2, dx]

theorem add_loss (c : Dev nD) (t : Fin cfg0.N) (a : Vec Ideal S1x128 .f32) (j : Fin 128) :
    k0_pay9 (iblk m c 0 t) (iblk m c 1 t) (iblk m c 2 t) a (ix2 0 j) = a (ix2 0 j) + tileLoss m c t := by
  refine (pay9_at _ _ _ a j).trans ?_
  simp only [blk0, blk1, blk2, tileLoss, ms]

theorem add_gain (c : Dev nD) (t : Fin cfg0.N) (a : Vec Ideal S1x1024 .f32) (j : Fin 1024) :
    k0_pay4 (iblk m c 0 t) (k0_pay10 (iblk m c 0 t) (iblk m c 1 t) (iblk m c 2 t)) a (ix2 0 j) = a (ix2 0 j) + tileGain m c j t := by
  refine (pay4_at _ _ a j).trans ?_
  simp only [pay10_at, blk0, blk1, blk2, tileGain]

theorem zero5 (j : Fin 128) : k0_pay5 (F := Ideal) (ix2 0 j) = 0 := by pointwise [k0_pay5]
theorem zero6 (j : Fin 1024) : k0_pay6 (F := Ideal) (ix2 0 j) = 0 := by pointwise [k0_pay6]

theorem lt8 (n : ℕ) (h : n < cfg0.N) : n < 8 := lt_of_lt_of_eq h (show cfg0.N = 8 from N_0)

theorem out_loss (c : Dev nD) (t : Fin cfg0.N) (ht : t.val % 8 = 7) (j : Fin 128) :
    (outsAt0 m c t.val t.isLt).1 (ix2 0 j) = ∑ s : Fin cfg0.N, tileLoss m c s := by
  refine running_last (fun n h => (outsAt0 m c n h).1 (ix2 0 j)) (tileLoss m c) (fun h => ?_) (fun n h => ?_) t.val t.isLt ?_
  · show (outsAt0 m c (⟨0, h⟩ : Fin cfg0.N).val _).1 _ = _
    rw [outs_first m c ⟨0, h⟩ rfl]
    exact (add_loss m c _ _ j).trans (by rw [zero5, zero_add])
  · show (outsAt0 m c (⟨n + 1, h⟩ : Fin cfg0.N).val _).1 _ = _
    rw [outs_next m c ⟨n + 1, h⟩ (by have := lt8 _ h; show ¬(n + 1) % 8 = 0; omega)]
    exact add_loss m c _ _ j
  · have := lt8 _ t.isLt
    exact (show t.val + 1 = 8 by omega).trans (show cfg0.N = 8 from N_0).symm

theorem out_gain (c : Dev nD) (t : Fin cfg0.N) (ht : t.val % 8 = 7) (j : Fin 1024) :
    (outsAt0 m c t.val t.isLt).2.2 (ix2 0 j) = ∑ s : Fin cfg0.N, tileGain m c j s := by
  refine running_last (fun n h => (outsAt0 m c n h).2.2 (ix2 0 j)) (tileGain m c j) (fun h => ?_) (fun n h => ?_) t.val t.isLt ?_
  · show (outsAt0 m c (⟨0, h⟩ : Fin cfg0.N).val _).2.2 _ = _
    rw [outs_first m c ⟨0, h⟩ rfl]
    exact (add_gain m c _ _ j).trans (by rw [zero6, zero_add])
  · show (outsAt0 m c (⟨n + 1, h⟩ : Fin cfg0.N).val _).2.2 _ = _
    rw [outs_next m c ⟨n + 1, h⟩ (by have := lt8 _ h; show ¬(n + 1) % 8 = 0; omega)]
    exact add_gain m c _ _ j
  · have := lt8 _ t.isLt
    exact (show t.val + 1 = 8 by omega).trans (show cfg0.N = 8 from N_0).symm

/-! ### The arrays at the end -/

theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = t.val ∧ win0_4.index t 1 = 0 :=
  (by decide +kernel : ∀ t : Fin grid0.N, win0_4.index t 0 = t.val ∧ win0_4.index t 1 = 0)
theorem index5 : ∀ t : Fin cfg0.N, win0_5.index t 0 = 0 ∧ win0_5.index t 1 = 0 :=
  (by decide +kernel : ∀ t : Fin grid0.N, win0_5.index t 0 = 0 ∧ win0_5.index t 1 = 0)

theorem emb3 (t : Fin cfg0.N) (j : Fin 128) : ((cfg0.win 3).blk t).view.emb (ix2 0 j) = ix2 0 j := by
  refine Shape.idx_ext₂ ?_ ?_
  · refine (Window.rect_emb_val win0_3 t (ix2 0 j) 0).trans ?_
    rw [(index3 t).1]; exact Nat.zero_add _
  · refine (Window.rect_emb_val win0_3 t (ix2 0 j) 1).trans ?_
    rw [(index3 t).2]; exact Nat.zero_add _

theorem emb5 (t : Fin cfg0.N) (j : Fin 1024) : ((cfg0.win 5).blk t).view.emb (ix2 0 j) = ix2 0 j := by
  refine Shape.idx_ext₂ ?_ ?_
  · refine (Window.rect_emb_val win0_5 t (ix2 0 j) 0).trans ?_
    rw [(index5 t).1]; exact Nat.zero_add _
  · refine (Window.rect_emb_val win0_5 t (ix2 0 j) 1).trans ?_
    rw [(index5 t).2]; exact Nat.zero_add _

theorem emb4 (t : Fin cfg0.N) (p : Fin 512) (k : Fin 1024) :
    ((cfg0.win 4).blk t).view.emb (ix2 p k) = ix2 (row t p) k := by
  refine Shape.idx_ext₂ ?_ ?_
  · refine (Window.rect_emb_val win0_4 t (ix2 p k) 0).trans ?_
    rw [(index4 t).1]; rfl
  · refine (Window.rect_emb_val win0_4 t (ix2 p k) 1).trans ?_
    rw [(index4 t).2]; exact Nat.zero_add _

/-- The last point. -/
def last : Fin cfg0.N := ⟨7, by rw [show cfg0.N = 8 from N_0]; decide⟩

theorem end_dh (c : Dev nD) : (dats m 0 c).arrAt 4 cfg0.N = fun i : S4096x1024.Idx =>
    dx (xr m c (i 0)) (fun k => dy (xr m c (i 0)) (gr m c) (yr m c (i 0)) k * gr m c k) (i 1) := by
  refine Dat.arrAt_eq_of_cover (dats m 0 c) 4 _ (fun t _ => ?_) (fun i => ?_)
  · rw [Value.flushed4]
    funext y
    obtain ⟨p, k, rfl⟩ : ∃ (p : Fin 512) (k : Fin 1024), y = ix2 p k := ⟨y 0, y 1, eq_ix2 y⟩
    rw [View.read_apply, emb4]
    exact out_dh m c t p k
  · obtain ⟨r, k, rfl⟩ : ∃ (r : Fin 4096) (k : Fin 1024), i = ix2 r k := ⟨i 0, i 1, eq_ix2 i⟩
    have hr := r.isLt
    have ht : r.val / 512 < cfg0.N := by rw [show cfg0.N = 8 from N_0]; omega
    have h := View.emb_mem_set ((cfg0.win 4).blk ⟨_, ht⟩).view (ix2 (⟨r.val % 512, Nat.mod_lt _ (by norm_num)⟩ : Fin 512) k)
    rw [emb4] at h
    refine ⟨⟨_, ht⟩, flush0_4 _, ?_⟩
    rwa [show row ⟨_, ht⟩ ⟨r.val % 512, Nat.mod_lt _ (by norm_num)⟩ = r from
      Fin.ext (show r.val / 512 * 512 + r.val % 512 = r.val by omega)] at h

theorem end_loss (c : Dev nD) : (dats m 0 c).arrAt 3 cfg0.N = fun _ : S1x128.Idx => ∑ s : Fin cfg0.N, tileLoss m c s := by
  refine Dat.arrAt_eq_of_cover (dats m 0 c) 3 _ (fun t hf => ?_) (fun i => ?_)
  · rw [Value.flushed3]
    funext y
    obtain ⟨p, k, rfl⟩ : ∃ (p : Fin 1) (k : Fin 128), y = ix2 p k := ⟨y 0, y 1, eq_ix2 y⟩
    obtain rfl := Fin.fin_one_eq_zero p
    rw [View.read_apply]
    exact out_loss m c t ((flush0_3 t).mp hf) k
  · refine ⟨last, (flush0_3 _).mpr rfl, ?_⟩
    obtain ⟨r, k, rfl⟩ : ∃ (r : Fin 1) (k : Fin 128), i = ix2 r k := ⟨i 0, i 1, eq_ix2 i⟩
    obtain rfl := Fin.fin_one_eq_zero r
    have h := View.emb_mem_set ((cfg0.win 3).blk last).view (ix2 (0 : Fin 1) k)
    rwa [emb3] at h

theorem end_gain (c : Dev nD) : (dats m 0 c).arrAt 5 cfg0.N = fun i : S1x1024.Idx => ∑ s : Fin cfg0.N, tileGain m c (i 1) s := by
  refine Dat.arrAt_eq_of_cover (dats m 0 c) 5 _ (fun t hf => ?_) (fun i => ?_)
  · rw [Value.flushed5]
    funext y
    obtain ⟨p, k, rfl⟩ : ∃ (p : Fin 1) (k : Fin 1024), y = ix2 p k := ⟨y 0, y 1, eq_ix2 y⟩
    obtain rfl := Fin.fin_one_eq_zero p
    rw [View.read_apply, emb5]
    exact out_gain m c t ((flush0_5 t).mp hf) k
  · refine ⟨last, (flush0_5 _).mpr rfl, ?_⟩
    obtain ⟨r, k, rfl⟩ : ∃ (r : Fin 1) (k : Fin 1024), i = ix2 r k := ⟨i 0, i 1, eq_ix2 i⟩
    obtain rfl := Fin.fin_one_eq_zero r
    have h := View.emb_mem_set ((cfg0.win 5).blk last).view (ix2 (0 : Fin 1) k)
    rwa [emb5] at h

end Cert.Proof.LossValue

end
-- ==== Proof.LossRef.lean ====
/- The loss and the gradient of the final norm: the reference's results read at an index, and their agreement with what the
   kernel's outputs hold at the end. -/
module

public import proofs.«01_k».proof.Defs
public import proofs.«01_k».proof.Proof.LossValue
public import proofs.«01_k».proof.Proof.Gen.LossRefIdeal.Read

@[expose] public section

set_option maxRecDepth 16384

noncomputable section

namespace Cert.Proof.LossRef

open Idealize.ShloMosaic Idealize.SL.Sem Cert.LossRefIdeal Cert.LossRefIdeal.Read Cert.Proof.Rms Cert.Proof.Tiles
open Cert.Proof.LossValue (er dy ms)

variable (X : S4096x1024.Idx → EReal) (G : S1024.Idx → EReal) (Y : S4096x1024.Idx → EReal)

abbrev x (i : Fin 4096) : Fin 1024 → EReal := fun k => X (ix2 i k)
abbrev g : Fin 1024 → EReal := fun k => G (ix1 k)
abbrev y (i : Fin 4096) : Fin 1024 → EReal := fun k => Y (ix2 i k)

theorem under_at (i : S4096x1.Idx) : val_main_v6 (F := Ideal) X i = under (x X (i 0)) := by
  have e : ∀ k, val_main_v0 (F := Ideal) X (idx_main_v1 (idx_main_v2 i) k) = x X (i 0) k * x X (i 0) k := fun k => by
    rw [val_main_v0_apply, show idx_main_v1 (idx_main_v2 i) k = ix2 (i 0) k from Shape.idx_ext₂ rfl rfl]; rfl
  rw [val_main_v6_apply, val_main_v4_apply, val_main_v2_apply, val_main_v1_apply, val_main_v3_apply, val_main_v5_apply]
  simp only [e]
  show Ideal.div (Ideal.ofBits .f32 0x00000000#32 + _) (Ideal.ofBits .f32 0x44800000#32) + Ideal.ofBits .f32 0x358637BD#32 = _
  rw [Ideal.ofBits_zero_f32, zero_add, c1024, cEps]
  rfl

theorem rr_at (i : S4096x1.Idx) : val_main_v7 (F := Ideal) X i = rr (x X (i 0)) := by
  rw [val_main_v7_apply, under_at]; rfl

theorem er_at (i : S4096x1024.Idx) : val_main_v16 (F := Ideal) X G Y i = er (x X (i 0)) (g G) (y Y (i 0)) (i 1) := by
  rw [val_main_v16_apply, val_main_v15_apply, val_main_v12_apply, val_main_v11_apply, val_main_v14_apply, val_main_v13_apply, rr_at,
    show idx_main_v13 (idx_main_v14 i) = ix1 (i 1) from eq_ix1 _, eq_ix2 i]
  rfl

/-- The loss. -/
theorem loss_at (i : S1x128.Idx) : val_main_v51 (F := Ideal) X G Y i
    = ((1 / 2 : ℝ) : EReal) * ∑ r : Fin 4096, ms (x X r) (g G) (y Y r) := by
  have e : ∀ j : S4096.Idx, val_main_v22 (F := Ideal) X G Y j = ms (x X (j 0)) (g G) (y Y (j 0)) := fun j => by
    rw [val_main_v22_apply, val_main_v20_apply, val_main_v21_apply]
    simp only [val_main_v17_apply, er_at]
    show Ideal.div (Ideal.ofBits .f32 0x00000000#32 + _) (Ideal.ofBits .f32 0x44800000#32) = _
    rw [Ideal.ofBits_zero_f32, zero_add, c1024]
    rfl
  rw [val_main_v51_apply, val_main_v24_apply, val_main_v23_apply]
  simp only [e]
  show Ideal.ofBits .f32 0x3F000000#32 * (Ideal.ofBits .f32 0x00000000#32 + _) = _
  rw [Ideal.ofBits_zero_f32, zero_add, cHalf]
  exact congrArg _ (Equiv.sum_comp (Equiv.mk (fun r : Fin 4096 => (ix1 r : S4096.Idx)) (fun j => j 0) (fun _ => rfl) (fun j => (eq_ix1 j).symm))
    (fun j : S4096.Idx => ms (x X (j 0)) (g G) (y Y (j 0)))).symm

theorem cOne : Ideal.ofBits .f32 0x3F800000#32 = ((1 : ℝ) : EReal) := by
  simp [Ideal.ofBits, Ideal.ieee, -EReal.coe_mul]; norm_num

/-- The cotangent of the normalised and scaled row. -/
theorem dy_at (i : S4096x1024.Idx) : val_main_v30 (F := Ideal) X G Y i = dy (x X (i 0)) (g G) (y Y (i 0)) (i 1) := by
  rw [val_main_v30_apply, val_main_v29_apply, val_main_v28_apply, val_main_v26_apply, val_main_v25_apply, val_main_v27_apply,
    val_main_v19_apply, val_main_v18_apply, er_at]
  show Ideal.div (Ideal.ofBits .f32 0x3F000000#32 * Ideal.ofBits .f32 0x3F800000#32) (Ideal.ofBits .f32 0x44800000#32)
    * (Ideal.ofBits .f32 0x40000000#32 * er (x X (i 0)) (g G) (y Y (i 0)) (i 1)) = _
  rw [cHalf, cOne, c1024, cTwo, Ideal.div_coe (by norm_num), ← EReal.coe_mul, ← EReal.coe_mul, ← mul_assoc, ← EReal.coe_mul, mul_comm]
  unfold dy
  norm_num

theorem gain_at (i : S1x1024.Idx) : val_main_v52 (F := Ideal) X G Y i
    = ∑ r : Fin 4096, dy (x X r) (g G) (y Y r) (i 1) * (X (ix2 r (i 1)) * rr (x X r)) := by
  have e : ∀ r : Fin 4096, val_main_v31 (F := Ideal) X G Y (idx_main_v32 (ix1 (i 1)) r)
      = dy (x X r) (g G) (y Y r) (i 1) * (X (ix2 r (i 1)) * rr (x X r)) := fun r => by
    rw [val_main_v31_apply, val_main_v12_apply, val_main_v11_apply, rr_at, dy_at]
    conv_lhs => rw [show idx_main_v32 (ix1 (i 1)) r = ix2 r (i 1) from Shape.idx_ext₂ rfl rfl]
    exact mul_comm _ _
  rw [val_main_v52_apply, val_main_v36_apply, Fin.sum_univ_one, val_main_v33_apply, val_main_v32_apply]
  show Ideal.ofBits .f32 0x00000000#32 + (Ideal.ofBits .f32 0x00000000#32 + _) = _
  rw [Ideal.ofBits_zero_f32, zero_add, zero_add]
  have ei : idx_main_v33 (idx_main_v36 (idx_main_v52 i) 0) = ix1 (i 1) := (eq_ix1 _).trans (congrArg ix1 (Fin.ext (by
    have h0 : (i 0).val < 1 := (i 0).isLt
    show 0 * 1024 + ((i 0).val * 1024 + (i 1).val) = (i 1).val
    omega)))
  rw [ei]
  exact Finset.sum_congr rfl fun r _ => e r

theorem dD_at (i : S4096x1024.Idx) : val_main_v35 (F := Ideal) X G Y i
    = dy (x X (i 0)) (g G) (y Y (i 0)) (i 1) * g G (i 1) := by
  rw [val_main_v35_apply, val_main_v34_apply, val_main_v13_apply, dy_at,
    show idx_main_v13 (idx_main_v34 i) = ix1 (i 1) from eq_ix1 _]
  rfl

theorem dh_at (r : Fin 4096) (j : Fin 1024) : val_main_v50 (F := Ideal) X G Y (ix2 r j)
    = dx (x X r) (fun k => dy (x X r) (g G) (y Y r) k * g G k) j := by
  rw [dx_eq]
  have e : val_main_v46 (F := Ideal) X G Y (ix2 r j) = thr (x X r) (fun k => dy (x X r) (g G) (y Y r) k * g G k) := by
    have e' : ∀ k, val_main_v37 (F := Ideal) X G Y (ix2 r k) = x X r k * (dy (x X r) (g G) (y Y r) k * g G k) := fun k => by
      rw [val_main_v37_apply, dD_at]; rfl
    rw [val_main_v46_apply, val_main_v45_apply, Fin.sum_univ_one, val_main_v44_apply, val_main_v43_apply, val_main_v42_apply,
      val_main_v39_apply, val_main_v38_apply, val_main_v10_apply, val_main_v9_apply, val_main_v8_apply, under_at, rr_at]
    have ei : ∀ k, idx_main_v38 (idx_main_v39 (idx_main_v45 (idx_main_v46 (ix2 r j)) 0)) k = ix2 r k := fun k => Shape.idx_ext₂ (by
      show r.val * 1 + 0 = r.val; omega) rfl
    simp only [ei, e']
    show Ideal.ofBits .f32 0x00000000#32 + Ideal.div ((Ideal.ofBits .f32 0x00000000#32 + _) * (Ideal.ofBits .f32 0xBF000000#32
      * Ideal.div (rr (x X r)) (under (x X r)))) (Ideal.ofBits .f32 0x44800000#32) = _
    rw [Ideal.ofBits_zero_f32, zero_add, zero_add, cNegHalf, c1024]
    rfl
  rw [val_main_v50_apply, val_main_v48_apply, val_main_v49_apply, val_main_v47_apply, val_main_v41_apply, val_main_v40_apply, rr_at, dD_at, e]
  rfl

/-! ### The two programs' results -/

open Cert.Proof.LossValue (tileLoss tileGain row xr gr yr end_loss end_dh end_gain)
open Cert.LossIdeal (cfg0)
open Cert.LossIdeal.Gen (dats N_0)

variable (m : (ℓ : Loc Cert.LossIdeal.nD Cert.LossIdeal.τ Cert.LossIdeal.sig) → Buf (Elt Ideal) ℓ)

theorem rows : 4096 = cfg0.N * 512 := by rw [show cfg0.N = 8 from N_0]

theorem eq_loss (c : Dev Cert.LossIdeal.nD) :
    val_main_v51 (F := Ideal) (LossValue.ah m c) (LossValue.ag m c) (LossValue.ay m c) = (dats m 0 c).arrAt 3 cfg0.N := by
  rw [end_loss]
  funext i
  rw [loss_at, sum_tiles rows, mul_sum _ (by norm_num)]
  rfl

theorem eq_gain (c : Dev Cert.LossIdeal.nD) :
    val_main_v52 (F := Ideal) (LossValue.ah m c) (LossValue.ag m c) (LossValue.ay m c) = (dats m 0 c).arrAt 5 cfg0.N := by
  rw [end_gain]
  funext i
  rw [gain_at, sum_tiles rows]
  rfl

theorem eq_dh (c : Dev Cert.LossIdeal.nD) :
    val_main_v50 (F := Ideal) (LossValue.ah m c) (LossValue.ag m c) (LossValue.ay m c) = (dats m 0 c).arrAt 4 cfg0.N := by
  rw [end_dh]
  funext i
  obtain ⟨r, k, rfl⟩ : ∃ (r : Fin 4096) (k : Fin 1024), i = ix2 r k := ⟨i 0, i 1, eq_ix2 i⟩
  exact dh_at _ _ _ r k

theorem frame_ref : Cert.quiescent_LossRefIdeal := fun m ρ _ =>
  (θ_run Cert.LossRefIdeal.defs _ _).mono (fun _ h => ⟨fun c => (h c).2.2.2, sem_eq_zero_of_no_sems rfl _⟩) (Cert.LossRefIdeal.Value.run m ρ)

theorem algebraic : Cert.algebraic_LossIdeal_LossRefIdeal := by
  intro m ρ m' ρ' _ ha
  refine ⟨_, _, _, Cert.LossIdeal.Value.run_blocks m ρ, ?_⟩
  refine (θ_run Cert.LossRefIdeal.defs _ _).mono (fun r h c => ?_) (Cert.LossRefIdeal.Value.run m' ρ')
  obtain ⟨h0, h1, h2, h3, h4, h5⟩ := h c
  obtain ⟨a0, a1, a2⟩ := ha c
  refine ⟨?_, ?_, ?_, h3, h4, h5⟩
  · refine (h0.trans (val_main_v51_eq _ _ _)).trans ?_
    rw [a0, a1, a2]
    exact eq_loss m c
  · refine (h1.trans (val_main_v50_eq _ _)).trans ?_
    rw [a0, a1, a2]
    exact eq_dh m c
  · refine (h2.trans (val_main_v52_eq _ _ _)).trans ?_
    rw [a0, a1, a2]
    exact eq_gain m c

end Cert.Proof.LossRef

end
-- ==== Proof.Pieces.lean ====
/- Rank-two arrays written and read through rectangles: the store that holds an index is the one read there. -/
module

public import Idealize.ShloMosaic.Lib.Pointwise
public import Idealize.ShloMosaic.Lib.ValueIdx
public import Idealize.ShloMosaic.Lib.Pipeline.Value

@[expose] public section

noncomputable section

namespace Cert.Proof.Pieces

open Idealize.ShloMosaic

variable {Val : EltTy → Type} [∀ e, Nonempty (Val e)] {e : EltTy} {d : Fin 2 → ℕ} {a b n l : ℕ}

theorem readCov_ld {sig : RefSig} {κ : Kind} {sp : Space} {s : Shape} (v : View sig κ sp s e) (L : List (View.Piece Val s e)) (r : Rect s) :
    v.readCov L r.toLoadRect = View.ld (View.canon L) r := View.readCov_eq_canon' v L _

variable (inb : ∀ x, (![a, b] : Fin 2 → ℕ) x + (![n, l] : Fin 2 → ℕ) x ≤ d x)

/-- The last store, at an index of its rectangle. -/
theorem canon_hit (w : (⟨2, ![n, l]⟩ : Shape).Idx → Val e) (L : List (View.Piece Val ⟨2, d⟩ e)) (p : Fin n) (j : Fin l)
    (y : (⟨2, d⟩ : Shape).Idx) (h0 : (y 0).val = a + p.val) (h1 : (y 1).val = b + j.val) :
    View.canon ((⟨Rect.unit (s := ⟨2, d⟩) ![a, b] ![n, l] inb, w⟩ : View.Piece Val ⟨2, d⟩ e) :: L) y = w (ix2 p j) := by
  have hy : (Rect.unit (s := ⟨2, d⟩) ![a, b] ![n, l] inb).emb (ix2 p j) = y := by
    refine Shape.idx_ext₂ ?_ ?_
    · refine Eq.trans ?_ h0.symm
      show a + 1 * p.val = a + p.val
      omega
    · refine Eq.trans ?_ h1.symm
      show b + 1 * j.val = b + j.val
      omega
  rw [← hy]
  exact View.canon_cons_emb (Rect.unit (s := ⟨2, d⟩) ![a, b] ![n, l] inb) w L _

/-- Off the last store's rectangle, the earlier stores. -/
theorem canon_miss (w : (⟨2, ![n, l]⟩ : Shape).Idx → Val e) (L : List (View.Piece Val ⟨2, d⟩ e)) (y : (⟨2, d⟩ : Shape).Idx)
    (h : (y 0).val < a ∨ a + n ≤ (y 0).val ∨ (y 1).val < b ∨ b + l ≤ (y 1).val) :
    View.canon ((⟨Rect.unit (s := ⟨2, d⟩) ![a, b] ![n, l] inb, w⟩ : View.Piece Val ⟨2, d⟩ e) :: L) y = View.canon L y := by
  refine View.canon_cons_of_not_mem _ L fun hm => ?_
  have hm' := (Rect.mem_set_unit (inb := inb)).mp hm
  have m0 : a ≤ (y 0).val ∧ (y 0).val < a + n := hm' 0
  have m1 : b ≤ (y 1).val ∧ (y 1).val < b + l := hm' 1
  omega

/-- A load at an index. -/
theorem ld_hit (X : (⟨2, d⟩ : Shape).Idx → Val e) (p : Fin n) (j : Fin l) (y : (⟨2, d⟩ : Shape).Idx)
    (h0 : (y 0).val = a + p.val) (h1 : (y 1).val = b + j.val) :
    View.ld X (Rect.unit (s := ⟨2, d⟩) ![a, b] ![n, l] inb) (ix2 p j) = X y := by
  refine congrArg X (Shape.idx_ext₂ ?_ ?_)
  · refine Eq.trans ?_ h0.symm
    show a + 1 * p.val = a + p.val
    omega
  · refine Eq.trans ?_ h1.symm
    show b + 1 * j.val = b + j.val
    omega

/-- A load of whole rows from contents given by the row's number. -/
theorem ld_rows {N : ℕ} (inb : ∀ x, (![a, 0] : Fin 2 → ℕ) x + (![n, l] : Fin 2 → ℕ) x ≤ (![N, l] : Fin 2 → ℕ) x) (G : ℕ → Fin l → Val e) (p : Fin n) (j : Fin l) :
    View.ld (fun y : (⟨2, ![N, l]⟩ : Shape).Idx => G (y 0).val (y 1)) (Rect.unit (s := ⟨2, ![N, l]⟩) ![a, 0] ![n, l] inb) (ix2 p j)
      = G (a + p.val) j := by
  have ha : a + p.val < N := by
    have h : a + n ≤ N := inb 0
    have := p.isLt
    omega
  exact ld_hit inb _ p j (ix2 ⟨a + p.val, ha⟩ j) rfl (Nat.zero_add _).symm

/-- The contents left by a store of the rows from `n` on, after a store of the rows before. -/
theorem canon_two {N k : ℕ} (inb1 : ∀ x, (![n, 0] : Fin 2 → ℕ) x + (![k, l] : Fin 2 → ℕ) x ≤ (![N, l] : Fin 2 → ℕ) x)
    (inb0 : ∀ x, (![0, 0] : Fin 2 → ℕ) x + (![n, l] : Fin 2 → ℕ) x ≤ (![N, l] : Fin 2 → ℕ) x) (hN : N = n + k)
    (w1 : (⟨2, ![k, l]⟩ : Shape).Idx → Val e) (w0 : (⟨2, ![n, l]⟩ : Shape).Idx → Val e) (G : ℕ → Fin l → Val e)
    (h1 : ∀ p j, w1 (ix2 p j) = G (n + p.val) j) (h0 : ∀ p j, w0 (ix2 p j) = G p.val j) :
    View.canon [(⟨Rect.unit (s := ⟨2, ![N, l]⟩) ![n, 0] ![k, l] inb1, w1⟩ : View.Piece Val ⟨2, ![N, l]⟩ e),
      (⟨Rect.unit (s := ⟨2, ![N, l]⟩) ![0, 0] ![n, l] inb0, w0⟩ : View.Piece Val ⟨2, ![N, l]⟩ e)] = fun y => G (y 0).val (y 1) := by
  subst hN
  funext y
  have hy : (y 0).val < n + k := (y 0).isLt
  by_cases h : (y 0).val < n
  · rw [canon_miss inb1 w1 _ y (Or.inl h)]
    exact (canon_hit inb0 w0 [] ⟨(y 0).val, h⟩ (y 1) y (Nat.zero_add _).symm (Nat.zero_add _).symm).trans (h0 _ _)
  · refine (canon_hit inb1 w1 _ ⟨(y 0).val - n, by omega⟩ (y 1) y (by show (y 0).val = n + ((y 0).val - n); omega) (Nat.zero_add _).symm).trans ((h1 _ _).trans ?_)
    show G (n + ((y 0).val - n)) (y 1) = _
    rw [Nat.add_sub_cancel' (Nat.le_of_not_lt h)]

end Cert.Proof.Pieces

end
-- ==== Proof.AMixMath.lean ====
/- The gradient of the first mixer — a gate times a depthwise convolution of three taps over a gated input — as formulas in
   the cotangent `dh`, the mixer's input `z`, the taps `cw` and the output matrix `wo`. -/
module

public import Idealize.ShloMosaic.Lib.Pointwise
public import Idealize.ShloMosaic.Lib.ValueIdx

@[expose] public section

noncomputable section

namespace Cert.Proof.AMix

open Idealize.ShloMosaic

/-- Channel `j` of the three groups of the mixer's input: the gate and the two factors of the convolved product. -/
def gateCol (j : Fin 1024) : Fin 3072 := ⟨j.val, by omega⟩
def leftCol (j : Fin 1024) : Fin 3072 := ⟨1024 + j.val, by omega⟩
def rightCol (j : Fin 1024) : Fin 3072 := ⟨2048 + j.val, by omega⟩

variable (dh : Fin 4096 → Fin 1024 → EReal) (z : Fin 4096 → Fin 3072 → EReal) (cw : Fin 3 → Fin 1024 → EReal)
  (wo : Fin 1024 → Fin 1024 → EReal)

/-- The convolved product after 32 rows of zeros. -/
def p (s : ℕ) (j : Fin 1024) : EReal :=
  if h : 32 ≤ s ∧ s < 4128 then z ⟨s - 32, by omega⟩ (leftCol j) * z ⟨s - 32, by omega⟩ (rightCol j) else 0

/-- The convolution: row `r` reads the rows `r - 2`, `r - 1` and `r`. -/
def q (r : ℕ) (j : Fin 1024) : EReal := cw 0 j * p z (30 + r) j + cw 1 j * p z (31 + r) j + cw 2 j * p z (32 + r) j

/-- The cotangent of the gated convolution. -/
def dr (r : Fin 4096) (j : Fin 1024) : EReal := ∑ k, dh r k * wo j k

/-- The cotangent of the convolution, with zeros after the last row. -/
def dq (s : ℕ) (j : Fin 1024) : EReal := if h : s < 4096 then dr dh wo ⟨s, h⟩ j * z ⟨s, h⟩ (gateCol j) else 0

/-- The cotangent of the convolved product. -/
def dp (s : ℕ) (j : Fin 1024) : EReal := cw 0 j * dq dh z wo (2 + s) j + cw 1 j * dq dh z wo (1 + s) j + cw 2 j * dq dh z wo s j

/-- The gradient in the mixer's input. -/
def dz (r : Fin 4096) (k : Fin 3072) : EReal :=
  if h : k.val < 1024 then dr dh wo r ⟨k.val, h⟩ * q z cw r.val ⟨k.val, h⟩
  else if h' : k.val < 2048 then dp dh z cw wo r.val ⟨k.val - 1024, by omega⟩ * z r (rightCol ⟨k.val - 1024, by omega⟩)
  else dp dh z cw wo r.val ⟨k.val - 2048, by omega⟩ * z r (leftCol ⟨k.val - 2048, by omega⟩)

/-- One row's share of the gradient of the output matrix, and of the gradient of the taps. -/
def rowOut (i j : Fin 1024) (r : Fin 4096) : EReal := z r (gateCol i) * q z cw r.val i * dh r j
def rowTap (k : Fin 3) (j : Fin 1024) (r : Fin 4096) : EReal := dq dh z wo r.val j * p z (30 + k.val + r.val) j

end Cert.Proof.AMix

end
-- ==== Proof.AMixPoint.lean ====
/- The first mixer's gradient: the blocks a grid point reads, and what the point leaves in its outputs, as formulas in the
   whole arrays. -/
module

public import proofs.«01_k».proof.Proof.Gen.AMixIdeal.Frame
public import proofs.«01_k».proof.Proof.Whole
public import proofs.«01_k».proof.Proof.Pieces
public import proofs.«01_k».proof.Proof.AMixMath
public import proofs.«01_k».proof.Proof.RmsLaws

@[expose] public section

set_option maxRecDepth 16384

noncomputable section

namespace Cert.Proof.AMixPoint

open Idealize.ShloMosaic Idealize.SL.Sem Cert.AMixIdeal Cert.AMixIdeal.Gen Cert.Proof.Whole Cert.Proof.Pieces Cert.Proof.AMix
open Idealize.ShloMosaic.Pipeline (Dat Cfg Window)

variable (m : (ℓ : Loc nD τ sig) → Buf (Elt Ideal) ℓ)

/-! ### The blocks of the arguments -/

abbrev a0 (c : Dev nD) : S4096x1024.Idx → EReal := m ((c.tc : Thread nD τ).loc main_arg0)
abbrev a1 (c : Dev nD) : S4096x3072.Idx → EReal := m ((c.tc : Thread nD τ).loc main_arg1)
abbrev a2 (c : Dev nD) : S3x1024.Idx → EReal := m ((c.tc : Thread nD τ).loc main_arg2)
abbrev a3 (c : Dev nD) : S1024x1024.Idx → EReal := m ((c.tc : Thread nD τ).loc main_arg3)
abbrev dhA (c : Dev nD) : Fin 4096 → Fin 1024 → EReal := fun r k => a0 m c (ix2 r k)
abbrev zA (c : Dev nD) : Fin 4096 → Fin 3072 → EReal := fun r k => a1 m c (ix2 r k)
abbrev cwA (c : Dev nD) : Fin 3 → Fin 1024 → EReal := fun r k => a2 m c (ix2 r k)
abbrev woA (c : Dev nD) : Fin 1024 → Fin 1024 → EReal := fun r k => a3 m c (ix2 r k)

theorem lt8 (t : Fin cfg0.N) : t.val < 8 := lt_of_lt_of_eq t.isLt (show cfg0.N = 8 from N_0)

/-- Row `p` of block `t` in the whole array. -/
def row (t : Fin cfg0.N) (p : Fin 512) : Fin 4096 := ⟨t.val * 512 + p.val, by have := lt8 t; omega⟩
/-- The 32 rows before block `t`, which for the first block are its own first rows, and the 32 rows after it, which for the
    last block are its own last rows. -/
def before (t : Fin cfg0.N) (p : Fin 32) : Fin 4096 := ⟨(t.val * 16 - 1) * 32 + p.val, by have := lt8 t; omega⟩
def next (t : Fin cfg0.N) (p : Fin 32) : Fin 4096 := ⟨min ((t.val + 1) * 16) 127 * 32 + p.val, by have := lt8 t; omega⟩

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = min ((t.val + 1) * 16) 127 ∧ win0_1.index t 1 = 0 :=
  (by decide +kernel : ∀ t : Fin grid0.N, win0_1.index t 0 = min ((t.val + 1) * 16) 127 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = t.val * 16 - 1 ∧ win0_3.index t 1 = 0 :=
  (by decide +kernel : ∀ t : Fin grid0.N, win0_3.index t 0 = t.val * 16 - 1 ∧ win0_3.index t 1 = 0)
theorem index4 : ∀ t : Fin cfg0.N, win0_4.index t 0 = min ((t.val + 1) * 16) 127 ∧ win0_4.index t 1 = 0 :=
  (by decide +kernel : ∀ t : Fin grid0.N, win0_4.index t 0 = min ((t.val + 1) * 16) 127 ∧ win0_4.index t 1 = 0)
theorem index5 : ∀ t : Fin cfg0.N, win0_5.index t 0 = 0 ∧ win0_5.index t 1 = 0 :=
  (by decide +kernel : ∀ t : Fin grid0.N, win0_5.index t 0 = 0 ∧ win0_5.index t 1 = 0)
theorem index6 : ∀ t : Fin cfg0.N, win0_6.index t 0 = 0 ∧ win0_6.index t 1 = 0 :=
  (by decide +kernel : ∀ t : Fin grid0.N, win0_6.index t 0 = 0 ∧ win0_6.index t 1 = 0)

theorem blk0 (c : Dev nD) (t : Fin cfg0.N) (p : Fin 512) (k : Fin 1024) : iblk m c 0 t (ix2 p k) = dhA m c (row t p) k := by
  unfold iblk
  rw [View.read_apply]
  show V m c main_arg0 _ = _
  rw [V_main_arg0]
  refine congrArg (a0 m c) (Shape.idx_ext₂ ?_ ?_)
  · refine (Window.rect_emb_val win0_0 t (ix2 p k) 0).trans ?_
    rw [(index0 t).1]; rfl
  · refine (Window.rect_emb_val win0_0 t (ix2 p k) 1).trans ?_
    rw [(index0 t).2]; exact Nat.zero_add _

theorem blk1 (c : Dev nD) (t : Fin cfg0.N) (p : Fin 32) (k : Fin 1024) : iblk m c 1 t (ix2 p k) = dhA m c (next t p) k := by
  unfold iblk
  rw [View.read_apply]
  show V m c main_arg0 _ = _
  rw [V_main_arg0]
  refine congrArg (a0 m c) (Shape.idx_ext₂ ?_ ?_)
  · refine (Window.rect_emb_val win0_1 t (ix2 p k) 0).trans ?_
    rw [(index1 t).1]; rfl
  · refine (Window.rect_emb_val win0_1 t (ix2 p k) 1).trans ?_
    rw [(index1 t).2]; exact Nat.zero_add _

theorem blk2 (c : Dev nD) (t : Fin cfg0.N) (p : Fin 512) (k : Fin 3072) : iblk m c 2 t (ix2 p k) = zA m c (row t p) k := by
  unfold iblk
  rw [View.read_apply]
  show V m c main_arg1 _ = _
  rw [V_main_arg1]
  refine congrArg (a1 m c) (Shape.idx_ext₂ ?_ ?_)
  · refine (Window.rect_emb_val win0_2 t (ix2 p k) 0).trans ?_
    rw [(index2 t).1]; rfl
  · refine (Window.rect_emb_val win0_2 t (ix2 p k) 1).trans ?_
    rw [(index2 t).2]; exact Nat.zero_add _

theorem blk3 (c : Dev nD) (t : Fin cfg0.N) (p : Fin 32) (k : Fin 3072) : iblk m c 3 t (ix2 p k) = zA m c (before t p) k := by
  unfold iblk
  rw [View.read_apply]
  show V m c main_arg1 _ = _
  rw [V_main_arg1]
  refine congrArg (a1 m c) (Shape.idx_ext₂ ?_ ?_)
  · refine (Window.rect_emb_val win0_3 t (ix2 p k) 0).trans ?_
    rw [(index3 t).1]; rfl
  · refine (Window.rect_emb_val win0_3 t (ix2 p k) 1).trans ?_
    rw [(index3 t).2]; exact Nat.zero_add _

theorem blk4 (c : Dev nD) (t : Fin cfg0.N) (p : Fin 32) (k : Fin 3072) : iblk m c 4 t (ix2 p k) = zA m c (next t p) k := by
  unfold iblk
  rw [View.read_apply]
  show V m c main_arg1 _ = _
  rw [V_main_arg1]
  refine congrArg (a1 m c) (Shape.idx_ext₂ ?_ ?_)
  · refine (Window.rect_emb_val win0_4 t (ix2 p k) 0).trans ?_
    rw [(index4 t).1]; rfl
  · refine (Window.rect_emb_val win0_4 t (ix2 p k) 1).trans ?_
    rw [(index4 t).2]; exact Nat.zero_add _

theorem taps_at (c : Dev nD) (i : Fin 3) (j : Fin 1024) : V m c main_v5 (ix2 i j) = cwA m c i j := by
  have hV : V m c main_v5 = extf (F := Ideal) .f32 (shapeCast S3x1024 (transpose S3x8x128 [1, 0, 2] (transpose S8x3x128 [1, 0, 2] (shapeCast S3x8x128 (truncf (F := Ideal) .bf16 (a2 m c) bitsLt_bf16_f32)
      shapeCasts_S3x1024_S3x8x128) transposes_S3x8x128_S8x3x128_1_0_2) transposes_S8x3x128_S3x8x128_1_0_2) shapeCasts_S3x8x128_S3x1024) bitsLt_bf16_f32 := by
    dsimp only [V]; after_results_simp <;> rfl
  rw [hV]
  pointwise

theorem wout_at (c : Dev nD) (i : Fin 1024) (j : Fin 1024) : V m c main_v8 (ix2 i j) = woA m c i j := by
  have hV : V m c main_v8 = shapeCast S1024x1024 (shapeCast S8x128x1024 (truncf (F := Ideal) .bf16 (a3 m c) bitsLt_bf16_f32) shapeCasts_S1024x1024_S8x128x1024) shapeCasts_S8x128x1024_S1024x1024 := by
    dsimp only [V]; after_results_simp <;> rfl
  rw [hV]
  pointwise

theorem blk5 (c : Dev nD) (t : Fin cfg0.N) (i : Fin 3) (j : Fin 1024) : iblk m c 5 t (ix2 i j) = cwA m c i j := by
  rw [← taps_at]
  unfold iblk
  rw [View.read_apply]
  refine congrArg (V m c main_v5) (Shape.idx_ext₂ ?_ ?_)
  · refine (Window.rect_emb_val win0_5 t (ix2 i j) 0).trans ?_
    rw [(index5 t).1]; exact Nat.zero_add _
  · refine (Window.rect_emb_val win0_5 t (ix2 i j) 1).trans ?_
    rw [(index5 t).2]; exact Nat.zero_add _

theorem blk6 (c : Dev nD) (t : Fin cfg0.N) (i : Fin 1024) (j : Fin 1024) : iblk m c 6 t (ix2 i j) = woA m c i j := by
  rw [← wout_at]
  unfold iblk
  rw [View.read_apply]
  refine congrArg (V m c main_v8) (Shape.idx_ext₂ ?_ ?_)
  · refine (Window.rect_emb_val win0_6 t (ix2 i j) 0).trans ?_
    rw [(index6 t).1]; exact Nat.zero_add _
  · refine (Window.rect_emb_val win0_6 t (ix2 i j) 1).trans ?_
    rw [(index6 t).2]; exact Nat.zero_add _

/-! ### The kernel's expressions at an index -/

theorem coords0 : ∀ t : Fin cfg0.N, (grid0.coords t 0).val = t.val := (by decide +kernel : ∀ t : Fin grid0.N, (grid0.coords t 0).val = t.val)

theorem first_iff (t : Fin cfg0.N) : Scalar.cmpi .eq (BitVec.ofNat 32 (grid0.coords t 0).val) 0#32 = 1#1 ↔ t.val = 0 := by
  rw [coords0]
  have h := lt8 t
  generalize t.val = n at h
  interval_cases n <;> decide

theorem last_iff (t : Fin cfg0.N) : Scalar.cmpi .eq (BitVec.ofNat 32 (grid0.coords t 0).val) 7#32 = 1#1 ↔ t.val = 7 := by
  rw [coords0]
  have h := lt8 t
  generalize t.val = n at h
  interval_cases n <;> decide

theorem pay3_at (t : Fin cfg0.N) (v4 v6 : Vec Ideal S32x1024 .bf16) (p : Fin 32) (j : Fin 1024) :
    k0_pay3 (grid0.coords t) v4 v6 (ix2 p j) = if t.val = 0 then 0 else v4 (ix2 p j) * v6 (ix2 p j) := by
  simp only [← first_iff]
  pointwise [k0_pay3]
  rfl

theorem pay6_at (v4 v6 : Vec Ideal S512x1024 .bf16) (p : Fin 512) (j : Fin 1024) :
    k0_pay6 v4 v6 (ix2 p j) = v4 (ix2 p j) * v6 (ix2 p j) := by
  pointwise [k0_pay6, k0_pay4, k0_pay5]

theorem pay9_at (c0 c1 c2 : Vec Ideal S1x1024 .f32) (p0 p1 p2 : Vec Ideal S512x1024 .f32) (p : Fin 512) (j : Fin 1024) :
    k0_pay9 (k0_pay7 c0 p0) (k0_pay8 c1) p1 c2 p2 (ix2 p j) = c0 (ix2 0 j) * p0 (ix2 p j) + c1 (ix2 0 j) * p1 (ix2 p j) + c2 (ix2 0 j) * p2 (ix2 p j) := by
  pointwise [k0_pay9, k0_pay7, k0_pay8]

theorem pay13_at (v44 : Vec Ideal S512x1024 .f32) (v54 : Vec Ideal S1024x1024 .bf16) (p : Fin 512) (j : Fin 1024) :
    k0_pay13 v44 v54 (ix2 p j) = ∑ k, v44 (ix2 p k) * v54 (ix2 j k) := by
  pointwise [k0_pay13, k0_pay11]

theorem pay19_at (t : Fin cfg0.N) (d : Vec Ideal S32x1024 .f32) (w : Vec Ideal S1024x1024 .bf16) (z : Vec Ideal S32x1024 .bf16) (p : Fin 32) (j : Fin 1024) :
    k0_pay19 (Scalar.cmpi .eq (BitVec.ofNat 32 (grid0.coords t 0).val) 7#32) (k0_pay16 d) (k0_pay17 w) (constant S32x1024 .f32 0#32) z (ix2 p j)
      = if t.val = 7 then 0 else (∑ k, d (ix2 p k) * w (ix2 j k)) * z (ix2 p j) := by
  simp only [← last_iff]
  pointwise [k0_pay19, k0_pay16, k0_pay17]
  rfl

theorem pay23_at (c0 c1 c2 : Vec Ideal S1x1024 .f32) (p0 p1 p2 : Vec Ideal S512x1024 .f32) (p : Fin 512) (j : Fin 1024) :
    k0_pay23 (k0_pay21 c0 p0 c1 p1) c2 p2 (ix2 p j) = c0 (ix2 0 j) * p0 (ix2 p j) + c1 (ix2 0 j) * p1 (ix2 p j) + c2 (ix2 0 j) * p2 (ix2 p j) := by
  pointwise [k0_pay23, k0_pay21]

theorem pay12_at (v29 : FVec Ideal S512x1024 .f32) (v31 : FVec Ideal S1x1024 .f32) (v32 : Vec Ideal S512x1024 .f32) (v36 : Vec Ideal S1x1024 .f32) (v38 : Vec Ideal S512x1024 .f32)
    (b : Vec Ideal S512x1024 .bf16) (d : Vec Ideal S512x1024 .f32) (a : Vec Ideal S1024x1024 .f32) (i j : Fin 1024) :
    k0_pay12 v29 v31 v32 v36 v38 b d a (ix2 i j) = a (ix2 i j) + ∑ p : Fin 512, b (ix2 p i) * k0_pay9 v29 v31 v32 v36 v38 (ix2 p i) * d (ix2 p j) := by
  pointwise [k0_pay12, k0_pay10, k0_pay11]

theorem pay20_at (v60 : FVec Ideal S512x1024 .f32) (a : Vec Ideal S1x1024 .f32) (v : Vec Ideal S512x1024 .f32) (j : Fin 1024) :
    k0_pay20 v60 a v (ix2 0 j) = a (ix2 0 j) + ∑ p : Fin 512, v60 (ix2 p j) * v (ix2 p j) := by
  pointwise [k0_pay20]

theorem pay22_eq : k0_pay22 (F := Ideal) = k0_pay20 := rfl
theorem pay24_eq : k0_pay24 (F := Ideal) = k0_pay20 := rfl

/-! ### What the point holds in its two padded arrays -/

/-- The gate's rows, the two factors' rows and the taps as the point loads them. -/
abbrev gate (c : Dev nD) (t : Fin cfg0.N) : Vec Ideal S512x1024 .bf16 :=
  View.ld (iblk m c 2 t) (Rect.unit (s := S512x3072) ![0, 0] ![512, 1024] inb_S512x3072_S512x1024_0_0)
abbrev left (c : Dev nD) (t : Fin cfg0.N) : Vec Ideal S512x1024 .bf16 :=
  View.ld (iblk m c 2 t) (Rect.unit (s := S512x3072) ![0, 1024] ![512, 1024] inb_S512x3072_S512x1024_0_1024)
abbrev right (c : Dev nD) (t : Fin cfg0.N) : Vec Ideal S512x1024 .bf16 :=
  View.ld (iblk m c 2 t) (Rect.unit (s := S512x3072) ![0, 2048] ![512, 1024] inb_S512x3072_S512x1024_0_2048)
abbrev tap0 (c : Dev nD) (t : Fin cfg0.N) : Vec Ideal S1x1024 .f32 := View.ld (iblk m c 5 t) (Rect.unit (s := S3x1024) ![0, 0] ![1, 1024] inb_S3x1024_S1x1024_0_0)
abbrev tap1 (c : Dev nD) (t : Fin cfg0.N) : Vec Ideal S1x1024 .f32 := View.ld (iblk m c 5 t) (Rect.unit (s := S3x1024) ![1, 0] ![1, 1024] inb_S3x1024_S1x1024_1_0)
abbrev tap2 (c : Dev nD) (t : Fin cfg0.N) : Vec Ideal S1x1024 .f32 := View.ld (iblk m c 5 t) (Rect.unit (s := S3x1024) ![2, 0] ![1, 1024] inb_S3x1024_S1x1024_2_0)

theorem gate_at (c : Dev nD) (t : Fin cfg0.N) (p : Fin 512) (j : Fin 1024) : gate m c t (ix2 p j) = zA m c (row t p) (gateCol j) :=
  (ld_hit _ _ p j (ix2 p (gateCol j)) (Nat.zero_add _).symm (Nat.zero_add _).symm).trans (blk2 m c t p _)
theorem left_at (c : Dev nD) (t : Fin cfg0.N) (p : Fin 512) (j : Fin 1024) : left m c t (ix2 p j) = zA m c (row t p) (leftCol j) :=
  (ld_hit _ _ p j (ix2 p (leftCol j)) (Nat.zero_add _).symm rfl).trans (blk2 m c t p _)
theorem right_at (c : Dev nD) (t : Fin cfg0.N) (p : Fin 512) (j : Fin 1024) : right m c t (ix2 p j) = zA m c (row t p) (rightCol j) :=
  (ld_hit _ _ p j (ix2 p (rightCol j)) (Nat.zero_add _).symm rfl).trans (blk2 m c t p _)
theorem tap0_at (c : Dev nD) (t : Fin cfg0.N) (j : Fin 1024) : tap0 m c t (ix2 0 j) = cwA m c 0 j :=
  (ld_hit _ _ (0 : Fin 1) j (ix2 (0 : Fin 3) j) rfl (Nat.zero_add _).symm).trans (blk5 m c t 0 j)
theorem tap1_at (c : Dev nD) (t : Fin cfg0.N) (j : Fin 1024) : tap1 m c t (ix2 0 j) = cwA m c 1 j :=
  (ld_hit _ _ (0 : Fin 1) j (ix2 (1 : Fin 3) j) rfl (Nat.zero_add _).symm).trans (blk5 m c t 1 j)
theorem tap2_at (c : Dev nD) (t : Fin cfg0.N) (j : Fin 1024) : tap2 m c t (ix2 0 j) = cwA m c 2 j :=
  (ld_hit _ _ (0 : Fin 1) j (ix2 (2 : Fin 3) j) rfl (Nat.zero_add _).symm).trans (blk5 m c t 2 j)

/-- The cotangent of the convolution, at the block's rows. -/
abbrev dqB (c : Dev nD) (t : Fin cfg0.N) : FVec Ideal S512x1024 .f32 := k0_pay15 (gate m c t) (iblk m c 0 t) (iblk m c 6 t)

theorem dr_at (c : Dev nD) (t : Fin cfg0.N) (p : Fin 512) (j : Fin 1024) :
    k0_pay13 (iblk m c 0 t) (iblk m c 6 t) (ix2 p j) = dr (dhA m c) (woA m c) (row t p) j := by
  refine (pay13_at _ _ p j).trans ?_
  simp only [blk0, blk6, dr]

theorem dqB_at (c : Dev nD) (t : Fin cfg0.N) (p : Fin 512) (j : Fin 1024) :
    dqB m c t (ix2 p j) = dq (dhA m c) (zA m c) (woA m c) (t.val * 512 + p.val) j := by
  refine Eq.trans (b := k0_pay13 (iblk m c 0 t) (iblk m c 6 t) (ix2 p j) * gate m c t (ix2 p j)) ?_ ?_
  · pointwise [k0_pay15, k0_pay10]
  · rw [dr_at, gate_at, dq, dif_pos (show t.val * 512 + p.val < 4096 from (row t p).isLt)]
    rfl

/-- The convolved product's rows from 32 before the block to its end. -/
abbrev pad (c : Dev nD) (t : Fin cfg0.N) : Vec Ideal S544x1024 .f32 :=
  View.canon [⟨Rect.unit (s := S544x1024) ![32, 0] ![512, 1024] inb_S544x1024_S512x1024_32_0, k0_pay6 (left m c t) (right m c t)⟩,
    ⟨Rect.unit (s := S544x1024) ![0, 0] ![32, 1024] inb_S544x1024_S32x1024_0_0, k0_pay3 (grid0.coords t)
      (View.ld (iblk m c 3 t) (Rect.unit (s := S32x3072) ![0, 1024] ![32, 1024] inb_S32x3072_S32x1024_0_1024))
      (View.ld (iblk m c 3 t) (Rect.unit (s := S32x3072) ![0, 2048] ![32, 1024] inb_S32x3072_S32x1024_0_2048))⟩]

theorem pad_eq (c : Dev nD) (t : Fin cfg0.N) : pad m c t = fun y => p (zA m c) (t.val * 512 + (y 0).val) (y 1) := by
  have h8 := lt8 t
  refine canon_two (Val := Elt Ideal) (e := .f32) _ _ rfl _ _ (fun n j => p (zA m c) (t.val * 512 + n) j) (fun r j => ?_) (fun r j => ?_)
  · rw [pay6_at, left_at, right_at, p, dif_pos (by omega)]
    have e : row t r = ⟨t.val * 512 + (32 + r.val) - 32, by omega⟩ := Fin.ext (by show t.val * 512 + r.val = t.val * 512 + (32 + r.val) - 32; omega)
    rw [e]
  · rw [pay3_at]
    have e (b : ℕ) (hb : b + 1024 ≤ 3072) (i : Fin 3072) (hi : i.val = b + j.val) (inb) :
        View.ld (iblk m c 3 t) (Rect.unit (s := S32x3072) ![0, b] ![32, 1024] inb) (ix2 r j) = zA m c (before t r) i :=
      (ld_hit inb _ r j (ix2 r i) (Nat.zero_add _).symm hi).trans (blk3 m c t r i)
    rw [e 1024 (by omega) (leftCol j) rfl, e 2048 (by omega) (rightCol j) rfl]
    by_cases h : t.val = 0
    · rw [if_pos h, p, dif_neg (by omega)]
    · rw [if_neg h, p, dif_pos (by omega)]
      have e' : before t r = ⟨t.val * 512 + r.val - 32, by omega⟩ := Fin.ext (by show (t.val * 16 - 1) * 32 + r.val = t.val * 512 + r.val - 32; omega)
      rw [e']

/-- The cotangent of the convolution, from the block's first row to 32 rows after it. -/
abbrev dqpad (c : Dev nD) (t : Fin cfg0.N) : Vec Ideal S544x1024 .f32 :=
  View.canon [⟨Rect.unit (s := S544x1024) ![512, 0] ![32, 1024] inb_S544x1024_S32x1024_512_0,
      k0_pay19 (Scalar.cmpi .eq (BitVec.ofNat 32 (grid0.coords t 0).val) 7#32) (k0_pay16 (iblk m c 1 t)) (k0_pay17 (iblk m c 6 t)) (constant S32x1024 .f32 0#32)
        (View.ld (iblk m c 4 t) (Rect.unit (s := S32x3072) ![0, 0] ![32, 1024] inb_S32x3072_S32x1024_0_0))⟩,
    ⟨Rect.unit (s := S544x1024) ![0, 0] ![512, 1024] inb_S544x1024_S512x1024_0_0, k0_pay18 (dqB m c t)⟩]

theorem dqpad_eq (c : Dev nD) (t : Fin cfg0.N) : dqpad m c t = fun y => dq (dhA m c) (zA m c) (woA m c) (t.val * 512 + (y 0).val) (y 1) := by
  have h8 := lt8 t
  refine canon_two (Val := Elt Ideal) (e := .f32) _ _ rfl _ _ (fun n j => dq (dhA m c) (zA m c) (woA m c) (t.val * 512 + n) j) (fun r j => ?_) (fun r j => ?_)
  · rw [pay19_at, show View.ld (iblk m c 4 t) (Rect.unit (s := S32x3072) ![0, 0] ![32, 1024] inb_S32x3072_S32x1024_0_0) (ix2 r j) = zA m c (next t r) (gateCol j) from
      (ld_hit _ _ r j (ix2 r (gateCol j)) (Nat.zero_add _).symm (Nat.zero_add _).symm).trans (blk4 m c t r _)]
    simp only [blk1, blk6]
    by_cases h : t.val = 7
    · rw [if_pos h, dq, dif_neg (by omega)]
    · rw [if_neg h, dq, dif_pos (by omega)]
      have e' : next t r = ⟨t.val * 512 + (512 + r.val), by omega⟩ := Fin.ext (by show min ((t.val + 1) * 16) 127 * 32 + r.val = t.val * 512 + (512 + r.val); omega)
      rw [e', dr]
  · refine Eq.trans ?_ (dqB_at m c t r j)
    pointwise [k0_pay18]

/-- Loads of the padded arrays from row `a`. -/
theorem pad_at (c : Dev nD) (t : Fin cfg0.N) (a : ℕ) (inb) (r : Fin 512) (j : Fin 1024) :
    View.ld (pad m c t) (Rect.unit (s := S544x1024) ![a, 0] ![512, 1024] inb) (ix2 r j) = p (zA m c) (a + (t.val * 512 + r.val)) j := by
  rw [pad_eq]
  refine (ld_rows (Val := Elt Ideal) (e := .f32) inb (fun n j => p (zA m c) (t.val * 512 + n) j) r j).trans ?_
  show p (zA m c) (t.val * 512 + (a + r.val)) j = _
  rw [Nat.add_left_comm]

theorem dqpad_at (c : Dev nD) (t : Fin cfg0.N) (a : ℕ) (inb) (r : Fin 512) (j : Fin 1024) :
    View.ld (dqpad m c t) (Rect.unit (s := S544x1024) ![a, 0] ![512, 1024] inb) (ix2 r j) = dq (dhA m c) (zA m c) (woA m c) (a + (t.val * 512 + r.val)) j := by
  rw [dqpad_eq]
  refine (ld_rows (Val := Elt Ideal) (e := .f32) inb (fun n j => dq (dhA m c) (zA m c) (woA m c) (t.val * 512 + n) j) r j).trans ?_
  show dq (dhA m c) (zA m c) (woA m c) (t.val * 512 + (a + r.val)) j = _
  rw [Nat.add_left_comm]

abbrev pad30 (c : Dev nD) (t : Fin cfg0.N) : Vec Ideal S512x1024 .f32 := View.ld (pad m c t) (Rect.unit (s := S544x1024) ![30, 0] ![512, 1024] inb_S544x1024_S512x1024_30_0)
abbrev pad31 (c : Dev nD) (t : Fin cfg0.N) : Vec Ideal S512x1024 .f32 := View.ld (pad m c t) (Rect.unit (s := S544x1024) ![31, 0] ![512, 1024] inb_S544x1024_S512x1024_31_0)
abbrev pad32 (c : Dev nD) (t : Fin cfg0.N) : Vec Ideal S512x1024 .f32 := View.ld (pad m c t) (Rect.unit (s := S544x1024) ![32, 0] ![512, 1024] inb_S544x1024_S512x1024_32_0)
abbrev dq0 (c : Dev nD) (t : Fin cfg0.N) : Vec Ideal S512x1024 .f32 := View.ld (dqpad m c t) (Rect.unit (s := S544x1024) ![0, 0] ![512, 1024] inb_S544x1024_S512x1024_0_0)
abbrev dq1 (c : Dev nD) (t : Fin cfg0.N) : Vec Ideal S512x1024 .f32 := View.ld (dqpad m c t) (Rect.unit (s := S544x1024) ![1, 0] ![512, 1024] inb_S544x1024_S512x1024_1_0)
abbrev dq2 (c : Dev nD) (t : Fin cfg0.N) : Vec Ideal S512x1024 .f32 := View.ld (dqpad m c t) (Rect.unit (s := S544x1024) ![2, 0] ![512, 1024] inb_S544x1024_S512x1024_2_0)

theorem q_at (c : Dev nD) (t : Fin cfg0.N) (r : Fin 512) (j : Fin 1024) :
    k0_pay9 (k0_pay7 (tap0 m c t) (pad30 m c t)) (k0_pay8 (tap1 m c t)) (pad31 m c t) (tap2 m c t) (pad32 m c t) (ix2 r j) = q (zA m c) (cwA m c) (row t r).val j := by
  rw [pay9_at, tap0_at, tap1_at, tap2_at, show pad30 m c t (ix2 r j) = _ from pad_at m c t 30 _ r j,
    show pad31 m c t (ix2 r j) = _ from pad_at m c t 31 _ r j, show pad32 m c t (ix2 r j) = _ from pad_at m c t 32 _ r j]
  rfl

theorem dp_at (c : Dev nD) (t : Fin cfg0.N) (r : Fin 512) (j : Fin 1024) :
    k0_pay23 (k0_pay21 (tap0 m c t) (dq2 m c t) (tap1 m c t) (dq1 m c t)) (tap2 m c t) (dq0 m c t) (ix2 r j)
      = dp (dhA m c) (zA m c) (cwA m c) (woA m c) (row t r).val j := by
  rw [pay23_at, tap0_at, tap1_at, tap2_at, show dq0 m c t (ix2 r j) = _ from dqpad_at m c t 0 _ r j,
    show dq1 m c t (ix2 r j) = _ from dqpad_at m c t 1 _ r j, show dq2 m c t (ix2 r j) = _ from dqpad_at m c t 2 _ r j, Nat.zero_add]
  rfl

/-! ### What the point leaves in its outputs -/

/-- The gradient in the mixer's input. -/
abbrev dzB (c : Dev nD) (t : Fin cfg0.N) : Vec Ideal S512x3072 .bf16 :=
  View.canon [⟨Rect.unit (s := S512x3072) ![0, 2048] ![512, 1024] inb_S512x3072_S512x1024_0_2048,
      k0_pay26 (k0_pay4 (left m c t)) (k0_pay21 (tap0 m c t) (dq2 m c t) (tap1 m c t) (dq1 m c t)) (tap2 m c t) (dq0 m c t)⟩,
    ⟨Rect.unit (s := S512x3072) ![0, 1024] ![512, 1024] inb_S512x3072_S512x1024_0_1024,
      k0_pay25 (k0_pay5 (right m c t)) (k0_pay21 (tap0 m c t) (dq2 m c t) (tap1 m c t) (dq1 m c t)) (tap2 m c t) (dq0 m c t)⟩,
    ⟨Rect.unit (s := S512x3072) ![0, 0] ![512, 1024] inb_S512x3072_S512x1024_0_0,
      k0_pay14 (k0_pay7 (tap0 m c t) (pad30 m c t)) (k0_pay8 (tap1 m c t)) (pad31 m c t) (tap2 m c t) (pad32 m c t) (iblk m c 0 t) (iblk m c 6 t)⟩]

theorem dzB_at (c : Dev nD) (t : Fin cfg0.N) (r : Fin 512) (k : Fin 3072) :
    dzB m c t (ix2 r k) = dz (dhA m c) (zA m c) (cwA m c) (woA m c) (row t r) k := by
  by_cases h : k.val < 1024
  · rw [dz, dif_pos h, ← dr_at, ← q_at]
    refine (canon_miss inb_S512x3072_S512x1024_0_2048 _ _ _ (.inr (.inr (.inl (show k.val < 2048 by omega))))).trans
      ((canon_miss inb_S512x3072_S512x1024_0_1024 _ _ _ (.inr (.inr (.inl h)))).trans
        ((canon_hit inb_S512x3072_S512x1024_0_0 _ _ r ⟨k.val, h⟩ _ (Nat.zero_add _).symm (Nat.zero_add _).symm).trans ?_))
    pointwise [k0_pay14]
  · rw [dz, dif_neg h]
    by_cases h' : k.val < 2048
    · rw [dif_pos h', ← dp_at, ← right_at]
      refine (canon_miss inb_S512x3072_S512x1024_0_2048 _ _ _ (.inr (.inr (.inl h')))).trans
        ((canon_hit inb_S512x3072_S512x1024_0_1024 _ _ r ⟨k.val - 1024, by omega⟩ _ (Nat.zero_add _).symm (show k.val = 1024 + (k.val - 1024) by omega)).trans ?_)
      pointwise [k0_pay25, k0_pay5]
    · rw [dif_neg h', ← dp_at, ← left_at]
      refine (canon_hit inb_S512x3072_S512x1024_0_2048 _ _ r ⟨k.val - 2048, by omega⟩ _ (Nat.zero_add _).symm (show k.val = 2048 + (k.val - 2048) by omega)).trans ?_
      pointwise [k0_pay26, k0_pay4]

/-- The three rows of the taps' gradient, each written after its old contents are read. -/
abbrev dcwB (c : Dev nD) (t : Fin cfg0.N) (o0 o1 o2 : Vec Ideal S1x1024 .f32) (L : List (View.Piece (Elt Ideal) S3x1024 .f32)) : Vec Ideal S3x1024 .f32 :=
  View.canon (⟨Rect.unit (s := S3x1024) ![2, 0] ![1, 1024] inb_S3x1024_S1x1024_2_0, k0_pay24 (dqB m c t) o2 (pad32 m c t)⟩
    :: ⟨Rect.unit (s := S3x1024) ![1, 0] ![1, 1024] inb_S3x1024_S1x1024_1_0, k0_pay22 (dqB m c t) o1 (pad31 m c t)⟩
    :: ⟨Rect.unit (s := S3x1024) ![0, 0] ![1, 1024] inb_S3x1024_S1x1024_0_0, k0_pay20 (dqB m c t) o0 (pad30 m c t)⟩ :: L)

/-- What a point adds to the gradient of the taps. -/
def tileTap (c : Dev nD) (k : Fin 3) (j : Fin 1024) (t : Fin cfg0.N) : EReal :=
  ∑ r : Fin 512, rowTap (dhA m c) (zA m c) (woA m c) k j (row t r)

theorem tap_sum (c : Dev nD) (t : Fin cfg0.N) (k : Fin 3) (inb) (o : Vec Ideal S1x1024 .f32) (j : Fin 1024) :
    k0_pay20 (dqB m c t) o (View.ld (pad m c t) (Rect.unit (s := S544x1024) ![30 + k.val, 0] ![512, 1024] inb)) (ix2 0 j) = o (ix2 0 j) + tileTap m c k j t := by
  refine (pay20_at _ _ _ j).trans ?_
  simp only [dqB_at, pad_at]
  rfl

theorem dcwB_at (c : Dev nD) (t : Fin cfg0.N) (o0 o1 o2 : Vec Ideal S1x1024 .f32) (L : List (View.Piece (Elt Ideal) S3x1024 .f32)) (old : Fin 3 → Fin 1024 → EReal)
    (h0 : ∀ j, o0 (ix2 0 j) = old 0 j) (h1 : ∀ j, o1 (ix2 0 j) = old 1 j) (h2 : ∀ j, o2 (ix2 0 j) = old 2 j) (k : Fin 3) (j : Fin 1024) :
    dcwB m c t o0 o1 o2 L (ix2 k j) = old k j + tileTap m c k j t := by
  obtain rfl | rfl | rfl : k = 0 ∨ k = 1 ∨ k = 2 := by revert k; decide
  · refine (canon_miss inb_S3x1024_S1x1024_2_0 _ _ (ix2 0 j) (.inl (show 0 < 2 by omega))).trans
      ((canon_miss inb_S3x1024_S1x1024_1_0 _ _ (ix2 0 j) (.inl (show 0 < 1 by omega))).trans
        ((canon_hit inb_S3x1024_S1x1024_0_0 _ _ (0 : Fin 1) j (ix2 0 j) rfl (Nat.zero_add _).symm).trans ((tap_sum m c t 0 _ o0 j).trans ?_)))
    rw [h0]
  · refine (canon_miss inb_S3x1024_S1x1024_2_0 _ _ (ix2 1 j) (.inl (show 1 < 2 by omega))).trans
      ((canon_hit inb_S3x1024_S1x1024_1_0 _ _ (0 : Fin 1) j (ix2 1 j) rfl (Nat.zero_add _).symm).trans ((tap_sum m c t 1 _ o1 j).trans ?_))
    rw [h1]
  · refine (canon_hit inb_S3x1024_S1x1024_2_0 _ _ (0 : Fin 1) j (ix2 2 j) rfl (Nat.zero_add _).symm).trans ((tap_sum m c t 2 _ o2 j).trans ?_)
    rw [h2]

/-- The gradient of the output matrix after the point. -/
abbrev dwoB (c : Dev nD) (t : Fin cfg0.N) (a : Vec Ideal S1024x1024 .f32) : Vec Ideal S1024x1024 .f32 :=
  k0_pay12 (k0_pay7 (tap0 m c t) (pad30 m c t)) (k0_pay8 (tap1 m c t)) (pad31 m c t) (tap2 m c t) (pad32 m c t) (gate m c t) (iblk m c 0 t) a

/-- What a point adds to the gradient of the output matrix. -/
def tileOut (c : Dev nD) (i j : Fin 1024) (t : Fin cfg0.N) : EReal := ∑ r : Fin 512, rowOut (dhA m c) (zA m c) (cwA m c) i j (row t r)

theorem dwoB_at (c : Dev nD) (t : Fin cfg0.N) (a : Vec Ideal S1024x1024 .f32) (i j : Fin 1024) :
    dwoB m c t a (ix2 i j) = a (ix2 i j) + tileOut m c i j t := by
  refine (pay12_at _ _ _ _ _ _ _ _ i j).trans ?_
  simp only [gate_at, q_at, blk0]
  rfl

end Cert.Proof.AMixPoint

end
-- ==== Proof.AMixCases.lean ====
/- The first mixer's gradient: the three kinds of grid points — the first, which clears the running sums, the middle ones and
   the last, which also writes the output matrix's gradient — leave the point's formulas in the outputs. -/
module

public import proofs.«01_k».proof.Proof.AMixPoint

@[expose] public section

set_option maxRecDepth 16384

noncomputable section

namespace Cert.Proof.AMixCases

open Idealize.ShloMosaic Idealize.SL.Sem Cert.AMixIdeal Cert.AMixIdeal.Gen Cert.Proof.Whole Cert.Proof.Pieces Cert.Proof.AMix Cert.Proof.AMixPoint

variable (m : (ℓ : Loc nD τ sig) → Buf (Elt Ideal) ℓ)

theorem dz_A (c : Dev nD) (t : Fin cfg0.N) (h0 : t.val % 8 = 0) (h1 : ¬t.val % 8 = 7) : (outsAt0 m c t.val t.isLt).1 = dzB m c t := by
  rw [outsAt0_A m c t h0 h1]
  dsimp only
  unfold out0_A_7
  rw [View.read_writes_eq_canon]
  swap
  · apply cover0_A_7
  unfold kernelRun0_A
  dsimp only
  sl_unfold_words
  simp only [canon2, readCov_ld, View.readAt_eq_ld, (hs0_0 t).read_unread, (hs0_1 t).read_unread, (hs0_2 t).read_unread, (hs0_3 t).read_unread,
    (hs0_4 t).read_unread, (hs0_5 t).read_unread, (hs0_6 t).read_unread, ld2]
  rfl

theorem dz_B (c : Dev nD) (t : Fin cfg0.N) (h0 : ¬t.val % 8 = 0) (h1 : ¬t.val % 8 = 7) : (outsAt0 m c t.val t.isLt).1 = dzB m c t := by
  rw [outsAt0_B m c t h0 h1]
  dsimp only
  unfold out0_B_7
  rw [View.read_writes_eq_canon]
  swap
  · apply cover0_B_7
  unfold kernelRun0_B
  dsimp only
  sl_unfold_words
  simp only [readCov_ld, View.readAt_eq_ld, (hs0_0 t).read_unread, (hs0_1 t).read_unread, (hs0_2 t).read_unread, (hs0_3 t).read_unread,
    (hs0_4 t).read_unread, (hs0_5 t).read_unread, (hs0_6 t).read_unread, ld2]
  rfl

theorem dz_C (c : Dev nD) (t : Fin cfg0.N) (h0 : ¬t.val % 8 = 0) (h1 : t.val % 8 = 7) : (outsAt0 m c t.val t.isLt).1 = dzB m c t := by
  rw [outsAt0_C m c t h0 h1]
  dsimp only
  unfold out0_C_7
  rw [View.read_writes_eq_canon]
  swap
  · apply cover0_C_7
  unfold kernelRun0_C
  dsimp only
  sl_unfold_words
  simp only [readCov_ld, View.readAt_eq_ld, (hs0_0 t).read_unread, (hs0_1 t).read_unread, (hs0_2 t).read_unread, (hs0_3 t).read_unread,
    (hs0_4 t).read_unread, (hs0_5 t).read_unread, (hs0_6 t).read_unread, ld2]
  rfl

theorem dcw_A (c : Dev nD) (t : Fin cfg0.N) (h0 : t.val % 8 = 0) (h1 : ¬t.val % 8 = 7) (k : Fin 3) (j : Fin 1024) :
    (outsAt0 m c t.val t.isLt).2.2.1 (ix2 k j) = tileTap m c k j t := by
  rw [outsAt0_A m c t h0 h1]
  dsimp only
  unfold out0_A_9
  rw [View.read_writes_eq_canon]
  swap
  · apply cover0_A_9
  unfold kernelRun0_A
  dsimp only
  sl_unfold_words
  simp only [canon2, readCov_ld, View.readAt_eq_ld, (hs0_0 t).read_unread, (hs0_2 t).read_unread, (hs0_3 t).read_unread,
    (hs0_6 t).read_unread, ld2]
  have hz : ∀ (y : S3x1024.Idx) (L : List (View.Piece (Elt Ideal) S3x1024 .f32)),
      View.canon (⟨Rect.unit (s := S3x1024) ![0, 0] ![3, 1024] inb_S3x1024_S3x1024_0_0, k0_pay2 (F := Ideal)⟩ :: L) y = 0 := fun y L => by
    rw [show View.canon (⟨Rect.unit (s := S3x1024) ![0, 0] ![3, 1024] inb_S3x1024_S3x1024_0_0, k0_pay2 (F := Ideal)⟩ :: L) = k0_pay2 (F := Ideal) from
      canon2 (d2 := S3x1024.size) inb_S3x1024_S3x1024_0_0 _ L, eq_ix2 y]
    pointwise [k0_pay2]
  refine (dcwB_at m c t _ _ _ _ (fun _ _ => 0) (fun j => ?_) (fun j => ?_) (fun j => ?_) k j).trans (zero_add _)
  · refine (ld_hit _ _ (0 : Fin 1) j (ix2 (0 : Fin 3) j) rfl (Nat.zero_add _).symm).trans ?_
    pointwise [k0_pay2]
  · refine (ld_hit _ _ (0 : Fin 1) j (ix2 (1 : Fin 3) j) rfl (Nat.zero_add _).symm).trans ?_
    exact (canon_miss inb_S3x1024_S1x1024_0_0 _ _ _ (.inr (.inl (show 0 + 1 ≤ 1 by omega)))).trans (hz _ _)
  · refine (ld_hit _ _ (0 : Fin 1) j (ix2 (2 : Fin 3) j) rfl (Nat.zero_add _).symm).trans ?_
    exact (canon_miss inb_S3x1024_S1x1024_1_0 _ _ _ (.inr (.inl (show 1 + 1 ≤ 2 by omega)))).trans
      ((canon_miss inb_S3x1024_S1x1024_0_0 _ _ _ (.inr (.inl (show 0 + 1 ≤ 2 by omega)))).trans (hz _ _))

/-- A point's old row of the taps' gradient. -/
theorem old_at (f : Vec Ideal S3x1024 .f32) (k : Fin 3) (inb) (j : Fin 1024) :
    View.ld f (Rect.unit (s := S3x1024) ![k.val, 0] ![1, 1024] inb) (ix2 0 j) = f (ix2 k j) :=
  ld_hit inb f (0 : Fin 1) j (ix2 k j) rfl (Nat.zero_add _).symm

abbrev prev (c : Dev nD) (t : Fin cfg0.N) := outsAt0 m c (t.val - 1) (Nat.lt_of_le_of_lt (Nat.sub_le _ _) t.isLt)

theorem dcw_B (c : Dev nD) (t : Fin cfg0.N) (h0 : ¬t.val % 8 = 0) (h1 : ¬t.val % 8 = 7) (k : Fin 3) (j : Fin 1024) :
    (outsAt0 m c t.val t.isLt).2.2.1 (ix2 k j) = (prev m c t).2.2.1 (ix2 k j) + tileTap m c k j t := by
  rw [outsAt0_B m c t h0 h1]
  dsimp only
  unfold out0_B_9
  rw [View.read_writes_eq_canon]
  swap
  · apply cover0_B_9
  unfold kernelRun0_B
  dsimp only
  sl_unfold_words
  simp only [readCov_ld, View.readAt_eq_ld, (hs0_0 t).read_unread, (hs0_2 t).read_unread, (hs0_3 t).read_unread,
    (hs0_6 t).read_unread, (hs0_9 t).read_unread, ld2]
  exact dcwB_at m c t _ _ _ _ (fun k j => (prev m c t).2.2.1 (ix2 k j)) (old_at _ 0 _) (old_at _ 1 _) (old_at _ 2 _) k j

theorem dcw_C (c : Dev nD) (t : Fin cfg0.N) (h0 : ¬t.val % 8 = 0) (h1 : t.val % 8 = 7) (k : Fin 3) (j : Fin 1024) :
    (outsAt0 m c t.val t.isLt).2.2.1 (ix2 k j) = (prev m c t).2.2.1 (ix2 k j) + tileTap m c k j t := by
  rw [outsAt0_C m c t h0 h1]
  dsimp only
  unfold out0_C_9
  rw [View.read_writes_eq_canon]
  swap
  · apply cover0_C_9
  unfold kernelRun0_C
  dsimp only
  sl_unfold_words
  simp only [readCov_ld, View.readAt_eq_ld, (hs0_0 t).read_unread, (hs0_2 t).read_unread, (hs0_3 t).read_unread,
    (hs0_6 t).read_unread, (hs0_9 t).read_unread, ld2]
  exact dcwB_at m c t _ _ _ _ (fun k j => (prev m c t).2.2.1 (ix2 k j)) (old_at _ 0 _) (old_at _ 1 _) (old_at _ 2 _) k j

theorem dwo_A (c : Dev nD) (t : Fin cfg0.N) (h0 : t.val % 8 = 0) (h1 : ¬t.val % 8 = 7) : (outsAt0 m c t.val t.isLt).2.2.2 = dwoB m c t (k0_pay1 (F := Ideal)) := by
  rw [outsAt0_A m c t h0 h1]
  dsimp only
  unfold sout0_A_2
  rw [View.read_writes_eq_canon]
  swap
  · apply scover0_A_2
  unfold kernelRun0_A
  dsimp only
  sl_unfold_words
  simp only [canon2, readCov_ld, View.readAt_eq_ld, (hs0_0 t).read_unread, (hs0_2 t).read_unread, (hs0_3 t).read_unread,
    (hs0_5 t).read_unread, ld2]
  rfl

theorem dwo_B (c : Dev nD) (t : Fin cfg0.N) (h0 : ¬t.val % 8 = 0) (h1 : ¬t.val % 8 = 7) : (outsAt0 m c t.val t.isLt).2.2.2 = dwoB m c t (prev m c t).2.2.2 := by
  rw [outsAt0_B m c t h0 h1]
  dsimp only
  unfold sout0_B_2
  rw [View.read_writes_eq_canon]
  swap
  · apply scover0_B_2
  unfold kernelRun0_B
  dsimp only
  sl_unfold_words
  simp only [canon2, readCov_ld, View.readAt_eq_ld, (hs0_0 t).read_unread, (hs0_2 t).read_unread, (hs0_3 t).read_unread,
    (hs0_5 t).read_unread, ld2]
  exact congrArg (dwoB m c t) (Memref.IsWhole.read_unread _ _)

theorem pay27_eq (x : Vec Ideal S1024x1024 .f32) : k0_pay27 x = x := by
  funext y
  rw [eq_ix2 y]
  pointwise [k0_pay27]

theorem dwo_C (c : Dev nD) (t : Fin cfg0.N) (h0 : ¬t.val % 8 = 0) (h1 : t.val % 8 = 7) : (outsAt0 m c t.val t.isLt).2.1 = dwoB m c t (prev m c t).2.2.2 := by
  rw [outsAt0_C m c t h0 h1]
  dsimp only
  unfold out0_C_8
  rw [View.read_writes_eq_canon]
  swap
  · apply cover0_C_8
  unfold kernelRun0_C
  dsimp only
  sl_unfold_words
  simp only [canon2, readCov_ld, View.readAt_eq_ld, (hs0_0 t).read_unread, (hs0_2 t).read_unread, (hs0_3 t).read_unread,
    (hs0_5 t).read_unread, ld2]
  exact (pay27_eq _).trans (congrArg (dwoB m c t) (Memref.IsWhole.read_unread _ _))

end Cert.Proof.AMixCases

end
-- ==== Proof.AMixValue.lean ====
/- The first mixer's gradient: what the kernel's three outputs hold at the end, as formulas in the whole arrays. -/
module

public import proofs.«01_k».proof.Proof.AMixCases
public import proofs.«01_k».proof.Proof.Tiles

@[expose] public section

set_option maxRecDepth 16384

noncomputable section

namespace Cert.Proof.AMixValue

open Idealize.ShloMosaic Idealize.SL.Sem Cert.AMixIdeal Cert.AMixIdeal.Gen Cert.Proof.AMix Cert.Proof.AMixPoint Cert.Proof.AMixCases Cert.Proof.Tiles
open Idealize.ShloMosaic.Pipeline (Dat Cfg Window)

variable (m : (ℓ : Loc nD τ sig) → Buf (Elt Ideal) ℓ)

/-! ### The outputs after a point -/

theorem out_dz (c : Dev nD) (t : Fin cfg0.N) (r : Fin 512) (k : Fin 3072) :
    (outsAt0 m c t.val t.isLt).1 (ix2 r k) = dz (dhA m c) (zA m c) (cwA m c) (woA m c) (row t r) k := by
  rw [← dzB_at]
  by_cases h0 : t.val % 8 = 0
  · rw [dz_A m c t h0 (by omega)]
  · by_cases h1 : t.val % 8 = 7
    · rw [dz_C m c t h0 h1]
    · rw [dz_B m c t h0 h1]

theorem at_last (t : Fin cfg0.N) (ht : t.val % 8 = 7) : t.val + 1 = cfg0.N := by
  have := lt8 t
  exact (show t.val + 1 = 8 by omega).trans (show cfg0.N = 8 from N_0).symm

theorem out_dcw (c : Dev nD) (t : Fin cfg0.N) (ht : t.val % 8 = 7) (k : Fin 3) (j : Fin 1024) :
    (outsAt0 m c t.val t.isLt).2.2.1 (ix2 k j) = ∑ s : Fin cfg0.N, tileTap m c k j s := by
  refine running_last (fun n h => (outsAt0 m c n h).2.2.1 (ix2 k j)) (tileTap m c k j) (fun h => ?_) (fun n h => ?_) t.val t.isLt (at_last t ht)
  · exact dcw_A m c ⟨0, h⟩ rfl (by show ¬0 % 8 = 7; decide) k j
  · have h0 : ¬(n + 1) % 8 = 0 := by have := lt8 ⟨n + 1, h⟩; dsimp only at this; omega
    by_cases h1 : (n + 1) % 8 = 7
    · exact dcw_C m c ⟨n + 1, h⟩ h0 h1 k j
    · exact dcw_B m c ⟨n + 1, h⟩ h0 h1 k j

theorem zero1 (i j : Fin 1024) : k0_pay1 (F := Ideal) (ix2 i j) = 0 := by pointwise [k0_pay1]

/-- The running sum of the output matrix's gradient, up to the point before the last. -/
theorem sum_dwo (c : Dev nD) (i j : Fin 1024) : ∀ (n : ℕ) (h : n < cfg0.N), n < 7 →
    (outsAt0 m c n h).2.2.2 (ix2 i j) = ∑ s : Fin (n + 1), tileOut m c i j ⟨s.val, by omega⟩ := by
  intro n
  induction n with
  | zero =>
    intro h _
    show (outsAt0 m c (⟨0, h⟩ : Fin cfg0.N).val _).2.2.2 _ = _
    rw [dwo_A m c ⟨0, h⟩ rfl (by show ¬0 % 8 = 7; decide), dwoB_at, zero1, zero_add, Fin.sum_univ_one]
    rfl
  | succ n ih =>
    intro h hn
    show (outsAt0 m c (⟨n + 1, h⟩ : Fin cfg0.N).val _).2.2.2 _ = _
    rw [dwo_B m c ⟨n + 1, h⟩ (by show ¬(n + 1) % 8 = 0; omega) (by show ¬(n + 1) % 8 = 7; omega), dwoB_at, Fin.sum_univ_castSucc (n := n + 1)]
    exact congrArg (· + tileOut m c i j ⟨n + 1, h⟩) (ih (by omega) (by omega))

theorem out_dwo (c : Dev nD) (t : Fin cfg0.N) (ht : t.val % 8 = 7) (i j : Fin 1024) :
    (outsAt0 m c t.val t.isLt).2.1 (ix2 i j) = ∑ s : Fin 8, tileOut m c i j ⟨s.val, s.isLt.trans_eq (show cfg0.N = 8 from N_0).symm⟩ := by
  have h7 : t.val = 7 := by have := lt8 t; omega
  rw [dwo_C m c t (by omega) ht, dwoB_at, Fin.sum_univ_castSucc (n := 7)]
  obtain ⟨v, hv⟩ := t
  obtain rfl : v = 7 := h7
  exact congrArg (· + tileOut m c i j ⟨7, hv⟩) (sum_dwo m c i j 6 _ (by decide))

/-! ### The arrays at the end -/

theorem index7 : ∀ t : Fin cfg0.N, win0_7.index t 0 = t.val ∧ win0_7.index t 1 = 0 :=
  (by decide +kernel : ∀ t : Fin grid0.N, win0_7.index t 0 = t.val ∧ win0_7.index t 1 = 0)
theorem index8 : ∀ t : Fin cfg0.N, win0_8.index t 0 = 0 ∧ win0_8.index t 1 = 0 :=
  (by decide +kernel : ∀ t : Fin grid0.N, win0_8.index t 0 = 0 ∧ win0_8.index t 1 = 0)
theorem index9 : ∀ t : Fin cfg0.N, win0_9.index t 0 = 0 ∧ win0_9.index t 1 = 0 :=
  (by decide +kernel : ∀ t : Fin grid0.N, win0_9.index t 0 = 0 ∧ win0_9.index t 1 = 0)

theorem emb7 (t : Fin cfg0.N) (p : Fin 512) (k : Fin 3072) : ((cfg0.win 7).blk t).view.emb (ix2 p k) = ix2 (row t p) k := by
  refine Shape.idx_ext₂ ?_ ?_
  · refine (Window.rect_emb_val win0_7 t (ix2 p k) 0).trans ?_
    rw [(index7 t).1]; rfl
  · refine (Window.rect_emb_val win0_7 t (ix2 p k) 1).trans ?_
    rw [(index7 t).2]; exact Nat.zero_add _

theorem emb8 (t : Fin cfg0.N) (i j : Fin 1024) : ((cfg0.win 8).blk t).view.emb (ix2 i j) = ix2 i j := by
  refine Shape.idx_ext₂ ?_ ?_
  · refine (Window.rect_emb_val win0_8 t (ix2 i j) 0).trans ?_
    rw [(index8 t).1]; exact Nat.zero_add _
  · refine (Window.rect_emb_val win0_8 t (ix2 i j) 1).trans ?_
    rw [(index8 t).2]; exact Nat.zero_add _

theorem emb9 (t : Fin cfg0.N) (k : Fin 3) (j : Fin 1024) : ((cfg0.win 9).blk t).view.emb (ix2 k j) = ix2 k j := by
  refine Shape.idx_ext₂ ?_ ?_
  · refine (Window.rect_emb_val win0_9 t (ix2 k j) 0).trans ?_
    rw [(index9 t).1]; exact Nat.zero_add _
  · refine (Window.rect_emb_val win0_9 t (ix2 k j) 1).trans ?_
    rw [(index9 t).2]; exact Nat.zero_add _

/-- The last point. -/
def last : Fin cfg0.N := ⟨7, by rw [show cfg0.N = 8 from N_0]; decide⟩

theorem end_dz (c : Dev nD) : (dats m 0 c).arrAt 7 cfg0.N = fun i : S4096x3072.Idx =>
    dz (dhA m c) (zA m c) (cwA m c) (woA m c) (i 0) (i 1) := by
  refine Dat.arrAt_eq_of_cover (dats m 0 c) 7 _ (fun t _ => ?_) (fun i => ?_)
  · show (cfg0.win 7).cut (grid0.coords t) ((dats m 0 c).after 7 t) = _
    rw [after0_7]
    funext y
    obtain ⟨p, k, rfl⟩ : ∃ (p : Fin 512) (k : Fin 3072), y = ix2 p k := ⟨y 0, y 1, eq_ix2 y⟩
    rw [View.read_apply, emb7]
    exact out_dz m c t p k
  · obtain ⟨r, k, rfl⟩ : ∃ (r : Fin 4096) (k : Fin 3072), i = ix2 r k := ⟨i 0, i 1, eq_ix2 i⟩
    have hr := r.isLt
    have ht : r.val / 512 < cfg0.N := by rw [show cfg0.N = 8 from N_0]; omega
    have h := View.emb_mem_set ((cfg0.win 7).blk ⟨_, ht⟩).view (ix2 (⟨r.val % 512, Nat.mod_lt _ (by norm_num)⟩ : Fin 512) k)
    rw [emb7] at h
    refine ⟨⟨_, ht⟩, flush0_7 _, ?_⟩
    rwa [show row ⟨_, ht⟩ ⟨r.val % 512, Nat.mod_lt _ (by norm_num)⟩ = r from
      Fin.ext (show r.val / 512 * 512 + r.val % 512 = r.val by omega)] at h

theorem end_dwo (c : Dev nD) : (dats m 0 c).arrAt 8 cfg0.N = fun i : S1024x1024.Idx =>
    ∑ s : Fin 8, tileOut m c (i 0) (i 1) ⟨s.val, s.isLt.trans_eq (show cfg0.N = 8 from N_0).symm⟩ := by
  refine Dat.arrAt_eq_of_cover (dats m 0 c) 8 _ (fun t hf => ?_) (fun i => ?_)
  · show (cfg0.win 8).cut (grid0.coords t) ((dats m 0 c).after 8 t) = _
    rw [after0_8]
    funext y
    obtain ⟨p, k, rfl⟩ : ∃ (p : Fin 1024) (k : Fin 1024), y = ix2 p k := ⟨y 0, y 1, eq_ix2 y⟩
    rw [View.read_apply, emb8]
    exact out_dwo m c t ((flush0_8 t).mp hf) p k
  · refine ⟨last, (flush0_8 _).mpr rfl, ?_⟩
    obtain ⟨r, k, rfl⟩ : ∃ (r : Fin 1024) (k : Fin 1024), i = ix2 r k := ⟨i 0, i 1, eq_ix2 i⟩
    have h := View.emb_mem_set ((cfg0.win 8).blk last).view (ix2 r k)
    rwa [emb8] at h

theorem end_dcw (c : Dev nD) : (dats m 0 c).arrAt 9 cfg0.N = fun i : S3x1024.Idx => ∑ s : Fin cfg0.N, tileTap m c (i 0) (i 1) s := by
  refine Dat.arrAt_eq_of_cover (dats m 0 c) 9 _ (fun t hf => ?_) (fun i => ?_)
  · show (cfg0.win 9).cut (grid0.coords t) ((dats m 0 c).after 9 t) = _
    rw [after0_9]
    funext y
    obtain ⟨p, k, rfl⟩ : ∃ (p : Fin 3) (k : Fin 1024), y = ix2 p k := ⟨y 0, y 1, eq_ix2 y⟩
    rw [View.read_apply, emb9]
    exact out_dcw m c t ((flush0_9 t).mp hf) p k
  · refine ⟨last, (flush0_9 _).mpr rfl, ?_⟩
    obtain ⟨r, k, rfl⟩ : ∃ (r : Fin 3) (k : Fin 1024), i = ix2 r k := ⟨i 0, i 1, eq_ix2 i⟩
    have h := View.emb_mem_set ((cfg0.win 9).blk last).view (ix2 r k)
    rwa [emb9] at h

/-- The run: the three outputs are these arrays and the arguments are unchanged. -/
theorem run (ρ : Dev nD → PrngReg) : θ_run (defs (F := Ideal)) (onTc (τ := τ) (main (F := Ideal))) ⟨m, fun _ => 0, ρ⟩ fun r => ∀ c : Dev nD,
    r.2.mem ((c.tc : Thread nD τ).loc main_v9_0) = (dats m 0 c).arrAt 7 cfg0.N
    ∧ r.2.mem ((c.tc : Thread nD τ).loc main_v9_1) = (dats m 0 c).arrAt 8 cfg0.N
    ∧ r.2.mem ((c.tc : Thread nD τ).loc main_v9_2) = (dats m 0 c).arrAt 9 cfg0.N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun _ h c => ⟨(h c).1 7, (h c).1 8, (h c).1 9,
      ((h c).1 1).trans (((dats m 0 c).arrAt_in 1 rfl _).trans ((A_eq m c 1).trans (V_main_arg0 m c))),
      ((h c).1 4).trans (((dats m 0 c).arrAt_in 4 rfl _).trans ((A_eq m c 4).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.Proof.AMixValue

end
-- ==== Proof.Pads.lean ====
/- A matrix padded with rows above and below, read at an index. -/
module

public import Idealize.ShloMosaic.Lib.KernelVsHost
public import Idealize.ShloMosaic.Lib.Pointwise
public import Idealize.ShloMosaic.Lib.Pipeline.Value

@[expose] public section

noncomputable section

namespace Cert.Proof.Pads

open Idealize.ShloMosaic

variable {α : Type} {a b n l h0 : ℕ}

/-- Inside, a padded matrix is the matrix. -/
theorem pad_in (x : (⟨2, ![a, b]⟩ : Shape).Idx → α) {u : Shape} (v : u.Idx → α)
    (h : (⟨2, ![a, b]⟩ : Shape).Pads ![l, 0] ![h0, 0] ![0, 0] ⟨2, ![n, b]⟩) (hu : 0 < u.numel) (s : Fin n) (j : Fin b)
    (r : Fin a) (hr : s.val = l + r.val) : pad ⟨2, ![n, b]⟩ ![l, 0] ![h0, 0] ![0, 0] x v h hu (ix2 s j) = x (ix2 r j) := by
  refine pad_apply_of_inside _ _ _ x v h hu _ _ fun c => ?_
  obtain rfl | rfl : c = 0 ∨ c = 1 := (show ∀ c : Fin 2, c = 0 ∨ c = 1 by decide) c
  · show s.val = l + r.val * (0 + 1)
    omega
  · show j.val = 0 + j.val * (0 + 1)
    omega

/-- Above and below the matrix there is the padding value. -/
theorem pad_out (x : (⟨2, ![a, b]⟩ : Shape).Idx → α) {u : Shape} (v : u.Idx → α)
    (h : (⟨2, ![a, b]⟩ : Shape).Pads ![l, 0] ![h0, 0] ![0, 0] ⟨2, ![n, b]⟩) (hu : 0 < u.numel) (s : Fin n) (j : Fin b)
    (hs : s.val < l ∨ l + a ≤ s.val) : pad ⟨2, ![n, b]⟩ ![l, 0] ![h0, 0] ![0, 0] x v h hu (ix2 s j) = v (Shape.Idx.first hu) := by
  refine pad_apply_of_not_inside _ _ _ x v h hu _ (0 : Fin 2) ?_
  show ¬(l ≤ s.val ∧ (s.val - l) % (0 + 1) = 0 ∧ (s.val - l) / (0 + 1) < a)
  rw [Nat.div_one]
  omega

/-- Rows put above a matrix. -/
theorem cat_above (x : (⟨2, ![l, b]⟩ : Shape).Idx → α) (y : (⟨2, ![a, b]⟩ : Shape).Idx → α)
    (h : Shape.Concatenates [(⟨2, ![l, b]⟩ : Shape), ⟨2, ![a, b]⟩] ⟨2, ![n, b]⟩ 0) (s : Fin n) (j : Fin b) (r : Fin l) (hr : s.val = r.val) :
    concatenate ⟨2, ![n, b]⟩ 0 [⟨⟨2, ![l, b]⟩, x⟩, ⟨⟨2, ![a, b]⟩, y⟩] h (ix2 s j) = x (ix2 r j) := by
  refine concatenate_pair_apply_left 0 x y h _ rfl _ fun c => ?_
  obtain rfl | rfl : c = 0 ∨ c = 1 := (show ∀ c : Fin 2, c = 0 ∨ c = 1 by decide) c
  · exact hr.symm
  · rfl

theorem cat_below (x : (⟨2, ![l, b]⟩ : Shape).Idx → α) (y : (⟨2, ![a, b]⟩ : Shape).Idx → α)
    (h : Shape.Concatenates [(⟨2, ![l, b]⟩ : Shape), ⟨2, ![a, b]⟩] ⟨2, ![n, b]⟩ 0) (s : Fin n) (j : Fin b) (r : Fin a) (hr : s.val = l + r.val) :
    concatenate ⟨2, ![n, b]⟩ 0 [⟨⟨2, ![l, b]⟩, x⟩, ⟨⟨2, ![a, b]⟩, y⟩] h (ix2 s j) = y (ix2 r j) := by
  refine concatenate_pair_apply_right 0 x y h _ rfl rfl _ (fun c hc => ?_) ?_
  · obtain rfl | rfl : c = 0 ∨ c = 1 := (show ∀ c : Fin 2, c = 0 ∨ c = 1 by decide) c
    · exact absurd rfl hc
    · rfl
  · show r.val + l = s.val
    omega

/-- Three matrices of the same width side by side. -/
theorem cat_cols (x : Fin 3 → (⟨2, ![a, b]⟩ : Shape).Idx → α)
    (h : Shape.Concatenates [(⟨2, ![a, b]⟩ : Shape), ⟨2, ![a, b]⟩, ⟨2, ![a, b]⟩] ⟨2, ![a, n]⟩ 1) (r : Fin a) (k : Fin n) (g : Fin 3) (i : Fin b)
    (hk : k.val = g.val * b + i.val) :
    concatenate ⟨2, ![a, n]⟩ 1 [⟨⟨2, ![a, b]⟩, x 0⟩, ⟨⟨2, ![a, b]⟩, x 1⟩, ⟨⟨2, ![a, b]⟩, x 2⟩] h (ix2 r k) = x g (ix2 r i) := by
  have off : ∀ c : Fin 2, c ≠ 1 → ((ix2 r i : (⟨2, ![a, b]⟩ : Shape).Idx) c).val = ((ix2 r k : (⟨2, ![a, n]⟩ : Shape).Idx) c).val := fun c hc => by
    obtain rfl | rfl : c = 0 ∨ c = 1 := (show ∀ c : Fin 2, c = 0 ∨ c = 1 by decide) c
    · rfl
    · exact absurd rfl hc
  obtain rfl | rfl | rfl : g = 0 ∨ g = 1 ∨ g = 2 := (show ∀ g : Fin 3, g = 0 ∨ g = 1 ∨ g = 2 by decide) g
  · exact concatenate_apply_piece 1 [⟨⟨2, ![a, b]⟩, x 0⟩, ⟨⟨2, ![a, b]⟩, x 1⟩, ⟨⟨2, ![a, b]⟩, x 2⟩] h (ix2 r k) 0 (show 0 < 3 by decide) ⟨2, ![a, b]⟩ (x 0) rfl rfl
      0 rfl (ix2 r i) off (by show 0 + i.val = k.val; rw [hk]; simp)
  · exact concatenate_apply_piece 1 [⟨⟨2, ![a, b]⟩, x 0⟩, ⟨⟨2, ![a, b]⟩, x 1⟩, ⟨⟨2, ![a, b]⟩, x 2⟩] h (ix2 r k) 1 (show 1 < 3 by decide) ⟨2, ![a, b]⟩ (x 1) rfl rfl
      b rfl (ix2 r i) off (by show b + i.val = k.val; rw [hk]; simp)
  · exact concatenate_apply_piece 1 [⟨⟨2, ![a, b]⟩, x 0⟩, ⟨⟨2, ![a, b]⟩, x 1⟩, ⟨⟨2, ![a, b]⟩, x 2⟩] h (ix2 r k) 2 (show 2 < 3 by decide) ⟨2, ![a, b]⟩ (x 2) rfl rfl
      (b + b) rfl (ix2 r i) off (by show b + b + i.val = k.val; rw [hk]; simp; omega)

end Cert.Proof.Pads

end
-- ==== Proof.AMixRef.lean ====
/- The first mixer's gradient: the reference's results read at an index, and their agreement with what the kernel's outputs hold
   at the end. -/
module

public import proofs.«01_k».proof.Defs
public import proofs.«01_k».proof.Proof.AMixValue
public import proofs.«01_k».proof.Proof.Pads
public import proofs.«01_k».proof.Proof.Gen.AMixRefIdeal.Read

@[expose] public section

set_option maxRecDepth 16384

noncomputable section

namespace Cert.Proof.AMixRef

open Idealize.ShloMosaic Idealize.SL.Sem Cert.AMixRefIdeal Cert.AMixRefIdeal.Read Cert.Proof.AMix Cert.Proof.Pads Cert.Proof.Tiles

variable (X0 : S4096x1024.Idx → EReal) (X1 : S4096x3072.Idx → EReal) (X2 : S3x1024.Idx → EReal) (X3 : S1024x1024.Idx → EReal)

abbrev dh : Fin 4096 → Fin 1024 → EReal := fun r k => X0 (ix2 r k)
abbrev z : Fin 4096 → Fin 3072 → EReal := fun r k => X1 (ix2 r k)
abbrev cw : Fin 3 → Fin 1024 → EReal := fun r k => X2 (ix2 r k)
abbrev wo : Fin 1024 → Fin 1024 → EReal := fun r k => X3 (ix2 r k)

theorem gate_at (r : Fin 4096) (j : Fin 1024) : val_main_v1 (F := Ideal) X1 (ix2 r j) = z X1 r (gateCol j) := by
  rw [val_main_v1_apply, val_main_v0_apply, show idx_main_v1 (ix2 r j) = ix2 r (gateCol j) from Shape.idx_ext₂ rfl rfl]; rfl
theorem left_at (r : Fin 4096) (j : Fin 1024) : val_main_v2 (F := Ideal) X1 (ix2 r j) = z X1 r (leftCol j) := by
  rw [val_main_v2_apply, val_main_v0_apply, show idx_main_v2 (ix2 r j) = ix2 r (leftCol j) from Shape.idx_ext₂ rfl rfl]; rfl
theorem right_at (r : Fin 4096) (j : Fin 1024) : val_main_v3 (F := Ideal) X1 (ix2 r j) = z X1 r (rightCol j) := by
  rw [val_main_v3_apply, val_main_v0_apply, show idx_main_v3 (ix2 r j) = ix2 r (rightCol j) from Shape.idx_ext₂ rfl rfl]; rfl

/-- The product under two rows of zeros. -/
theorem p_at (s : Fin 4098) (j : Fin 1024) : val_main_v6 (F := Ideal) X1 (ix2 s j) = p (z X1) (30 + s.val) j := by
  unfold val_main_v6 p
  have hs := s.isLt
  by_cases h : s.val < 2
  · rw [dif_neg (by omega)]
    refine (cat_above _ _ _ s j ⟨s.val, h⟩ rfl).trans ?_
    rw [val_main_v4_apply]
    exact Ideal.ofBits_zero_f32
  · rw [dif_pos ⟨by omega, by omega⟩]
    refine (cat_below _ _ _ s j ⟨30 + s.val - 32, by omega⟩ (by show s.val = 2 + (30 + s.val - 32); omega)).trans ?_
    rw [val_main_v5_apply, left_at, right_at]
    rfl

theorem p0_at (r : Fin 4096) (j : Fin 1024) : val_main_v10 (F := Ideal) X1 (ix2 r j) = p (z X1) (30 + r.val) j := by
  rw [val_main_v10_apply, show idx_main_v10 (ix2 r j) = ix2 ⟨r.val, by omega⟩ j from Shape.idx_ext₂ rfl rfl]
  exact p_at X1 ⟨r.val, by omega⟩ j
theorem p1_at (r : Fin 4096) (j : Fin 1024) : val_main_v16 (F := Ideal) X1 (ix2 r j) = p (z X1) (31 + r.val) j := by
  rw [val_main_v16_apply, show idx_main_v16 (ix2 r j) = ix2 ⟨1 + r.val, by omega⟩ j from Shape.idx_ext₂ rfl rfl]
  exact (p_at X1 ⟨1 + r.val, by omega⟩ j).trans (congrArg (p (z X1) · j) (by show 30 + (1 + r.val) = 31 + r.val; omega))
theorem p2_at (r : Fin 4096) (j : Fin 1024) : val_main_v23 (F := Ideal) X1 (ix2 r j) = p (z X1) (32 + r.val) j := by
  rw [val_main_v23_apply, show idx_main_v23 (ix2 r j) = ix2 ⟨2 + r.val, by omega⟩ j from Shape.idx_ext₂ rfl rfl]
  exact (p_at X1 ⟨2 + r.val, by omega⟩ j).trans (congrArg (p (z X1) · j) (by show 30 + (2 + r.val) = 32 + r.val; omega))

theorem tap0_at (j : Fin 1024) : val_main_v11 (F := Ideal) X2 (ix2 0 j) = cw X2 0 j := by
  rw [val_main_v11_apply, val_main_v9_apply, val_main_v8_apply]
  exact congrArg X2 (Shape.idx_ext₂ rfl (Nat.mod_eq_of_lt j.isLt))
theorem tap1_at (j : Fin 1024) : val_main_v17 (F := Ideal) X2 (ix2 0 j) = cw X2 1 j := by
  rw [val_main_v17_apply, val_main_v15_apply, val_main_v14_apply]
  exact congrArg X2 (Shape.idx_ext₂ rfl (Nat.mod_eq_of_lt j.isLt))
theorem tap2_at (j : Fin 1024) : val_main_v24 (F := Ideal) X2 (ix2 0 j) = cw X2 2 j := by
  rw [val_main_v24_apply, val_main_v22_apply, val_main_v21_apply]
  exact congrArg X2 (Shape.idx_ext₂ rfl (Nat.mod_eq_of_lt j.isLt))

theorem q_at (r : Fin 4096) (j : Fin 1024) : val_main_v27 (F := Ideal) X1 X2 (ix2 r j) = q (z X1) (cw X2) r.val j := by
  rw [val_main_v27_apply, val_main_v20_apply, val_main_v13_apply, val_main_v19_apply, val_main_v26_apply, val_main_v12_apply,
    val_main_v18_apply, val_main_v25_apply, p0_at, p1_at, p2_at, show idx_main_v12 (ix2 r j) = ix2 0 j from Shape.idx_ext₂ rfl rfl,
    show idx_main_v18 (ix2 r j) = ix2 0 j from Shape.idx_ext₂ rfl rfl, show idx_main_v25 (ix2 r j) = ix2 0 j from Shape.idx_ext₂ rfl rfl,
    tap0_at, tap1_at, tap2_at]
  rfl

theorem dr_at (r : Fin 4096) (j : Fin 1024) : val_main_v32 (F := Ideal) X0 X3 (ix2 r j) = dr (dh X0) (wo X3) r j := by
  rw [val_main_v32_apply]
  refine Finset.sum_congr rfl fun k _ => ?_
  rw [show lidx_main_v32 (ix2 r j) k = ix2 r k from Shape.idx_ext₂ rfl rfl, show ridx_main_v32 (ix2 r j) k = ix2 j k from Shape.idx_ext₂ rfl rfl]

theorem dq_at (r : Fin 4096) (j : Fin 1024) : val_main_v33 (F := Ideal) X0 X1 X3 (ix2 r j) = dq (dh X0) (z X1) (wo X3) r.val j := by
  rw [val_main_v33_apply, gate_at, dr_at]
  unfold dq
  rw [dif_pos r.isLt]
  exact mul_comm _ _

theorem dq_high (s : ℕ) (hs : 4096 ≤ s) (j : Fin 1024) : dq (dh X0) (z X1) (wo X3) s j = 0 := dif_neg (by omega)

/-- The three shifted products with the taps: row `r` of the mixer's input is row `2 + r` of the padded product. -/
theorem back2_at (r : Fin 4096) (j : Fin 1024) :
    val_main_v41 (F := Ideal) X0 X1 X2 X3 (ix2 ⟨2 + r.val, by omega⟩ j) = cw X2 2 j * dq (dh X0) (z X1) (wo X3) r.val j := by
  unfold val_main_v41
  refine (pad_in _ _ _ _ _ j r rfl).trans ?_
  rw [val_main_v36_apply, val_main_v35_apply, dq_at, show idx_main_v35 (ix2 r j) = ix2 0 j from Shape.idx_ext₂ rfl rfl, tap2_at]
  rfl
theorem back1_at (r : Fin 4096) (j : Fin 1024) :
    val_main_v50 (F := Ideal) X0 X1 X2 X3 (ix2 ⟨2 + r.val, by omega⟩ j) = cw X2 1 j * dq (dh X0) (z X1) (wo X3) (1 + r.val) j := by
  unfold val_main_v50
  by_cases h : 1 + r.val < 4096
  · refine (pad_in _ _ _ _ _ j ⟨1 + r.val, h⟩ (by show 2 + r.val = 1 + (1 + r.val); omega)).trans ?_
    rw [val_main_v45_apply, val_main_v44_apply, dq_at, show idx_main_v44 (ix2 ⟨1 + r.val, h⟩ j) = ix2 0 j from Shape.idx_ext₂ rfl rfl, tap1_at]
    rfl
  · rw [dq_high _ _ _ _ (by omega), mul_zero]
    exact (pad_out _ _ _ _ _ j (.inr (by show 1 + 4096 ≤ 2 + r.val; omega))).trans Ideal.ofBits_zero_f32
theorem back0_at (r : Fin 4096) (j : Fin 1024) :
    val_main_v61 (F := Ideal) X0 X1 X2 X3 (ix2 ⟨2 + r.val, by omega⟩ j) = cw X2 0 j * dq (dh X0) (z X1) (wo X3) (2 + r.val) j := by
  unfold val_main_v61
  by_cases h : 2 + r.val < 4096
  · refine (pad_in _ _ _ _ _ j ⟨2 + r.val, h⟩ (by show 2 + r.val = 0 + (2 + r.val); omega)).trans ?_
    rw [val_main_v56_apply, val_main_v55_apply, dq_at, show idx_main_v55 (ix2 ⟨2 + r.val, h⟩ j) = ix2 0 j from Shape.idx_ext₂ rfl rfl, tap0_at]
    rfl
  · rw [dq_high _ _ _ _ (by omega), mul_zero]
    exact (pad_out _ _ _ _ _ j (.inr (by show 0 + 4096 ≤ 2 + r.val; omega))).trans Ideal.ofBits_zero_f32

theorem dp_at (r : Fin 4096) (j : Fin 1024) :
    val_main_v67 (F := Ideal) X0 X1 X2 X3 (ix2 r j) = dp (dh X0) (z X1) (cw X2) (wo X3) r.val j := by
  rw [val_main_v67_apply, show idx_main_v67 (ix2 r j) = ix2 ⟨2 + r.val, by omega⟩ j from Shape.idx_ext₂ rfl rfl, val_main_v62_apply, val_main_v51_apply,
    back0_at, back1_at, back2_at]
  show cw X2 2 j * _ + cw X2 1 j * _ + cw X2 0 j * _ = _
  unfold dp
  rw [add_comm, add_comm (cw X2 2 j * _), add_assoc]

abbrev groups : Fin 3 → S4096x1024.Idx → EReal :=
  ![val_main_v34 (F := Ideal) X0 X1 X2 X3, val_main_v69 (F := Ideal) X0 X1 X2 X3, val_main_v68 (F := Ideal) X0 X1 X2 X3]

/-- The gradient in the mixer's input: three groups of columns. -/
theorem dz_at (r : Fin 4096) (k : Fin 3072) :
    val_main_v71 (F := Ideal) X0 X1 X2 X3 (ix2 r k) = AMix.dz (dh X0) (z X1) (cw X2) (wo X3) r k := by
  rw [val_main_v71_apply]
  show val_main_v70 (F := Ideal) X0 X1 X2 X3 (ix2 r k) = _
  unfold val_main_v70 AMix.dz
  have hk := k.isLt
  by_cases h : k.val < 1024
  · rw [dif_pos h]
    refine (cat_cols (groups X0 X1 X2 X3) _ r k 0 ⟨k.val, h⟩ (by show k.val = 0 * 1024 + (k.val); omega)).trans ?_
    show val_main_v34 (F := Ideal) X0 X1 X2 X3 _ = _
    rw [val_main_v34_apply, dr_at, q_at]
    rfl
  · rw [dif_neg h]
    by_cases h' : k.val < 2048
    · rw [dif_pos h']
      refine (cat_cols (groups X0 X1 X2 X3) _ r k 1 ⟨k.val - 1024, by omega⟩ (by show k.val = 1 * 1024 + (k.val - 1024); omega)).trans ?_
      show val_main_v69 (F := Ideal) X0 X1 X2 X3 _ = _
      rw [val_main_v69_apply, dp_at, right_at]
      rfl
    · rw [dif_neg h']
      refine (cat_cols (groups X0 X1 X2 X3) _ r k 2 ⟨k.val - 2048, by omega⟩ (by show k.val = 2 * 1024 + (k.val - 2048); omega)).trans ?_
      show val_main_v68 (F := Ideal) X0 X1 X2 X3 _ = _
      rw [val_main_v68_apply, dp_at, left_at]
      exact mul_comm _ _

theorem dwo_at (i j : Fin 1024) : val_main_v72 (F := Ideal) X0 X1 X2 (ix2 i j) = ∑ r : Fin 4096, rowOut (dh X0) (z X1) (cw X2) i j r := by
  rw [val_main_v72_apply, val_main_v31_apply, val_main_v30_apply]
  refine Finset.sum_congr rfl fun r _ => ?_
  rw [show lidx_main_v30 (idx_main_v31 (ix2 i j)) r = ix2 r j from Shape.idx_ext₂ rfl rfl,
    show ridx_main_v30 (idx_main_v31 (ix2 i j)) r = ix2 r i from Shape.idx_ext₂ rfl rfl, val_main_v28_apply, gate_at, q_at]
  exact mul_comm _ _

/-! The gradients of the three taps: each a sum over the rows, padded to three rows. -/

theorem flat (j : Fin 1024) : 0 * 1024 + j.val = j.val := by omega

theorem dtap2_at (j : Fin 1024) : val_main_v42 (F := Ideal) X0 X1 X3 (ix2 0 j) = ∑ r : Fin 4096, rowTap (dh X0) (z X1) (wo X3) 2 j r := by
  rw [val_main_v42_apply, val_main_v40_apply, Fin.sum_univ_one, val_main_v39_apply, val_main_v38_apply]
  show Ideal.ofBits .f32 0x00000000#32 + (Ideal.ofBits .f32 0x00000000#32 + _) = _
  rw [Ideal.ofBits_zero_f32, zero_add, zero_add]
  refine Finset.sum_congr rfl fun r _ => ?_
  refine (congrArg (val_main_v37 (F := Ideal) X0 X1 X3) (?_ : _ = ix2 r j)).trans ?_
  · exact Shape.idx_ext₂ rfl (flat j)
  rw [val_main_v37_apply, dq_at, p2_at]
  rfl
theorem dtap1_at (j : Fin 1024) : val_main_v52 (F := Ideal) X0 X1 X3 (ix2 0 j) = ∑ r : Fin 4096, rowTap (dh X0) (z X1) (wo X3) 1 j r := by
  rw [val_main_v52_apply, val_main_v49_apply, Fin.sum_univ_one, val_main_v48_apply, val_main_v47_apply]
  show Ideal.ofBits .f32 0x00000000#32 + (Ideal.ofBits .f32 0x00000000#32 + _) = _
  rw [Ideal.ofBits_zero_f32, zero_add, zero_add]
  refine Finset.sum_congr rfl fun r _ => ?_
  refine (congrArg (val_main_v46 (F := Ideal) X0 X1 X3) (?_ : _ = ix2 r j)).trans ?_
  · exact Shape.idx_ext₂ rfl (flat j)
  rw [val_main_v46_apply, dq_at, p1_at]
  rfl
theorem dtap0_at (j : Fin 1024) : val_main_v63 (F := Ideal) X0 X1 X3 (ix2 0 j) = ∑ r : Fin 4096, rowTap (dh X0) (z X1) (wo X3) 0 j r := by
  rw [val_main_v63_apply, val_main_v60_apply, Fin.sum_univ_one, val_main_v59_apply, val_main_v58_apply]
  show Ideal.ofBits .f32 0x00000000#32 + (Ideal.ofBits .f32 0x00000000#32 + _) = _
  rw [Ideal.ofBits_zero_f32, zero_add, zero_add]
  refine Finset.sum_congr rfl fun r _ => ?_
  refine (congrArg (val_main_v57 (F := Ideal) X0 X1 X3) (?_ : _ = ix2 r j)).trans ?_
  · exact Shape.idx_ext₂ rfl (flat j)
  rw [val_main_v57_apply, dq_at, p0_at]
  rfl

theorem dcw_at (k : Fin 3) (j : Fin 1024) : val_main_v65 (F := Ideal) X0 X1 X3 (ix2 k j) = ∑ r : Fin 4096, rowTap (dh X0) (z X1) (wo X3) k j r := by
  rw [val_main_v65_apply, val_main_v54_apply]
  unfold val_main_v43 val_main_v53 val_main_v64
  obtain rfl | rfl | rfl : k = 0 ∨ k = 1 ∨ k = 2 := by revert k; decide
  · refine (congrArg₂ (· + ·) (congrArg₂ (· + ·) ((pad_out _ _ _ _ _ j (.inl (by decide))).trans Ideal.ofBits_zero_f32)
      ((pad_out _ _ _ _ _ j (.inl (by decide))).trans Ideal.ofBits_zero_f32)) ((pad_in _ _ _ _ _ j 0 rfl).trans (dtap0_at X0 X1 X3 j))).trans ?_
    rw [add_zero, zero_add]
  · refine (congrArg₂ (· + ·) (congrArg₂ (· + ·) ((pad_out _ _ _ _ _ j (.inl (by decide))).trans Ideal.ofBits_zero_f32)
      ((pad_in _ _ _ _ _ j 0 rfl).trans (dtap1_at X0 X1 X3 j))) ((pad_out _ _ _ _ _ j (.inr (by decide))).trans Ideal.ofBits_zero_f32)).trans ?_
    rw [add_zero, zero_add]
  · refine (congrArg₂ (· + ·) (congrArg₂ (· + ·) ((pad_in _ _ _ _ _ j 0 rfl).trans (dtap2_at X0 X1 X3 j))
      ((pad_out _ _ _ _ _ j (.inr (by decide))).trans Ideal.ofBits_zero_f32)) ((pad_out _ _ _ _ _ j (.inr (by decide))).trans Ideal.ofBits_zero_f32)).trans ?_
    rw [add_zero, add_zero]

/-! ### The two programs' results -/

open Cert.Proof.AMixPoint (a0 a1 a2 a3 tileTap tileOut row)
open Cert.Proof.AMixValue (end_dz end_dwo end_dcw)
open Cert.AMixIdeal (cfg0)
open Cert.AMixIdeal.Gen (dats N_0)

variable (m : (ℓ : Loc Cert.AMixIdeal.nD Cert.AMixIdeal.τ Cert.AMixIdeal.sig) → Buf (Elt Ideal) ℓ)

theorem rows : 4096 = cfg0.N * 512 := by rw [show cfg0.N = 8 from N_0]

theorem eq_dz (c : Dev Cert.AMixIdeal.nD) : val_main_v71 (F := Ideal) (a0 m c) (a1 m c) (a2 m c) (a3 m c) = (dats m 0 c).arrAt 7 cfg0.N := by
  rw [end_dz]
  funext i
  obtain ⟨r, k, rfl⟩ : ∃ (r : Fin 4096) (k : Fin 3072), i = ix2 r k := ⟨i 0, i 1, eq_ix2 i⟩
  exact dz_at _ _ _ _ r k

theorem eq_dwo (c : Dev Cert.AMixIdeal.nD) : val_main_v72 (F := Ideal) (a0 m c) (a1 m c) (a2 m c) = (dats m 0 c).arrAt 8 cfg0.N := by
  rw [end_dwo]
  funext i
  obtain ⟨r, k, rfl⟩ : ∃ (r : Fin 1024) (k : Fin 1024), i = ix2 r k := ⟨i 0, i 1, eq_ix2 i⟩
  rw [dwo_at, sum_tiles (show 4096 = 8 * 512 by decide)]
  rfl

theorem eq_dcw (c : Dev Cert.AMixIdeal.nD) : val_main_v65 (F := Ideal) (a0 m c) (a1 m c) (a3 m c) = (dats m 0 c).arrAt 9 cfg0.N := by
  rw [end_dcw]
  funext i
  obtain ⟨r, k, rfl⟩ : ∃ (r : Fin 3) (k : Fin 1024), i = ix2 r k := ⟨i 0, i 1, eq_ix2 i⟩
  rw [dcw_at, sum_tiles rows]
  rfl

theorem frame_ref : Cert.quiescent_AMixRefIdeal := fun m ρ _ =>
  (θ_run Cert.AMixRefIdeal.defs _ _).mono (fun _ h => ⟨fun c => (h c).2.2.2, sem_eq_zero_of_no_sems rfl _⟩) (Cert.AMixRefIdeal.Value.run m ρ)

theorem algebraic : Cert.algebraic_AMixIdeal_AMixRefIdeal := by
  intro m ρ m' ρ' _ ha
  refine ⟨_, _, _, AMixValue.run m ρ, ?_⟩
  refine (θ_run Cert.AMixRefIdeal.defs _ _).mono (fun r h c => ?_) (Cert.AMixRefIdeal.Value.run m' ρ')
  obtain ⟨h0, h1, h2, hs⟩ := h c
  obtain ⟨e0, e1, e2, e3⟩ := ha c
  refine ⟨?_, ?_, ?_, hs⟩
  · refine (h0.trans (val_main_v71_eq _ _)).trans ?_
    rw [e0, e1, e2, e3]
    exact eq_dz m c
  · refine (h1.trans (val_main_v72_eq _ _ _)).trans ?_
    rw [e0, e1, e2]
    exact eq_dwo m c
  · refine (h2.trans (val_main_v65_eq _ _ _)).trans ?_
    rw [e0, e1, e3]
    exact eq_dcw m c

end Cert.Proof.AMixRef

end
-- ==== Proof.InProjPoint.lean ====
/- What one grid point of the in-projection's gradient leaves in its three outputs, as the kernel's own expressions of the
   point's blocks. -/
module

public import proofs.«01_k».proof.Proof.Gen.InProjIdeal.Value
public import proofs.«01_k».proof.Proof.RmsLaws
public import proofs.«01_k».proof.Proof.Whole

@[expose] public section

set_option maxRecDepth 16384

noncomputable section

namespace Cert.Proof.InProjPoint

open Idealize.ShloMosaic Idealize.SL.Sem Cert.InProjIdeal Cert.InProjIdeal.Gen Cert.Proof.Rms Cert.Proof.Whole

variable (m : (ℓ : Loc nD τ sig) → Buf (Elt Ideal) ℓ)

/-- The gradient of the layer's input at a point, and the point's shares of the two sums. -/
abbrev dhp (c : Dev nD) (t : Fin cfg0.N) : Vec Ideal S512x1024 .f32 :=
  k0_pay9 (iblk m c 0 t) (iblk m c 1 t) (iblk m c 2 t) (iblk m c 3 t) (iblk m c 4 t)
abbrev addGain (c : Dev nD) (t : Fin cfg0.N) (a : Vec Ideal S1x1024 .f32) : Vec Ideal S1x1024 .f32 :=
  k0_pay1 (k0_pay8 (iblk m c 0 t) (iblk m c 1 t) (iblk m c 2 t)) a
abbrev addBias (c : Dev nD) (t : Fin cfg0.N) (a : Vec Ideal S1x2048 .f32) : Vec Ideal S1x2048 .f32 :=
  k0_pay2 a (iblk m c 0 t)

/-- The first point: the two running sums start from zero. -/
theorem outs_first (c : Dev nD) (t : Fin cfg0.N) (h0 : t.val % 8 = 0) :
    outsAt0 m c t.val t.isLt = (dhp m c t, addGain m c t (k0_pay3 (F := Ideal)), addBias m c t (k0_pay4 (F := Ideal))) := by
  rw [outsAt0_A m c t h0]
  refine Prod.ext ?_ (Prod.ext ?_ ?_)
  · dsimp only
    unfold out0_A_5
    rw [View.read_writes_eq_canon]
    swap
    · apply cover0_A_5
    unfold kernelRun0_A
    dsimp only
    sl_unfold_words
    simp only [canon2, readCov2, View.readAt_eq_ld, (hs0_0 t).read_unread, (hs0_1 t).read_unread,
      (hs0_2 t).read_unread, (hs0_3 t).read_unread, (hs0_4 t).read_unread, ld2]
  · dsimp only
    unfold out0_A_6
    rw [View.read_writes_eq_canon]
    swap
    · apply cover0_A_6
    unfold kernelRun0_A
    dsimp only
    sl_unfold_words
    simp only [canon2, readCov2, View.readAt_eq_ld, (hs0_0 t).read_unread, (hs0_1 t).read_unread,
      (hs0_2 t).read_unread, (hs0_3 t).read_unread, (hs0_4 t).read_unread, ld2]
  · dsimp only
    unfold out0_A_7
    rw [View.read_writes_eq_canon]
    swap
    · apply cover0_A_7
    unfold kernelRun0_A
    dsimp only
    sl_unfold_words
    simp only [canon2, readCov2, View.readAt_eq_ld, (hs0_0 t).read_unread, (hs0_1 t).read_unread,
      (hs0_2 t).read_unread, (hs0_3 t).read_unread, (hs0_4 t).read_unread, ld2]

/-- A later point adds to what the point before left in the two sums. -/
theorem outs_next (c : Dev nD) (t : Fin cfg0.N) (h0 : ¬t.val % 8 = 0) :
    outsAt0 m c t.val t.isLt =
      (dhp m c t, addGain m c t (outsAt0 m c (t.val - 1) (Nat.lt_of_le_of_lt (Nat.sub_le _ _) t.isLt)).2.1,
       addBias m c t (outsAt0 m c (t.val - 1) (Nat.lt_of_le_of_lt (Nat.sub_le _ _) t.isLt)).2.2) := by
  rw [outsAt0_B m c t h0]
  refine Prod.ext ?_ (Prod.ext ?_ ?_)
  · dsimp only
    unfold out0_B_5
    rw [View.read_writes_eq_canon]
    swap
    · apply cover0_B_5
    unfold kernelRun0_B
    dsimp only
    sl_unfold_words
    simp only [canon2, readCov2, View.readAt_eq_ld, (hs0_0 t).read_unread, (hs0_1 t).read_unread,
      (hs0_2 t).read_unread, (hs0_3 t).read_unread, (hs0_4 t).read_unread, ld2]
  · dsimp only
    unfold out0_B_6
    rw [View.read_writes_eq_canon]
    swap
    · apply cover0_B_6
    unfold kernelRun0_B
    dsimp only
    sl_unfold_words
    simp only [canon2, readCov2, View.readAt_eq_ld, (hs0_6 t).read_unread, (hs0_0 t).read_unread, (hs0_1 t).read_unread,
      (hs0_2 t).read_unread, (hs0_3 t).read_unread, (hs0_4 t).read_unread, ld2]
  · dsimp only
    unfold out0_B_7
    rw [View.read_writes_eq_canon]
    swap
    · apply cover0_B_7
    unfold kernelRun0_B
    dsimp only
    sl_unfold_words
    simp only [canon2, readCov2, View.readAt_eq_ld, (hs0_7 t).read_unread, (hs0_0 t).read_unread, (hs0_1 t).read_unread,
      (hs0_2 t).read_unread, (hs0_3 t).read_unread, (hs0_4 t).read_unread, ld2]

end Cert.Proof.InProjPoint

end
-- ==== Proof.InProjValue.lean ====
/- The in-projection's gradient: what the kernel's outputs hold at the end, as sums over the whole arrays. -/
module

public import proofs.«01_k».proof.Proof.InProjPoint
public import proofs.«01_k».proof.Proof.Tiles

@[expose] public section

set_option maxRecDepth 16384

noncomputable section

namespace Cert.Proof.InProjValue

open Idealize.ShloMosaic Idealize.SL.Sem Cert.InProjIdeal Cert.InProjIdeal.Gen Cert.Proof.Rms Cert.Proof.InProjPoint Cert.Proof.Tiles
open Idealize.ShloMosaic.Pipeline (Dat Cfg Window)

variable (m : (ℓ : Loc nD τ sig) → Buf (Elt Ideal) ℓ)

/-! ### The kernel's expressions at an index -/

/-- The cotangent of the normalised and scaled row: the row of `dz` against the rows of the weight. -/
def du (d : Fin 2048 → EReal) (w : Fin 1024 → Fin 2048 → EReal) (k : Fin 1024) : EReal := ∑ l, d l * w k l

theorem pay5_at (d : Vec Ideal S512x2048 .bf16) (w : Vec Ideal S1024x2048 .bf16) (p : Fin 512) (k : Fin 1024) :
    k0_pay5 d w (ix2 p k) = du (fun l => d (ix2 p l)) (fun k l => w (ix2 k l)) k := by
  unfold du
  pointwise [k0_pay5]

theorem pay9_at (d : Vec Ideal S512x2048 .bf16) (w : Vec Ideal S1024x2048 .bf16) (x : Vec Ideal S512x1024 .f32)
    (g : Vec Ideal S1x1024 .f32) (e : Vec Ideal S512x1024 .f32) (p : Fin 512) (j : Fin 1024) :
    k0_pay9 d w x g e (ix2 p j) = e (ix2 p j)
      + dx (fun k => x (ix2 p k)) (fun k => du (fun l => d (ix2 p l)) (fun k l => w (ix2 k l)) k * g (ix2 0 k)) j := by
  simp only [← pay5_at]
  unfold dx rr under
  rw [← c1024, ← cEps]
  pointwise [k0_pay9, k0_pay7, k0_pay6]

theorem pay8_at (d : Vec Ideal S512x2048 .bf16) (w : Vec Ideal S1024x2048 .bf16) (x : Vec Ideal S512x1024 .f32)
    (a : Vec Ideal S1x1024 .f32) (j : Fin 1024) :
    k0_pay1 (k0_pay8 d w x) a (ix2 0 j) = a (ix2 0 j)
      + ∑ p : Fin 512, du (fun l => d (ix2 p l)) (fun k l => w (ix2 k l)) j * (x (ix2 p j) * rr (fun k => x (ix2 p k))) := by
  simp only [← pay5_at]
  unfold rr under
  rw [← c1024, ← cEps]
  pointwise [k0_pay1, k0_pay8, k0_pay7, k0_pay6]

theorem pay2_at (d : Vec Ideal S512x2048 .bf16) (a : Vec Ideal S1x2048 .f32) (j : Fin 2048) :
    k0_pay2 a d (ix2 0 j) = a (ix2 0 j) + ∑ p : Fin 512, d (ix2 p j) := by
  pointwise [k0_pay2]

/-! ### The blocks of the arguments -/

abbrev az (c : Dev nD) : S4096x2048.Idx → EReal := m ((c.tc : Thread nD τ).loc main_arg0)
abbrev aw (c : Dev nD) : S1024x2048.Idx → EReal := m ((c.tc : Thread nD τ).loc main_arg1)
abbrev ah (c : Dev nD) : S4096x1024.Idx → EReal := m ((c.tc : Thread nD τ).loc main_arg2)
abbrev ag (c : Dev nD) : S1024.Idx → EReal := m ((c.tc : Thread nD τ).loc main_arg3)
abbrev ad (c : Dev nD) : S4096x1024.Idx → EReal := m ((c.tc : Thread nD τ).loc main_arg4)

theorem lt8 (n : ℕ) (h : n < cfg0.N) : n < 8 := lt_of_lt_of_eq h (show cfg0.N = 8 from N_0)

/-- Row `p` of block `t` in the whole array. -/
def row (t : Fin cfg0.N) (p : Fin 512) : Fin 4096 :=
  ⟨t.val * 512 + p.val, by have := lt8 _ t.isLt; omega⟩

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = t.val ∧ win0_4.index t 1 = 0 :=
  (by decide +kernel : ∀ t : Fin grid0.N, win0_4.index t 0 = t.val ∧ win0_4.index t 1 = 0)
theorem index5 : ∀ t : Fin cfg0.N, win0_5.index t 0 = t.val ∧ win0_5.index t 1 = 0 :=
  (by decide +kernel : ∀ t : Fin grid0.N, win0_5.index t 0 = t.val ∧ win0_5.index t 1 = 0)
theorem index6 : ∀ t : Fin cfg0.N, win0_6.index t 0 = 0 ∧ win0_6.index t 1 = 0 :=
  (by decide +kernel : ∀ t : Fin grid0.N, win0_6.index t 0 = 0 ∧ win0_6.index t 1 = 0)
theorem index7 : ∀ t : Fin cfg0.N, win0_7.index t 0 = 0 ∧ win0_7.index t 1 = 0 :=
  (by decide +kernel : ∀ t : Fin grid0.N, win0_7.index t 0 = 0 ∧ win0_7.index t 1 = 0)

theorem emb0 (t : Fin cfg0.N) (p : Fin 512) (k : Fin 2048) : ((cfg0.win 0).blk t).view.emb (ix2 p k) = ix2 (row t p) k := by
  refine Shape.idx_ext₂ ?_ ?_
  · refine (Window.rect_emb_val win0_0 t (ix2 p k) 0).trans ?_
    rw [(index0 t).1]; rfl
  · refine (Window.rect_emb_val win0_0 t (ix2 p k) 1).trans ?_
    rw [(index0 t).2]; exact Nat.zero_add _

theorem emb1 (t : Fin cfg0.N) (p : Fin 1024) (k : Fin 2048) : ((cfg0.win 1).blk t).view.emb (ix2 p k) = ix2 p k := by
  refine Shape.idx_ext₂ ?_ ?_
  · refine (Window.rect_emb_val win0_1 t (ix2 p k) 0).trans ?_
    rw [(index1 t).1]; exact Nat.zero_add _
  · refine (Window.rect_emb_val win0_1 t (ix2 p k) 1).trans ?_
    rw [(index1 t).2]; exact Nat.zero_add _

theorem emb2 (t : Fin cfg0.N) (p : Fin 512) (k : Fin 1024) : ((cfg0.win 2).blk t).view.emb (ix2 p k) = ix2 (row t p) k := by
  refine Shape.idx_ext₂ ?_ ?_
  · refine (Window.rect_emb_val win0_2 t (ix2 p k) 0).trans ?_
    rw [(index2 t).1]; rfl
  · refine (Window.rect_emb_val win0_2 t (ix2 p k) 1).trans ?_
    rw [(index2 t).2]; exact Nat.zero_add _

theorem emb3 (t : Fin cfg0.N) (k : Fin 1024) : ((cfg0.win 3).blk t).view.emb (ix2 0 k) = ix2 0 k := by
  refine Shape.idx_ext₂ ?_ ?_
  · refine (Window.rect_emb_val win0_3 t (ix2 0 k) 0).trans ?_
    rw [(index3 t).1]; exact Nat.zero_add _
  · refine (Window.rect_emb_val win0_3 t (ix2 0 k) 1).trans ?_
    rw [(index3 t).2]; exact Nat.zero_add _

theorem emb4 (t : Fin cfg0.N) (p : Fin 512) (k : Fin 1024) : ((cfg0.win 4).blk t).view.emb (ix2 p k) = ix2 (row t p) k := by
  refine Shape.idx_ext₂ ?_ ?_
  · refine (Window.rect_emb_val win0_4 t (ix2 p k) 0).trans ?_
    rw [(index4 t).1]; rfl
  · refine (Window.rect_emb_val win0_4 t (ix2 p k) 1).trans ?_
    rw [(index4 t).2]; exact Nat.zero_add _

theorem emb5 (t : Fin cfg0.N) (p : Fin 512) (k : Fin 1024) : ((cfg0.win 5).blk t).view.emb (ix2 p k) = ix2 (row t p) k := by
  refine Shape.idx_ext₂ ?_ ?_
  · refine (Window.rect_emb_val win0_5 t (ix2 p k) 0).trans ?_
    rw [(index5 t).1]; rfl
  · refine (Window.rect_emb_val win0_5 t (ix2 p k) 1).trans ?_
    rw [(index5 t).2]; exact Nat.zero_add _

theorem emb6 (t : Fin cfg0.N) (k : Fin 1024) : ((cfg0.win 6).blk t).view.emb (ix2 0 k) = ix2 0 k := by
  refine Shape.idx_ext₂ ?_ ?_
  · refine (Window.rect_emb_val win0_6 t (ix2 0 k) 0).trans ?_
    rw [(index6 t).1]; exact Nat.zero_add _
  · refine (Window.rect_emb_val win0_6 t (ix2 0 k) 1).trans ?_
    rw [(index6 t).2]; exact Nat.zero_add _

theorem emb7 (t : Fin cfg0.N) (k : Fin 2048) : ((cfg0.win 7).blk t).view.emb (ix2 0 k) = ix2 0 k := by
  refine Shape.idx_ext₂ ?_ ?_
  · refine (Window.rect_emb_val win0_7 t (ix2 0 k) 0).trans ?_
    rw [(index7 t).1]; exact Nat.zero_add _
  · refine (Window.rect_emb_val win0_7 t (ix2 0 k) 1).trans ?_
    rw [(index7 t).2]; exact Nat.zero_add _

theorem blk0 (c : Dev nD) (t : Fin cfg0.N) (p : Fin 512) (k : Fin 2048) :
    iblk m c 0 t (ix2 p k) = az m c (ix2 (row t p) k) := by
  unfold iblk
  rw [View.read_apply, emb0]
  show V m c main_arg0 _ = _
  rw [V_main_arg0]

theorem blk2 (c : Dev nD) (t : Fin cfg0.N) (p : Fin 512) (k : Fin 1024) :
    iblk m c 2 t (ix2 p k) = ah m c (ix2 (row t p) k) := by
  unfold iblk
  rw [View.read_apply, emb2]
  show V m c main_arg2 _ = _
  rw [V_main_arg2]

theorem blk4 (c : Dev nD) (t : Fin cfg0.N) (p : Fin 512) (k : Fin 1024) :
    iblk m c 4 t (ix2 p k) = ad m c (ix2 (row t p) k) := by
  unfold iblk
  rw [View.read_apply, emb4]
  show V m c main_arg4 _ = _
  rw [V_main_arg4]

theorem blk1 (c : Dev nD) (t : Fin cfg0.N) (i : Fin 1024) (k : Fin 2048) :
    iblk m c 1 t (ix2 i k) = aw m c (ix2 i k) := by
  unfold iblk
  rw [View.read_apply, emb1]
  show V m c main_v0 _ = _
  have hV : V m c main_v0 = truncf (F := Ideal) .bf16 (aw m c) bitsLt_bf16_f32 := by
    dsimp only [V]; after_results_simp <;> rfl
  rw [hV]
  rfl

theorem blk3 (c : Dev nD) (t : Fin cfg0.N) (k : Fin 1024) :
    iblk m c 3 t (ix2 0 k) = ag m c (ix1 k) := by
  unfold iblk
  rw [View.read_apply, emb3]
  show V m c main_v1 _ = _
  have hV : V m c main_v1 = shapeCast S1x1024 (ag m c) shapeCasts_S1024_S1x1024 := by
    dsimp only [V]; after_results_simp <;> rfl
  rw [hV]
  pointwise

/-! ### The outputs after a point -/

abbrev zr (c : Dev nD) (i : Fin 4096) : Fin 2048 → EReal := fun k => az m c (ix2 i k)
abbrev wr (c : Dev nD) : Fin 1024 → Fin 2048 → EReal := fun i k => aw m c (ix2 i k)
abbrev xr (c : Dev nD) (i : Fin 4096) : Fin 1024 → EReal := fun k => ah m c (ix2 i k)
abbrev gr (c : Dev nD) : Fin 1024 → EReal := fun k => ag m c (ix1 k)

/-- The gradient of the layer's input at a row and column. -/
def dhAt (c : Dev nD) (i : Fin 4096) (j : Fin 1024) : EReal :=
  ad m c (ix2 i j) + dx (xr m c i) (fun k => du (zr m c i) (wr m c) k * gr m c k) j

/-- What a point adds to the gradients of the gain and of the bias. -/
def tileGain (c : Dev nD) (j : Fin 1024) (t : Fin cfg0.N) : EReal :=
  ∑ p : Fin 512, du (zr m c (row t p)) (wr m c) j * (xr m c (row t p) j * rr (xr m c (row t p)))
def tileBias (c : Dev nD) (j : Fin 2048) (t : Fin cfg0.N) : EReal := ∑ p : Fin 512, zr m c (row t p) j

theorem out_dh (c : Dev nD) (t : Fin cfg0.N) (p : Fin 512) (j : Fin 1024) :
    (outsAt0 m c t.val t.isLt).1 (ix2 p j) = dhAt m c (row t p) j := by
  have h : (outsAt0 m c t.val t.isLt).1 = dhp m c t := by
    by_cases h0 : t.val % 8 = 0
    · rw [outs_first m c t h0]
    · rw [outs_next m c t h0]
  rw [h]
  refine (pay9_at _ _ _ _ _ p j).trans ?_
  simp only [blk0, blk1, blk2, blk3, blk4, dhAt]

theorem add_gain (c : Dev nD) (t : Fin cfg0.N) (a : Vec Ideal S1x1024 .f32) (j : Fin 1024) :
    addGain m c t a (ix2 0 j) = a (ix2 0 j) + tileGain m c j t := by
  refine (pay8_at _ _ _ a j).trans ?_
  simp only [blk0, blk1, blk2, tileGain]

theorem add_bias (c : Dev nD) (t : Fin cfg0.N) (a : Vec Ideal S1x2048 .f32) (j : Fin 2048) :
    addBias m c t a (ix2 0 j) = a (ix2 0 j) + tileBias m c j t := by
  refine (pay2_at _ a j).trans ?_
  simp only [blk0, tileBias]

theorem zero3 (j : Fin 1024) : k0_pay3 (F := Ideal) (ix2 0 j) = 0 := by pointwise [k0_pay3]
theorem zero4 (j : Fin 2048) : k0_pay4 (F := Ideal) (ix2 0 j) = 0 := by pointwise [k0_pay4]

/-- The two sums after the last point, together: they run in the same way. -/
theorem out_sums (c : Dev nD) (t : Fin cfg0.N) (ht : t.val % 8 = 7) :
    (∀ j, (outsAt0 m c t.val t.isLt).2.1 (ix2 0 j) = ∑ s : Fin cfg0.N, tileGain m c j s)
      ∧ ∀ j, (outsAt0 m c t.val t.isLt).2.2 (ix2 0 j) = ∑ s : Fin cfg0.N, tileBias m c j s := by
  have hl : t.val + 1 = cfg0.N := by
    have := lt8 _ t.isLt
    exact (show t.val + 1 = 8 by omega).trans (show cfg0.N = 8 from N_0).symm
  have hn : ∀ n (h : n + 1 < cfg0.N), ¬(n + 1) % 8 = 0 := fun n h => by have := lt8 _ h; omega
  refine ⟨fun j => running_last (fun n h => (outsAt0 m c n h).2.1 (ix2 0 j)) (tileGain m c j) (fun h => ?_) (fun n h => ?_) _ t.isLt hl,
    fun j => running_last (fun n h => (outsAt0 m c n h).2.2 (ix2 0 j)) (tileBias m c j) (fun h => ?_) (fun n h => ?_) _ t.isLt hl⟩
  · exact (congrArg (fun o => o.2.1 (ix2 0 j)) (outs_first m c ⟨0, h⟩ rfl)).trans ((add_gain m c _ _ j).trans (by rw [zero3, zero_add]))
  · exact (congrArg (fun o => o.2.1 (ix2 0 j)) (outs_next m c ⟨n + 1, h⟩ (hn n h))).trans (add_gain m c _ _ j)
  · exact (congrArg (fun o => o.2.2 (ix2 0 j)) (outs_first m c ⟨0, h⟩ rfl)).trans ((add_bias m c _ _ j).trans (by rw [zero4, zero_add]))
  · exact (congrArg (fun o => o.2.2 (ix2 0 j)) (outs_next m c ⟨n + 1, h⟩ (hn n h))).trans (add_bias m c _ _ j)

/-! ### The arrays at the end -/

/-- The last point. -/
def last : Fin cfg0.N := ⟨7, by rw [show cfg0.N = 8 from N_0]; decide⟩

theorem end_dh (c : Dev nD) : (dats m 0 c).arrAt 5 cfg0.N = fun i : S4096x1024.Idx => dhAt m c (i 0) (i 1) := by
  refine Dat.arrAt_eq_of_cover (dats m 0 c) 5 _ (fun t _ => ?_) (fun i => ?_)
  · rw [Value.flushed5]
    funext y
    obtain ⟨p, k, rfl⟩ : ∃ (p : Fin 512) (k : Fin 1024), y = ix2 p k := ⟨y 0, y 1, eq_ix2 y⟩
    rw [View.read_apply, emb5]
    exact out_dh m c t p k
  · obtain ⟨r, k, rfl⟩ : ∃ (r : Fin 4096) (k : Fin 1024), i = ix2 r k := ⟨i 0, i 1, eq_ix2 i⟩
    have hr := r.isLt
    have ht : r.val / 512 < cfg0.N := by rw [show cfg0.N = 8 from N_0]; omega
    have h := View.emb_mem_set ((cfg0.win 5).blk ⟨_, ht⟩).view (ix2 (⟨r.val % 512, Nat.mod_lt _ (by norm_num)⟩ : Fin 512) k)
    rw [emb5] at h
    refine ⟨⟨_, ht⟩, flush0_5 _, ?_⟩
    rwa [show row ⟨_, ht⟩ ⟨r.val % 512, Nat.mod_lt _ (by norm_num)⟩ = r from
      Fin.ext (show r.val / 512 * 512 + r.val % 512 = r.val by omega)] at h

theorem end_gain (c : Dev nD) : (dats m 0 c).arrAt 6 cfg0.N = fun i : S1x1024.Idx => ∑ s : Fin cfg0.N, tileGain m c (i 1) s := by
  refine Dat.arrAt_eq_of_cover (dats m 0 c) 6 _ (fun t hf => ?_) (fun i => ⟨last, (flush0_6 _).mpr rfl, ?_⟩)
  · rw [Value.flushed6]
    funext y
    obtain ⟨k, rfl⟩ : ∃ k : Fin 1024, y = ix2 (0 : Fin 1) k := ⟨y 1, (eq_ix2 y).trans (congrArg (ix2 · _) (Fin.fin_one_eq_zero _))⟩
    rw [View.read_apply, emb6]
    exact (out_sums m c t ((flush0_6 t).mp hf)).1 k
  · obtain ⟨k, rfl⟩ : ∃ k : Fin 1024, i = ix2 (0 : Fin 1) k := ⟨i 1, (eq_ix2 i).trans (congrArg (ix2 · _) (Fin.fin_one_eq_zero _))⟩
    have h := View.emb_mem_set ((cfg0.win 6).blk last).view (ix2 (0 : Fin 1) k)
    rwa [emb6] at h

theorem end_bias (c : Dev nD) : (dats m 0 c).arrAt 7 cfg0.N = fun i : S1x2048.Idx => ∑ s : Fin cfg0.N, tileBias m c (i 1) s := by
  refine Dat.arrAt_eq_of_cover (dats m 0 c) 7 _ (fun t hf => ?_) (fun i => ⟨last, (flush0_7 _).mpr rfl, ?_⟩)
  · rw [Value.flushed7]
    funext y
    obtain ⟨k, rfl⟩ : ∃ k : Fin 2048, y = ix2 (0 : Fin 1) k := ⟨y 1, (eq_ix2 y).trans (congrArg (ix2 · _) (Fin.fin_one_eq_zero _))⟩
    rw [View.read_apply, emb7]
    exact (out_sums m c t ((flush0_7 t).mp hf)).2 k
  · obtain ⟨k, rfl⟩ : ∃ k : Fin 2048, i = ix2 (0 : Fin 1) k := ⟨i 1, (eq_ix2 i).trans (congrArg (ix2 · _) (Fin.fin_one_eq_zero _))⟩
    have h := View.emb_mem_set ((cfg0.win 7).blk last).view (ix2 (0 : Fin 1) k)
    rwa [emb7] at h

end Cert.Proof.InProjValue

end
-- ==== Proof.InProjRef.lean ====
/- The in-projection's gradient: the reference's results read at an index, and their agreement with what the kernel's outputs
   hold at the end. -/
module

public import proofs.«01_k».proof.Defs
public import proofs.«01_k».proof.Proof.InProjValue
public import proofs.«01_k».proof.Proof.Gen.InProjRefIdeal.Read

@[expose] public section

set_option maxRecDepth 16384

noncomputable section

namespace Cert.Proof.InProjRef

open Idealize.ShloMosaic Idealize.SL.Sem Cert.InProjRefIdeal Cert.InProjRefIdeal.Read Cert.Proof.Rms Cert.Proof.Tiles
open Cert.Proof.InProjValue (du)

variable (Z : S4096x2048.Idx → EReal) (W : S1024x2048.Idx → EReal) (X : S4096x1024.Idx → EReal) (G : S1024.Idx → EReal)
  (D : S4096x1024.Idx → EReal)

abbrev z (i : Fin 4096) : Fin 2048 → EReal := fun k => Z (ix2 i k)
abbrev w : Fin 1024 → Fin 2048 → EReal := fun i k => W (ix2 i k)
abbrev x (i : Fin 4096) : Fin 1024 → EReal := fun k => X (ix2 i k)
abbrev g : Fin 1024 → EReal := fun k => G (ix1 k)

theorem under_at (i : S4096x1.Idx) : val_main_v7 (F := Ideal) X i = under (x X (i 0)) := by
  have e : ∀ k, val_main_v1 (F := Ideal) X (idx_main_v2 (idx_main_v3 i) k) = x X (i 0) k * x X (i 0) k := fun k => by
    rw [val_main_v1_apply, show idx_main_v2 (idx_main_v3 i) k = ix2 (i 0) k from Shape.idx_ext₂ rfl rfl]; rfl
  rw [val_main_v7_apply, val_main_v5_apply, val_main_v3_apply, val_main_v2_apply, val_main_v4_apply, val_main_v6_apply]
  simp only [e]
  show Ideal.div (Ideal.ofBits .f32 0x00000000#32 + _) (Ideal.ofBits .f32 0x44800000#32) + Ideal.ofBits .f32 0x358637BD#32 = _
  rw [Ideal.ofBits_zero_f32, zero_add, c1024, cEps]
  rfl

theorem rr_at (i : S4096x1.Idx) : val_main_v8 (F := Ideal) X i = rr (x X (i 0)) := by
  rw [val_main_v8_apply, under_at]; rfl

/-- The cotangent of the normalised and scaled row. -/
theorem du_at (r : Fin 4096) (k : Fin 1024) : val_main_v25 (F := Ideal) Z W (ix2 r k) = du (z Z r) (w W) k := by
  rw [val_main_v25_apply]
  refine Finset.sum_congr rfl fun l _ => congrArg₂ (· * ·) ?_ (congrArg W (Shape.idx_ext₂ rfl rfl))
  rw [val_main_v21_apply]
  exact congrArg Z (Shape.idx_ext₂ rfl rfl)

theorem bias_at (i : S1x2048.Idx) : val_main_v48 (F := Ideal) Z i = ∑ r : Fin 4096, z Z r (i 1) := by
  rw [val_main_v48_apply, val_main_v24_apply, Fin.sum_univ_one, val_main_v23_apply, val_main_v22_apply]
  show Ideal.ofBits .f32 0x00000000#32 + (Ideal.ofBits .f32 0x00000000#32 + _) = _
  rw [Ideal.ofBits_zero_f32, zero_add, zero_add]
  refine Finset.sum_congr rfl fun r _ => congrArg Z (Shape.idx_ext₂ rfl ?_)
  have h0 : (i 0).val < 1 := (i 0).isLt
  show 0 * 2048 + ((i 0).val * 2048 + (i 1).val) = (i 1).val
  omega

theorem gain_at (i : S1x1024.Idx) : val_main_v47 (F := Ideal) Z W X i
    = ∑ r : Fin 4096, du (z Z r) (w W) (i 1) * (X (ix2 r (i 1)) * rr (x X r)) := by
  have e : ∀ (r : Fin 4096) (j : Fin 1024), val_main_v26 (F := Ideal) Z W X (ix2 r j)
      = du (z Z r) (w W) j * (X (ix2 r j) * rr (x X r)) := fun r j => by
    rw [val_main_v26_apply, val_main_v13_apply, val_main_v12_apply, rr_at, du_at]
    exact mul_comm _ _
  rw [val_main_v47_apply, val_main_v31_apply, Fin.sum_univ_one, val_main_v28_apply, val_main_v27_apply]
  show Ideal.ofBits .f32 0x00000000#32 + (Ideal.ofBits .f32 0x00000000#32 + _) = _
  rw [Ideal.ofBits_zero_f32, zero_add, zero_add]
  refine Finset.sum_congr rfl fun r _ => (congrArg (val_main_v26 (F := Ideal) Z W X) (?_ : _ = ix2 r (i 1))).trans (e r (i 1))
  refine Shape.idx_ext₂ rfl ?_
  have h0 : (i 0).val < 1 := (i 0).isLt
  show 0 * 1024 + ((i 0).val * 1024 + (i 1).val) = (i 1).val
  omega

theorem dD_at (r : Fin 4096) (k : Fin 1024) : val_main_v30 (F := Ideal) Z W G (ix2 r k) = du (z Z r) (w W) k * g G k := by
  rw [val_main_v30_apply, val_main_v29_apply, val_main_v14_apply, du_at,
    show idx_main_v14 (idx_main_v29 (ix2 r k)) = ix1 k from eq_ix1 _]
  rfl

theorem thr_at (r : Fin 4096) (j : Fin 1024) :
    val_main_v42 (F := Ideal) Z W X G (ix2 r j) = thr (x X r) (fun k => du (z Z r) (w W) k * g G k) := by
  rw [val_main_v42_apply, val_main_v41_apply, Fin.sum_univ_one, val_main_v40_apply, val_main_v39_apply, val_main_v38_apply,
    val_main_v34_apply, val_main_v33_apply, val_main_v11_apply, val_main_v10_apply, val_main_v9_apply, under_at, rr_at]
  have e : ∀ k, val_main_v32 (F := Ideal) Z W X G (idx_main_v33 (idx_main_v34 (idx_main_v41 (idx_main_v42 (ix2 r j)) 0)) k)
      = x X r k * (du (z Z r) (w W) k * g G k) := fun k => by
    refine (congrArg (val_main_v32 (F := Ideal) Z W X G) (?_ : _ = ix2 r k)).trans ?_
    · exact Shape.idx_ext₂ (by show r.val * 1 + 0 = r.val; omega) rfl
    · rw [val_main_v32_apply, dD_at]; rfl
  simp only [e]
  show Ideal.ofBits .f32 0x00000000#32 + Ideal.div ((Ideal.ofBits .f32 0x00000000#32 + _) * (Ideal.ofBits .f32 0xBF000000#32
    * Ideal.div (rr (x X r)) (under (x X r)))) (Ideal.ofBits .f32 0x44800000#32) = _
  rw [Ideal.ofBits_zero_f32, zero_add, zero_add, cNegHalf, c1024]
  rfl

theorem dh_at (r : Fin 4096) (j : Fin 1024) : val_main_v46 (F := Ideal) Z W X G D (ix2 r j)
    = D (ix2 r j) + dx (x X r) (fun k => du (z Z r) (w W) k * g G k) j := by
  rw [dx_eq, val_main_v46_apply, val_main_v44_apply, val_main_v45_apply, val_main_v43_apply, val_main_v37_apply, val_main_v36_apply,
    val_main_v35_apply, rr_at, dD_at, thr_at, add_assoc (_ * _), ← add_assoc, ← add_assoc]
  rfl

/-! ### The two programs' results -/

open Cert.InProjIdeal (cfg0)
open Cert.InProjIdeal.Gen (dats N_0)
open Cert.Proof.InProjValue (az aw ah ag ad end_dh end_gain end_bias)

variable (m : (ℓ : Loc Cert.InProjIdeal.nD Cert.InProjIdeal.τ Cert.InProjIdeal.sig) → Buf (Elt Ideal) ℓ)

theorem rows : 4096 = cfg0.N * 512 := by rw [show cfg0.N = 8 from N_0]

theorem eq_dh (c : Dev Cert.InProjIdeal.nD) :
    val_main_v46 (F := Ideal) (az m c) (aw m c) (ah m c) (ag m c) (ad m c) = (dats m 0 c).arrAt 5 cfg0.N := by
  rw [end_dh]
  funext i
  obtain ⟨r, k, rfl⟩ : ∃ (r : Fin 4096) (k : Fin 1024), i = ix2 r k := ⟨i 0, i 1, eq_ix2 i⟩
  exact dh_at _ _ _ _ _ r k

theorem eq_gain (c : Dev Cert.InProjIdeal.nD) :
    val_main_v47 (F := Ideal) (az m c) (aw m c) (ah m c) = (dats m 0 c).arrAt 6 cfg0.N := by
  rw [end_gain]
  funext i
  rw [gain_at, sum_tiles rows]
  rfl

theorem eq_bias (c : Dev Cert.InProjIdeal.nD) : val_main_v48 (F := Ideal) (az m c) = (dats m 0 c).arrAt 7 cfg0.N := by
  rw [end_bias]
  funext i
  rw [bias_at, sum_tiles rows]
  rfl

theorem frame_ref : Cert.quiescent_InProjRefIdeal := fun m ρ _ =>
  (θ_run Cert.InProjRefIdeal.defs _ _).mono (fun _ h => ⟨fun c => (h c).2.2.2, sem_eq_zero_of_no_sems rfl _⟩) (Cert.InProjRefIdeal.Value.run m ρ)

theorem algebraic : Cert.algebraic_InProjIdeal_InProjRefIdeal := by
  intro m ρ m' ρ' _ ha
  refine ⟨_, _, _, Cert.InProjIdeal.Value.run_blocks m ρ, ?_⟩
  refine (θ_run Cert.InProjRefIdeal.defs _ _).mono (fun r h c => ?_) (Cert.InProjRefIdeal.Value.run m' ρ')
  obtain ⟨h0, h1, h2, kept⟩ := h c
  obtain ⟨a0, a1, a2, a3, a4⟩ := ha c
  refine ⟨?_, ?_, ?_, kept⟩
  · refine (h0.trans (val_main_v46_eq _ _)).trans ?_
    rw [a0, a1, a2, a3, a4]
    exact eq_dh m c
  · refine (h1.trans (val_main_v47_eq _ _ _)).trans ?_
    rw [a0, a1, a2]
    exact eq_gain m c
  · refine (h2.trans (val_main_v48_eq _)).trans ?_
    rw [a0]
    exact eq_bias m c

end Cert.Proof.InProjRef

end
-- ==== Proof.FfnRun.lean ====
/- The body of `ffn_bwd_x`'s kernel, run once per kind of grid point: the first chunk of the first row block, the first chunk
   of a later one, a middle chunk, the last chunk. Each run finds the stores it leaves in the buffers it writes; the residual
   gradient's bf16 copy is written at the first chunk and only read at the others, so there it is handed back as found. -/
module

public import proofs.«01_k».proof.Proof.Gen.FfnIdeal.Launch
public import proofs.«01_k».proof.Proof.Gen.FfnIdeal.Points
public import proofs.«01_k».proof.Proof.Gen.FfnIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.FfnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FfnIdeal Cert.FfnIdeal.Gen

variable {F : FTy → Type} [FloatOps F]

/-- The resources of the program. -/
abbrev Mo (F : FTy → Type) := MT nD τ sig Unit (Elt F) ℕ (UR sig nD τ) ℕ

/-- A buffer held at some contents. -/
def some' {s : Shape} {e : EltTy} (c : Dev nD) (a : Memref sig .tc .vmem s e) : sProp (Mo F) :=
  iprop(∃ d, owns (c : Thread nD τ) a fullShare d)

/-- A buffer into which the stores `L` were made, the last one first. -/
def left {s : Shape} {e : EltTy} (c : Dev nD) (a : Memref sig .tc .vmem s e) (L : List (View.Piece (Elt F) s e)) : sProp (Mo F) :=
  iprop(∃ f, a.view.loc (c : Thread nD τ) ↦[a.view.set]{fullShare} a.view.writes (Elt F) f L)

/-- Where the stores cover the buffer, it holds what they leave. -/
theorem left_owns {s : Shape} {e : EltTy} (c : Dev nD) (a : Memref sig .tc .vmem s e) (L : List (View.Piece (Elt F) s e))
    (h : ∀ y, ∃ p ∈ L, y ∈ p.1.set) : left c a L ⊢ (owns (c : Thread nD τ) a fullShare (View.canon L) : sProp (Mo F)) := by
  unfold left owns
  iintro ⟨%f, H⟩
  iexists _
  isplitr
  · ipureintro; exact View.read_writes_eq_canon a.view f L h
  iexact H

variable (c : Dev nD) (i : grid1.Coords)
  (arg2 : Memref sig .tc .vmem S512x1024 .f32) (harg2 : arg2.IsWhole)
  (arg3 : Memref sig .tc .vmem S512x1024 .f32) (harg3 : arg3.IsWhole)
  (arg4 : Memref sig .tc .vmem S1x1024 .f32) (harg4 : arg4.IsWhole)
  (arg5 : Memref sig .tc .vmem S2x1x512x704 .bf16) (harg5 : arg5.IsWhole)
  (arg6 : Memref sig .tc .vmem S2x1x704x1024 .bf16) (harg6 : arg6.IsWhole)
  (arg7 : Memref sig .tc .vmem S1x704x1024 .bf16) (harg7 : arg7.IsWhole)
  (arg8 : Memref sig .tc .vmem S512x1024 .f32) (harg8 : arg8.IsWhole)
  (arg9 : Memref sig .tc .vmem S2x1x512x704 .bf16) (harg9 : arg9.IsWhole)
  (arg10 : Memref sig .tc .vmem S1x512x704 .bf16) (harg10 : arg10.IsWhole)
  (arg11 : Memref sig .tc .vmem S1x1024 .f32) (harg11 : arg11.IsWhole)
  (arg12 : Memref sig .tc .vmem S512x1024 .bf16) (harg12 : arg12.IsWhole)
  (arg13 : Memref sig .tc .vmem S512x1024 .f32) (harg13 : arg13.IsWhole)
  (x0 : Vec F S512x1024 .f32) (x1 : Vec F S512x1024 .f32) (x2 : Vec F S1x1024 .f32) (x3 : Vec F S2x1x512x704 .bf16) (x4 : Vec F S2x1x704x1024 .bf16) (x5 : Vec F S1x704x1024 .bf16)

/-- The six input blocks. -/
def ins : sProp (Mo F) :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare x5)

/-- The run of the body from the inputs and `P` to the inputs and `Q`. -/
def Runs (P Q : sProp (Mo F)) : Prop :=
  ∀ (E : Set ℕ) (K : PUnit → sProp (Mo F)),
    iprop(ins c arg2 arg3 arg4 arg5 arg6 arg7 x0 x1 x2 x3 x4 x5 ∗ P
        ∗ (iprop(ins c arg2 arg3 arg4 arg5 arg6 arg7 x0 x1 x2 x3 x4 x5 ∗ Q) -∗ K ⟨⟩))
      ⊢ wp frame (wpE (defs₀ (F := F)) Variants.none c none) E (cc1_ffn_bwd_x i arg2 harg2 arg3 harg3 arg4 harg4 arg5 harg5 arg6 harg6 arg7 harg7 arg8 harg8 arg9 harg9 arg10 harg10 arg11 harg11 arg12 harg12 arg13 harg13) K

set_option maxHeartbeats 1000000 in
/-- The first point: the gain's gradient, the copy and the running sum start here. -/
def runA (hc0 : k1_cond1 i = 1#1) (hc1 : k1_cond2 i = 1#1) (hc2 : ¬k1_cond3 i = 1#1)  :
    Σ' (L7 : List (View.Piece (Elt F) S2x1x512x704 .bf16)), Σ' (L8 : List (View.Piece (Elt F) S1x512x704 .bf16)), Σ' (L9 : List (View.Piece (Elt F) S1x1024 .f32)), Σ' (L10 : List (View.Piece (Elt F) S512x1024 .bf16)), { LS : List (View.Piece (Elt F) S512x1024 .f32) //
      ∀ (d6 : Vec F S512x1024 .f32), Runs c i arg2 harg2 arg3 harg3 arg4 harg4 arg5 harg5 arg6 harg6 arg7 harg7 arg8 harg8 arg9 harg9 arg10 harg10 arg11 harg11 arg12 harg12 arg13 harg13 x0 x1 x2 x3 x4 x5
        iprop(owns (c : Thread nD τ) arg8 fullShare d6 ∗ some' c arg9 ∗ some' c arg10 ∗ some' c arg11 ∗ some' c arg12 ∗ some' c arg13)
        iprop(owns (c : Thread nD τ) arg8 fullShare d6 ∗ left c arg9 L7 ∗ left c arg10 L8 ∗ left c arg11 L9 ∗ left c arg12 L10 ∗ left c arg13 LS) } := by
  refine ⟨?_, ?_, ?_, ?_, ?_, fun d6 E K => ?run⟩
  case run =>
    simp only [cc1_ffn_bwd_x_eq_skeleton]; unfold cc1_ffn_bwd_x_skel
    simp only [k1_part1_eq_skeleton, k1_part2_eq_skeleton]
    unfold ins some' left owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨⟨%f6, %hf6, H6⟩, ⟨%d7, %f7, -, H7⟩, ⟨%d8, %f8, -, H8⟩, ⟨%d9, %f9, -, H9⟩, ⟨%d10, %f10, -, H10⟩, ⟨%dS, %fS, -, HS⟩⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1 | sl_exact hc2)
    sl_step
    iapply Hk
    isplitl [H0 H1 H2 H3 H4 H5]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]; · iexists _; iexact H9
    isplitl [H10]; · iexists _; iexact H10
    iexists _; iexact HS

set_option maxHeartbeats 1000000 in
/-- The first chunk of a later row block: the copy and the running sum start here, the gain's gradient is left alone. -/
def runD (hc0 : k1_cond1 i = 1#1) (hc1 : ¬k1_cond2 i = 1#1) (hc2 : ¬k1_cond3 i = 1#1)  :
    Σ' (L7 : List (View.Piece (Elt F) S2x1x512x704 .bf16)), Σ' (L8 : List (View.Piece (Elt F) S1x512x704 .bf16)), Σ' (L10 : List (View.Piece (Elt F) S512x1024 .bf16)), { LS : List (View.Piece (Elt F) S512x1024 .f32) //
      ∀ (d6 : Vec F S512x1024 .f32) (d9 : Vec F S1x1024 .f32), Runs c i arg2 harg2 arg3 harg3 arg4 harg4 arg5 harg5 arg6 harg6 arg7 harg7 arg8 harg8 arg9 harg9 arg10 harg10 arg11 harg11 arg12 harg12 arg13 harg13 x0 x1 x2 x3 x4 x5
        iprop(owns (c : Thread nD τ) arg8 fullShare d6 ∗ some' c arg9 ∗ some' c arg10 ∗ owns (c : Thread nD τ) arg11 fullShare d9 ∗ some' c arg12 ∗ some' c arg13)
        iprop(owns (c : Thread nD τ) arg8 fullShare d6 ∗ left c arg9 L7 ∗ left c arg10 L8 ∗ owns (c : Thread nD τ) arg11 fullShare d9 ∗ left c arg12 L10 ∗ left c arg13 LS) } := by
  refine ⟨?_, ?_, ?_, ?_, fun d6 d9 E K => ?run⟩
  case run =>
    simp only [cc1_ffn_bwd_x_eq_skeleton]; unfold cc1_ffn_bwd_x_skel
    simp only [k1_part1_eq_skeleton, k1_part2_eq_skeleton]
    unfold ins some' left owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨⟨%f6, %hf6, H6⟩, ⟨%d7, %f7, -, H7⟩, ⟨%d8, %f8, -, H8⟩, ⟨%f9, %hf9, H9⟩, ⟨%d10, %f10, -, H10⟩, ⟨%dS, %fS, -, HS⟩⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hf9
    sl_exec (disch := first | sl_exact hc0 | sl_exact hc1 | sl_exact hc2)
    sl_step
    iapply Hk
    isplitl [H0 H1 H2 H3 H4 H5]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]
    · iexists _; isplitr; · ipureintro; exact harg11.read_unread _
      iexact H9
    isplitl [H10]; · iexists _; iexact H10
    iexists _; iexact HS

set_option maxHeartbeats 1000000 in
/-- A middle chunk: the copy is read, the running sum grows. -/
def runB (hc0 : ¬k1_cond1 i = 1#1) (hc1 : ¬k1_cond2 i = 1#1) (hc2 : ¬k1_cond3 i = 1#1) (y10 : Vec F S512x1024 .bf16) (ys : Vec F S512x1024 .f32) :
    Σ' (L7 : List (View.Piece (Elt F) S2x1x512x704 .bf16)), Σ' (L8 : List (View.Piece (Elt F) S1x512x704 .bf16)), { LS : List (View.Piece (Elt F) S512x1024 .f32) //
      ∀ (d6 : Vec F S512x1024 .f32) (d9 : Vec F S1x1024 .f32), Runs c i arg2 harg2 arg3 harg3 arg4 harg4 arg5 harg5 arg6 harg6 arg7 harg7 arg8 harg8 arg9 harg9 arg10 harg10 arg11 harg11 arg12 harg12 arg13 harg13 x0 x1 x2 x3 x4 x5
        iprop(owns (c : Thread nD τ) arg8 fullShare d6 ∗ some' c arg9 ∗ some' c arg10 ∗ owns (c : Thread nD τ) arg11 fullShare d9 ∗ owns (c : Thread nD τ) arg12 fullShare y10 ∗ owns (c : Thread nD τ) arg13 fullShare ys)
        iprop(owns (c : Thread nD τ) arg8 fullShare d6 ∗ left c arg9 L7 ∗ left c arg10 L8 ∗ owns (c : Thread nD τ) arg11 fullShare d9 ∗ owns (c : Thread nD τ) arg12 fullShare y10 ∗ left c arg13 LS) } := by
  refine ⟨?_, ?_, ?_, fun d6 d9 E K => ?run⟩
  case run =>
    simp only [cc1_ffn_bwd_x_eq_skeleton]; unfold cc1_ffn_bwd_x_skel
    simp only [k1_part1_eq_skeleton, k1_part2_eq_skeleton]
    unfold ins some' left owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨⟨%f6, %hf6, H6⟩, ⟨%d7, %f7, -, H7⟩, ⟨%d8, %f8, -, H8⟩, ⟨%f9, %hf9, H9⟩, ⟨%f10, %hf10, H10⟩, ⟨%fS, %hfS, HS⟩⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hf9; obtain rfl := harg12.eq_unread hf10; obtain rfl := harg13.eq_unread hfS
    sl_exec (disch := first | sl_exact hc0 | sl_exact hc1 | sl_exact hc2)
    sl_step
    iapply Hk
    isplitl [H0 H1 H2 H3 H4 H5]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]
    · iexists _; isplitr; · ipureintro; exact harg11.read_unread _
      iexact H9
    isplitl [H10]
    · iexists _; isplitr; · ipureintro; exact harg12.read_unread _
      iexact H10
    iexists _; iexact HS

set_option maxHeartbeats 1000000 in
/-- The last chunk: the norm's gradient is made from the finished sum, the gain's gradient grows. -/
def runC (hc0 : ¬k1_cond1 i = 1#1) (hc1 : ¬k1_cond2 i = 1#1) (hc2 : k1_cond3 i = 1#1) (y9 : Vec F S1x1024 .f32) (y10 : Vec F S512x1024 .bf16) (ys : Vec F S512x1024 .f32) :
    Σ' (L6 : List (View.Piece (Elt F) S512x1024 .f32)), Σ' (L7 : List (View.Piece (Elt F) S2x1x512x704 .bf16)), Σ' (L8 : List (View.Piece (Elt F) S1x512x704 .bf16)), Σ' (L9 : List (View.Piece (Elt F) S1x1024 .f32)), { LS : List (View.Piece (Elt F) S512x1024 .f32) //
      Runs c i arg2 harg2 arg3 harg3 arg4 harg4 arg5 harg5 arg6 harg6 arg7 harg7 arg8 harg8 arg9 harg9 arg10 harg10 arg11 harg11 arg12 harg12 arg13 harg13 x0 x1 x2 x3 x4 x5
        iprop(some' c arg8 ∗ some' c arg9 ∗ some' c arg10 ∗ owns (c : Thread nD τ) arg11 fullShare y9 ∗ owns (c : Thread nD τ) arg12 fullShare y10 ∗ owns (c : Thread nD τ) arg13 fullShare ys)
        iprop(left c arg8 L6 ∗ left c arg9 L7 ∗ left c arg10 L8 ∗ left c arg11 L9 ∗ owns (c : Thread nD τ) arg12 fullShare y10 ∗ left c arg13 LS) } := by
  refine ⟨?_, ?_, ?_, ?_, ?_, fun E K => ?run⟩
  case run =>
    simp only [cc1_ffn_bwd_x_eq_skeleton]; unfold cc1_ffn_bwd_x_skel
    simp only [k1_part1_eq_skeleton, k1_part2_eq_skeleton]
    unfold ins some' left owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨⟨%d6, %f6, -, H6⟩, ⟨%d7, %f7, -, H7⟩, ⟨%d8, %f8, -, H8⟩, ⟨%f9, %hf9, H9⟩, ⟨%f10, %hf10, H10⟩, ⟨%fS, %hfS, HS⟩⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hf9; obtain rfl := harg12.eq_unread hf10; obtain rfl := harg13.eq_unread hfS
    sl_exec (disch := first | sl_exact hc0 | sl_exact hc1 | sl_exact hc2)
    sl_step
    iapply Hk
    isplitl [H0 H1 H2 H3 H4 H5]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      iexists _; isplitr; · ipureintro; exact harg7.read_unread _
      iexact H5
    isplitl [H6]; · iexists _; iexact H6
    isplitl [H7]; · iexists _; iexact H7
    isplitl [H8]; · iexists _; iexact H8
    isplitl [H9]; · iexists _; iexact H9
    isplitl [H10]
    · iexists _; isplitr; · ipureintro; exact harg12.read_unread _
      iexact H10
    iexists _; iexact HS

end Cert.Proof.FfnRun

end
-- ==== Proof.FfnFwdRun.lean ====
/- The body of `ffn_fwd`'s kernel, run once per kind of grid point: the first chunk, a middle chunk, the last chunk. Each run finds
   the stores it leaves in the buffers it writes; the normalised rows are written at the first chunk and only read at the
   others, so there they are handed back as found. -/
module

public import proofs.«01_k».proof.Proof.FfnRun

@[expose] public section

set_option maxRecDepth 16384

noncomputable section

namespace Cert.Proof.FfnFwdRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FfnIdeal Cert.FfnIdeal.Gen Cert.Proof.FfnRun

variable {F : FTy → Type} [FloatOps F]

variable (c : Dev nD) (i : grid0.Coords)
  (arg2 : Memref sig .tc .vmem S1024x1024 .f32) (harg2 : arg2.IsWhole)
  (arg3 : Memref sig .tc .vmem S1x1024 .f32) (harg3 : arg3.IsWhole)
  (arg4 : Memref sig .tc .vmem S2x1x704x1024 .bf16) (harg4 : arg4.IsWhole)
  (arg5 : Memref sig .tc .vmem S1x704x1024 .bf16) (harg5 : arg5.IsWhole)
  (arg6 : Memref sig .tc .vmem S1024x1024 .f32) (harg6 : arg6.IsWhole)
  (arg7 : Memref sig .tc .vmem S2x1x1024x704 .bf16) (harg7 : arg7.IsWhole)
  (arg8 : Memref sig .tc .vmem S1024x1024 .bf16) (harg8 : arg8.IsWhole)
  (arg9 : Memref sig .tc .vmem S1024x1024 .f32) (harg9 : arg9.IsWhole)
  (x0 : Vec F S1024x1024 .f32) (x1 : Vec F S1x1024 .f32) (x2 : Vec F S2x1x704x1024 .bf16) (x3 : Vec F S1x704x1024 .bf16)

/-- The four input blocks. -/
def ins : sProp (Mo F) :=
  iprop(owns (c : Thread nD τ) arg2 fullShare x0 ∗ owns (c : Thread nD τ) arg3 fullShare x1 ∗ owns (c : Thread nD τ) arg4 fullShare x2
    ∗ owns (c : Thread nD τ) arg5 fullShare x3)

/-- The run of the body from the inputs and `P` to the inputs and `Q`. -/
def Runs (P Q : sProp (Mo F)) : Prop :=
  ∀ (E : Set ℕ) (K : PUnit → sProp (Mo F)),
    iprop(ins c arg2 arg3 arg4 arg5 x0 x1 x2 x3 ∗ P
        ∗ (iprop(ins c arg2 arg3 arg4 arg5 x0 x1 x2 x3 ∗ Q) -∗ K ⟨⟩))
      ⊢ wp frame (wpE (defs₀ (F := F)) Variants.none c none) E (cc0_ffn_fwd i arg2 harg2 arg3 harg3 arg4 harg4 arg5 harg5 arg6 harg6 arg7 harg7 arg8 harg8 arg9 harg9) K

set_option maxHeartbeats 1000000 in
/-- The first chunk: the normalised rows and the running sum start here. -/
def runA (hc0 : k0_cond1 i = 1#1) (hc1 : ¬k0_cond2 i = 1#1) :
    Σ' (L5 : List (View.Piece (Elt F) S2x1x1024x704 .bf16)), Σ' (L6 : List (View.Piece (Elt F) S1024x1024 .bf16)), { LS : List (View.Piece (Elt F) S1024x1024 .f32) //
      ∀ (d4 : Vec F S1024x1024 .f32), Runs c i arg2 harg2 arg3 harg3 arg4 harg4 arg5 harg5 arg6 harg6 arg7 harg7 arg8 harg8 arg9 harg9 x0 x1 x2 x3
        iprop(owns (c : Thread nD τ) arg6 fullShare d4 ∗ some' c arg7 ∗ some' c arg8 ∗ some' c arg9)
        iprop(owns (c : Thread nD τ) arg6 fullShare d4 ∗ left c arg7 L5 ∗ left c arg8 L6 ∗ left c arg9 LS) } := by
  refine ⟨?_, ?_, ?_, fun d4 E K => ?run⟩
  case run =>
    simp only [cc0_ffn_fwd_eq_skeleton]; unfold cc0_ffn_fwd_skel
    simp only [k0_part1_eq_skeleton]
    unfold ins some' left owns
    iintro ⟨⟨⟨%f0, %hf0, H0⟩, ⟨%f1, %hf1, H1⟩, ⟨%f2, %hf2, H2⟩, ⟨%f3, %hf3, H3⟩⟩, ⟨⟨%f4, %hf4, H4⟩, ⟨%d5, %f5, -, H5⟩, ⟨%d6, %f6, -, H6⟩, ⟨%dS, %fS, -, HS⟩⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    iapply Hk
    isplitl [H0 H1 H2 H3]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact HS

set_option maxHeartbeats 1000000 in
/-- A middle chunk: the rows are read, the running sum grows. -/
def runB (hc0 : ¬k0_cond1 i = 1#1) (hc1 : ¬k0_cond2 i = 1#1) (y6 : Vec F S1024x1024 .bf16) (ys : Vec F S1024x1024 .f32) :
    Σ' (L5 : List (View.Piece (Elt F) S2x1x1024x704 .bf16)), { LS : List (View.Piece (Elt F) S1024x1024 .f32) //
      ∀ (d4 : Vec F S1024x1024 .f32), Runs c i arg2 harg2 arg3 harg3 arg4 harg4 arg5 harg5 arg6 harg6 arg7 harg7 arg8 harg8 arg9 harg9 x0 x1 x2 x3
        iprop(owns (c : Thread nD τ) arg6 fullShare d4 ∗ some' c arg7 ∗ owns (c : Thread nD τ) arg8 fullShare y6 ∗ owns (c : Thread nD τ) arg9 fullShare ys)
        iprop(owns (c : Thread nD τ) arg6 fullShare d4 ∗ left c arg7 L5 ∗ owns (c : Thread nD τ) arg8 fullShare y6 ∗ left c arg9 LS) } := by
  refine ⟨?_, ?_, fun d4 E K => ?run⟩
  case run =>
    simp only [cc0_ffn_fwd_eq_skeleton]; unfold cc0_ffn_fwd_skel
    simp only [k0_part1_eq_skeleton]
    unfold ins some' left owns
    iintro ⟨⟨⟨%f0, %hf0, H0⟩, ⟨%f1, %hf1, H1⟩, ⟨%f2, %hf2, H2⟩, ⟨%f3, %hf3, H3⟩⟩, ⟨⟨%f4, %hf4, H4⟩, ⟨%d5, %f5, -, H5⟩, ⟨%f6, %hf6, H6⟩, ⟨%fS, %hfS, HS⟩⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hfS
    sl_exec (disch := first | sl_exact hc0 | sl_exact hc1)
    sl_step
    iapply Hk
    isplitl [H0 H1 H2 H3]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    iexists _; iexact HS

set_option maxHeartbeats 1000000 in
/-- The last chunk: the rows leave with the finished sum added. -/
def runC (hc0 : ¬k0_cond1 i = 1#1) (hc1 : k0_cond2 i = 1#1) (y6 : Vec F S1024x1024 .bf16) (ys : Vec F S1024x1024 .f32) :
    Σ' (L4 : List (View.Piece (Elt F) S1024x1024 .f32)), Σ' (L5 : List (View.Piece (Elt F) S2x1x1024x704 .bf16)), { LS : List (View.Piece (Elt F) S1024x1024 .f32) //
      Runs c i arg2 harg2 arg3 harg3 arg4 harg4 arg5 harg5 arg6 harg6 arg7 harg7 arg8 harg8 arg9 harg9 x0 x1 x2 x3
        iprop(some' c arg6 ∗ some' c arg7 ∗ owns (c : Thread nD τ) arg8 fullShare y6 ∗ owns (c : Thread nD τ) arg9 fullShare ys)
        iprop(left c arg6 L4 ∗ left c arg7 L5 ∗ owns (c : Thread nD τ) arg8 fullShare y6 ∗ left c arg9 LS) } := by
  refine ⟨?_, ?_, ?_, fun E K => ?run⟩
  case run =>
    simp only [cc0_ffn_fwd_eq_skeleton]; unfold cc0_ffn_fwd_skel
    simp only [k0_part1_eq_skeleton]
    unfold ins some' left owns
    iintro ⟨⟨⟨%f0, %hf0, H0⟩, ⟨%f1, %hf1, H1⟩, ⟨%f2, %hf2, H2⟩, ⟨%f3, %hf3, H3⟩⟩, ⟨⟨%d4, %f4, -, H4⟩, ⟨%d5, %f5, -, H5⟩, ⟨%f6, %hf6, H6⟩, ⟨%fS, %hfS, HS⟩⟩, Hk⟩
    obtain rfl := harg2.eq_unread hf0; obtain rfl := harg3.eq_unread hf1; obtain rfl := harg4.eq_unread hf2; obtain rfl := harg5.eq_unread hf3; obtain rfl := harg8.eq_unread hf6; obtain rfl := harg9.eq_unread hfS
    sl_exec (disch := first | sl_exact hc0 | sl_exact hc1)
    sl_step
    iapply Hk
    isplitl [H0 H1 H2 H3]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      iexists _; isplitr; · ipureintro; exact harg5.read_unread _
      iexact H3
    isplitl [H4]; · iexists _; iexact H4
    isplitl [H5]; · iexists _; iexact H5
    isplitl [H6]
    · iexists _; isplitr; · ipureintro; exact harg8.read_unread _
      iexact H6
    iexists _; iexact HS

end Cert.Proof.FfnFwdRun

end
-- ==== Proof.FfnFwdFrame.lean ====
/- `ffn_fwd`'s kernel over its grid: what the buffers hold after each point, and the body's step from one point to the next. The grid
   is four row blocks by four chunks of the inner width, the chunk fastest; the point's number tells which kind of point it is. -/
module

public import proofs.«01_k».proof.Proof.FfnFwdRun
public import Idealize.ShloMosaic.Lib.Claim
public import Idealize.ShloMosaic.Lib.Pipeline.TableIdle

@[expose] public section

set_option maxRecDepth 16384

noncomputable section

namespace Cert.Proof.FfnFwdFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.FfnIdeal Cert.FfnIdeal.Gen Cert.Proof.FfnFwdRun
open Cert.Proof.FfnRun (Mo some' left left_owns)

variable {F : FTy → Type} [FloatOps F]

/-! ## The points -/

/-- The first chunk. -/
theorem kA : ∀ t : Fin cfg0.N, t.val % 4 = 0 → k0_cond1 (grid0.coords t) = 1#1 ∧ ¬k0_cond2 (grid0.coords t) = 1#1 := by decide +kernel
/-- A middle chunk. -/
theorem kB : ∀ t : Fin cfg0.N, t.val % 4 ≠ 0 ∧ t.val % 4 ≠ 3 → ¬k0_cond1 (grid0.coords t) = 1#1 ∧ ¬k0_cond2 (grid0.coords t) = 1#1 := by decide +kernel
/-- The last chunk. -/
theorem kC : ∀ t : Fin cfg0.N, t.val % 4 = 3 → ¬k0_cond1 (grid0.coords t) = 1#1 ∧ k0_cond2 (grid0.coords t) = 1#1 := by decide +kernel

/-- The finished rows are stored at the last chunk, -/
theorem live4 : ∀ t : Fin cfg0.N, t.val % 4 = 3 → cfg0.idle 4 (grid0.coords t) = false := by decide +kernel
theorem idle4 : ∀ t : Fin cfg0.N, t.val % 4 ≠ 3 → cfg0.idle 4 (grid0.coords t) = true ∧ (cfg0.win 4).flush t = false := by decide +kernel
/-- the normalised rows at the first. -/
theorem live6 : ∀ t : Fin cfg0.N, t.val % 4 = 0 → cfg0.idle 6 (grid0.coords t) = false := by decide +kernel
theorem idle6 : ∀ t : Fin cfg0.N, t.val % 4 ≠ 0 → cfg0.idle 6 (grid0.coords t) = true := by decide +kernel
theorem flush6 : ∀ t : Fin cfg0.N, (cfg0.win 6).flush t = decide (t.val % 4 = 3) := by decide +kernel

/-- Whether the normalised rows' buffer holds nothing yet before a point. -/
def new6 (n : ℕ) : Bool := decide (n % 4 = 0)
theorem fresh6 (t : Fin cfg0.N) : cfg0.fresh 6 t.val = new6 t.val :=
  Cfg.fresh_tab cfg0 6 new6 rfl (by decide +kernel) t.val (Nat.le_of_lt t.isLt)

/-! ## The buffers at a point -/

abbrev b0 (t : Fin cfg0.N) : Memref sig .tc .vmem S1024x1024 .f32 := win0_0.stage (cfg0.slots t 0)
abbrev w0 (t : Fin cfg0.N) : (b0 t).IsWhole := hstage0_0 ((cfg0.slots t 0).cast nbuf0_0)
abbrev b1 (t : Fin cfg0.N) : Memref sig .tc .vmem S1x1024 .f32 := win0_1.stage (cfg0.slots t 1)
abbrev w1 (t : Fin cfg0.N) : (b1 t).IsWhole := hstage0_1 ((cfg0.slots t 1).cast nbuf0_1)
abbrev b2 (t : Fin cfg0.N) : Memref sig .tc .vmem S2x1x704x1024 .bf16 := win0_2.stage (cfg0.slots t 2)
abbrev w2 (t : Fin cfg0.N) : (b2 t).IsWhole := hstage0_2 ((cfg0.slots t 2).cast nbuf0_2)
abbrev b3 (t : Fin cfg0.N) : Memref sig .tc .vmem S1x704x1024 .bf16 := win0_3.stage (cfg0.slots t 3)
abbrev w3 (t : Fin cfg0.N) : (b3 t).IsWhole := hstage0_3 ((cfg0.slots t 3).cast nbuf0_3)
abbrev b4 (t : Fin cfg0.N) : Memref sig .tc .vmem S1024x1024 .f32 := win0_4.stage (cfg0.slots t 4)
abbrev w4 (t : Fin cfg0.N) : (b4 t).IsWhole := hstage0_4 ((cfg0.slots t 4).cast nbuf0_4)
abbrev b5 (t : Fin cfg0.N) : Memref sig .tc .vmem S2x1x1024x704 .bf16 := win0_5.stage (cfg0.slots t 5)
abbrev w5 (t : Fin cfg0.N) : (b5 t).IsWhole := hstage0_5 ((cfg0.slots t 5).cast nbuf0_5)
abbrev b6 (t : Fin cfg0.N) : Memref sig .tc .vmem S1024x1024 .bf16 := win0_6.stage (cfg0.slots t 6)
abbrev w6 (t : Fin cfg0.N) : (b6 t).IsWhole := hstage0_6 ((cfg0.slots t 6).cast nbuf0_6)
/-- The running sum. -/
abbrev bS : Memref sig .tc .vmem S1024x1024 .f32 := Memref.whole cc0_scratch0
abbrev wS : bS.IsWhole := Memref.isWhole_whole _

variable (m : Dev nD → Valuation τ sig (Elt F)) (c : Dev nD)

/-- The contents of a buffer of the device as the kernel is entered, -/
abbrev V (b : Ref sig .tc) : Buf (Elt F) ((c : Thread nD τ).loc b) := m c b

/-- and a window's block at a point. -/
def iblk (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The run at the first chunk. -/
def rA (t : Fin cfg0.N) (h : t.val % 4 = 0) :=
  runA c (grid0.coords t) (b0 t) (w0 t) (b1 t) (w1 t) (b2 t) (w2 t) (b3 t) (w3 t) (b4 t) (w4 t) (b5 t) (w5 t) (b6 t) (w6 t) bS wS (iblk m c 0 t) (iblk m c 1 t) (iblk m c 2 t) (iblk m c 3 t) (kA t h).1 (kA t h).2
/-- The run at the middle chunk. -/
def rB (t : Fin cfg0.N) (h : t.val % 4 ≠ 0 ∧ t.val % 4 ≠ 3) (y6 : Vec F S1024x1024 .bf16) (ys : Vec F S1024x1024 .f32) :=
  runB c (grid0.coords t) (b0 t) (w0 t) (b1 t) (w1 t) (b2 t) (w2 t) (b3 t) (w3 t) (b4 t) (w4 t) (b5 t) (w5 t) (b6 t) (w6 t) bS wS (iblk m c 0 t) (iblk m c 1 t) (iblk m c 2 t) (iblk m c 3 t) (kB t h).1 (kB t h).2 y6 ys
/-- The run at the last chunk. -/
def rC (t : Fin cfg0.N) (h : t.val % 4 = 3) (y6 : Vec F S1024x1024 .bf16) (ys : Vec F S1024x1024 .f32) :=
  runC c (grid0.coords t) (b0 t) (w0 t) (b1 t) (w1 t) (b2 t) (w2 t) (b3 t) (w3 t) (b4 t) (w4 t) (b5 t) (w5 t) (b6 t) (w6 t) bS wS (iblk m c 0 t) (iblk m c 1 t) (iblk m c 2 t) (iblk m c 3 t) (kC t h).1 (kC t h).2 y6 ys

/-! ## The stores cover what they write -/

theorem cA5 (t : Fin cfg0.N) (h : t.val % 4 = 0) (y) : ∃ p ∈ (rA m c t h).1, y ∈ p.1.set :=
  View.cover_of_tiledL (rA m c t h).1 S1x1x1024x704.size (by sl_kernel_rfl) y
theorem cA6 (t : Fin cfg0.N) (h : t.val % 4 = 0) (y) : ∃ p ∈ (rA m c t h).2.1, y ∈ p.1.set :=
  View.cover_of_wholeMem (rA m c t h).2.1 (by sl_whole_mem) y
theorem cAS (t : Fin cfg0.N) (h : t.val % 4 = 0) (y) : ∃ p ∈ (rA m c t h).2.2.1, y ∈ p.1.set :=
  View.cover_of_wholeMem (rA m c t h).2.2.1 (by sl_whole_mem) y
theorem cB5 (t : Fin cfg0.N) (h : t.val % 4 ≠ 0 ∧ t.val % 4 ≠ 3) (y6 ys) (y) : ∃ p ∈ (rB m c t h y6 ys).1, y ∈ p.1.set :=
  View.cover_of_tiledL (rB m c t h y6 ys).1 S1x1x1024x704.size (by sl_kernel_rfl) y
theorem cBS (t : Fin cfg0.N) (h : t.val % 4 ≠ 0 ∧ t.val % 4 ≠ 3) (y6 ys) (y) : ∃ p ∈ (rB m c t h y6 ys).2.1, y ∈ p.1.set :=
  View.cover_of_wholeMem (rB m c t h y6 ys).2.1 (by sl_whole_mem) y
theorem cC4 (t : Fin cfg0.N) (h : t.val % 4 = 3) (y6 ys) (y) : ∃ p ∈ (rC m c t h y6 ys).1, y ∈ p.1.set :=
  View.cover_of_wholeMem (rC m c t h y6 ys).1 (by sl_whole_mem) y
theorem cC5 (t : Fin cfg0.N) (h : t.val % 4 = 3) (y6 ys) (y) : ∃ p ∈ (rC m c t h y6 ys).2.1, y ∈ p.1.set :=
  View.cover_of_tiledL (rC m c t h y6 ys).2.1 S1x1x1024x704.size (by sl_kernel_rfl) y
theorem cCS (t : Fin cfg0.N) (h : t.val % 4 = 3) (y6 ys) (y) : ∃ p ∈ (rC m c t h y6 ys).2.2.1, y ∈ p.1.set :=
  View.cover_of_wholeMem (rC m c t h y6 ys).2.2.1 (by sl_whole_mem) y

/-! ## What the buffers hold after each point -/

/-- The outputs' buffers and the running sum. -/
structure Held (F : FTy → Type) where
  hn : Vec F S1024x1024 .f32
  z : Vec F S2x1x1024x704 .bf16
  u : Vec F S1024x1024 .bf16
  acc : Vec F S1024x1024 .f32

/-- Before anything was stored. -/
def unheld : Held F := ⟨View.canon [], View.canon [], View.canon [], View.canon []⟩

/-- One point's step. -/
def step (t : Fin cfg0.N) (p : Held F) : Held F :=
  if h : t.val % 4 = 0 then
    { p with z := View.canon (rA m c t h).1, u := View.canon (rA m c t h).2.1, acc := View.canon (rA m c t h).2.2.1 }
  else if h3 : t.val % 4 = 3 then
    { p with hn := View.canon (rC m c t h3 p.u p.acc).1, z := View.canon (rC m c t h3 p.u p.acc).2.1, acc := View.canon (rC m c t h3 p.u p.acc).2.2.1 }
  else
    { p with z := View.canon (rB m c t ⟨h, h3⟩ p.u p.acc).1, acc := View.canon (rB m c t ⟨h, h3⟩ p.u p.acc).2.1 }

/-- After point `n`. -/
def held : (n : ℕ) → n < cfg0.N → Held F
  | 0, h => step m c ⟨0, h⟩ unheld
  | n + 1, h => step m c ⟨n + 1, h⟩ (held n (Nat.lt_of_succ_lt h))

/-- Before point `n`. -/
def before : (n : ℕ) → n < cfg0.N → Held F
  | 0, _ => unheld
  | n + 1, h => held m c n (Nat.lt_of_succ_lt h)

theorem held_eq (t : Fin cfg0.N) : held m c t.val t.isLt = step m c t (before m c t.val t.isLt) := by
  obtain ⟨n, h⟩ := t
  cases n <;> rfl

theorem before_eq (t : Fin cfg0.N) (h : t.val ≠ 0) :
    before m c t.val t.isLt = held m c (t.val - 1) (Nat.lt_of_le_of_lt (Nat.sub_le _ _) t.isLt) := by
  obtain ⟨n, hn⟩ := t
  cases n with
  | zero => exact absurd rfl h
  | succ n => rfl

theorem step_A (t : Fin cfg0.N) (p : Held F) (h : t.val % 4 = 0) : step m c t p =
    { p with z := View.canon (rA m c t h).1, u := View.canon (rA m c t h).2.1, acc := View.canon (rA m c t h).2.2.1 } := dif_pos h

theorem step_B (t : Fin cfg0.N) (p : Held F) (h : t.val % 4 ≠ 0 ∧ t.val % 4 ≠ 3) : step m c t p =
    { p with z := View.canon (rB m c t h p.u p.acc).1, acc := View.canon (rB m c t h p.u p.acc).2.1 } := (dif_neg h.1).trans (dif_neg h.2)

theorem step_C (t : Fin cfg0.N) (p : Held F) (h : t.val % 4 = 3) : step m c t p =
    { p with hn := View.canon (rC m c t h p.u p.acc).1, z := View.canon (rC m c t h p.u p.acc).2.1, acc := View.canon (rC m c t h p.u p.acc).2.2.1 } :=
  (dif_neg (by omega)).trans (dif_pos h)

/-! ## The proof data -/

/-- The other kernel's buffers, which this one leaves alone. -/
def rest : sProp (Mo F) := Pipeline.scopedRestBut (Ix := Unit) (Name := ℕ) (U := UR sig nD τ) (Lvl := ℕ) (Val := Elt F) spec0 c [cc0_scratch0]

/-- What holds between points: the running sum as the point before left it, the generator at some state. -/
def Inv : (n : ℕ) → n ≤ cfg0.N → sProp (Mo F)
  | 0, _ => Pipeline.ΦA spec0 c
  | n + 1, hn => iprop(owns (c : Thread nD τ) bS fullShare (held m c n hn).acc ∗ rest c ∗ (∃ r, prngReg c r))

theorem inv_start : (Pipeline.ΦA spec0 c : sProp (Mo F)) = iprop((some' c bS ∗ rest c) ∗ (∃ r, prngReg c r)) := by
  unfold Pipeline.ΦA some' rest
  rw [Pipeline.scopedRest_split_of_list spec0 c [cc0_scratch0] (by decide) (by decide)]
  simp only [bS, owns_whole]; rfl

theorem inv_later (t : Fin cfg0.N) (h : t.val ≠ 0) : Inv m c t.val (Nat.le_of_lt t.isLt)
    = iprop(owns (c : Thread nD τ) bS fullShare (before m c t.val t.isLt).acc ∗ rest c ∗ (∃ r, prngReg c r)) := by
  obtain ⟨n, hn⟩ := t
  cases n with
  | zero => exact absurd rfl h
  | succ n => rfl

/-- At any point the running sum is held at something. -/
theorem inv_some (n : ℕ) (hn : n ≤ cfg0.N) : Inv m c n hn ⊢ iprop(some' c bS ∗ rest c ∗ (∃ r, prngReg c r)) := by
  cases n with
  | zero =>
    refine BIBase.Entails.trans (.of_eq (inv_start c)) ?_
    iintro ⟨⟨HS, HR⟩, Hg⟩
    isplitl [HS]; · iexact HS
    isplitl [HR]; · iexact HR
    iexact Hg
  | succ n =>
    unfold Inv some'
    iintro ⟨HS, HR, Hg⟩
    isplitl [HS]
    · iexists _; iexact HS
    isplitl [HR]; · iexact HR
    iexact Hg

def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (held m c t.val t.isLt).hn
    | ⟨5, _⟩ => (held m c t.val t.isLt).z
    | ⟨6, _⟩ => (held m c t.val t.isLt).u
  Φ t := Inv m c t.val (Nat.le_of_lt_succ t.isLt)
  q _ := fullShare
  owed _ := 0

theorem A_eq (w : Fin cfg0.W) : (dats m c).A w = V m c (Pipeline.arrRef spec0 w) := by dsimp only [dats]

theorem after0 (t : Fin cfg0.N) : (dats m c).after 0 t = iblk m c 0 t := by dsimp only [dats]
theorem after1 (t : Fin cfg0.N) : (dats m c).after 1 t = iblk m c 1 t := by dsimp only [dats]
theorem after2 (t : Fin cfg0.N) : (dats m c).after 2 t = iblk m c 2 t := by dsimp only [dats]
theorem after3 (t : Fin cfg0.N) : (dats m c).after 3 t = iblk m c 3 t := by dsimp only [dats]
theorem after4 (t : Fin cfg0.N) : (dats m c).after 4 t = (held m c t.val t.isLt).hn := by dsimp only [dats]
theorem after5 (t : Fin cfg0.N) : (dats m c).after 5 t = (held m c t.val t.isLt).z := by dsimp only [dats]
theorem after6 (t : Fin cfg0.N) : (dats m c).after 6 t = (held m c t.val t.isLt).u := by dsimp only [dats]
theorem found0 (t : Fin cfg0.N) (d) : (dats m c).before 0 t d = iblk m c 0 t :=
  ((dats m c).before_in_eq_fetched 0 rfl (fun _ => rfl) (fun _ _ _ => rfl) (fun t => by rw [after0]; unfold Dat.blockOf iblk; rw [A_eq]) t d).trans
    (by unfold Dat.fetched Dat.blockOf iblk; rw [A_eq]; try rfl)
theorem found1 (t : Fin cfg0.N) (d) : (dats m c).before 1 t d = iblk m c 1 t :=
  ((dats m c).before_in_eq_fetched 1 rfl (fun _ => rfl) (fun _ _ _ => rfl) (fun t => by rw [after1]; unfold Dat.blockOf iblk; rw [A_eq]) t d).trans
    (by unfold Dat.fetched Dat.blockOf iblk; rw [A_eq]; try rfl)
theorem found2 (t : Fin cfg0.N) (d) : (dats m c).before 2 t d = iblk m c 2 t :=
  ((dats m c).before_in_eq_fetched 2 rfl (fun _ => rfl) (fun _ _ _ => rfl) (fun t => by rw [after2]; unfold Dat.blockOf iblk; rw [A_eq]) t d).trans
    (by unfold Dat.fetched Dat.blockOf iblk; rw [A_eq]; try rfl)
theorem found3 (t : Fin cfg0.N) (d) : (dats m c).before 3 t d = iblk m c 3 t :=
  ((dats m c).before_in_eq_fetched 3 rfl (fun _ => rfl) (fun _ _ _ => rfl) (fun t => by rw [after3]; unfold Dat.blockOf iblk; rw [A_eq]) t d).trans
    (by unfold Dat.fetched Dat.blockOf iblk; rw [A_eq]; try rfl)

/-- The normalised rows are carried over the points that do not store them. -/
theorem carry6 (t : Fin cfg0.N) (h0 : t.val ≠ 0) (hi : cfg0.idle 6 (grid0.coords t) = true) (_ : cfg0.fresh 6 t.val = false) :
    (dats m c).after 6 t = (dats m c).after 6 ⟨t.val - 1, by omega⟩ := by
  rw [after6, after6]
  dsimp only
  rw [held_eq, ← before_eq m c t h0]
  by_cases h : t.val % 4 = 0
  · rw [live6 t h] at hi; exact absurd hi Bool.false_ne_true
  · by_cases h3 : t.val % 4 = 3
    · rw [step_C m c t _ h3]
    · rw [step_B m c t _ ⟨h, h3⟩]

theorem found6 (t : Fin cfg0.N) (h : t.val % 4 ≠ 0) (d) : (dats m c).before 6 t d = (before m c t.val t.isLt).u := by
  rw [Dat.before_out_traj _ 6 rfl (fun _ _ => rfl) (carry6 m c) t.val t rfl d, fresh6,
    if_neg (by unfold new6; simp only [decide_eq_true_eq]; exact h), before_eq m c t (by omega), after6]

/-! ## The body at a point -/

/-- The outputs' buffers as the body finds them. -/
def outsPre (t : Fin cfg0.N) : sProp (Mo F) :=
  iprop((∃ d, owns (c : Thread nD τ) (b4 t) fullShare ((dats m c).before 4 t d)) ∗ (∃ d, owns (c : Thread nD τ) (b5 t) fullShare ((dats m c).before 5 t d))
    ∗ (∃ d, owns (c : Thread nD τ) (b6 t) fullShare ((dats m c).before 6 t d)))

/-- As it leaves them. -/
def outsPost (t : Fin cfg0.N) : sProp (Mo F) :=
  iprop((dats m c).leavesExact 4 t ∗ (dats m c).leavesExact 5 t ∗ (dats m c).leavesExact 6 t)

/-- What the body is called with, -/
def bodyPre (t : Fin cfg0.N) : sProp (Mo F) :=
  iprop((dats m c).Φ t.castSucc ∗ (dats m c).owesAt () t.castSucc
    ∗ (∃ d, owns (c : Thread nD τ) (b0 t) fullShare ((dats m c).before 0 t d))
    ∗ (∃ d, owns (c : Thread nD τ) (b1 t) fullShare ((dats m c).before 1 t d))
    ∗ (∃ d, owns (c : Thread nD τ) (b2 t) fullShare ((dats m c).before 2 t d))
    ∗ (∃ d, owns (c : Thread nD τ) (b3 t) fullShare ((dats m c).before 3 t d))
    ∗ (∃ d, owns (c : Thread nD τ) (b4 t) fullShare ((dats m c).before 4 t d))
    ∗ (∃ d, owns (c : Thread nD τ) (b5 t) fullShare ((dats m c).before 5 t d))
    ∗ (∃ d, owns (c : Thread nD τ) (b6 t) fullShare ((dats m c).before 6 t d)))

/-- and what it returns. -/
def bodyPost (t : Fin cfg0.N) : sProp (Mo F) :=
  iprop((dats m c).Φ t.succ ∗ (dats m c).owesAt () t.succ
    ∗ (dats m c).leavesExact 0 t
    ∗ (dats m c).leavesExact 1 t
    ∗ (dats m c).leavesExact 2 t
    ∗ (dats m c).leavesExact 3 t
    ∗ (dats m c).leavesExact 4 t
    ∗ (dats m c).leavesExact 5 t
    ∗ (dats m c).leavesExact 6 t)

/-- A window stored at a point is left at the data's contents. -/
theorem leaves_live (w : Fin cfg0.W) (t : Fin cfg0.N) (h : cfg0.idle w (grid0.coords t) = false) :
    (dats m c).leavesExact w t = owns (c : Thread nD τ) ((cfg0.win w).stage (cfg0.slots t w)) fullShare ((dats m c).after w t) := by
  unfold Dat.leavesExact; rw [h]

/-- So is one written back. -/
theorem leaves_out (w : Fin cfg0.W) (t : Fin cfg0.N) (h : (cfg0.win w).flush t = true) :
    (dats m c).leavesExact w t = owns (c : Thread nD τ) ((cfg0.win w).stage (cfg0.slots t w)) fullShare ((dats m c).after w t) := by
  unfold Dat.leavesExact; rw [h]
  cases cfg0.idle w (cfg0.grid.coords t) <;> rfl

/-- The outputs, each restated. -/
theorem outsPost_eq (t : Fin cfg0.N) {X4 X5 X6 : sProp (Mo F)} (h4 : (dats m c).leavesExact 4 t = X4) (h5 : (dats m c).leavesExact 5 t = X5)
    (h6 : (dats m c).leavesExact 6 t = X6) : outsPost m c t = iprop(X4 ∗ X5 ∗ X6) := by
  subst h4 h5 h6; rfl

/-- The body at a point, from its run there and what the run takes and leaves of the outputs and the running sum. -/
theorem body_of (t : Fin cfg0.N) {D : Type} (P Q : D → sProp (Mo F))
    (hpre : iprop(Inv m c t.val (Nat.le_of_lt t.isLt) ∗ outsPre m c t) ⊢ iprop(∃ d, P d ∗ rest c ∗ ∃ r, prngReg c r))
    (hrun : ∀ d, Runs c (grid0.coords t) (b0 t) (w0 t) (b1 t) (w1 t) (b2 t) (w2 t) (b3 t) (w3 t) (b4 t) (w4 t) (b5 t) (w5 t) (b6 t) (w6 t) bS wS (iblk m c 0 t) (iblk m c 1 t) (iblk m c 2 t) (iblk m c 3 t) (P d) (Q d))
    (hpost : ∀ d, Q d ⊢ iprop(owns (c : Thread nD τ) bS fullShare (held m c t.val t.isLt).acc ∗ outsPost m c t)) :
    bodyPre m c t ⊢ wp frame (wpE (defs₀ (F := F)) Variants.none c none) Set.univ (bodyAt0 t) (fun _ => bodyPost m c t) := by
  have hΦ : (dats m c).Φ t.castSucc = Inv m c t.val (Nat.le_of_lt t.isLt) := by dsimp only [dats]; exact Dat.Φ_castSucc (Inv m c) t
  unfold bodyPre bodyAt0
  simp only [found0, found1, found2, found3, hΦ]
  have h1 : iprop(Inv m c t.val (Nat.le_of_lt t.isLt) ∗ (dats m c).owesAt () t.castSucc
      ∗ (∃ _d : (cfg0.win 0).block.Idx → Elt F (cfg0.win 0).elt, owns (c : Thread nD τ) (b0 t) fullShare (iblk m c 0 t))
      ∗ (∃ _d : (cfg0.win 1).block.Idx → Elt F (cfg0.win 1).elt, owns (c : Thread nD τ) (b1 t) fullShare (iblk m c 1 t))
      ∗ (∃ _d : (cfg0.win 2).block.Idx → Elt F (cfg0.win 2).elt, owns (c : Thread nD τ) (b2 t) fullShare (iblk m c 2 t))
      ∗ (∃ _d : (cfg0.win 3).block.Idx → Elt F (cfg0.win 3).elt, owns (c : Thread nD τ) (b3 t) fullShare (iblk m c 3 t))
      ∗ outsPre m c t)
      ⊢ iprop(ins c (b0 t) (b1 t) (b2 t) (b3 t) (iblk m c 0 t) (iblk m c 1 t) (iblk m c 2 t) (iblk m c 3 t) ∗ (dats m c).owesAt () t.castSucc ∗ ∃ d, P d ∗ rest c ∗ ∃ r, prngReg c r) := by
    unfold ins
    iintro ⟨HI, Ho, ⟨%d0, H0⟩, ⟨%d1, H1⟩, ⟨%d2, H2⟩, ⟨%d3, H3⟩, HO⟩
    isplitl [H0 H1 H2 H3]
    · isplitl [H0]; · iexact H0
      isplitl [H1]; · iexact H1
      isplitl [H2]; · iexact H2
      iexact H3
    isplitl [Ho]; · iexact Ho
    iapply hpre
    isplitl [HI]; · iexact HI
    iexact HO
  refine BIBase.Entails.trans h1 ?_
  iintro ⟨HI, Ho, %d, HP, HR, Hg⟩
  iapply (hrun d Set.univ _)
  isplitl [HI]; · iexact HI
  isplitl [HP]; · iexact HP
  iintro ⟨HI, HQ⟩
  have h2 : iprop(ins c (b0 t) (b1 t) (b2 t) (b3 t) (iblk m c 0 t) (iblk m c 1 t) (iblk m c 2 t) (iblk m c 3 t) ∗ (dats m c).owesAt () t.castSucc
      ∗ (owns (c : Thread nD τ) bS fullShare (held m c t.val t.isLt).acc ∗ outsPost m c t) ∗ rest c ∗ ∃ r, prngReg c r) ⊢ bodyPost m c t := by
    unfold bodyPost outsPost ins
    rw [show (dats m c).Φ t.succ = iprop(owns (c : Thread nD τ) bS fullShare (held m c t.val t.isLt).acc ∗ rest c ∗ (∃ r, prngReg c r)) from rfl,
      leaves_live m c 0 t rfl, leaves_live m c 1 t rfl, leaves_live m c 2 t rfl, leaves_live m c 3 t rfl, after0, after1, after2, after3]
    iintro ⟨⟨H0, H1, H2, H3⟩, Ho, ⟨HS, HO⟩, HR, Hg⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    iexact HO
  iapply h2
  isplitl [HI]; · iexact HI
  isplitl [Ho]; · iexact Ho
  isplitl [HQ]
  · iapply (hpost d)
    iexact HQ
  isplitl [HR]; · iexact HR
  iexact Hg

/-- The block a point may leave as it finds it: the finished rows'. -/
abbrev Kept (F : FTy → Type) := (cfg0.win 4).block.Idx → Elt F (cfg0.win 4).elt

set_option maxHeartbeats 1600000 in
theorem body_A (t : Fin cfg0.N) (h : t.val % 4 = 0) :
    bodyPre m c t ⊢ wp frame (wpE (defs₀ (F := F)) Variants.none c none) Set.univ (bodyAt0 t) (fun _ => bodyPost m c t) := by
  refine body_of m c t (D := Kept F) (fun d => iprop(owns (c : Thread nD τ) (b4 t) fullShare ((dats m c).before 4 t d) ∗ some' c (b5 t) ∗ some' c (b6 t) ∗ some' c bS))
    (fun d => iprop(owns (c : Thread nD τ) (b4 t) fullShare ((dats m c).before 4 t d) ∗ left c (b5 t) (rA m c t h).1 ∗ left c (b6 t) (rA m c t h).2.1 ∗ left c bS (rA m c t h).2.2.1))
    ?_ (fun d => (rA m c t h).2.2.2 _) ?_
  · refine BIBase.Entails.trans (sep_mono (inv_some m c _ _) .rfl) ?_
    unfold outsPre some'
    iintro ⟨⟨⟨%dS, HS⟩, HR, Hg⟩, ⟨%d4, H4⟩, ⟨%d5, H5⟩, ⟨%d6, H6⟩⟩
    iexists d4
    isplitr [HR Hg]
    · isplitl [H4]; · iexact H4
      isplitl [H5]; · iexists _; iexact H5
      isplitl [H6]; · iexists _; iexact H6
      iexists _; iexact HS
    isplitl [HR]; · iexact HR
    iexact Hg
  · intro d
    have e := (held_eq m c t).trans (step_A m c t _ h)
    rw [outsPost_eq m c t (Dat.leavesExact_idle (dats m c) 4 t (idle4 t (by omega)).1 (idle4 t (by omega)).2)
      ((leaves_live m c 5 t rfl).trans (by rw [after5, e]))
      ((leaves_live m c 6 t (live6 t h)).trans (by rw [after6, e])), e]
    iintro ⟨H4, H5, H6, HS⟩
    isplitl [HS]; · iapply (left_owns c _ _ (cAS m c t h)); iexact HS
    isplitl [H4]; · iexists _; iexact H4
    isplitl [H5]; · iapply (left_owns c _ _ (cA5 m c t h)); iexact H5
    iapply (left_owns c _ _ (cA6 m c t h)); iexact H6

set_option maxHeartbeats 1600000 in
theorem body_B (t : Fin cfg0.N) (h : t.val % 4 ≠ 0 ∧ t.val % 4 ≠ 3) :
    bodyPre m c t ⊢ wp frame (wpE (defs₀ (F := F)) Variants.none c none) Set.univ (bodyAt0 t) (fun _ => bodyPost m c t) := by
  refine body_of m c t (D := Kept F) (fun d => iprop(owns (c : Thread nD τ) (b4 t) fullShare ((dats m c).before 4 t d) ∗ some' c (b5 t) ∗ owns (c : Thread nD τ) (b6 t) fullShare (before m c t.val t.isLt).u ∗ owns (c : Thread nD τ) bS fullShare (before m c t.val t.isLt).acc))
    (fun d => iprop(owns (c : Thread nD τ) (b4 t) fullShare ((dats m c).before 4 t d) ∗ left c (b5 t) (rB m c t h (before m c t.val t.isLt).u (before m c t.val t.isLt).acc).1 ∗ owns (c : Thread nD τ) (b6 t) fullShare (before m c t.val t.isLt).u ∗ left c bS (rB m c t h (before m c t.val t.isLt).u (before m c t.val t.isLt).acc).2.1))
    ?_ (fun d => (rB m c t h (before m c t.val t.isLt).u (before m c t.val t.isLt).acc).2.2 _) ?_
  · rw [inv_later m c t (by omega)]
    simp only [outsPre, found6 m c t (by omega)]
    unfold some'
    iintro ⟨⟨HS, HR, Hg⟩, ⟨%d4, H4⟩, ⟨%d5, H5⟩, ⟨%d6, H6⟩⟩
    iexists d4
    isplitr [HR Hg]
    · isplitl [H4]; · iexact H4
      isplitl [H5]; · iexists _; iexact H5
      isplitl [H6]; · iexact H6
      iexact HS
    isplitl [HR]; · iexact HR
    iexact Hg
  · intro d
    have e := (held_eq m c t).trans (step_B m c t _ h)
    rw [outsPost_eq m c t (Dat.leavesExact_idle (dats m c) 4 t (idle4 t (by omega)).1 (idle4 t (by omega)).2)
      ((leaves_live m c 5 t rfl).trans (by rw [after5, e]))
      (Dat.leavesExact_idle (dats m c) 6 t (idle6 t h.1) (by rw [flush6]; exact decide_eq_false h.2)), e]
    simp only [found6 m c t h.1]
    iintro ⟨H4, H5, H6, HS⟩
    isplitl [HS]; · iapply (left_owns c _ _ (cBS m c t h _ _)); iexact HS
    isplitl [H4]; · iexists _; iexact H4
    isplitl [H5]; · iapply (left_owns c _ _ (cB5 m c t h _ _)); iexact H5
    iexists (View.canon []); iexact H6

set_option maxHeartbeats 1600000 in
theorem body_C (t : Fin cfg0.N) (h : t.val % 4 = 3) :
    bodyPre m c t ⊢ wp frame (wpE (defs₀ (F := F)) Variants.none c none) Set.univ (bodyAt0 t) (fun _ => bodyPost m c t) := by
  refine body_of m c t (D := Kept F) (fun d => iprop(some' c (b4 t) ∗ some' c (b5 t) ∗ owns (c : Thread nD τ) (b6 t) fullShare (before m c t.val t.isLt).u ∗ owns (c : Thread nD τ) bS fullShare (before m c t.val t.isLt).acc))
    (fun d => iprop(left c (b4 t) (rC m c t h (before m c t.val t.isLt).u (before m c t.val t.isLt).acc).1 ∗ left c (b5 t) (rC m c t h (before m c t.val t.isLt).u (before m c t.val t.isLt).acc).2.1 ∗ owns (c : Thread nD τ) (b6 t) fullShare (before m c t.val t.isLt).u ∗ left c bS (rC m c t h (before m c t.val t.isLt).u (before m c t.val t.isLt).acc).2.2.1))
    ?_ (fun d => (rC m c t h (before m c t.val t.isLt).u (before m c t.val t.isLt).acc).2.2.2) ?_
  · rw [inv_later m c t (by omega)]
    simp only [outsPre, found6 m c t (by omega)]
    unfold some'
    iintro ⟨⟨HS, HR, Hg⟩, ⟨%d4, H4⟩, ⟨%d5, H5⟩, ⟨%d6, H6⟩⟩
    iexists d4
    isplitr [HR Hg]
    · isplitl [H4]; · iexists _; iexact H4
      isplitl [H5]; · iexists _; iexact H5
      isplitl [H6]; · iexact H6
      iexact HS
    isplitl [HR]; · iexact HR
    iexact Hg
  · intro d
    have e := (held_eq m c t).trans (step_C m c t _ h)
    rw [outsPost_eq m c t ((leaves_live m c 4 t (live4 t h)).trans (by rw [after4, e]))
      ((leaves_live m c 5 t rfl).trans (by rw [after5, e]))
      ((leaves_out m c 6 t (by rw [flush6]; exact decide_eq_true h)).trans (by rw [after6, e])), e]
    iintro ⟨H4, H5, H6, HS⟩
    isplitl [HS]; · iapply (left_owns c _ _ (cCS m c t h _ _)); iexact HS
    isplitl [H4]; · iapply (left_owns c _ _ (cC4 m c t h _ _)); iexact H4
    isplitl [H5]; · iapply (left_owns c _ _ (cC5 m c t h _ _)); iexact H5
    iexact H6

/-! ## The run -/

theorem sound_body (t : Fin cfg0.N) :
    bodyPre m c t ⊢ wp frame (wpE (defs₀ (F := F)) Variants.none c none) Set.univ (bodyAt0 t) (fun _ => bodyPost m c t) := by
  by_cases h : t.val % 4 = 0
  · exact body_A m c t h
  by_cases h3 : t.val % 4 = 3
  · exact body_C m c t h3
  exact body_B m c t ⟨h, h3⟩

theorem row (t : Fin cfg0.N) : defs₀ (F := F) .tc cfg0.body (cfg0.bodyArgs t (cfg0.slots t)) = bodyAt0 t := by
  unfold defs₀; rw [Defs.onTc_tc]

theorem obligation : BodyObligation (dats (F := F) m c) (defs₀ (F := F)) Variants.none () Set.univ := fun t => by
  rw [bigSep_W0, bigSep_W0, row]
  exact triple_restated (sound_body m c t) rfl .rfl fun _ => .rfl

theorem enter : Pipeline.ΦA spec0 c ⊢ (dats m c).Φ 0 := by
  rw [show (dats m c).Φ 0 = Inv m c 0 (Nat.zero_le _) from rfl]
  exact .rfl

theorem leave : (dats m c).Φ (Fin.last cfg0.N) ⊢ Pipeline.ΦA spec0 c := by
  rw [show (dats m c).Φ (Fin.last cfg0.N) = Inv m c cfg0.N (Nat.le_refl _) from rfl, inv_start]
  refine BIBase.Entails.trans (inv_some m c _ _) ?_
  iintro ⟨HS, HR, Hg⟩
  isplitr [Hg]
  · isplitl [HS]; · iexact HS
    iexact HR
  iexact Hg

end Cert.Proof.FfnFwdFrame

end
-- ==== Proof.FfnFrame.lean ====
/- `ffn_bwd_x`'s kernel over its grid: what the buffers hold after each point, the body's step from one point to the next, and
   the run of the whole program. The grid is eight row blocks by four chunks of the inner width, the chunk fastest; the point's
   number tells which kind of point it is. -/
module

public import proofs.«01_k».proof.Proof.FfnRun
public import Idealize.ShloMosaic.Lib.Claim
public import Idealize.ShloMosaic.Lib.Pipeline.TableIdle

@[expose] public section

set_option maxRecDepth 16384

noncomputable section

namespace Cert.Proof.FfnFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.FfnIdeal Cert.FfnIdeal.Gen Cert.Proof.FfnRun

variable {F : FTy → Type} [FloatOps F]

/-! ## The points -/

theorem lt32 (t : Fin cfg1.N) : t.val < 32 := lt_of_lt_of_eq t.isLt N_1

/-- The first point. -/
theorem kA : ∀ t : Fin cfg1.N, t.val = 0 → k1_cond1 (grid1.coords t) = 1#1 ∧ k1_cond2 (grid1.coords t) = 1#1 ∧ ¬k1_cond3 (grid1.coords t) = 1#1 := by
  decide +kernel
/-- The first chunk of a later row block. -/
theorem kD : ∀ t : Fin cfg1.N, t.val % 4 = 0 ∧ t.val ≠ 0 → k1_cond1 (grid1.coords t) = 1#1 ∧ ¬k1_cond2 (grid1.coords t) = 1#1 ∧ ¬k1_cond3 (grid1.coords t) = 1#1 := by
  decide +kernel
/-- A middle chunk. -/
theorem kB : ∀ t : Fin cfg1.N, t.val % 4 ≠ 0 ∧ t.val % 4 ≠ 3 → ¬k1_cond1 (grid1.coords t) = 1#1 ∧ ¬k1_cond2 (grid1.coords t) = 1#1 ∧ ¬k1_cond3 (grid1.coords t) = 1#1 := by
  decide +kernel
/-- The last chunk. -/
theorem kC : ∀ t : Fin cfg1.N, t.val % 4 = 3 → ¬k1_cond1 (grid1.coords t) = 1#1 ∧ ¬k1_cond2 (grid1.coords t) = 1#1 ∧ k1_cond3 (grid1.coords t) = 1#1 := by
  decide +kernel

/-- The hidden gradient is stored at the last chunk, -/
theorem live6 : ∀ t : Fin cfg1.N, t.val % 4 = 3 → cfg1.idle 6 (grid1.coords t) = false := by decide +kernel
theorem idle6 : ∀ t : Fin cfg1.N, t.val % 4 ≠ 3 → cfg1.idle 6 (grid1.coords t) = true ∧ (cfg1.win 6).flush t = false := by decide +kernel
/-- the gain's at the first point and the last chunks, -/
theorem live9 : ∀ t : Fin cfg1.N, t.val = 0 ∨ t.val % 4 = 3 → cfg1.idle 9 (grid1.coords t) = false := by decide +kernel
theorem idle9 : ∀ t : Fin cfg1.N, t.val ≠ 0 ∧ t.val % 4 ≠ 3 → cfg1.idle 9 (grid1.coords t) = true ∧ (cfg1.win 9).flush t = false := by decide +kernel
/-- the copy at the first chunk. -/
theorem live10 : ∀ t : Fin cfg1.N, t.val % 4 = 0 → cfg1.idle 10 (grid1.coords t) = false := by decide +kernel
theorem idle10 : ∀ t : Fin cfg1.N, t.val % 4 ≠ 0 → cfg1.idle 10 (grid1.coords t) = true := by decide +kernel
theorem flush10 : ∀ t : Fin cfg1.N, (cfg1.win 10).flush t = decide (t.val % 4 = 3) := by decide +kernel

/-- Whether the gain's gradient's buffer holds nothing yet before a point; -/
def new9 (n : ℕ) : Bool := decide (n = 0) || decide (n = 32)
theorem fresh9 (t : Fin cfg1.N) : cfg1.fresh 9 t.val = new9 t.val :=
  Cfg.fresh_tab cfg1 9 new9 rfl (by decide +kernel) t.val (Nat.le_of_lt t.isLt)
/-- and the copy's. -/
def new10 (n : ℕ) : Bool := decide (n % 4 = 0)
theorem fresh10 (t : Fin cfg1.N) : cfg1.fresh 10 t.val = new10 t.val :=
  Cfg.fresh_tab cfg1 10 new10 rfl (by decide +kernel) t.val (Nat.le_of_lt t.isLt)

/-! ## The buffers at a point -/

abbrev b0 (t : Fin cfg1.N) : Memref sig .tc .vmem S512x1024 .f32 := win1_0.stage (cfg1.slots t 0)
abbrev w0 (t : Fin cfg1.N) : (b0 t).IsWhole := hstage1_0 ((cfg1.slots t 0).cast nbuf1_0)
abbrev b1 (t : Fin cfg1.N) : Memref sig .tc .vmem S512x1024 .f32 := win1_1.stage (cfg1.slots t 1)
abbrev w1 (t : Fin cfg1.N) : (b1 t).IsWhole := hstage1_1 ((cfg1.slots t 1).cast nbuf1_1)
abbrev b2 (t : Fin cfg1.N) : Memref sig .tc .vmem S1x1024 .f32 := win1_2.stage (cfg1.slots t 2)
abbrev w2 (t : Fin cfg1.N) : (b2 t).IsWhole := hstage1_2 ((cfg1.slots t 2).cast nbuf1_2)
abbrev b3 (t : Fin cfg1.N) : Memref sig .tc .vmem S2x1x512x704 .bf16 := win1_3.stage (cfg1.slots t 3)
abbrev w3 (t : Fin cfg1.N) : (b3 t).IsWhole := hstage1_3 ((cfg1.slots t 3).cast nbuf1_3)
abbrev b4 (t : Fin cfg1.N) : Memref sig .tc .vmem S2x1x704x1024 .bf16 := win1_4.stage (cfg1.slots t 4)
abbrev w4 (t : Fin cfg1.N) : (b4 t).IsWhole := hstage1_4 ((cfg1.slots t 4).cast nbuf1_4)
abbrev b5 (t : Fin cfg1.N) : Memref sig .tc .vmem S1x704x1024 .bf16 := win1_5.stage (cfg1.slots t 5)
abbrev w5 (t : Fin cfg1.N) : (b5 t).IsWhole := hstage1_5 ((cfg1.slots t 5).cast nbuf1_5)
abbrev b6 (t : Fin cfg1.N) : Memref sig .tc .vmem S512x1024 .f32 := win1_6.stage (cfg1.slots t 6)
abbrev w6 (t : Fin cfg1.N) : (b6 t).IsWhole := hstage1_6 ((cfg1.slots t 6).cast nbuf1_6)
abbrev b7 (t : Fin cfg1.N) : Memref sig .tc .vmem S2x1x512x704 .bf16 := win1_7.stage (cfg1.slots t 7)
abbrev w7 (t : Fin cfg1.N) : (b7 t).IsWhole := hstage1_7 ((cfg1.slots t 7).cast nbuf1_7)
abbrev b8 (t : Fin cfg1.N) : Memref sig .tc .vmem S1x512x704 .bf16 := win1_8.stage (cfg1.slots t 8)
abbrev w8 (t : Fin cfg1.N) : (b8 t).IsWhole := hstage1_8 ((cfg1.slots t 8).cast nbuf1_8)
abbrev b9 (t : Fin cfg1.N) : Memref sig .tc .vmem S1x1024 .f32 := win1_9.stage (cfg1.slots t 9)
abbrev w9 (t : Fin cfg1.N) : (b9 t).IsWhole := hstage1_9 ((cfg1.slots t 9).cast nbuf1_9)
abbrev b10 (t : Fin cfg1.N) : Memref sig .tc .vmem S512x1024 .bf16 := win1_10.stage (cfg1.slots t 10)
abbrev w10 (t : Fin cfg1.N) : (b10 t).IsWhole := hstage1_10 ((cfg1.slots t 10).cast nbuf1_10)
/-- The running sum. -/
abbrev bS : Memref sig .tc .vmem S512x1024 .f32 := Memref.whole cc1_scratch0
abbrev wS : bS.IsWhole := Memref.isWhole_whole _

variable (m : Dev nD → Valuation τ sig (Elt F)) (c : Dev nD)

/-- The contents of a buffer of the device as the kernel is entered, -/
abbrev V (b : Ref sig .tc) : Buf (Elt F) ((c : Thread nD τ).loc b) := m c b

/-- and a window's block at a point. -/
def iblk (w : Fin cfg1.W) (t : Fin cfg1.N) : ((cfg1.win w).xblock (cfg1.grid.coords t)).Idx → Elt F (cfg1.win w).elt :=
  ((cfg1.win w).blk t).view.read (Elt F) (V m c (Pipeline.arrRef spec1 w))

/-- The run at the first point. -/
def rA (t : Fin cfg1.N) (h : t.val = 0)  :=
  runA c (grid1.coords t) (b0 t) (w0 t) (b1 t) (w1 t) (b2 t) (w2 t) (b3 t) (w3 t) (b4 t) (w4 t) (b5 t) (w5 t) (b6 t) (w6 t) (b7 t) (w7 t) (b8 t) (w8 t) (b9 t) (w9 t) (b10 t) (w10 t) bS wS (iblk m c 0 t) (iblk m c 1 t) (iblk m c 2 t) (iblk m c 3 t) (iblk m c 4 t) (iblk m c 5 t)
    (kA t h).1 (kA t h).2.1 (kA t h).2.2
/-- The run at the first chunk of a later row block. -/
def rD (t : Fin cfg1.N) (h : t.val % 4 = 0 ∧ t.val ≠ 0)  :=
  runD c (grid1.coords t) (b0 t) (w0 t) (b1 t) (w1 t) (b2 t) (w2 t) (b3 t) (w3 t) (b4 t) (w4 t) (b5 t) (w5 t) (b6 t) (w6 t) (b7 t) (w7 t) (b8 t) (w8 t) (b9 t) (w9 t) (b10 t) (w10 t) bS wS (iblk m c 0 t) (iblk m c 1 t) (iblk m c 2 t) (iblk m c 3 t) (iblk m c 4 t) (iblk m c 5 t)
    (kD t h).1 (kD t h).2.1 (kD t h).2.2
/-- The run at the middle chunk. -/
def rB (t : Fin cfg1.N) (h : t.val % 4 ≠ 0 ∧ t.val % 4 ≠ 3) (y10 : Vec F S512x1024 .bf16) (ys : Vec F S512x1024 .f32) :=
  runB c (grid1.coords t) (b0 t) (w0 t) (b1 t) (w1 t) (b2 t) (w2 t) (b3 t) (w3 t) (b4 t) (w4 t) (b5 t) (w5 t) (b6 t) (w6 t) (b7 t) (w7 t) (b8 t) (w8 t) (b9 t) (w9 t) (b10 t) (w10 t) bS wS (iblk m c 0 t) (iblk m c 1 t) (iblk m c 2 t) (iblk m c 3 t) (iblk m c 4 t) (iblk m c 5 t)
    (kB t h).1 (kB t h).2.1 (kB t h).2.2 y10 ys
/-- The run at the last chunk. -/
def rC (t : Fin cfg1.N) (h : t.val % 4 = 3) (y9 : Vec F S1x1024 .f32) (y10 : Vec F S512x1024 .bf16) (ys : Vec F S512x1024 .f32) :=
  runC c (grid1.coords t) (b0 t) (w0 t) (b1 t) (w1 t) (b2 t) (w2 t) (b3 t) (w3 t) (b4 t) (w4 t) (b5 t) (w5 t) (b6 t) (w6 t) (b7 t) (w7 t) (b8 t) (w8 t) (b9 t) (w9 t) (b10 t) (w10 t) bS wS (iblk m c 0 t) (iblk m c 1 t) (iblk m c 2 t) (iblk m c 3 t) (iblk m c 4 t) (iblk m c 5 t)
    (kC t h).1 (kC t h).2.1 (kC t h).2.2 y9 y10 ys

/-! ## The stores cover what they write -/

theorem cA7 (t : Fin cfg1.N) (h : t.val = 0) (y) : ∃ p ∈ (rA m c t h).1, y ∈ p.1.set :=
  View.cover_of_tiledL (rA m c t h).1 S1x1x512x704.size (by sl_kernel_rfl) y
theorem cA8 (t : Fin cfg1.N) (h : t.val = 0) (y) : ∃ p ∈ (rA m c t h).2.1, y ∈ p.1.set :=
  View.cover_of_wholeMem (rA m c t h).2.1 (by sl_whole_mem) y
theorem cA9 (t : Fin cfg1.N) (h : t.val = 0) (y) : ∃ p ∈ (rA m c t h).2.2.1, y ∈ p.1.set :=
  View.cover_of_wholeMem (rA m c t h).2.2.1 (by sl_whole_mem) y
theorem cA10 (t : Fin cfg1.N) (h : t.val = 0) (y) : ∃ p ∈ (rA m c t h).2.2.2.1, y ∈ p.1.set :=
  View.cover_of_wholeMem (rA m c t h).2.2.2.1 (by sl_whole_mem) y
theorem cAS (t : Fin cfg1.N) (h : t.val = 0) (y) : ∃ p ∈ (rA m c t h).2.2.2.2.1, y ∈ p.1.set :=
  View.cover_of_wholeMem (rA m c t h).2.2.2.2.1 (by sl_whole_mem) y
theorem cD7 (t : Fin cfg1.N) (h : t.val % 4 = 0 ∧ t.val ≠ 0) (y) : ∃ p ∈ (rD m c t h).1, y ∈ p.1.set :=
  View.cover_of_tiledL (rD m c t h).1 S1x1x512x704.size (by sl_kernel_rfl) y
theorem cD8 (t : Fin cfg1.N) (h : t.val % 4 = 0 ∧ t.val ≠ 0) (y) : ∃ p ∈ (rD m c t h).2.1, y ∈ p.1.set :=
  View.cover_of_wholeMem (rD m c t h).2.1 (by sl_whole_mem) y
theorem cD10 (t : Fin cfg1.N) (h : t.val % 4 = 0 ∧ t.val ≠ 0) (y) : ∃ p ∈ (rD m c t h).2.2.1, y ∈ p.1.set :=
  View.cover_of_wholeMem (rD m c t h).2.2.1 (by sl_whole_mem) y
theorem cDS (t : Fin cfg1.N) (h : t.val % 4 = 0 ∧ t.val ≠ 0) (y) : ∃ p ∈ (rD m c t h).2.2.2.1, y ∈ p.1.set :=
  View.cover_of_wholeMem (rD m c t h).2.2.2.1 (by sl_whole_mem) y
theorem cB7 (t : Fin cfg1.N) (h : t.val % 4 ≠ 0 ∧ t.val % 4 ≠ 3) (y10 ys) (y) : ∃ p ∈ (rB m c t h y10 ys).1, y ∈ p.1.set :=
  View.cover_of_tiledL (rB m c t h y10 ys).1 S1x1x512x704.size (by sl_kernel_rfl) y
theorem cB8 (t : Fin cfg1.N) (h : t.val % 4 ≠ 0 ∧ t.val % 4 ≠ 3) (y10 ys) (y) : ∃ p ∈ (rB m c t h y10 ys).2.1, y ∈ p.1.set :=
  View.cover_of_wholeMem (rB m c t h y10 ys).2.1 (by sl_whole_mem) y
theorem cBS (t : Fin cfg1.N) (h : t.val % 4 ≠ 0 ∧ t.val % 4 ≠ 3) (y10 ys) (y) : ∃ p ∈ (rB m c t h y10 ys).2.2.1, y ∈ p.1.set :=
  View.cover_of_tiledL (rB m c t h y10 ys).2.2.1 S512x512.size (by sl_kernel_rfl) y
theorem cC6 (t : Fin cfg1.N) (h : t.val % 4 = 3) (y9 y10 ys) (y) : ∃ p ∈ (rC m c t h y9 y10 ys).1, y ∈ p.1.set :=
  View.cover_of_wholeMem (rC m c t h y9 y10 ys).1 (by sl_whole_mem) y
theorem cC7 (t : Fin cfg1.N) (h : t.val % 4 = 3) (y9 y10 ys) (y) : ∃ p ∈ (rC m c t h y9 y10 ys).2.1, y ∈ p.1.set :=
  View.cover_of_tiledL (rC m c t h y9 y10 ys).2.1 S1x1x512x704.size (by sl_kernel_rfl) y
theorem cC8 (t : Fin cfg1.N) (h : t.val % 4 = 3) (y9 y10 ys) (y) : ∃ p ∈ (rC m c t h y9 y10 ys).2.2.1, y ∈ p.1.set :=
  View.cover_of_wholeMem (rC m c t h y9 y10 ys).2.2.1 (by sl_whole_mem) y
theorem cC9 (t : Fin cfg1.N) (h : t.val % 4 = 3) (y9 y10 ys) (y) : ∃ p ∈ (rC m c t h y9 y10 ys).2.2.2.1, y ∈ p.1.set :=
  View.cover_of_wholeMem (rC m c t h y9 y10 ys).2.2.2.1 (by sl_whole_mem) y
theorem cCS (t : Fin cfg1.N) (h : t.val % 4 = 3) (y9 y10 ys) (y) : ∃ p ∈ (rC m c t h y9 y10 ys).2.2.2.2.1, y ∈ p.1.set :=
  View.cover_of_tiledL (rC m c t h y9 y10 ys).2.2.2.2.1 S512x512.size (by sl_kernel_rfl) y

/-! ## What the buffers hold after each point -/

/-- The outputs' buffers and the running sum. -/
structure Held (F : FTy → Type) where
  dhp : Vec F S512x1024 .f32
  dz : Vec F S2x1x512x704 .bf16
  a : Vec F S1x512x704 .bf16
  dg : Vec F S1x1024 .f32
  cp : Vec F S512x1024 .bf16
  du : Vec F S512x1024 .f32

/-- Before anything was stored. -/
def unheld : Held F := ⟨View.canon [], View.canon [], View.canon [], View.canon [], View.canon [], View.canon []⟩

/-- One point's step. -/
def step (t : Fin cfg1.N) (p : Held F) : Held F :=
  if h : t.val = 0 then
    { p with dz := View.canon (rA m c t h).1, a := View.canon (rA m c t h).2.1, dg := View.canon (rA m c t h).2.2.1, cp := View.canon (rA m c t h).2.2.2.1,
             du := View.canon (rA m c t h).2.2.2.2.1 }
  else if h' : t.val % 4 = 0 then
    { p with dz := View.canon (rD m c t ⟨h', h⟩).1, a := View.canon (rD m c t ⟨h', h⟩).2.1, cp := View.canon (rD m c t ⟨h', h⟩).2.2.1,
             du := View.canon (rD m c t ⟨h', h⟩).2.2.2.1 }
  else if h3 : t.val % 4 = 3 then
    { p with dhp := View.canon (rC m c t h3 p.dg p.cp p.du).1, dz := View.canon (rC m c t h3 p.dg p.cp p.du).2.1, a := View.canon (rC m c t h3 p.dg p.cp p.du).2.2.1,
             dg := View.canon (rC m c t h3 p.dg p.cp p.du).2.2.2.1, du := View.canon (rC m c t h3 p.dg p.cp p.du).2.2.2.2.1 }
  else
    { p with dz := View.canon (rB m c t ⟨h', h3⟩ p.cp p.du).1, a := View.canon (rB m c t ⟨h', h3⟩ p.cp p.du).2.1,
             du := View.canon (rB m c t ⟨h', h3⟩ p.cp p.du).2.2.1 }

/-- After point `n`. -/
def held : (n : ℕ) → n < cfg1.N → Held F
  | 0, h => step m c ⟨0, h⟩ unheld
  | n + 1, h => step m c ⟨n + 1, h⟩ (held n (Nat.lt_of_succ_lt h))

/-- Before point `n`. -/
def before : (n : ℕ) → n < cfg1.N → Held F
  | 0, _ => unheld
  | n + 1, h => held m c n (Nat.lt_of_succ_lt h)

theorem held_eq (t : Fin cfg1.N) : held m c t.val t.isLt = step m c t (before m c t.val t.isLt) := by
  obtain ⟨n, h⟩ := t
  cases n <;> rfl

theorem before_eq (t : Fin cfg1.N) (h : t.val ≠ 0) :
    before m c t.val t.isLt = held m c (t.val - 1) (Nat.lt_of_le_of_lt (Nat.sub_le _ _) t.isLt) := by
  obtain ⟨n, hn⟩ := t
  cases n with
  | zero => exact absurd rfl h
  | succ n => rfl

theorem step_A (t : Fin cfg1.N) (p : Held F) (h : t.val = 0) : step m c t p =
    { p with dz := View.canon (rA m c t h).1, a := View.canon (rA m c t h).2.1, dg := View.canon (rA m c t h).2.2.1, cp := View.canon (rA m c t h).2.2.2.1,
             du := View.canon (rA m c t h).2.2.2.2.1 } := dif_pos h

theorem step_D (t : Fin cfg1.N) (p : Held F) (h : t.val % 4 = 0 ∧ t.val ≠ 0) : step m c t p =
    { p with dz := View.canon (rD m c t h).1, a := View.canon (rD m c t h).2.1, cp := View.canon (rD m c t h).2.2.1,
             du := View.canon (rD m c t h).2.2.2.1 } := (dif_neg h.2).trans (dif_pos h.1)

theorem step_B (t : Fin cfg1.N) (p : Held F) (h : t.val % 4 ≠ 0 ∧ t.val % 4 ≠ 3) : step m c t p =
    { p with dz := View.canon (rB m c t h p.cp p.du).1, a := View.canon (rB m c t h p.cp p.du).2.1,
             du := View.canon (rB m c t h p.cp p.du).2.2.1 } :=
  (dif_neg (by omega)).trans ((dif_neg h.1).trans (dif_neg h.2))

theorem step_C (t : Fin cfg1.N) (p : Held F) (h : t.val % 4 = 3) : step m c t p =
    { p with dhp := View.canon (rC m c t h p.dg p.cp p.du).1, dz := View.canon (rC m c t h p.dg p.cp p.du).2.1, a := View.canon (rC m c t h p.dg p.cp p.du).2.2.1,
             dg := View.canon (rC m c t h p.dg p.cp p.du).2.2.2.1, du := View.canon (rC m c t h p.dg p.cp p.du).2.2.2.2.1 } :=
  (dif_neg (by omega)).trans ((dif_neg (by omega)).trans (dif_pos h))

/-! ## The proof data -/

/-- The other kernel's buffers, which this one leaves alone. -/
def rest : sProp (Mo F) := Pipeline.scopedRestBut (Ix := Unit) (Name := ℕ) (U := UR sig nD τ) (Lvl := ℕ) (Val := Elt F) spec1 c [cc1_scratch0]

/-- What holds between points: the running sum as the point before left it, the generator at some state. -/
def Inv : (n : ℕ) → n ≤ cfg1.N → sProp (Mo F)
  | 0, _ => Pipeline.ΦA spec1 c
  | n + 1, hn => iprop(owns (c : Thread nD τ) bS fullShare (held m c n hn).du ∗ rest c ∗ (∃ r, prngReg c r))

theorem inv_start : (Pipeline.ΦA spec1 c : sProp (Mo F)) = iprop((some' c bS ∗ rest c) ∗ (∃ r, prngReg c r)) := by
  unfold Pipeline.ΦA some' rest
  rw [Pipeline.scopedRest_split_of_list spec1 c [cc1_scratch0] (by decide) (by decide)]
  simp only [bS, owns_whole]; rfl

theorem inv_later (t : Fin cfg1.N) (h : t.val ≠ 0) : Inv m c t.val (Nat.le_of_lt t.isLt)
    = iprop(owns (c : Thread nD τ) bS fullShare (before m c t.val t.isLt).du ∗ rest c ∗ (∃ r, prngReg c r)) := by
  obtain ⟨n, hn⟩ := t
  cases n with
  | zero => exact absurd rfl h
  | succ n => rfl

/-- At any point the running sum is held at something. -/
theorem inv_some (n : ℕ) (hn : n ≤ cfg1.N) : Inv m c n hn ⊢ iprop(some' c bS ∗ rest c ∗ (∃ r, prngReg c r)) := by
  cases n with
  | zero =>
    refine BIBase.Entails.trans (.of_eq (inv_start c)) ?_
    iintro ⟨⟨HS, HR⟩, Hg⟩
    isplitl [HS]; · iexact HS
    isplitl [HR]; · iexact HR
    iexact Hg
  | succ n =>
    unfold Inv some'
    iintro ⟨HS, HR, Hg⟩
    isplitl [HS]
    · iexists _; iexact HS
    isplitl [HR]; · iexact HR
    iexact Hg

def dats : Dat τ (Elt F) Unit ℕ (UR sig nD τ) ℕ cfg1 c where
  A w := V m c (Pipeline.arrRef spec1 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (held m c t.val t.isLt).dhp
    | ⟨7, _⟩ => (held m c t.val t.isLt).dz
    | ⟨8, _⟩ => (held m c t.val t.isLt).a
    | ⟨9, _⟩ => (held m c t.val t.isLt).dg
    | ⟨10, _⟩ => (held m c t.val t.isLt).cp
  Φ t := Inv m c t.val (Nat.le_of_lt_succ t.isLt)
  q _ := fullShare
  owed _ := 0

theorem A_eq (w : Fin cfg1.W) : (dats m c).A w = V m c (Pipeline.arrRef spec1 w) := by dsimp only [dats]

theorem after0 (t : Fin cfg1.N) : (dats m c).after 0 t = iblk m c 0 t := by dsimp only [dats]
theorem after1 (t : Fin cfg1.N) : (dats m c).after 1 t = iblk m c 1 t := by dsimp only [dats]
theorem after2 (t : Fin cfg1.N) : (dats m c).after 2 t = iblk m c 2 t := by dsimp only [dats]
theorem after3 (t : Fin cfg1.N) : (dats m c).after 3 t = iblk m c 3 t := by dsimp only [dats]
theorem after4 (t : Fin cfg1.N) : (dats m c).after 4 t = iblk m c 4 t := by dsimp only [dats]
theorem after5 (t : Fin cfg1.N) : (dats m c).after 5 t = iblk m c 5 t := by dsimp only [dats]
theorem after6 (t : Fin cfg1.N) : (dats m c).after 6 t = (held m c t.val t.isLt).dhp := by dsimp only [dats]
theorem after7 (t : Fin cfg1.N) : (dats m c).after 7 t = (held m c t.val t.isLt).dz := by dsimp only [dats]
theorem after8 (t : Fin cfg1.N) : (dats m c).after 8 t = (held m c t.val t.isLt).a := by dsimp only [dats]
theorem after9 (t : Fin cfg1.N) : (dats m c).after 9 t = (held m c t.val t.isLt).dg := by dsimp only [dats]
theorem after10 (t : Fin cfg1.N) : (dats m c).after 10 t = (held m c t.val t.isLt).cp := by dsimp only [dats]
theorem found0 (t : Fin cfg1.N) (d) : (dats m c).before 0 t d = iblk m c 0 t :=
  ((dats m c).before_in_eq_fetched 0 rfl (fun _ => rfl) (fun _ _ _ => rfl) (fun t => by rw [after0]; unfold Dat.blockOf iblk; rw [A_eq]) t d).trans
    (by unfold Dat.fetched Dat.blockOf iblk; rw [A_eq]; try rfl)
theorem found1 (t : Fin cfg1.N) (d) : (dats m c).before 1 t d = iblk m c 1 t :=
  ((dats m c).before_in_eq_fetched 1 rfl (fun _ => rfl) (fun _ _ _ => rfl) (fun t => by rw [after1]; unfold Dat.blockOf iblk; rw [A_eq]) t d).trans
    (by unfold Dat.fetched Dat.blockOf iblk; rw [A_eq]; try rfl)
theorem found2 (t : Fin cfg1.N) (d) : (dats m c).before 2 t d = iblk m c 2 t :=
  ((dats m c).before_in_eq_fetched 2 rfl (fun _ => rfl) (fun _ _ _ => rfl) (fun t => by rw [after2]; unfold Dat.blockOf iblk; rw [A_eq]) t d).trans
    (by unfold Dat.fetched Dat.blockOf iblk; rw [A_eq]; try rfl)
theorem found3 (t : Fin cfg1.N) (d) : (dats m c).before 3 t d = iblk m c 3 t :=
  ((dats m c).before_in_eq_fetched 3 rfl (fun _ => rfl) (fun _ _ _ => rfl) (fun t => by rw [after3]; unfold Dat.blockOf iblk; rw [A_eq]) t d).trans
    (by unfold Dat.fetched Dat.blockOf iblk; rw [A_eq]; try rfl)
theorem found4 (t : Fin cfg1.N) (d) : (dats m c).before 4 t d = iblk m c 4 t :=
  ((dats m c).before_in_eq_fetched 4 rfl (fun _ => rfl) (fun _ _ _ => rfl) (fun t => by rw [after4]; unfold Dat.blockOf iblk; rw [A_eq]) t d).trans
    (by unfold Dat.fetched Dat.blockOf iblk; rw [A_eq]; try rfl)
theorem found5 (t : Fin cfg1.N) (d) : (dats m c).before 5 t d = iblk m c 5 t :=
  ((dats m c).before_in_eq_fetched 5 rfl (fun _ => rfl) (fun _ _ _ => rfl) (fun t => by rw [after5]; unfold Dat.blockOf iblk; rw [A_eq]) t d).trans
    (by unfold Dat.fetched Dat.blockOf iblk; rw [A_eq]; try rfl)

/-- The gain's gradient is carried over the points that do not store it; -/
theorem carry9 (t : Fin cfg1.N) (h0 : t.val ≠ 0) (hi : cfg1.idle 9 (grid1.coords t) = true) (_ : cfg1.fresh 9 t.val = false) :
    (dats m c).after 9 t = (dats m c).after 9 ⟨t.val - 1, by omega⟩ := by
  rw [after9, after9]
  dsimp only
  rw [held_eq, ← before_eq m c t h0]
  by_cases h3 : t.val % 4 = 3
  · rw [live9 t (.inr h3)] at hi; exact absurd hi Bool.false_ne_true
  · by_cases h : t.val % 4 = 0
    · rw [step_D m c t _ ⟨h, h0⟩]
    · rw [step_B m c t _ ⟨h, h3⟩]

/-- so is the copy. -/
theorem carry10 (t : Fin cfg1.N) (h0 : t.val ≠ 0) (hi : cfg1.idle 10 (grid1.coords t) = true) (_ : cfg1.fresh 10 t.val = false) :
    (dats m c).after 10 t = (dats m c).after 10 ⟨t.val - 1, by omega⟩ := by
  rw [after10, after10]
  dsimp only
  rw [held_eq, ← before_eq m c t h0]
  by_cases h : t.val % 4 = 0
  · rw [live10 t h] at hi; exact absurd hi Bool.false_ne_true
  · by_cases h3 : t.val % 4 = 3
    · rw [step_C m c t _ h3]
    · rw [step_B m c t _ ⟨h, h3⟩]

theorem found9 (t : Fin cfg1.N) (h : t.val ≠ 0) (d) : (dats m c).before 9 t d = (before m c t.val t.isLt).dg := by
  have hn := lt32 t
  rw [Dat.before_out_traj _ 9 rfl (fun _ _ => rfl) (carry9 m c) t.val t rfl d, fresh9,
    if_neg (by unfold new9; simp only [Bool.or_eq_true, decide_eq_true_eq]; omega), before_eq m c t h, after9]

theorem found10 (t : Fin cfg1.N) (h : t.val % 4 ≠ 0) (d) : (dats m c).before 10 t d = (before m c t.val t.isLt).cp := by
  rw [Dat.before_out_traj _ 10 rfl (fun _ _ => rfl) (carry10 m c) t.val t rfl d, fresh10,
    if_neg (by unfold new10; simp only [decide_eq_true_eq]; exact h), before_eq m c t (by omega), after10]

/-! ## The body at a point -/

/-- The outputs' buffers as the body finds them. -/
def outsPre (t : Fin cfg1.N) : sProp (Mo F) :=
  iprop((∃ d, owns (c : Thread nD τ) (b6 t) fullShare ((dats m c).before 6 t d)) ∗ (∃ d, owns (c : Thread nD τ) (b7 t) fullShare ((dats m c).before 7 t d))
    ∗ (∃ d, owns (c : Thread nD τ) (b8 t) fullShare ((dats m c).before 8 t d)) ∗ (∃ d, owns (c : Thread nD τ) (b9 t) fullShare ((dats m c).before 9 t d))
    ∗ (∃ d, owns (c : Thread nD τ) (b10 t) fullShare ((dats m c).before 10 t d)))

/-- As it leaves them. -/
def outsPost (t : Fin cfg1.N) : sProp (Mo F) :=
  iprop((dats m c).leavesExact 6 t ∗ (dats m c).leavesExact 7 t ∗ (dats m c).leavesExact 8 t ∗ (dats m c).leavesExact 9 t ∗ (dats m c).leavesExact 10 t)

/-- What the body is called with, -/
def bodyPre (t : Fin cfg1.N) : sProp (Mo F) :=
  iprop((dats m c).Φ t.castSucc ∗ (dats m c).owesAt () t.castSucc
    ∗ (∃ d, owns (c : Thread nD τ) (b0 t) fullShare ((dats m c).before 0 t d))
    ∗ (∃ d, owns (c : Thread nD τ) (b1 t) fullShare ((dats m c).before 1 t d))
    ∗ (∃ d, owns (c : Thread nD τ) (b2 t) fullShare ((dats m c).before 2 t d))
    ∗ (∃ d, owns (c : Thread nD τ) (b3 t) fullShare ((dats m c).before 3 t d))
    ∗ (∃ d, owns (c : Thread nD τ) (b4 t) fullShare ((dats m c).before 4 t d))
    ∗ (∃ d, owns (c : Thread nD τ) (b5 t) fullShare ((dats m c).before 5 t d))
    ∗ (∃ d, owns (c : Thread nD τ) (b6 t) fullShare ((dats m c).before 6 t d))
    ∗ (∃ d, owns (c : Thread nD τ) (b7 t) fullShare ((dats m c).before 7 t d))
    ∗ (∃ d, owns (c : Thread nD τ) (b8 t) fullShare ((dats m c).before 8 t d))
    ∗ (∃ d, owns (c : Thread nD τ) (b9 t) fullShare ((dats m c).before 9 t d))
    ∗ (∃ d, owns (c : Thread nD τ) (b10 t) fullShare ((dats m c).before 10 t d)))

/-- and what it returns. -/
def bodyPost (t : Fin cfg1.N) : sProp (Mo F) :=
  iprop((dats m c).Φ t.succ ∗ (dats m c).owesAt () t.succ
    ∗ (dats m c).leavesExact 0 t
    ∗ (dats m c).leavesExact 1 t
    ∗ (dats m c).leavesExact 2 t
    ∗ (dats m c).leavesExact 3 t
    ∗ (dats m c).leavesExact 4 t
    ∗ (dats m c).leavesExact 5 t
    ∗ (dats m c).leavesExact 6 t
    ∗ (dats m c).leavesExact 7 t
    ∗ (dats m c).leavesExact 8 t
    ∗ (dats m c).leavesExact 9 t
    ∗ (dats m c).leavesExact 10 t)

/-- A window stored at a point is left at the data's contents. -/
theorem leaves_live (w : Fin cfg1.W) (t : Fin cfg1.N) (h : cfg1.idle w (grid1.coords t) = false) :
    (dats m c).leavesExact w t = owns (c : Thread nD τ) ((cfg1.win w).stage (cfg1.slots t w)) fullShare ((dats m c).after w t) := by
  unfold Dat.leavesExact; rw [h]

/-- So is one written back. -/
theorem leaves_out (w : Fin cfg1.W) (t : Fin cfg1.N) (h : (cfg1.win w).flush t = true) :
    (dats m c).leavesExact w t = owns (c : Thread nD τ) ((cfg1.win w).stage (cfg1.slots t w)) fullShare ((dats m c).after w t) := by
  unfold Dat.leavesExact; rw [h]
  cases cfg1.idle w (cfg1.grid.coords t) <;> rfl

/-- The outputs, each restated. -/
theorem outsPost_eq (t : Fin cfg1.N) {X6 X7 X8 X9 X10 : sProp (Mo F)} (h6 : (dats m c).leavesExact 6 t = X6) (h7 : (dats m c).leavesExact 7 t = X7)
    (h8 : (dats m c).leavesExact 8 t = X8) (h9 : (dats m c).leavesExact 9 t = X9) (h10 : (dats m c).leavesExact 10 t = X10) :
    outsPost m c t = iprop(X6 ∗ X7 ∗ X8 ∗ X9 ∗ X10) := by
  subst h6 h7 h8 h9 h10; rfl

/-- The body at a point, from its run there and what the run takes and leaves of the outputs and the running sum. -/
theorem body_of (t : Fin cfg1.N) {D : Type} (P Q : D → sProp (Mo F))
    (hpre : iprop(Inv m c t.val (Nat.le_of_lt t.isLt) ∗ outsPre m c t) ⊢ iprop(∃ d, P d ∗ rest c ∗ ∃ r, prngReg c r))
    (hrun : ∀ d, Runs c (grid1.coords t) (b0 t) (w0 t) (b1 t) (w1 t) (b2 t) (w2 t) (b3 t) (w3 t) (b4 t) (w4 t) (b5 t) (w5 t) (b6 t) (w6 t) (b7 t) (w7 t) (b8 t) (w8 t) (b9 t) (w9 t) (b10 t) (w10 t) bS wS (iblk m c 0 t) (iblk m c 1 t) (iblk m c 2 t) (iblk m c 3 t) (iblk m c 4 t) (iblk m c 5 t) (P d) (Q d))
    (hpost : ∀ d, Q d ⊢ iprop(owns (c : Thread nD τ) bS fullShare (held m c t.val t.isLt).du ∗ outsPost m c t)) :
    bodyPre m c t ⊢ wp frame (wpE (defs₀ (F := F)) Variants.none c none) Set.univ (bodyAt1 t) (fun _ => bodyPost m c t) := by
  have hΦ : (dats m c).Φ t.castSucc = Inv m c t.val (Nat.le_of_lt t.isLt) := by dsimp only [dats]; exact Dat.Φ_castSucc (Inv m c) t
  unfold bodyPre bodyAt1
  simp only [found0, found1, found2, found3, found4, found5, hΦ]
  have h1 : iprop(Inv m c t.val (Nat.le_of_lt t.isLt) ∗ (dats m c).owesAt () t.castSucc
      ∗ (∃ _d : (cfg1.win 0).block.Idx → Elt F (cfg1.win 0).elt, owns (c : Thread nD τ) (b0 t) fullShare (iblk m c 0 t)) ∗ (∃ _d : (cfg1.win 1).block.Idx → Elt F (cfg1.win 1).elt, owns (c : Thread nD τ) (b1 t) fullShare (iblk m c 1 t))
      ∗ (∃ _d : (cfg1.win 2).block.Idx → Elt F (cfg1.win 2).elt, owns (c : Thread nD τ) (b2 t) fullShare (iblk m c 2 t)) ∗ (∃ _d : (cfg1.win 3).block.Idx → Elt F (cfg1.win 3).elt, owns (c : Thread nD τ) (b3 t) fullShare (iblk m c 3 t))
      ∗ (∃ _d : (cfg1.win 4).block.Idx → Elt F (cfg1.win 4).elt, owns (c : Thread nD τ) (b4 t) fullShare (iblk m c 4 t)) ∗ (∃ _d : (cfg1.win 5).block.Idx → Elt F (cfg1.win 5).elt, owns (c : Thread nD τ) (b5 t) fullShare (iblk m c 5 t))
      ∗ outsPre m c t)
      ⊢ iprop(ins c (b0 t) (b1 t) (b2 t) (b3 t) (b4 t) (b5 t) (iblk m c 0 t) (iblk m c 1 t) (iblk m c 2 t) (iblk m c 3 t) (iblk m c 4 t) (iblk m c 5 t) ∗ (dats m c).owesAt () t.castSucc ∗ ∃ d, P d ∗ rest c ∗ ∃ r, prngReg c r) := by
    unfold ins
    iintro ⟨HI, Ho, ⟨%d0, H0⟩, ⟨%d1, H1⟩, ⟨%d2, H2⟩, ⟨%d3, H3⟩, ⟨%d4, H4⟩, ⟨%d5, H5⟩, HO⟩
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [Ho]; · iexact Ho
    iapply hpre
    isplitl [HI]; · iexact HI
    iexact HO
  refine BIBase.Entails.trans h1 ?_
  iintro ⟨HI, Ho, %d, HP, HR, Hg⟩
  iapply (hrun d Set.univ _)
  isplitl [HI]; · iexact HI
  isplitl [HP]; · iexact HP
  iintro ⟨HI, HQ⟩
  have h2 : iprop(ins c (b0 t) (b1 t) (b2 t) (b3 t) (b4 t) (b5 t) (iblk m c 0 t) (iblk m c 1 t) (iblk m c 2 t) (iblk m c 3 t) (iblk m c 4 t) (iblk m c 5 t) ∗ (dats m c).owesAt () t.castSucc
      ∗ (owns (c : Thread nD τ) bS fullShare (held m c t.val t.isLt).du ∗ outsPost m c t) ∗ rest c ∗ ∃ r, prngReg c r) ⊢ bodyPost m c t := by
    unfold bodyPost outsPost ins
    rw [show (dats m c).Φ t.succ = iprop(owns (c : Thread nD τ) bS fullShare (held m c t.val t.isLt).du ∗ rest c ∗ (∃ r, prngReg c r)) from rfl,
      leaves_live m c 0 t rfl, leaves_live m c 1 t rfl, leaves_live m c 2 t rfl, leaves_live m c 3 t rfl, leaves_live m c 4 t rfl, leaves_live m c 5 t rfl,
      after0, after1, after2, after3, after4, after5]
    iintro ⟨⟨H0, H1, H2, H3, H4, H5⟩, Ho, ⟨HS, HO⟩, HR, Hg⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact HO
  iapply h2
  isplitl [HI]; · iexact HI
  isplitl [Ho]; · iexact Ho
  isplitl [HQ]
  · iapply (hpost d)
    iexact HQ
  isplitl [HR]; · iexact HR
  iexact Hg

/-- The blocks a point may leave as it finds them: the hidden gradient's and the gain's gradient's. -/
abbrev Kept (F : FTy → Type) := ((cfg1.win 6).block.Idx → Elt F (cfg1.win 6).elt) × ((cfg1.win 9).block.Idx → Elt F (cfg1.win 9).elt)

set_option maxHeartbeats 1600000 in
theorem body_A (t : Fin cfg1.N) (h : t.val = 0) :
    bodyPre m c t ⊢ wp frame (wpE (defs₀ (F := F)) Variants.none c none) Set.univ (bodyAt1 t) (fun _ => bodyPost m c t) := by
  refine body_of m c t (D := Kept F) (fun d => iprop(owns (c : Thread nD τ) (b6 t) fullShare ((dats m c).before 6 t d.1) ∗ some' c (b7 t) ∗ some' c (b8 t) ∗ some' c (b9 t) ∗ some' c (b10 t) ∗ some' c bS))
    (fun d => iprop(owns (c : Thread nD τ) (b6 t) fullShare ((dats m c).before 6 t d.1) ∗ left c (b7 t) (rA m c t h).1 ∗ left c (b8 t) (rA m c t h).2.1 ∗ left c (b9 t) (rA m c t h).2.2.1 ∗ left c (b10 t) (rA m c t h).2.2.2.1 ∗ left c bS (rA m c t h).2.2.2.2.1))
    ?_ (fun d => (rA m c t h).2.2.2.2.2 _) ?_
  · refine BIBase.Entails.trans (sep_mono (inv_some m c _ _) .rfl) ?_
    unfold outsPre some'
    iintro ⟨⟨⟨%dS, HS⟩, HR, Hg⟩, ⟨%d6, H6⟩, ⟨%d7, H7⟩, ⟨%d8, H8⟩, ⟨%d9, H9⟩, ⟨%d10, H10⟩⟩
    iexists (d6, d9)
    isplitr [HR Hg]
    · isplitl [H6]; · iexact H6
      isplitl [H7]; · iexists _; iexact H7
      isplitl [H8]; · iexists _; iexact H8
      isplitl [H9]; · iexists _; iexact H9
      isplitl [H10]; · iexists _; iexact H10
      iexists _; iexact HS
    isplitl [HR]; · iexact HR
    iexact Hg
  · intro d
    have e := (held_eq m c t).trans (step_A m c t _ h)
    rw [outsPost_eq m c t (Dat.leavesExact_idle (dats m c) 6 t (idle6 t (by omega)).1 (idle6 t (by omega)).2)
      ((leaves_live m c 7 t rfl).trans (by rw [after7, e]))
      ((leaves_live m c 8 t rfl).trans (by rw [after8, e]))
      ((leaves_live m c 9 t (live9 t (by omega))).trans (by rw [after9, e]))
      ((leaves_live m c 10 t (live10 t (by omega))).trans (by rw [after10, e])), e]
    iintro ⟨H6, H7, H8, H9, H10, HS⟩
    isplitl [HS]; · iapply (left_owns c _ _ (cAS m c t h)); iexact HS
    isplitl [H6]; · iexists _; iexact H6
    isplitl [H7]; · iapply (left_owns c _ _ (cA7 m c t h)); iexact H7
    isplitl [H8]; · iapply (left_owns c _ _ (cA8 m c t h)); iexact H8
    isplitl [H9]; · iapply (left_owns c _ _ (cA9 m c t h)); iexact H9
    iapply (left_owns c _ _ (cA10 m c t h)); iexact H10

set_option maxHeartbeats 1600000 in
theorem body_D (t : Fin cfg1.N) (h : t.val % 4 = 0 ∧ t.val ≠ 0) :
    bodyPre m c t ⊢ wp frame (wpE (defs₀ (F := F)) Variants.none c none) Set.univ (bodyAt1 t) (fun _ => bodyPost m c t) := by
  refine body_of m c t (D := Kept F) (fun d => iprop(owns (c : Thread nD τ) (b6 t) fullShare ((dats m c).before 6 t d.1) ∗ some' c (b7 t) ∗ some' c (b8 t) ∗ owns (c : Thread nD τ) (b9 t) fullShare ((dats m c).before 9 t d.2) ∗ some' c (b10 t) ∗ some' c bS))
    (fun d => iprop(owns (c : Thread nD τ) (b6 t) fullShare ((dats m c).before 6 t d.1) ∗ left c (b7 t) (rD m c t h).1 ∗ left c (b8 t) (rD m c t h).2.1 ∗ owns (c : Thread nD τ) (b9 t) fullShare ((dats m c).before 9 t d.2) ∗ left c (b10 t) (rD m c t h).2.2.1 ∗ left c bS (rD m c t h).2.2.2.1))
    ?_ (fun d => (rD m c t h).2.2.2.2 _ _) ?_
  · refine BIBase.Entails.trans (sep_mono (inv_some m c _ _) .rfl) ?_
    unfold outsPre some'
    iintro ⟨⟨⟨%dS, HS⟩, HR, Hg⟩, ⟨%d6, H6⟩, ⟨%d7, H7⟩, ⟨%d8, H8⟩, ⟨%d9, H9⟩, ⟨%d10, H10⟩⟩
    iexists (d6, d9)
    isplitr [HR Hg]
    · isplitl [H6]; · iexact H6
      isplitl [H7]; · iexists _; iexact H7
      isplitl [H8]; · iexists _; iexact H8
      isplitl [H9]; · iexact H9
      isplitl [H10]; · iexists _; iexact H10
      iexists _; iexact HS
    isplitl [HR]; · iexact HR
    iexact Hg
  · intro d
    have e := (held_eq m c t).trans (step_D m c t _ h)
    rw [outsPost_eq m c t (Dat.leavesExact_idle (dats m c) 6 t (idle6 t (by omega)).1 (idle6 t (by omega)).2)
      ((leaves_live m c 7 t rfl).trans (by rw [after7, e]))
      ((leaves_live m c 8 t rfl).trans (by rw [after8, e]))
      (Dat.leavesExact_idle (dats m c) 9 t (idle9 t (by omega)).1 (idle9 t (by omega)).2)
      ((leaves_live m c 10 t (live10 t (by omega))).trans (by rw [after10, e])), e]
    iintro ⟨H6, H7, H8, H9, H10, HS⟩
    isplitl [HS]; · iapply (left_owns c _ _ (cDS m c t h)); iexact HS
    isplitl [H6]; · iexists _; iexact H6
    isplitl [H7]; · iapply (left_owns c _ _ (cD7 m c t h)); iexact H7
    isplitl [H8]; · iapply (left_owns c _ _ (cD8 m c t h)); iexact H8
    isplitl [H9]; · iexists _; iexact H9
    iapply (left_owns c _ _ (cD10 m c t h)); iexact H10

set_option maxHeartbeats 1600000 in
theorem body_B (t : Fin cfg1.N) (h : t.val % 4 ≠ 0 ∧ t.val % 4 ≠ 3) :
    bodyPre m c t ⊢ wp frame (wpE (defs₀ (F := F)) Variants.none c none) Set.univ (bodyAt1 t) (fun _ => bodyPost m c t) := by
  refine body_of m c t (D := Kept F) (fun d => iprop(owns (c : Thread nD τ) (b6 t) fullShare ((dats m c).before 6 t d.1) ∗ some' c (b7 t) ∗ some' c (b8 t) ∗ owns (c : Thread nD τ) (b9 t) fullShare ((dats m c).before 9 t d.2) ∗ owns (c : Thread nD τ) (b10 t) fullShare (before m c t.val t.isLt).cp ∗ owns (c : Thread nD τ) bS fullShare (before m c t.val t.isLt).du))
    (fun d => iprop(owns (c : Thread nD τ) (b6 t) fullShare ((dats m c).before 6 t d.1) ∗ left c (b7 t) (rB m c t h (before m c t.val t.isLt).cp (before m c t.val t.isLt).du).1 ∗ left c (b8 t) (rB m c t h (before m c t.val t.isLt).cp (before m c t.val t.isLt).du).2.1 ∗ owns (c : Thread nD τ) (b9 t) fullShare ((dats m c).before 9 t d.2) ∗ owns (c : Thread nD τ) (b10 t) fullShare (before m c t.val t.isLt).cp ∗ left c bS (rB m c t h (before m c t.val t.isLt).cp (before m c t.val t.isLt).du).2.2.1))
    ?_ (fun d => (rB m c t h (before m c t.val t.isLt).cp (before m c t.val t.isLt).du).2.2.2 _ _) ?_
  · rw [inv_later m c t (by omega)]
    unfold outsPre some'
    simp only [found10 m c t (by omega)]
    iintro ⟨⟨HS, HR, Hg⟩, ⟨%d6, H6⟩, ⟨%d7, H7⟩, ⟨%d8, H8⟩, ⟨%d9, H9⟩, ⟨%d10, H10⟩⟩
    iexists (d6, d9)
    isplitr [HR Hg]
    · isplitl [H6]; · iexact H6
      isplitl [H7]; · iexists _; iexact H7
      isplitl [H8]; · iexists _; iexact H8
      isplitl [H9]; · iexact H9
      isplitl [H10]; · iexact H10
      iexact HS
    isplitl [HR]; · iexact HR
    iexact Hg
  · intro d
    have e := (held_eq m c t).trans (step_B m c t _ h)
    rw [outsPost_eq m c t (Dat.leavesExact_idle (dats m c) 6 t (idle6 t (by omega)).1 (idle6 t (by omega)).2)
      ((leaves_live m c 7 t rfl).trans (by rw [after7, e]))
      ((leaves_live m c 8 t rfl).trans (by rw [after8, e]))
      (Dat.leavesExact_idle (dats m c) 9 t (idle9 t (by omega)).1 (idle9 t (by omega)).2)
      (Dat.leavesExact_idle (dats m c) 10 t (idle10 t h.1) (by rw [flush10]; exact decide_eq_false h.2)), e]
    simp only [found10 m c t h.1]
    iintro ⟨H6, H7, H8, H9, H10, HS⟩
    isplitl [HS]; · iapply (left_owns c _ _ (cBS m c t h _ _)); iexact HS
    isplitl [H6]; · iexists _; iexact H6
    isplitl [H7]; · iapply (left_owns c _ _ (cB7 m c t h _ _)); iexact H7
    isplitl [H8]; · iapply (left_owns c _ _ (cB8 m c t h _ _)); iexact H8
    isplitl [H9]; · iexists _; iexact H9
    iexists (View.canon []); iexact H10

set_option maxHeartbeats 1600000 in
theorem body_C (t : Fin cfg1.N) (h : t.val % 4 = 3) :
    bodyPre m c t ⊢ wp frame (wpE (defs₀ (F := F)) Variants.none c none) Set.univ (bodyAt1 t) (fun _ => bodyPost m c t) := by
  refine body_of m c t (D := Kept F) (fun d => iprop(some' c (b6 t) ∗ some' c (b7 t) ∗ some' c (b8 t) ∗ owns (c : Thread nD τ) (b9 t) fullShare (before m c t.val t.isLt).dg ∗ owns (c : Thread nD τ) (b10 t) fullShare (before m c t.val t.isLt).cp ∗ owns (c : Thread nD τ) bS fullShare (before m c t.val t.isLt).du))
    (fun d => iprop(left c (b6 t) (rC m c t h (before m c t.val t.isLt).dg (before m c t.val t.isLt).cp (before m c t.val t.isLt).du).1 ∗ left c (b7 t) (rC m c t h (before m c t.val t.isLt).dg (before m c t.val t.isLt).cp (before m c t.val t.isLt).du).2.1 ∗ left c (b8 t) (rC m c t h (before m c t.val t.isLt).dg (before m c t.val t.isLt).cp (before m c t.val t.isLt).du).2.2.1 ∗ left c (b9 t) (rC m c t h (before m c t.val t.isLt).dg (before m c t.val t.isLt).cp (before m c t.val t.isLt).du).2.2.2.1 ∗ owns (c : Thread nD τ) (b10 t) fullShare (before m c t.val t.isLt).cp ∗ left c bS (rC m c t h (before m c t.val t.isLt).dg (before m c t.val t.isLt).cp (before m c t.val t.isLt).du).2.2.2.2.1))
    ?_ (fun d => (rC m c t h (before m c t.val t.isLt).dg (before m c t.val t.isLt).cp (before m c t.val t.isLt).du).2.2.2.2.2) ?_
  · rw [inv_later m c t (by omega)]
    unfold outsPre some'
    simp only [found9 m c t (by omega), found10 m c t (by omega)]
    iintro ⟨⟨HS, HR, Hg⟩, ⟨%d6, H6⟩, ⟨%d7, H7⟩, ⟨%d8, H8⟩, ⟨%d9, H9⟩, ⟨%d10, H10⟩⟩
    iexists (d6, d9)
    isplitr [HR Hg]
    · isplitl [H6]; · iexists _; iexact H6
      isplitl [H7]; · iexists _; iexact H7
      isplitl [H8]; · iexists _; iexact H8
      isplitl [H9]; · iexact H9
      isplitl [H10]; · iexact H10
      iexact HS
    isplitl [HR]; · iexact HR
    iexact Hg
  · intro d
    have e := (held_eq m c t).trans (step_C m c t _ h)
    rw [outsPost_eq m c t ((leaves_live m c 6 t (live6 t (by omega))).trans (by rw [after6, e]))
      ((leaves_live m c 7 t rfl).trans (by rw [after7, e]))
      ((leaves_live m c 8 t rfl).trans (by rw [after8, e]))
      ((leaves_live m c 9 t (live9 t (by omega))).trans (by rw [after9, e]))
      ((leaves_out m c 10 t (by rw [flush10]; exact decide_eq_true h)).trans (by rw [after10, e])), e]
    iintro ⟨H6, H7, H8, H9, H10, HS⟩
    isplitl [HS]; · iapply (left_owns c _ _ (cCS m c t h _ _ _)); iexact HS
    isplitl [H6]; · iapply (left_owns c _ _ (cC6 m c t h _ _ _)); iexact H6
    isplitl [H7]; · iapply (left_owns c _ _ (cC7 m c t h _ _ _)); iexact H7
    isplitl [H8]; · iapply (left_owns c _ _ (cC8 m c t h _ _ _)); iexact H8
    isplitl [H9]; · iapply (left_owns c _ _ (cC9 m c t h _ _ _)); iexact H9
    iexact H10

/-! ## The run -/

theorem sound_body (t : Fin cfg1.N) :
    bodyPre m c t ⊢ wp frame (wpE (defs₀ (F := F)) Variants.none c none) Set.univ (bodyAt1 t) (fun _ => bodyPost m c t) := by
  by_cases h : t.val = 0
  · exact body_A m c t h
  by_cases h' : t.val % 4 = 0
  · exact body_D m c t ⟨h', h⟩
  by_cases h3 : t.val % 4 = 3
  · exact body_C m c t h3
  exact body_B m c t ⟨h', h3⟩

theorem row (t : Fin cfg1.N) : defs₀ (F := F) .tc cfg1.body (cfg1.bodyArgs t (cfg1.slots t)) = bodyAt1 t := by
  unfold defs₀; rw [Defs.onTc_tc]

theorem obligation : BodyObligation (dats (F := F) m c) (defs₀ (F := F)) Variants.none () Set.univ := fun t => by
  rw [bigSep_W1, bigSep_W1, row]
  exact triple_restated (sound_body m c t) rfl .rfl fun _ => .rfl

theorem enter : Pipeline.ΦA spec1 c ⊢ (dats m c).Φ 0 := by
  rw [show (dats m c).Φ 0 = Inv m c 0 (Nat.zero_le _) from rfl]
  exact .rfl

theorem leave : (dats m c).Φ (Fin.last cfg1.N) ⊢ Pipeline.ΦA spec1 c := by
  rw [show (dats m c).Φ (Fin.last cfg1.N) = Inv m c cfg1.N (Nat.le_refl _) from rfl, inv_start]
  refine BIBase.Entails.trans (inv_some m c _ _) ?_
  iintro ⟨HS, HR, Hg⟩
  isplitr [Hg]
  · isplitl [HS]; · iexact HS
    iexact HR
  iexact Hg

end Cert.Proof.FfnFrame

end
-- ==== Proof.FfnLaunch.lean ====
/- The run of `ffn_fwd` and `ffn_bwd_x` one after the other: what every buffer holds between the two launches and at the end, and the
   frame. -/
module

public import proofs.«01_k».proof.Proof.FfnFwdFrame
public import proofs.«01_k».proof.Proof.FfnFrame
public import proofs.«01_k».proof.Proof.Gen.FfnIdeal.Regions
public import Idealize.ShloMosaic.Lib.Pipeline.RegionArraysS

@[expose] public section

set_option maxRecDepth 16384

noncomputable section

namespace Cert.Proof.FfnLaunch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg cells launchToks)
open Cert.FfnIdeal Cert.FfnIdeal.Gen
open Cert.Proof.FfnRun (Mo)

variable {F : FTy → Type} [FloatOps F]
variable (m : (ℓ : Loc nD τ sig) → Buf (Elt F) ℓ)

/-! ## What the buffers hold -/

/-- As the forward kernel is entered, -/
def W1 (c : Dev nD) : Valuation τ sig (Elt F) := StableHlo.after hostOps0 (V0 m c)
/-- as it is left, -/
def W2 (c : Dev nD) : Valuation τ sig (Elt F) := Pipeline.afterRegion (FfnFwdFrame.dats (W1 m) c) (W1 m c)
/-- as the backward kernel is entered, -/
def W3 (c : Dev nD) : Valuation τ sig (Elt F) := StableHlo.after hostOps1 (W2 m c)
/-- and at the end. -/
def W4 (c : Dev nD) : Valuation τ sig (Elt F) := Pipeline.afterRegion (FfnFrame.dats (W3 m) c) (W3 m c)

/-- Both kernels' data. -/
def pdats : (p : Fin 2) → (c : Dev nD) → Dat τ (Elt F) Unit ℕ (UR sig nD τ) ℕ (cfgs p) c
  | 0 => FfnFwdFrame.dats (W1 m)
  | 1 => FfnFrame.dats (W3 m)

/-! ## The segments -/

theorem sc0 : ∀ w, (Pipeline.arrRef spec0 w).isScoped = false := by decide
theorem sc1 : ∀ w, (Pipeline.arrRef spec1 w).isScoped = false := by decide
theorem uc0 : Pipeline.arrRefs (τ := τ) (pcfgs (F := F) 0).spec ⊆ Pipeline.ucRefs τ sig := Pipeline.arrRefs_sub_ucRefs _ sc0
theorem uc1 : Pipeline.arrRefs (τ := τ) (pcfgs (F := F) 1).spec ⊆ Pipeline.ucRefs τ sig := Pipeline.arrRefs_sub_ucRefs _ sc1

/-- The staging waits' index stands at every cell of a device, -/
def lev (g : GSem nD τ sig) : Finset Unit := if g.1.2 = .tc then {()} else ∅
/-- all at one level. -/
def lv (_ : GSem nD τ sig) (_ : Unit) : ℕ := 0

/-- The generator at some state. -/
def gen (c : Dev nD) : sProp (Mo F) := iprop(∃ r, prngReg c r)

/-- What rides beside the buffers: nothing owed, the generator at some state. -/
def R (c : Dev nD) : sProp (Mo F) :=
  iprop((∃ Wd, owes (c : Thread nD τ) (0 : CellTallies nD τ sig Unit) Wd) ∗ gen c ∗ emp)

def cut (p : Fin 2) : Pipeline.LevelCut (pcfgs (F := F)) adm () lev lv p (fun _ => 0) (fun _ => 0) where
  hι _ _ _ := Finset.mem_singleton_self ()
  hιb _ _ _ := le_rfl
  hD _ _ _ h := absurd h (lt_irrefl 0)

def host0 : HostSeg (Ix := Unit) (Name := ℕ) (U := UR sig nD τ) (Lvl := ℕ) (pcfgs (F := F)) defs₀ Variants.none lev lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) R

def host1 : HostSeg (Ix := Unit) (Name := ℕ) (U := UR sig nD τ) (Lvl := ℕ) (pcfgs (F := F)) defs₀ Variants.none lev lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) R

def reg0 : RegionSeg (pcfgs (F := F)) adm (pdats m) () defs₀ Variants.none lev lv 0 :=
  RegionSeg.ofHeldIn (pcfgs (F := F)) adm (pdats m) () defs₀ Variants.none lev lv 0 (fun _ => 0) (Pipeline.ucRefs τ sig)
    gen gen launch0.toP rfl
    (fun c => (FfnFwdFrame.obligation (W1 m) c).loose) (fun _ _ => rfl) (fun _ => rfl) (fun c => (FfnFwdFrame.dats (W1 m) c).share_full fun _ => rfl)
    (fun c => FfnFwdFrame.enter (W1 m) c) (fun c => FfnFwdFrame.leave (W1 m) c) (fun _ => 0) (cut 0) (fun _ => iprop(emp)) (W1 m)
    (fun _ _ => rfl)

def reg1 : RegionSeg (pcfgs (F := F)) adm (pdats m) () defs₀ Variants.none lev lv 1 :=
  RegionSeg.ofHeldIn (pcfgs (F := F)) adm (pdats m) () defs₀ Variants.none lev lv 1 (fun _ => 0) (Pipeline.ucRefs τ sig)
    gen gen launch1.toP rfl
    (fun c => (FfnFrame.obligation (W3 m) c).loose) (fun _ _ => rfl) (fun _ => rfl) (fun c => (FfnFrame.dats (W3 m) c).share_full fun _ => rfl)
    (fun c => FfnFrame.enter (W3 m) c) (fun c => FfnFrame.leave (W3 m) c) (fun _ => 0) (cut 1) (fun _ => iprop(emp)) (W3 m)
    (fun _ _ => rfl)

theorem pdats0 : pdats m 0 = FfnFwdFrame.dats (W1 m) := rfl
theorem pdats1 : pdats m 1 = FfnFrame.dats (W3 m) := rfl

theorem pre0 (c : Dev nD) : iprop(StableHlo.held (c : Thread nD τ) (Pipeline.ucRefs τ sig) (W1 m c) ∗ R c) ⊢ (reg0 m).pre c := by
  unfold reg0 R
  exact RegionSeg.ofHeldIn_pre (D := fun _ => 0) uc0 (X := gen) (R := fun _ => iprop(emp)) c
theorem post0 (c : Dev nD) : (reg0 m).post c ⊢ iprop(StableHlo.held (c : Thread nD τ) (Pipeline.ucRefs τ sig) (W2 m c) ∗ R c) := by
  unfold reg0 R W2
  rw [← pdats0]
  exact RegionSeg.ofHeldIn_post (D := fun _ => 0) uc0 (Y := gen) (R := fun _ => iprop(emp)) c
theorem pre1 (c : Dev nD) : iprop(StableHlo.held (c : Thread nD τ) (Pipeline.ucRefs τ sig) (W3 m c) ∗ R c) ⊢ (reg1 m).pre c := by
  unfold reg1 R
  exact RegionSeg.ofHeldIn_pre (D := fun _ => 0) uc1 (X := gen) (R := fun _ => iprop(emp)) c
theorem post1 (c : Dev nD) : (reg1 m).post c ⊢ iprop(StableHlo.held (c : Thread nD τ) (Pipeline.ucRefs τ sig) (W4 m c) ∗ R c) := by
  unfold reg1 R W4
  rw [← pdats1]
  exact RegionSeg.ofHeldIn_post (D := fun _ => 0) uc1 (Y := gen) (R := fun _ => iprop(emp)) c

abbrev parts (_ : Dev nD) : List (Seg (pcfgs (F := F)) adm (pdats m) () defs₀ Variants.none lev lv) :=
  [.host (host0 m), .region (reg0 m), .host (host1 m), .region (reg1 m)]

/-! ## The run -/

variable (ρ : Dev nD → PrngReg)

set_option backward.isDefEq.respectTransparency.types false in
/-- Every buffer ends at the last contents, every counter at zero. -/
theorem run : θ_run defs (onTc (τ := τ) (main (F := F))) ⟨m, fun _ => 0, ρ⟩ (fun r =>
    (∀ (c : Dev nD) (b : Ref sig .tc), (Proc.devRef .tc b : DevRef τ sig) ∈ Pipeline.ucRefs τ sig →
      r.2.mem ((c : Thread nD τ).loc b) = W4 m c (Proc.devRef .tc b)) ∧ r.2.sem = fun _ => 0) := by
  refine Pipeline.θ_run_regions_kit_dev_sems (pcfgs (F := F)) adm (pdats m) () cellOf_inj
    emb₁ defs₀ Variants.none lev lv m ρ main (parts m)
    (fun c Q => by
      rewrite [main_chain c, Seg.run_eq_chain,
        show (parts m c).map Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [parts, Seg.pipes_host, Seg.pipes_region, Seg.pipes_nil]; decide) (fun _ => 0) (fun _ h => if_neg h)
    (fun _ => iprop(emp)) (initOf (cells cfgs cellOf_inj) (launchToks cfgs cellOf_inj))
    ?_
    (T₀ := fun c => iprop(StableHlo.held (c : Thread nD τ) (Pipeline.ucRefs τ sig) (V0 m c) ∗ R c))
    (Tₙ := fun c => StableHlo.held (c : Thread nD τ) (Pipeline.ucRefs τ sig) (W4 m c))
    (hch := fun c => ⟨.rfl, pre0 m c, post0 m c, pre1 m c, (post1 m c).trans (sep_mono .rfl ?_)⟩)
    (hinit := Pipeline.initEach lev lv fun c => ?_)
    (QY := fun c s => ∀ b : Ref sig .tc, (Proc.devRef .tc b : DevRef τ sig) ∈ Pipeline.ucRefs τ sig →
      s.mem ((c : Thread nD τ).loc b) = W4 m c (Proc.devRef .tc b))
    (hfin := fun c s' => ?_) (hQ := fun _ h hz => ⟨h, funext fun g => hz g (.inr (regions_no_unscoped g.2))⟩)
  · iintro Hu; imodintro
    isplitl [Hu]
    · iapply (show (ownU (initOf (cells cfgs cellOf_inj) (launchToks cfgs cellOf_inj)) : sProp (Mo F))
        ⊢ BI.own (emb₁ (initOf (cells (Pipeline.pin pcfgs adm) cellOf_inj) (launchToks (Pipeline.pin pcfgs adm) cellOf_inj))) from .rfl)
      iexact Hu
    iapply (show (BI.emp : sProp (Mo F)) ⊢ bigSep Finset.univ (fun _ : Dev nD => (BI.emp : sProp (Mo F))) from by rw [BI.bigSep_emp_const])
    iempintro
  · unfold R
    iintro ⟨HO, -, -⟩
    iexact HO
  · rw [show unscopedBufs c (fun b => m ((c : Thread nD τ).loc b)) = StableHlo.held (c : Thread nD τ) (Pipeline.ucRefs τ sig) (V0 m c) from
      Pipeline.unscopedBufs_held (Ix := Unit) (Name := ℕ) (U := UR sig nD τ) (Lvl := ℕ) c (V0 m c)]
    unfold R gen
    iintro ⟨⟨Hh, -, HO, -, Hg, -⟩, -⟩
    imodintro
    isplitl [Hh]; · iexact Hh
    isplitl [HO]; · iexists ∅; iexact HO
    isplitl [Hg]; · iexists _; iexact Hg
    iempintro
  · unfold StableHlo.held
    iintro ⟨Hh, HSI⟩
    ihave Hr := (pointsTo_read_all (Pipeline.ucRefs τ sig) (fun b => ((c : Thread nD τ).1, b)) (W4 m c) s') $$ [Hh HSI]
    · isplitl [Hh] <;> iassumption
    icases Hr with ⟨%h, HSI⟩
    imodintro
    isplitr
    · ipureintro
      exact fun b hb => h _ hb
    · iexact HSI

/-- A buffer of the host's is read at the end. -/
theorem mem_uc (b : Ref sig .tc) (h : b.isScoped = false) : (Proc.devRef .tc b : DevRef τ sig) ∈ Pipeline.ucRefs τ sig :=
  Finset.mem_filter.mpr ⟨StableHlo.devRef_mem_tcRefs b, by simpa using h⟩

/-! ## What is unchanged -/

/-- A buffer that no host operation writes and that is no output of a kernel. -/
theorem kept0 (c : Dev nD) (b : Ref sig .tc) (h : b ∉ hostOps0_W) : W1 m c (Proc.devRef .tc b) = m ((c : Thread nD τ).loc b) :=
  StableHlo.after_of_writes_sub hostOps0 _ hostOps0_writes h
theorem kept1 (c : Dev nD) (b : Ref sig .tc) (h : ∀ w, Pipeline.arrRef spec0 w = b → (cfg0.win w).isOut = false) :
    W2 m c (Proc.devRef .tc b) = W1 m c (Proc.devRef .tc b) :=
  Pipeline.afterRegion_keeps (FfnFwdFrame.dats (W1 m) c) (W1 m c) launch0.win.arr_inj (FfnFwdFrame.A_eq (W1 m) c) b h
theorem kept2 (c : Dev nD) (b : Ref sig .tc) (h : b ∉ hostOps1_W) : W3 m c (Proc.devRef .tc b) = W2 m c (Proc.devRef .tc b) :=
  StableHlo.after_of_writes_sub hostOps1 _ hostOps1_writes h
theorem kept3 (c : Dev nD) (b : Ref sig .tc) (h : ∀ w, Pipeline.arrRef spec1 w = b → (cfg1.win w).isOut = false) :
    W4 m c (Proc.devRef .tc b) = W3 m c (Proc.devRef .tc b) :=
  Pipeline.afterRegion_keeps (FfnFrame.dats (W3 m) c) (W3 m c) launch1.win.arr_inj (FfnFrame.A_eq (W3 m) c) b h

/-- A kernel's array as it is left. -/
theorem out0 (c : Dev nD) (w : Fin cfg0.W) : W2 m c (Proc.devRef .tc (Pipeline.arrRef spec0 w)) = (FfnFwdFrame.dats (W1 m) c).arrAt w cfg0.N :=
  Pipeline.afterRegion_arr (FfnFwdFrame.dats (W1 m) c) (W1 m c) launch0.win.arr_inj w
theorem out1 (c : Dev nD) (w : Fin cfg1.W) : W4 m c (Proc.devRef .tc (Pipeline.arrRef spec1 w)) = (FfnFrame.dats (W3 m) c).arrAt w cfg1.N :=
  Pipeline.afterRegion_arr (FfnFrame.dats (W3 m) c) (W3 m c) launch1.win.arr_inj w

theorem keeps (c : Dev nD) (b : Ref sig .tc) (h0 : b ∉ hostOps0_W) (h1 : ∀ w, Pipeline.arrRef spec0 w = b → (cfg0.win w).isOut = false)
    (h2 : b ∉ hostOps1_W) (h3 : ∀ w, Pipeline.arrRef spec1 w = b → (cfg1.win w).isOut = false) :
    W4 m c (Proc.devRef .tc b) = m ((c : Thread nD τ).loc b) :=
  (kept3 m c b h3).trans ((kept2 m c b h2).trans ((kept1 m c b h1).trans (kept0 m c b h0)))

theorem kept_arg0 (c : Dev nD) : W4 m c (Proc.devRef .tc main_arg0) = m ((c : Thread nD τ).loc main_arg0) := keeps m c _ (by decide) (by decide) (by decide) (by decide)
theorem kept_arg1 (c : Dev nD) : W4 m c (Proc.devRef .tc main_arg1) = m ((c : Thread nD τ).loc main_arg1) := keeps m c _ (by decide) (by decide) (by decide) (by decide)
theorem kept_arg2 (c : Dev nD) : W4 m c (Proc.devRef .tc main_arg2) = m ((c : Thread nD τ).loc main_arg2) := keeps m c _ (by decide) (by decide) (by decide) (by decide)
theorem kept_arg3 (c : Dev nD) : W4 m c (Proc.devRef .tc main_arg3) = m ((c : Thread nD τ).loc main_arg3) := keeps m c _ (by decide) (by decide) (by decide) (by decide)
theorem kept_arg4 (c : Dev nD) : W4 m c (Proc.devRef .tc main_arg4) = m ((c : Thread nD τ).loc main_arg4) := keeps m c _ (by decide) (by decide) (by decide) (by decide)

/-- The run leaves the arguments as they were and every counter at zero. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) ∧ r.2.sem = fun _ => 0) :=
  (θ_run defs _ _).mono (fun _ h => ⟨fun c => ⟨(h.1 c _ (mem_uc _ rfl)).trans (kept_arg0 m c), (h.1 c _ (mem_uc _ rfl)).trans (kept_arg1 m c),
    (h.1 c _ (mem_uc _ rfl)).trans (kept_arg2 m c), (h.1 c _ (mem_uc _ rfl)).trans (kept_arg3 m c), (h.1 c _ (mem_uc _ rfl)).trans (kept_arg4 m c)⟩, h.2⟩) (run m ρ)

end Cert.Proof.FfnLaunch

end
-- ==== Proof.FfnFrames.lean ====
/- Both frames of the program of `ffn_fwd` and `ffn_bwd_x`: as compiled and idealized it has the same text, so one run serves both. -/
module

public import proofs.«01_k».proof.Defs
public import proofs.«01_k».proof.Proof.FfnLaunch
public import proofs.«01_k».proof.Proof.Gen.Ffn.Launch

@[expose] public section

set_option maxRecDepth 65536

noncomputable section

namespace Cert.Proof.FfnFrames

open Idealize.ShloMosaic

theorem ideal : Cert.quiescent_FfnIdeal := fun m ρ _ => Cert.Proof.FfnLaunch.frame m ρ

theorem compiled : Cert.quiescent_Ffn := fun m ρ _ => by
  refine cast ?_ (Cert.Proof.FfnLaunch.frame (F := Bits) m ρ)
  sl_kernel_rfl

end Cert.Proof.FfnFrames

end
-- ==== Proof.FfnPoint.lean ====
/- What one grid point of `ffn_bwd_x` computes: its expressions read at an index, and what the point's step leaves in the
   buffers, as sums over the point's blocks. -/
module

public import proofs.«01_k».proof.Proof.FfnFrame
public import proofs.«01_k».proof.Proof.RmsLaws
public import proofs.«01_k».proof.Proof.Whole
public import proofs.«01_k».proof.Proof.Pieces
public import Idealize.ShloMosaic.Lib.Pointwise

@[expose] public section

set_option maxRecDepth 16384

noncomputable section

namespace Cert.Proof.FfnPoint

open Idealize.ShloMosaic Idealize.SL.Sem Cert.FfnIdeal Cert.FfnIdeal.Gen Cert.Proof.Rms Cert.Proof.Whole Cert.Proof.Pieces Cert.Proof.FfnFrame Cert.Proof.FfnRun

/-! ### One row and one chunk -/

/-- The cotangent of the gated activation: the row of `dh` against the chunk's rows of `w_down`. -/
def da (e : Fin 1024 → EReal) (w : Fin 704 → Fin 1024 → EReal) (l : Fin 704) : EReal := ∑ k, e k * w l k
/-- The gated activation. -/
def act (g u : EReal) : EReal := g * Ideal.logistic g * u
/-- The cotangent of the gate, written as the kernel does. -/
def dgate (d g u : EReal) : EReal := d * u * (Ideal.logistic g * (((1 : ℝ) : EReal) + g * (((1 : ℝ) : EReal) - Ideal.logistic g)))
/-- The cotangent of the other factor. -/
def dupper (d g : EReal) : EReal := d * (g * Ideal.logistic g)
/-- What a chunk adds to the cotangent of the normalised row. -/
def duAdd (e : Fin 1024 → EReal) (w : Fin 704 → Fin 1024 → EReal) (g u : Fin 704 → EReal) (v : Fin 2 → Fin 704 → Fin 1024 → EReal)
    (k : Fin 1024) : EReal :=
  (∑ l, dgate (da e w l) (g l) (u l) * v 0 l k) + ∑ l, dupper (da e w l) (g l) * v 1 l k

theorem cOne : Ideal.ofBits .f32 0x3F800000#32 = ((1 : ℝ) : EReal) := by
  simp [Ideal.ofBits, Ideal.ieee, -EReal.coe_mul]; norm_num

/-! ### The blocks' rows -/

/-- A block's two halves. -/
def gz (z : Vec Ideal S2x1x512x704 .bf16) : Vec Ideal S1x1x512x704 .bf16 :=
  View.ld z (Rect.unit (s := S2x1x512x704) ![0, 0, 0, 0] ![1, 1, 512, 704] inb_S2x1x512x704_S1x1x512x704_0_0_0_0)
def uz (z : Vec Ideal S2x1x512x704 .bf16) : Vec Ideal S1x1x512x704 .bf16 :=
  View.ld z (Rect.unit (s := S2x1x512x704) ![1, 0, 0, 0] ![1, 1, 512, 704] inb_S2x1x512x704_S1x1x512x704_1_0_0_0)

theorem gz_at (z : Vec Ideal S2x1x512x704 .bf16) (p : Fin 512) (l : Fin 704) : gz z (ix4 0 0 p l) = z (ix4 0 0 p l) := by
  refine congrArg z (funext fun d => Fin.ext ?_)
  match d with
  | ⟨0, _⟩ => rfl
  | ⟨1, _⟩ => rfl
  | ⟨2, _⟩ => show 0 + 1 * p.val = p.val; omega
  | ⟨3, _⟩ => show 0 + 1 * l.val = l.val; omega

theorem uz_at (z : Vec Ideal S2x1x512x704 .bf16) (p : Fin 512) (l : Fin 704) : uz z (ix4 0 0 p l) = z (ix4 1 0 p l) := by
  refine congrArg z (funext fun d => Fin.ext ?_)
  match d with
  | ⟨0, _⟩ => rfl
  | ⟨1, _⟩ => rfl
  | ⟨2, _⟩ => show 0 + 1 * p.val = p.val; omega
  | ⟨3, _⟩ => show 0 + 1 * l.val = l.val; omega

theorem ldw (v : Vec Ideal S2x1x704x1024 .bf16) (a o : ℕ) (ha : a < 2) (inb) (l : Fin 704) (j : Fin 512) (k : Fin 1024) (hk : k.val = o + j.val) :
    View.ld v (Rect.unit (s := S2x1x704x1024) ![a, 0, 0, o] ![1, 1, 704, 512] inb) (ix4 0 0 l j) = v (ix4 ⟨a, ha⟩ 0 l k) := by
  refine congrArg v (funext fun d => Fin.ext ?_)
  match d with
  | ⟨0, _⟩ => show a + 1 * 0 = a; omega
  | ⟨1, _⟩ => rfl
  | ⟨2, _⟩ => show 0 + 1 * l.val = l.val; omega
  | ⟨3, _⟩ => show o + 1 * j.val = k.val; omega

/-! ### The kernel's expressions at an index -/

theorem pay9_at (e : Vec Ideal S512x1024 .bf16) (w : Vec Ideal S1x704x1024 .bf16) (p : Fin 512) (l : Fin 704) :
    k1_pay9 e w (ix2 p l) = da (fun k => e (ix2 p k)) (fun l k => w (ix3 0 l k)) l := by
  unfold da
  pointwise [k1_pay9]

theorem pay14_at (g u : Vec Ideal S1x1x512x704 .bf16) (p : Fin 512) (l : Fin 704) :
    k1_pay14 g u (ix3 0 p l) = act (g (ix4 0 0 p l)) (u (ix4 0 0 p l)) := by
  unfold act
  pointwise [k1_pay14, k1_pay13, k1_pay12, k1_pay11, k1_pay10]

theorem pay18_at (e : Vec Ideal S512x1024 .bf16) (w : Vec Ideal S1x704x1024 .bf16) (g u : Vec Ideal S1x1x512x704 .bf16) (p : Fin 512) (l : Fin 704) :
    k1_pay18 (k1_pay12 g) (k1_pay15 e w u) (k1_pay16 g) (k1_pay17 (F := Ideal)) (ix2 p l)
      = dgate (da (fun k => e (ix2 p k)) (fun l k => w (ix3 0 l k)) l) (g (ix4 0 0 p l)) (u (ix4 0 0 p l)) := by
  rw [← pay9_at]
  unfold dgate
  rw [← cOne]
  pointwise [k1_pay18, k1_pay12, k1_pay15, k1_pay16, k1_pay17, k1_pay11, k1_pay10]

theorem pay19_at (e : Vec Ideal S512x1024 .bf16) (w : Vec Ideal S1x704x1024 .bf16) (g : Vec Ideal S1x1x512x704 .bf16) (p : Fin 512) (l : Fin 704) :
    k1_pay19 (k1_pay9 e w) (k1_pay13 g) (ix2 p l)
      = dupper (da (fun k => e (ix2 p k)) (fun l k => w (ix3 0 l k)) l) (g (ix4 0 0 p l)) := by
  rw [← pay9_at]
  unfold dupper
  pointwise [k1_pay19, k1_pay13, k1_pay12, k1_pay10]

theorem pay20_at (a b d f : FVec Ideal S512x704 .f32) (p : Fin 512) (l : Fin 704) : k1_pay20 a b d f (ix4 0 0 p l) = k1_pay18 a b d f (ix2 p l) := by
  unfold k1_pay20
  generalize k1_pay18 a b d f = y
  pointwise

theorem pay21_at (a b : FVec Ideal S512x704 .f32) (p : Fin 512) (l : Fin 704) : k1_pay21 a b (ix4 0 0 p l) = k1_pay19 a b (ix2 p l) := by
  unfold k1_pay21
  generalize k1_pay19 a b = y
  pointwise

theorem pay22_at (a b d f h n : FVec Ideal S512x704 .f32) (y : Vec Ideal S512x512 .f32) (v0 v1 : Vec Ideal S1x1x704x512 .bf16) (p j : Fin 512) :
    k1_pay22 a b d f h n y v0 v1 (ix2 p j) = y (ix2 p j)
      + ((∑ l : Fin 704, k1_pay18 b f h n (ix2 p l) * v0 (ix4 0 0 l j)) + ∑ l : Fin 704, k1_pay19 a d (ix2 p l) * v1 (ix4 0 0 l j)) := by
  unfold k1_pay22
  generalize k1_pay18 b f h n = r
  generalize k1_pay19 a d = s
  pointwise

theorem pay1_at (s : FVec Ideal S512x704 .bf16) (b f h n : FVec Ideal S512x704 .f32) (y : Vec Ideal S512x512 .f32) (v0 v1 : Vec Ideal S1x1x704x512 .bf16) (p j : Fin 512) :
    k1_pay1 s y (k1_pay23 b f h n v0) v1 (ix2 p j) = y (ix2 p j)
      + ((∑ l : Fin 704, k1_pay18 b f h n (ix2 p l) * v0 (ix4 0 0 l j)) + ∑ l : Fin 704, s (ix2 p l) * v1 (ix4 0 0 l j)) := by
  unfold k1_pay1 k1_pay23
  generalize k1_pay18 b f h n = r
  pointwise

theorem pay4_at (x : Vec Ideal S512x1024 .f32) (g : Vec Ideal S1x1024 .f32) (d e : Vec Ideal S512x1024 .f32) (p : Fin 512) (j : Fin 1024) :
    k1_pay4 x g d e (ix2 p j) = e (ix2 p j) + dx (fun k => x (ix2 p k)) (fun k => d (ix2 p k) * g (ix2 0 k)) j := by
  unfold dx rr under
  rw [← c1024, ← cEps]
  pointwise [k1_pay4, k1_pay3, k1_pay2]

theorem pay5_at (x d : Vec Ideal S512x1024 .f32) (a : Vec Ideal S1x1024 .f32) (j : Fin 1024) :
    k1_pay5 x d a (ix2 0 j) = a (ix2 0 j) + ∑ p : Fin 512, d (ix2 p j) * (x (ix2 p j) * rr (fun k => x (ix2 p k))) := by
  unfold rr under
  rw [← c1024, ← cEps]
  pointwise [k1_pay5, k1_pay3, k1_pay2]

theorem pay6_at (x : Vec Ideal S512x1024 .f32) : k1_pay6 x = x := rfl
theorem pay7_at (i : S512x1024.Idx) : k1_pay7 (F := Ideal) i = 0 := by pointwise [k1_pay7]
theorem pay8_at (i : S1x1024.Idx) : k1_pay8 (F := Ideal) i = 0 := by pointwise [k1_pay8]

/-! ### The pieces a point stores -/

variable (e : Vec Ideal S512x1024 .bf16) (w : Vec Ideal S1x704x1024 .bf16) (z : Vec Ideal S2x1x512x704 .bf16) (v : Vec Ideal S2x1x704x1024 .bf16)

/-- The cotangent of `z` in a point's chunk, both halves. -/
abbrev dzOf : Vec Ideal S2x1x512x704 .bf16 :=
  View.canon [(⟨Rect.unit (s := S2x1x512x704) ![1, 0, 0, 0] ![1, 1, 512, 704] inb_S2x1x512x704_S1x1x512x704_1_0_0_0,
      k1_pay21 (k1_pay9 e w) (k1_pay13 (gz z))⟩ : View.Piece (Elt Ideal) S2x1x512x704 .bf16),
    ⟨Rect.unit (s := S2x1x512x704) ![0, 0, 0, 0] ![1, 1, 512, 704] inb_S2x1x512x704_S1x1x512x704_0_0_0_0,
      k1_pay20 (k1_pay12 (gz z)) (k1_pay15 e w (uz z)) (k1_pay16 (gz z)) (k1_pay17 (F := Ideal))⟩]

/-- The two halves of the running sum's step, over what was there. -/
abbrev lo (y : Vec Ideal S512x512 .f32) : Vec Ideal S512x512 .f32 :=
  k1_pay22 (k1_pay9 e w) (k1_pay12 (gz z)) (k1_pay13 (gz z)) (k1_pay15 e w (uz z)) (k1_pay16 (gz z)) (k1_pay17 (F := Ideal)) y
    (View.ld v (Rect.unit (s := S2x1x704x1024) ![0, 0, 0, 0] ![1, 1, 704, 512] inb_S2x1x704x1024_S1x1x704x512_0_0_0_0))
    (View.ld v (Rect.unit (s := S2x1x704x1024) ![1, 0, 0, 0] ![1, 1, 704, 512] inb_S2x1x704x1024_S1x1x704x512_1_0_0_0))
abbrev hi (y : Vec Ideal S512x512 .f32) : Vec Ideal S512x512 .f32 :=
  k1_pay1 (k1_pay19 (k1_pay9 e w) (k1_pay13 (gz z))) y
    (k1_pay23 (k1_pay12 (gz z)) (k1_pay15 e w (uz z)) (k1_pay16 (gz z)) (k1_pay17 (F := Ideal))
      (View.ld v (Rect.unit (s := S2x1x704x1024) ![0, 0, 0, 512] ![1, 1, 704, 512] inb_S2x1x704x1024_S1x1x704x512_0_0_0_512)))
    (View.ld v (Rect.unit (s := S2x1x704x1024) ![1, 0, 0, 512] ![1, 1, 704, 512] inb_S2x1x704x1024_S1x1x704x512_1_0_0_512))

abbrev low : Rect S512x1024 := Rect.unit (s := S512x1024) ![0, 0] ![512, 512] inb_S512x1024_S512x512_0_0
abbrev high : Rect S512x1024 := Rect.unit (s := S512x1024) ![0, 512] ![512, 512] inb_S512x1024_S512x512_0_512

/-- A row of the block and of the two halves, as functions. -/
abbrev er (p : Fin 512) : Fin 1024 → EReal := fun k => e (ix2 p k)
abbrev wr : Fin 704 → Fin 1024 → EReal := fun l k => w (ix3 0 l k)
abbrev zr (a : Fin 2) (p : Fin 512) : Fin 704 → EReal := fun l => z (ix4 a 0 p l)
abbrev vr : Fin 2 → Fin 704 → Fin 1024 → EReal := fun a l k => v (ix4 a 0 l k)

theorem lo_at (y : Vec Ideal S512x512 .f32) (p j : Fin 512) (k : Fin 1024) (hk : k.val = j.val) :
    lo e w z v y (ix2 p j) = y (ix2 p j) + duAdd (er e p) (wr w) (zr z 0 p) (zr z 1 p) (vr v) k := by
  have hk' : k.val = 0 + j.val := by omega
  refine (pay22_at _ _ _ _ _ _ _ _ _ p j).trans ?_
  simp only [pay18_at, pay19_at, gz_at, uz_at, ldw v 0 0 (by decide) _ _ j k hk', ldw v 1 0 (by decide) _ _ j k hk']
  rfl

theorem hi_at (y : Vec Ideal S512x512 .f32) (p j : Fin 512) (k : Fin 1024) (hk : k.val = 512 + j.val) :
    hi e w z v y (ix2 p j) = y (ix2 p j) + duAdd (er e p) (wr w) (zr z 0 p) (zr z 1 p) (vr v) k := by
  refine (pay1_at _ _ _ _ _ _ _ _ p j).trans ?_
  simp only [pay18_at, pay19_at, gz_at, uz_at, ldw v 0 512 (by decide) _ _ j k hk, ldw v 1 512 (by decide) _ _ j k hk]
  rfl

/-- The running sum after the two stores, over whatever was stored before them. -/
theorem du_at (L : List (View.Piece (Elt Ideal) S512x1024 .f32)) (y : Vec Ideal S512x1024 .f32) (y0 y1 : Vec Ideal S512x512 .f32)
    (h0 : ∀ p j : Fin 512, ∀ k : Fin 1024, k.val = j.val → y0 (ix2 p j) = y (ix2 p k))
    (h1 : ∀ p j : Fin 512, ∀ k : Fin 1024, k.val = 512 + j.val → y1 (ix2 p j) = y (ix2 p k)) (p : Fin 512) (k : Fin 1024) :
    View.canon ((⟨high, hi e w z v y1⟩ : View.Piece (Elt Ideal) S512x1024 .f32) :: ⟨low, lo e w z v y0⟩ :: L) (ix2 p k)
      = y (ix2 p k) + duAdd (er e p) (wr w) (zr z 0 p) (zr z 1 p) (vr v) k := by
  by_cases hk : k.val < 512
  · refine (canon_miss (Val := Elt Ideal) (e := .f32) _ _ _ _ (Or.inr (Or.inr (Or.inl hk)))).trans ?_
    refine (canon_hit (Val := Elt Ideal) (e := .f32) _ _ _ p (⟨k.val, hk⟩ : Fin 512) _ (Nat.zero_add _).symm (Nat.zero_add _).symm).trans ?_
    rw [lo_at e w z v y0 p ⟨k.val, hk⟩ k rfl, h0 p ⟨k.val, hk⟩ k rfl]
  · have hk' : k.val = 512 + (k.val - 512) := by omega
    have hl : k.val - 512 < 512 := by have := k.isLt; omega
    refine (canon_hit (Val := Elt Ideal) (e := .f32) _ _ _ p (⟨k.val - 512, hl⟩ : Fin 512) _ (Nat.zero_add _).symm hk').trans ?_
    rw [hi_at e w z v y1 p ⟨k.val - 512, hl⟩ k hk', h1 p ⟨k.val - 512, hl⟩ k hk']

theorem ld_low (y : Vec Ideal S512x1024 .f32) (p j : Fin 512) (k : Fin 1024) (hk : k.val = j.val) : View.ld y low (ix2 p j) = y (ix2 p k) :=
  ld_hit (Val := Elt Ideal) (e := .f32) _ y p j _ (Nat.zero_add _).symm (hk.trans (Nat.zero_add _).symm)
theorem ld_high (y : Vec Ideal S512x1024 .f32) (p j : Fin 512) (k : Fin 1024) (hk : k.val = 512 + j.val) : View.ld y high (ix2 p j) = y (ix2 p k) :=
  ld_hit (Val := Elt Ideal) (e := .f32) _ y p j _ (Nat.zero_add _).symm hk

/-- The running sum after a point whose block's sum was held at `y`. -/
abbrev duOf (y : Vec Ideal S512x1024 .f32) : Vec Ideal S512x1024 .f32 :=
  View.canon [(⟨high, hi e w z v (View.ld y high)⟩ : View.Piece (Elt Ideal) S512x1024 .f32), ⟨low, lo e w z v (View.ld y low)⟩]

theorem duOf_at (y : Vec Ideal S512x1024 .f32) (p : Fin 512) (k : Fin 1024) :
    duOf e w z v y (ix2 p k) = y (ix2 p k) + duAdd (er e p) (wr w) (zr z 0 p) (zr z 1 p) (vr v) k :=
  du_at e w z v [] y _ _ (ld_low y) (ld_high y) p k

theorem dzOf_at0 (p : Fin 512) (l : Fin 704) : dzOf e w z (ix4 0 0 p l) = dgate (da (er e p) (wr w) l) (zr z 0 p l) (zr z 1 p l) := by
  unfold dzOf
  rw [View.canon_cons_of_not_mem]
  · show _ = dgate (da (er e p) (wr w) l) (z (ix4 0 0 p l)) (z (ix4 1 0 p l))
    rw [← gz_at z, ← uz_at z, ← pay18_at, ← pay20_at]
    refine Eq.trans (congrArg _ ?_) (View.canon_cons_emb _ _ _ _)
    refine funext fun d => Fin.ext ?_
    match d with
    | ⟨0, _⟩ => rfl
    | ⟨1, _⟩ => rfl
    | ⟨2, _⟩ => show p.val = 0 + 1 * p.val; omega
    | ⟨3, _⟩ => show l.val = 0 + 1 * l.val; omega
  · intro hm
    have h : 1 ≤ 0 := ((Rect.mem_set_unit (inb := inb_S2x1x512x704_S1x1x512x704_1_0_0_0)).mp hm 0).1
    omega

theorem dzOf_at1 (p : Fin 512) (l : Fin 704) : dzOf e w z (ix4 1 0 p l) = dupper (da (er e p) (wr w) l) (zr z 0 p l) := by
  unfold dzOf
  show _ = dupper (da (er e p) (wr w) l) (z (ix4 0 0 p l))
  rw [← gz_at z, ← pay19_at, ← pay21_at]
  refine Eq.trans (congrArg _ ?_) (View.canon_cons_emb _ _ _ _)
  refine funext fun d => Fin.ext ?_
  match d with
  | ⟨0, _⟩ => rfl
  | ⟨1, _⟩ => rfl
  | ⟨2, _⟩ => show p.val = 0 + 1 * p.val; omega
  | ⟨3, _⟩ => show l.val = 0 + 1 * l.val; omega

end Cert.Proof.FfnPoint

end
-- ==== Proof.FfnCases.lean ====
/- What a grid point's step of `ffn_bwd_x` leaves, kind by kind, as the kernel's expressions of the point's blocks and of what
   the point before left. -/
module

public import proofs.«01_k».proof.Proof.FfnPoint

@[expose] public section

set_option maxRecDepth 16384

noncomputable section

namespace Cert.Proof.FfnCases

open Idealize.ShloMosaic Idealize.SL.Sem Cert.FfnIdeal Cert.FfnIdeal.Gen Cert.Proof.Whole Cert.Proof.Pieces Cert.Proof.FfnFrame Cert.Proof.FfnRun Cert.Proof.FfnPoint

variable (m : Dev nD → Valuation τ sig (Elt Ideal)) (c : Dev nD) (t : Fin cfg1.N) (P : Held Ideal)

/-- A point's blocks: `dh` in the width it is multiplied in, the chunk of `w_down`, of `z` and of the gate and up weights. -/
abbrev ce : Vec Ideal S512x1024 .bf16 := k1_pay6 (iblk m c 0 t)
abbrev cw : Vec Ideal S1x704x1024 .bf16 := iblk m c 5 t
abbrev cz : Vec Ideal S2x1x512x704 .bf16 := iblk m c 3 t
abbrev cv : Vec Ideal S2x1x704x1024 .bf16 := iblk m c 4 t

/-- The whole of a block's zeros, the first piece of a row block's running sum. -/
abbrev zeros : View.Piece (Elt Ideal) S512x1024 .f32 :=
  ⟨Rect.unit (s := S512x1024) ![0, 0] ![512, 1024] inb_S512x1024_S512x1024_0_0, k1_pay7 (F := Ideal)⟩

/-- The running sum after the first chunk. -/
abbrev duFirst (e : Vec Ideal S512x1024 .bf16) (w : Vec Ideal S1x704x1024 .bf16) (z : Vec Ideal S2x1x512x704 .bf16) (v : Vec Ideal S2x1x704x1024 .bf16) :
    Vec Ideal S512x1024 .f32 :=
  View.canon [(⟨high, hi e w z v (View.ld (View.canon [(⟨low, lo e w z v (View.ld (k1_pay7 (F := Ideal)) low)⟩ : View.Piece (Elt Ideal) S512x1024 .f32), zeros]) high)⟩ :
      View.Piece (Elt Ideal) S512x1024 .f32), ⟨low, lo e w z v (View.ld (k1_pay7 (F := Ideal)) low)⟩, zeros]

theorem duFirst_at (e : Vec Ideal S512x1024 .bf16) (w : Vec Ideal S1x704x1024 .bf16) (z : Vec Ideal S2x1x512x704 .bf16) (v : Vec Ideal S2x1x704x1024 .bf16)
    (p : Fin 512) (k : Fin 1024) : duFirst e w z v (ix2 p k) = duAdd (er e p) (wr w) (zr z 0 p) (zr z 1 p) (vr v) k := by
  refine (du_at e w z v [zeros] (k1_pay7 (F := Ideal)) _ _ (ld_low _) (fun p j k hk => ?_) p k).trans (by rw [pay7_at, zero_add])
  refine (ld_high _ p j k hk).trans ?_
  refine (canon_miss (Val := Elt Ideal) (e := .f32) _ _ _ _ (Or.inr (Or.inr (Or.inr ?_)))).trans ?_
  · show 0 + 512 ≤ k.val
    omega
  · exact congrFun (canon2 (Val := Elt Ideal) (e := .f32) _ _ _) _

/-- The first point. -/
theorem first (h : t.val = 0) : step m c t P =
    { P with dz := dzOf (ce m c t) (cw m c t) (cz m c t), a := k1_pay14 (gz (cz m c t)) (uz (cz m c t)), dg := k1_pay8 (F := Ideal), cp := ce m c t,
             du := duFirst (ce m c t) (cw m c t) (cz m c t) (cv m c t) } := by
  rw [step_A m c t P h]
  unfold rA runA
  dsimp only
  sl_unfold_words
  simp only [canon2, canon3, readCov2, readCov_ld, View.readAt_eq_ld, (w0 t).read_unread, (w3 t).read_unread, (w4 t).read_unread, (w5 t).read_unread, ld2, ld3]
  rfl

/-- The first chunk of a later row block. -/
theorem restart (h : t.val % 4 = 0 ∧ t.val ≠ 0) : step m c t P =
    { P with dz := dzOf (ce m c t) (cw m c t) (cz m c t), a := k1_pay14 (gz (cz m c t)) (uz (cz m c t)), cp := ce m c t,
             du := duFirst (ce m c t) (cw m c t) (cz m c t) (cv m c t) } := by
  rw [step_D m c t P h]
  unfold rD runD
  dsimp only
  sl_unfold_words
  simp only [canon2, canon3, readCov2, readCov_ld, View.readAt_eq_ld, (w0 t).read_unread, (w3 t).read_unread, (w4 t).read_unread, (w5 t).read_unread, ld2, ld3]
  rfl

/-- A middle chunk. -/
theorem middle (h : t.val % 4 ≠ 0 ∧ t.val % 4 ≠ 3) : step m c t P =
    { P with dz := dzOf P.cp (cw m c t) (cz m c t), a := k1_pay14 (gz (cz m c t)) (uz (cz m c t)),
             du := duOf P.cp (cw m c t) (cz m c t) (cv m c t) P.du } := by
  rw [step_B m c t P h]
  unfold rB runB
  dsimp only
  sl_unfold_words
  simp only [canon2, canon3, readCov2, readCov_ld, View.readAt_eq_ld, (w3 t).read_unread, (w4 t).read_unread, (w5 t).read_unread, (w10 t).read_unread, wS.read_unread, ld2, ld3]
  rfl

/-- The last chunk. -/
theorem close (h : t.val % 4 = 3) : step m c t P =
    { P with dz := dzOf P.cp (cw m c t) (cz m c t), a := k1_pay14 (gz (cz m c t)) (uz (cz m c t)),
             du := duOf P.cp (cw m c t) (cz m c t) (cv m c t) P.du,
             dg := k1_pay5 (iblk m c 1 t) (duOf P.cp (cw m c t) (cz m c t) (cv m c t) P.du) P.dg,
             dhp := k1_pay4 (iblk m c 1 t) (iblk m c 2 t) (duOf P.cp (cw m c t) (cz m c t) (cv m c t) P.du) (iblk m c 0 t) } := by
  rw [step_C m c t P h]
  unfold rC runC
  dsimp only
  sl_unfold_words
  simp only [canon2, canon3, readCov2, readCov_ld, View.readAt_eq_ld, (w0 t).read_unread, (w1 t).read_unread, (w2 t).read_unread, (w3 t).read_unread, (w4 t).read_unread,
    (w5 t).read_unread, (w9 t).read_unread, (w10 t).read_unread, wS.read_unread, ld2, ld3]
  rfl

end Cert.Proof.FfnCases

end
-- ==== Proof.FfnFwdPoint.lean ====
/- What one grid point of `ffn_fwd` computes: its expressions read at an index, and what the point's step leaves in the buffers. -/
module

public import proofs.«01_k».proof.Proof.FfnFwdFrame
public import proofs.«01_k».proof.Proof.FfnPoint

@[expose] public section

set_option maxRecDepth 16384

noncomputable section

namespace Cert.Proof.FfnFwdPoint

open Idealize.ShloMosaic Idealize.SL.Sem Cert.FfnIdeal Cert.FfnIdeal.Gen Cert.Proof.Rms Cert.Proof.Whole Cert.Proof.Pieces
open Cert.Proof.FfnPoint (act)
open Cert.Proof.FfnFwdFrame Cert.Proof.FfnFwdRun

/-! ### The kernel's expressions at an index -/

/-- A row of the chunk's projection. -/
def proj (u : Fin 1024 → EReal) (v : Fin 704 → Fin 1024 → EReal) (l : Fin 704) : EReal := ∑ k, u k * v l k

theorem pay6_at (u : Vec Ideal S1024x1024 .bf16) (v : Vec Ideal S1x1x704x1024 .bf16) (p : Fin 1024) (l : Fin 704) :
    k0_pay6 u v (ix2 p l) = proj (fun k => u (ix2 p k)) (fun l k => v (ix4 0 0 l k)) l := by
  unfold proj
  pointwise [k0_pay6, k0_pay5]

theorem pay7_at (u : Vec Ideal S1024x1024 .bf16) (v : Vec Ideal S1x1x704x1024 .bf16) (p : Fin 1024) (l : Fin 704) :
    k0_pay7 u v (ix2 p l) = proj (fun k => u (ix2 p k)) (fun l k => v (ix4 0 0 l k)) l := by
  unfold proj
  pointwise [k0_pay7, k0_pay5]

theorem pay8_at (u : Vec Ideal S1024x1024 .bf16) (v : Vec Ideal S1x1x704x1024 .bf16) (p : Fin 1024) (l : Fin 704) :
    k0_pay8 u v (ix4 0 0 p l) = proj (fun k => u (ix2 p k)) (fun l k => v (ix4 0 0 l k)) l := by
  rw [← pay6_at]
  unfold k0_pay8
  generalize k0_pay6 u v = y
  pointwise

theorem pay9_at (u : Vec Ideal S1024x1024 .bf16) (v : Vec Ideal S1x1x704x1024 .bf16) (p : Fin 1024) (l : Fin 704) :
    k0_pay9 u v (ix4 0 0 p l) = proj (fun k => u (ix2 p k)) (fun l k => v (ix4 0 0 l k)) l := by
  rw [← pay7_at]
  unfold k0_pay9
  generalize k0_pay7 u v = y
  pointwise

theorem pay10_at (u : Vec Ideal S1024x1024 .bf16) (v0 v1 : Vec Ideal S1x1x704x1024 .bf16) (w : Vec Ideal S1x704x1024 .bf16) (p k : Fin 1024) :
    k0_pay10 u v0 v1 w (ix2 p k) = ∑ l : Fin 704, act (k0_pay6 u v0 (ix2 p l)) (k0_pay7 u v1 (ix2 p l)) * w (ix3 0 l k) := by
  unfold k0_pay10 act
  generalize k0_pay6 u v0 = y
  generalize k0_pay7 u v1 = z
  pointwise

theorem pay3_at (x : Vec Ideal S1024x1024 .f32) (g : Vec Ideal S1x1024 .f32) (p k : Fin 1024) :
    k0_pay3 x g (ix2 p k) = x (ix2 p k) * rr (fun k => x (ix2 p k)) * g (ix2 0 k) := by
  unfold rr under
  rw [← c1024, ← cEps]
  pointwise [k0_pay3]

theorem pay1_at (y a : Vec Ideal S1024x1024 .f32) (i : S1024x1024.Idx) : k0_pay1 y a i = y i + a i := by pointwise [k0_pay1]
theorem pay2_at (x a : Vec Ideal S1024x1024 .f32) (i : S1024x1024.Idx) : k0_pay2 x a i = x i + a i := by pointwise [k0_pay2]
theorem pay4_at (i : S1024x1024.Idx) : k0_pay4 (F := Ideal) i = 0 := by pointwise [k0_pay4]

/-! ### The pieces a point stores -/

variable (u : Vec Ideal S1024x1024 .bf16) (v : Vec Ideal S2x1x704x1024 .bf16) (w : Vec Ideal S1x704x1024 .bf16)

/-- The two halves of the chunk's weights. -/
def gv : Vec Ideal S1x1x704x1024 .bf16 :=
  View.ld v (Rect.unit (s := S2x1x704x1024) ![0, 0, 0, 0] ![1, 1, 704, 1024] inb_S2x1x704x1024_S1x1x704x1024_0_0_0_0)
def uv : Vec Ideal S1x1x704x1024 .bf16 :=
  View.ld v (Rect.unit (s := S2x1x704x1024) ![1, 0, 0, 0] ![1, 1, 704, 1024] inb_S2x1x704x1024_S1x1x704x1024_1_0_0_0)

theorem gv_at (l : Fin 704) (k : Fin 1024) : gv v (ix4 0 0 l k) = v (ix4 0 0 l k) := by
  refine congrArg v (funext fun d => Fin.ext ?_)
  match d with
  | ⟨0, _⟩ => rfl
  | ⟨1, _⟩ => rfl
  | ⟨2, _⟩ => show 0 + 1 * l.val = l.val; omega
  | ⟨3, _⟩ => show 0 + 1 * k.val = k.val; omega

theorem uv_at (l : Fin 704) (k : Fin 1024) : uv v (ix4 0 0 l k) = v (ix4 1 0 l k) := by
  refine congrArg v (funext fun d => Fin.ext ?_)
  match d with
  | ⟨0, _⟩ => rfl
  | ⟨1, _⟩ => rfl
  | ⟨2, _⟩ => show 0 + 1 * l.val = l.val; omega
  | ⟨3, _⟩ => show 0 + 1 * k.val = k.val; omega

/-- The chunk of the projection, both halves. -/
abbrev zOf : Vec Ideal S2x1x1024x704 .bf16 :=
  View.canon [(⟨Rect.unit (s := S2x1x1024x704) ![1, 0, 0, 0] ![1, 1, 1024, 704] inb_S2x1x1024x704_S1x1x1024x704_1_0_0_0,
      k0_pay9 u (uv v)⟩ : View.Piece (Elt Ideal) S2x1x1024x704 .bf16),
    ⟨Rect.unit (s := S2x1x1024x704) ![0, 0, 0, 0] ![1, 1, 1024, 704] inb_S2x1x1024x704_S1x1x1024x704_0_0_0_0, k0_pay8 u (gv v)⟩]

abbrev ur (p : Fin 1024) : Fin 1024 → EReal := fun k => u (ix2 p k)
abbrev vr (a : Fin 2) : Fin 704 → Fin 1024 → EReal := fun l k => v (ix4 a 0 l k)

theorem zOf_at0 (p : Fin 1024) (l : Fin 704) : zOf u v (ix4 0 0 p l) = proj (ur u p) (vr v 0) l := by
  unfold zOf
  rw [View.canon_cons_of_not_mem]
  · rw [show proj (ur u p) (vr v 0) l = proj (fun k => u (ix2 p k)) (fun l k => gv v (ix4 0 0 l k)) l by simp only [gv_at], ← pay8_at]
    refine Eq.trans (congrArg _ ?_) (View.canon_cons_emb _ _ _ _)
    refine funext fun d => Fin.ext ?_
    match d with
    | ⟨0, _⟩ => rfl
    | ⟨1, _⟩ => rfl
    | ⟨2, _⟩ => show p.val = 0 + 1 * p.val; omega
    | ⟨3, _⟩ => show l.val = 0 + 1 * l.val; omega
  · intro hm
    have h : 1 ≤ 0 := ((Rect.mem_set_unit (inb := inb_S2x1x1024x704_S1x1x1024x704_1_0_0_0)).mp hm 0).1
    omega

theorem zOf_at1 (p : Fin 1024) (l : Fin 704) : zOf u v (ix4 1 0 p l) = proj (ur u p) (vr v 1) l := by
  unfold zOf
  rw [show proj (ur u p) (vr v 1) l = proj (fun k => u (ix2 p k)) (fun l k => uv v (ix4 0 0 l k)) l by simp only [uv_at], ← pay9_at]
  refine Eq.trans (congrArg _ ?_) (View.canon_cons_emb _ _ _ _)
  refine funext fun d => Fin.ext ?_
  match d with
  | ⟨0, _⟩ => rfl
  | ⟨1, _⟩ => rfl
  | ⟨2, _⟩ => show p.val = 0 + 1 * p.val; omega
  | ⟨3, _⟩ => show l.val = 0 + 1 * l.val; omega

/-- The running sum after a chunk. -/
def accOf (y : Vec Ideal S1024x1024 .f32) : Vec Ideal S1024x1024 .f32 := k0_pay1 y (k0_pay10 u (gv v) (uv v) w)

theorem accOf_at (y : Vec Ideal S1024x1024 .f32) (p k : Fin 1024) : accOf u v w y (ix2 p k)
    = y (ix2 p k) + ∑ l : Fin 704, act (proj (ur u p) (vr v 0) l) (proj (ur u p) (vr v 1) l) * w (ix3 0 l k) := by
  unfold accOf
  rw [pay1_at, pay10_at]
  simp only [pay6_at, pay7_at, gv_at, uv_at]

/-! ### What a point's step leaves -/

variable (m : Dev nD → Valuation τ sig (Elt Ideal)) (c : Dev nD) (t : Fin cfg0.N) (P : Held Ideal)

/-- The normalised rows of a point's block. -/
abbrev cu : Vec Ideal S1024x1024 .bf16 := k0_pay3 (iblk m c 0 t) (iblk m c 1 t)

/-- The first chunk. -/
theorem first (h : t.val % 4 = 0) : step m c t P =
    { P with z := zOf (cu m c t) (iblk m c 2 t), u := cu m c t, acc := accOf (cu m c t) (iblk m c 2 t) (iblk m c 3 t) (k0_pay4 (F := Ideal)) } := by
  rw [step_A m c t P h]
  unfold rA runA
  dsimp only
  sl_unfold_words
  simp only [canon2, readCov2, View.readAt_eq_ld, (w0 t).read_unread, (w1 t).read_unread, (w2 t).read_unread, (w3 t).read_unread, ld2, ld3]
  rfl

/-- A middle chunk. -/
theorem middle (h : t.val % 4 ≠ 0 ∧ t.val % 4 ≠ 3) : step m c t P =
    { P with z := zOf P.u (iblk m c 2 t), acc := accOf P.u (iblk m c 2 t) (iblk m c 3 t) P.acc } := by
  rw [step_B m c t P h]
  unfold rB runB
  dsimp only
  sl_unfold_words
  simp only [canon2, readCov2, View.readAt_eq_ld, (w2 t).read_unread, (w3 t).read_unread, (w6 t).read_unread, wS.read_unread, ld2, ld3]
  rfl

/-- The last chunk. -/
theorem close (h : t.val % 4 = 3) : step m c t P =
    { P with hn := k0_pay2 (iblk m c 0 t) (accOf P.u (iblk m c 2 t) (iblk m c 3 t) P.acc), z := zOf P.u (iblk m c 2 t),
             acc := accOf P.u (iblk m c 2 t) (iblk m c 3 t) P.acc } := by
  rw [step_C m c t P h]
  unfold rC runC
  dsimp only
  sl_unfold_words
  simp only [canon2, readCov2, View.readAt_eq_ld, (w0 t).read_unread, (w2 t).read_unread, (w3 t).read_unread, (w6 t).read_unread, wS.read_unread, ld2, ld3]
  rfl

end Cert.Proof.FfnFwdPoint

end
-- ==== Proof.FfnArgs.lean ====
/- The arguments of the program of `ffn_fwd` and `ffn_bwd_x`, the projection they give, and what the host hands to the two kernels. -/
module

public import proofs.«01_k».proof.Proof.FfnLaunch
public import proofs.«01_k».proof.Proof.RmsLaws
public import Idealize.ShloMosaic.Lib.Pointwise

@[expose] public section

set_option maxRecDepth 16384

noncomputable section

namespace Cert.Proof.FfnArgs

open Idealize.ShloMosaic Idealize.ShloMosaic.TcCoe Idealize.SL.Sem Cert.FfnIdeal Cert.FfnIdeal.Gen Cert.Proof.Rms Cert.Proof.FfnLaunch

variable (m : (ℓ : Loc nD τ sig) → Buf (Elt Ideal) ℓ)

abbrev ae (c : Dev nD) : S4096x1024.Idx → EReal := m ((c.tc : Thread nD τ).loc main_arg0)
abbrev ah (c : Dev nD) : S4096x1024.Idx → EReal := m ((c.tc : Thread nD τ).loc main_arg1)
abbrev ag (c : Dev nD) : S1024.Idx → EReal := m ((c.tc : Thread nD τ).loc main_arg2)
abbrev au (c : Dev nD) : S1024x5632.Idx → EReal := m ((c.tc : Thread nD τ).loc main_arg3)
abbrev ad (c : Dev nD) : S2816x1024.Idx → EReal := m ((c.tc : Thread nD τ).loc main_arg4)

/-- Column `l` of chunk `s` of half `a`, in the whole width. -/
def col (a : Fin 2) (s : Fin 4) (l : Fin 704) : Fin 5632 := ⟨a.val * 2816 + s.val * 704 + l.val, by omega⟩
/-- Row `l` of chunk `s` of `w_down`. -/
def inner (s : Fin 4) (l : Fin 704) : Fin 2816 := ⟨s.val * 704 + l.val, by omega⟩

abbrev hr (c : Dev nD) (i : Fin 4096) : Fin 1024 → EReal := fun k => ah m c (ix2 i k)

/-- The projection of the normalised row: reference.py's line, at a row and a column. -/
def zAt (c : Dev nD) (i : Fin 4096) (q : Fin 5632) : EReal := ∑ k, hr m c i k * rr (hr m c i) * ag m c (ix1 k) * au m c (ix2 k q)

/-- A half's chunk of that row. -/
abbrev zRow (c : Dev nD) (a : Fin 2) (s : Fin 4) (i : Fin 4096) : Fin 704 → EReal := fun l => zAt m c i (col a s l)

theorem host_wd (c : Dev nD) (s : Fin 4) (l : Fin 704) (k : Fin 1024) : W1 m c (Proc.devRef .tc main_v6) (ix3 s l k) = ad m c (ix2 (inner s l) k) := by
  have hV : W1 m c (Proc.devRef .tc main_v6) = shapeCast S4x704x1024 (shapeCast S8x352x1024 (truncf (F := Ideal) .bf16 (ad m c) bitsLt_bf16_f32) shapeCasts_S2816x1024_S8x352x1024) shapeCasts_S8x352x1024_S4x704x1024 := by
    unfold W1; after_results_simp <;> rfl
  rw [hV]
  pointwise
  rfl

theorem host_wgu (c : Dev nD) (a : Fin 2) (s : Fin 4) (l : Fin 704) (k : Fin 1024) : W1 m c (Proc.devRef .tc main_v3) (ix4 a s l k) = au m c (ix2 k (col a s l)) := by
  have hV : W1 m c (Proc.devRef .tc main_v3) = shapeCast S2x4x704x1024 (shapeCast S8x704x1024 (truncf (F := Ideal) .bf16 (transpose S5632x1024 [1, 0] (au m c) transposes_S1024x5632_S5632x1024_1_0) bitsLt_bf16_f32) shapeCasts_S5632x1024_S8x704x1024) shapeCasts_S8x704x1024_S2x4x704x1024 := by
    unfold W1; after_results_simp <;> rfl
  rw [hV]
  pointwise
  rfl

theorem host_gain (c : Dev nD) (k : Fin 1024) : W1 m c (Proc.devRef .tc main_v7) (ix2 0 k) = ag m c (ix1 k) := by
  have hV : W1 m c (Proc.devRef .tc main_v7) = shapeCast S1x1024 (ag m c) shapeCasts_S1024_S1x1024 := by
    unfold W1; after_results_simp <;> rfl
  rw [hV]
  pointwise

/-! ### Carried to the second kernel -/

theorem kept (c : Dev nD) (b : Ref sig .tc) (h1 : ∀ w, Pipeline.arrRef spec0 w = b → (cfg0.win w).isOut = false) (h2 : b ∉ hostOps1_W) :
    W3 m c (Proc.devRef .tc b) = W1 m c (Proc.devRef .tc b) := (kept2 m c b h2).trans (kept1 m c b h1)

theorem later_dh (c : Dev nD) : W3 m c (Proc.devRef .tc main_arg0) = ae m c :=
  (kept m c main_arg0 (by decide) (by decide)).trans (kept0 m c main_arg0 (by decide))
theorem later_h (c : Dev nD) : W3 m c (Proc.devRef .tc main_arg1) = ah m c :=
  (kept m c main_arg1 (by decide) (by decide)).trans (kept0 m c main_arg1 (by decide))
theorem later_wd (c : Dev nD) (s : Fin 4) (l : Fin 704) (k : Fin 1024) : W3 m c (Proc.devRef .tc main_v6) (ix3 s l k) = ad m c (ix2 (inner s l) k) := by
  rw [kept m c main_v6 (by decide) (by decide)]; exact host_wd m c s l k
theorem later_wgu (c : Dev nD) (a : Fin 2) (s : Fin 4) (l : Fin 704) (k : Fin 1024) : W3 m c (Proc.devRef .tc main_v3) (ix4 a s l k) = au m c (ix2 k (col a s l)) := by
  rw [kept m c main_v3 (by decide) (by decide)]; exact host_wgu m c a s l k
theorem later_gain (c : Dev nD) (k : Fin 1024) : W3 m c (Proc.devRef .tc main_v9) (ix2 0 k) = ag m c (ix1 k) := by
  have hV : W3 m c (Proc.devRef .tc main_v9) = shapeCast S1x1024 (ag m c) shapeCasts_S1024_S1x1024 := by
    have e : W2 m c (Proc.devRef .tc main_arg2) = ag m c := (kept1 m c main_arg2 (by decide)).trans (kept0 m c main_arg2 (by decide))
    rw [← e]
    unfold W3; after_results_simp <;> rfl
  rw [hV]
  pointwise

end Cert.Proof.FfnArgs

end
-- ==== Proof.FfnFwdValue.lean ====
/- `ffn_fwd`: where each block lies in its array, and what its three outputs hold at the end. -/
module

public import proofs.«01_k».proof.Proof.FfnFwdPoint
public import proofs.«01_k».proof.Proof.FfnArgs
public import proofs.«01_k».proof.Proof.Tiles

@[expose] public section

set_option maxRecDepth 16384

noncomputable section

namespace Cert.Proof.FfnFwdValue

open Idealize.ShloMosaic Idealize.ShloMosaic.TcCoe Idealize.SL.Sem Cert.FfnIdeal Cert.FfnIdeal.Gen Cert.Proof.Rms
open Cert.Proof.FfnPoint (act)
open Cert.Proof.FfnFwdFrame Cert.Proof.FfnFwdPoint Cert.Proof.FfnArgs Cert.Proof.FfnLaunch
open Idealize.ShloMosaic.Pipeline (Dat Cfg Window)

variable (m : (ℓ : Loc nD τ sig) → Buf (Elt Ideal) ℓ) (c : Dev nD)

/-! ### Where a block lies -/

theorem lt16 (t : Fin cfg0.N) : t.val < 16 := lt_of_lt_of_eq t.isLt N_0

/-- Row `p` of point `t`'s row block, and the point's chunk of the inner width. -/
def row (t : Fin cfg0.N) (p : Fin 1024) : Fin 4096 := ⟨t.val / 4 * 1024 + p.val, by have := lt16 t; omega⟩
def chunk (t : Fin cfg0.N) : Fin 4 := ⟨t.val % 4, Nat.mod_lt _ (by norm_num)⟩

theorem indexRow : ∀ t : Fin cfg0.N, (win0_0.index t 0 = t.val / 4 ∧ win0_0.index t 1 = 0) ∧ (win0_4.index t 0 = t.val / 4 ∧ win0_4.index t 1 = 0)
    ∧ (win0_6.index t 0 = t.val / 4 ∧ win0_6.index t 1 = 0) ∧ (win0_1.index t 0 = 0 ∧ win0_1.index t 1 = 0) :=
  (by decide +kernel : ∀ t : Fin grid0.N, (win0_0.index t 0 = t.val / 4 ∧ win0_0.index t 1 = 0) ∧ (win0_4.index t 0 = t.val / 4 ∧ win0_4.index t 1 = 0)
    ∧ (win0_6.index t 0 = t.val / 4 ∧ win0_6.index t 1 = 0) ∧ (win0_1.index t 0 = 0 ∧ win0_1.index t 1 = 0))
theorem indexW : ∀ t : Fin cfg0.N, (win0_2.index t 0 = 0 ∧ win0_2.index t 1 = t.val % 4 ∧ win0_2.index t 2 = 0 ∧ win0_2.index t 3 = 0)
    ∧ (win0_3.index t 0 = t.val % 4 ∧ win0_3.index t 1 = 0 ∧ win0_3.index t 2 = 0)
    ∧ (win0_5.index t 0 = 0 ∧ win0_5.index t 1 = t.val % 4 ∧ win0_5.index t 2 = t.val / 4 ∧ win0_5.index t 3 = 0) :=
  (by decide +kernel : ∀ t : Fin grid0.N, (win0_2.index t 0 = 0 ∧ win0_2.index t 1 = t.val % 4 ∧ win0_2.index t 2 = 0 ∧ win0_2.index t 3 = 0)
    ∧ (win0_3.index t 0 = t.val % 4 ∧ win0_3.index t 1 = 0 ∧ win0_3.index t 2 = 0)
    ∧ (win0_5.index t 0 = 0 ∧ win0_5.index t 1 = t.val % 4 ∧ win0_5.index t 2 = t.val / 4 ∧ win0_5.index t 3 = 0))

variable (t : Fin cfg0.N)

theorem emb0 (p k : Fin 1024) : ((cfg0.win 0).blk t).view.emb (ix2 p k) = ix2 (row t p) k := by
  refine Shape.idx_ext₂ ?_ ?_
  · refine (Window.rect_emb_val win0_0 t (ix2 p k) 0).trans ?_
    rw [(indexRow t).1.1]; rfl
  · refine (Window.rect_emb_val win0_0 t (ix2 p k) 1).trans ?_
    rw [(indexRow t).1.2]; exact Nat.zero_add _

theorem emb4 (p k : Fin 1024) : ((cfg0.win 4).blk t).view.emb (ix2 p k) = ix2 (row t p) k := by
  refine Shape.idx_ext₂ ?_ ?_
  · refine (Window.rect_emb_val win0_4 t (ix2 p k) 0).trans ?_
    rw [(indexRow t).2.1.1]; rfl
  · refine (Window.rect_emb_val win0_4 t (ix2 p k) 1).trans ?_
    rw [(indexRow t).2.1.2]; exact Nat.zero_add _

theorem emb6 (p k : Fin 1024) : ((cfg0.win 6).blk t).view.emb (ix2 p k) = ix2 (row t p) k := by
  refine Shape.idx_ext₂ ?_ ?_
  · refine (Window.rect_emb_val win0_6 t (ix2 p k) 0).trans ?_
    rw [(indexRow t).2.2.1.1]; rfl
  · refine (Window.rect_emb_val win0_6 t (ix2 p k) 1).trans ?_
    rw [(indexRow t).2.2.1.2]; exact Nat.zero_add _

theorem emb1 (k : Fin 1024) : ((cfg0.win 1).blk t).view.emb (ix2 0 k) = ix2 0 k := by
  refine Shape.idx_ext₂ ?_ ?_
  · refine (Window.rect_emb_val win0_1 t (ix2 0 k) 0).trans ?_
    rw [(indexRow t).2.2.2.1]; rfl
  · refine (Window.rect_emb_val win0_1 t (ix2 0 k) 1).trans ?_
    rw [(indexRow t).2.2.2.2]; exact Nat.zero_add _

theorem emb2 (a : Fin 2) (l : Fin 704) (k : Fin 1024) : ((cfg0.win 2).blk t).view.emb (ix4 a 0 l k) = ix4 a (chunk t) l k := by
  refine funext fun d => Fin.ext ?_
  refine (Window.rect_emb_val win0_2 t (ix4 a 0 l k) d).trans ?_
  match d with
  | ⟨0, _⟩ => show win0_2.index t 0 * 2 + a.val = a.val; rw [(indexW t).1.1]; omega
  | ⟨1, _⟩ => show win0_2.index t 1 * 1 + 0 = t.val % 4; rw [(indexW t).1.2.1]; omega
  | ⟨2, _⟩ => show win0_2.index t 2 * 704 + l.val = l.val; rw [(indexW t).1.2.2.1]; omega
  | ⟨3, _⟩ => show win0_2.index t 3 * 1024 + k.val = k.val; rw [(indexW t).1.2.2.2]; omega

theorem emb3 (l : Fin 704) (k : Fin 1024) : ((cfg0.win 3).blk t).view.emb (ix3 0 l k) = ix3 (chunk t) l k := by
  refine funext fun d => Fin.ext ?_
  refine (Window.rect_emb_val win0_3 t (ix3 0 l k) d).trans ?_
  match d with
  | ⟨0, _⟩ => show win0_3.index t 0 * 1 + 0 = t.val % 4; rw [(indexW t).2.1.1]; omega
  | ⟨1, _⟩ => show win0_3.index t 1 * 704 + l.val = l.val; rw [(indexW t).2.1.2.1]; omega
  | ⟨2, _⟩ => show win0_3.index t 2 * 1024 + k.val = k.val; rw [(indexW t).2.1.2.2]; omega

theorem emb5 (a : Fin 2) (p : Fin 1024) (l : Fin 704) : ((cfg0.win 5).blk t).view.emb (ix4 a 0 p l) = ix4 a (chunk t) (row t p) l := by
  refine funext fun d => Fin.ext ?_
  refine (Window.rect_emb_val win0_5 t (ix4 a 0 p l) d).trans ?_
  match d with
  | ⟨0, _⟩ => show win0_5.index t 0 * 2 + a.val = a.val; rw [(indexW t).2.2.1]; omega
  | ⟨1, _⟩ => show win0_5.index t 1 * 1 + 0 = t.val % 4; rw [(indexW t).2.2.2.1]; omega
  | ⟨2, _⟩ => show win0_5.index t 2 * 1024 + p.val = _; rw [(indexW t).2.2.2.2.1]; rfl
  | ⟨3, _⟩ => show win0_5.index t 3 * 704 + l.val = l.val; rw [(indexW t).2.2.2.2.2]; omega

/-! ### The blocks -/

theorem blk0 (p k : Fin 1024) : iblk (W1 m) c 0 t (ix2 p k) = ah m c (ix2 (row t p) k) := by
  unfold iblk
  rw [View.read_apply, emb0]
  exact congrFun (kept0 m c main_arg1 (by decide)) _

theorem blk1 (k : Fin 1024) : iblk (W1 m) c 1 t (ix2 0 k) = ag m c (ix1 k) := by
  unfold iblk
  rw [View.read_apply, emb1]
  exact host_gain m c k

theorem read2 (f : (b : Ref sig .tc) → Buf (Elt Ideal) ((c : Thread nD τ).loc b)) (a : Fin 2) (l : Fin 704) (k : Fin 1024) :
    ((cfg0.win 2).blk t).view.read (Elt Ideal) (f (Pipeline.arrRef spec0 2)) (ix4 a 0 l k) = f main_v3 (ix4 a (chunk t) l k) := by
  rw [View.read_apply, emb2]; rfl

theorem read3 (f : (b : Ref sig .tc) → Buf (Elt Ideal) ((c : Thread nD τ).loc b)) (l : Fin 704) (k : Fin 1024) :
    ((cfg0.win 3).blk t).view.read (Elt Ideal) (f (Pipeline.arrRef spec0 3)) (ix3 0 l k) = f main_v6 (ix3 (chunk t) l k) := by
  rw [View.read_apply, emb3]; rfl

theorem blk2 (a : Fin 2) (l : Fin 704) (k : Fin 1024) : iblk (W1 m) c 2 t (ix4 a 0 l k) = au m c (ix2 k (col a (chunk t) l)) :=
  (read2 c t (V (W1 m) c) a l k).trans (host_wgu m c a (chunk t) l k)

theorem blk3 (l : Fin 704) (k : Fin 1024) : iblk (W1 m) c 3 t (ix3 0 l k) = ad m c (ix2 (inner (chunk t) l) k) :=
  (read3 c t (V (W1 m) c) l k).trans (host_wd m c (chunk t) l k)

/-! ### The arrays' rows -/

/-- The normalised and scaled row, the gated activation, what a chunk adds to the output, and the output. -/
def uAt (i : Fin 4096) (k : Fin 1024) : EReal := hr m c i k * rr (hr m c i) * ag m c (ix1 k)
def aAt (s : Fin 4) (i : Fin 4096) (l : Fin 704) : EReal := act (zRow m c 0 s i l) (zRow m c 1 s i l)
def outAdd (i : Fin 4096) (s : Fin 4) (k : Fin 1024) : EReal := ∑ l : Fin 704, aAt m c s i l * ad m c (ix2 (inner s l) k)
def hnAt (i : Fin 4096) (k : Fin 1024) : EReal := ah m c (ix2 i k) + ∑ s : Fin 4, outAdd m c i s k

/-- The chunk of a number. -/
def ck (s : ℕ) : Fin 4 := ⟨s % 4, Nat.mod_lt _ (by norm_num)⟩

theorem chunk_ck : chunk t = ck (t.val % 4) := Fin.ext (Nat.mod_mod _ _).symm

theorem cu_at (p k : Fin 1024) : cu (W1 m) c t (ix2 p k) = uAt m c (row t p) k := by
  refine (pay3_at _ _ p k).trans ?_
  unfold uAt
  rw [blk0, blk1, show (fun k => iblk (W1 m) c 0 t (ix2 p k)) = hr m c (row t p) from funext fun k => blk0 m c t p k]

/-- The chunk's projection of rows that are the normalised ones. -/
theorem proj_at (u : Vec Ideal S1024x1024 .bf16) (hu : ∀ p k, u (ix2 p k) = uAt m c (row t p) k) (a : Fin 2) (p : Fin 1024) (l : Fin 704) :
    proj (ur u p) (vr (iblk (W1 m) c 2 t) a) l = zAt m c (row t p) (col a (chunk t) l) := by
  unfold proj zAt
  refine Finset.sum_congr rfl fun k _ => congrArg₂ (· * ·) (hu p k) (blk2 m c t a l k)

theorem z_of (u : Vec Ideal S1024x1024 .bf16) (hu : ∀ p k, u (ix2 p k) = uAt m c (row t p) k) (a : Fin 2) (p : Fin 1024) (l : Fin 704) :
    zOf u (iblk (W1 m) c 2 t) (ix4 a 0 p l) = zAt m c (row t p) (col a (chunk t) l) := by
  rw [← proj_at m c t u hu a p l]
  obtain rfl | rfl : a = 0 ∨ a = 1 := (show ∀ a : Fin 2, a = 0 ∨ a = 1 by decide) a
  · exact zOf_at0 u _ p l
  · exact zOf_at1 u _ p l

theorem acc_of (u : Vec Ideal S1024x1024 .bf16) (hu : ∀ p k, u (ix2 p k) = uAt m c (row t p) k) (y : Vec Ideal S1024x1024 .f32) (p k : Fin 1024) :
    accOf u (iblk (W1 m) c 2 t) (iblk (W1 m) c 3 t) y (ix2 p k) = y (ix2 p k) + outAdd m c (row t p) (chunk t) k := by
  rw [accOf_at]
  unfold outAdd aAt
  refine congrArg (y (ix2 p k) + ·) (Finset.sum_congr rfl fun l _ => congrArg₂ (· * ·) ?_ (blk3 m c t l k))
  exact congrArg₂ act (proj_at m c t u hu 0 p l) (proj_at m c t u hu 1 p l)

/-! ### Between the points -/

/-- The normalised rows, the running sum and the chunk's projection after point `t`. -/
structure State (t : Fin cfg0.N) (H : Held Ideal) : Prop where
  u : ∀ p k, H.u (ix2 p k) = uAt m c (row t p) k
  acc : ∀ p k, H.acc (ix2 p k) = ∑ s ∈ Finset.range (t.val % 4 + 1), outAdd m c (row t p) (ck s) k
  z : ∀ a p l, H.z (ix4 a 0 p l) = zAt m c (row t p) (col a (chunk t) l)

theorem acc_first (h : t.val % 4 = 0) (p k : Fin 1024) : accOf (cu (W1 m) c t) (iblk (W1 m) c 2 t) (iblk (W1 m) c 3 t) (k0_pay4 (F := Ideal)) (ix2 p k)
    = ∑ s ∈ Finset.range (t.val % 4 + 1), outAdd m c (row t p) (ck s) k := by
  rw [acc_of m c t _ (cu_at m c t), h, Finset.sum_range_one, chunk_ck, h, pay4_at, zero_add]

theorem acc_next (t' : Fin cfg0.N) (h : t.val = t'.val + 1) (h0 : t.val % 4 ≠ 0) (H : Held Ideal) (hH : State m c t' H)
    (hu : ∀ p k, H.u (ix2 p k) = uAt m c (row t p) k) (p k : Fin 1024) : accOf H.u (iblk (W1 m) c 2 t) (iblk (W1 m) c 3 t) H.acc (ix2 p k)
    = ∑ s ∈ Finset.range (t.val % 4 + 1), outAdd m c (row t p) (ck s) k := by
  have hr : row t' p = row t p := Fin.ext (by show t'.val / 4 * 1024 + p.val = t.val / 4 * 1024 + p.val; omega)
  have hs : t.val % 4 = t'.val % 4 + 1 := by omega
  rw [acc_of m c t _ hu, Finset.sum_range_succ, hH.acc, hr, chunk_ck, hs]

theorem held_zero (m : Dev nD → Valuation τ sig (Elt Ideal)) (h : 0 < cfg0.N) : held m c 0 h = step m c ⟨0, h⟩ unheld := rfl
theorem held_succ (m : Dev nD → Valuation τ sig (Elt Ideal)) (n : ℕ) (h : n + 1 < cfg0.N) :
    held m c (n + 1) h = step m c ⟨n + 1, h⟩ (held m c n (Nat.lt_of_succ_lt h)) := rfl

theorem state : ∀ (n : ℕ) (h : n < cfg0.N), State m c ⟨n, h⟩ (held (W1 m) c n h)
  | 0, h => by
    rw [held_zero, first (W1 m) c ⟨0, h⟩ unheld rfl]
    refine ⟨?_, ?_, ?_⟩ <;> dsimp only
    exacts [cu_at m c ⟨0, h⟩, acc_first m c ⟨0, h⟩ (by show 0 % 4 = 0; decide), z_of m c ⟨0, h⟩ _ (cu_at m c ⟨0, h⟩)]
  | n + 1, h => by
    have ih := state n (Nat.lt_of_succ_lt h)
    by_cases h0 : (n + 1) % 4 = 0
    · rw [held_succ, first (W1 m) c ⟨n + 1, h⟩ (held (W1 m) c n (Nat.lt_of_succ_lt h)) h0]
      refine ⟨?_, ?_, ?_⟩ <;> dsimp only
      exacts [cu_at m c ⟨n + 1, h⟩, acc_first m c ⟨n + 1, h⟩ h0, z_of m c ⟨n + 1, h⟩ _ (cu_at m c ⟨n + 1, h⟩)]
    have hu : ∀ p k, (held (W1 m) c n (Nat.lt_of_succ_lt h)).u (ix2 p k) = uAt m c (row ⟨n + 1, h⟩ p) k := fun p k =>
      (ih.u p k).trans (by rw [show row ⟨n, Nat.lt_of_succ_lt h⟩ p = row ⟨n + 1, h⟩ p from Fin.ext (by show n / 4 * 1024 + p.val = (n + 1) / 4 * 1024 + p.val; omega)])
    by_cases h3 : (n + 1) % 4 = 3
    · rw [held_succ, close (W1 m) c ⟨n + 1, h⟩ (held (W1 m) c n (Nat.lt_of_succ_lt h)) h3]
      refine ⟨?_, ?_, ?_⟩ <;> dsimp only
      exacts [hu, acc_next m c ⟨n + 1, h⟩ ⟨n, _⟩ rfl h0 _ ih hu, z_of m c ⟨n + 1, h⟩ _ hu]
    · rw [held_succ, middle (W1 m) c ⟨n + 1, h⟩ (held (W1 m) c n (Nat.lt_of_succ_lt h)) ⟨h0, h3⟩]
      refine ⟨?_, ?_, ?_⟩ <;> dsimp only
      exacts [hu, acc_next m c ⟨n + 1, h⟩ ⟨n, _⟩ rfl h0 _ ih hu, z_of m c ⟨n + 1, h⟩ _ hu]

theorem out_hn (h3 : t.val % 4 = 3) (p k : Fin 1024) : (held (W1 m) c t.val t.isLt).hn (ix2 p k) = hnAt m c (row t p) k := by
  have st := state m c t.val t.isLt
  obtain ⟨n, h⟩ := t
  cases n with
  | zero => exact absurd h3 (by show ¬ 0 % 4 = 3; decide)
  | succ n =>
    rw [held_succ, close (W1 m) c ⟨n + 1, h⟩ (held (W1 m) c n (Nat.lt_of_succ_lt h)) h3] at st ⊢
    dsimp only
    have ha := st.acc p k
    dsimp only at ha
    rw [pay2_at, blk0, ha, h3]
    unfold hnAt
    refine congrArg (ah m c _ + ·) ?_
    rw [Finset.sum_range]
    exact Finset.sum_congr rfl fun s _ => congrArg (outAdd m c _ · k) (Fin.ext (Nat.mod_eq_of_lt s.isLt))

/-! ### The outputs -/

/-- The point of a row's block and a chunk, and the row's place in the block. -/
def point (r : Fin 4096) (s : Fin 4) : Fin cfg0.N := ⟨r.val / 1024 * 4 + s.val, by rw [show cfg0.N = 16 from N_0]; omega⟩
def place (r : Fin 4096) : Fin 1024 := ⟨r.val % 1024, Nat.mod_lt _ (by norm_num)⟩

theorem row_point (r : Fin 4096) (s : Fin 4) : row (point r s) (place r) = r :=
  Fin.ext (show (r.val / 1024 * 4 + s.val) / 4 * 1024 + r.val % 1024 = r.val by omega)
theorem chunk_point (r : Fin 4096) (s : Fin 4) : chunk (point r s) = s := Fin.ext (show (r.val / 1024 * 4 + s.val) % 4 = s.val by omega)
theorem point_three (r : Fin 4096) : (point r 3).val % 4 = 3 := by
  show (r.val / 1024 * 4 + 3) % 4 = 3
  omega

theorem end_hn : (dats (W1 m) c).arrAt 4 cfg0.N = fun i : S4096x1024.Idx => hnAt m c (i 0) (i 1) := by
  refine Dat.arrAt_eq_of_cover (dats (W1 m) c) 4 _ (fun t hf => ?_) (fun i => ?_)
  · show (cfg0.win 4).cut (grid0.coords t) ((dats (W1 m) c).after 4 t) = _
    rw [after4]
    funext y
    obtain ⟨p, k, rfl⟩ : ∃ (p k : Fin 1024), y = ix2 p k := ⟨y 0, y 1, eq_ix2 y⟩
    rw [View.read_apply, emb4]
    exact out_hn m c t ((flush0_4 t).mp hf) p k
  · obtain ⟨r, k, rfl⟩ : ∃ (r : Fin 4096) (k : Fin 1024), i = ix2 r k := ⟨i 0, i 1, eq_ix2 i⟩
    have h := View.emb_mem_set ((cfg0.win 4).blk (point r 3)).view (ix2 (place r) k)
    rw [emb4, row_point] at h
    exact ⟨point r 3, (flush0_4 _).mpr (point_three r), h⟩

theorem end_z : (dats (W1 m) c).arrAt 5 cfg0.N = fun i : S2x4x4096x704.Idx => zAt m c (i 2) (col (i 0) (i 1) (i 3)) := by
  refine Dat.arrAt_eq_of_cover (dats (W1 m) c) 5 _ (fun t _ => ?_) (fun i => ?_)
  · show (cfg0.win 5).cut (grid0.coords t) ((dats (W1 m) c).after 5 t) = _
    rw [after5]
    funext y
    obtain ⟨a, z, p, l, rfl⟩ : ∃ (a : Fin 2) (z : Fin 1) (p : Fin 1024) (l : Fin 704), y = ix4 a z p l := ⟨y 0, y 1, y 2, y 3, eq_ix4 y⟩
    obtain rfl : z = 0 := Subsingleton.elim _ _
    rw [View.read_apply, emb5]
    exact (state m c t.val t.isLt).z a p l
  · obtain ⟨a, s, r, l, rfl⟩ : ∃ (a : Fin 2) (s : Fin 4) (r : Fin 4096) (l : Fin 704), i = ix4 a s r l := ⟨i 0, i 1, i 2, i 3, eq_ix4 i⟩
    have h := View.emb_mem_set ((cfg0.win 5).blk (point r s)).view (ix4 a 0 (place r) l)
    rw [emb5, row_point, chunk_point] at h
    exact ⟨point r s, flush0_5 _, h⟩

theorem end_u : (dats (W1 m) c).arrAt 6 cfg0.N = fun i : S4096x1024.Idx => uAt m c (i 0) (i 1) := by
  refine Dat.arrAt_eq_of_cover (dats (W1 m) c) 6 _ (fun t _ => ?_) (fun i => ?_)
  · show (cfg0.win 6).cut (grid0.coords t) ((dats (W1 m) c).after 6 t) = _
    rw [after6]
    funext y
    obtain ⟨p, k, rfl⟩ : ∃ (p k : Fin 1024), y = ix2 p k := ⟨y 0, y 1, eq_ix2 y⟩
    rw [View.read_apply, emb6]
    exact (state m c t.val t.isLt).u p k
  · obtain ⟨r, k, rfl⟩ : ∃ (r : Fin 4096) (k : Fin 1024), i = ix2 r k := ⟨i 0, i 1, eq_ix2 i⟩
    have h := View.emb_mem_set ((cfg0.win 6).blk (point r 3)).view (ix2 (place r) k)
    rw [emb6, row_point] at h
    exact ⟨point r 3, (flush0_6 _).mpr (point_three r), h⟩

/-- The projection, as the second kernel finds it. -/
theorem later_z (a : Fin 2) (s : Fin 4) (i : Fin 4096) (l : Fin 704) : W3 m c (Proc.devRef .tc main_v8_1) (ix4 a s i l) = zAt m c i (col a s l) :=
  (congrFun ((kept2 m c main_v8_1 (by decide)).trans (out0 m c 5)) (ix4 a s i l)).trans (congrFun (end_z m c) (ix4 a s i l))

end Cert.Proof.FfnFwdValue

end
-- ==== Proof.FfnBlocks.lean ====
/- `ffn_bwd_x`'s launch: where each block lies in its array, and what the blocks hold. -/
module

public import proofs.«01_k».proof.Proof.FfnCases
public import proofs.«01_k».proof.Proof.FfnFwdValue

@[expose] public section

set_option maxRecDepth 16384

noncomputable section

namespace Cert.Proof.FfnBlocks

open Idealize.ShloMosaic Idealize.ShloMosaic.TcCoe Idealize.SL.Sem Cert.FfnIdeal Cert.FfnIdeal.Gen Cert.Proof.Rms Cert.Proof.FfnFrame Cert.Proof.FfnLaunch Cert.Proof.FfnArgs
open Idealize.ShloMosaic.Pipeline (Window)

variable (m : (ℓ : Loc nD τ sig) → Buf (Elt Ideal) ℓ)

/-! ### Where a block lies -/

/-- Row `p` of point `t`'s row block, and the point's chunk of the inner width. -/
def row (t : Fin cfg1.N) (p : Fin 512) : Fin 4096 := ⟨t.val / 4 * 512 + p.val, by have := lt32 t; omega⟩
def chunk (t : Fin cfg1.N) : Fin 4 := ⟨t.val % 4, Nat.mod_lt _ (by norm_num)⟩

theorem indexRow : ∀ t : Fin cfg1.N, (win1_0.index t 0 = t.val / 4 ∧ win1_0.index t 1 = 0) ∧ (win1_1.index t 0 = t.val / 4 ∧ win1_1.index t 1 = 0)
    ∧ (win1_6.index t 0 = t.val / 4 ∧ win1_6.index t 1 = 0) ∧ (win1_10.index t 0 = t.val / 4 ∧ win1_10.index t 1 = 0) :=
  (by decide +kernel : ∀ t : Fin grid1.N, (win1_0.index t 0 = t.val / 4 ∧ win1_0.index t 1 = 0) ∧ (win1_1.index t 0 = t.val / 4 ∧ win1_1.index t 1 = 0)
    ∧ (win1_6.index t 0 = t.val / 4 ∧ win1_6.index t 1 = 0) ∧ (win1_10.index t 0 = t.val / 4 ∧ win1_10.index t 1 = 0))
theorem indexOne : ∀ t : Fin cfg1.N, (win1_2.index t 0 = 0 ∧ win1_2.index t 1 = 0) ∧ (win1_9.index t 0 = 0 ∧ win1_9.index t 1 = 0) :=
  (by decide +kernel : ∀ t : Fin grid1.N, (win1_2.index t 0 = 0 ∧ win1_2.index t 1 = 0) ∧ (win1_9.index t 0 = 0 ∧ win1_9.index t 1 = 0))
theorem indexZ : ∀ t : Fin cfg1.N, (win1_3.index t 0 = 0 ∧ win1_3.index t 1 = t.val % 4 ∧ win1_3.index t 2 = t.val / 4 ∧ win1_3.index t 3 = 0)
    ∧ (win1_7.index t 0 = 0 ∧ win1_7.index t 1 = t.val % 4 ∧ win1_7.index t 2 = t.val / 4 ∧ win1_7.index t 3 = 0) :=
  (by decide +kernel : ∀ t : Fin grid1.N, (win1_3.index t 0 = 0 ∧ win1_3.index t 1 = t.val % 4 ∧ win1_3.index t 2 = t.val / 4 ∧ win1_3.index t 3 = 0)
    ∧ (win1_7.index t 0 = 0 ∧ win1_7.index t 1 = t.val % 4 ∧ win1_7.index t 2 = t.val / 4 ∧ win1_7.index t 3 = 0))
theorem indexW : ∀ t : Fin cfg1.N, (win1_4.index t 0 = 0 ∧ win1_4.index t 1 = t.val % 4 ∧ win1_4.index t 2 = 0 ∧ win1_4.index t 3 = 0)
    ∧ (win1_5.index t 0 = t.val % 4 ∧ win1_5.index t 1 = 0 ∧ win1_5.index t 2 = 0)
    ∧ (win1_8.index t 0 = t.val % 4 ∧ win1_8.index t 1 = t.val / 4 ∧ win1_8.index t 2 = 0) :=
  (by decide +kernel : ∀ t : Fin grid1.N, (win1_4.index t 0 = 0 ∧ win1_4.index t 1 = t.val % 4 ∧ win1_4.index t 2 = 0 ∧ win1_4.index t 3 = 0)
    ∧ (win1_5.index t 0 = t.val % 4 ∧ win1_5.index t 1 = 0 ∧ win1_5.index t 2 = 0)
    ∧ (win1_8.index t 0 = t.val % 4 ∧ win1_8.index t 1 = t.val / 4 ∧ win1_8.index t 2 = 0))

variable (t : Fin cfg1.N)

theorem emb0 (p : Fin 512) (k : Fin 1024) : ((cfg1.win 0).blk t).view.emb (ix2 p k) = ix2 (row t p) k := by
  refine Shape.idx_ext₂ ?_ ?_
  · refine (Window.rect_emb_val win1_0 t (ix2 p k) 0).trans ?_
    rw [(indexRow t).1.1]; rfl
  · refine (Window.rect_emb_val win1_0 t (ix2 p k) 1).trans ?_
    rw [(indexRow t).1.2]; exact Nat.zero_add _

theorem emb1 (p : Fin 512) (k : Fin 1024) : ((cfg1.win 1).blk t).view.emb (ix2 p k) = ix2 (row t p) k := by
  refine Shape.idx_ext₂ ?_ ?_
  · refine (Window.rect_emb_val win1_1 t (ix2 p k) 0).trans ?_
    rw [(indexRow t).2.1.1]; rfl
  · refine (Window.rect_emb_val win1_1 t (ix2 p k) 1).trans ?_
    rw [(indexRow t).2.1.2]; exact Nat.zero_add _

theorem emb6 (p : Fin 512) (k : Fin 1024) : ((cfg1.win 6).blk t).view.emb (ix2 p k) = ix2 (row t p) k := by
  refine Shape.idx_ext₂ ?_ ?_
  · refine (Window.rect_emb_val win1_6 t (ix2 p k) 0).trans ?_
    rw [(indexRow t).2.2.1.1]; rfl
  · refine (Window.rect_emb_val win1_6 t (ix2 p k) 1).trans ?_
    rw [(indexRow t).2.2.1.2]; exact Nat.zero_add _

theorem emb10 (p : Fin 512) (k : Fin 1024) : ((cfg1.win 10).blk t).view.emb (ix2 p k) = ix2 (row t p) k := by
  refine Shape.idx_ext₂ ?_ ?_
  · refine (Window.rect_emb_val win1_10 t (ix2 p k) 0).trans ?_
    rw [(indexRow t).2.2.2.1]; rfl
  · refine (Window.rect_emb_val win1_10 t (ix2 p k) 1).trans ?_
    rw [(indexRow t).2.2.2.2]; exact Nat.zero_add _

theorem emb2 (k : Fin 1024) : ((cfg1.win 2).blk t).view.emb (ix2 0 k) = ix2 0 k := by
  refine Shape.idx_ext₂ ?_ ?_
  · refine (Window.rect_emb_val win1_2 t (ix2 0 k) 0).trans ?_
    rw [(indexOne t).1.1]; rfl
  · refine (Window.rect_emb_val win1_2 t (ix2 0 k) 1).trans ?_
    rw [(indexOne t).1.2]; exact Nat.zero_add _

theorem emb9 (k : Fin 1024) : ((cfg1.win 9).blk t).view.emb (ix2 0 k) = ix2 0 k := by
  refine Shape.idx_ext₂ ?_ ?_
  · refine (Window.rect_emb_val win1_9 t (ix2 0 k) 0).trans ?_
    rw [(indexOne t).2.1]; rfl
  · refine (Window.rect_emb_val win1_9 t (ix2 0 k) 1).trans ?_
    rw [(indexOne t).2.2]; exact Nat.zero_add _

theorem emb3 (a : Fin 2) (p : Fin 512) (l : Fin 704) : ((cfg1.win 3).blk t).view.emb (ix4 a 0 p l) = ix4 a (chunk t) (row t p) l := by
  refine funext fun d => Fin.ext ?_
  refine (Window.rect_emb_val win1_3 t (ix4 a 0 p l) d).trans ?_
  match d with
  | ⟨0, _⟩ => show win1_3.index t 0 * 2 + a.val = a.val; rw [(indexZ t).1.1]; omega
  | ⟨1, _⟩ => show win1_3.index t 1 * 1 + 0 = t.val % 4; rw [(indexZ t).1.2.1]; omega
  | ⟨2, _⟩ => show win1_3.index t 2 * 512 + p.val = _; rw [(indexZ t).1.2.2.1]; rfl
  | ⟨3, _⟩ => show win1_3.index t 3 * 704 + l.val = l.val; rw [(indexZ t).1.2.2.2]; omega

theorem emb7 (a : Fin 2) (p : Fin 512) (l : Fin 704) : ((cfg1.win 7).blk t).view.emb (ix4 a 0 p l) = ix4 a (chunk t) (row t p) l := by
  refine funext fun d => Fin.ext ?_
  refine (Window.rect_emb_val win1_7 t (ix4 a 0 p l) d).trans ?_
  match d with
  | ⟨0, _⟩ => show win1_7.index t 0 * 2 + a.val = a.val; rw [(indexZ t).2.1]; omega
  | ⟨1, _⟩ => show win1_7.index t 1 * 1 + 0 = t.val % 4; rw [(indexZ t).2.2.1]; omega
  | ⟨2, _⟩ => show win1_7.index t 2 * 512 + p.val = _; rw [(indexZ t).2.2.2.1]; rfl
  | ⟨3, _⟩ => show win1_7.index t 3 * 704 + l.val = l.val; rw [(indexZ t).2.2.2.2]; omega

theorem emb4 (a : Fin 2) (l : Fin 704) (k : Fin 1024) : ((cfg1.win 4).blk t).view.emb (ix4 a 0 l k) = ix4 a (chunk t) l k := by
  refine funext fun d => Fin.ext ?_
  refine (Window.rect_emb_val win1_4 t (ix4 a 0 l k) d).trans ?_
  match d with
  | ⟨0, _⟩ => show win1_4.index t 0 * 2 + a.val = a.val; rw [(indexW t).1.1]; omega
  | ⟨1, _⟩ => show win1_4.index t 1 * 1 + 0 = t.val % 4; rw [(indexW t).1.2.1]; omega
  | ⟨2, _⟩ => show win1_4.index t 2 * 704 + l.val = l.val; rw [(indexW t).1.2.2.1]; omega
  | ⟨3, _⟩ => show win1_4.index t 3 * 1024 + k.val = k.val; rw [(indexW t).1.2.2.2]; omega

theorem emb5 (l : Fin 704) (k : Fin 1024) : ((cfg1.win 5).blk t).view.emb (ix3 0 l k) = ix3 (chunk t) l k := by
  refine funext fun d => Fin.ext ?_
  refine (Window.rect_emb_val win1_5 t (ix3 0 l k) d).trans ?_
  match d with
  | ⟨0, _⟩ => show win1_5.index t 0 * 1 + 0 = t.val % 4; rw [(indexW t).2.1.1]; omega
  | ⟨1, _⟩ => show win1_5.index t 1 * 704 + l.val = l.val; rw [(indexW t).2.1.2.1]; omega
  | ⟨2, _⟩ => show win1_5.index t 2 * 1024 + k.val = k.val; rw [(indexW t).2.1.2.2]; omega

theorem emb8 (p : Fin 512) (l : Fin 704) : ((cfg1.win 8).blk t).view.emb (ix3 0 p l) = ix3 (chunk t) (row t p) l := by
  refine funext fun d => Fin.ext ?_
  refine (Window.rect_emb_val win1_8 t (ix3 0 p l) d).trans ?_
  match d with
  | ⟨0, _⟩ => show win1_8.index t 0 * 1 + 0 = t.val % 4; rw [(indexW t).2.2.1]; omega
  | ⟨1, _⟩ => show win1_8.index t 1 * 512 + p.val = _; rw [(indexW t).2.2.2.1]; rfl
  | ⟨2, _⟩ => show win1_8.index t 2 * 704 + l.val = l.val; rw [(indexW t).2.2.2.2]; omega

/-! ### The blocks -/

theorem blk0 (c : Dev nD) (p : Fin 512) (k : Fin 1024) : iblk (W3 m) c 0 t (ix2 p k) = ae m c (ix2 (row t p) k) := by
  unfold iblk
  rw [View.read_apply, emb0]
  exact congrFun (later_dh m c) _

theorem blk1 (c : Dev nD) (p : Fin 512) (k : Fin 1024) : iblk (W3 m) c 1 t (ix2 p k) = ah m c (ix2 (row t p) k) := by
  unfold iblk
  rw [View.read_apply, emb1]
  exact congrFun (later_h m c) _

theorem blk2 (c : Dev nD) (k : Fin 1024) : iblk (W3 m) c 2 t (ix2 0 k) = ag m c (ix1 k) := by
  unfold iblk
  rw [View.read_apply, emb2]
  exact later_gain m c k

/-- A block read off any contents of the launch's arrays. -/
theorem read3 (c : Dev nD) (f : (b : Ref sig .tc) → Buf (Elt Ideal) ((c : Thread nD τ).loc b)) (a : Fin 2) (p : Fin 512) (l : Fin 704) :
    ((cfg1.win 3).blk t).view.read (Elt Ideal) (f (Pipeline.arrRef spec1 3)) (ix4 a 0 p l) = f main_v8_1 (ix4 a (chunk t) (row t p) l) := by
  rw [View.read_apply, emb3]; rfl

theorem read4 (c : Dev nD) (f : (b : Ref sig .tc) → Buf (Elt Ideal) ((c : Thread nD τ).loc b)) (a : Fin 2) (l : Fin 704) (k : Fin 1024) :
    ((cfg1.win 4).blk t).view.read (Elt Ideal) (f (Pipeline.arrRef spec1 4)) (ix4 a 0 l k) = f main_v3 (ix4 a (chunk t) l k) := by
  rw [View.read_apply, emb4]; rfl

theorem read5 (c : Dev nD) (f : (b : Ref sig .tc) → Buf (Elt Ideal) ((c : Thread nD τ).loc b)) (l : Fin 704) (k : Fin 1024) :
    ((cfg1.win 5).blk t).view.read (Elt Ideal) (f (Pipeline.arrRef spec1 5)) (ix3 0 l k) = f main_v6 (ix3 (chunk t) l k) := by
  rw [View.read_apply, emb5]; rfl

theorem blk3 (c : Dev nD) (a : Fin 2) (p : Fin 512) (l : Fin 704) : iblk (W3 m) c 3 t (ix4 a 0 p l) = zAt m c (row t p) (col a (chunk t) l) :=
  (read3 t c (V (W3 m) c) a p l).trans (FfnFwdValue.later_z m c a (chunk t) (row t p) l)

theorem blk4 (c : Dev nD) (a : Fin 2) (l : Fin 704) (k : Fin 1024) : iblk (W3 m) c 4 t (ix4 a 0 l k) = au m c (ix2 k (col a (chunk t) l)) :=
  (read4 t c (V (W3 m) c) a l k).trans (later_wgu m c a (chunk t) l k)

theorem blk5 (c : Dev nD) (l : Fin 704) (k : Fin 1024) : iblk (W3 m) c 5 t (ix3 0 l k) = ad m c (ix2 (inner (chunk t) l) k) :=
  (read5 t c (V (W3 m) c) l k).trans (later_wd m c (chunk t) l k)

end Cert.Proof.FfnBlocks

end
-- ==== Proof.FfnValue.lean ====
/- `ffn_bwd_x`: what the kernel's five outputs hold at the end, as sums over the whole arrays. -/
module

public import proofs.«01_k».proof.Proof.FfnBlocks
public import proofs.«01_k».proof.Proof.Tiles

@[expose] public section

set_option maxRecDepth 16384

noncomputable section

namespace Cert.Proof.FfnValue

open Idealize.ShloMosaic Idealize.SL.Sem Cert.FfnIdeal Cert.FfnIdeal.Gen Cert.Proof.Rms Cert.Proof.FfnFrame Cert.Proof.FfnPoint Cert.Proof.FfnCases Cert.Proof.FfnBlocks Cert.Proof.FfnArgs Cert.Proof.FfnLaunch Cert.Proof.Tiles
open Cert.Proof.FfnFwdValue (aAt ck)
open Idealize.ShloMosaic.Pipeline (Dat Cfg Window)

variable (m : (ℓ : Loc nD τ sig) → Buf (Elt Ideal) ℓ) (c : Dev nD)

/-! ### The arrays' rows -/

abbrev eRow (i : Fin 4096) : Fin 1024 → EReal := fun k => ae m c (ix2 i k)
abbrev wRow (s : Fin 4) : Fin 704 → Fin 1024 → EReal := fun l k => ad m c (ix2 (inner s l) k)
abbrev vRow (s : Fin 4) : Fin 2 → Fin 704 → Fin 1024 → EReal := fun a l k => au m c (ix2 k (col a s l))

/-- What a chunk adds to the cotangent of the normalised row `i`. -/
def add (i : Fin 4096) (s : Fin 4) (k : Fin 1024) : EReal := duAdd (eRow m c i) (wRow m c s) (zRow m c 0 s i) (zRow m c 1 s i) (vRow m c s) k
/-- That cotangent, scaled by nothing yet. -/
def du (i : Fin 4096) (k : Fin 1024) : EReal := ∑ s : Fin 4, add m c i s k
/-- The gradient of the layer's input. -/
def dhAt (i : Fin 4096) (j : Fin 1024) : EReal := ae m c (ix2 i j) + dx (hr m c i) (fun k => du m c i k * ag m c (ix1 k)) j
/-- A row's share of the gain's gradient. -/
def gainAt (i : Fin 4096) (j : Fin 1024) : EReal := du m c i j * (ah m c (ix2 i j) * rr (hr m c i))
/-- The cotangent of the projection, half by half. -/
def dzAt (a : Fin 2) (s : Fin 4) (i : Fin 4096) (l : Fin 704) : EReal :=
  if a = 0 then dgate (da (eRow m c i) (wRow m c s) l) (zRow m c 0 s i l) (zRow m c 1 s i l) else dupper (da (eRow m c i) (wRow m c s) l) (zRow m c 0 s i l)

/-- The row of a number. -/
def rw' (b : ℕ) (p : Fin 512) : Fin 4096 := ⟨(b * 512 + p.val) % 4096, Nat.mod_lt _ (by norm_num)⟩
/-- A row block's share of the gain's gradient. -/
def tileGain (j : Fin 1024) (b : ℕ) : EReal := ∑ p : Fin 512, gainAt m c (rw' b p) j

theorem chunk_ck (t : Fin cfg1.N) : chunk t = ck (t.val % 4) := Fin.ext (Nat.mod_mod _ _).symm
theorem row_rw (t : Fin cfg1.N) (p : Fin 512) : row t p = rw' (t.val / 4) p := by
  have := lt32 t
  refine Fin.ext ?_
  show t.val / 4 * 512 + p.val = (t.val / 4 * 512 + p.val) % 4096
  omega

/-- A point's step of the running sum, once the copy of the block of `dh` is known. -/
theorem point_add (t : Fin cfg1.N) (e : Vec Ideal S512x1024 .bf16) (he : ∀ p k, e (ix2 p k) = ae m c (ix2 (row t p) k)) (p : Fin 512) (k : Fin 1024) :
    duAdd (er e p) (wr (cw (W3 m) c t)) (zr (cz (W3 m) c t) 0 p) (zr (cz (W3 m) c t) 1 p) (vr (cv (W3 m) c t)) k = add m c (row t p) (chunk t) k := by
  unfold add
  rw [show er e p = eRow m c (row t p) from funext fun k => he p k,
    show wr (cw (W3 m) c t) = wRow m c (chunk t) from funext fun l => funext fun k => blk5 m t c l k,
    show zr (cz (W3 m) c t) 0 p = zRow m c 0 (chunk t) (row t p) from funext fun l => blk3 m t c 0 p l,
    show zr (cz (W3 m) c t) 1 p = zRow m c 1 (chunk t) (row t p) from funext fun l => blk3 m t c 1 p l,
    show vr (cv (W3 m) c t) = vRow m c (chunk t) from funext fun a => funext fun l => funext fun k => blk4 m t c a l k]

/-! ### Between the points -/

/-- The copy of the block, the running sum and the gain's gradient after point `t`. -/
structure State (t : Fin cfg1.N) (H : Held Ideal) : Prop where
  cp : ∀ p k, H.cp (ix2 p k) = ae m c (ix2 (row t p) k)
  du : ∀ p k, H.du (ix2 p k) = ∑ s ∈ Finset.range (t.val % 4 + 1), add m c (row t p) (ck s) k
  dg : ∀ k, H.dg (ix2 0 k) = ∑ b ∈ Finset.range ((t.val + 1) / 4), tileGain m c k b

theorem ce_at (t : Fin cfg1.N) (p : Fin 512) (k : Fin 1024) : ce (W3 m) c t (ix2 p k) = ae m c (ix2 (row t p) k) := blk0 m t c p k

theorem du_first (t : Fin cfg1.N) (h : t.val % 4 = 0) (p : Fin 512) (k : Fin 1024) :
    duFirst (ce (W3 m) c t) (cw (W3 m) c t) (cz (W3 m) c t) (cv (W3 m) c t) (ix2 p k) = ∑ s ∈ Finset.range (t.val % 4 + 1), add m c (row t p) (ck s) k := by
  rw [duFirst_at, point_add m c t _ (ce_at m c t), h, Finset.sum_range_one, chunk_ck, h]

/-- The sum over the row block's chunks so far, after a later chunk. -/
theorem du_next (t t' : Fin cfg1.N) (h : t.val = t'.val + 1) (h0 : t.val % 4 ≠ 0) (H : Held Ideal) (hH : State m c t' H) (p : Fin 512) (k : Fin 1024) :
    duOf H.cp (cw (W3 m) c t) (cz (W3 m) c t) (cv (W3 m) c t) H.du (ix2 p k) = ∑ s ∈ Finset.range (t.val % 4 + 1), add m c (row t p) (ck s) k := by
  have hr : ∀ p, row t' p = row t p := fun p => Fin.ext (by show t'.val / 4 * 512 + p.val = t.val / 4 * 512 + p.val; omega)
  have hs : t.val % 4 = t'.val % 4 + 1 := by omega
  rw [duOf_at, point_add m c t H.cp (fun p k => (hH.cp p k).trans (by rw [hr])), Finset.sum_range_succ, hH.du, hr, chunk_ck, hs]

/-- The sum over all four chunks. -/
theorem du_all (t : Fin cfg1.N) (h3 : t.val % 4 = 3) (i : Fin 4096) (k : Fin 1024) :
    (∑ s ∈ Finset.range (t.val % 4 + 1), add m c i (ck s) k) = du m c i k := by
  rw [h3, Finset.sum_range]
  refine Finset.sum_congr rfl fun s _ => congrArg (add m c i · k) (Fin.ext ?_)
  exact Nat.mod_eq_of_lt s.isLt

theorem dg_next (t t' : Fin cfg1.N) (h : t.val = t'.val + 1) (h3 : t.val % 4 = 3) (H : Held Ideal) (hH : State m c t' H) (k : Fin 1024) :
    k1_pay5 (iblk (W3 m) c 1 t) (duOf H.cp (cw (W3 m) c t) (cz (W3 m) c t) (cv (W3 m) c t) H.du) H.dg (ix2 0 k) = ∑ b ∈ Finset.range ((t.val + 1) / 4), tileGain m c k b := by
  rw [show (t.val + 1) / 4 = (t'.val + 1) / 4 + 1 by omega, Finset.sum_range_succ, ← hH.dg, pay5_at]
  refine congrArg (H.dg (ix2 0 k) + ·) (Finset.sum_congr rfl fun p _ => ?_)
  rw [du_next m c t t' h (by omega) H hH, du_all m c t h3, show rw' ((t'.val + 1) / 4) p = row t p from
    (congrArg (rw' · p) (by omega : (t'.val + 1) / 4 = t.val / 4)).trans (row_rw t p).symm]
  unfold gainAt
  rw [blk1, show (fun k => iblk (W3 m) c 1 t (ix2 p k)) = hr m c (row t p) from funext fun k => blk1 m t c p k]

theorem dg_same (n : ℕ) (h : (n + 1) % 4 ≠ 3) (k : Fin 1024) :
    (∑ b ∈ Finset.range ((n + 1) / 4), tileGain m c k b) = ∑ b ∈ Finset.range ((n + 1 + 1) / 4), tileGain m c k b := by
  rw [show (n + 1 + 1) / 4 = (n + 1) / 4 by omega]

theorem held_zero (m : Dev nD → Valuation τ sig (Elt Ideal)) (h : 0 < cfg1.N) : held m c 0 h = step m c ⟨0, h⟩ unheld := rfl
theorem held_succ (m : Dev nD → Valuation τ sig (Elt Ideal)) (n : ℕ) (h : n + 1 < cfg1.N) : held m c (n + 1) h = step m c ⟨n + 1, h⟩ (held m c n (Nat.lt_of_succ_lt h)) := rfl

theorem state : ∀ (n : ℕ) (h : n < cfg1.N), State m c ⟨n, h⟩ (held (W3 m) c n h)
  | 0, h => by
    rw [held_zero, first (W3 m) c ⟨0, h⟩ unheld rfl]
    refine ⟨?_, ?_, ?_⟩ <;> dsimp only
    exacts [ce_at m c ⟨0, h⟩, du_first m c ⟨0, h⟩ (by show 0 % 4 = 0; decide), fun k => (pay8_at _).trans (by show _ = ∑ b ∈ Finset.range ((0 + 1) / 4), _; rw [show (0 + 1) / 4 = 0 from rfl, Finset.sum_range_zero])]
  | n + 1, h => by
    have ih := state n (Nat.lt_of_succ_lt h)
    by_cases h0 : (n + 1) % 4 = 0
    · rw [held_succ, restart (W3 m) c ⟨n + 1, h⟩ (held (W3 m) c n (Nat.lt_of_succ_lt h)) ⟨h0, Nat.succ_ne_zero n⟩]
      refine ⟨?_, ?_, ?_⟩ <;> dsimp only
      exacts [ce_at m c ⟨n + 1, h⟩, du_first m c ⟨n + 1, h⟩ h0, fun k => (ih.dg k).trans (dg_same m c n (by omega) k)]
    have hr : ∀ p, row ⟨n, Nat.lt_of_succ_lt h⟩ p = row ⟨n + 1, h⟩ p := fun p => Fin.ext (by show n / 4 * 512 + p.val = (n + 1) / 4 * 512 + p.val; omega)
    by_cases h3 : (n + 1) % 4 = 3
    · rw [held_succ, close (W3 m) c ⟨n + 1, h⟩ (held (W3 m) c n (Nat.lt_of_succ_lt h)) h3]
      refine ⟨?_, ?_, ?_⟩ <;> dsimp only
      exacts [fun p k => (ih.cp p k).trans (by rw [hr]), du_next m c ⟨n + 1, h⟩ ⟨n, _⟩ rfl h0 _ ih, dg_next m c ⟨n + 1, h⟩ ⟨n, _⟩ rfl h3 _ ih]
    · rw [held_succ, middle (W3 m) c ⟨n + 1, h⟩ (held (W3 m) c n (Nat.lt_of_succ_lt h)) ⟨h0, h3⟩]
      refine ⟨?_, ?_, ?_⟩ <;> dsimp only
      exacts [fun p k => (ih.cp p k).trans (by rw [hr]), du_next m c ⟨n + 1, h⟩ ⟨n, _⟩ rfl h0 _ ih, fun k => (ih.dg k).trans (dg_same m c n (by omega) k)]

/-! ### The outputs after a point -/

/-- What every point stores of its own chunk. -/
theorem held_chunk : ∀ (n : ℕ) (h : n < cfg1.N), ∃ e : Vec Ideal S512x1024 .bf16, (∀ p k, e (ix2 p k) = ae m c (ix2 (row ⟨n, h⟩ p) k))
    ∧ (held (W3 m) c n h).dz = dzOf e (cw (W3 m) c ⟨n, h⟩) (cz (W3 m) c ⟨n, h⟩) ∧ (held (W3 m) c n h).a = k1_pay14 (gz (cz (W3 m) c ⟨n, h⟩)) (uz (cz (W3 m) c ⟨n, h⟩))
  | 0, h => by
    rw [held_zero, first (W3 m) c ⟨0, h⟩ unheld rfl]
    refine ⟨ce (W3 m) c ⟨0, h⟩, ce_at m c ⟨0, h⟩, ?_, ?_⟩ <;> dsimp only
  | n + 1, h => by
    have ih := state m c n (Nat.lt_of_succ_lt h)
    by_cases h0 : (n + 1) % 4 = 0
    · rw [held_succ, restart (W3 m) c ⟨n + 1, h⟩ (held (W3 m) c n (Nat.lt_of_succ_lt h)) ⟨h0, Nat.succ_ne_zero n⟩]
      refine ⟨ce (W3 m) c ⟨n + 1, h⟩, ce_at m c ⟨n + 1, h⟩, ?_, ?_⟩ <;> dsimp only
    have hr : ∀ p, row ⟨n, Nat.lt_of_succ_lt h⟩ p = row ⟨n + 1, h⟩ p := fun p => Fin.ext (by show n / 4 * 512 + p.val = (n + 1) / 4 * 512 + p.val; omega)
    by_cases h3 : (n + 1) % 4 = 3
    · rw [held_succ, close (W3 m) c ⟨n + 1, h⟩ (held (W3 m) c n (Nat.lt_of_succ_lt h)) h3]
      refine ⟨(held (W3 m) c n (Nat.lt_of_succ_lt h)).cp, fun p k => (ih.cp p k).trans (by rw [hr]), ?_, ?_⟩ <;> dsimp only
    · rw [held_succ, middle (W3 m) c ⟨n + 1, h⟩ (held (W3 m) c n (Nat.lt_of_succ_lt h)) ⟨h0, h3⟩]
      refine ⟨(held (W3 m) c n (Nat.lt_of_succ_lt h)).cp, fun p k => (ih.cp p k).trans (by rw [hr]), ?_, ?_⟩ <;> dsimp only

theorem out_dz (t : Fin cfg1.N) (a : Fin 2) (p : Fin 512) (l : Fin 704) : (held (W3 m) c t.val t.isLt).dz (ix4 a 0 p l) = dzAt m c a (chunk t) (row t p) l := by
  obtain ⟨e, he, h, -⟩ := held_chunk m c t.val t.isLt
  rw [h]
  unfold dzAt
  have hd : da (er e p) (wr (cw (W3 m) c t)) l = da (eRow m c (row t p)) (wRow m c (chunk t)) l := by
    rw [show er e p = eRow m c (row t p) from funext fun k => he p k,
      show wr (cw (W3 m) c t) = wRow m c (chunk t) from funext fun l => funext fun k => blk5 m t c l k]
  by_cases ha : a = 0
  · subst ha
    rw [if_pos rfl, ← hd]
    refine (dzOf_at0 e (cw (W3 m) c t) (cz (W3 m) c t) p l).trans (congrArg₂ (dgate _) (blk3 m t c 0 p l) (blk3 m t c 1 p l))
  · obtain rfl : a = 1 := by
      have := a.isLt
      exact Fin.ext (show a.val = 1 by have : a.val ≠ 0 := fun h => ha (Fin.ext h); omega)
    rw [if_neg ha, ← hd]
    exact (dzOf_at1 e (cw (W3 m) c t) (cz (W3 m) c t) p l).trans (congrArg (dupper _) (blk3 m t c 0 p l))

theorem out_a (t : Fin cfg1.N) (p : Fin 512) (l : Fin 704) : (held (W3 m) c t.val t.isLt).a (ix3 0 p l) = aAt m c (chunk t) (row t p) l := by
  obtain ⟨e, -, -, h⟩ := held_chunk m c t.val t.isLt
  rw [h, pay14_at, gz_at, uz_at]
  exact congrArg₂ act (blk3 m t c 0 p l) (blk3 m t c 1 p l)

theorem out_cp (t : Fin cfg1.N) (p : Fin 512) (k : Fin 1024) : (held (W3 m) c t.val t.isLt).cp (ix2 p k) = ae m c (ix2 (row t p) k) := (state m c t.val t.isLt).cp p k

theorem out_dg (t : Fin cfg1.N) (h : t.val = 31) (k : Fin 1024) : (held (W3 m) c t.val t.isLt).dg (ix2 0 k) = ∑ i : Fin 4096, gainAt m c i k := by
  rw [(state m c t.val t.isLt).dg k]
  show ∑ b ∈ Finset.range ((t.val + 1) / 4), _ = _
  rw [h, sum_tiles (show 4096 = 8 * 512 by norm_num), Finset.sum_range]
  refine Finset.sum_congr rfl fun b _ => Finset.sum_congr rfl fun p _ => congrArg (gainAt m c · k) (Fin.ext ?_)
  have hb : b.val < 8 := b.isLt
  exact Nat.mod_eq_of_lt (show b.val * 512 + p.val < 4096 by omega)

theorem out_dhp (t : Fin cfg1.N) (h3 : t.val % 4 = 3) (p : Fin 512) (j : Fin 1024) : (held (W3 m) c t.val t.isLt).dhp (ix2 p j) = dhAt m c (row t p) j := by
  obtain ⟨n, h⟩ := t
  cases n with
  | zero => exact absurd h3 (by show ¬ 0 % 4 = 3; decide)
  | succ n =>
    have ih := state m c n (Nat.lt_of_succ_lt h)
    rw [held_succ, close (W3 m) c ⟨n + 1, h⟩ (held (W3 m) c n (Nat.lt_of_succ_lt h)) h3]
    refine (pay4_at _ _ _ _ p j).trans ?_
    unfold dhAt
    rw [blk0]
    refine congrArg (ae m c _ + ·) ?_
    rw [show (fun k => iblk (W3 m) c 1 ⟨n + 1, h⟩ (ix2 p k)) = hr m c (row ⟨n + 1, h⟩ p) from funext fun k => blk1 m _ c p k]
    refine congrArg (dx _ · j) (funext fun k => ?_)
    rw [blk2, du_next m c ⟨n + 1, h⟩ ⟨n, _⟩ rfl (by rw [h3]; decide) _ ih, du_all m c _ h3]

end Cert.Proof.FfnValue

end
-- ==== Proof.FfnEnd.lean ====
/- `ffn_bwd_x`: the five output arrays after the kernel's last point. -/
module

public import proofs.«01_k».proof.Proof.FfnValue

@[expose] public section

set_option maxRecDepth 16384

noncomputable section

namespace Cert.Proof.FfnEnd

open Idealize.ShloMosaic Idealize.SL.Sem Cert.FfnIdeal Cert.FfnIdeal.Gen Cert.Proof.FfnFrame Cert.Proof.FfnBlocks Cert.Proof.FfnArgs Cert.Proof.FfnLaunch Cert.Proof.FfnValue
open Cert.Proof.FfnFwdValue (aAt)
open Idealize.ShloMosaic.Pipeline (Dat Cfg Window)

variable (m : (ℓ : Loc nD τ sig) → Buf (Elt Ideal) ℓ) (c : Dev nD)

/-- The point of a row's block and a chunk, and the row's place in the block. -/
def point (r : Fin 4096) (s : Fin 4) : Fin cfg1.N := ⟨r.val / 512 * 4 + s.val, by rw [show cfg1.N = 32 from N_1]; omega⟩
def place (r : Fin 4096) : Fin 512 := ⟨r.val % 512, Nat.mod_lt _ (by norm_num)⟩

theorem row_point (r : Fin 4096) (s : Fin 4) : row (point r s) (place r) = r :=
  Fin.ext (show (r.val / 512 * 4 + s.val) / 4 * 512 + r.val % 512 = r.val by omega)
theorem chunk_point (r : Fin 4096) (s : Fin 4) : chunk (point r s) = s := Fin.ext (show (r.val / 512 * 4 + s.val) % 4 = s.val by omega)
theorem point_three (r : Fin 4096) : (point r 3).val % 4 = 3 := by
  show (r.val / 512 * 4 + 3) % 4 = 3
  omega

theorem end_dhp : (dats (W3 m) c).arrAt 6 cfg1.N = fun i : S4096x1024.Idx => dhAt m c (i 0) (i 1) := by
  refine Dat.arrAt_eq_of_cover (dats (W3 m) c) 6 _ (fun t hf => ?_) (fun i => ?_)
  · show (cfg1.win 6).cut (grid1.coords t) ((dats (W3 m) c).after 6 t) = _
    rw [after6]
    funext y
    obtain ⟨p, k, rfl⟩ : ∃ (p : Fin 512) (k : Fin 1024), y = ix2 p k := ⟨y 0, y 1, eq_ix2 y⟩
    rw [View.read_apply, emb6]
    exact out_dhp m c t ((flush1_6 t).mp hf) p k
  · obtain ⟨r, k, rfl⟩ : ∃ (r : Fin 4096) (k : Fin 1024), i = ix2 r k := ⟨i 0, i 1, eq_ix2 i⟩
    have h := View.emb_mem_set ((cfg1.win 6).blk (point r 3)).view (ix2 (place r) k)
    rw [emb6, row_point] at h
    exact ⟨point r 3, (flush1_6 _).mpr (point_three r), h⟩

theorem end_dz : (dats (W3 m) c).arrAt 7 cfg1.N = fun i : S2x4x4096x704.Idx => dzAt m c (i 0) (i 1) (i 2) (i 3) := by
  refine Dat.arrAt_eq_of_cover (dats (W3 m) c) 7 _ (fun t _ => ?_) (fun i => ?_)
  · show (cfg1.win 7).cut (grid1.coords t) ((dats (W3 m) c).after 7 t) = _
    rw [after7]
    funext y
    obtain ⟨a, z, p, l, rfl⟩ : ∃ (a : Fin 2) (z : Fin 1) (p : Fin 512) (l : Fin 704), y = ix4 a z p l := ⟨y 0, y 1, y 2, y 3, eq_ix4 y⟩
    obtain rfl : z = 0 := Subsingleton.elim _ _
    rw [View.read_apply, emb7]
    exact out_dz m c t a p l
  · obtain ⟨a, s, r, l, rfl⟩ : ∃ (a : Fin 2) (s : Fin 4) (r : Fin 4096) (l : Fin 704), i = ix4 a s r l := ⟨i 0, i 1, i 2, i 3, eq_ix4 i⟩
    have h := View.emb_mem_set ((cfg1.win 7).blk (point r s)).view (ix4 a 0 (place r) l)
    rw [emb7, row_point, chunk_point] at h
    exact ⟨point r s, flush1_7 _, h⟩

theorem end_a : (dats (W3 m) c).arrAt 8 cfg1.N = fun i : S4x4096x704.Idx => aAt m c (i 0) (i 1) (i 2) := by
  refine Dat.arrAt_eq_of_cover (dats (W3 m) c) 8 _ (fun t _ => ?_) (fun i => ?_)
  · show (cfg1.win 8).cut (grid1.coords t) ((dats (W3 m) c).after 8 t) = _
    rw [after8]
    funext y
    obtain ⟨z, p, l, rfl⟩ : ∃ (z : Fin 1) (p : Fin 512) (l : Fin 704), y = ix3 z p l := ⟨y 0, y 1, y 2, eq_ix3 y⟩
    obtain rfl : z = 0 := Subsingleton.elim _ _
    rw [View.read_apply, emb8]
    exact out_a m c t p l
  · obtain ⟨s, r, l, rfl⟩ : ∃ (s : Fin 4) (r : Fin 4096) (l : Fin 704), i = ix3 s r l := ⟨i 0, i 1, i 2, eq_ix3 i⟩
    have h := View.emb_mem_set ((cfg1.win 8).blk (point r s)).view (ix3 0 (place r) l)
    rw [emb8, row_point, chunk_point] at h
    exact ⟨point r s, flush1_8 _, h⟩

/-- The last point. -/
def last : Fin cfg1.N := ⟨31, by rw [show cfg1.N = 32 from N_1]; decide⟩

theorem end_gain : (dats (W3 m) c).arrAt 9 cfg1.N = fun i : S1x1024.Idx => ∑ r : Fin 4096, gainAt m c r (i 1) := by
  refine Dat.arrAt_eq_of_cover (dats (W3 m) c) 9 _ (fun t hf => ?_) (fun i => ?_)
  · show (cfg1.win 9).cut (grid1.coords t) ((dats (W3 m) c).after 9 t) = _
    rw [after9]
    funext y
    obtain ⟨z, k, rfl⟩ : ∃ (z : Fin 1) (k : Fin 1024), y = ix2 z k := ⟨y 0, y 1, eq_ix2 y⟩
    obtain rfl : z = 0 := Subsingleton.elim _ _
    rw [View.read_apply, emb9]
    exact out_dg m c t (by have := (flush1_9 t).mp hf; have := lt32 t; omega) k
  · obtain ⟨z, k, rfl⟩ : ∃ (z : Fin 1) (k : Fin 1024), i = ix2 z k := ⟨i 0, i 1, eq_ix2 i⟩
    obtain rfl : z = 0 := Subsingleton.elim _ _
    have h := View.emb_mem_set ((cfg1.win 9).blk last).view (ix2 0 k)
    rw [emb9] at h
    exact ⟨last, (flush1_9 _).mpr rfl, h⟩

theorem end_cp : (dats (W3 m) c).arrAt 10 cfg1.N = fun i : S4096x1024.Idx => ae m c (ix2 (i 0) (i 1)) := by
  refine Dat.arrAt_eq_of_cover (dats (W3 m) c) 10 _ (fun t _ => ?_) (fun i => ?_)
  · show (cfg1.win 10).cut (grid1.coords t) ((dats (W3 m) c).after 10 t) = _
    rw [after10]
    funext y
    obtain ⟨p, k, rfl⟩ : ∃ (p : Fin 512) (k : Fin 1024), y = ix2 p k := ⟨y 0, y 1, eq_ix2 y⟩
    rw [View.read_apply, emb10]
    exact out_cp m c t p k
  · obtain ⟨r, k, rfl⟩ : ∃ (r : Fin 4096) (k : Fin 1024), i = ix2 r k := ⟨i 0, i 1, eq_ix2 i⟩
    have h := View.emb_mem_set ((cfg1.win 10).blk (point r 3)).view (ix2 (place r) k)
    rw [emb10, row_point] at h
    exact ⟨point r 3, (flush1_10 _).mpr (point_three r), h⟩

/-- The run: the outputs of both kernels are these arrays and the arguments are unchanged. -/
theorem run (ρ : Dev nD → PrngReg) : θ_run (defs (F := Ideal)) (onTc (τ := τ) (main (F := Ideal))) ⟨m, fun _ => 0, ρ⟩ fun r => ∀ c : Dev nD,
    r.2.mem ((c.tc : Thread nD τ).loc main_v10_0) = (dats (W3 m) c).arrAt 6 cfg1.N
    ∧ r.2.mem ((c.tc : Thread nD τ).loc main_v10_1) = (dats (W3 m) c).arrAt 7 cfg1.N
    ∧ r.2.mem ((c.tc : Thread nD τ).loc main_v10_2) = (dats (W3 m) c).arrAt 8 cfg1.N
    ∧ r.2.mem ((c.tc : Thread nD τ).loc main_v10_3) = (dats (W3 m) c).arrAt 9 cfg1.N
    ∧ r.2.mem ((c.tc : Thread nD τ).loc main_v10_4) = (dats (W3 m) c).arrAt 10 cfg1.N
    ∧ r.2.mem ((c.tc : Thread nD τ).loc main_v8_0) = (FfnFwdFrame.dats (W1 m) c).arrAt 4 cfg0.N
    ∧ r.2.mem ((c.tc : Thread nD τ).loc main_v8_1) = (FfnFwdFrame.dats (W1 m) c).arrAt 5 cfg0.N
    ∧ r.2.mem ((c.tc : Thread nD τ).loc main_v8_2) = (FfnFwdFrame.dats (W1 m) c).arrAt 6 cfg0.N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun _ h c => ⟨(h.1 c _ (mem_uc _ rfl)).trans (out1 m c 6), (h.1 c _ (mem_uc _ rfl)).trans (out1 m c 7), (h.1 c _ (mem_uc _ rfl)).trans (out1 m c 8),
      (h.1 c _ (mem_uc _ rfl)).trans (out1 m c 9), (h.1 c _ (mem_uc _ rfl)).trans (out1 m c 10),
      (h.1 c _ (mem_uc _ rfl)).trans ((kept3 m c main_v8_0 (by decide)).trans ((kept2 m c main_v8_0 (by decide)).trans (out0 m c 4))),
      (h.1 c _ (mem_uc _ rfl)).trans ((kept3 m c main_v8_1 (by decide)).trans ((kept2 m c main_v8_1 (by decide)).trans (out0 m c 5))),
      (h.1 c _ (mem_uc _ rfl)).trans ((kept3 m c main_v8_2 (by decide)).trans ((kept2 m c main_v8_2 (by decide)).trans (out0 m c 6))),
      (h.1 c _ (mem_uc _ rfl)).trans (kept_arg0 m c), (h.1 c _ (mem_uc _ rfl)).trans (kept_arg1 m c), (h.1 c _ (mem_uc _ rfl)).trans (kept_arg2 m c),
      (h.1 c _ (mem_uc _ rfl)).trans (kept_arg3 m c), (h.1 c _ (mem_uc _ rfl)).trans (kept_arg4 m c)⟩)
    (FfnLaunch.run m ρ)

end Cert.Proof.FfnEnd

end
-- ==== Proof.Finite.lean ====
/- Finite extended reals: sums and products of them are finite, a row divided by its root mean square is, and an array is finite
   where the test for it — every absolute value below infinity — is true. -/
module

public import proofs.«01_k».proof.Proof.RmsLaws
public import Idealize.ShloMosaic.Lib.ReduceAll

@[expose] public section

noncomputable section

namespace Cert.Proof.Finite

open Idealize.ShloMosaic Cert.Proof.Rms

/-- A finite value. -/
def IsReal (x : EReal) : Prop := ∃ r : ℝ, x = (r : EReal)

theorem fin_of (x : EReal) (h : max x (-x) < ⊤) : IsReal x := by
  induction x with
  | bot => simp at h
  | top => simp at h
  | coe r => exact ⟨r, rfl⟩

theorem fin_mul {x y : EReal} : IsReal x → IsReal y → IsReal (x * y)
  | ⟨a, ha⟩, ⟨b, hb⟩ => ⟨a * b, by rw [ha, hb, EReal.coe_mul]⟩

theorem fin_sum {ι : Type*} (s : Finset ι) (f : ι → EReal) (h : ∀ i, IsReal (f i)) : IsReal (∑ i ∈ s, f i) := by
  classical
  induction s using Finset.induction_on with
  | empty => exact ⟨0, by simp⟩
  | insert a s ha ih =>
    obtain ⟨x, hx⟩ := h a
    obtain ⟨y, hy⟩ := ih
    exact ⟨x + y, by rw [Finset.sum_insert ha, hx, hy, EReal.coe_add]⟩

/-- A row's entry times the row's reciprocal root mean square is finite: an infinite entry makes the latter zero. -/
theorem fin_norm (x : Fin 1024 → EReal) (k : Fin 1024) : IsReal (x k * rr x) := by
  by_cases h : ∀ j, IsReal (x j)
  · obtain ⟨r, -, e, -⟩ := root (∑ k, x k * x k) (Finset.sum_nonneg fun k _ => sq_nonneg _)
    exact fin_mul (h k) ⟨r, e⟩
  · obtain ⟨j, hj⟩ := not_forall.mp h
    have hs : x j * x j = ⊤ := by
      cases hx : x j with
      | bot => rfl
      | top => rfl
      | coe r => exact absurd ⟨r, hx⟩ hj
    have ht : ∑ k, x k * x k = ⊤ := top_unique (hs ▸ Finset.single_le_sum (f := fun k => x k * x k) (fun k _ => sq_nonneg _) (Finset.mem_univ j))
    have h0 : rr x = 0 := by
      unfold rr under
      rw [ht, Ideal.div_coe (by norm_num), EReal.top_mul_coe_of_pos (by norm_num), EReal.top_add_coe]
      simp
    exact ⟨0, by rw [h0, mul_zero]; rfl⟩

/-! ### The test -/

theorem cInf : Ideal.ofBits .f32 0x7F800000#32 = ⊤ := by simp [Ideal.ofBits, Ideal.ieee]

/-- The test `all (abs x < inf)` of an array says that its entries are finite. -/
theorem fin_test {s u t : Shape} {axes : List (Fin s.rank)} [Subsingleton t.Idx] (x : FVec Ideal s .f32) (d : Fin u.rank → Fin s.rank) (hb : u.BroadcastsInDim s d)
    (init : u.Idx → BitVec 1) (h : s.ReducesTo axes t) (hu : 0 < u.numel) (j : t.Idx)
    (e : Host.reduce IntOp.andi (cmpf .olt (Host.absf x) (broadcastInDim s d hb (constant u .f32 0x7F800000#32))) init h hu j = 1#1)
    (i : s.Idx) : IsReal (x i) := by
  have e' : Ideal.cmp .olt (max (x i) (-x i)) (Ideal.ofBits .f32 0x7F800000#32) = 1#1 := Host.reduce_andi_all _ _ _ _ j e i
  rw [cInf] at e'
  refine fin_of _ ?_
  by_contra hn
  unfold Ideal.cmp at e'
  dsimp only at e'
  rw [decide_eq_false hn] at e'
  exact absurd e' (by decide)

end Cert.Proof.Finite

end
-- ==== Proof.FfnLaws.lean ====
/- `ffn_bwd_x`: the gate's gradient written in two ways is the same at finite values. -/
module

public import proofs.«01_k».proof.Proof.FfnPoint
public import proofs.«01_k».proof.Proof.Finite

@[expose] public section

noncomputable section

namespace Cert.Proof.FfnLaws

open Idealize.ShloMosaic Cert.Proof.Finite Cert.Proof.FfnPoint

/-- The sigmoid's gradient times a finite value, gathered and spread out. -/
theorem dgate_eq {d g u : EReal} : IsReal d → IsReal g → IsReal u →
    dgate d g u = d * u * Ideal.logistic g + g * (d * u) * (Ideal.logistic g * (((1 : ℝ) : EReal) - Ideal.logistic g))
  | ⟨a, ha⟩, ⟨b, hb⟩, ⟨e, he⟩ => by
    subst ha hb he
    unfold dgate
    rw [Ideal.logistic_coe]
    norm_cast
    ring

end Cert.Proof.FfnLaws

end
-- ==== Proof.FfnRef.lean ====
/- `ffn_fwd` and `ffn_bwd_x`: the reference's results read at an index, and their agreement with what the kernel's outputs hold at the end. -/
module

public import proofs.«01_k».proof.Defs
public import proofs.«01_k».proof.Proof.FfnEnd
public import proofs.«01_k».proof.Proof.FfnLaws
public import proofs.«01_k».proof.Proof.Gen.FfnRefIdeal.Read
public import proofs.«01_k».proof.Proof.Gen.Pre_ffn_finite

@[expose] public section

set_option maxRecDepth 16384

noncomputable section

namespace Cert.Proof.FfnRef

open Idealize.ShloMosaic Idealize.SL.Sem Cert.FfnRefIdeal Cert.FfnRefIdeal.Read Cert.Proof.Rms Cert.Proof.Tiles
open Cert.Proof.FfnPoint Cert.Proof.FfnBlocks Cert.Proof.FfnArgs Cert.Proof.FfnValue Cert.Proof.FfnEnd Cert.Proof.FfnLaws Cert.Proof.Finite
open Cert.FfnIdeal (cfg0 cfg1)
open Cert.Proof.FfnFrame (dats)
open Cert.Proof.FfnLaunch (W1 W3)
open Cert.Proof.FfnFwdValue (uAt aAt outAdd hnAt end_hn end_z end_u)

theorem cOne : Ideal.ofBits .f32 0x3F800000#32 = ((1 : ℝ) : EReal) := by
  simp [Ideal.ofBits, Ideal.ieee, -EReal.coe_mul]; norm_num

variable (m : (ℓ : Loc Cert.FfnIdeal.nD Cert.FfnIdeal.τ Cert.FfnIdeal.sig) → Buf (Elt Ideal) ℓ) (c : Dev Cert.FfnIdeal.nD)

/-! ### The norm and the projection -/

theorem under_at (i : S4096x1.Idx) : val_main_v6 (F := Ideal) (ah m c) i = under (hr m c (i 0)) := by
  have e : ∀ k, val_main_v0 (F := Ideal) (ah m c) (idx_main_v1 (idx_main_v2 i) k) = hr m c (i 0) k * hr m c (i 0) k := fun k => by
    rw [val_main_v0_apply, show idx_main_v1 (idx_main_v2 i) k = ix2 (i 0) k from Shape.idx_ext₂ rfl rfl]; rfl
  rw [val_main_v6_apply, val_main_v4_apply, val_main_v2_apply, val_main_v1_apply, val_main_v3_apply, val_main_v5_apply]
  simp only [e]
  show Ideal.div (Ideal.ofBits .f32 0x00000000#32 + _) (Ideal.ofBits .f32 0x44800000#32) + Ideal.ofBits .f32 0x358637BD#32 = _
  rw [Ideal.ofBits_zero_f32, zero_add, c1024, cEps]
  rfl

theorem rr_at (i : S4096x1.Idx) : val_main_v7 (F := Ideal) (ah m c) i = rr (hr m c (i 0)) := by
  rw [val_main_v7_apply, under_at]; rfl

theorem norm_at (r : Fin 4096) (k : Fin 1024) : val_main_v12 (F := Ideal) (ah m c) (ix2 r k) = hr m c r k * rr (hr m c r) := by
  rw [val_main_v12_apply, val_main_v11_apply, rr_at]; rfl

theorem u_at (r : Fin 4096) (k : Fin 1024) : val_main_v15 (F := Ideal) (ah m c) (ag m c) (ix2 r k) = uAt m c r k := by
  rw [val_main_v15_apply, norm_at, val_main_v14_apply, val_main_v13_apply, show idx_main_v13 (idx_main_v14 (ix2 r k)) = ix1 k from eq_ix1 _]
  rfl

theorem z_at (r : Fin 4096) (q : Fin 5632) : val_main_v16 (F := Ideal) (ah m c) (ag m c) (au m c) (ix2 r q) = zAt m c r q := by
  rw [val_main_v16_apply]
  unfold zAt
  refine Finset.sum_congr rfl fun k _ => congrArg₂ (· * ·) ?_ (congrArg (au m c) (Shape.idx_ext₂ rfl rfl))
  refine (congrArg (val_main_v15 (F := Ideal) (ah m c) (ag m c)) (?_ : _ = ix2 r k)).trans ?_
  · exact Shape.idx_ext₂ rfl rfl
  · exact u_at m c r k

theorem gate_at (r : Fin 4096) (s : Fin 4) (l : Fin 704) :
    val_main_v17 (F := Ideal) (ah m c) (ag m c) (au m c) (ix2 r (inner s l)) = zRow m c 0 s r l := by
  rw [val_main_v17_apply]
  refine (congrArg (val_main_v16 (F := Ideal) (ah m c) (ag m c) (au m c)) (?_ : _ = ix2 r (col 0 s l))).trans (z_at m c _ _)
  refine Shape.idx_ext₂ ?_ ?_
  · show r.val = r.val; rfl
  · show s.val * 704 + l.val = 0 * 2816 + s.val * 704 + l.val; omega

theorem upper_at (r : Fin 4096) (s : Fin 4) (l : Fin 704) :
    val_main_v18 (F := Ideal) (ah m c) (ag m c) (au m c) (ix2 r (inner s l)) = zRow m c 1 s r l := by
  rw [val_main_v18_apply]
  refine (congrArg (val_main_v16 (F := Ideal) (ah m c) (ag m c) (au m c)) (?_ : _ = ix2 r (col 1 s l))).trans (z_at m c _ _)
  exact Shape.idx_ext₂ rfl (by show 2816 + (s.val * 704 + l.val) = 1 * 2816 + s.val * 704 + l.val; omega)

/-! ### The gate and its gradient -/

theorem sig_at (r : Fin 4096) (s : Fin 4) (l : Fin 704) :
    val_main_v19_2 (F := Ideal) (ah m c) (ag m c) (au m c) (ix2 r (inner s l)) = Ideal.logistic (zRow m c 0 s r l) := by
  rw [val_main_v19_2_apply, val_main_call0_v4_apply, val_main_call0_v3_apply, val_main_call0_v2_apply, val_main_call0_v1_apply, val_main_call0_v0_apply, gate_at]
  show Ideal.div (Ideal.ofBits .f32 0x3F800000#32) (Ideal.ofBits .f32 0x3F800000#32 + _) = _
  rw [cOne]
  rfl

theorem swish_at (r : Fin 4096) (s : Fin 4) (l : Fin 704) :
    val_main_v19_0 (F := Ideal) (ah m c) (ag m c) (au m c) (ix2 r (inner s l)) = zRow m c 0 s r l * Ideal.logistic (zRow m c 0 s r l) := by
  rw [val_main_v19_0_apply, gate_at, sig_at]; rfl

theorem act_at (r : Fin 4096) (s : Fin 4) (l : Fin 704) :
    val_main_v20 (F := Ideal) (ah m c) (ag m c) (au m c) (ix2 r (inner s l)) = aAt m c s r l := by
  rw [val_main_v20_apply, swish_at, upper_at]; rfl

theorem da_at (r : Fin 4096) (s : Fin 4) (l : Fin 704) :
    val_main_v24 (F := Ideal) (ae m c) (ad m c) (ix2 r (inner s l)) = da (eRow m c r) (wRow m c s) l := by
  rw [val_main_v24_apply]
  unfold da
  refine Finset.sum_congr rfl fun k _ => congrArg₂ (· * ·) ?_ (congrArg (ad m c) (Shape.idx_ext₂ rfl rfl))
  rw [val_main_v23_apply]
  refine congrArg (ae m c) (Shape.idx_ext₂ ?_ ?_)
  · show (r.val * 1024 + k.val) / 1024 = r.val
    omega
  · show (r.val * 1024 + k.val) % 1024 = k.val
    omega

/-- The finiteness of the inputs that the gate's gradient needs. -/
structure Finite : Prop where
  e : ∀ i, IsReal (ae m c i)
  g : ∀ i, IsReal (ag m c i)
  u : ∀ i, IsReal (au m c i)
  d : ∀ i, IsReal (ad m c i)

variable {m c}

theorem fin_z (H : Finite m c) (i : Fin 4096) (q : Fin 5632) : IsReal (zAt m c i q) :=
  fin_sum _ _ fun k => fin_mul (fin_mul (fin_norm _ k) (H.g _)) (H.u _)

theorem fin_da (H : Finite m c) (i : Fin 4096) (s : Fin 4) (l : Fin 704) : IsReal (da (eRow m c i) (wRow m c s) l) :=
  fin_sum _ _ fun _ => fin_mul (H.e _) (H.d _)

theorem dgate_at (H : Finite m c) (r : Fin 4096) (s : Fin 4) (l : Fin 704) :
    val_main_v27 (F := Ideal) (ae m c) (ah m c) (ag m c) (au m c) (ad m c) (ix2 r (inner s l)) = dzAt m c 0 s r l := by
  rw [val_main_v27_apply, val_main_call1_v1_apply, val_main_call1_v2_apply, val_main_call1_v0_apply, val_main_v26_apply, val_main_v19_1_apply,
    val_main_call0_v7_apply, val_main_call0_v6_apply, sig_at, gate_at, upper_at, da_at]
  unfold dzAt
  rw [if_pos rfl, dgate_eq (fin_da H r s l) (fin_z H r _) (fin_z H r _), ← cOne]
  rfl

theorem dupper_at (r : Fin 4096) (s : Fin 4) (l : Fin 704) :
    val_main_v25 (F := Ideal) (ae m c) (ah m c) (ag m c) (au m c) (ad m c) (ix2 r (inner s l)) = dzAt m c 1 s r l := by
  rw [val_main_v25_apply, swish_at, da_at]
  unfold dzAt
  rw [if_neg (by decide)]
  exact mul_comm _ _

/-- Two matrices of the same width side by side. -/
theorem side (x y : S4096x2816.Idx → EReal) (h : Shape.Concatenates [S4096x2816, S4096x2816] S4096x5632 1) (r : Fin 4096) (a : Fin 2) (s : Fin 4)
    (l : Fin 704) : concatenate S4096x5632 1 [⟨S4096x2816, x⟩, ⟨S4096x2816, y⟩] h (ix2 r (col a s l))
      = if a = 0 then x (ix2 r (inner s l)) else y (ix2 r (inner s l)) := by
  have off : ∀ d : Fin 2, d ≠ 1 → ((ix2 r (inner s l) : S4096x2816.Idx) d).val = ((ix2 r (col a s l) : S4096x5632.Idx) d).val := fun d hd => by
    obtain rfl | rfl : d = 0 ∨ d = 1 := (show ∀ d : Fin 2, d = 0 ∨ d = 1 by decide) d
    · rfl
    · exact absurd rfl hd
  obtain rfl | rfl : a = 0 ∨ a = 1 := (show ∀ a : Fin 2, a = 0 ∨ a = 1 by decide) a
  · rw [if_pos rfl]
    exact concatenate_apply_piece 1 [⟨S4096x2816, x⟩, ⟨S4096x2816, y⟩] h _ 0 (show 0 < 2 by decide) S4096x2816 x rfl rfl
      0 rfl _ off (by show 0 + (s.val * 704 + l.val) = 0 * 2816 + s.val * 704 + l.val; omega)
  · rw [if_neg (by decide)]
    exact concatenate_apply_piece 1 [⟨S4096x2816, x⟩, ⟨S4096x2816, y⟩] h _ 1 (show 1 < 2 by decide) S4096x2816 y rfl rfl
      2816 rfl _ off (by show 2816 + (s.val * 704 + l.val) = 1 * 2816 + s.val * 704 + l.val; omega)

theorem dz_at (H : Finite m c) (r : Fin 4096) (a : Fin 2) (s : Fin 4) (l : Fin 704) :
    val_main_v28 (F := Ideal) (ae m c) (ah m c) (ag m c) (au m c) (ad m c) (ix2 r (col a s l)) = dzAt m c a s r l := by
  unfold val_main_v28
  rw [side, dgate_at H, dupper_at]
  obtain rfl | rfl : a = 0 ∨ a = 1 := (show ∀ a : Fin 2, a = 0 ∨ a = 1 by decide) a
  · rw [if_pos rfl]
  · rw [if_neg (by decide)]

theorem du_at (H : Finite m c) (r : Fin 4096) (k : Fin 1024) :
    val_main_v29 (F := Ideal) (ae m c) (ah m c) (ag m c) (au m c) (ad m c) (ix2 r k) = du m c r k := by
  rw [val_main_v29_apply]
  have e : ∀ q : Fin 5632, val_main_v28 (F := Ideal) (ae m c) (ah m c) (ag m c) (au m c) (ad m c) (lidx_main_v29 (ix2 r k) q) * au m c (ridx_main_v29 (ix2 r k) q)
      = val_main_v28 (F := Ideal) (ae m c) (ah m c) (ag m c) (au m c) (ad m c) (ix2 r q) * au m c (ix2 k q) := fun q => by
    rw [show lidx_main_v29 (ix2 r k) q = ix2 r q from Shape.idx_ext₂ rfl rfl, show ridx_main_v29 (ix2 r k) q = ix2 k q from Shape.idx_ext₂ rfl rfl]
  refine (Finset.sum_congr rfl fun q _ => e q).trans ?_
  have t : ∀ a : Fin 2, (∑ p : Fin 2816, val_main_v28 (F := Ideal) (ae m c) (ah m c) (ag m c) (au m c) (ad m c) (ix2 r ⟨a.val * 2816 + p.val, tile_lt (show 5632 = 2 * 2816 by norm_num) a p⟩)
        * au m c (ix2 k ⟨a.val * 2816 + p.val, tile_lt (show 5632 = 2 * 2816 by norm_num) a p⟩))
      = ∑ s : Fin 4, ∑ l : Fin 704, dzAt m c a s r l * au m c (ix2 k (col a s l)) := fun a => by
    rw [sum_tiles (show 2816 = 4 * 704 by norm_num)]
    refine Finset.sum_congr rfl fun s _ => Finset.sum_congr rfl fun l _ => ?_
    rw [show (⟨a.val * 2816 + (⟨s.val * 704 + l.val, tile_lt (show 2816 = 4 * 704 by norm_num) s l⟩ : Fin 2816).val, _⟩ : Fin 5632) = col a s l from
      Fin.ext (Nat.add_assoc _ _ _).symm, dz_at H]
  rw [sum_tiles (show 5632 = 2 * 2816 by norm_num), Fin.sum_univ_two, t, t, ← Finset.sum_add_distrib]
  rfl

/-! ### The norm's gradient -/

theorem gain_at (H : Finite m c) (i : S1x1024.Idx) : val_main_v57 (F := Ideal) (ae m c) (ah m c) (ag m c) (au m c) (ad m c) i
    = ∑ r : Fin 4096, gainAt m c r (i 1) := by
  have e : ∀ (r : Fin 4096) (j : Fin 1024), val_main_v30 (F := Ideal) (ae m c) (ah m c) (ag m c) (au m c) (ad m c) (ix2 r j) = gainAt m c r j := fun r j => by
    rw [val_main_v30_apply, norm_at, du_at H]
    exact mul_comm _ _
  rw [val_main_v57_apply, val_main_v35_apply, Fin.sum_univ_one, val_main_v32_apply, val_main_v31_apply]
  show Ideal.ofBits .f32 0x00000000#32 + (Ideal.ofBits .f32 0x00000000#32 + _) = _
  rw [Ideal.ofBits_zero_f32, zero_add, zero_add]
  refine Finset.sum_congr rfl fun r _ => (congrArg (val_main_v30 (F := Ideal) (ae m c) (ah m c) (ag m c) (au m c) (ad m c)) (?_ : _ = ix2 r (i 1))).trans (e r (i 1))
  refine Shape.idx_ext₂ rfl ?_
  have h0 : (i 0).val < 1 := (i 0).isLt
  show 0 * 1024 + ((i 0).val * 1024 + (i 1).val) = (i 1).val
  omega

theorem dD_at (H : Finite m c) (r : Fin 4096) (k : Fin 1024) :
    val_main_v34 (F := Ideal) (ae m c) (ah m c) (ag m c) (au m c) (ad m c) (ix2 r k) = du m c r k * ag m c (ix1 k) := by
  rw [val_main_v34_apply, val_main_v33_apply, val_main_v13_apply, du_at H, show idx_main_v13 (idx_main_v33 (ix2 r k)) = ix1 k from eq_ix1 _]
  rfl

theorem thr_at (H : Finite m c) (r : Fin 4096) (j : Fin 1024) :
    val_main_v45 (F := Ideal) (ae m c) (ah m c) (ag m c) (au m c) (ad m c) (ix2 r j) = thr (hr m c r) (fun k => du m c r k * ag m c (ix1 k)) := by
  rw [val_main_v45_apply, val_main_v44_apply, Fin.sum_univ_one, val_main_v43_apply, val_main_v42_apply, val_main_v41_apply, val_main_v38_apply,
    val_main_v37_apply, val_main_v10_apply, val_main_v9_apply, val_main_v8_apply, under_at, rr_at]
  have e : ∀ k, val_main_v36 (F := Ideal) (ae m c) (ah m c) (ag m c) (au m c) (ad m c) (idx_main_v37 (idx_main_v38 (idx_main_v44 (idx_main_v45 (ix2 r j)) 0)) k)
      = hr m c r k * (du m c r k * ag m c (ix1 k)) := fun k => by
    refine (congrArg (val_main_v36 (F := Ideal) (ae m c) (ah m c) (ag m c) (au m c) (ad m c)) (?_ : _ = ix2 r k)).trans ?_
    · exact Shape.idx_ext₂ (by show r.val * 1 + 0 = r.val; omega) rfl
    · rw [val_main_v36_apply, dD_at H]; rfl
  simp only [e]
  show Ideal.ofBits .f32 0x00000000#32 + Ideal.div ((Ideal.ofBits .f32 0x00000000#32 + _) * (Ideal.ofBits .f32 0xBF000000#32
    * Ideal.div (rr (hr m c r)) (under (hr m c r)))) (Ideal.ofBits .f32 0x44800000#32) = _
  rw [Ideal.ofBits_zero_f32, zero_add, zero_add, cNegHalf, c1024]
  rfl

theorem dh_at (H : Finite m c) (r : Fin 4096) (j : Fin 1024) :
    val_main_v50 (F := Ideal) (ae m c) (ah m c) (ag m c) (au m c) (ad m c) (ix2 r j) = dhAt m c r j := by
  unfold dhAt
  rw [dx_eq, val_main_v50_apply, val_main_v49_apply, val_main_v47_apply, val_main_v48_apply, val_main_v46_apply, val_main_v40_apply,
    val_main_v39_apply, rr_at, dD_at H, thr_at H]
  exact add_comm _ _

/-! ### The two programs' results -/

theorem eq_dh (H : Finite m c) : val_main_v50 (F := Ideal) (ae m c) (ah m c) (ag m c) (au m c) (ad m c) = (dats (W3 m) c).arrAt 6 cfg1.N := by
  rw [end_dhp]
  funext i
  obtain ⟨r, k, rfl⟩ : ∃ (r : Fin 4096) (k : Fin 1024), i = ix2 r k := ⟨i 0, i 1, eq_ix2 i⟩
  exact dh_at H r k

/-- The projection's columns, taken apart. -/
theorem unpacked (r : Fin 4096) (a : Fin 2) (s : Fin 4) (l : Fin 704) : idx_main_v51 (idx_main_v52 (ix4 a s r l)) = ix2 r (col a s l) := by
  refine Shape.idx_ext₂ ?_ ?_
  · show (((r.val * 2 + a.val) * 4 + s.val) * 704 + l.val) / 5632 = r.val
    omega
  · show (((r.val * 2 + a.val) * 4 + s.val) * 704 + l.val) % 5632 = a.val * 2816 + s.val * 704 + l.val
    omega

theorem eq_dz (H : Finite m c) : val_main_v53 (F := Ideal) (ae m c) (ah m c) (ag m c) (au m c) (ad m c) = (dats (W3 m) c).arrAt 7 cfg1.N := by
  rw [end_dz]
  funext i
  obtain ⟨a, s, r, l, rfl⟩ : ∃ (a : Fin 2) (s : Fin 4) (r : Fin 4096) (l : Fin 704), i = ix4 a s r l := ⟨i 0, i 1, i 2, i 3, eq_ix4 i⟩
  rw [val_main_v53_apply, val_main_v52_apply, val_main_v51_apply]
  refine (congrArg (val_main_v28 (F := Ideal) (ae m c) (ah m c) (ag m c) (au m c) (ad m c)) (?_ : _ = ix2 r (col a s l))).trans (dz_at H r a s l)
  exact unpacked r a s l

variable (m c) in
theorem eq_a : val_main_v56 (F := Ideal) (ah m c) (ag m c) (au m c) = (dats (W3 m) c).arrAt 8 cfg1.N := by
  rw [end_a]
  funext i
  obtain ⟨s, r, l, rfl⟩ : ∃ (s : Fin 4) (r : Fin 4096) (l : Fin 704), i = ix3 s r l := ⟨i 0, i 1, i 2, eq_ix3 i⟩
  rw [val_main_v56_apply, val_main_v55_apply, val_main_v54_apply]
  refine (congrArg (val_main_v20 (F := Ideal) (ah m c) (ag m c) (au m c)) (?_ : _ = ix2 r (inner s l))).trans (act_at m c r s l)
  refine Shape.idx_ext₂ ?_ ?_
  · show ((r.val * 4 + s.val) * 704 + l.val) / 2816 = r.val
    omega
  · show ((r.val * 4 + s.val) * 704 + l.val) % 2816 = s.val * 704 + l.val
    omega

theorem eq_gain (H : Finite m c) : val_main_v57 (F := Ideal) (ae m c) (ah m c) (ag m c) (au m c) (ad m c) = (dats (W3 m) c).arrAt 9 cfg1.N := by
  rw [end_gain]
  funext i
  exact gain_at H i

variable (m c) in
theorem eq_cp : val_main_v58 (F := Ideal) (ae m c) = (dats (W3 m) c).arrAt 10 cfg1.N := by
  rw [end_cp]
  funext i
  exact congrArg (ae m c) (eq_ix2 i)

variable (m c) in
theorem eq_hn : val_main_v22 (F := Ideal) (ah m c) (ag m c) (au m c) (ad m c) = (FfnFwdFrame.dats (W1 m) c).arrAt 4 cfg0.N := by
  rw [end_hn]
  funext i
  obtain ⟨r, k, rfl⟩ : ∃ (r : Fin 4096) (k : Fin 1024), i = ix2 r k := ⟨i 0, i 1, eq_ix2 i⟩
  rw [val_main_v22_apply, val_main_v21_apply]
  refine congrArg (ah m c (ix2 r k) + ·) ?_
  refine (Finset.sum_congr rfl fun q _ => ?_ : _ = ∑ q : Fin 2816, val_main_v20 (F := Ideal) (ah m c) (ag m c) (au m c) (ix2 r q) * ad m c (ix2 q k)).trans ?_
  · rw [show lidx_main_v21 (ix2 r k) q = ix2 r q from Shape.idx_ext₂ rfl rfl, show ridx_main_v21 (ix2 r k) q = ix2 q k from Shape.idx_ext₂ rfl rfl]
  · rw [sum_tiles (show 2816 = 4 * 704 by norm_num)]
    exact Finset.sum_congr rfl fun s _ => Finset.sum_congr rfl fun l _ => congrArg (· * _) (act_at m c r s l)

variable (m c) in
theorem eq_z : val_main_v61 (F := Ideal) (ah m c) (ag m c) (au m c) = (FfnFwdFrame.dats (W1 m) c).arrAt 5 cfg0.N := by
  rw [end_z]
  funext i
  obtain ⟨a, s, r, l, rfl⟩ : ∃ (a : Fin 2) (s : Fin 4) (r : Fin 4096) (l : Fin 704), i = ix4 a s r l := ⟨i 0, i 1, i 2, i 3, eq_ix4 i⟩
  rw [val_main_v61_apply, val_main_v60_apply, val_main_v59_apply]
  refine (congrArg (val_main_v16 (F := Ideal) (ah m c) (ag m c) (au m c)) (?_ : _ = ix2 r (col a s l))).trans (z_at m c r _)
  exact unpacked r a s l

variable (m c) in
theorem eq_u : val_main_v75 (F := Ideal) (ah m c) (ag m c) = (FfnFwdFrame.dats (W1 m) c).arrAt 6 cfg0.N := by
  rw [end_u, show val_main_v75 (F := Ideal) (ah m c) (ag m c) = val_main_v15 (F := Ideal) (ah m c) (ag m c) from rfl]
  funext i
  obtain ⟨r, k, rfl⟩ : ∃ (r : Fin 4096) (k : Fin 1024), i = ix2 r k := ⟨i 0, i 1, eq_ix2 i⟩
  exact u_at m c r k

/-! ### The precondition -/

variable (m c) in
theorem finite (h : Cert.Pre_FfnIdeal_ffn_finite m) : Finite m c := by
  have e := congrFun (h c) (fun d => d.elim0)
  unfold Cert.Pre_ffn_finite.fn Cert.Pre_ffn_finite.fn_part1 at e
  dsimp only at e
  obtain ⟨e1, eD⟩ := IntOp.andi_eq_one.mp e
  obtain ⟨e2, eU⟩ := IntOp.andi_eq_one.mp e1
  obtain ⟨eE, eG⟩ := IntOp.andi_eq_one.mp e2
  haveI : Subsingleton (Shape.Idx Cert.Pre_ffn_finite.S_) := ⟨fun a b => funext fun d => d.elim0⟩
  exact ⟨fin_test _ _ _ _ _ _ _ eE, fin_test _ _ _ _ _ _ _ eG, fin_test _ _ _ _ _ _ _ eU, fin_test _ _ _ _ _ _ _ eD⟩

theorem frame_ref : Cert.quiescent_FfnRefIdeal := fun m ρ _ =>
  (θ_run Cert.FfnRefIdeal.defs _ _).mono (fun _ h => ⟨fun c => (h c).2.2.2.2.2.2.2.2, sem_eq_zero_of_no_sems rfl _⟩) (Cert.FfnRefIdeal.Value.run m ρ)

theorem algebraic : Cert.algebraic_FfnIdeal_FfnRefIdeal_pre_ffn_finite := by
  intro m ρ m' ρ' hp ha
  refine ⟨_, _, _, _, _, _, _, _, run m ρ, ?_⟩
  refine (θ_run Cert.FfnRefIdeal.defs _ _).mono (fun r h c => ?_) (Cert.FfnRefIdeal.Value.run m' ρ')
  have H := finite m c hp
  obtain ⟨h0, h1, h2, h3, h4, h5, h6, h7, kept⟩ := h c
  obtain ⟨a0, a1, a2, a3, a4⟩ := ha c
  refine ⟨?_, ?_, ?_, ?_, ?_, ?_, ?_, ?_, kept⟩
  · refine (h0.trans (val_main_v50_eq _ _)).trans ?_
    rw [a0, a1, a2, a3, a4]
    exact eq_dh H
  · refine (h1.trans (val_main_v53_eq _ _)).trans ?_
    rw [a0, a1, a2, a3, a4]
    exact eq_dz H
  · refine (h2.trans (val_main_v56_eq _ _ _)).trans ?_
    rw [a1, a2, a3]
    exact eq_a m c
  · refine (h3.trans (val_main_v57_eq _ _)).trans ?_
    rw [a0, a1, a2, a3, a4]
    exact eq_gain H
  · refine (h4.trans (val_main_v58_eq _)).trans ?_
    rw [a0]
    exact eq_cp m c
  · refine (h5.trans (val_main_v22_eq _ _ _ _)).trans ?_
    rw [a1, a2, a3, a4]
    exact eq_hn m c
  · refine (h6.trans (val_main_v61_eq _ _ _)).trans ?_
    rw [a1, a2, a3]
    exact eq_z m c
  · refine (h7.trans (val_main_v75_eq _ _)).trans ?_
    rw [a1, a2]
    exact eq_u m c

end Cert.Proof.FfnRef

end
-- ==== Proof.BMixMath.lean ====
/- The gradient of the second mixer — an RMS norm, then in each of four groups of channels the mean of a trailing window of
   rows less the row itself, a matrix per group and a scale — as formulas in the cotangent `dh`, the mixer's input `h`, the
   norm's gain `ga`, the groups' matrices `W` and the scale `sc`. -/
module

public import proofs.«01_k».proof.Proof.RmsLaws

@[expose] public section

noncomputable section

namespace Cert.Proof.BMix

open Idealize.ShloMosaic Cert.Proof.Rms

/-- Channel `a` of the 256 that start at `b`, and channel `a` of group `g`. -/
def off (b : ℕ) (hb : b + 256 ≤ 1024) (a : Fin 256) : Fin 1024 := ⟨b + a.val, by omega⟩
def col (g : Fin 4) (a : Fin 256) : Fin 1024 := off (g.val * 256) (by omega) a

/-- A channel's group and its place there. -/
def grp (j : Fin 1024) : Fin 4 := ⟨j.val / 256, by omega⟩
def pos (j : Fin 1024) : Fin 256 := ⟨j.val % 256, Nat.mod_lt _ (by norm_num)⟩

theorem col_grp (j : Fin 1024) : col (grp j) (pos j) = j := Fin.ext (by show j.val / 256 * 256 + j.val % 256 = j.val; omega)
theorem grp_col (g : Fin 4) (a : Fin 256) : grp (col g a) = g := Fin.ext (by show (g.val * 256 + a.val) / 256 = g.val; omega)
theorem pos_col (g : Fin 4) (a : Fin 256) : pos (col g a) = a := Fin.ext (by show (g.val * 256 + a.val) % 256 = a.val; omega)

/-- The number of rows in the window of group `g`. -/
def wide (g : Fin 4) : ℕ := 2 ^ (g.val + 1)

variable (dh h : Fin 4096 → Fin 1024 → EReal) (ga : Fin 1024 → EReal) (W : Fin 4 → Fin 256 → Fin 256 → EReal) (sc : Fin 1024 → EReal)

/-- The normalised rows. -/
def u (r : Fin 4096) (j : Fin 1024) : EReal := h r j * rr (h r) * ga j

/-- The normalised rows after 32 rows of zeros. -/
def U (s : ℕ) (j : Fin 1024) : EReal := if e : 32 ≤ s ∧ s < 4128 then u h ga ⟨s - 32, by omega⟩ j else 0

/-- One over the number of rows of a window of `w` rows that ends at row `r`. -/
def inv (w r : ℕ) : EReal := ((1 / (min (r + 1) w : ℕ) : ℝ) : EReal)

/-- The sum over the window of `w` rows that ends at row `r`. -/
def win (w r : ℕ) (j : Fin 1024) : EReal := ∑ i : Fin w, U h ga (32 - i.val + r) j

/-- The window's mean less the row. -/
def mixed (w : ℕ) (g : Fin 4) (r : ℕ) (a : Fin 256) : EReal := win h ga w r (col g a) * inv w r - U h ga (32 + r) (col g a)

/-- The cotangent of a group's product with its matrix, and of the mixed rows. -/
def dY (g : Fin 4) (r : Fin 4096) (b : Fin 256) : EReal := dh r (col g b) * sc (col g b)
def dm (g : Fin 4) (r : Fin 4096) (a : Fin 256) : EReal := ∑ b, dY dh sc g r b * W g a b

/-- The mixed rows' cotangent over the number of rows in the window, with zeros after the last row. -/
def dpad (w : ℕ) (g : Fin 4) (s : ℕ) (a : Fin 256) : EReal := if e : s < 4096 then dm dh W sc g ⟨s, e⟩ a * inv w s else 0

/-- The normalised rows' cotangent: the sum over the windows that hold the row, less the mixed row's own. -/
def duG (w : ℕ) (g : Fin 4) (r : Fin 4096) (a : Fin 256) : EReal := ∑ i : Fin w, dpad dh W sc w g (i.val + r.val) a - dm dh W sc g r a
def du (r : Fin 4096) (j : Fin 1024) : EReal := duG dh W sc (wide (grp j)) (grp j) r (pos j)

/-- The gradient in the mixer's input, with the residual's. -/
def dhp (r : Fin 4096) (j : Fin 1024) : EReal := dh r j + dx (h r) (fun k => du dh W sc r k * ga k) j

/-- One row's share of the gradients of the gain, of the groups' matrices and of the scale. -/
def rowGain (j : Fin 1024) (r : Fin 4096) : EReal := du dh W sc r j * (h r j * rr (h r))
def rowMat (w : ℕ) (g : Fin 4) (a b : Fin 256) (r : Fin 4096) : EReal := mixed h ga w g r.val a * dY dh sc g r b
def rowScale (w : ℕ) (g : Fin 4) (b : Fin 256) (r : Fin 4096) : EReal := dh r (col g b) * ∑ a, mixed h ga w g r.val a * W g a b

end Cert.Proof.BMix

end
-- ==== Proof.BMixPoint.lean ====
/- The second mixer's gradient: the blocks a grid point reads, and the kernel's expressions at an index, as formulas in the
   whole arrays. -/
module

public import proofs.«01_k».proof.Proof.Gen.BMixIdeal.Frame
public import proofs.«01_k».proof.Proof.Whole
public import proofs.«01_k».proof.Proof.Pieces
public import proofs.«01_k».proof.Proof.BMixMath

@[expose] public section

set_option maxRecDepth 16384

noncomputable section

namespace Cert.Proof.BMixPoint

open Idealize.ShloMosaic Idealize.SL.Sem Cert.BMixIdeal Cert.BMixIdeal.Gen Cert.Proof.Whole Cert.Proof.Pieces Cert.Proof.BMix Cert.Proof.Rms
open Idealize.ShloMosaic.Pipeline (Dat Cfg Window)

variable (m : (ℓ : Loc nD τ sig) → Buf (Elt Ideal) ℓ)

theorem ext3 {d : Fin 3 → ℕ} {i j : (⟨3, d⟩ : Shape).Idx} (h0 : (i 0).val = (j 0).val) (h1 : (i 1).val = (j 1).val) (h2 : (i 2).val = (j 2).val) : i = j := by
  funext x
  obtain rfl | rfl | rfl : x = 0 ∨ x = 1 ∨ x = 2 := (show ∀ x : Fin 3, x = 0 ∨ x = 1 ∨ x = 2 by decide) x
  · exact Fin.ext h0
  · exact Fin.ext h1
  · exact Fin.ext h2

/-! ### The blocks of the arguments -/

abbrev a0 (c : Dev nD) : S4096x1024.Idx → EReal := m ((c.tc : Thread nD τ).loc main_arg0)
abbrev a1 (c : Dev nD) : S4096x1024.Idx → EReal := m ((c.tc : Thread nD τ).loc main_arg1)
abbrev a2 (c : Dev nD) : S1024.Idx → EReal := m ((c.tc : Thread nD τ).loc main_arg2)
abbrev a3 (c : Dev nD) : S4x256x256.Idx → EReal := m ((c.tc : Thread nD τ).loc main_arg3)
abbrev a4 (c : Dev nD) : S1024.Idx → EReal := m ((c.tc : Thread nD τ).loc main_arg4)
abbrev dhA (c : Dev nD) : Fin 4096 → Fin 1024 → EReal := fun r k => a0 m c (ix2 r k)
abbrev hA (c : Dev nD) : Fin 4096 → Fin 1024 → EReal := fun r k => a1 m c (ix2 r k)
abbrev gaA (c : Dev nD) : Fin 1024 → EReal := fun k => a2 m c (ix1 k)
abbrev wA (c : Dev nD) : Fin 4 → Fin 256 → Fin 256 → EReal := fun g a b => a3 m c (ix3 g a b)
abbrev scA (c : Dev nD) : Fin 1024 → EReal := fun k => a4 m c (ix1 k)

theorem lt8 (t : Fin cfg0.N) : t.val < 8 := lt_of_lt_of_eq t.isLt (show cfg0.N = 8 from N_0)

/-- Row `p` of block `t` in the whole array, of the 32 rows before it and of the 32 after it; before the first block and after
    the last the rows are the array's own first and last. -/
def row (t : Fin cfg0.N) (p : Fin 512) : Fin 4096 := ⟨t.val * 512 + p.val, by have := lt8 t; omega⟩
def before (t : Fin cfg0.N) (p : Fin 32) : Fin 4096 := ⟨(t.val * 16 - 1) * 32 + p.val, by have := lt8 t; omega⟩
def next (t : Fin cfg0.N) (p : Fin 32) : Fin 4096 := ⟨min ((t.val + 1) * 16) 127 * 32 + p.val, by have := lt8 t; omega⟩

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = min ((t.val + 1) * 16) 127 ∧ win0_1.index t 1 = 0 :=
  (by decide +kernel : ∀ t : Fin grid0.N, win0_1.index t 0 = min ((t.val + 1) * 16) 127 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = t.val * 16 - 1 ∧ win0_3.index t 1 = 0 :=
  (by decide +kernel : ∀ t : Fin grid0.N, win0_3.index t 0 = t.val * 16 - 1 ∧ win0_3.index t 1 = 0)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = 0 ∧ win0_5.index t 1 = 0 ∧ win0_5.index t 2 = 0 :=
  (by decide +kernel : ∀ t : Fin grid0.N, win0_5.index t 0 = 0 ∧ win0_5.index t 1 = 0 ∧ win0_5.index t 2 = 0)
theorem index6 : ∀ t : Fin cfg0.N, win0_6.index t 0 = 0 ∧ win0_6.index t 1 = 0 :=
  (by decide +kernel : ∀ t : Fin grid0.N, win0_6.index t 0 = 0 ∧ win0_6.index t 1 = 0)

theorem blk0 (c : Dev nD) (t : Fin cfg0.N) (p : Fin 512) (k : Fin 1024) : iblk m c 0 t (ix2 p k) = dhA m c (row t p) k := by
  unfold iblk
  rw [View.read_apply]
  show V m c main_arg0 _ = _
  rw [V_main_arg0]
  refine congrArg (a0 m c) (Shape.idx_ext₂ ?_ ?_)
  · refine (Window.rect_emb_val win0_0 t (ix2 p k) 0).trans ?_
    rw [(index0 t).1]; rfl
  · refine (Window.rect_emb_val win0_0 t (ix2 p k) 1).trans ?_
    rw [(index0 t).2]; exact Nat.zero_add _

theorem blk1 (c : Dev nD) (t : Fin cfg0.N) (p : Fin 32) (k : Fin 1024) : iblk m c 1 t (ix2 p k) = dhA m c (next t p) k := by
  unfold iblk
  rw [View.read_apply]
  show V m c main_arg0 _ = _
  rw [V_main_arg0]
  refine congrArg (a0 m c) (Shape.idx_ext₂ ?_ ?_)
  · refine (Window.rect_emb_val win0_1 t (ix2 p k) 0).trans ?_
    rw [(index1 t).1]; rfl
  · refine (Window.rect_emb_val win0_1 t (ix2 p k) 1).trans ?_
    rw [(index1 t).2]; exact Nat.zero_add _

theorem blk2 (c : Dev nD) (t : Fin cfg0.N) (p : Fin 512) (k : Fin 1024) : iblk m c 2 t (ix2 p k) = hA m c (row t p) k := by
  unfold iblk
  rw [View.read_apply]
  show V m c main_arg1 _ = _
  rw [V_main_arg1]
  refine congrArg (a1 m c) (Shape.idx_ext₂ ?_ ?_)
  · refine (Window.rect_emb_val win0_2 t (ix2 p k) 0).trans ?_
    rw [(index2 t).1]; rfl
  · refine (Window.rect_emb_val win0_2 t (ix2 p k) 1).trans ?_
    rw [(index2 t).2]; exact Nat.zero_add _

theorem blk3 (c : Dev nD) (t : Fin cfg0.N) (p : Fin 32) (k : Fin 1024) : iblk m c 3 t (ix2 p k) = hA m c (before t p) k := by
  unfold iblk
  rw [View.read_apply]
  show V m c main_arg1 _ = _
  rw [V_main_arg1]
  refine congrArg (a1 m c) (Shape.idx_ext₂ ?_ ?_)
  · refine (Window.rect_emb_val win0_3 t (ix2 p k) 0).trans ?_
    rw [(index3 t).1]; rfl
  · refine (Window.rect_emb_val win0_3 t (ix2 p k) 1).trans ?_
    rw [(index3 t).2]; exact Nat.zero_add _

theorem gain_at (c : Dev nD) (j : Fin 1024) : V m c main_v5 (ix2 0 j) = gaA m c j := by
  have hV : V m c main_v5 = shapeCast S1x1024 (a2 m c) shapeCasts_S1024_S1x1024 := by
    dsimp only [V]; after_results_simp <;> rfl
  rw [hV]
  pointwise

theorem scale_at (c : Dev nD) (j : Fin 1024) : V m c main_v6 (ix2 0 j) = scA m c j := by
  have hV : V m c main_v6 = shapeCast S1x1024 (a4 m c) shapeCasts_S1024_S1x1024 := by
    dsimp only [V]; after_results_simp <;> rfl
  rw [hV]
  pointwise

theorem mat_at (c : Dev nD) (g : Fin 4) (a b : Fin 256) : V m c main_v4 (ix3 g a b) = wA m c g a b := by
  have hV : V m c main_v4 = shapeCast S4x256x256 (transpose S4x8x32x256 [1, 0, 2, 3] (transpose S8x4x32x256 [1, 0, 2, 3] (shapeCast S4x8x32x256
      (truncf (F := Ideal) .bf16 (a3 m c) bitsLt_bf16_f32) shapeCasts_S4x256x256_S4x8x32x256) transposes_S4x8x32x256_S8x4x32x256_1_0_2_3)
      transposes_S8x4x32x256_S4x8x32x256_1_0_2_3) shapeCasts_S4x8x32x256_S4x256x256 := by
    dsimp only [V]; after_results_simp <;> rfl
  rw [hV]
  pointwise

theorem blk4 (c : Dev nD) (t : Fin cfg0.N) (j : Fin 1024) : iblk m c 4 t (ix2 0 j) = gaA m c j := by
  rw [← gain_at]
  unfold iblk
  rw [View.read_apply]
  refine congrArg (V m c main_v5) (Shape.idx_ext₂ ?_ ?_)
  · refine (Window.rect_emb_val win0_4 t (ix2 (0 : Fin 1) j) 0).trans ?_
    rw [(index4 t).1]; rfl
  · refine (Window.rect_emb_val win0_4 t (ix2 (0 : Fin 1) j) 1).trans ?_
    rw [(index4 t).2]; exact Nat.zero_add _

theorem blk5 (c : Dev nD) (t : Fin cfg0.N) (g : Fin 4) (a b : Fin 256) : iblk m c 5 t (ix3 g a b) = wA m c g a b := by
  rw [← mat_at]
  unfold iblk
  rw [View.read_apply]
  refine congrArg (V m c main_v4) (ext3 ?_ ?_ ?_)
  · refine (Window.rect_emb_val win0_5 t (ix3 g a b) 0).trans ?_
    rw [(index5 t).1]; exact Nat.zero_add _
  · refine (Window.rect_emb_val win0_5 t (ix3 g a b) 1).trans ?_
    rw [(index5 t).2.1]; exact Nat.zero_add _
  · refine (Window.rect_emb_val win0_5 t (ix3 g a b) 2).trans ?_
    rw [(index5 t).2.2]; exact Nat.zero_add _

theorem blk6 (c : Dev nD) (t : Fin cfg0.N) (j : Fin 1024) : iblk m c 6 t (ix2 0 j) = scA m c j := by
  rw [← scale_at]
  unfold iblk
  rw [View.read_apply]
  refine congrArg (V m c main_v6) (Shape.idx_ext₂ ?_ ?_)
  · refine (Window.rect_emb_val win0_6 t (ix2 (0 : Fin 1) j) 0).trans ?_
    rw [(index6 t).1]; rfl
  · refine (Window.rect_emb_val win0_6 t (ix2 (0 : Fin 1) j) 1).trans ?_
    rw [(index6 t).2]; exact Nat.zero_add _

/-! ### Loads of a group's columns -/

theorem ld_dh (c : Dev nD) (t : Fin cfg0.N) (b : ℕ) (inb) (p : Fin 512) (a : Fin 256) :
    View.ld (iblk m c 0 t) (Rect.unit (s := S512x1024) ![0, b] ![512, 256] inb) (ix2 p a) = dhA m c (row t p) (off b (inb 1) a) :=
  (ld_hit inb _ p a (ix2 p (off b (inb 1) a)) (Nat.zero_add _).symm rfl).trans (blk0 m c t p _)

theorem ld_next (c : Dev nD) (t : Fin cfg0.N) (b : ℕ) (inb) (p : Fin 32) (a : Fin 256) :
    View.ld (iblk m c 1 t) (Rect.unit (s := S32x1024) ![0, b] ![32, 256] inb) (ix2 p a) = dhA m c (next t p) (off b (inb 1) a) :=
  (ld_hit inb _ p a (ix2 p (off b (inb 1) a)) (Nat.zero_add _).symm rfl).trans (blk1 m c t p _)

theorem ld_scale (c : Dev nD) (t : Fin cfg0.N) (b : ℕ) (inb) (a : Fin 256) :
    View.ld (iblk m c 6 t) (Rect.unit (s := S1x1024) ![0, b] ![1, 256] inb) (ix2 0 a) = scA m c (off b (inb 1) a) :=
  (ld_hit inb _ (0 : Fin 1) a (ix2 (0 : Fin 1) (off b (inb 1) a)) (Nat.zero_add _).symm rfl).trans (blk6 m c t _)

theorem ld_group {e : EltTy} (X : S4x256x256.Idx → Elt Ideal e) (g : ℕ) (inb) (a b : Fin 256) :
    View.ld X (Rect.unit (s := S4x256x256) ![g, 0, 0] ![1, 256, 256] inb) (ix3 0 a b) = X (ix3 ⟨g, inb 0⟩ a b) := by
  refine congrArg X (ext3 ?_ ?_ ?_)
  · show g + 1 * 0 = g
    omega
  · show 0 + 1 * a.val = a.val
    omega
  · show 0 + 1 * b.val = b.val
    omega

theorem ld_mat (c : Dev nD) (t : Fin cfg0.N) (g : ℕ) (inb) (a b : Fin 256) :
    View.ld (iblk m c 5 t) (Rect.unit (s := S4x256x256) ![g, 0, 0] ![1, 256, 256] inb) (ix3 0 a b) = wA m c ⟨g, inb 0⟩ a b :=
  (ld_group _ g inb a b).trans (blk5 m c t _ a b)

/-! ### The kernel's expressions at an index -/

theorem coords0 : ∀ t : Fin cfg0.N, (grid0.coords t 0).val = t.val := (by decide +kernel : ∀ t : Fin grid0.N, (grid0.coords t 0).val = t.val)

theorem first_iff (t : Fin cfg0.N) : Scalar.cmpi .eq (BitVec.ofNat 32 (grid0.coords t 0).val) 0#32 = 1#1 ↔ t.val = 0 := by
  rw [coords0]
  have h := lt8 t
  generalize t.val = n at h
  interval_cases n <;> decide

theorem last_iff (t : Fin cfg0.N) : Scalar.cmpi .eq (BitVec.ofNat 32 (grid0.coords t 0).val) 7#32 = 1#1 ↔ t.val = 7 := by
  rw [coords0]
  have h := lt8 t
  generalize t.val = n at h
  interval_cases n <;> decide

theorem pay7_at (t : Fin cfg0.N) (g : Vec Ideal S1x1024 .f32) (x : Vec Ideal S32x1024 .f32) (p : Fin 32) (j : Fin 1024) :
    k0_pay7 (grid0.coords t) g x (ix2 p j) = if t.val = 0 then 0 else x (ix2 p j) * rr (fun k => x (ix2 p k)) * g (ix2 0 j) := by
  simp only [← first_iff]
  unfold rr under
  rw [← c1024, ← cEps]
  pointwise [k0_pay7, k0_pay6]
  rfl

theorem pay9_at (g : Vec Ideal S1x1024 .f32) (x : Vec Ideal S512x1024 .f32) (p : Fin 512) (j : Fin 1024) :
    k0_pay9 (k0_pay8 g x) (ix2 p j) = x (ix2 p j) * rr (fun k => x (ix2 p k)) * g (ix2 0 j) := by
  unfold rr under
  rw [← c1024, ← cEps]
  pointwise [k0_pay9, k0_pay8, k0_pay6]

/-- One over the number of a window's rows, from the row's number as the kernel counts it. -/
theorem inv_of (t : Fin cfg0.N) (p : Fin 512) (w : ℕ) (hw : w = 2 ∨ w = 4 ∨ w = 8 ∨ w = 16) :
    Ideal.div 1 (FloatOps.sitofp (F := Ideal) FTy.f32 (IntOp.minsi (IntOp.addi (IntOp.addi (Scalar.muli (BitVec.ofNat 32 (grid0.coords t 0).val) 512#32)
      (BitVec.ofNat 32 p.val)) 1#32) (BitVec.ofNat 32 w))) = inv w (row t p).val := by
  have e : ∀ (w : ℕ), w = 2 ∨ w = 4 ∨ w = 8 ∨ w = 16 → ∀ (t : Fin 8) (p : Fin 512),
      (IntOp.minsi (IntOp.addi (IntOp.addi (Scalar.muli (BitVec.ofNat 32 t.val) 512#32) (BitVec.ofNat 32 p.val)) 1#32) (BitVec.ofNat 32 w)).toInt
        = ((min (t.val * 512 + p.val + 1) w : ℕ) : ℤ) := by
    rintro w (rfl | rfl | rfl | rfl) <;> decide +kernel
  rw [coords0]
  show Ideal.div 1 (((_ : ℤ) : ℝ) : EReal) = _
  rw [e w hw ⟨t.val, lt8 t⟩ p, Ideal.div_coe, one_mul]
  · rfl
  · have : 0 < min (t.val * 512 + p.val + 1) w := by omega
    exact_mod_cast this.ne'

theorem pay10_at (t : Fin cfg0.N) (p : Fin 512) : k0_pay10 (F := Ideal) (BitVec.ofNat 32 (grid0.coords t 0).val) (ix2 p 0) = inv 2 (row t p).val := by
  rw [← inv_of t p 2 (by omega)]
  pointwise [k0_pay10]

theorem pay20_at (t : Fin cfg0.N) (p : Fin 512) : k0_pay20 (F := Ideal) (BitVec.ofNat 32 (grid0.coords t 0).val) (ix2 p 0) = inv 4 (row t p).val := by
  rw [← inv_of t p 4 (by omega)]
  pointwise [k0_pay20]

theorem pay32_at (t : Fin cfg0.N) (p : Fin 512) : k0_pay32 (F := Ideal) (BitVec.ofNat 32 (grid0.coords t 0).val) (ix2 p 0) = inv 8 (row t p).val := by
  rw [← inv_of t p 8 (by omega)]
  pointwise [k0_pay32]

theorem pay41_at (t : Fin cfg0.N) (p : Fin 512) : k0_pay41 (F := Ideal) (BitVec.ofNat 32 (grid0.coords t 0).val) (ix2 p 0) = inv 16 (row t p).val := by
  rw [← inv_of t p 16 (by omega)]
  pointwise [k0_pay41]

/-! A group's mixed rows, from its window's loads. -/

theorem pay11_at (n : BitVec 32) (x0 x1 : Vec Ideal S512x256 .f32) (p : Fin 512) (j : Fin 256) :
    k0_pay11 n x0 x1 (ix2 p j) = (x0 (ix2 p j) + x1 (ix2 p j)) * k0_pay10 (F := Ideal) n (ix2 p 0) - x0 (ix2 p j) := by
  pointwise [k0_pay11]

theorem pay21_at (n : BitVec 32) (x0 x1 x2 x3 : Vec Ideal S512x256 .f32) (p : Fin 512) (j : Fin 256) :
    k0_pay21 n x0 x1 x2 x3 (ix2 p j) = (x0 (ix2 p j) + x1 (ix2 p j) + x2 (ix2 p j) + x3 (ix2 p j)) * k0_pay20 (F := Ideal) n (ix2 p 0) - x0 (ix2 p j) := by
  pointwise [k0_pay21]

theorem pay33_at (n : FVec Ideal S512x1 .f32) (x0 x1 x2 x3 x4 x5 x6 x7 : Vec Ideal S512x256 .f32) (p : Fin 512) (j : Fin 256) :
    k0_pay33 n x0 x1 x2 x3 x4 x5 x6 x7 (ix2 p j) = (x0 (ix2 p j) + x1 (ix2 p j) + x2 (ix2 p j) + x3 (ix2 p j) + x4 (ix2 p j) + x5 (ix2 p j) + x6 (ix2 p j)
      + x7 (ix2 p j)) * n (ix2 p 0) - x0 (ix2 p j) := by
  pointwise [k0_pay33]

theorem pay43_at (n : FVec Ideal S512x1 .f32) (x0 x1 x2 x3 x4 x5 x6 x7 x8 x9 x10 x11 x12 x13 x14 x15 : Vec Ideal S512x256 .f32) (p : Fin 512) (j : Fin 256) :
    k0_pay43 n x0 (k0_pay42 x0 x1) x2 x3 x4 x5 x6 x7 x8 x9 x10 x11 x12 x13 x14 x15 (ix2 p j) = (x0 (ix2 p j) + x1 (ix2 p j) + x2 (ix2 p j) + x3 (ix2 p j)
      + x4 (ix2 p j) + x5 (ix2 p j) + x6 (ix2 p j) + x7 (ix2 p j) + x8 (ix2 p j) + x9 (ix2 p j) + x10 (ix2 p j) + x11 (ix2 p j) + x12 (ix2 p j) + x13 (ix2 p j)
      + x14 (ix2 p j) + x15 (ix2 p j)) * n (ix2 p 0) - x0 (ix2 p j) := by
  pointwise [k0_pay43, k0_pay42]

/-! The scale's gradient, from a group's mixed rows `x`, the cotangent `d`, the old contents `o` and the matrix `w`. -/

theorem pay23_at (x : FVec Ideal S512x256 .bf16) (d : Vec Ideal S512x256 .f32) (o : Vec Ideal S1x256 .f32) (w : Vec Ideal S1x256x256 .bf16) (j : Fin 256) :
    k0_pay23 x d (k0_pay22 o) w (ix2 0 j) = o (ix2 0 j) + ∑ p : Fin 512, d (ix2 p j) * ∑ a, x (ix2 p a) * w (ix3 0 a j) := by
  pointwise [k0_pay23, k0_pay22]

theorem pay12_at (n : BitVec 32) (x0 x1 d : Vec Ideal S512x256 .f32) (o : Vec Ideal S1x256 .f32) (w : Vec Ideal S1x256x256 .bf16) (j : Fin 256) :
    k0_pay12 n x0 x1 d o w (ix2 0 j) = o (ix2 0 j) + ∑ p : Fin 512, d (ix2 p j) * ∑ a, k0_pay11 n x0 x1 (ix2 p a) * w (ix3 0 a j) :=
  pay23_at (k0_pay11 n x0 x1) d o w j

theorem pay34_at (n : FVec Ideal S512x1 .f32) (x0 x1 x2 x3 x4 x5 x6 x7 d : Vec Ideal S512x256 .f32) (o : Vec Ideal S1x256 .f32) (w : Vec Ideal S1x256x256 .bf16) (j : Fin 256) :
    k0_pay34 n x0 x1 x2 x3 x4 x5 x6 x7 d o w (ix2 0 j) = o (ix2 0 j) + ∑ p : Fin 512, d (ix2 p j) * ∑ a, k0_pay33 n x0 x1 x2 x3 x4 x5 x6 x7 (ix2 p a) * w (ix3 0 a j) :=
  pay23_at (k0_pay33 n x0 x1 x2 x3 x4 x5 x6 x7) d o w j

theorem pay44_at (x : FVec Ideal S512x256 .bf16) (d : Vec Ideal S512x256 .f32) (o : Vec Ideal S1x256 .f32) (w : Vec Ideal S1x256x256 .bf16) (j : Fin 256) :
    k0_pay44 x d o w (ix2 0 j) = o (ix2 0 j) + ∑ p : Fin 512, d (ix2 p j) * ∑ a, x (ix2 p a) * w (ix3 0 a j) :=
  pay23_at x d o w j

/-! A matrix's gradient, from a group's mixed rows `x`, the cotangent `d`, the scale `s` and the old contents `o`. -/

theorem pay25_at (x : FVec Ideal S512x256 .bf16) (d : Vec Ideal S512x256 .f32) (s : Vec Ideal S1x256 .f32) (o : Vec Ideal S1x256x256 .f32) (a b : Fin 256) :
    k0_pay25 x d s o (ix3 0 a b) = o (ix3 0 a b) + ∑ p : Fin 512, x (ix2 p a) * (d (ix2 p b) * s (ix2 0 b)) := by
  pointwise [k0_pay25, k0_pay24]

theorem pay15_at (x : FVec Ideal S512x256 .bf16) (d : Vec Ideal S512x256 .f32) (s : Vec Ideal S1x256 .f32) (o : Vec Ideal S1x256x256 .f32) (a b : Fin 256) :
    k0_pay15 x d (k0_pay13 s) o (ix3 0 a b) = o (ix3 0 a b) + ∑ p : Fin 512, x (ix2 p a) * (d (ix2 p b) * s (ix2 0 b)) :=
  pay25_at x d s o a b

theorem pay36_at (x : FVec Ideal S512x256 .bf16) (d : Vec Ideal S512x256 .f32) (s : Vec Ideal S1x256 .f32) (o : Vec Ideal S1x256x256 .f32) (a b : Fin 256) :
    k0_pay36 x (k0_pay35 d s) o (ix3 0 a b) = o (ix3 0 a b) + ∑ p : Fin 512, x (ix2 p a) * (d (ix2 p b) * s (ix2 0 b)) :=
  pay25_at x d s o a b

theorem pay46_at (x : FVec Ideal S512x256 .bf16) (d : Vec Ideal S512x256 .f32) (s : Vec Ideal S1x256 .f32) (o : Vec Ideal S1x256x256 .f32) (a b : Fin 256) :
    k0_pay46 x d s o (ix3 0 a b) = o (ix3 0 a b) + ∑ p : Fin 512, x (ix2 p a) * (d (ix2 p b) * s (ix2 0 b)) :=
  pay25_at x d s o a b

/-! The mixed rows' cotangent, and the same over the number of the window's rows. -/

theorem pay26_at (d : Vec Ideal S512x256 .f32) (s : Vec Ideal S1x256 .f32) (w : Vec Ideal S1x256x256 .bf16) (p : Fin 512) (a : Fin 256) :
    k0_pay26 d s w (ix2 p a) = ∑ b, d (ix2 p b) * s (ix2 0 b) * w (ix3 0 a b) := by
  pointwise [k0_pay26, k0_pay24]

theorem pay16_eq (d : Vec Ideal S512x256 .f32) (s : Vec Ideal S1x256 .f32) (w : Vec Ideal S1x256x256 .bf16) : k0_pay16 d (k0_pay13 s) w = k0_pay26 d s w := rfl
theorem pay37_eq (d : Vec Ideal S512x256 .f32) (s : Vec Ideal S1x256 .f32) (w : Vec Ideal S1x256x256 .bf16) : k0_pay37 (k0_pay35 d s) w = k0_pay26 d s w := rfl
theorem pay47_eq (d : Vec Ideal S512x256 .f32) (s : Vec Ideal S1x256 .f32) (w : Vec Ideal S1x256x256 .bf16) : k0_pay47 d s w = k0_pay26 d s w := rfl

theorem pay29_at (n : FVec Ideal S512x1 .f32) (d : Vec Ideal S512x256 .f32) (s : Vec Ideal S1x256 .f32) (w : Vec Ideal S1x256x256 .bf16) (p : Fin 512) (a : Fin 256) :
    k0_pay29 (k0_pay28 n d s w) (ix2 p a) = k0_pay26 d s w (ix2 p a) * n (ix2 p 0) := by
  pointwise [k0_pay29, k0_pay28]

theorem pay27_at (d : Vec Ideal S32x256 .f32) (s : Vec Ideal S1x256 .f32) (w : Vec Ideal S1x256x256 .bf16) (p : Fin 32) (a : Fin 256) :
    k0_pay27 d s w (ix2 p a) = ∑ b, d (ix2 p b) * s (ix2 0 b) * w (ix3 0 a b) := by
  pointwise [k0_pay27]

theorem cQuarter : Ideal.ofBits .f32 0x3E800000#32 = ((1 / 4 : ℝ) : EReal) := by
  simp [Ideal.ofBits, Ideal.ieee, -EReal.coe_mul]; norm_num
theorem cEighth : Ideal.ofBits .f32 0x3E000000#32 = ((1 / 8 : ℝ) : EReal) := by
  simp [Ideal.ofBits, Ideal.ieee, -EReal.coe_mul]; norm_num
theorem cSixteenth : Ideal.ofBits .f32 0x3D800000#32 = ((1 / 16 : ℝ) : EReal) := by
  simp [Ideal.ofBits, Ideal.ieee, -EReal.coe_mul]; norm_num

theorem pay18_at (t : Fin cfg0.N) (d : Vec Ideal S32x256 .f32) (s : Vec Ideal S1x256 .f32) (w : Vec Ideal S1x256x256 .bf16) (p : Fin 32) (a : Fin 256) :
    k0_pay18 (Scalar.cmpi .eq (BitVec.ofNat 32 (grid0.coords t 0).val) 7#32) d s w (ix2 p a)
      = if t.val = 7 then 0 else k0_pay27 d s w (ix2 p a) * ((1 / 2 : ℝ) : EReal) := by
  simp only [← last_iff, pay27_at]
  rw [← cHalf]
  pointwise [k0_pay18]
  rfl

theorem pay30_at (t : Fin cfg0.N) (d : Vec Ideal S32x256 .f32) (s : Vec Ideal S1x256 .f32) (w : Vec Ideal S1x256x256 .bf16) (p : Fin 32) (a : Fin 256) :
    k0_pay30 (Scalar.cmpi .eq (BitVec.ofNat 32 (grid0.coords t 0).val) 7#32) (k0_pay27 d s w) (ix2 p a)
      = if t.val = 7 then 0 else k0_pay27 d s w (ix2 p a) * ((1 / 4 : ℝ) : EReal) := by
  simp only [← last_iff]
  rw [← cQuarter]
  pointwise [k0_pay30]
  rfl

theorem pay39_at (t : Fin cfg0.N) (d : Vec Ideal S32x256 .f32) (s : Vec Ideal S1x256 .f32) (w : Vec Ideal S1x256x256 .bf16) (p : Fin 32) (a : Fin 256) :
    k0_pay39 (Scalar.cmpi .eq (BitVec.ofNat 32 (grid0.coords t 0).val) 7#32) d s w (ix2 p a)
      = if t.val = 7 then 0 else k0_pay27 d s w (ix2 p a) * ((1 / 8 : ℝ) : EReal) := by
  simp only [← last_iff, pay27_at]
  rw [← cEighth]
  pointwise [k0_pay39]
  rfl

theorem pay50_at (t : Fin cfg0.N) (d : Vec Ideal S32x256 .f32) (s : Vec Ideal S1x256 .f32) (w : Vec Ideal S1x256x256 .bf16) (p : Fin 32) (a : Fin 256) :
    k0_pay50 (Scalar.cmpi .eq (BitVec.ofNat 32 (grid0.coords t 0).val) 7#32) (k0_pay48 d s) w (ix2 p a)
      = if t.val = 7 then 0 else k0_pay27 d s w (ix2 p a) * ((1 / 16 : ℝ) : EReal) := by
  simp only [← last_iff, pay27_at]
  rw [← cSixteenth]
  pointwise [k0_pay50, k0_pay48]
  rfl

/-! A group's part of the normalised rows' cotangent, from the loads of its windows and the mixed rows' cotangent `d`. -/

theorem pay19_at (d x0 x1 : Vec Ideal S512x256 .f32) (p : Fin 512) (a : Fin 256) :
    k0_pay19 d x0 x1 (ix2 p a) = x0 (ix2 p a) + x1 (ix2 p a) - d (ix2 p a) := by
  pointwise [k0_pay19]

theorem pay31_at (d x0 x1 x2 x3 : Vec Ideal S512x256 .f32) (p : Fin 512) (a : Fin 256) :
    k0_pay31 d x0 x1 x2 x3 (ix2 p a) = x0 (ix2 p a) + x1 (ix2 p a) + x2 (ix2 p a) + x3 (ix2 p a) - d (ix2 p a) := by
  pointwise [k0_pay31]

theorem pay40_at (d x0 x1 x2 x3 x4 x5 x6 x7 : Vec Ideal S512x256 .f32) (p : Fin 512) (a : Fin 256) :
    k0_pay40 d x0 x1 x2 x3 x4 x5 x6 x7 (ix2 p a) = x0 (ix2 p a) + x1 (ix2 p a) + x2 (ix2 p a) + x3 (ix2 p a) + x4 (ix2 p a) + x5 (ix2 p a) + x6 (ix2 p a)
      + x7 (ix2 p a) - d (ix2 p a) := by
  pointwise [k0_pay40]

theorem pay52_at (d x0 x1 x2 x3 x4 x5 x6 x7 x8 x9 x10 x11 x12 x13 x14 x15 : Vec Ideal S512x256 .f32) (p : Fin 512) (a : Fin 256) :
    k0_pay52 d (k0_pay51 x0 x1 x2 x3 x4 x5 x6 x7) x8 x9 x10 x11 x12 x13 x14 x15 (ix2 p a) = x0 (ix2 p a) + x1 (ix2 p a) + x2 (ix2 p a) + x3 (ix2 p a)
      + x4 (ix2 p a) + x5 (ix2 p a) + x6 (ix2 p a) + x7 (ix2 p a) + x8 (ix2 p a) + x9 (ix2 p a) + x10 (ix2 p a) + x11 (ix2 p a) + x12 (ix2 p a) + x13 (ix2 p a)
      + x14 (ix2 p a) + x15 (ix2 p a) - d (ix2 p a) := by
  pointwise [k0_pay52, k0_pay51]

theorem pay1_at (g : Vec Ideal S1x1024 .f32) (d x e : Vec Ideal S512x1024 .f32) (p : Fin 512) (j : Fin 1024) :
    k0_pay1 (k0_pay6 g) d (k0_pay53 x) (k0_pay54 x) e (ix2 p j)
      = e (ix2 p j) + dx (fun k => x (ix2 p k)) (fun k => d (ix2 p k) * g (ix2 0 k)) j := by
  unfold dx rr under
  rw [← c1024, ← cEps]
  pointwise [k0_pay1, k0_pay6, k0_pay53, k0_pay54]

theorem pay2_at (d x : Vec Ideal S512x1024 .f32) (o : Vec Ideal S1x1024 .f32) (j : Fin 1024) :
    k0_pay2 (k0_pay55 x d) o (ix2 0 j) = o (ix2 0 j) + ∑ p : Fin 512, d (ix2 p j) * (x (ix2 p j) * rr (fun k => x (ix2 p k))) := by
  unfold rr under
  rw [← c1024, ← cEps]
  pointwise [k0_pay2, k0_pay55, k0_pay53, k0_pay54]

theorem zero3 (i : S1x1024.Idx) : k0_pay3 (F := Ideal) i = 0 := by pointwise [k0_pay3]
theorem zero4 (i : S4x256x256.Idx) : k0_pay4 (F := Ideal) i = 0 := by pointwise [k0_pay4]
theorem zero5 (i : S1x1024.Idx) : k0_pay5 (F := Ideal) i = 0 := by pointwise [k0_pay5]

end Cert.Proof.BMixPoint

end
-- ==== Proof.BMixBlocks.lean ====
/- The second mixer's gradient: the padded blocks of a grid point and the values built from them, as formulas in the whole
   arrays. -/
module

public import proofs.«01_k».proof.Proof.BMixPoint

@[expose] public section

set_option maxRecDepth 16384

noncomputable section

namespace Cert.Proof.BMixBlocks

open Idealize.ShloMosaic Idealize.SL.Sem Cert.BMixIdeal Cert.BMixIdeal.Gen Cert.Proof.Whole Cert.Proof.Pieces Cert.Proof.BMix Cert.Proof.BMixPoint Cert.Proof.Rms

variable (m : (ℓ : Loc nD τ sig) → Buf (Elt Ideal) ℓ)

theorem sum4 (f : Fin 4 → EReal) : ∑ i, f i = f 0 + f 1 + f 2 + f 3 := by
  simp only [Fin.sum_univ_castSucc, Fin.sum_univ_zero, zero_add]; rfl
theorem sum8 (f : Fin 8 → EReal) : ∑ i, f i = f 0 + f 1 + f 2 + f 3 + f 4 + f 5 + f 6 + f 7 := by
  simp only [Fin.sum_univ_castSucc, Fin.sum_univ_zero, zero_add]; rfl
theorem sum16 (f : Fin 16 → EReal) : ∑ i, f i = f 0 + f 1 + f 2 + f 3 + f 4 + f 5 + f 6 + f 7 + f 8 + f 9 + f 10 + f 11 + f 12 + f 13 + f 14 + f 15 := by
  simp only [Fin.sum_univ_castSucc, Fin.sum_univ_zero, zero_add]; rfl

/-! ### Loads of a group's columns -/

abbrev dhl (c : Dev nD) (t : Fin cfg0.N) (b : ℕ) (inb : ∀ x, (![0, b] : Fin 2 → ℕ) x + (![512, 256] : Fin 2 → ℕ) x ≤ S512x1024.size x := by decide) : Vec Ideal S512x256 .f32 := View.ld (iblk m c 0 t) (Rect.unit (s := S512x1024) ![0, b] ![512, 256] inb)
abbrev nxl (c : Dev nD) (t : Fin cfg0.N) (b : ℕ) (inb : ∀ x, (![0, b] : Fin 2 → ℕ) x + (![32, 256] : Fin 2 → ℕ) x ≤ S32x1024.size x := by decide) : Vec Ideal S32x256 .f32 := View.ld (iblk m c 1 t) (Rect.unit (s := S32x1024) ![0, b] ![32, 256] inb)
abbrev scl (c : Dev nD) (t : Fin cfg0.N) (b : ℕ) (inb : ∀ x, (![0, b] : Fin 2 → ℕ) x + (![1, 256] : Fin 2 → ℕ) x ≤ S1x1024.size x := by decide) : Vec Ideal S1x256 .f32 := View.ld (iblk m c 6 t) (Rect.unit (s := S1x1024) ![0, b] ![1, 256] inb)
abbrev mtl (c : Dev nD) (t : Fin cfg0.N) (g : ℕ) (inb : ∀ x, (![g, 0, 0] : Fin 3 → ℕ) x + (![1, 256, 256] : Fin 3 → ℕ) x ≤ S4x256x256.size x := by decide) : Vec Ideal S1x256x256 .bf16 := View.ld (iblk m c 5 t) (Rect.unit (s := S4x256x256) ![g, 0, 0] ![1, 256, 256] inb)

/-! ### The normalised rows, from 32 rows before the block -/

abbrev pad (c : Dev nD) (t : Fin cfg0.N) : Vec Ideal S544x1024 .f32 :=
  View.canon [⟨Rect.unit (s := S544x1024) ![32, 0] ![512, 1024] inb_S544x1024_S512x1024_32_0, k0_pay9 (k0_pay8 (iblk m c 4 t) (iblk m c 2 t))⟩,
    ⟨Rect.unit (s := S544x1024) ![0, 0] ![32, 1024] inb_S544x1024_S32x1024_0_0, k0_pay7 (grid0.coords t) (iblk m c 4 t) (iblk m c 3 t)⟩]

theorem pad_eq (c : Dev nD) (t : Fin cfg0.N) : pad m c t = fun y => U (hA m c) (gaA m c) (t.val * 512 + (y 0).val) (y 1) := by
  have h8 := lt8 t
  refine canon_two (Val := Elt Ideal) (e := .f32) _ _ rfl _ _ (fun n j => U (hA m c) (gaA m c) (t.val * 512 + n) j) (fun r j => ?_) (fun r j => ?_)
  · rw [pay9_at, U, dif_pos (by omega)]
    have e : row t r = ⟨t.val * 512 + (32 + r.val) - 32, by omega⟩ := Fin.ext (by show t.val * 512 + r.val = t.val * 512 + (32 + r.val) - 32; omega)
    simp only [blk2, blk4]
    rw [← e]
    rfl
  · rw [pay7_at]
    simp only [blk3, blk4]
    by_cases h : t.val = 0
    · rw [if_pos h, U, dif_neg (by omega)]
    · rw [if_neg h, U, dif_pos (by omega)]
      have e : before t r = ⟨t.val * 512 + r.val - 32, by omega⟩ := Fin.ext (by show (t.val * 16 - 1) * 32 + r.val = t.val * 512 + r.val - 32; omega)
      rw [← e]
      rfl

abbrev pl (c : Dev nD) (t : Fin cfg0.N) (a b : ℕ) (inb : ∀ x, (![a, b] : Fin 2 → ℕ) x + (![512, 256] : Fin 2 → ℕ) x ≤ S544x1024.size x := by decide) : Vec Ideal S512x256 .f32 :=
  View.ld (pad m c t) (Rect.unit (s := S544x1024) ![a, b] ![512, 256] inb)

theorem pl_at (c : Dev nD) (t : Fin cfg0.N) (a b : ℕ) (inb) (p : Fin 512) (j : Fin 256) :
    pl m c t a b inb (ix2 p j) = U (hA m c) (gaA m c) (a + (row t p).val) (off b (inb 1) j) := by
  have ha : a + p.val < 544 := by
    have h : a + 512 ≤ 544 := inb 0
    have := p.isLt
    omega
  refine (ld_hit inb _ p j (ix2 ⟨a + p.val, ha⟩ (off b (inb 1) j)) rfl rfl).trans ?_
  rw [pad_eq]
  exact congrArg (fun n => U (hA m c) (gaA m c) n (off b (inb 1) j)) (Nat.add_left_comm (t.val * 512) a p.val)

/-! ### A group's mixed rows -/

abbrev mix0 (c : Dev nD) (t : Fin cfg0.N) : FVec Ideal S512x256 .bf16 :=
    k0_pay11 (BitVec.ofNat 32 (grid0.coords t 0).val) (pl m c t 32 0) (pl m c t 31 0)
theorem mix0_at (c : Dev nD) (t : Fin cfg0.N) (p : Fin 512) (a : Fin 256) : mix0 m c t (ix2 p a) = mixed (hA m c) (gaA m c) 2 0 (row t p).val a := by
  refine (pay11_at _ _ _ p a).trans ?_
  simp only [pl_at, pay10_at]
  unfold mixed win
  rw [Fin.sum_univ_two]
  rfl

abbrev mix1 (c : Dev nD) (t : Fin cfg0.N) : FVec Ideal S512x256 .bf16 :=
    k0_pay21 (BitVec.ofNat 32 (grid0.coords t 0).val) (pl m c t 32 256) (pl m c t 31 256) (pl m c t 30 256) (pl m c t 29 256)
theorem mix1_at (c : Dev nD) (t : Fin cfg0.N) (p : Fin 512) (a : Fin 256) : mix1 m c t (ix2 p a) = mixed (hA m c) (gaA m c) 4 1 (row t p).val a := by
  refine (pay21_at _ _ _ _ _ p a).trans ?_
  simp only [pl_at, pay20_at]
  unfold mixed win
  rw [sum4]
  rfl

abbrev mix2 (c : Dev nD) (t : Fin cfg0.N) : FVec Ideal S512x256 .bf16 :=
    k0_pay33 (k0_pay32 (BitVec.ofNat 32 (grid0.coords t 0).val)) (pl m c t 32 512) (pl m c t 31 512) (pl m c t 30 512) (pl m c t 29 512) (pl m c t 28 512)
    (pl m c t 27 512) (pl m c t 26 512) (pl m c t 25 512)
theorem mix2_at (c : Dev nD) (t : Fin cfg0.N) (p : Fin 512) (a : Fin 256) : mix2 m c t (ix2 p a) = mixed (hA m c) (gaA m c) 8 2 (row t p).val a := by
  refine (pay33_at _ _ _ _ _ _ _ _ _ p a).trans ?_
  simp only [pl_at, pay32_at]
  unfold mixed win
  rw [sum8]
  rfl

abbrev mix3 (c : Dev nD) (t : Fin cfg0.N) : FVec Ideal S512x256 .bf16 :=
    k0_pay43 (k0_pay41 (BitVec.ofNat 32 (grid0.coords t 0).val)) (pl m c t 32 768) (k0_pay42 (pl m c t 32 768) (pl m c t 31 768)) (pl m c t 30 768)
    (pl m c t 29 768) (pl m c t 28 768) (pl m c t 27 768) (pl m c t 26 768) (pl m c t 25 768) (pl m c t 24 768) (pl m c t 23 768) (pl m c t 22 768)
    (pl m c t 21 768) (pl m c t 20 768) (pl m c t 19 768) (pl m c t 18 768) (pl m c t 17 768)
theorem mix3_at (c : Dev nD) (t : Fin cfg0.N) (p : Fin 512) (a : Fin 256) : mix3 m c t (ix2 p a) = mixed (hA m c) (gaA m c) 16 3 (row t p).val a := by
  refine (pay43_at _ _ _ _ _ _ _ _ _ _ _ _ _ _ _ _ _ p a).trans ?_
  simp only [pl_at, pay41_at]
  unfold mixed win
  rw [sum16]
  rfl

/-! ### The mixed rows' cotangent -/

theorem cot_at (c : Dev nD) (t : Fin cfg0.N) (g b : ℕ) (hb : b = g * 256) (i0 i6 i5) (p : Fin 512) (a : Fin 256) :
    k0_pay26 (dhl m c t b i0) (scl m c t b i6) (mtl m c t g i5) (ix2 p a) = dm (dhA m c) (wA m c) (scA m c) ⟨g, i5 0⟩ (row t p) a := by
  subst hb
  rw [pay26_at]
  refine Finset.sum_congr rfl fun b _ => ?_
  exact congrArg₂ (· * ·) (congrArg₂ (· * ·) (ld_dh m c t _ i0 p b) (ld_scale m c t _ i6 b)) (ld_mat m c t g i5 a b)

theorem cotNext_at (c : Dev nD) (t : Fin cfg0.N) (g b : ℕ) (hb : b = g * 256) (i1 i6 i5) (p : Fin 32) (a : Fin 256) :
    k0_pay27 (nxl m c t b i1) (scl m c t b i6) (mtl m c t g i5) (ix2 p a) = dm (dhA m c) (wA m c) (scA m c) ⟨g, i5 0⟩ (next t p) a := by
  subst hb
  rw [pay27_at]
  refine Finset.sum_congr rfl fun b _ => ?_
  exact congrArg₂ (· * ·) (congrArg₂ (· * ·) (ld_next m c t _ i1 p b) (ld_scale m c t _ i6 b)) (ld_mat m c t g i5 a b)

/-- The block's rows and the 32 after it of the cotangent over the number of rows. -/
theorem rows_at (c : Dev nD) (t : Fin cfg0.N) (w : ℕ) (g : Fin 4) (p : Fin 512) (a : Fin 256) :
    dm (dhA m c) (wA m c) (scA m c) g (row t p) a * inv w (row t p).val = dpad (dhA m c) (wA m c) (scA m c) w g (t.val * 512 + p.val) a := by
  have h8 := lt8 t
  rw [dpad, dif_pos (by omega)]
  rfl

theorem halo_at (c : Dev nD) (t : Fin cfg0.N) (w : ℕ) (hw : w ≤ 16) (k : ℝ) (hk : k = 1 / (w : ℝ)) (g : Fin 4) (p : Fin 32) (a : Fin 256) :
    (if t.val = 7 then 0 else dm (dhA m c) (wA m c) (scA m c) g (next t p) a * (k : EReal)) = dpad (dhA m c) (wA m c) (scA m c) w g (t.val * 512 + (512 + p.val)) a := by
  have h8 := lt8 t
  by_cases h : t.val = 7
  · rw [if_pos h, dpad, dif_neg (by omega)]
  · rw [if_neg h, dpad, dif_pos (by omega), BMix.inv, min_eq_right (by omega), hk]
    have e : next t p = ⟨t.val * 512 + (512 + p.val), by omega⟩ := Fin.ext (by show min ((t.val + 1) * 16) 127 * 32 + p.val = t.val * 512 + (512 + p.val); omega)
    rw [e]

/-- A load of a group's columns from stores of its first 512 rows and of the 32 after them. -/
theorem two_ld {a b : ℕ} (inb inb1 inb0) (halo : Vec Ideal S32x256 .f32) (rows : Vec Ideal S512x256 .f32) (L : List (View.Piece (Elt Ideal) S544x1024 .f32))
    (G : ℕ → Fin 256 → EReal) (h1 : ∀ p j, halo (ix2 p j) = G (512 + p.val) j) (h0 : ∀ p j, rows (ix2 p j) = G p.val j) (p : Fin 512) (j : Fin 256) :
    View.ld (View.canon (⟨Rect.unit (s := S544x1024) ![512, b] ![32, 256] inb1, halo⟩ :: ⟨Rect.unit (s := S544x1024) ![0, b] ![512, 256] inb0, rows⟩ :: L))
      (Rect.unit (s := S544x1024) ![a, b] ![512, 256] inb) (ix2 p j) = G (a + p.val) j := by
  have ha : a + p.val < 544 := by
    have h : a + 512 ≤ 544 := inb 0
    have := p.isLt
    omega
  refine (ld_hit inb _ p j (ix2 ⟨a + p.val, ha⟩ (off b (inb 1) j)) rfl rfl).trans ?_
  by_cases h : a + p.val < 512
  · refine (canon_miss inb1 halo _ _ (.inl h)).trans ?_
    exact (canon_hit inb0 rows L ⟨a + p.val, h⟩ j _ (Nat.zero_add _).symm rfl).trans (h0 _ _)
  · refine (canon_hit inb1 halo _ ⟨a + p.val - 512, by omega⟩ j _ (by show a + p.val = 512 + (a + p.val - 512); omega) rfl).trans ((h1 _ _).trans ?_)
    show G (512 + (a + p.val - 512)) j = _
    rw [Nat.add_sub_cancel' (Nat.le_of_not_lt h)]

abbrev Ps := List (View.Piece (Elt Ideal) S544x1024 .f32)

/-- Group 0: the pieces of the cotangent over the number of rows, before any later group's. -/
abbrev halo0 (c : Dev nD) (t : Fin cfg0.N) : Vec Ideal S32x256 .f32 :=
    k0_pay18 (Scalar.cmpi .eq (BitVec.ofNat 32 (grid0.coords t 0).val) 7#32) (nxl m c t 0) (scl m c t 0) (mtl m c t 0)
abbrev rows0 (c : Dev nD) (t : Fin cfg0.N) : Vec Ideal S512x256 .f32 :=
    k0_pay17 (k0_pay10 (BitVec.ofNat 32 (grid0.coords t 0).val)) (dhl m c t 0) (k0_pay13 (scl m c t 0)) (mtl m c t 0)
abbrev dp0 (c : Dev nD) (t : Fin cfg0.N) : Ps :=
  ⟨Rect.unit (s := S544x1024) ![512, 0] ![32, 256] inb_S544x1024_S32x256_512_0, halo0 m c t⟩
    :: ⟨Rect.unit (s := S544x1024) ![0, 0] ![512, 256] inb_S544x1024_S512x256_0_0, rows0 m c t⟩ :: []
abbrev dl0 (c : Dev nD) (t : Fin cfg0.N) (a : ℕ) (inb : ∀ x, (![a, 0] : Fin 2 → ℕ) x + (![512, 256] : Fin 2 → ℕ) x ≤ S544x1024.size x := by decide) : Vec Ideal S512x256 .f32 :=
  View.ld (View.canon (dp0 m c t)) (Rect.unit (s := S544x1024) ![a, 0] ![512, 256] inb)

theorem dl0_at (c : Dev nD) (t : Fin cfg0.N) (a : ℕ) (inb) (p : Fin 512) (j : Fin 256) :
    dl0 m c t a inb (ix2 p j) = dpad (dhA m c) (wA m c) (scA m c) 2 0 (a + (row t p).val) j := by
  refine (two_ld inb _ _ _ _ _ (fun n j => dpad (dhA m c) (wA m c) (scA m c) 2 0 (t.val * 512 + n) j) (fun p j => ?_) (fun p j => ?_) p j).trans ?_
  · refine (pay18_at t _ _ _ p j).trans ?_
    rw [cotNext_at m c t 0 0 rfl]
    exact halo_at m c t 2 (by norm_num) (1 / 2) (by norm_num) 0 p j
  · refine (pay29_at _ _ _ _ p j).trans ?_
    rw [cot_at m c t 0 0 rfl, pay10_at]
    exact rows_at m c t 2 0 p j
  · exact congrArg (fun n => dpad (dhA m c) (wA m c) (scA m c) 2 0 n j) (Nat.add_left_comm (t.val * 512) a p.val)

/-- Group 1: the pieces of the cotangent over the number of rows, before any later group's. -/
abbrev halo1 (c : Dev nD) (t : Fin cfg0.N) : Vec Ideal S32x256 .f32 :=
    k0_pay30 (Scalar.cmpi .eq (BitVec.ofNat 32 (grid0.coords t 0).val) 7#32) (k0_pay27 (nxl m c t 256) (scl m c t 256) (mtl m c t 1))
abbrev rows1 (c : Dev nD) (t : Fin cfg0.N) : Vec Ideal S512x256 .f32 :=
    k0_pay29 (k0_pay28 (k0_pay20 (BitVec.ofNat 32 (grid0.coords t 0).val)) (dhl m c t 256) (scl m c t 256) (mtl m c t 1))
abbrev dp1 (c : Dev nD) (t : Fin cfg0.N) : Ps :=
  ⟨Rect.unit (s := S544x1024) ![512, 256] ![32, 256] inb_S544x1024_S32x256_512_256, halo1 m c t⟩
    :: ⟨Rect.unit (s := S544x1024) ![0, 256] ![512, 256] inb_S544x1024_S512x256_0_256, rows1 m c t⟩ :: dp0 m c t
abbrev dl1 (c : Dev nD) (t : Fin cfg0.N) (a : ℕ) (inb : ∀ x, (![a, 256] : Fin 2 → ℕ) x + (![512, 256] : Fin 2 → ℕ) x ≤ S544x1024.size x := by decide) : Vec Ideal S512x256 .f32 :=
  View.ld (View.canon (dp1 m c t)) (Rect.unit (s := S544x1024) ![a, 256] ![512, 256] inb)

theorem dl1_at (c : Dev nD) (t : Fin cfg0.N) (a : ℕ) (inb) (p : Fin 512) (j : Fin 256) :
    dl1 m c t a inb (ix2 p j) = dpad (dhA m c) (wA m c) (scA m c) 4 1 (a + (row t p).val) j := by
  refine (two_ld inb _ _ _ _ _ (fun n j => dpad (dhA m c) (wA m c) (scA m c) 4 1 (t.val * 512 + n) j) (fun p j => ?_) (fun p j => ?_) p j).trans ?_
  · refine (pay30_at t _ _ _ p j).trans ?_
    rw [cotNext_at m c t 1 256 rfl]
    exact halo_at m c t 4 (by norm_num) (1 / 4) (by norm_num) 1 p j
  · refine (pay29_at _ _ _ _ p j).trans ?_
    rw [cot_at m c t 1 256 rfl, pay20_at]
    exact rows_at m c t 4 1 p j
  · exact congrArg (fun n => dpad (dhA m c) (wA m c) (scA m c) 4 1 n j) (Nat.add_left_comm (t.val * 512) a p.val)

/-- Group 2: the pieces of the cotangent over the number of rows, before any later group's. -/
abbrev halo2 (c : Dev nD) (t : Fin cfg0.N) : Vec Ideal S32x256 .f32 :=
    k0_pay39 (Scalar.cmpi .eq (BitVec.ofNat 32 (grid0.coords t 0).val) 7#32) (nxl m c t 512) (scl m c t 512) (mtl m c t 2)
abbrev rows2 (c : Dev nD) (t : Fin cfg0.N) : Vec Ideal S512x256 .f32 :=
    k0_pay38 (k0_pay32 (BitVec.ofNat 32 (grid0.coords t 0).val)) (k0_pay35 (dhl m c t 512) (scl m c t 512)) (mtl m c t 2)
abbrev dp2 (c : Dev nD) (t : Fin cfg0.N) : Ps :=
  ⟨Rect.unit (s := S544x1024) ![512, 512] ![32, 256] inb_S544x1024_S32x256_512_512, halo2 m c t⟩
    :: ⟨Rect.unit (s := S544x1024) ![0, 512] ![512, 256] inb_S544x1024_S512x256_0_512, rows2 m c t⟩ :: dp1 m c t
abbrev dl2 (c : Dev nD) (t : Fin cfg0.N) (a : ℕ) (inb : ∀ x, (![a, 512] : Fin 2 → ℕ) x + (![512, 256] : Fin 2 → ℕ) x ≤ S544x1024.size x := by decide) : Vec Ideal S512x256 .f32 :=
  View.ld (View.canon (dp2 m c t)) (Rect.unit (s := S544x1024) ![a, 512] ![512, 256] inb)

theorem dl2_at (c : Dev nD) (t : Fin cfg0.N) (a : ℕ) (inb) (p : Fin 512) (j : Fin 256) :
    dl2 m c t a inb (ix2 p j) = dpad (dhA m c) (wA m c) (scA m c) 8 2 (a + (row t p).val) j := by
  refine (two_ld inb _ _ _ _ _ (fun n j => dpad (dhA m c) (wA m c) (scA m c) 8 2 (t.val * 512 + n) j) (fun p j => ?_) (fun p j => ?_) p j).trans ?_
  · refine (pay39_at t _ _ _ p j).trans ?_
    rw [cotNext_at m c t 2 512 rfl]
    exact halo_at m c t 8 (by norm_num) (1 / 8) (by norm_num) 2 p j
  · refine (pay29_at _ _ _ _ p j).trans ?_
    rw [cot_at m c t 2 512 rfl, pay32_at]
    exact rows_at m c t 8 2 p j
  · exact congrArg (fun n => dpad (dhA m c) (wA m c) (scA m c) 8 2 n j) (Nat.add_left_comm (t.val * 512) a p.val)

/-- Group 3: the pieces of the cotangent over the number of rows, before any later group's. -/
abbrev halo3 (c : Dev nD) (t : Fin cfg0.N) : Vec Ideal S32x256 .f32 :=
    k0_pay50 (Scalar.cmpi .eq (BitVec.ofNat 32 (grid0.coords t 0).val) 7#32) (k0_pay48 (nxl m c t 768) (scl m c t 768)) (mtl m c t 3)
abbrev rows3 (c : Dev nD) (t : Fin cfg0.N) : Vec Ideal S512x256 .f32 :=
    k0_pay49 (k0_pay41 (BitVec.ofNat 32 (grid0.coords t 0).val)) (k0_pay47 (dhl m c t 768) (scl m c t 768) (mtl m c t 3))
abbrev dp3 (c : Dev nD) (t : Fin cfg0.N) : Ps :=
  ⟨Rect.unit (s := S544x1024) ![512, 768] ![32, 256] inb_S544x1024_S32x256_512_768, halo3 m c t⟩
    :: ⟨Rect.unit (s := S544x1024) ![0, 768] ![512, 256] inb_S544x1024_S512x256_0_768, rows3 m c t⟩ :: dp2 m c t
abbrev dl3 (c : Dev nD) (t : Fin cfg0.N) (a : ℕ) (inb : ∀ x, (![a, 768] : Fin 2 → ℕ) x + (![512, 256] : Fin 2 → ℕ) x ≤ S544x1024.size x := by decide) : Vec Ideal S512x256 .f32 :=
  View.ld (View.canon (dp3 m c t)) (Rect.unit (s := S544x1024) ![a, 768] ![512, 256] inb)

theorem dl3_at (c : Dev nD) (t : Fin cfg0.N) (a : ℕ) (inb) (p : Fin 512) (j : Fin 256) :
    dl3 m c t a inb (ix2 p j) = dpad (dhA m c) (wA m c) (scA m c) 16 3 (a + (row t p).val) j := by
  refine (two_ld inb _ _ _ _ _ (fun n j => dpad (dhA m c) (wA m c) (scA m c) 16 3 (t.val * 512 + n) j) (fun p j => ?_) (fun p j => ?_) p j).trans ?_
  · refine (pay50_at t _ _ _ p j).trans ?_
    rw [cotNext_at m c t 3 768 rfl]
    exact halo_at m c t 16 (by norm_num) (1 / 16) (by norm_num) 3 p j
  · refine (pay29_at _ _ _ _ p j).trans ?_
    rw [cot_at m c t 3 768 rfl, pay41_at]
    exact rows_at m c t 16 3 p j
  · exact congrArg (fun n => dpad (dhA m c) (wA m c) (scA m c) 16 3 n j) (Nat.add_left_comm (t.val * 512) a p.val)

abbrev du0 (c : Dev nD) (t : Fin cfg0.N) : Vec Ideal S512x256 .f32 :=
    k0_pay19 (k0_pay16 (dhl m c t 0) (k0_pay13 (scl m c t 0)) (mtl m c t 0)) (dl0 m c t 0) (dl0 m c t 1)
theorem du0_at (c : Dev nD) (t : Fin cfg0.N) (p : Fin 512) (a : Fin 256) : du0 m c t (ix2 p a) = duG (dhA m c) (wA m c) (scA m c) 2 0 (row t p) a := by
  refine (pay19_at _ _ _ p a).trans ?_
  simp only [dl0_at]
  unfold duG
  rw [Fin.sum_univ_two]
  exact congrArg (_ - ·) (cot_at m c t 0 0 rfl _ _ _ p a)

abbrev du1 (c : Dev nD) (t : Fin cfg0.N) : Vec Ideal S512x256 .f32 :=
    k0_pay31 (k0_pay26 (dhl m c t 256) (scl m c t 256) (mtl m c t 1)) (dl1 m c t 0) (dl1 m c t 1) (dl1 m c t 2) (dl1 m c t 3)
theorem du1_at (c : Dev nD) (t : Fin cfg0.N) (p : Fin 512) (a : Fin 256) : du1 m c t (ix2 p a) = duG (dhA m c) (wA m c) (scA m c) 4 1 (row t p) a := by
  refine (pay31_at _ _ _ _ _ p a).trans ?_
  simp only [dl1_at]
  unfold duG
  rw [sum4]
  exact congrArg (_ - ·) (cot_at m c t 1 256 rfl _ _ _ p a)

abbrev du2 (c : Dev nD) (t : Fin cfg0.N) : Vec Ideal S512x256 .f32 :=
    k0_pay40 (k0_pay37 (k0_pay35 (dhl m c t 512) (scl m c t 512)) (mtl m c t 2)) (dl2 m c t 0) (dl2 m c t 1) (dl2 m c t 2) (dl2 m c t 3) (dl2 m c t 4)
    (dl2 m c t 5) (dl2 m c t 6) (dl2 m c t 7)
theorem du2_at (c : Dev nD) (t : Fin cfg0.N) (p : Fin 512) (a : Fin 256) : du2 m c t (ix2 p a) = duG (dhA m c) (wA m c) (scA m c) 8 2 (row t p) a := by
  refine (pay40_at _ _ _ _ _ _ _ _ _ p a).trans ?_
  simp only [dl2_at]
  unfold duG
  rw [sum8]
  exact congrArg (_ - ·) (cot_at m c t 2 512 rfl _ _ _ p a)

abbrev du3 (c : Dev nD) (t : Fin cfg0.N) : Vec Ideal S512x256 .f32 :=
    k0_pay52 (k0_pay47 (dhl m c t 768) (scl m c t 768) (mtl m c t 3)) (k0_pay51 (dl3 m c t 0) (dl3 m c t 1) (dl3 m c t 2) (dl3 m c t 3) (dl3 m c t 4)
    (dl3 m c t 5) (dl3 m c t 6) (dl3 m c t 7)) (dl3 m c t 8) (dl3 m c t 9) (dl3 m c t 10) (dl3 m c t 11) (dl3 m c t 12) (dl3 m c t 13) (dl3 m c t 14)
    (dl3 m c t 15)
theorem du3_at (c : Dev nD) (t : Fin cfg0.N) (p : Fin 512) (a : Fin 256) : du3 m c t (ix2 p a) = duG (dhA m c) (wA m c) (scA m c) 16 3 (row t p) a := by
  refine (pay52_at _ _ _ _ _ _ _ _ _ _ _ _ _ _ _ _ _ p a).trans ?_
  simp only [dl3_at]
  unfold duG
  rw [sum16]
  exact congrArg (_ - ·) (cot_at m c t 3 768 rfl _ _ _ p a)

/-- The normalised rows' cotangent. -/
abbrev duB (c : Dev nD) (t : Fin cfg0.N) : Vec Ideal S512x1024 .f32 :=
  View.canon [⟨Rect.unit (s := S512x1024) ![0, 768] ![512, 256] inb_S512x1024_S512x256_0_768, du3 m c t⟩,
    ⟨Rect.unit (s := S512x1024) ![0, 512] ![512, 256] inb_S512x1024_S512x256_0_512, du2 m c t⟩,
    ⟨Rect.unit (s := S512x1024) ![0, 256] ![512, 256] inb_S512x1024_S512x256_0_256, du1 m c t⟩,
    ⟨Rect.unit (s := S512x1024) ![0, 0] ![512, 256] inb_S512x1024_S512x256_0_0, du0 m c t⟩]

theorem cases4 (j : Fin 1024) : ∃ (g : Fin 4) (a : Fin 256), j = col g a := ⟨grp j, pos j, (col_grp j).symm⟩

/-- Four stores of 256 columns each, over what was stored before. -/
theorem four {n : ℕ} (i3 i2 i1 i0) (w3 w2 w1 w0 : (⟨2, ![n, 256]⟩ : Shape).Idx → EReal) (L : List (View.Piece (Elt Ideal) (⟨2, ![n, 1024]⟩ : Shape) .f32)) (G : Fin n → Fin 4 → Fin 256 → EReal)
    (h3 : ∀ p a, w3 (ix2 p a) = G p 3 a) (h2 : ∀ p a, w2 (ix2 p a) = G p 2 a) (h1 : ∀ p a, w1 (ix2 p a) = G p 1 a) (h0 : ∀ p a, w0 (ix2 p a) = G p 0 a)
    (p : Fin n) (g : Fin 4) (a : Fin 256) :
    View.canon (Val := Elt Ideal) (e := .f32) (⟨Rect.unit (s := ⟨2, ![n, 1024]⟩) ![0, 768] ![n, 256] i3, w3⟩ :: ⟨Rect.unit (s := ⟨2, ![n, 1024]⟩) ![0, 512] ![n, 256] i2, w2⟩ ::
      ⟨Rect.unit (s := ⟨2, ![n, 1024]⟩) ![0, 256] ![n, 256] i1, w1⟩ :: ⟨Rect.unit (s := ⟨2, ![n, 1024]⟩) ![0, 0] ![n, 256] i0, w0⟩ :: L) (ix2 p (col g a)) = G p g a := by
  obtain rfl | rfl | rfl | rfl : g = 0 ∨ g = 1 ∨ g = 2 ∨ g = 3 := (show ∀ g : Fin 4, g = 0 ∨ g = 1 ∨ g = 2 ∨ g = 3 by decide) g
  · refine (canon_miss i3 _ _ _ (.inr (.inr (.inl (show 0 + a.val < 768 by omega))))).trans ?_
    refine (canon_miss i2 _ _ _ (.inr (.inr (.inl (show 0 + a.val < 512 by omega))))).trans ?_
    refine (canon_miss i1 _ _ _ (.inr (.inr (.inl (show 0 + a.val < 256 by omega))))).trans ?_
    exact (canon_hit (Val := Elt Ideal) (e := .f32) i0 w0 _ p a _ (Nat.zero_add _).symm rfl).trans (h0 p a)
  · refine (canon_miss i3 _ _ _ (.inr (.inr (.inl (show 256 + a.val < 768 by omega))))).trans ?_
    refine (canon_miss i2 _ _ _ (.inr (.inr (.inl (show 256 + a.val < 512 by omega))))).trans ?_
    exact (canon_hit (Val := Elt Ideal) (e := .f32) i1 w1 _ p a _ (Nat.zero_add _).symm rfl).trans (h1 p a)
  · refine (canon_miss i3 _ _ _ (.inr (.inr (.inl (show 512 + a.val < 768 by omega))))).trans ?_
    exact (canon_hit (Val := Elt Ideal) (e := .f32) i2 w2 _ p a _ (Nat.zero_add _).symm rfl).trans (h2 p a)
  · exact (canon_hit (Val := Elt Ideal) (e := .f32) i3 w3 _ p a _ (Nat.zero_add _).symm rfl).trans (h3 p a)

theorem duB_at (c : Dev nD) (t : Fin cfg0.N) (p : Fin 512) (j : Fin 1024) : duB m c t (ix2 p j) = du (dhA m c) (wA m c) (scA m c) (row t p) j := by
  obtain ⟨g, a, rfl⟩ := cases4 j
  refine (four _ _ _ _ _ _ _ _ _ (fun p g a => duG (dhA m c) (wA m c) (scA m c) (wide g) g (row t p) a) (du3_at m c t) (du2_at m c t) (du1_at m c t) (du0_at m c t)
    p g a).trans ?_
  rw [du, grp_col, pos_col]

/-! ### What the point leaves in its outputs -/

abbrev dhpB (c : Dev nD) (t : Fin cfg0.N) : Vec Ideal S512x1024 .f32 :=
  k0_pay1 (k0_pay6 (iblk m c 4 t)) (duB m c t) (k0_pay53 (iblk m c 2 t)) (k0_pay54 (iblk m c 2 t)) (iblk m c 0 t)

theorem dhpB_at (c : Dev nD) (t : Fin cfg0.N) (p : Fin 512) (j : Fin 1024) :
    dhpB m c t (ix2 p j) = dhp (dhA m c) (hA m c) (gaA m c) (wA m c) (scA m c) (row t p) j := by
  refine (pay1_at _ _ _ _ p j).trans ?_
  simp only [duB_at, blk0, blk2, blk4]
  rfl

/-- The point's share of the gradients of the gain, of the matrices and of the scale. -/
def tileGain (c : Dev nD) (j : Fin 1024) (t : Fin cfg0.N) : EReal := ∑ p : Fin 512, rowGain (dhA m c) (hA m c) (wA m c) (scA m c) j (row t p)
def tileMat (c : Dev nD) (g : Fin 4) (a b : Fin 256) (t : Fin cfg0.N) : EReal :=
  ∑ p : Fin 512, rowMat (dhA m c) (hA m c) (gaA m c) (scA m c) (wide g) g a b (row t p)
def tileScale (c : Dev nD) (g : Fin 4) (b : Fin 256) (t : Fin cfg0.N) : EReal :=
  ∑ p : Fin 512, rowScale (dhA m c) (hA m c) (gaA m c) (wA m c) (wide g) g b (row t p)

abbrev dgB (c : Dev nD) (t : Fin cfg0.N) (o : Vec Ideal S1x1024 .f32) : Vec Ideal S1x1024 .f32 := k0_pay2 (k0_pay55 (iblk m c 2 t) (duB m c t)) o

theorem dgB_at (c : Dev nD) (t : Fin cfg0.N) (o : Vec Ideal S1x1024 .f32) (j : Fin 1024) : dgB m c t o (ix2 0 j) = o (ix2 0 j) + tileGain m c j t := by
  refine (pay2_at _ _ _ j).trans ?_
  simp only [duB_at, blk2]
  rfl

/-- A sum over the block's rows of the cotangent times the mixed rows' product with the matrix. -/
theorem scale_sum (c : Dev nD) (t : Fin cfg0.N) (g b w : ℕ) (hb : b = g * 256) (i0 i5) (M : Vec Ideal S512x256 .bf16)
    (hM : ∀ p a, M (ix2 p a) = mixed (hA m c) (gaA m c) w ⟨g, i5 0⟩ (row t p).val a) (j : Fin 256) :
    ∑ p : Fin 512, dhl m c t b i0 (ix2 p j) * ∑ a, M (ix2 p a) * mtl m c t g i5 (ix3 0 a j)
      = ∑ p : Fin 512, rowScale (dhA m c) (hA m c) (gaA m c) (wA m c) w ⟨g, i5 0⟩ j (row t p) := by
  subst hb
  refine Finset.sum_congr rfl fun p _ => ?_
  exact congrArg₂ (· * ·) (ld_dh m c t _ i0 p j) (Finset.sum_congr rfl fun a _ => congrArg₂ (· * ·) (hM p a) (ld_mat m c t g i5 a j))

theorem mat_sum (c : Dev nD) (t : Fin cfg0.N) (g : Fin 4) (b w : ℕ) (hb : b = g.val * 256) (i0 i6) (M : Vec Ideal S512x256 .bf16)
    (hM : ∀ p a, M (ix2 p a) = mixed (hA m c) (gaA m c) w g (row t p).val a) (a j : Fin 256) :
    ∑ p : Fin 512, M (ix2 p a) * (dhl m c t b i0 (ix2 p j) * scl m c t b i6 (ix2 0 j))
      = ∑ p : Fin 512, rowMat (dhA m c) (hA m c) (gaA m c) (scA m c) w g a j (row t p) := by
  subst hb
  refine Finset.sum_congr rfl fun p _ => ?_
  exact congrArg₂ (· * ·) (hM p a) (congrArg₂ (· * ·) (ld_dh m c t _ i0 p j) (ld_scale m c t _ i6 j))

theorem dscB_at (c : Dev nD) (t : Fin cfg0.N) (o0 : Vec Ideal S1x256 .f32) (o1 : Vec Ideal S1x256 .f32) (o2 : Vec Ideal S1x256 .f32) (o3 : Vec Ideal S1x256 .f32) (L : List (View.Piece (Elt Ideal) S1x1024 .f32)) (old : Fin 4 → Fin 256 → EReal)
    (h0 : ∀ a, o0 (ix2 0 a) = old 0 a) (h1 : ∀ a, o1 (ix2 0 a) = old 1 a) (h2 : ∀ a, o2 (ix2 0 a) = old 2 a) (h3 : ∀ a, o3 (ix2 0 a) = old 3 a) (g : Fin 4) (a : Fin 256) :
    View.canon (Val := Elt Ideal) (e := .f32) (⟨Rect.unit (s := S1x1024) ![0, 768] ![1, 256] inb_S1x1024_S1x256_0_768, k0_pay44 (mix3 m c t) (dhl m c t 768) o3 (mtl m c t 3)⟩ ::
      ⟨Rect.unit (s := S1x1024) ![0, 512] ![1, 256] inb_S1x1024_S1x256_0_512, k0_pay34 (k0_pay32 (BitVec.ofNat 32 (grid0.coords t 0).val)) (pl m c t 32 512) (pl m c t 31 512) (pl m c t 30 512) (pl m c t 29 512) (pl m c t 28 512) (pl m c t 27 512) (pl m c t 26 512) (pl m c t 25 512) (dhl m c t 512) o2 (mtl m c t 2)⟩ ::
      ⟨Rect.unit (s := S1x1024) ![0, 256] ![1, 256] inb_S1x1024_S1x256_0_256, k0_pay23 (mix1 m c t) (dhl m c t 256) (k0_pay22 o1) (mtl m c t 1)⟩ ::
      ⟨Rect.unit (s := S1x1024) ![0, 0] ![1, 256] inb_S1x1024_S1x256_0_0, k0_pay12 (BitVec.ofNat 32 (grid0.coords t 0).val) (pl m c t 32 0) (pl m c t 31 0) (dhl m c t 0) o0 (mtl m c t 0)⟩ :: L) (ix2 0 (col g a)) = old g a + tileScale m c g a t := by
  refine four _ _ _ _ _ _ _ _ _ (fun _ g a => old g a + tileScale m c g a t) (fun p a => ?_) (fun p a => ?_) (fun p a => ?_) (fun p a => ?_) 0 g a
    <;> obtain rfl : p = 0 := Subsingleton.elim _ _
  · exact (pay44_at _ _ _ _ a).trans (congrArg₂ (· + ·) (h3 a) (scale_sum m c t 3 768 16 rfl _ _ _ (mix3_at m c t) a))
  · exact (pay34_at _ _ _ _ _ _ _ _ _ _ _ _ a).trans (congrArg₂ (· + ·) (h2 a) (scale_sum m c t 2 512 8 rfl _ _ _ (mix2_at m c t) a))
  · exact (pay23_at _ _ _ _ a).trans (congrArg₂ (· + ·) (h1 a) (scale_sum m c t 1 256 4 rfl _ _ _ (mix1_at m c t) a))
  · exact (pay12_at _ _ _ _ _ _ a).trans (congrArg₂ (· + ·) (h0 a) (scale_sum m c t 0 0 2 rfl _ _ _ (mix0_at m c t) a))

/-- Stores of one group's matrix each. -/
theorem group_hit (g : ℕ) (inb) (w : Vec Ideal S1x256x256 .f32) (L : List (View.Piece (Elt Ideal) S4x256x256 .f32)) (y : S4x256x256.Idx) (a b : Fin 256)
    (hy : y = ix3 ⟨g, inb 0⟩ a b) : View.canon (⟨Rect.unit (s := S4x256x256) ![g, 0, 0] ![1, 256, 256] inb, w⟩ :: L) y = w (ix3 0 a b) := by
  have e : (Rect.unit (s := S4x256x256) ![g, 0, 0] ![1, 256, 256] inb).emb (ix3 0 a b) = y := by
    subst hy
    refine ext3 ?_ ?_ ?_
    · show g + 1 * 0 = g
      omega
    · show 0 + 1 * a.val = a.val
      omega
    · show 0 + 1 * b.val = b.val
      omega
  rw [← e]
  exact View.canon_cons_emb (Rect.unit (s := S4x256x256) ![g, 0, 0] ![1, 256, 256] inb) w L _

theorem group_miss (g : ℕ) (inb) (w : Vec Ideal S1x256x256 .f32) (L : List (View.Piece (Elt Ideal) S4x256x256 .f32)) (y : S4x256x256.Idx) (hy : (y 0).val ≠ g) :
    View.canon (⟨Rect.unit (s := S4x256x256) ![g, 0, 0] ![1, 256, 256] inb, w⟩ :: L) y = View.canon L y := by
  refine View.canon_cons_of_not_mem _ L fun hm => hy ?_
  have m0 : g ≤ (y 0).val ∧ (y 0).val < g + 1 := (Rect.mem_set_unit (inb := inb)).mp hm 0
  omega

theorem dwgB_at (c : Dev nD) (t : Fin cfg0.N) (o0 : Vec Ideal S1x256x256 .f32) (o1 : Vec Ideal S1x256x256 .f32) (o2 : Vec Ideal S1x256x256 .f32) (o3 : Vec Ideal S1x256x256 .f32) (L : List (View.Piece (Elt Ideal) S4x256x256 .f32)) (old : Fin 4 → Fin 256 → Fin 256 → EReal)
    (h0 : ∀ a b, o0 (ix3 0 a b) = old 0 a b) (h1 : ∀ a b, o1 (ix3 0 a b) = old 1 a b) (h2 : ∀ a b, o2 (ix3 0 a b) = old 2 a b) (h3 : ∀ a b, o3 (ix3 0 a b) = old 3 a b)
    (g : Fin 4) (a b : Fin 256) :
    View.canon (Val := Elt Ideal) (e := .f32) (⟨Rect.unit (s := S4x256x256) ![3, 0, 0] ![1, 256, 256] inb_S4x256x256_S1x256x256_3_0_0, k0_pay46 (mix3 m c t) (dhl m c t 768) (scl m c t 768) o3⟩ ::
      ⟨Rect.unit (s := S4x256x256) ![2, 0, 0] ![1, 256, 256] inb_S4x256x256_S1x256x256_2_0_0, k0_pay36 (mix2 m c t) (k0_pay35 (dhl m c t 512) (scl m c t 512)) o2⟩ ::
      ⟨Rect.unit (s := S4x256x256) ![1, 0, 0] ![1, 256, 256] inb_S4x256x256_S1x256x256_1_0_0, k0_pay25 (mix1 m c t) (dhl m c t 256) (scl m c t 256) o1⟩ ::
      ⟨Rect.unit (s := S4x256x256) ![0, 0, 0] ![1, 256, 256] inb_S4x256x256_S1x256x256_0_0_0, k0_pay15 (mix0 m c t) (dhl m c t 0) (k0_pay13 (scl m c t 0)) o0⟩ :: L) (ix3 g a b) = old g a b + tileMat m c g a b t := by
  obtain rfl | rfl | rfl | rfl : g = 0 ∨ g = 1 ∨ g = 2 ∨ g = 3 := (show ∀ g : Fin 4, g = 0 ∨ g = 1 ∨ g = 2 ∨ g = 3 by decide) g
  · refine (group_miss 3 _ _ _ _ (show 0 ≠ 3 by decide)).trans ?_
    refine (group_miss 2 _ _ _ _ (show 0 ≠ 2 by decide)).trans ?_
    refine (group_miss 1 _ _ _ _ (show 0 ≠ 1 by decide)).trans ?_
    refine (group_hit 0 _ _ _ _ a b rfl).trans ?_
    exact (pay15_at _ _ _ _ a b).trans (congrArg₂ (· + ·) (h0 a b) (mat_sum m c t 0 0 2 rfl _ _ _ (mix0_at m c t) a b))
  · refine (group_miss 3 _ _ _ _ (show 1 ≠ 3 by decide)).trans ?_
    refine (group_miss 2 _ _ _ _ (show 1 ≠ 2 by decide)).trans ?_
    refine (group_hit 1 _ _ _ _ a b rfl).trans ?_
    exact (pay25_at _ _ _ _ a b).trans (congrArg₂ (· + ·) (h1 a b) (mat_sum m c t 1 256 4 rfl _ _ _ (mix1_at m c t) a b))
  · refine (group_miss 3 _ _ _ _ (show 2 ≠ 3 by decide)).trans ?_
    refine (group_hit 2 _ _ _ _ a b rfl).trans ?_
    exact (pay36_at _ _ _ _ a b).trans (congrArg₂ (· + ·) (h2 a b) (mat_sum m c t 2 512 8 rfl _ _ _ (mix2_at m c t) a b))
  · refine (group_hit 3 _ _ _ _ a b rfl).trans ?_
    exact (pay46_at _ _ _ _ a b).trans (congrArg₂ (· + ·) (h3 a b) (mat_sum m c t 3 768 16 rfl _ _ _ (mix3_at m c t) a b))

end Cert.Proof.BMixBlocks

end
-- ==== Proof.BMixCases.lean ====
/- The second mixer's gradient: the first grid point, which clears the running sums, and the later ones leave the point's
   formulas in the outputs. -/
module

public import proofs.«01_k».proof.Proof.BMixBlocks

@[expose] public section

set_option maxRecDepth 16384

noncomputable section

namespace Cert.Proof.BMixCases

open Idealize.ShloMosaic Idealize.SL.Sem Cert.BMixIdeal Cert.BMixIdeal.Gen Cert.Proof.Whole Cert.Proof.Pieces Cert.Proof.BMix Cert.Proof.BMixPoint Cert.Proof.BMixBlocks

variable (m : (ℓ : Loc nD τ sig) → Buf (Elt Ideal) ℓ)

abbrev prev (c : Dev nD) (t : Fin cfg0.N) := outsAt0 m c (t.val - 1) (Nat.lt_of_le_of_lt (Nat.sub_le _ _) t.isLt)

/-- A store of the whole matrices and a load of the whole. -/
theorem canon_all (inb) (w : Vec Ideal S4x256x256 .f32) (L : List (View.Piece (Elt Ideal) S4x256x256 .f32)) :
    View.canon (⟨Rect.unit (s := S4x256x256) ![0, 0, 0] ![4, 256, 256] inb, w⟩ :: L) = w := canon3 (d3 := S4x256x256.size) inb w L

theorem zero_row (y : S1x1024.Idx) (L : List (View.Piece (Elt Ideal) S1x1024 .f32)) (inb) :
    View.canon (⟨Rect.unit (s := S1x1024) ![0, 0] ![1, 1024] inb, k0_pay5 (F := Ideal)⟩ :: L) y = 0 := by
  rw [show View.canon (⟨Rect.unit (s := S1x1024) ![0, 0] ![1, 1024] inb, k0_pay5 (F := Ideal)⟩ :: L) = k0_pay5 (F := Ideal) from canon2 (d2 := S1x1024.size) inb _ L]
  exact zero5 y

theorem zero_mat (y : S4x256x256.Idx) (L : List (View.Piece (Elt Ideal) S4x256x256 .f32)) (inb) :
    View.canon (⟨Rect.unit (s := S4x256x256) ![0, 0, 0] ![4, 256, 256] inb, k0_pay4 (F := Ideal)⟩ :: L) y = 0 :=
  (congrFun (canon_all inb _ L) y).trans (zero4 y)

/-- A load of a group's columns of a row, and of its matrix. -/
theorem row_at (f : Vec Ideal S1x1024 .f32) (g : Fin 4) (b : ℕ) (hb : b = g.val * 256) (inb) (a : Fin 256) :
    View.ld f (Rect.unit (s := S1x1024) ![0, b] ![1, 256] inb) (ix2 0 a) = f (ix2 0 (col g a)) := by
  subst hb
  exact ld_hit inb f (0 : Fin 1) a (ix2 (0 : Fin 1) (col g a)) (Nat.zero_add _).symm rfl

theorem zrow0 : View.ld (Val := Elt Ideal) (e' := .f32) (k0_pay5 (F := Ideal)) (Rect.unit (s := S1x1024) ![0, 0] ![1, 256] inb_S1x1024_S1x256_0_0) = (fun _ => (0 : EReal) : Vec Ideal S1x256 .f32) := by
  funext y
  obtain ⟨a, rfl⟩ : ∃ a : Fin 256, y = ix2 0 a := ⟨y 1, (eq_ix2 y).trans (congrArg (ix2 · (y 1)) (Subsingleton.elim _ _))⟩
  refine (row_at _ 0 0 rfl _ a).trans ?_
  exact zero5 _
theorem zmat0 : View.ld (Val := Elt Ideal) (e' := .f32) (k0_pay4 (F := Ideal)) (Rect.unit (s := S4x256x256) ![0, 0, 0] ![1, 256, 256] inb_S4x256x256_S1x256x256_0_0_0) = (fun _ => (0 : EReal) : Vec Ideal S1x256x256 .f32) := by
  funext y
  obtain ⟨a, b, rfl⟩ : ∃ a b : Fin 256, y = ix3 0 a b := ⟨y 1, y 2, (eq_ix3 y).trans (congrArg (ix3 · (y 1) (y 2)) (Subsingleton.elim _ _))⟩
  refine (ld_group _ 0 _ a b).trans ?_
  exact zero4 _

theorem zrow1 (w0 : Vec Ideal S1x256 .f32) : View.ld (Val := Elt Ideal) (View.canon (Val := Elt Ideal) (e := .f32) [⟨Rect.unit (s := S1x1024) ![0, 0] ![1, 256] inb_S1x1024_S1x256_0_0, w0⟩, ⟨Rect.unit (s := S1x1024) ![0, 0] ![1, 1024] inb_S1x1024_S1x1024_0_0, k0_pay5 (F := Ideal)⟩]) (Rect.unit (s := S1x1024) ![0, 256] ![1, 256] inb_S1x1024_S1x256_0_256) = (fun _ => (0 : EReal) : Vec Ideal S1x256 .f32) := by
  funext y
  obtain ⟨a, rfl⟩ : ∃ a : Fin 256, y = ix2 0 a := ⟨y 1, (eq_ix2 y).trans (congrArg (ix2 · (y 1)) (Subsingleton.elim _ _))⟩
  refine (row_at _ 1 256 rfl _ a).trans ?_
  refine (canon_miss (Val := Elt Ideal) (e := .f32) inb_S1x1024_S1x256_0_0 _ _ _ (.inr (.inr (.inr (show 0 + 256 ≤ 256 + a.val by omega))))).trans ?_
  exact zero_row _ _ _
theorem zmat1 (w0 : Vec Ideal S1x256x256 .f32) : View.ld (Val := Elt Ideal) (View.canon (Val := Elt Ideal) (e := .f32) [⟨Rect.unit (s := S4x256x256) ![0, 0, 0] ![1, 256, 256] inb_S4x256x256_S1x256x256_0_0_0, w0⟩, ⟨Rect.unit (s := S4x256x256) ![0, 0, 0] ![4, 256, 256] inb_S4x256x256_S4x256x256_0_0_0, k0_pay4 (F := Ideal)⟩]) (Rect.unit (s := S4x256x256) ![1, 0, 0] ![1, 256, 256] inb_S4x256x256_S1x256x256_1_0_0) = (fun _ => (0 : EReal) : Vec Ideal S1x256x256 .f32) := by
  funext y
  obtain ⟨a, b, rfl⟩ : ∃ a b : Fin 256, y = ix3 0 a b := ⟨y 1, y 2, (eq_ix3 y).trans (congrArg (ix3 · (y 1) (y 2)) (Subsingleton.elim _ _))⟩
  refine (ld_group _ 1 _ a b).trans ?_
  refine (group_miss 0 _ _ _ _ (show 1 ≠ 0 by decide)).trans ?_
  exact zero_mat _ _ _

theorem zrow2 (w0 w1 : Vec Ideal S1x256 .f32) : View.ld (Val := Elt Ideal) (View.canon (Val := Elt Ideal) (e := .f32) [⟨Rect.unit (s := S1x1024) ![0, 256] ![1, 256] inb_S1x1024_S1x256_0_256, w1⟩, ⟨Rect.unit (s := S1x1024) ![0, 0] ![1, 256] inb_S1x1024_S1x256_0_0, w0⟩, ⟨Rect.unit (s := S1x1024) ![0, 0] ![1, 1024] inb_S1x1024_S1x1024_0_0, k0_pay5 (F := Ideal)⟩]) (Rect.unit (s := S1x1024) ![0, 512] ![1, 256] inb_S1x1024_S1x256_0_512) = (fun _ => (0 : EReal) : Vec Ideal S1x256 .f32) := by
  funext y
  obtain ⟨a, rfl⟩ : ∃ a : Fin 256, y = ix2 0 a := ⟨y 1, (eq_ix2 y).trans (congrArg (ix2 · (y 1)) (Subsingleton.elim _ _))⟩
  refine (row_at _ 2 512 rfl _ a).trans ?_
  refine (canon_miss (Val := Elt Ideal) (e := .f32) inb_S1x1024_S1x256_0_256 _ _ _ (.inr (.inr (.inr (show 256 + 256 ≤ 512 + a.val by omega))))).trans ?_
  refine (canon_miss (Val := Elt Ideal) (e := .f32) inb_S1x1024_S1x256_0_0 _ _ _ (.inr (.inr (.inr (show 0 + 256 ≤ 512 + a.val by omega))))).trans ?_
  exact zero_row _ _ _
theorem zmat2 (w0 w1 : Vec Ideal S1x256x256 .f32) : View.ld (Val := Elt Ideal) (View.canon (Val := Elt Ideal) (e := .f32) [⟨Rect.unit (s := S4x256x256) ![1, 0, 0] ![1, 256, 256] inb_S4x256x256_S1x256x256_1_0_0, w1⟩, ⟨Rect.unit (s := S4x256x256) ![0, 0, 0] ![1, 256, 256] inb_S4x256x256_S1x256x256_0_0_0, w0⟩, ⟨Rect.unit (s := S4x256x256) ![0, 0, 0] ![4, 256, 256] inb_S4x256x256_S4x256x256_0_0_0, k0_pay4 (F := Ideal)⟩]) (Rect.unit (s := S4x256x256) ![2, 0, 0] ![1, 256, 256] inb_S4x256x256_S1x256x256_2_0_0) = (fun _ => (0 : EReal) : Vec Ideal S1x256x256 .f32) := by
  funext y
  obtain ⟨a, b, rfl⟩ : ∃ a b : Fin 256, y = ix3 0 a b := ⟨y 1, y 2, (eq_ix3 y).trans (congrArg (ix3 · (y 1) (y 2)) (Subsingleton.elim _ _))⟩
  refine (ld_group _ 2 _ a b).trans ?_
  refine (group_miss 1 _ _ _ _ (show 2 ≠ 1 by decide)).trans ?_
  refine (group_miss 0 _ _ _ _ (show 2 ≠ 0 by decide)).trans ?_
  exact zero_mat _ _ _

theorem zrow3 (w0 w1 w2 : Vec Ideal S1x256 .f32) : View.ld (Val := Elt Ideal) (View.canon (Val := Elt Ideal) (e := .f32) [⟨Rect.unit (s := S1x1024) ![0, 512] ![1, 256] inb_S1x1024_S1x256_0_512, w2⟩, ⟨Rect.unit (s := S1x1024) ![0, 256] ![1, 256] inb_S1x1024_S1x256_0_256, w1⟩, ⟨Rect.unit (s := S1x1024) ![0, 0] ![1, 256] inb_S1x1024_S1x256_0_0, w0⟩, ⟨Rect.unit (s := S1x1024) ![0, 0] ![1, 1024] inb_S1x1024_S1x1024_0_0, k0_pay5 (F := Ideal)⟩]) (Rect.unit (s := S1x1024) ![0, 768] ![1, 256] inb_S1x1024_S1x256_0_768) = (fun _ => (0 : EReal) : Vec Ideal S1x256 .f32) := by
  funext y
  obtain ⟨a, rfl⟩ : ∃ a : Fin 256, y = ix2 0 a := ⟨y 1, (eq_ix2 y).trans (congrArg (ix2 · (y 1)) (Subsingleton.elim _ _))⟩
  refine (row_at _ 3 768 rfl _ a).trans ?_
  refine (canon_miss (Val := Elt Ideal) (e := .f32) inb_S1x1024_S1x256_0_512 _ _ _ (.inr (.inr (.inr (show 512 + 256 ≤ 768 + a.val by omega))))).trans ?_
  refine (canon_miss (Val := Elt Ideal) (e := .f32) inb_S1x1024_S1x256_0_256 _ _ _ (.inr (.inr (.inr (show 256 + 256 ≤ 768 + a.val by omega))))).trans ?_
  refine (canon_miss (Val := Elt Ideal) (e := .f32) inb_S1x1024_S1x256_0_0 _ _ _ (.inr (.inr (.inr (show 0 + 256 ≤ 768 + a.val by omega))))).trans ?_
  exact zero_row _ _ _
theorem zmat3 (w0 w1 w2 : Vec Ideal S1x256x256 .f32) : View.ld (Val := Elt Ideal) (View.canon (Val := Elt Ideal) (e := .f32) [⟨Rect.unit (s := S4x256x256) ![2, 0, 0] ![1, 256, 256] inb_S4x256x256_S1x256x256_2_0_0, w2⟩, ⟨Rect.unit (s := S4x256x256) ![1, 0, 0] ![1, 256, 256] inb_S4x256x256_S1x256x256_1_0_0, w1⟩, ⟨Rect.unit (s := S4x256x256) ![0, 0, 0] ![1, 256, 256] inb_S4x256x256_S1x256x256_0_0_0, w0⟩, ⟨Rect.unit (s := S4x256x256) ![0, 0, 0] ![4, 256, 256] inb_S4x256x256_S4x256x256_0_0_0, k0_pay4 (F := Ideal)⟩]) (Rect.unit (s := S4x256x256) ![3, 0, 0] ![1, 256, 256] inb_S4x256x256_S1x256x256_3_0_0) = (fun _ => (0 : EReal) : Vec Ideal S1x256x256 .f32) := by
  funext y
  obtain ⟨a, b, rfl⟩ : ∃ a b : Fin 256, y = ix3 0 a b := ⟨y 1, y 2, (eq_ix3 y).trans (congrArg (ix3 · (y 1) (y 2)) (Subsingleton.elim _ _))⟩
  refine (ld_group _ 3 _ a b).trans ?_
  refine (group_miss 2 _ _ _ _ (show 3 ≠ 2 by decide)).trans ?_
  refine (group_miss 1 _ _ _ _ (show 3 ≠ 1 by decide)).trans ?_
  refine (group_miss 0 _ _ _ _ (show 3 ≠ 0 by decide)).trans ?_
  exact zero_mat _ _ _

theorem dhp_A (c : Dev nD) (t : Fin cfg0.N) (h0 : t.val % 8 = 0) : (outsAt0 m c t.val t.isLt).1 = dhpB m c t := by
  rw [outsAt0_A m c t h0]
  dsimp only
  unfold out0_A_7
  rw [View.read_writes_eq_canon]
  swap
  · apply cover0_A_7
  unfold kernelRun0_A
  dsimp only
  sl_unfold_words
  simp only [canon2, canon_all, readCov_ld, View.readAt_eq_ld, (hs0_0 t).read_unread, (hs0_1 t).read_unread, (hs0_2 t).read_unread, (hs0_3 t).read_unread, (hs0_4 t).read_unread, (hs0_5 t).read_unread, (hs0_6 t).read_unread, ld2]
  rfl

theorem dgain_A (c : Dev nD) (t : Fin cfg0.N) (h0 : t.val % 8 = 0) : (outsAt0 m c t.val t.isLt).2.1 = dgB m c t (k0_pay3 (F := Ideal)) := by
  rw [outsAt0_A m c t h0]
  dsimp only
  unfold out0_A_8
  rw [View.read_writes_eq_canon]
  swap
  · apply cover0_A_8
  unfold kernelRun0_A
  dsimp only
  sl_unfold_words
  simp only [canon2, canon_all, readCov_ld, View.readAt_eq_ld, (hs0_0 t).read_unread, (hs0_1 t).read_unread, (hs0_2 t).read_unread, (hs0_3 t).read_unread, (hs0_4 t).read_unread, (hs0_5 t).read_unread, (hs0_6 t).read_unread, ld2]
  rfl

theorem dwg_A (c : Dev nD) (t : Fin cfg0.N) (h0 : t.val % 8 = 0) (g : Fin 4) (a b : Fin 256) :
    (outsAt0 m c t.val t.isLt).2.2.1 (ix3 g a b) = tileMat m c g a b t := by
  rw [outsAt0_A m c t h0]
  dsimp only
  unfold out0_A_9
  rw [View.read_writes_eq_canon]
  swap
  · apply cover0_A_9
  unfold kernelRun0_A
  dsimp only
  sl_unfold_words
  simp only [canon2, canon_all, readCov_ld, View.readAt_eq_ld, (hs0_0 t).read_unread, (hs0_1 t).read_unread, (hs0_2 t).read_unread, (hs0_3 t).read_unread, (hs0_4 t).read_unread, (hs0_5 t).read_unread, (hs0_6 t).read_unread, zmat0, zmat1, zmat2, zmat3, ld2]
  rw [← zero_add (tileMat m c g a b t)]
  exact dwgB_at m c t _ _ _ _ _ (fun _ _ _ => 0) (fun _ _ => rfl) (fun _ _ => rfl) (fun _ _ => rfl) (fun _ _ => rfl) g a b

theorem dsc_A (c : Dev nD) (t : Fin cfg0.N) (h0 : t.val % 8 = 0) (g : Fin 4) (a : Fin 256) :
    (outsAt0 m c t.val t.isLt).2.2.2 (ix2 0 (col g a)) = tileScale m c g a t := by
  rw [outsAt0_A m c t h0]
  dsimp only
  unfold out0_A_10
  rw [View.read_writes_eq_canon]
  swap
  · apply cover0_A_10
  unfold kernelRun0_A
  dsimp only
  sl_unfold_words
  simp only [canon2, canon_all, readCov_ld, View.readAt_eq_ld, (hs0_0 t).read_unread, (hs0_1 t).read_unread, (hs0_2 t).read_unread, (hs0_3 t).read_unread, (hs0_4 t).read_unread, (hs0_5 t).read_unread, (hs0_6 t).read_unread, zrow0, zrow1, zrow2, zrow3, ld2]
  rw [← zero_add (tileScale m c g a t)]
  exact dscB_at m c t _ _ _ _ _ (fun _ _ => 0) (fun _ => rfl) (fun _ => rfl) (fun _ => rfl) (fun _ => rfl) g a

theorem dhp_B (c : Dev nD) (t : Fin cfg0.N) (h0 : ¬t.val % 8 = 0) : (outsAt0 m c t.val t.isLt).1 = dhpB m c t := by
  rw [outsAt0_B m c t h0]
  dsimp only
  unfold out0_B_7
  rw [View.read_writes_eq_canon]
  swap
  · apply cover0_B_7
  unfold kernelRun0_B
  dsimp only
  sl_unfold_words
  simp only [canon2, canon_all, readCov_ld, View.readAt_eq_ld, (hs0_0 t).read_unread, (hs0_1 t).read_unread, (hs0_2 t).read_unread, (hs0_3 t).read_unread, (hs0_4 t).read_unread, (hs0_5 t).read_unread, (hs0_6 t).read_unread, ld2]
  rfl

theorem dgain_B (c : Dev nD) (t : Fin cfg0.N) (h0 : ¬t.val % 8 = 0) : (outsAt0 m c t.val t.isLt).2.1 = dgB m c t (prev m c t).2.1 := by
  rw [outsAt0_B m c t h0]
  dsimp only
  unfold out0_B_8
  rw [View.read_writes_eq_canon]
  swap
  · apply cover0_B_8
  unfold kernelRun0_B
  dsimp only
  sl_unfold_words
  simp only [canon2, canon_all, readCov_ld, View.readAt_eq_ld, (hs0_0 t).read_unread, (hs0_1 t).read_unread, (hs0_2 t).read_unread, (hs0_3 t).read_unread, (hs0_4 t).read_unread, (hs0_5 t).read_unread, (hs0_6 t).read_unread, (hs0_8 t).read_unread, ld2]
  rfl

theorem dwg_B (c : Dev nD) (t : Fin cfg0.N) (h0 : ¬t.val % 8 = 0) (g : Fin 4) (a b : Fin 256) :
    (outsAt0 m c t.val t.isLt).2.2.1 (ix3 g a b) = (prev m c t).2.2.1 (ix3 g a b) + tileMat m c g a b t := by
  rw [outsAt0_B m c t h0]
  dsimp only
  unfold out0_B_9
  rw [View.read_writes_eq_canon]
  swap
  · apply cover0_B_9
  unfold kernelRun0_B
  dsimp only
  sl_unfold_words
  simp only [canon2, canon_all, readCov_ld, View.readAt_eq_ld, (hs0_0 t).read_unread, (hs0_1 t).read_unread, (hs0_2 t).read_unread, (hs0_3 t).read_unread, (hs0_4 t).read_unread, (hs0_5 t).read_unread, (hs0_6 t).read_unread, (hs0_9 t).read_unread, ld2]
  exact dwgB_at m c t _ _ _ _ _ (fun g a b => (prev m c t).2.2.1 (ix3 g a b)) (ld_group _ 0 _) (ld_group _ 1 _) (ld_group _ 2 _) (ld_group _ 3 _) g a b

theorem dsc_B (c : Dev nD) (t : Fin cfg0.N) (h0 : ¬t.val % 8 = 0) (g : Fin 4) (a : Fin 256) :
    (outsAt0 m c t.val t.isLt).2.2.2 (ix2 0 (col g a)) = (prev m c t).2.2.2 (ix2 0 (col g a)) + tileScale m c g a t := by
  rw [outsAt0_B m c t h0]
  dsimp only
  unfold out0_B_10
  rw [View.read_writes_eq_canon]
  swap
  · apply cover0_B_10
  unfold kernelRun0_B
  dsimp only
  sl_unfold_words
  simp only [canon2, canon_all, readCov_ld, View.readAt_eq_ld, (hs0_0 t).read_unread, (hs0_1 t).read_unread, (hs0_2 t).read_unread, (hs0_3 t).read_unread, (hs0_4 t).read_unread, (hs0_5 t).read_unread, (hs0_6 t).read_unread, (hs0_10 t).read_unread, ld2]
  exact dscB_at m c t _ _ _ _ _ (fun g a => (prev m c t).2.2.2 (ix2 0 (col g a))) (row_at _ 0 0 rfl _) (row_at _ 1 256 rfl _) (row_at _ 2 512 rfl _) (row_at _ 3 768 rfl _) g a

end Cert.Proof.BMixCases

end
-- ==== Proof.BMixValue.lean ====
/- The second mixer's gradient: what the kernel's four outputs hold at the end, as formulas in the whole arrays. -/
module

public import proofs.«01_k».proof.Proof.BMixCases
public import proofs.«01_k».proof.Proof.Tiles

@[expose] public section

set_option maxRecDepth 16384

noncomputable section

namespace Cert.Proof.BMixValue

open Idealize.ShloMosaic Idealize.SL.Sem Cert.BMixIdeal Cert.BMixIdeal.Gen Cert.Proof.BMix Cert.Proof.BMixPoint Cert.Proof.BMixBlocks Cert.Proof.BMixCases Cert.Proof.Tiles
open Idealize.ShloMosaic.Pipeline (Dat Cfg Window)

variable (m : (ℓ : Loc nD τ sig) → Buf (Elt Ideal) ℓ)

/-! ### The outputs after a point -/

theorem later (n : ℕ) (h : n + 1 < cfg0.N) : ¬(n + 1) % 8 = 0 := by
  have := lt8 ⟨n + 1, h⟩
  dsimp only at this
  omega

theorem at_last (t : Fin cfg0.N) (ht : t.val % 8 = 7) : t.val + 1 = cfg0.N := by
  have := lt8 t
  exact (show t.val + 1 = 8 by omega).trans (show cfg0.N = 8 from N_0).symm

theorem out_dhp (c : Dev nD) (t : Fin cfg0.N) (p : Fin 512) (j : Fin 1024) :
    (outsAt0 m c t.val t.isLt).1 (ix2 p j) = dhp (dhA m c) (hA m c) (gaA m c) (wA m c) (scA m c) (row t p) j := by
  rw [← dhpB_at]
  by_cases h0 : t.val % 8 = 0
  · rw [dhp_A m c t h0]
  · rw [dhp_B m c t h0]

theorem out_dgain (c : Dev nD) (t : Fin cfg0.N) (ht : t.val % 8 = 7) (j : Fin 1024) :
    (outsAt0 m c t.val t.isLt).2.1 (ix2 0 j) = ∑ s : Fin cfg0.N, tileGain m c j s := by
  refine running_last (fun n h => (outsAt0 m c n h).2.1 (ix2 0 j)) (tileGain m c j) (fun h => ?_) (fun n h => ?_) t.val t.isLt (at_last t ht)
  · exact (congrFun (dgain_A m c ⟨0, h⟩ rfl) _).trans ((dgB_at m c ⟨0, h⟩ _ j).trans ((congrArg (· + _) (zero3 _)).trans (zero_add _)))
  · exact (congrFun (dgain_B m c ⟨n + 1, h⟩ (later n h)) _).trans (dgB_at m c ⟨n + 1, h⟩ _ j)

theorem out_dwg (c : Dev nD) (t : Fin cfg0.N) (ht : t.val % 8 = 7) (g : Fin 4) (a b : Fin 256) :
    (outsAt0 m c t.val t.isLt).2.2.1 (ix3 g a b) = ∑ s : Fin cfg0.N, tileMat m c g a b s :=
  running_last (fun n h => (outsAt0 m c n h).2.2.1 (ix3 g a b)) (tileMat m c g a b) (fun h => dwg_A m c ⟨0, h⟩ rfl g a b)
    (fun n h => dwg_B m c ⟨n + 1, h⟩ (later n h) g a b) t.val t.isLt (at_last t ht)

theorem out_dsc (c : Dev nD) (t : Fin cfg0.N) (ht : t.val % 8 = 7) (g : Fin 4) (a : Fin 256) :
    (outsAt0 m c t.val t.isLt).2.2.2 (ix2 0 (col g a)) = ∑ s : Fin cfg0.N, tileScale m c g a s :=
  running_last (fun n h => (outsAt0 m c n h).2.2.2 (ix2 0 (col g a))) (tileScale m c g a) (fun h => dsc_A m c ⟨0, h⟩ rfl g a)
    (fun n h => dsc_B m c ⟨n + 1, h⟩ (later n h) g a) t.val t.isLt (at_last t ht)

/-! ### The arrays at the end -/

theorem index7 : ∀ t : Fin cfg0.N, win0_7.index t 0 = t.val ∧ win0_7.index t 1 = 0 :=
  (by decide +kernel : ∀ t : Fin grid0.N, win0_7.index t 0 = t.val ∧ win0_7.index t 1 = 0)
theorem index8 : ∀ t : Fin cfg0.N, win0_8.index t 0 = 0 ∧ win0_8.index t 1 = 0 :=
  (by decide +kernel : ∀ t : Fin grid0.N, win0_8.index t 0 = 0 ∧ win0_8.index t 1 = 0)
theorem index9 : ∀ t : Fin cfg0.N, win0_9.index t 0 = 0 ∧ win0_9.index t 1 = 0 ∧ win0_9.index t 2 = 0 :=
  (by decide +kernel : ∀ t : Fin grid0.N, win0_9.index t 0 = 0 ∧ win0_9.index t 1 = 0 ∧ win0_9.index t 2 = 0)
theorem index10 : ∀ t : Fin cfg0.N, win0_10.index t 0 = 0 ∧ win0_10.index t 1 = 0 :=
  (by decide +kernel : ∀ t : Fin grid0.N, win0_10.index t 0 = 0 ∧ win0_10.index t 1 = 0)

theorem emb7 (t : Fin cfg0.N) (p : Fin 512) (k : Fin 1024) : ((cfg0.win 7).blk t).view.emb (ix2 p k) = ix2 (row t p) k := by
  refine Shape.idx_ext₂ ?_ ?_
  · refine (Window.rect_emb_val win0_7 t (ix2 p k) 0).trans ?_
    rw [(index7 t).1]; rfl
  · refine (Window.rect_emb_val win0_7 t (ix2 p k) 1).trans ?_
    rw [(index7 t).2]; exact Nat.zero_add _

theorem emb8 (t : Fin cfg0.N) (i : Fin 1) (j : Fin 1024) : ((cfg0.win 8).blk t).view.emb (ix2 i j) = ix2 i j := by
  refine Shape.idx_ext₂ ?_ ?_
  · refine (Window.rect_emb_val win0_8 t (ix2 i j) 0).trans ?_
    rw [(index8 t).1]; exact Nat.zero_add _
  · refine (Window.rect_emb_val win0_8 t (ix2 i j) 1).trans ?_
    rw [(index8 t).2]; exact Nat.zero_add _

theorem emb9 (t : Fin cfg0.N) (g : Fin 4) (a b : Fin 256) : ((cfg0.win 9).blk t).view.emb (ix3 g a b) = ix3 g a b := by
  refine ext3 ?_ ?_ ?_
  · refine (Window.rect_emb_val win0_9 t (ix3 g a b) 0).trans ?_
    rw [(index9 t).1]; exact Nat.zero_add _
  · refine (Window.rect_emb_val win0_9 t (ix3 g a b) 1).trans ?_
    rw [(index9 t).2.1]; exact Nat.zero_add _
  · refine (Window.rect_emb_val win0_9 t (ix3 g a b) 2).trans ?_
    rw [(index9 t).2.2]; exact Nat.zero_add _

theorem emb10 (t : Fin cfg0.N) (i : Fin 1) (j : Fin 1024) : ((cfg0.win 10).blk t).view.emb (ix2 i j) = ix2 i j := by
  refine Shape.idx_ext₂ ?_ ?_
  · refine (Window.rect_emb_val win0_10 t (ix2 i j) 0).trans ?_
    rw [(index10 t).1]; exact Nat.zero_add _
  · refine (Window.rect_emb_val win0_10 t (ix2 i j) 1).trans ?_
    rw [(index10 t).2]; exact Nat.zero_add _

/-- The last point. -/
def last : Fin cfg0.N := ⟨7, by rw [show cfg0.N = 8 from N_0]; decide⟩

theorem end_dhp (c : Dev nD) : (dats m 0 c).arrAt 7 cfg0.N = fun i : S4096x1024.Idx =>
    dhp (dhA m c) (hA m c) (gaA m c) (wA m c) (scA m c) (i 0) (i 1) := by
  refine Dat.arrAt_eq_of_cover (dats m 0 c) 7 _ (fun t _ => ?_) (fun i => ?_)
  · show (cfg0.win 7).cut (grid0.coords t) ((dats m 0 c).after 7 t) = _
    rw [after0_7]
    funext y
    obtain ⟨p, k, rfl⟩ : ∃ (p : Fin 512) (k : Fin 1024), y = ix2 p k := ⟨y 0, y 1, eq_ix2 y⟩
    rw [View.read_apply, emb7]
    exact out_dhp m c t p k
  · obtain ⟨r, k, rfl⟩ : ∃ (r : Fin 4096) (k : Fin 1024), i = ix2 r k := ⟨i 0, i 1, eq_ix2 i⟩
    have hr := r.isLt
    have ht : r.val / 512 < cfg0.N := by rw [show cfg0.N = 8 from N_0]; omega
    have h := View.emb_mem_set ((cfg0.win 7).blk ⟨_, ht⟩).view (ix2 (⟨r.val % 512, Nat.mod_lt _ (by norm_num)⟩ : Fin 512) k)
    rw [emb7] at h
    refine ⟨⟨_, ht⟩, flush0_7 _, ?_⟩
    rwa [show row ⟨_, ht⟩ ⟨r.val % 512, Nat.mod_lt _ (by norm_num)⟩ = r from
      Fin.ext (show r.val / 512 * 512 + r.val % 512 = r.val by omega)] at h

theorem end_dgain (c : Dev nD) : (dats m 0 c).arrAt 8 cfg0.N = fun i : S1x1024.Idx => ∑ s : Fin cfg0.N, tileGain m c (i 1) s := by
  refine Dat.arrAt_eq_of_cover (dats m 0 c) 8 _ (fun t hf => ?_) (fun i => ?_)
  · show (cfg0.win 8).cut (grid0.coords t) ((dats m 0 c).after 8 t) = _
    rw [after0_8]
    funext y
    obtain ⟨k, rfl⟩ : ∃ k : Fin 1024, y = ix2 0 k := ⟨y 1, (eq_ix2 y).trans (congrArg (ix2 · (y 1)) (Subsingleton.elim _ _))⟩
    rw [View.read_apply, emb8]
    exact out_dgain m c t ((flush0_8 t).mp hf) k
  · refine ⟨last, (flush0_8 _).mpr rfl, ?_⟩
    obtain ⟨r, k, rfl⟩ : ∃ (r : Fin 1) (k : Fin 1024), i = ix2 r k := ⟨i 0, i 1, eq_ix2 i⟩
    have h := View.emb_mem_set ((cfg0.win 8).blk last).view (ix2 r k)
    rwa [emb8] at h

theorem end_dwg (c : Dev nD) : (dats m 0 c).arrAt 9 cfg0.N = fun i : S4x256x256.Idx => ∑ s : Fin cfg0.N, tileMat m c (i 0) (i 1) (i 2) s := by
  refine Dat.arrAt_eq_of_cover (dats m 0 c) 9 _ (fun t hf => ?_) (fun i => ?_)
  · show (cfg0.win 9).cut (grid0.coords t) ((dats m 0 c).after 9 t) = _
    rw [after0_9]
    funext y
    obtain ⟨g, a, b, rfl⟩ : ∃ (g : Fin 4) (a b : Fin 256), y = ix3 g a b := ⟨y 0, y 1, y 2, eq_ix3 y⟩
    rw [View.read_apply, emb9]
    exact out_dwg m c t ((flush0_9 t).mp hf) g a b
  · refine ⟨last, (flush0_9 _).mpr rfl, ?_⟩
    obtain ⟨g, a, b, rfl⟩ : ∃ (g : Fin 4) (a b : Fin 256), i = ix3 g a b := ⟨i 0, i 1, i 2, eq_ix3 i⟩
    have h := View.emb_mem_set ((cfg0.win 9).blk last).view (ix3 g a b)
    rwa [emb9] at h

theorem end_dsc (c : Dev nD) : (dats m 0 c).arrAt 10 cfg0.N = fun i : S1x1024.Idx => ∑ s : Fin cfg0.N, tileScale m c (grp (i 1)) (pos (i 1)) s := by
  refine Dat.arrAt_eq_of_cover (dats m 0 c) 10 _ (fun t hf => ?_) (fun i => ?_)
  · show (cfg0.win 10).cut (grid0.coords t) ((dats m 0 c).after 10 t) = _
    rw [after0_10]
    funext y
    obtain ⟨k, rfl⟩ : ∃ k : Fin 1024, y = ix2 0 k := ⟨y 1, (eq_ix2 y).trans (congrArg (ix2 · (y 1)) (Subsingleton.elim _ _))⟩
    rw [View.read_apply, emb10]
    refine Eq.trans ?_ (out_dsc m c t ((flush0_10 t).mp hf) (grp k) (pos k))
    rw [col_grp]
    rfl
  · refine ⟨last, (flush0_10 _).mpr rfl, ?_⟩
    obtain ⟨r, k, rfl⟩ : ∃ (r : Fin 1) (k : Fin 1024), i = ix2 r k := ⟨i 0, i 1, eq_ix2 i⟩
    have h := View.emb_mem_set ((cfg0.win 10).blk last).view (ix2 r k)
    rwa [emb10] at h

/-- The run: the four outputs are these arrays and the arguments are unchanged. -/
theorem run (ρ : Dev nD → PrngReg) : θ_run (defs (F := Ideal)) (onTc (τ := τ) (main (F := Ideal))) ⟨m, fun _ => 0, ρ⟩ fun r => ∀ c : Dev nD,
    r.2.mem ((c.tc : Thread nD τ).loc main_v7_0) = (dats m 0 c).arrAt 7 cfg0.N
    ∧ r.2.mem ((c.tc : Thread nD τ).loc main_v7_1) = (dats m 0 c).arrAt 8 cfg0.N
    ∧ r.2.mem ((c.tc : Thread nD τ).loc main_v7_2) = (dats m 0 c).arrAt 9 cfg0.N
    ∧ r.2.mem ((c.tc : Thread nD τ).loc main_v7_3) = (dats m 0 c).arrAt 10 cfg0.N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun _ h c => ⟨(h c).1 7, (h c).1 8, (h c).1 9, (h c).1 10,
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.Proof.BMixValue

end
-- ==== Proof.Windows.lean ====
/- Running sums along the first axis of a rank-three array, and the difference of two of them as the sum over a window of rows. -/
module

public import proofs.«01_k».proof.Proof.Finite

@[expose] public section

noncomputable section

namespace Cert.Proof.Windows

open Idealize.ShloMosaic

theorem fold_add {α : Type*} (f : α → EReal) (l : List α) (s : EReal) : l.foldl (fun r n => r + f n) s = s + (l.map f).sum := by
  induction l generalizing s with
  | nil => exact (add_zero s).symm
  | cons n l ih => rw [List.foldl_cons, ih, List.map_cons, List.sum_cons, add_assoc]

/-- The positions of a column. -/
def column (N : ℕ) : Fin N ≃ (⟨3, ![N, 1, 1]⟩ : Shape).Idx where
  toFun k := ix3 k (0 : Fin 1) (0 : Fin 1)
  invFun y := y 0
  left_inv _ := rfl
  right_inv y := by
    funext d
    obtain rfl | rfl | rfl : d = 0 ∨ d = 1 ∨ d = 2 := (show ∀ d : Fin 3, d = 0 ∨ d = 1 ∨ d = 2 by decide) d
    · rfl
    · exact Subsingleton.elim (α := Fin 1) _ _
    · exact Subsingleton.elim (α := Fin 1) _ _

/-- A sum over a window as tall as the array and one entry wide, after `L` rows of zeros. -/
theorem tall {N G A L H : ℕ} (x : FVec Ideal ⟨3, ![N, G, A]⟩ .f32) {u : Shape} (init : u.Idx → EReal)
    (h : (⟨3, ![N, G, A]⟩ : Shape).ReduceWindows (![N, 1, 1] : Fin 3 → ℕ) ![1, 1, 1] ![L, 0, 0] ![H, 0, 0] ⟨3, ![N, G, A]⟩) (hu : 0 < u.numel)
    (hi : init (Shape.Idx.first hu) = 0) (r : Fin N) (g : Fin G) (a : Fin A) :
    Host.reduceWindowAdd (F := Ideal) (φ := .f32) ![N, 1, 1] ![1, 1, 1] ![L, 0, 0] ![H, 0, 0] x init h hu (ix3 r g a)
      = ∑ k : Fin N, if e : L ≤ r.val + k.val ∧ r.val + k.val - L < N then x (ix3 ⟨r.val + k.val - L, e.2⟩ g a) else 0 := by
  show Host.reduceWindow (· + ·) ![N, 1, 1] ![1, 1, 1] ![L, 0, 0] ![H, 0, 0] x (fun _ : (⟨0, ![]⟩ : Shape).Idx => init (Shape.Idx.first hu)) h (by decide) (ix3 r g a) = _
  rw [hi]
  unfold Host.reduceWindow
  dsimp only
  refine (fold_add _ _ _).trans ?_
  rw [zero_add, ← Fin.sum_univ_def]
  rw [← Equiv.sum_comp ((column N).trans (Shape.rowMajor (⟨3, ![N, 1, 1]⟩ : Shape)))]
  refine Finset.sum_congr rfl fun k _ => ?_
  obtain ⟨y, hy⟩ : ∃ y : (⟨3, ![N, 1, 1]⟩ : Shape).Idx,
      y = (Shape.rowMajor (⟨3, ![N, 1, 1]⟩ : Shape)).symm (((column N).trans (Shape.rowMajor (⟨3, ![N, 1, 1]⟩ : Shape))) k) := ⟨_, rfl⟩
  have hk : y = ix3 k (0 : Fin 1) (0 : Fin 1) := hy.trans (Equiv.symm_apply_apply _ _)
  simp only [← hy]
  subst hk
  by_cases e : L ≤ r.val + k.val ∧ r.val + k.val - L < N
  · rw [dif_pos e, dif_pos]
    · refine congrArg x (funext fun d => Fin.ext ?_)
      obtain rfl | rfl | rfl : d = 0 ∨ d = 1 ∨ d = 2 := (show ∀ d : Fin 3, d = 0 ∨ d = 1 ∨ d = 2 by decide) d
      · show r.val * 1 + k.val - L = r.val + k.val - L
        rw [mul_one]
      · show g.val * 1 + 0 - 0 = g.val
        omega
      · show a.val * 1 + 0 - 0 = a.val
        omega
    · intro d
      obtain rfl | rfl | rfl : d = 0 ∨ d = 1 ∨ d = 2 := (show ∀ d : Fin 3, d = 0 ∨ d = 1 ∨ d = 2 by decide) d
      · show L ≤ r.val * 1 + k.val ∧ r.val * 1 + k.val - L < N
        rwa [mul_one]
      · show 0 ≤ g.val * 1 + 0 ∧ g.val * 1 + 0 - 0 < G
        omega
      · show 0 ≤ a.val * 1 + 0 ∧ a.val * 1 + 0 - 0 < A
        omega
  · rw [dif_neg e, dif_neg]
    intro hin
    have h0 : L ≤ r.val * 1 + k.val ∧ r.val * 1 + k.val - L < N := hin 0
    rw [mul_one] at h0
    exact e h0

/-- A difference of two running sums, `w` apart. -/
theorem apart (V : ℕ → ℝ) (w b n : ℕ) :
    ∑ k ∈ Finset.range n, V (b + w + k) - ∑ k ∈ Finset.range n, V (b + k) = ∑ i ∈ Finset.range w, V (b + n + i) - ∑ i ∈ Finset.range w, V (b + i) := by
  induction n with
  | zero => simp
  | succ n ih =>
    have e1 : ∑ i ∈ Finset.range (w + 1), V (b + n + i) = ∑ i ∈ Finset.range w, V (b + n + i) + V (b + n + w) := Finset.sum_range_succ _ _
    have e2 : ∑ i ∈ Finset.range (w + 1), V (b + n + i) = ∑ i ∈ Finset.range w, V (b + n + (i + 1)) + V (b + n + 0) := Finset.sum_range_succ' _ _
    have e3 : ∑ i ∈ Finset.range w, V (b + n + (i + 1)) = ∑ i ∈ Finset.range w, V (b + (n + 1) + i) :=
      Finset.sum_congr rfl fun i _ => congrArg V (by omega)
    have e4 : V (b + w + n) = V (b + n + w) := congrArg V (by omega)
    rw [Finset.sum_range_succ, Finset.sum_range_succ, ← e3, e4]
    have e5 : V (b + n + 0) = V (b + n) := rfl
    linarith

/-- A sum over `Fin` of real numbers, as a real number. -/
theorem coe_sum_fin (n : ℕ) (V : ℕ → ℝ) : ∑ k : Fin n, ((V k.val : ℝ) : EReal) = ((∑ k ∈ Finset.range n, V k : ℝ) : EReal) := by
  rw [Finset.sum_range (fun k => V k)]
  induction n with
  | zero => simp
  | succ n ih => rw [Fin.sum_univ_castSucc, Fin.sum_univ_castSucc, EReal.coe_add]; exact congrArg (· + _) ih

variable {N : ℕ}

/-- The running sum up to a row less the one `w` rows before, of real numbers `X`: the sum over the `w` rows up to it. -/
theorem back (X : ℕ → ℝ) (w r : ℕ) (hr : r < N) (hN : 0 < N) :
    (∑ k ∈ Finset.range N, if N - 1 ≤ r + k then X (r + k - (N - 1)) else 0)
      - (if w ≤ r then ∑ k ∈ Finset.range N, if N - 1 ≤ r - w + k then X (r - w + k - (N - 1)) else 0 else 0)
      = ∑ i ∈ Finset.range w, if i ≤ r then X (r - i) else 0 := by
  have h := apart (fun s => if N - 1 + w ≤ s then X (s - (N - 1) - w) else 0) w r N
  have h1 : (∑ k ∈ Finset.range N, if N - 1 + w ≤ r + w + k then X (r + w + k - (N - 1) - w) else 0) = ∑ k ∈ Finset.range N, if N - 1 ≤ r + k then X (r + k - (N - 1)) else 0 :=
    Finset.sum_congr rfl fun k _ => by
      by_cases e : N - 1 ≤ r + k
      · rw [if_pos e, if_pos (by omega)]; exact congrArg X (by omega)
      · rw [if_neg e, if_neg (by omega)]
  have h2 : (∑ k ∈ Finset.range N, if N - 1 + w ≤ r + k then X (r + k - (N - 1) - w) else 0)
      = if w ≤ r then ∑ k ∈ Finset.range N, if N - 1 ≤ r - w + k then X (r - w + k - (N - 1)) else 0 else 0 := by
    by_cases hw : w ≤ r
    · rw [if_pos hw]
      refine Finset.sum_congr rfl fun k _ => ?_
      by_cases e : N - 1 + w ≤ r + k
      · rw [if_pos e, if_pos (by omega)]; exact congrArg X (by omega)
      · rw [if_neg e, if_neg (by omega)]
    · rw [if_neg hw]
      exact Finset.sum_eq_zero fun k hk => if_neg (by have := Finset.mem_range.mp hk; omega)
  have h3 : (∑ i ∈ Finset.range w, if N - 1 + w ≤ r + i then X (r + i - (N - 1) - w) else 0) = 0 :=
    Finset.sum_eq_zero fun k hk => if_neg (by have := Finset.mem_range.mp hk; omega)
  rw [h1, h2, h3, sub_zero] at h
  rw [h, ← Finset.sum_range_reflect]
  refine Finset.sum_congr rfl fun i hi => ?_
  have hi := Finset.mem_range.mp hi
  by_cases e : i ≤ r
  · rw [if_pos e, if_pos (by omega)]; exact congrArg X (by omega)
  · rw [if_neg e, if_neg (by omega)]

/-- The running sum from a row to the last of the differences of rows `w` apart: the sum over the `w` rows from it. -/
theorem ahead (D : ℕ → ℝ) (hD : ∀ s, N ≤ s → D s = 0) (w r : ℕ) :
    ∑ k ∈ Finset.range N, (D (r + k) - D (r + k + w)) = ∑ i ∈ Finset.range w, D (r + i) := by
  have h := apart D w r N
  have h0 : ∑ i ∈ Finset.range w, D (r + N + i) = 0 := Finset.sum_eq_zero fun i _ => hD _ (by omega)
  have h1 : ∑ k ∈ Finset.range N, D (r + k + w) = ∑ k ∈ Finset.range N, D (r + w + k) := Finset.sum_congr rfl fun k _ => congrArg D (by omega)
  rw [Finset.sum_sub_distrib, h1]
  rw [h0] at h
  linarith

open Cert.Proof.Finite (IsReal)

/-- Finite values of the rows as real numbers, zero elsewhere. -/
theorem reals (u : Fin 4096 → EReal) (hu : ∀ r, IsReal (u r)) : ∃ X : ℕ → ℝ, (∀ s (e : s < 4096), u ⟨s, e⟩ = (X s : EReal)) ∧ ∀ s, 4096 ≤ s → X s = 0 := by
  choose f hf using hu
  refine ⟨fun s => if e : s < 4096 then f ⟨s, e⟩ else 0, fun s e => ?_, fun s e => dif_neg (by omega)⟩
  show _ = ((if e : s < 4096 then f ⟨s, e⟩ else 0 : ℝ) : EReal)
  rw [dif_pos e]
  exact hf _

/-- `back`, of finite values of the 4096 rows: the window's rows are counted with 32 rows of zeros above. -/
theorem trailing (u : Fin 4096 → EReal) (hu : ∀ r, IsReal (u r)) (w : ℕ) (hw : w ≤ 32) (r : Fin 4096) :
    (∑ k : Fin 4096, if e : 4095 ≤ r.val + k.val ∧ r.val + k.val - 4095 < 4096 then u ⟨r.val + k.val - 4095, e.2⟩ else 0)
      - (if w ≤ r.val then ∑ k : Fin 4096, if e : 4095 ≤ r.val - w + k.val ∧ r.val - w + k.val - 4095 < 4096 then u ⟨r.val - w + k.val - 4095, e.2⟩ else 0 else 0)
      = ∑ i : Fin w, if e : 32 ≤ 32 - i.val + r.val ∧ 32 - i.val + r.val < 4128 then u ⟨32 - i.val + r.val - 32, by omega⟩ else 0 := by
  obtain ⟨X, hX, -⟩ := reals u hu
  have sums : ∀ n : ℕ, n < 4096 → (∑ k : Fin 4096, if e : 4095 ≤ n + k.val ∧ n + k.val - 4095 < 4096 then u ⟨n + k.val - 4095, e.2⟩ else 0)
      = ((∑ k ∈ Finset.range 4096, if 4096 - 1 ≤ n + k then X (n + k - (4096 - 1)) else 0 : ℝ) : EReal) := fun n hn => by
    rw [← coe_sum_fin]
    refine Finset.sum_congr rfl fun k _ => ?_
    by_cases e : 4095 ≤ n + k.val
    · rw [dif_pos ⟨e, by omega⟩, if_pos e, hX]
    · rw [dif_neg (fun h => e h.1), if_neg e]; rfl
  have tail : (if w ≤ r.val then ∑ k : Fin 4096, if e : 4095 ≤ r.val - w + k.val ∧ r.val - w + k.val - 4095 < 4096 then u ⟨r.val - w + k.val - 4095, e.2⟩ else 0 else 0)
      = ((if w ≤ r.val then ∑ k ∈ Finset.range 4096, if 4096 - 1 ≤ r.val - w + k then X (r.val - w + k - (4096 - 1)) else 0 else 0 : ℝ) : EReal) := by
    by_cases e : w ≤ r.val
    · rw [if_pos e, if_pos e]
      exact sums _ (by omega)
    · rw [if_neg e, if_neg e]; rfl
  rw [sums _ r.isLt, tail, ← EReal.coe_sub, back X w r.val r.isLt (by norm_num), ← coe_sum_fin]
  refine Finset.sum_congr rfl fun i _ => ?_
  by_cases e : i.val ≤ r.val
  · rw [if_pos e, dif_pos (by omega), hX]
    exact congrArg (fun n : ℕ => (X n : EReal)) (by omega)
  · rw [if_neg e, dif_neg (by omega)]; rfl

/-- `ahead`, of finite values of the 4096 rows. -/
theorem leading (d : Fin 4096 → EReal) (hd : ∀ r, IsReal (d r)) (w : ℕ) (r : Fin 4096) :
    (∑ k : Fin 4096, if e : 0 ≤ r.val + k.val ∧ r.val + k.val - 0 < 4096 then d ⟨r.val + k.val - 0, e.2⟩
        + (if e' : w + (r.val + k.val - 0) < 4096 then -d ⟨w + (r.val + k.val - 0), e'⟩ else 0) else 0)
      = ∑ i : Fin w, if e : i.val + r.val < 4096 then d ⟨i.val + r.val, e⟩ else 0 := by
  obtain ⟨X, hX, h0⟩ := reals d hd
  have e1 : (∑ k : Fin 4096, if e : 0 ≤ r.val + k.val ∧ r.val + k.val - 0 < 4096 then d ⟨r.val + k.val - 0, e.2⟩
        + (if e' : w + (r.val + k.val - 0) < 4096 then -d ⟨w + (r.val + k.val - 0), e'⟩ else 0) else 0)
      = ((∑ k ∈ Finset.range 4096, (X (r.val + k) - X (r.val + k + w)) : ℝ) : EReal) := by
    rw [← coe_sum_fin]
    refine Finset.sum_congr rfl fun k _ => ?_
    by_cases e : r.val + k.val < 4096
    · rw [dif_pos ⟨Nat.zero_le _, e⟩, hX, EReal.coe_sub, sub_eq_add_neg]
      refine congrArg₂ (· + ·) rfl ?_
      by_cases e' : w + (r.val + k.val) < 4096
      · rw [dif_pos (by omega), hX]
        exact congrArg (fun n : ℕ => -(X n : EReal)) (by omega)
      · rw [dif_neg (by omega), h0 _ (by omega)]; simp
    · rw [dif_neg (fun h => e h.2), h0 _ (by omega), h0 _ (by omega), sub_zero]; rfl
  rw [e1, ahead X h0, ← coe_sum_fin]
  refine Finset.sum_congr rfl fun i _ => ?_
  by_cases e : i.val + r.val < 4096
  · rw [dif_pos e, hX]
    exact congrArg (fun n : ℕ => (X n : EReal)) (by omega)
  · rw [dif_neg e, h0 _ (by omega)]; rfl

end Cert.Proof.Windows

end
-- ==== Proof.BMixRef.lean ====
/- The second mixer's gradient: the reference's results read at an index — its windows are differences of running sums — and
   their agreement with what the kernel's outputs hold at the end. -/
module

public import proofs.«01_k».proof.Defs
public import proofs.«01_k».proof.Proof.BMixValue
public import proofs.«01_k».proof.Proof.Windows
public import proofs.«01_k».proof.Proof.Pads
public import proofs.«01_k».proof.Proof.Gen.BMixRefIdeal.Read
public import proofs.«01_k».proof.Proof.Gen.Pre_b_finite

@[expose] public section

set_option maxRecDepth 16384

noncomputable section

namespace Cert.Proof.BMixRef

open Idealize.ShloMosaic Idealize.SL.Sem Cert.BMixRefIdeal Cert.BMixRefIdeal.Read Cert.Proof.Rms Cert.Proof.Tiles Cert.Proof.BMix Cert.Proof.Windows
open Cert.Proof.Pads (pad_in pad_out cat_above cat_below)
open Cert.Proof.Finite (IsReal fin_mul fin_sum fin_norm fin_test)
open Cert.Proof.BMixPoint (ext3)

variable (X0 X1 : S4096x1024.Idx → EReal) (X2 : S1024.Idx → EReal) (X3 : S4x256x256.Idx → EReal) (X4 : S1024.Idx → EReal)

abbrev dh : Fin 4096 → Fin 1024 → EReal := fun r k => X0 (ix2 r k)
abbrev h : Fin 4096 → Fin 1024 → EReal := fun r k => X1 (ix2 r k)
abbrev ga : Fin 1024 → EReal := fun k => X2 (ix1 k)
abbrev W : Fin 4 → Fin 256 → Fin 256 → EReal := fun g a b => X3 (ix3 g a b)
abbrev sc : Fin 1024 → EReal := fun k => X4 (ix1 k)

/-- The arrays that have to be finite. -/
structure Fine : Prop where
  dh : ∀ i, IsReal (X0 i)
  gain : ∀ i, IsReal (X2 i)
  mat : ∀ i, IsReal (X3 i)
  scale : ∀ i, IsReal (X4 i)

/-! ### The norm -/

theorem under_at (i : S4096x1.Idx) : val_main_v6 (F := Ideal) X1 i = under (h X1 (i 0)) := by
  have e : ∀ k, val_main_v0 (F := Ideal) X1 (idx_main_v1 (idx_main_v2 i) k) = h X1 (i 0) k * h X1 (i 0) k := fun k => by
    rw [val_main_v0_apply, show idx_main_v1 (idx_main_v2 i) k = ix2 (i 0) k from Shape.idx_ext₂ rfl rfl]; rfl
  rw [val_main_v6_apply, val_main_v4_apply, val_main_v2_apply, val_main_v1_apply, val_main_v3_apply, val_main_v5_apply]
  simp only [e]
  show Ideal.div (Ideal.ofBits .f32 0x00000000#32 + _) (Ideal.ofBits .f32 0x44800000#32) + Ideal.ofBits .f32 0x358637BD#32 = _
  rw [Ideal.ofBits_zero_f32, zero_add, c1024, cEps]
  rfl

theorem rr_at (i : S4096x1.Idx) : val_main_v7 (F := Ideal) X1 i = rr (h X1 (i 0)) := by
  rw [val_main_v7_apply, under_at]; rfl

theorem u_at (r : Fin 4096) (j : Fin 1024) : val_main_v15 (F := Ideal) X1 X2 (ix2 r j) = u (h X1) (ga X2) r j := by
  rw [val_main_v15_apply, val_main_v12_apply, val_main_v11_apply, rr_at, val_main_v14_apply, val_main_v13_apply,
    show idx_main_v13 (idx_main_v14 (ix2 r j)) = ix1 j from eq_ix1 _]
  rfl

theorem u3_at (r : Fin 4096) (g : Fin 4) (a : Fin 256) : val_main_v16 (F := Ideal) X1 X2 (ix3 r g a) = u (h X1) (ga X2) r (col g a) := by
  rw [val_main_v16_apply, ← u_at]
  refine congrArg (val_main_v15 (F := Ideal) X1 X2) (Shape.idx_ext₂ ?_ ?_)
  · show ((r.val * 4 + g.val) * 256 + a.val) / 1024 = r.val
    omega
  · show ((r.val * 4 + g.val) * 256 + a.val) % 1024 = g.val * 256 + a.val
    omega

theorem cum_at (r : Fin 4096) (g : Fin 4) (a : Fin 256) : val_main_v17 (F := Ideal) X1 X2 (ix3 r g a)
    = ∑ k : Fin 4096, if e : 4095 ≤ r.val + k.val ∧ r.val + k.val - 4095 < 4096 then u (h X1) (ga X2) ⟨r.val + k.val - 4095, e.2⟩ (col g a) else 0 := by
  unfold val_main_v17
  refine (tall _ _ _ _ ?_ r g a).trans ?_
  · rw [val_main_call0_call0_v0_apply]
    exact Ideal.ofBits_zero_f32
  · simp only [u3_at]

/-! ### The windows' means -/

/-- The number of a window's rows, as the reference counts it. -/
theorem count {w : ℕ} (hw : w = 2 ∨ w = 4 ∨ w = 8 ∨ w = 16) (x : EReal) (r : Fin 4096) :
    Ideal.div x (FloatOps.sitofp (F := Ideal) FTy.f32 (IntOp.minsi (IntOp.addi (BitVec.ofNat 32 r.val) 1#32) (BitVec.ofNat 32 w))) = x * inv w r.val := by
  have e : ∀ (w : ℕ), w = 2 ∨ w = 4 ∨ w = 8 ∨ w = 16 → ∀ r : Fin 4096,
      (IntOp.minsi (IntOp.addi (BitVec.ofNat 32 r.val) 1#32) (BitVec.ofNat 32 w)).toInt = ((min (r.val + 1) w : ℕ) : ℤ) := by
    rintro w (rfl | rfl | rfl | rfl) <;> decide +kernel
  show Ideal.div x (((_ : ℤ) : ℝ) : EReal) = _
  rw [e w hw r, Ideal.div_coe]
  · rfl
  · have : 0 < min (r.val + 1) w := by omega
    exact_mod_cast this.ne'

/-- A running sum less the one `w` rows before. -/
theorem less {w n : ℕ} (y : S4096x256.Idx → EReal) (z : (⟨2, ![w, 256]⟩ : Shape).Idx → EReal) (hz : ∀ i, z i = 0)
    (hc : Shape.Concatenates [(⟨2, ![w, 256]⟩ : Shape), ⟨2, ![4096, 256]⟩] ⟨2, ![n, 256]⟩ 0) (r : Fin 4096) (s : Fin n) (hs : s.val = r.val) (a : Fin 256) :
    concatenate ⟨2, ![n, 256]⟩ 0 [⟨⟨2, ![w, 256]⟩, z⟩, ⟨⟨2, ![4096, 256]⟩, y⟩] hc (ix2 s a)
      = if w ≤ r.val then y (ix2 ⟨r.val - w, by omega⟩ a) else 0 := by
  by_cases e : w ≤ r.val
  · rw [if_pos e]
    exact cat_below z y hc s a ⟨r.val - w, by omega⟩ (by show s.val = w + (r.val - w); omega)
  · rw [if_neg e]
    exact (cat_above z y hc s a ⟨r.val, by omega⟩ hs).trans (hz _)

variable {X0 X1 X2 X3 X4} in
theorem fine_u (H : ∀ i, IsReal (X2 i)) (r : Fin 4096) (j : Fin 1024) : IsReal (u (h X1) (ga X2) r j) := fin_mul (fin_norm (h X1 r) j) (H _)

/-- A group's window: the difference of the running sums. -/
theorem window (H : ∀ i, IsReal (X2 i)) (w : ℕ) (hw : w ≤ 32) (r : Fin 4096) (g : Fin 4) (a : Fin 256) :
    val_main_v17 (F := Ideal) X1 X2 (ix3 r g a) - (if w ≤ r.val then val_main_v17 (F := Ideal) X1 X2 (ix3 ⟨r.val - w, by omega⟩ g a) else 0)
      = win (h X1) (ga X2) w r.val (col g a) := by
  simp only [cum_at]
  exact trailing (fun r => u (h X1) (ga X2) r (col g a)) (fun r => fine_u H r _) w hw r

theorem cum0_at (r : Fin 4096) (a : Fin 256) : val_main_v20 (F := Ideal) X1 X2 (ix2 r a) = val_main_v17 (F := Ideal) X1 X2 (ix3 r 0 a) := by
  rw [val_main_v20_apply, val_main_v19_apply]
  refine congrArg (val_main_v17 (F := Ideal) X1 X2) (ext3 ?_ rfl ?_)
  · show (r.val * 256 + a.val) / 256 = r.val
    omega
  · show (r.val * 256 + a.val) % 256 = a.val
    omega

theorem mean0_at (H : ∀ i, IsReal (X2 i)) (r : Fin 4096) (a : Fin 256) :
    val_main_v33 (F := Ideal) X1 X2 (ix2 r a) = win (h X1) (ga X2) 2 r.val (col 0 a) * inv 2 r.val := by
  rw [val_main_v33_apply, val_main_v31_apply, val_main_v24_apply, val_main_v32_apply, val_main_v30_apply, val_main_v29_apply]
  refine (count (w := 2) (by omega) _ r).trans (congrArg (· * inv 2 r.val) ?_)
  rw [← window X1 X2 H 2 (by omega)]
  refine congrArg₂ (· - ·) (cum0_at X1 X2 r a) ?_
  have hi : idx_main_v24 (ix2 r a) = ix2 (⟨r.val, by omega⟩ : Fin 4098) a := Shape.idx_ext₂ rfl rfl
  refine (congrArg (val_main_v22 (F := Ideal) X1 X2) hi).trans ?_
  unfold val_main_v22
  refine (less (w := 2) (n := 4098) _ _ (fun i => ?_) _ r _ rfl a).trans ?_
  · rw [val_main_v21_apply]
    exact Ideal.ofBits_zero_f32
  · simp only [cum0_at]

theorem cum1_at (r : Fin 4096) (a : Fin 256) : val_main_v35 (F := Ideal) X1 X2 (ix2 r a) = val_main_v17 (F := Ideal) X1 X2 (ix3 r 1 a) := by
  rw [val_main_v35_apply, val_main_v34_apply]
  refine congrArg (val_main_v17 (F := Ideal) X1 X2) (ext3 ?_ rfl ?_)
  · show (r.val * 256 + a.val) / 256 = r.val
    omega
  · show (r.val * 256 + a.val) % 256 = a.val
    omega

theorem mean1_at (H : ∀ i, IsReal (X2 i)) (r : Fin 4096) (a : Fin 256) :
    val_main_v48 (F := Ideal) X1 X2 (ix2 r a) = win (h X1) (ga X2) 4 r.val (col 1 a) * inv 4 r.val := by
  rw [val_main_v48_apply, val_main_v46_apply, val_main_v39_apply, val_main_v47_apply, val_main_v45_apply, val_main_v44_apply]
  refine (count (w := 4) (by omega) _ r).trans (congrArg (· * inv 4 r.val) ?_)
  rw [← window X1 X2 H 4 (by omega)]
  refine congrArg₂ (· - ·) (cum1_at X1 X2 r a) ?_
  have hi : idx_main_v39 (ix2 r a) = ix2 (⟨r.val, by omega⟩ : Fin 4100) a := Shape.idx_ext₂ rfl rfl
  refine (congrArg (val_main_v37 (F := Ideal) X1 X2) hi).trans ?_
  unfold val_main_v37
  refine (less (w := 4) (n := 4100) _ _ (fun i => ?_) _ r _ rfl a).trans ?_
  · rw [val_main_v36_apply]
    exact Ideal.ofBits_zero_f32
  · simp only [cum1_at]

theorem cum2_at (r : Fin 4096) (a : Fin 256) : val_main_v50 (F := Ideal) X1 X2 (ix2 r a) = val_main_v17 (F := Ideal) X1 X2 (ix3 r 2 a) := by
  rw [val_main_v50_apply, val_main_v49_apply]
  refine congrArg (val_main_v17 (F := Ideal) X1 X2) (ext3 ?_ rfl ?_)
  · show (r.val * 256 + a.val) / 256 = r.val
    omega
  · show (r.val * 256 + a.val) % 256 = a.val
    omega

theorem mean2_at (H : ∀ i, IsReal (X2 i)) (r : Fin 4096) (a : Fin 256) :
    val_main_v63 (F := Ideal) X1 X2 (ix2 r a) = win (h X1) (ga X2) 8 r.val (col 2 a) * inv 8 r.val := by
  rw [val_main_v63_apply, val_main_v61_apply, val_main_v54_apply, val_main_v62_apply, val_main_v60_apply, val_main_v59_apply]
  refine (count (w := 8) (by omega) _ r).trans (congrArg (· * inv 8 r.val) ?_)
  rw [← window X1 X2 H 8 (by omega)]
  refine congrArg₂ (· - ·) (cum2_at X1 X2 r a) ?_
  have hi : idx_main_v54 (ix2 r a) = ix2 (⟨r.val, by omega⟩ : Fin 4104) a := Shape.idx_ext₂ rfl rfl
  refine (congrArg (val_main_v52 (F := Ideal) X1 X2) hi).trans ?_
  unfold val_main_v52
  refine (less (w := 8) (n := 4104) _ _ (fun i => ?_) _ r _ rfl a).trans ?_
  · rw [val_main_v51_apply]
    exact Ideal.ofBits_zero_f32
  · simp only [cum2_at]

theorem cum3_at (r : Fin 4096) (a : Fin 256) : val_main_v65 (F := Ideal) X1 X2 (ix2 r a) = val_main_v17 (F := Ideal) X1 X2 (ix3 r 3 a) := by
  rw [val_main_v65_apply, val_main_v64_apply]
  refine congrArg (val_main_v17 (F := Ideal) X1 X2) (ext3 ?_ rfl ?_)
  · show (r.val * 256 + a.val) / 256 = r.val
    omega
  · show (r.val * 256 + a.val) % 256 = a.val
    omega

theorem mean3_at (H : ∀ i, IsReal (X2 i)) (r : Fin 4096) (a : Fin 256) :
    val_main_v78 (F := Ideal) X1 X2 (ix2 r a) = win (h X1) (ga X2) 16 r.val (col 3 a) * inv 16 r.val := by
  rw [val_main_v78_apply, val_main_v76_apply, val_main_v69_apply, val_main_v77_apply, val_main_v75_apply, val_main_v74_apply]
  refine (count (w := 16) (by omega) _ r).trans (congrArg (· * inv 16 r.val) ?_)
  rw [← window X1 X2 H 16 (by omega)]
  refine congrArg₂ (· - ·) (cum3_at X1 X2 r a) ?_
  have hi : idx_main_v69 (ix2 r a) = ix2 (⟨r.val, by omega⟩ : Fin 4112) a := Shape.idx_ext₂ rfl rfl
  refine (congrArg (val_main_v67 (F := Ideal) X1 X2) hi).trans ?_
  unfold val_main_v67
  refine (less (w := 16) (n := 4112) _ _ (fun i => ?_) _ r _ rfl a).trans ?_
  · rw [val_main_v66_apply]
    exact Ideal.ofBits_zero_f32
  · simp only [cum3_at]

theorem wide0 : wide 0 = 2 := rfl
theorem wide1 : wide 1 = 4 := rfl
theorem wide2 : wide 2 = 8 := rfl
theorem wide3 : wide 3 = 16 := rfl

/-- Four groups side by side. -/
theorem stack (x0 x1 x2 x3 : S4096x1x256.Idx → EReal) (hc : Shape.Concatenates [S4096x1x256, S4096x1x256, S4096x1x256, S4096x1x256] S4096x4x256 1)
    (f : Fin 4 → Fin 4096 → Fin 256 → EReal) (h0 : ∀ r a, x0 (ix3 r 0 a) = f 0 r a) (h1 : ∀ r a, x1 (ix3 r 0 a) = f 1 r a)
    (h2 : ∀ r a, x2 (ix3 r 0 a) = f 2 r a) (h3 : ∀ r a, x3 (ix3 r 0 a) = f 3 r a) (r : Fin 4096) (g : Fin 4) (a : Fin 256) :
    concatenate S4096x4x256 1 [⟨S4096x1x256, x0⟩, ⟨S4096x1x256, x1⟩, ⟨S4096x1x256, x2⟩, ⟨S4096x1x256, x3⟩] hc (ix3 r g a) = f g r a := by
  have off : ∀ c : Fin 3, c ≠ 1 → ((ix3 r (0 : Fin 1) a : S4096x1x256.Idx) c).val = ((ix3 r g a : S4096x4x256.Idx) c).val := fun c hc => by
    obtain rfl | rfl | rfl : c = 0 ∨ c = 1 ∨ c = 2 := (show ∀ c : Fin 3, c = 0 ∨ c = 1 ∨ c = 2 by decide) c
    · rfl
    · exact absurd rfl hc
    · rfl
  obtain rfl | rfl | rfl | rfl : g = 0 ∨ g = 1 ∨ g = 2 ∨ g = 3 := (show ∀ g : Fin 4, g = 0 ∨ g = 1 ∨ g = 2 ∨ g = 3 by decide) g
  · exact (concatenate_apply_piece 1 [⟨S4096x1x256, x0⟩, ⟨S4096x1x256, x1⟩, ⟨S4096x1x256, x2⟩, ⟨S4096x1x256, x3⟩] hc _ 0 (show 0 < 4 by decide) S4096x1x256 x0 rfl rfl
      0 rfl (ix3 r 0 a) off rfl).trans (h0 r a)
  · exact (concatenate_apply_piece 1 [⟨S4096x1x256, x0⟩, ⟨S4096x1x256, x1⟩, ⟨S4096x1x256, x2⟩, ⟨S4096x1x256, x3⟩] hc _ 1 (show 1 < 4 by decide) S4096x1x256 x1 rfl rfl
      1 rfl (ix3 r 0 a) off rfl).trans (h1 r a)
  · exact (concatenate_apply_piece 1 [⟨S4096x1x256, x0⟩, ⟨S4096x1x256, x1⟩, ⟨S4096x1x256, x2⟩, ⟨S4096x1x256, x3⟩] hc _ 2 (show 2 < 4 by decide) S4096x1x256 x2 rfl rfl
      2 rfl (ix3 r 0 a) off rfl).trans (h2 r a)
  · exact (concatenate_apply_piece 1 [⟨S4096x1x256, x0⟩, ⟨S4096x1x256, x1⟩, ⟨S4096x1x256, x2⟩, ⟨S4096x1x256, x3⟩] hc _ 3 (show 3 < 4 by decide) S4096x1x256 x3 rfl rfl
      3 rfl (ix3 r 0 a) off rfl).trans (h3 r a)

theorem mixed_at (H : ∀ i, IsReal (X2 i)) (r : Fin 4096) (g : Fin 4) (a : Fin 256) :
    val_main_v84 (F := Ideal) X1 X2 (ix3 r g a) = mixed (h X1) (ga X2) (wide g) g r.val a := by
  have e : U (h X1) (ga X2) (32 + r.val) (col g a) = u (h X1) (ga X2) r (col g a) := by
    unfold U
    rw [dif_pos (by omega)]
    exact congrArg (fun s => u (h X1) (ga X2) s (col g a)) (Fin.ext (by show 32 + r.val - 32 = r.val; omega))
  rw [val_main_v84_apply, u3_at, mixed, e]
  refine congrArg (· - _) ?_
  unfold val_main_v83
  refine stack _ _ _ _ _ (fun g r a => win (h X1) (ga X2) (wide g) r.val (col g a) * inv (wide g) r.val) (fun r a => ?_) (fun r a => ?_) (fun r a => ?_) (fun r a => ?_) r g a
  · show val_main_v79 (F := Ideal) X1 X2 (ix3 r 0 a) = win (h X1) (ga X2) (wide 0) r.val (col 0 a) * inv (wide 0) r.val
    have hi : idx_main_v79 (ix3 r 0 a) = ix2 r a := Shape.idx_ext₂ rfl rfl
    rw [wide0, val_main_v79_apply, hi]
    exact mean0_at X1 X2 H r a
  · show val_main_v80 (F := Ideal) X1 X2 (ix3 r 0 a) = win (h X1) (ga X2) (wide 1) r.val (col 1 a) * inv (wide 1) r.val
    have hi : idx_main_v80 (ix3 r 0 a) = ix2 r a := Shape.idx_ext₂ rfl rfl
    rw [wide1, val_main_v80_apply, hi]
    exact mean1_at X1 X2 H r a
  · show val_main_v81 (F := Ideal) X1 X2 (ix3 r 0 a) = win (h X1) (ga X2) (wide 2) r.val (col 2 a) * inv (wide 2) r.val
    have hi : idx_main_v81 (ix3 r 0 a) = ix2 r a := Shape.idx_ext₂ rfl rfl
    rw [wide2, val_main_v81_apply, hi]
    exact mean2_at X1 X2 H r a
  · show val_main_v82 (F := Ideal) X1 X2 (ix3 r 0 a) = win (h X1) (ga X2) (wide 3) r.val (col 3 a) * inv (wide 3) r.val
    have hi : idx_main_v82 (ix3 r 0 a) = ix2 r a := Shape.idx_ext₂ rfl rfl
    rw [wide3, val_main_v82_apply, hi]
    exact mean3_at X1 X2 H r a

/-! ### The cotangents -/

theorem cot_at (g : Fin 4) (b : Fin 256) (r : Fin 4096) : val_main_v100 (F := Ideal) X0 X4 (ix3 g b r) = dY (dh X0) (sc X4) g r b := by
  rw [val_main_v100_apply, val_main_v99_apply, val_main_v97_apply, val_main_v92_apply, val_main_v96_apply, val_main_v88_apply]
  refine congrArg₂ (· * ·) (congrArg X0 (Shape.idx_ext₂ ?_ ?_)) (congrArg X4 ((eq_ix1 _).trans (congrArg ix1 (Fin.ext ?_))))
  · show (((r.val * 4 + g.val) * 256 + b.val) / 1024 * 1024 + ((r.val * 4 + g.val) * 256 + b.val) % 1024) / 1024 = r.val
    omega
  · show (((r.val * 4 + g.val) * 256 + b.val) / 1024 * 1024 + ((r.val * 4 + g.val) * 256 + b.val) % 1024) % 1024 = g.val * 256 + b.val
    omega
  · show ((r.val * 4 + g.val) * 256 + b.val) % 1024 = g.val * 256 + b.val
    omega

theorem dm_at (r : Fin 4096) (g : Fin 4) (a : Fin 256) : val_main_v102 (F := Ideal) X0 X3 X4 (ix3 r g a) = dm (dh X0) (W X3) (sc X4) g r a := by
  rw [val_main_v102_apply, val_main_v101_apply]
  refine Finset.sum_congr rfl fun b _ => congrArg₂ (· * ·) ?_ (congrArg X3 (ext3 rfl rfl rfl))
  rw [← cot_at]
  exact congrArg (val_main_v100 (F := Ideal) X0 X4) (ext3 rfl rfl rfl)

theorem dwg_at (H : ∀ i, IsReal (X2 i)) (g : Fin 4) (a b : Fin 256) :
    val_main_v104 (F := Ideal) X0 X1 X2 X4 (ix3 g a b) = ∑ r : Fin 4096, rowMat (dh X0) (h X1) (ga X2) (sc X4) (wide g) g a b r := by
  rw [val_main_v104_apply, val_main_v103_apply]
  refine Finset.sum_congr rfl fun r _ => (mul_comm _ _).trans (congrArg₂ (· * ·) ?_ ?_)
  · rw [← mixed_at X1 X2 H]
    exact congrArg (val_main_v84 (F := Ideal) X1 X2) (ext3 rfl rfl rfl)
  · rw [← cot_at]
    exact congrArg (val_main_v100 (F := Ideal) X0 X4) (ext3 rfl rfl rfl)

theorem prod_at (H : ∀ i, IsReal (X2 i)) (r : Fin 4096) (j : Fin 1024) :
    val_main_v93 (F := Ideal) X0 X1 X2 X3 (ix2 r j) = rowScale (dh X0) (h X1) (ga X2) (W X3) (wide (grp j)) (grp j) (pos j) r := by
  have hj := j.isLt
  rw [val_main_v93_apply, val_main_v92_apply, val_main_v87_apply, val_main_v86_apply, val_main_v85_apply, rowScale, col_grp]
  refine (mul_comm _ _).trans (congrArg₂ (· * ·) (congrArg X0 (Shape.idx_ext₂ ?_ ?_)) (Finset.sum_congr rfl fun a _ => (mul_comm _ _).trans (congrArg₂ (· * ·) ?_ ?_)))
  · show (r.val * 1024 + j.val) / 1024 = r.val
    omega
  · show (r.val * 1024 + j.val) % 1024 = j.val
    omega
  · rw [← mixed_at X1 X2 H]
    refine congrArg (val_main_v84 (F := Ideal) X1 X2) (ext3 ?_ ?_ rfl)
    · show (r.val * 1024 + j.val) / 1024 = r.val
      omega
    · show (r.val * 1024 + j.val) / 256 % 4 = j.val / 256
      omega
  · refine congrArg X3 (ext3 ?_ rfl ?_)
    · show (r.val * 1024 + j.val) / 256 % 4 = j.val / 256
      omega
    · show (r.val * 1024 + j.val) % 256 = j.val % 256
      omega

theorem dsc_at (H : ∀ i, IsReal (X2 i)) (i : S1x1024.Idx) : val_main_v178 (F := Ideal) X0 X1 X2 X3 i
    = ∑ r : Fin 4096, rowScale (dh X0) (h X1) (ga X2) (W X3) (wide (grp (i 1))) (grp (i 1)) (pos (i 1)) r := by
  rw [val_main_v178_apply, val_main_v98_apply, Fin.sum_univ_one, val_main_v95_apply, val_main_v94_apply]
  show Ideal.ofBits .f32 0x00000000#32 + (Ideal.ofBits .f32 0x00000000#32 + _) = _
  rw [Ideal.ofBits_zero_f32, zero_add, zero_add]
  refine Finset.sum_congr rfl fun r _ => (congrArg (val_main_v93 (F := Ideal) X0 X1 X2 X3) (?_ : _ = ix2 r (i 1))).trans (prod_at X0 X1 X2 X3 H r (i 1))
  refine Shape.idx_ext₂ rfl ?_
  have h0 : (i 0).val < 1 := (i 0).isLt
  show 0 * 1024 + ((i 0).val * 1024 + (i 1).val) = (i 1).val
  omega

/-! ### The windows' gradients -/

/-- The mixed rows' cotangent over the number of the window's rows. -/
abbrev over (w : ℕ) (g : Fin 4) (r : Fin 4096) (a : Fin 256) : EReal := dm (dh X0) (W X3) (sc X4) g r a * inv w r.val

/-- The same, less the one of the row `w` below. -/
abbrev less2 (w : ℕ) (g : Fin 4) (r : Fin 4096) (a : Fin 256) : EReal :=
  over X0 X3 X4 w g r a + if e : w + r.val < 4096 then -over X0 X3 X4 w g ⟨w + r.val, e⟩ a else 0

theorem over0_at (r : Fin 4096) (a : Fin 256) : val_main_v144 (F := Ideal) X0 X3 X4 (ix2 r a) = over X0 X3 X4 2 0 r a := by
  rw [val_main_v144_apply, val_main_v107_apply, val_main_v106_apply, val_main_v143_apply, val_main_v30_apply, val_main_v29_apply]
  refine (count (w := 2) (by omega) _ r).trans (congrArg (· * inv 2 r.val) ?_)
  rw [← dm_at]
  refine congrArg (val_main_v102 (F := Ideal) X0 X3 X4) (ext3 ?_ rfl ?_)
  · show (r.val * 256 + a.val) / 256 = r.val
    omega
  · show (r.val * 256 + a.val) % 256 = a.val
    omega

theorem less0_at (r : Fin 4096) (a : Fin 256) : val_main_v149 (F := Ideal) X0 X3 X4 (ix2 r a) = less2 X0 X3 X4 2 0 r a := by
  rw [val_main_v149_apply, val_main_v148_apply, over0_at]
  refine congrArg (over X0 X3 X4 2 0 r a + ·) ?_
  have hi : idx_main_v148 (ix2 r a) = ix2 (⟨2 + r.val, by omega⟩ : Fin 4098) a := Shape.idx_ext₂ rfl rfl
  refine (congrArg (val_main_v146 (F := Ideal) X0 X3 X4) hi).trans ?_
  unfold val_main_v146
  by_cases e : 2 + r.val < 4096
  · rw [dif_pos e, ← over0_at]
    exact pad_in _ _ _ _ _ a ⟨2 + r.val, e⟩ (Nat.zero_add _).symm
  · rw [dif_neg e]
    exact (pad_out _ _ _ _ _ a (.inr (by show 0 + 4096 ≤ 2 + r.val; omega))).trans Ideal.ofBits_zero_f32

theorem over1_at (r : Fin 4096) (a : Fin 256) : val_main_v134 (F := Ideal) X0 X3 X4 (ix2 r a) = over X0 X3 X4 4 1 r a := by
  rw [val_main_v134_apply, val_main_v109_apply, val_main_v108_apply, val_main_v133_apply, val_main_v45_apply, val_main_v44_apply]
  refine (count (w := 4) (by omega) _ r).trans (congrArg (· * inv 4 r.val) ?_)
  rw [← dm_at]
  refine congrArg (val_main_v102 (F := Ideal) X0 X3 X4) (ext3 ?_ rfl ?_)
  · show (r.val * 256 + a.val) / 256 = r.val
    omega
  · show (r.val * 256 + a.val) % 256 = a.val
    omega

theorem less1_at (r : Fin 4096) (a : Fin 256) : val_main_v139 (F := Ideal) X0 X3 X4 (ix2 r a) = less2 X0 X3 X4 4 1 r a := by
  rw [val_main_v139_apply, val_main_v138_apply, over1_at]
  refine congrArg (over X0 X3 X4 4 1 r a + ·) ?_
  have hi : idx_main_v138 (ix2 r a) = ix2 (⟨4 + r.val, by omega⟩ : Fin 4100) a := Shape.idx_ext₂ rfl rfl
  refine (congrArg (val_main_v136 (F := Ideal) X0 X3 X4) hi).trans ?_
  unfold val_main_v136
  by_cases e : 4 + r.val < 4096
  · rw [dif_pos e, ← over1_at]
    exact pad_in _ _ _ _ _ a ⟨4 + r.val, e⟩ (Nat.zero_add _).symm
  · rw [dif_neg e]
    exact (pad_out _ _ _ _ _ a (.inr (by show 0 + 4096 ≤ 4 + r.val; omega))).trans Ideal.ofBits_zero_f32

theorem over2_at (r : Fin 4096) (a : Fin 256) : val_main_v124 (F := Ideal) X0 X3 X4 (ix2 r a) = over X0 X3 X4 8 2 r a := by
  rw [val_main_v124_apply, val_main_v111_apply, val_main_v110_apply, val_main_v123_apply, val_main_v60_apply, val_main_v59_apply]
  refine (count (w := 8) (by omega) _ r).trans (congrArg (· * inv 8 r.val) ?_)
  rw [← dm_at]
  refine congrArg (val_main_v102 (F := Ideal) X0 X3 X4) (ext3 ?_ rfl ?_)
  · show (r.val * 256 + a.val) / 256 = r.val
    omega
  · show (r.val * 256 + a.val) % 256 = a.val
    omega

theorem less2_at (r : Fin 4096) (a : Fin 256) : val_main_v129 (F := Ideal) X0 X3 X4 (ix2 r a) = less2 X0 X3 X4 8 2 r a := by
  rw [val_main_v129_apply, val_main_v128_apply, over2_at]
  refine congrArg (over X0 X3 X4 8 2 r a + ·) ?_
  have hi : idx_main_v128 (ix2 r a) = ix2 (⟨8 + r.val, by omega⟩ : Fin 4104) a := Shape.idx_ext₂ rfl rfl
  refine (congrArg (val_main_v126 (F := Ideal) X0 X3 X4) hi).trans ?_
  unfold val_main_v126
  by_cases e : 8 + r.val < 4096
  · rw [dif_pos e, ← over2_at]
    exact pad_in _ _ _ _ _ a ⟨8 + r.val, e⟩ (Nat.zero_add _).symm
  · rw [dif_neg e]
    exact (pad_out _ _ _ _ _ a (.inr (by show 0 + 4096 ≤ 8 + r.val; omega))).trans Ideal.ofBits_zero_f32

theorem over3_at (r : Fin 4096) (a : Fin 256) : val_main_v115 (F := Ideal) X0 X3 X4 (ix2 r a) = over X0 X3 X4 16 3 r a := by
  rw [val_main_v115_apply, val_main_v113_apply, val_main_v112_apply, val_main_v114_apply, val_main_v75_apply, val_main_v74_apply]
  refine (count (w := 16) (by omega) _ r).trans (congrArg (· * inv 16 r.val) ?_)
  rw [← dm_at]
  refine congrArg (val_main_v102 (F := Ideal) X0 X3 X4) (ext3 ?_ rfl ?_)
  · show (r.val * 256 + a.val) / 256 = r.val
    omega
  · show (r.val * 256 + a.val) % 256 = a.val
    omega

theorem less3_at (r : Fin 4096) (a : Fin 256) : val_main_v120 (F := Ideal) X0 X3 X4 (ix2 r a) = less2 X0 X3 X4 16 3 r a := by
  rw [val_main_v120_apply, val_main_v119_apply, over3_at]
  refine congrArg (over X0 X3 X4 16 3 r a + ·) ?_
  have hi : idx_main_v119 (ix2 r a) = ix2 (⟨16 + r.val, by omega⟩ : Fin 4112) a := Shape.idx_ext₂ rfl rfl
  refine (congrArg (val_main_v117 (F := Ideal) X0 X3 X4) hi).trans ?_
  unfold val_main_v117
  by_cases e : 16 + r.val < 4096
  · rw [dif_pos e, ← over3_at]
    exact pad_in _ _ _ _ _ a ⟨16 + r.val, e⟩ (Nat.zero_add _).symm
  · rw [dif_neg e]
    exact (pad_out _ _ _ _ _ a (.inr (by show 0 + 4096 ≤ 16 + r.val; omega))).trans Ideal.ofBits_zero_f32

/-- One group among four, zero elsewhere. -/
theorem place {l hi : ℕ} (x : S4096x1x256.Idx → EReal) {s : Shape} (v : s.Idx → EReal) (hp : S4096x1x256.Pads ![0, l, 0] ![0, hi, 0] ![0, 0, 0] S4096x4x256)
    (hu : 0 < s.numel) (hv : v (Shape.Idx.first hu) = 0) (r : Fin 4096) (g : Fin 4) (a : Fin 256) :
    pad S4096x4x256 ![0, l, 0] ![0, hi, 0] ![0, 0, 0] x v hp hu (ix3 r g a) = if g.val = l then x (ix3 r 0 a) else 0 := by
  by_cases e : g.val = l
  · rw [if_pos e]
    refine pad_apply_of_inside _ _ _ x v hp hu _ _ fun c => ?_
    obtain rfl | rfl | rfl : c = 0 ∨ c = 1 ∨ c = 2 := (show ∀ c : Fin 3, c = 0 ∨ c = 1 ∨ c = 2 by decide) c
    · show r.val = 0 + r.val * (0 + 1)
      omega
    · show g.val = l + 0 * (0 + 1)
      omega
    · show a.val = 0 + a.val * (0 + 1)
      omega
  · rw [if_neg e, ← hv]
    refine pad_apply_of_not_inside _ _ _ x v hp hu _ (1 : Fin 3) ?_
    show ¬(l ≤ g.val ∧ (g.val - l) % (0 + 1) = 0 ∧ (g.val - l) / (0 + 1) < 1)
    rw [Nat.div_one]
    omega

theorem place0_at (r : Fin 4096) (g : Fin 4) (a : Fin 256) : val_main_v151 (F := Ideal) X0 X3 X4 (ix3 r g a) = if g.val = 0 then less2 X0 X3 X4 2 0 r a else 0 := by
  rw [← less0_at]
  unfold val_main_v151
  refine (place _ _ _ _ Ideal.ofBits_zero_f32 r g a).trans (congrArg (fun x => if g.val = 0 then x else 0) ?_)
  rw [val_main_v150_apply]
  exact congrArg (val_main_v149 (F := Ideal) X0 X3 X4) (Shape.idx_ext₂ rfl rfl)
theorem place1_at (r : Fin 4096) (g : Fin 4) (a : Fin 256) : val_main_v141 (F := Ideal) X0 X3 X4 (ix3 r g a) = if g.val = 1 then less2 X0 X3 X4 4 1 r a else 0 := by
  rw [← less1_at]
  unfold val_main_v141
  refine (place _ _ _ _ Ideal.ofBits_zero_f32 r g a).trans (congrArg (fun x => if g.val = 1 then x else 0) ?_)
  rw [val_main_v140_apply]
  exact congrArg (val_main_v139 (F := Ideal) X0 X3 X4) (Shape.idx_ext₂ rfl rfl)
theorem place2_at (r : Fin 4096) (g : Fin 4) (a : Fin 256) : val_main_v131 (F := Ideal) X0 X3 X4 (ix3 r g a) = if g.val = 2 then less2 X0 X3 X4 8 2 r a else 0 := by
  rw [← less2_at]
  unfold val_main_v131
  refine (place _ _ _ _ Ideal.ofBits_zero_f32 r g a).trans (congrArg (fun x => if g.val = 2 then x else 0) ?_)
  rw [val_main_v130_apply]
  exact congrArg (val_main_v129 (F := Ideal) X0 X3 X4) (Shape.idx_ext₂ rfl rfl)
theorem place3_at (r : Fin 4096) (g : Fin 4) (a : Fin 256) : val_main_v122 (F := Ideal) X0 X3 X4 (ix3 r g a) = if g.val = 3 then less2 X0 X3 X4 16 3 r a else 0 := by
  rw [← less3_at]
  unfold val_main_v122
  refine (place _ _ _ _ Ideal.ofBits_zero_f32 r g a).trans (congrArg (fun x => if g.val = 3 then x else 0) ?_)
  rw [val_main_v121_apply]
  exact congrArg (val_main_v120 (F := Ideal) X0 X3 X4) (Shape.idx_ext₂ rfl rfl)

theorem places_at (r : Fin 4096) (g : Fin 4) (a : Fin 256) : val_main_v152 (F := Ideal) X0 X3 X4 (ix3 r g a) = less2 X0 X3 X4 (wide g) g r a := by
  rw [val_main_v152_apply, val_main_v142_apply, val_main_v132_apply, place0_at, place1_at, place2_at, place3_at]
  obtain rfl | rfl | rfl | rfl : g = 0 ∨ g = 1 ∨ g = 2 ∨ g = 3 := (show ∀ g : Fin 4, g = 0 ∨ g = 1 ∨ g = 2 ∨ g = 3 by decide) g
  · rw [wide0, if_neg (by decide), if_neg (by decide), if_neg (by decide), if_pos (by decide)]
    exact ((congrArg (· + _) (congrArg (· + (0 : EReal)) (add_zero (0 : EReal)))).trans (congrArg (· + _) (add_zero (0 : EReal)))).trans (zero_add _)
  · rw [wide1, if_neg (by decide), if_neg (by decide), if_pos (by decide), if_neg (by decide)]
    exact (add_zero _).trans ((congrArg (· + _) (add_zero (0 : EReal))).trans (zero_add _))
  · rw [wide2, if_neg (by decide), if_pos (by decide), if_neg (by decide), if_neg (by decide)]
    exact (add_zero _).trans ((add_zero _).trans (zero_add _))
  · rw [wide3, if_pos (by decide), if_neg (by decide), if_neg (by decide), if_neg (by decide)]
    exact (add_zero _).trans ((add_zero _).trans (add_zero _))

variable {X0 X1 X2 X3 X4}

theorem fine_over (H : Fine X0 X2 X3 X4) (w : ℕ) (g : Fin 4) (r : Fin 4096) (a : Fin 256) : IsReal (over X0 X3 X4 w g r a) :=
  fin_mul (fin_sum _ _ fun b => fin_mul (fin_mul (H.dh _) (H.scale _)) (H.mat _)) ⟨_, rfl⟩

theorem du_at (H : Fine X0 X2 X3 X4) (r : Fin 4096) (j : Fin 1024) : val_main_v155 (F := Ideal) X0 X3 X4 (ix2 r j) = du (dh X0) (W X3) (sc X4) r j := by
  have hj := j.isLt
  rw [val_main_v155_apply]
  refine (congrArg (val_main_v154 (F := Ideal) X0 X3 X4) (ext3 ?_ ?_ ?_ : _ = ix3 r (grp j) (pos j))).trans ?_
  · show (r.val * 1024 + j.val) / 1024 = r.val
    omega
  · show (r.val * 1024 + j.val) / 256 % 4 = j.val / 256
    omega
  · show (r.val * 1024 + j.val) % 256 = j.val % 256
    omega
  rw [val_main_v154_apply, val_main_v105_apply, dm_at]
  unfold du duG
  refine (add_comm _ _).trans ((congrArg (· + -dm (dh X0) (W X3) (sc X4) (grp j) r (pos j)) ?_).trans (sub_eq_add_neg _ _).symm)
  unfold val_main_v153
  refine (tall _ _ _ _ ?_ r (grp j) (pos j)).trans ?_
  · rw [val_main_call1_call0_v0_apply]
    exact Ideal.ofBits_zero_f32
  · simp only [places_at]
    exact leading (fun r => over X0 X3 X4 (wide (grp j)) (grp j) r (pos j)) (fun r => fine_over H _ _ r _) _ r

/-! ### The norm's gradient -/

theorem gain_at (H : Fine X0 X2 X3 X4) (i : S1x1024.Idx) : val_main_v177 (F := Ideal) X0 X1 X3 X4 i
    = ∑ r : Fin 4096, rowGain (dh X0) (h X1) (W X3) (sc X4) (i 1) r := by
  have e : ∀ (r : Fin 4096) (j : Fin 1024), val_main_v156 (F := Ideal) X0 X1 X3 X4 (ix2 r j) = rowGain (dh X0) (h X1) (W X3) (sc X4) j r := fun r j => by
    rw [val_main_v156_apply, val_main_v12_apply, val_main_v11_apply, rr_at, du_at H]
    exact mul_comm _ _
  rw [val_main_v177_apply, val_main_v161_apply, Fin.sum_univ_one, val_main_v158_apply, val_main_v157_apply]
  show Ideal.ofBits .f32 0x00000000#32 + (Ideal.ofBits .f32 0x00000000#32 + _) = _
  rw [Ideal.ofBits_zero_f32, zero_add, zero_add]
  refine Finset.sum_congr rfl fun r _ => (congrArg (val_main_v156 (F := Ideal) X0 X1 X3 X4) (?_ : _ = ix2 r (i 1))).trans (e r (i 1))
  refine Shape.idx_ext₂ rfl ?_
  have h0 : (i 0).val < 1 := (i 0).isLt
  show 0 * 1024 + ((i 0).val * 1024 + (i 1).val) = (i 1).val
  omega

theorem dD_at (H : Fine X0 X2 X3 X4) (r : Fin 4096) (k : Fin 1024) :
    val_main_v160 (F := Ideal) X0 X2 X3 X4 (ix2 r k) = du (dh X0) (W X3) (sc X4) r k * ga X2 k := by
  rw [val_main_v160_apply, val_main_v159_apply, val_main_v13_apply, du_at H,
    show idx_main_v13 (idx_main_v159 (ix2 r k)) = ix1 k from eq_ix1 _]
  rfl

theorem thr_at (H : Fine X0 X2 X3 X4) (r : Fin 4096) (j : Fin 1024) :
    val_main_v172 (F := Ideal) X0 X1 X2 X3 X4 (ix2 r j) = thr (h X1 r) (fun k => du (dh X0) (W X3) (sc X4) r k * ga X2 k) := by
  rw [val_main_v172_apply, val_main_v171_apply, Fin.sum_univ_one, val_main_v170_apply, val_main_v169_apply, val_main_v168_apply,
    val_main_v164_apply, val_main_v163_apply, val_main_v10_apply, val_main_v9_apply, val_main_v8_apply, under_at, rr_at]
  have e : ∀ k, val_main_v162 (F := Ideal) X0 X1 X2 X3 X4 (idx_main_v163 (idx_main_v164 (idx_main_v171 (idx_main_v172 (ix2 r j)) 0)) k)
      = h X1 r k * (du (dh X0) (W X3) (sc X4) r k * ga X2 k) := fun k => by
    refine (congrArg (val_main_v162 (F := Ideal) X0 X1 X2 X3 X4) (?_ : _ = ix2 r k)).trans ?_
    · exact Shape.idx_ext₂ (by show r.val * 1 + 0 = r.val; omega) rfl
    · rw [val_main_v162_apply, dD_at H]; rfl
  simp only [e]
  show Ideal.ofBits .f32 0x00000000#32 + Ideal.div ((Ideal.ofBits .f32 0x00000000#32 + _) * (Ideal.ofBits .f32 0xBF000000#32
    * Ideal.div (rr (h X1 r)) (under (h X1 r)))) (Ideal.ofBits .f32 0x44800000#32) = _
  rw [Ideal.ofBits_zero_f32, zero_add, zero_add, cNegHalf, c1024]
  rfl

theorem dhp_at (H : Fine X0 X2 X3 X4) (r : Fin 4096) (j : Fin 1024) : val_main_v176 (F := Ideal) X0 X1 X2 X3 X4 (ix2 r j)
    = dhp (dh X0) (h X1) (ga X2) (W X3) (sc X4) r j := by
  rw [dhp, dx_eq, val_main_v176_apply, val_main_v174_apply, val_main_v175_apply, val_main_v173_apply, val_main_v167_apply, val_main_v166_apply,
    val_main_v165_apply, rr_at, dD_at H, thr_at H, add_assoc (_ * _), ← add_assoc, ← add_assoc]
  rfl

/-! ### The two programs' results -/

open Cert.Proof.BMixPoint (a0 a1 a2 a3 a4 row)
open Cert.Proof.BMixBlocks (tileGain tileMat tileScale)
open Cert.Proof.BMixValue (end_dhp end_dgain end_dwg end_dsc)
open Cert.BMixIdeal (cfg0)
open Cert.BMixIdeal.Gen (dats N_0)

variable {m : (ℓ : Loc Cert.BMixIdeal.nD Cert.BMixIdeal.τ Cert.BMixIdeal.sig) → Buf (Elt Ideal) ℓ} {c : Dev Cert.BMixIdeal.nD}

theorem rows : 4096 = cfg0.N * 512 := by rw [show cfg0.N = 8 from N_0]

theorem eq_dhp (H : Fine (a0 m c) (a2 m c) (a3 m c) (a4 m c)) : val_main_v176 (F := Ideal) (a0 m c) (a1 m c) (a2 m c) (a3 m c) (a4 m c) = (dats m 0 c).arrAt 7 cfg0.N := by
  rw [end_dhp]
  funext i
  obtain ⟨r, k, rfl⟩ : ∃ (r : Fin 4096) (k : Fin 1024), i = ix2 r k := ⟨i 0, i 1, eq_ix2 i⟩
  exact dhp_at H r k

theorem eq_gain (H : Fine (a0 m c) (a2 m c) (a3 m c) (a4 m c)) : val_main_v177 (F := Ideal) (a0 m c) (a1 m c) (a3 m c) (a4 m c) = (dats m 0 c).arrAt 8 cfg0.N := by
  rw [end_dgain]
  funext i
  rw [gain_at H, sum_tiles rows]
  rfl

theorem eq_dwg (H : Fine (a0 m c) (a2 m c) (a3 m c) (a4 m c)) : val_main_v104 (F := Ideal) (a0 m c) (a1 m c) (a2 m c) (a4 m c) = (dats m 0 c).arrAt 9 cfg0.N := by
  rw [end_dwg]
  funext i
  obtain ⟨g, a, b, rfl⟩ : ∃ (g : Fin 4) (a b : Fin 256), i = ix3 g a b := ⟨i 0, i 1, i 2, eq_ix3 i⟩
  rw [dwg_at _ _ _ _ H.gain, sum_tiles rows]
  rfl

theorem eq_dsc (H : Fine (a0 m c) (a2 m c) (a3 m c) (a4 m c)) : val_main_v178 (F := Ideal) (a0 m c) (a1 m c) (a2 m c) (a3 m c) = (dats m 0 c).arrAt 10 cfg0.N := by
  rw [end_dsc]
  funext i
  rw [dsc_at _ _ _ _ H.gain, sum_tiles rows]
  rfl

/-! ### The precondition -/

variable (m c) in
theorem fine (hp : Cert.Pre_BMixIdeal_b_finite m) : Fine (a0 m c) (a2 m c) (a3 m c) (a4 m c) := by
  have e := congrFun (hp c) (fun d => d.elim0)
  unfold Cert.Pre_b_finite.fn Cert.Pre_b_finite.fn_part1 at e
  dsimp only at e
  obtain ⟨e1, eS⟩ := IntOp.andi_eq_one.mp e
  obtain ⟨e2, eW⟩ := IntOp.andi_eq_one.mp e1
  obtain ⟨eD, eG⟩ := IntOp.andi_eq_one.mp e2
  haveI : Subsingleton (Shape.Idx Cert.Pre_b_finite.S_) := ⟨fun a b => funext fun d => d.elim0⟩
  exact ⟨fin_test _ _ _ _ _ _ _ eD, fin_test _ _ _ _ _ _ _ eG, fin_test _ _ _ _ _ _ _ eW, fin_test _ _ _ _ _ _ _ eS⟩

theorem frame_ref : Cert.quiescent_BMixRefIdeal := fun m ρ _ =>
  (θ_run Cert.BMixRefIdeal.defs _ _).mono (fun _ h => ⟨fun c => (h c).2.2.2.2, sem_eq_zero_of_no_sems rfl _⟩) (Cert.BMixRefIdeal.Value.run m ρ)

theorem algebraic : Cert.algebraic_BMixIdeal_BMixRefIdeal_pre_b_finite := by
  intro m ρ m' ρ' hp ha
  refine ⟨_, _, _, _, BMixValue.run m ρ, ?_⟩
  refine (θ_run Cert.BMixRefIdeal.defs _ _).mono (fun r h c => ?_) (Cert.BMixRefIdeal.Value.run m' ρ')
  have H := fine m c hp
  obtain ⟨h0, h1, h2, h3, kept⟩ := h c
  obtain ⟨e0, e1, e2, e3, e4⟩ := ha c
  refine ⟨?_, ?_, ?_, ?_, kept⟩
  · refine (h0.trans (val_main_v176_eq _)).trans ?_
    show val_main_v176 (F := Ideal) (m' (c.tc.loc Cert.BMixRefIdeal.main_arg0)) (m' (c.tc.loc Cert.BMixRefIdeal.main_arg1)) (m' (c.tc.loc Cert.BMixRefIdeal.main_arg2)) (m' (c.tc.loc Cert.BMixRefIdeal.main_arg3)) (m' (c.tc.loc Cert.BMixRefIdeal.main_arg4)) = _
    rw [e0, e1, e2, e3, e4]
    exact eq_dhp H
  · refine (h1.trans (val_main_v177_eq _)).trans ?_
    show val_main_v177 (F := Ideal) (m' (c.tc.loc Cert.BMixRefIdeal.main_arg0)) (m' (c.tc.loc Cert.BMixRefIdeal.main_arg1)) (m' (c.tc.loc Cert.BMixRefIdeal.main_arg3)) (m' (c.tc.loc Cert.BMixRefIdeal.main_arg4)) = _
    rw [e0, e1, e3, e4]
    exact eq_gain H
  · refine (h2.trans (val_main_v104_eq _)).trans ?_
    show val_main_v104 (F := Ideal) (m' (c.tc.loc Cert.BMixRefIdeal.main_arg0)) (m' (c.tc.loc Cert.BMixRefIdeal.main_arg1)) (m' (c.tc.loc Cert.BMixRefIdeal.main_arg2)) (m' (c.tc.loc Cert.BMixRefIdeal.main_arg4)) = _
    rw [e0, e1, e2, e4]
    exact eq_dwg H
  · refine (h3.trans (val_main_v178_eq _)).trans ?_
    show val_main_v178 (F := Ideal) (m' (c.tc.loc Cert.BMixRefIdeal.main_arg0)) (m' (c.tc.loc Cert.BMixRefIdeal.main_arg1)) (m' (c.tc.loc Cert.BMixRefIdeal.main_arg2)) (m' (c.tc.loc Cert.BMixRefIdeal.main_arg3)) = _
    rw [e0, e1, e2, e3]
    exact eq_dsc H

end Cert.Proof.BMixRef

end
-- ==== Proof.ProjValue.lean ====
/- The norm and projection of a mixer, forward: what the kernel's outputs hold at the end. -/
module

public import proofs.«01_k».proof.Proof.Gen.ProjIdeal.Value
public import proofs.«01_k».proof.Proof.RmsLaws
public import proofs.«01_k».proof.Proof.Whole

@[expose] public section

set_option maxRecDepth 16384

noncomputable section

namespace Cert.Proof.ProjValue

open Idealize.ShloMosaic Idealize.SL.Sem Cert.ProjIdeal Cert.ProjIdeal.Gen Cert.Proof.Rms Cert.Proof.Whole
open Idealize.ShloMosaic.Pipeline (Dat Cfg Window)

variable (m : (ℓ : Loc nD τ sig) → Buf (Elt Ideal) ℓ)

/-- A normalised and scaled row, and its product with a matrix, with the bias. -/
def u (x g : Fin 1024 → EReal) (k : Fin 1024) : EReal := x k * rr x * g k
def z (x g : Fin 1024 → EReal) (w : Fin 1024 → Fin 2048 → EReal) (b : Fin 2048 → EReal) (l : Fin 2048) : EReal := (∑ k, u x g k * w k l) + b l

theorem pay1_at (x : Vec Ideal S512x1024 .f32) (g : Vec Ideal S1x1024 .f32) (p : Fin 512) (k : Fin 1024) :
    k0_pay1 x g (ix2 p k) = u (fun k => x (ix2 p k)) (fun k => g (ix2 0 k)) k := by
  unfold u rr under
  rw [← c1024, ← cEps]
  pointwise [k0_pay1]

theorem pay2_at (x : Vec Ideal S512x1024 .f32) (g : Vec Ideal S1x1024 .f32) (w : Vec Ideal S1024x2048 .bf16) (b : Vec Ideal S1x2048 .f32)
    (p : Fin 512) (l : Fin 2048) :
    k0_pay2 x g w b (ix2 p l) = z (fun k => x (ix2 p k)) (fun k => g (ix2 0 k)) (fun k l => w (ix2 k l)) (fun l => b (ix2 0 l)) l := by
  unfold z
  simp only [← pay1_at]
  pointwise [k0_pay2]

/-! ### The blocks of the arguments -/

abbrev ah (c : Dev nD) : S4096x1024.Idx → EReal := m ((c.tc : Thread nD τ).loc main_arg0)
abbrev ag (c : Dev nD) : S1024.Idx → EReal := m ((c.tc : Thread nD τ).loc main_arg1)
abbrev aw (c : Dev nD) : S1024x2048.Idx → EReal := m ((c.tc : Thread nD τ).loc main_arg2)
abbrev ab (c : Dev nD) : S2048.Idx → EReal := m ((c.tc : Thread nD τ).loc main_arg3)

/-- Row `p` of block `t` in the whole array. -/
def row (t : Fin cfg0.N) (p : Fin 512) : Fin 4096 :=
  ⟨t.val * 512 + p.val, by have := lt_of_lt_of_eq t.isLt (show cfg0.N = 8 from N_0); omega⟩

theorem index0 : ∀ t : Fin cfg0.N, (win0_0.index t 0 = t.val ∧ win0_0.index t 1 = 0) ∧ win0_1.index t 0 = 0 ∧ win0_1.index t 1 = 0 :=
  (by decide +kernel : ∀ t : Fin grid0.N, (win0_0.index t 0 = t.val ∧ win0_0.index t 1 = 0) ∧ win0_1.index t 0 = 0 ∧ win0_1.index t 1 = 0)
theorem index2 : ∀ t : Fin cfg0.N, (win0_2.index t 0 = 0 ∧ win0_2.index t 1 = 0) ∧ win0_3.index t 0 = 0 ∧ win0_3.index t 1 = 0 :=
  (by decide +kernel : ∀ t : Fin grid0.N, (win0_2.index t 0 = 0 ∧ win0_2.index t 1 = 0) ∧ win0_3.index t 0 = 0 ∧ win0_3.index t 1 = 0)
theorem index4 : ∀ t : Fin cfg0.N, (win0_4.index t 0 = t.val ∧ win0_4.index t 1 = 0) ∧ win0_5.index t 0 = t.val ∧ win0_5.index t 1 = 0 :=
  (by decide +kernel : ∀ t : Fin grid0.N, (win0_4.index t 0 = t.val ∧ win0_4.index t 1 = 0) ∧ win0_5.index t 0 = t.val ∧ win0_5.index t 1 = 0)

theorem emb0 (t : Fin cfg0.N) (p : Fin 512) (k : Fin 1024) : ((cfg0.win 0).blk t).view.emb (ix2 p k) = ix2 (row t p) k :=
  Shape.idx_ext₂ ((Window.rect_emb_val win0_0 t (ix2 p k) 0).trans (by rw [(index0 t).1.1]; rfl))
    ((Window.rect_emb_val win0_0 t (ix2 p k) 1).trans (by rw [(index0 t).1.2]; exact Nat.zero_add _))

theorem emb1 (t : Fin cfg0.N) (k : Fin 1024) : ((cfg0.win 1).blk t).view.emb (ix2 0 k) = ix2 0 k :=
  Shape.idx_ext₂ ((Window.rect_emb_val win0_1 t (ix2 0 k) 0).trans (by rw [(index0 t).2.1]; exact Nat.zero_add _))
    ((Window.rect_emb_val win0_1 t (ix2 0 k) 1).trans (by rw [(index0 t).2.2]; exact Nat.zero_add _))

theorem emb2 (t : Fin cfg0.N) (p : Fin 1024) (k : Fin 2048) : ((cfg0.win 2).blk t).view.emb (ix2 p k) = ix2 p k :=
  Shape.idx_ext₂ ((Window.rect_emb_val win0_2 t (ix2 p k) 0).trans (by rw [(index2 t).1.1]; exact Nat.zero_add _))
    ((Window.rect_emb_val win0_2 t (ix2 p k) 1).trans (by rw [(index2 t).1.2]; exact Nat.zero_add _))

theorem emb3 (t : Fin cfg0.N) (k : Fin 2048) : ((cfg0.win 3).blk t).view.emb (ix2 0 k) = ix2 0 k :=
  Shape.idx_ext₂ ((Window.rect_emb_val win0_3 t (ix2 0 k) 0).trans (by rw [(index2 t).2.1]; exact Nat.zero_add _))
    ((Window.rect_emb_val win0_3 t (ix2 0 k) 1).trans (by rw [(index2 t).2.2]; exact Nat.zero_add _))

theorem emb4 (t : Fin cfg0.N) (p : Fin 512) (k : Fin 2048) : ((cfg0.win 4).blk t).view.emb (ix2 p k) = ix2 (row t p) k :=
  Shape.idx_ext₂ ((Window.rect_emb_val win0_4 t (ix2 p k) 0).trans (by rw [(index4 t).1.1]; rfl))
    ((Window.rect_emb_val win0_4 t (ix2 p k) 1).trans (by rw [(index4 t).1.2]; exact Nat.zero_add _))

theorem emb5 (t : Fin cfg0.N) (p : Fin 512) (k : Fin 1024) : ((cfg0.win 5).blk t).view.emb (ix2 p k) = ix2 (row t p) k :=
  Shape.idx_ext₂ ((Window.rect_emb_val win0_5 t (ix2 p k) 0).trans (by rw [(index4 t).2.1]; rfl))
    ((Window.rect_emb_val win0_5 t (ix2 p k) 1).trans (by rw [(index4 t).2.2]; exact Nat.zero_add _))

theorem blk0 (c : Dev nD) (t : Fin cfg0.N) (p : Fin 512) (k : Fin 1024) : iblk m c 0 t (ix2 p k) = ah m c (ix2 (row t p) k) := by
  unfold iblk
  rw [View.read_apply, emb0]
  show V m c main_arg0 _ = _
  rw [V_main_arg0]

theorem blk1 (c : Dev nD) (t : Fin cfg0.N) (k : Fin 1024) : iblk m c 1 t (ix2 0 k) = ag m c (ix1 k) := by
  unfold iblk
  rw [View.read_apply, emb1]
  show V m c main_v0 _ = _
  have hV : V m c main_v0 = shapeCast S1x1024 (ag m c) shapeCasts_S1024_S1x1024 := by
    dsimp only [V]; after_results_simp <;> rfl
  rw [hV]
  pointwise

theorem blk2 (c : Dev nD) (t : Fin cfg0.N) (i : Fin 1024) (k : Fin 2048) : iblk m c 2 t (ix2 i k) = aw m c (ix2 i k) := by
  unfold iblk
  rw [View.read_apply, emb2]
  show V m c main_v1 _ = _
  have hV : V m c main_v1 = truncf (F := Ideal) .bf16 (aw m c) bitsLt_bf16_f32 := by
    dsimp only [V]; after_results_simp <;> rfl
  rw [hV]
  rfl

theorem blk3 (c : Dev nD) (t : Fin cfg0.N) (k : Fin 2048) : iblk m c 3 t (ix2 0 k) = ab m c (ix1 k) := by
  unfold iblk
  rw [View.read_apply, emb3]
  show V m c main_v2 _ = _
  have hV : V m c main_v2 = shapeCast S1x2048 (ab m c) shapeCasts_S2048_S1x2048 := by
    dsimp only [V]; after_results_simp <;> rfl
  rw [hV]
  pointwise

/-! ### The arrays at the end -/

/-- The two results at an index. -/
def uAt (c : Dev nD) (i : Fin 4096) : Fin 1024 → EReal := u (fun k => ah m c (ix2 i k)) (fun k => ag m c (ix1 k))
def zAt (c : Dev nD) (i : Fin 4096) : Fin 2048 → EReal :=
  z (fun k => ah m c (ix2 i k)) (fun k => ag m c (ix1 k)) (fun k l => aw m c (ix2 k l)) (fun l => ab m c (ix1 l))

/-- The point that a row belongs to, and its place there. -/
theorem point (r : Fin 4096) : ∃ (t : Fin cfg0.N) (p : Fin 512), row t p = r := by
  have hr := r.isLt
  exact ⟨⟨r.val / 512, by rw [show cfg0.N = 8 from N_0]; omega⟩, ⟨r.val % 512, Nat.mod_lt _ (by norm_num)⟩,
    Fin.ext (show r.val / 512 * 512 + r.val % 512 = r.val by omega)⟩

theorem end_z (c : Dev nD) : (dats m 0 c).arrAt 4 cfg0.N = fun i : S4096x2048.Idx => zAt m c (i 0) (i 1) := by
  refine Dat.arrAt_eq_of_cover (dats m 0 c) 4 _ (fun t _ => ?_) (fun i => ?_)
  · rw [Value.flushed4]
    funext y
    obtain ⟨p, k, rfl⟩ : ∃ (p : Fin 512) (k : Fin 2048), y = ix2 p k := ⟨y 0, y 1, eq_ix2 y⟩
    rw [View.read_apply, emb4]
    show out0_4 (iblk m c 0 t) (iblk m c 1 t) (iblk m c 2 t) (iblk m c 3 t) (ix2 p k) = zAt m c (row t p) k
    unfold out0_4
    simp only [canon2, ld2]
    rw [pay2_at]
    simp only [blk0, blk1, blk2, blk3, zAt]
  · obtain ⟨r, k, rfl⟩ : ∃ (r : Fin 4096) (k : Fin 2048), i = ix2 r k := ⟨i 0, i 1, eq_ix2 i⟩
    obtain ⟨t, p, rfl⟩ := point r
    have h := View.emb_mem_set ((cfg0.win 4).blk t).view (ix2 p k)
    rw [emb4] at h
    exact ⟨t, flush0_4 _, h⟩

theorem end_u (c : Dev nD) : (dats m 0 c).arrAt 5 cfg0.N = fun i : S4096x1024.Idx => uAt m c (i 0) (i 1) := by
  refine Dat.arrAt_eq_of_cover (dats m 0 c) 5 _ (fun t _ => ?_) (fun i => ?_)
  · rw [Value.flushed5]
    funext y
    obtain ⟨p, k, rfl⟩ : ∃ (p : Fin 512) (k : Fin 1024), y = ix2 p k := ⟨y 0, y 1, eq_ix2 y⟩
    rw [View.read_apply, emb5]
    show out0_5 (iblk m c 0 t) (iblk m c 1 t) (iblk m c 2 t) (iblk m c 3 t) (ix2 p k) = uAt m c (row t p) k
    unfold out0_5
    simp only [canon2, ld2]
    rw [pay1_at]
    simp only [blk0, blk1, uAt]
  · obtain ⟨r, k, rfl⟩ : ∃ (r : Fin 4096) (k : Fin 1024), i = ix2 r k := ⟨i 0, i 1, eq_ix2 i⟩
    obtain ⟨t, p, rfl⟩ := point r
    have h := View.emb_mem_set ((cfg0.win 5).blk t).view (ix2 p k)
    rw [emb5] at h
    exact ⟨t, flush0_5 _, h⟩

end Cert.Proof.ProjValue

end
-- ==== Proof.ProjRef.lean ====
/- The norm and projection of a mixer, forward: the reference's results read at an index, and their agreement with what the
   kernel's outputs hold at the end. -/
module

public import proofs.«01_k».proof.Defs
public import proofs.«01_k».proof.Proof.ProjValue
public import proofs.«01_k».proof.Proof.Gen.ProjRefIdeal.Read

@[expose] public section

set_option maxRecDepth 16384

noncomputable section

namespace Cert.Proof.ProjRef

open Idealize.ShloMosaic Idealize.SL.Sem Cert.ProjRefIdeal Cert.ProjRefIdeal.Read Cert.Proof.Rms
open Cert.Proof.ProjValue (u z)

variable (X : S4096x1024.Idx → EReal) (G : S1024.Idx → EReal) (W : S1024x2048.Idx → EReal) (B : S2048.Idx → EReal)

abbrev x (i : Fin 4096) : Fin 1024 → EReal := fun k => X (ix2 i k)
abbrev g : Fin 1024 → EReal := fun k => G (ix1 k)

theorem rr_at (i : S4096x1.Idx) : val_main_v7 (F := Ideal) X i = rr (x X (i 0)) := by
  have e : ∀ k, val_main_v0 (F := Ideal) X (idx_main_v1 (idx_main_v2 i) k) = x X (i 0) k * x X (i 0) k := fun k => by
    rw [val_main_v0_apply, show idx_main_v1 (idx_main_v2 i) k = ix2 (i 0) k from Shape.idx_ext₂ rfl rfl]; rfl
  rw [val_main_v7_apply, val_main_v6_apply, val_main_v4_apply, val_main_v2_apply, val_main_v1_apply, val_main_v3_apply, val_main_v5_apply]
  simp only [e]
  show Ideal.rsqrt (Ideal.div (Ideal.ofBits .f32 0x00000000#32 + _) (Ideal.ofBits .f32 0x44800000#32) + Ideal.ofBits .f32 0x358637BD#32) = _
  rw [Ideal.ofBits_zero_f32, zero_add, c1024, cEps]
  rfl

theorem u_at (r : Fin 4096) (k : Fin 1024) : val_main_v12 (F := Ideal) X G (ix2 r k) = u (x X r) (g G) k := by
  rw [val_main_v12_apply, val_main_v9_apply, val_main_v8_apply, rr_at, val_main_v11_apply, val_main_v10_apply,
    show idx_main_v10 (idx_main_v11 (ix2 r k)) = ix1 k from eq_ix1 _]
  rfl

theorem z_at (r : Fin 4096) (l : Fin 2048) : val_main_v16 (F := Ideal) X G W B (ix2 r l) = z (x X r) (g G) (fun k l => W (ix2 k l)) (fun l => B (ix1 l)) l := by
  rw [val_main_v16_apply, val_main_v13_apply, val_main_v15_apply, val_main_v14_apply, show idx_main_v14 (idx_main_v15 (ix2 r l)) = ix1 l from eq_ix1 _]
  refine congrArg (· + B (ix1 l)) (Finset.sum_congr rfl fun k _ => congrArg₂ (· * ·) ?_ (congrArg W (Shape.idx_ext₂ rfl rfl)))
  have hi : lidx_main_v13 (ix2 r l) k = ix2 r k := Shape.idx_ext₂ rfl rfl
  exact (congrArg (val_main_v12 (F := Ideal) X G) hi).trans (u_at X G r k)

/-! ### The two programs' results -/

open Cert.ProjIdeal (cfg0)
open Cert.ProjIdeal.Gen (dats)
open Cert.Proof.ProjValue (ah ag aw ab end_z end_u)

variable (m : (ℓ : Loc Cert.ProjIdeal.nD Cert.ProjIdeal.τ Cert.ProjIdeal.sig) → Buf (Elt Ideal) ℓ)

theorem eq_z (c : Dev Cert.ProjIdeal.nD) : val_main_v17 (F := Ideal) (ah m c) (ag m c) (aw m c) (ab m c) = (dats m 0 c).arrAt 4 cfg0.N := by
  rw [end_z]
  funext i
  obtain ⟨r, k, rfl⟩ : ∃ (r : Fin 4096) (k : Fin 2048), i = ix2 r k := ⟨i 0, i 1, eq_ix2 i⟩
  exact z_at _ _ _ _ r k

theorem eq_u (c : Dev Cert.ProjIdeal.nD) : val_main_v18 (F := Ideal) (ah m c) (ag m c) = (dats m 0 c).arrAt 5 cfg0.N := by
  rw [end_u]
  funext i
  obtain ⟨r, k, rfl⟩ : ∃ (r : Fin 4096) (k : Fin 1024), i = ix2 r k := ⟨i 0, i 1, eq_ix2 i⟩
  exact u_at _ _ r k

theorem frame_ref : Cert.quiescent_ProjRefIdeal := fun m ρ _ =>
  (θ_run Cert.ProjRefIdeal.defs _ _).mono (fun _ h => ⟨fun c => (h c).2.2, sem_eq_zero_of_no_sems rfl _⟩) (Cert.ProjRefIdeal.Value.run m ρ)

theorem algebraic : Cert.algebraic_ProjIdeal_ProjRefIdeal := by
  intro m ρ m' ρ' _ ha
  refine ⟨_, _, Cert.ProjIdeal.Value.run_blocks m ρ, ?_⟩
  refine (θ_run Cert.ProjRefIdeal.defs _ _).mono (fun r h c => ?_) (Cert.ProjRefIdeal.Value.run m' ρ')
  obtain ⟨h0, h1, kept⟩ := h c
  obtain ⟨a0, a1, a2, a3⟩ := ha c
  refine ⟨?_, ?_, kept⟩
  · refine (h0.trans (val_main_v17_eq _ _ _ _)).trans ?_
    rw [a0, a1, a2, a3]
    exact eq_z m c
  · refine (h1.trans (val_main_v18_eq _ _)).trans ?_
    rw [a0, a1]
    exact eq_u m c

end Cert.Proof.ProjRef

end
-- ==== Proof.CMixFrames.lean ====
/- The third mixer's gradient: the frames of the kernel at both readings of its numbers, from one run of the kernel. -/
module

public import proofs.«01_k».proof.Defs
public import proofs.«01_k».proof.Proof.Gen.CMix.Launch
public import proofs.«01_k».proof.Proof.Gen.CMixIdeal.Frame

@[expose] public section

set_option maxRecDepth 65536

noncomputable section

namespace Cert.Proof.CMixFrames

open Idealize.ShloMosaic

theorem ideal : Cert.quiescent_CMixIdeal := fun m ρ _ => Cert.CMixIdeal.Gen.frame m ρ

theorem compiled : Cert.quiescent_CMix := fun m ρ _ => by
  refine cast ?_ (Cert.CMixIdeal.Gen.frame (F := Bits) m ρ)
  sl_kernel_rfl

end Cert.Proof.CMixFrames

end
-- ==== Proof.GateValue.lean ====
/- The first mixer, forward: what the kernel's output holds at the end. A point reads its 512 rows of the mixer's input and the
   32 rows before them, which it clears when the block is the first. -/
module

public import proofs.«01_k».proof.Proof.Gen.GateIdeal.Value
public import proofs.«01_k».proof.Proof.Whole
public import proofs.«01_k».proof.Proof.Pieces
public import proofs.«01_k».proof.Proof.AMixMath
public import proofs.«01_k».proof.Proof.RmsLaws

@[expose] public section

set_option maxRecDepth 16384

noncomputable section

namespace Cert.Proof.GateValue

open Idealize.ShloMosaic Idealize.SL.Sem Cert.GateIdeal Cert.GateIdeal.Gen Cert.Proof.Whole Cert.Proof.Pieces Cert.Proof.AMix
open Idealize.ShloMosaic.Pipeline (Dat Cfg Window)

/-- The gated convolution's product with the output matrix, added to the row. -/
def outAt (z : Fin 4096 → Fin 3072 → EReal) (h : Fin 4096 → Fin 1024 → EReal) (cw : Fin 3 → Fin 1024 → EReal) (wo : Fin 1024 → Fin 1024 → EReal)
    (r : Fin 4096) (l : Fin 1024) : EReal := h r l + ∑ k, z r (gateCol k) * q z cw r.val k * wo k l

variable (m : (ℓ : Loc nD τ sig) → Buf (Elt Ideal) ℓ)

abbrev a0 (c : Dev nD) : S4096x3072.Idx → EReal := m ((c.tc : Thread nD τ).loc main_arg0)
abbrev a1 (c : Dev nD) : S4096x1024.Idx → EReal := m ((c.tc : Thread nD τ).loc main_arg1)
abbrev a2 (c : Dev nD) : S3x1024.Idx → EReal := m ((c.tc : Thread nD τ).loc main_arg2)
abbrev a3 (c : Dev nD) : S1024x1024.Idx → EReal := m ((c.tc : Thread nD τ).loc main_arg3)
abbrev zA (c : Dev nD) : Fin 4096 → Fin 3072 → EReal := fun r k => a0 m c (ix2 r k)
abbrev hA (c : Dev nD) : Fin 4096 → Fin 1024 → EReal := fun r k => a1 m c (ix2 r k)
abbrev cwA (c : Dev nD) : Fin 3 → Fin 1024 → EReal := fun r k => a2 m c (ix2 r k)
abbrev woA (c : Dev nD) : Fin 1024 → Fin 1024 → EReal := fun r k => a3 m c (ix2 r k)

theorem lt8 (t : Fin cfg0.N) : t.val < 8 := lt_of_lt_of_eq t.isLt (show cfg0.N = 8 from N_0)

/-- Row `p` of block `t` in the whole array, and of the 32 rows before the block. -/
def row (t : Fin cfg0.N) (p : Fin 512) : Fin 4096 := ⟨t.val * 512 + p.val, by have := lt8 t; omega⟩
def before (t : Fin cfg0.N) (p : Fin 32) : Fin 4096 := ⟨(t.val * 16 - 1) * 32 + p.val, by have := lt8 t; omega⟩

/-! ### The blocks of the arguments -/

theorem rows_at : ∀ t : Fin cfg0.N, (win0_0.index t 0 = t.val ∧ win0_0.index t 1 = 0) ∧ (win0_1.index t 0 = t.val * 16 - 1 ∧ win0_1.index t 1 = 0)
    ∧ (win0_2.index t 0 = t.val ∧ win0_2.index t 1 = 0) ∧ win0_5.index t 0 = t.val ∧ win0_5.index t 1 = 0 :=
  (by decide +kernel : ∀ t : Fin grid0.N, (win0_0.index t 0 = t.val ∧ win0_0.index t 1 = 0) ∧ (win0_1.index t 0 = t.val * 16 - 1 ∧ win0_1.index t 1 = 0)
    ∧ (win0_2.index t 0 = t.val ∧ win0_2.index t 1 = 0) ∧ win0_5.index t 0 = t.val ∧ win0_5.index t 1 = 0)
theorem whole_at : ∀ t : Fin cfg0.N, (win0_3.index t 0 = 0 ∧ win0_3.index t 1 = 0) ∧ win0_4.index t 0 = 0 ∧ win0_4.index t 1 = 0 :=
  (by decide +kernel : ∀ t : Fin grid0.N, (win0_3.index t 0 = 0 ∧ win0_3.index t 1 = 0) ∧ win0_4.index t 0 = 0 ∧ win0_4.index t 1 = 0)

theorem emb0 (t : Fin cfg0.N) (p : Fin 512) (k : Fin 3072) : ((cfg0.win 0).blk t).view.emb (ix2 p k) = ix2 (row t p) k :=
  Shape.idx_ext₂ ((Window.rect_emb_val win0_0 t (ix2 p k) 0).trans (by rw [(rows_at t).1.1]; rfl))
    ((Window.rect_emb_val win0_0 t (ix2 p k) 1).trans (by rw [(rows_at t).1.2]; exact Nat.zero_add _))
theorem emb1 (t : Fin cfg0.N) (p : Fin 32) (k : Fin 3072) : ((cfg0.win 1).blk t).view.emb (ix2 p k) = ix2 (before t p) k :=
  Shape.idx_ext₂ ((Window.rect_emb_val win0_1 t (ix2 p k) 0).trans (by rw [(rows_at t).2.1.1]; rfl))
    ((Window.rect_emb_val win0_1 t (ix2 p k) 1).trans (by rw [(rows_at t).2.1.2]; exact Nat.zero_add _))
theorem emb2 (t : Fin cfg0.N) (p : Fin 512) (k : Fin 1024) : ((cfg0.win 2).blk t).view.emb (ix2 p k) = ix2 (row t p) k :=
  Shape.idx_ext₂ ((Window.rect_emb_val win0_2 t (ix2 p k) 0).trans (by rw [(rows_at t).2.2.1.1]; rfl))
    ((Window.rect_emb_val win0_2 t (ix2 p k) 1).trans (by rw [(rows_at t).2.2.1.2]; exact Nat.zero_add _))
theorem emb3 (t : Fin cfg0.N) (p : Fin 3) (k : Fin 1024) : ((cfg0.win 3).blk t).view.emb (ix2 p k) = ix2 p k :=
  Shape.idx_ext₂ ((Window.rect_emb_val win0_3 t (ix2 p k) 0).trans (by rw [(whole_at t).1.1]; exact Nat.zero_add _))
    ((Window.rect_emb_val win0_3 t (ix2 p k) 1).trans (by rw [(whole_at t).1.2]; exact Nat.zero_add _))
theorem emb4 (t : Fin cfg0.N) (p : Fin 1024) (k : Fin 1024) : ((cfg0.win 4).blk t).view.emb (ix2 p k) = ix2 p k :=
  Shape.idx_ext₂ ((Window.rect_emb_val win0_4 t (ix2 p k) 0).trans (by rw [(whole_at t).2.1]; exact Nat.zero_add _))
    ((Window.rect_emb_val win0_4 t (ix2 p k) 1).trans (by rw [(whole_at t).2.2]; exact Nat.zero_add _))
theorem emb5 (t : Fin cfg0.N) (p : Fin 512) (k : Fin 1024) : ((cfg0.win 5).blk t).view.emb (ix2 p k) = ix2 (row t p) k :=
  Shape.idx_ext₂ ((Window.rect_emb_val win0_5 t (ix2 p k) 0).trans (by rw [(rows_at t).2.2.2.1]; rfl))
    ((Window.rect_emb_val win0_5 t (ix2 p k) 1).trans (by rw [(rows_at t).2.2.2.2]; exact Nat.zero_add _))

theorem blk0 (c : Dev nD) (t : Fin cfg0.N) (p : Fin 512) (k : Fin 3072) : iblk m c 0 t (ix2 p k) = zA m c (row t p) k := by
  unfold iblk
  rw [View.read_apply, emb0]
  show V m c main_arg0 _ = _
  rw [V_main_arg0]
theorem blk1 (c : Dev nD) (t : Fin cfg0.N) (p : Fin 32) (k : Fin 3072) : iblk m c 1 t (ix2 p k) = zA m c (before t p) k := by
  unfold iblk
  rw [View.read_apply, emb1]
  show V m c main_arg0 _ = _
  rw [V_main_arg0]
theorem blk2 (c : Dev nD) (t : Fin cfg0.N) (p : Fin 512) (k : Fin 1024) : iblk m c 2 t (ix2 p k) = hA m c (row t p) k := by
  unfold iblk
  rw [View.read_apply, emb2]
  show V m c main_arg1 _ = _
  rw [V_main_arg1]
theorem blk3 (c : Dev nD) (t : Fin cfg0.N) (i : Fin 3) (j : Fin 1024) : iblk m c 3 t (ix2 i j) = cwA m c i j := by
  unfold iblk
  rw [View.read_apply, emb3]
  show V m c main_v5 _ = _
  have hV : V m c main_v5 = extf (F := Ideal) .f32 (shapeCast S3x1024 (transpose S3x8x128 [1, 0, 2] (transpose S8x3x128 [1, 0, 2] (shapeCast S3x8x128 (truncf (F := Ideal) .bf16 (a2 m c) bitsLt_bf16_f32)
      shapeCasts_S3x1024_S3x8x128) transposes_S3x8x128_S8x3x128_1_0_2) transposes_S8x3x128_S3x8x128_1_0_2) shapeCasts_S3x8x128_S3x1024) bitsLt_bf16_f32 := by
    dsimp only [V]; after_results_simp <;> rfl
  rw [hV]
  pointwise
theorem blk4 (c : Dev nD) (t : Fin cfg0.N) (i : Fin 1024) (j : Fin 1024) : iblk m c 4 t (ix2 i j) = woA m c i j := by
  unfold iblk
  rw [View.read_apply, emb4]
  show V m c main_v8 _ = _
  have hV : V m c main_v8 = shapeCast S1024x1024 (shapeCast S8x128x1024 (truncf (F := Ideal) .bf16 (a3 m c) bitsLt_bf16_f32) shapeCasts_S1024x1024_S8x128x1024) shapeCasts_S8x128x1024_S1024x1024 := by
    dsimp only [V]; after_results_simp <;> rfl
  rw [hV]
  pointwise

/-! ### The kernel's expressions at an index -/

theorem first_iff (t : Fin cfg0.N) : Scalar.cmpi .eq (BitVec.ofNat 32 (grid0.coords t 0).val) 0#32 = 1#1 ↔ t.val = 0 :=
  (by decide +kernel : ∀ t : Fin grid0.N, Scalar.cmpi .eq (BitVec.ofNat 32 (grid0.coords t 0).val) 0#32 = 1#1 ↔ t.val = 0) t

theorem pay2_at (t : Fin cfg0.N) (v0 v2 : Vec Ideal S32x1024 .bf16) (p : Fin 32) (j : Fin 1024) :
    k0_pay2 (grid0.coords t) v0 v2 (ix2 p j) = if t.val = 0 then 0 else v0 (ix2 p j) * v2 (ix2 p j) := by
  simp only [← first_iff]
  pointwise [k0_pay2]
  rfl

theorem pay3_at (v11 v13 : Vec Ideal S512x1024 .bf16) (p : Fin 512) (j : Fin 1024) : k0_pay3 v11 v13 (ix2 p j) = v11 (ix2 p j) * v13 (ix2 p j) := by
  pointwise [k0_pay3]

theorem pay1_at (c0 c1 c2 : Vec Ideal S1x1024 .f32) (p0 p1 p2 : Vec Ideal S512x1024 .f32) (g : Vec Ideal S512x1024 .bf16) (h : Vec Ideal S512x1024 .f32)
    (w : Vec Ideal S1024x1024 .bf16) (r : Fin 512) (l : Fin 1024) :
    k0_pay1 (k0_pay4 c0 p0 c1 p1) c2 p2 g h w (ix2 r l)
      = h (ix2 r l) + ∑ k, g (ix2 r k) * (c0 (ix2 0 k) * p0 (ix2 r k) + c1 (ix2 0 k) * p1 (ix2 r k) + c2 (ix2 0 k) * p2 (ix2 r k)) * w (ix2 k l) := by
  pointwise [k0_pay1, k0_pay4]

/-! ### What the point holds in its padded array -/

abbrev gate (c : Dev nD) (t : Fin cfg0.N) : Vec Ideal S512x1024 .bf16 :=
  View.ld (iblk m c 0 t) (Rect.unit (s := S512x3072) ![0, 0] ![512, 1024] inb_S512x3072_S512x1024_0_0)
abbrev left (c : Dev nD) (t : Fin cfg0.N) : Vec Ideal S512x1024 .bf16 :=
  View.ld (iblk m c 0 t) (Rect.unit (s := S512x3072) ![0, 1024] ![512, 1024] inb_S512x3072_S512x1024_0_1024)
abbrev right (c : Dev nD) (t : Fin cfg0.N) : Vec Ideal S512x1024 .bf16 :=
  View.ld (iblk m c 0 t) (Rect.unit (s := S512x3072) ![0, 2048] ![512, 1024] inb_S512x3072_S512x1024_0_2048)
abbrev tap0 (c : Dev nD) (t : Fin cfg0.N) : Vec Ideal S1x1024 .f32 := View.ld (iblk m c 3 t) (Rect.unit (s := S3x1024) ![0, 0] ![1, 1024] inb_S3x1024_S1x1024_0_0)
abbrev tap1 (c : Dev nD) (t : Fin cfg0.N) : Vec Ideal S1x1024 .f32 := View.ld (iblk m c 3 t) (Rect.unit (s := S3x1024) ![1, 0] ![1, 1024] inb_S3x1024_S1x1024_1_0)
abbrev tap2 (c : Dev nD) (t : Fin cfg0.N) : Vec Ideal S1x1024 .f32 := View.ld (iblk m c 3 t) (Rect.unit (s := S3x1024) ![2, 0] ![1, 1024] inb_S3x1024_S1x1024_2_0)

theorem gate_at (c : Dev nD) (t : Fin cfg0.N) (p : Fin 512) (j : Fin 1024) : gate m c t (ix2 p j) = zA m c (row t p) (gateCol j) :=
  (ld_hit _ _ p j (ix2 p (gateCol j)) (Nat.zero_add _).symm (Nat.zero_add _).symm).trans (blk0 m c t p _)
theorem left_at (c : Dev nD) (t : Fin cfg0.N) (p : Fin 512) (j : Fin 1024) : left m c t (ix2 p j) = zA m c (row t p) (leftCol j) :=
  (ld_hit _ _ p j (ix2 p (leftCol j)) (Nat.zero_add _).symm rfl).trans (blk0 m c t p _)
theorem right_at (c : Dev nD) (t : Fin cfg0.N) (p : Fin 512) (j : Fin 1024) : right m c t (ix2 p j) = zA m c (row t p) (rightCol j) :=
  (ld_hit _ _ p j (ix2 p (rightCol j)) (Nat.zero_add _).symm rfl).trans (blk0 m c t p _)
theorem tap_at (c : Dev nD) (t : Fin cfg0.N) (i : Fin 3) (inb) (j : Fin 1024) :
    View.ld (iblk m c 3 t) (Rect.unit (s := S3x1024) ![i.val, 0] ![1, 1024] inb) (ix2 0 j) = cwA m c i j :=
  (ld_hit inb _ (0 : Fin 1) j (ix2 i j) rfl (Nat.zero_add _).symm).trans (blk3 m c t i j)

/-- The convolved product's rows from 32 before the block to its end. -/
abbrev pad (c : Dev nD) (t : Fin cfg0.N) : Vec Ideal S544x1024 .f32 :=
  View.canon [⟨Rect.unit (s := S544x1024) ![32, 0] ![512, 1024] inb_S544x1024_S512x1024_32_0, k0_pay3 (left m c t) (right m c t)⟩,
    ⟨Rect.unit (s := S544x1024) ![0, 0] ![32, 1024] inb_S544x1024_S32x1024_0_0, k0_pay2 (grid0.coords t)
      (View.ld (iblk m c 1 t) (Rect.unit (s := S32x3072) ![0, 1024] ![32, 1024] inb_S32x3072_S32x1024_0_1024))
      (View.ld (iblk m c 1 t) (Rect.unit (s := S32x3072) ![0, 2048] ![32, 1024] inb_S32x3072_S32x1024_0_2048))⟩]

theorem pad_eq (c : Dev nD) (t : Fin cfg0.N) : pad m c t = fun y => p (zA m c) (t.val * 512 + (y 0).val) (y 1) := by
  have h8 := lt8 t
  refine canon_two (Val := Elt Ideal) (e := .f32) _ _ rfl _ _ (fun n j => p (zA m c) (t.val * 512 + n) j) (fun r j => ?_) (fun r j => ?_)
  · rw [pay3_at, left_at, right_at, p, dif_pos (by omega)]
    have e : (⟨t.val * 512 + (32 + r.val) - 32, by omega⟩ : Fin 4096) = row t r := Fin.ext (by show t.val * 512 + (32 + r.val) - 32 = t.val * 512 + r.val; omega)
    rw [e]
  · rw [pay2_at]
    have e (b : ℕ) (hb : b + 1024 ≤ 3072) (i : Fin 3072) (hi : i.val = b + j.val) (inb) :
        View.ld (iblk m c 1 t) (Rect.unit (s := S32x3072) ![0, b] ![32, 1024] inb) (ix2 r j) = zA m c (before t r) i :=
      (ld_hit inb _ r j (ix2 r i) (Nat.zero_add _).symm hi).trans (blk1 m c t r i)
    rw [e 1024 (by omega) (leftCol j) rfl, e 2048 (by omega) (rightCol j) rfl]
    rcases Nat.eq_zero_or_pos t.val with h | h
    · rw [if_pos h, p, dif_neg (by omega)]
    · rw [if_neg (by omega), p, dif_pos (by omega)]
      have e' : (⟨t.val * 512 + r.val - 32, by omega⟩ : Fin 4096) = before t r := Fin.ext (by show t.val * 512 + r.val - 32 = (t.val * 16 - 1) * 32 + r.val; omega)
      rw [e']

/-- A load of the padded array from row `a`. -/
theorem pad_at (c : Dev nD) (t : Fin cfg0.N) (a : ℕ) (inb) (r : Fin 512) (j : Fin 1024) :
    View.ld (pad m c t) (Rect.unit (s := S544x1024) ![a, 0] ![512, 1024] inb) (ix2 r j) = p (zA m c) (a + (t.val * 512 + r.val)) j := by
  rw [pad_eq]
  refine (ld_rows (Val := Elt Ideal) (e := .f32) inb (fun n j => p (zA m c) (t.val * 512 + n) j) r j).trans ?_
  exact congrArg (p (zA m c) · j) (Nat.add_left_comm _ _ _)

abbrev pad30 (c : Dev nD) (t : Fin cfg0.N) : Vec Ideal S512x1024 .f32 := View.ld (pad m c t) (Rect.unit (s := S544x1024) ![30, 0] ![512, 1024] inb_S544x1024_S512x1024_30_0)
abbrev pad31 (c : Dev nD) (t : Fin cfg0.N) : Vec Ideal S512x1024 .f32 := View.ld (pad m c t) (Rect.unit (s := S544x1024) ![31, 0] ![512, 1024] inb_S544x1024_S512x1024_31_0)
abbrev pad32 (c : Dev nD) (t : Fin cfg0.N) : Vec Ideal S512x1024 .f32 := View.ld (pad m c t) (Rect.unit (s := S544x1024) ![32, 0] ![512, 1024] inb_S544x1024_S512x1024_32_0)

/-- What the point leaves in its output. -/
abbrev outB (c : Dev nD) (t : Fin cfg0.N) : Vec Ideal S512x1024 .f32 :=
  k0_pay1 (k0_pay4 (tap0 m c t) (pad30 m c t) (tap1 m c t) (pad31 m c t)) (tap2 m c t) (pad32 m c t) (gate m c t) (iblk m c 2 t) (iblk m c 4 t)

theorem outB_at (c : Dev nD) (t : Fin cfg0.N) (r : Fin 512) (l : Fin 1024) :
    outB m c t (ix2 r l) = outAt (zA m c) (hA m c) (cwA m c) (woA m c) (row t r) l := by
  refine (pay1_at _ _ _ _ _ _ _ _ _ r l).trans ?_
  rw [blk2]
  unfold outAt
  refine congrArg (hA m c (row t r) l + ·) (Finset.sum_congr rfl fun k _ => congrArg₂ (· * ·) (congrArg₂ (· * ·) (gate_at m c t r k) ?_) (blk4 m c t k l))
  rw [show tap0 m c t (ix2 0 k) = _ from tap_at m c t 0 _ k, show tap1 m c t (ix2 0 k) = _ from tap_at m c t 1 _ k, show tap2 m c t (ix2 0 k) = _ from tap_at m c t 2 _ k,
    show pad30 m c t (ix2 r k) = _ from pad_at m c t 30 _ r k, show pad31 m c t (ix2 r k) = _ from pad_at m c t 31 _ r k,
    show pad32 m c t (ix2 r k) = _ from pad_at m c t 32 _ r k]
  rfl

theorem out_eq (c : Dev nD) (t : Fin cfg0.N) : outsAt0 m c t = outB m c t := by
  unfold outsAt0 out0_A_5
  rw [View.read_writes_eq_canon]
  swap
  · apply cover0_A_5
  unfold kernelRun0_A
  dsimp only
  sl_unfold_words
  simp only [canon2, readCov_ld, View.readAt_eq_ld, (hs0_0 t).read_unread, (hs0_1 t).read_unread, (hs0_2 t).read_unread, (hs0_3 t).read_unread,
    (hs0_4 t).read_unread, ld2]
  rfl

/-! ### The array at the end -/

/-- The point that a row belongs to, and its place there. -/
theorem point (r : Fin 4096) : ∃ (t : Fin cfg0.N) (p : Fin 512), row t p = r := by
  have hr := r.isLt
  exact ⟨⟨r.val / 512, by rw [show cfg0.N = 8 from N_0]; omega⟩, ⟨r.val % 512, Nat.mod_lt _ (by norm_num)⟩,
    Fin.ext (show r.val / 512 * 512 + r.val % 512 = r.val by omega)⟩

theorem end_out (c : Dev nD) : (dats m 0 c).arrAt 5 cfg0.N = fun i : S4096x1024.Idx => outAt (zA m c) (hA m c) (cwA m c) (woA m c) (i 0) (i 1) := by
  refine Dat.arrAt_eq_of_cover (dats m 0 c) 5 _ (fun t _ => ?_) (fun i => ?_)
  · rw [Value.flushed5]
    funext y
    obtain ⟨p, k, rfl⟩ : ∃ (p : Fin 512) (k : Fin 1024), y = ix2 p k := ⟨y 0, y 1, eq_ix2 y⟩
    rw [View.read_apply, emb5]
    show outsAt0 m c t (ix2 p k) = outAt (zA m c) (hA m c) (cwA m c) (woA m c) (row t p) k
    rw [out_eq]
    exact outB_at m c t p k
  · obtain ⟨r, k, rfl⟩ : ∃ (r : Fin 4096) (k : Fin 1024), i = ix2 r k := ⟨i 0, i 1, eq_ix2 i⟩
    obtain ⟨t, p, rfl⟩ := point r
    have h := View.emb_mem_set ((cfg0.win 5).blk t).view (ix2 p k)
    rw [emb5] at h
    exact ⟨t, flush0_5 _, h⟩

end Cert.Proof.GateValue

end
-- ==== Proof.GateRef.lean ====
/- The first mixer, forward: the reference's result read at an index, and its agreement with what the kernel's output holds at
   the end. -/
module

public import proofs.«01_k».proof.Defs
public import proofs.«01_k».proof.Proof.GateValue
public import proofs.«01_k».proof.Proof.Pads
public import proofs.«01_k».proof.Proof.Gen.GateRefIdeal.Read

@[expose] public section

set_option maxRecDepth 16384

noncomputable section

namespace Cert.Proof.GateRef

open Idealize.ShloMosaic Idealize.SL.Sem Cert.GateRefIdeal Cert.GateRefIdeal.Read Cert.Proof.AMix Cert.Proof.Pads
open Cert.Proof.GateValue (outAt)

variable (Z : S4096x3072.Idx → EReal) (H : S4096x1024.Idx → EReal) (W : S3x1024.Idx → EReal) (O : S1024x1024.Idx → EReal)

abbrev z : Fin 4096 → Fin 3072 → EReal := fun r k => Z (ix2 r k)
abbrev h : Fin 4096 → Fin 1024 → EReal := fun r k => H (ix2 r k)
abbrev cw : Fin 3 → Fin 1024 → EReal := fun r k => W (ix2 r k)
abbrev wo : Fin 1024 → Fin 1024 → EReal := fun r k => O (ix2 r k)

/-- The product under two rows of zeros. -/
theorem p_at (s : Fin 4098) (j : Fin 1024) : val_main_v6 (F := Ideal) Z (ix2 s j) = p (z Z) (30 + s.val) j := by
  have hs := s.isLt
  unfold val_main_v6 p
  rcases Nat.lt_or_ge s.val 2 with h2 | h2
  · rw [dif_neg (by omega)]
    refine (cat_above _ _ _ s j ⟨s.val, h2⟩ rfl).trans ?_
    rw [val_main_v4_apply]
    exact Ideal.ofBits_zero_f32
  · rw [dif_pos ⟨by omega, by omega⟩]
    refine (cat_below _ _ _ s j ⟨30 + s.val - 32, by omega⟩ (by show s.val = 2 + (30 + s.val - 32); omega)).trans ?_
    rw [val_main_v5_apply, val_main_v2_apply, val_main_v3_apply, val_main_v0_apply, val_main_v0_apply]
    exact congrArg₂ (· * ·) (congrArg Z (Shape.idx_ext₂ rfl rfl)) (congrArg Z (Shape.idx_ext₂ rfl rfl))

/-- Row `a + r` of the padded product. -/
theorem shift (a : ℕ) (ha : a ≤ 2) (r : Fin 4096) (j : Fin 1024) (i : S4098x1024.Idx) (h0 : (i 0).val = a + r.val) (h1 : (i 1).val = j.val) :
    val_main_v6 (F := Ideal) Z i = p (z Z) (30 + a + r.val) j := by
  have hi : i = ix2 (⟨a + r.val, by omega⟩ : Fin 4098) j := Shape.idx_ext₂ h0 h1
  rw [hi, Nat.add_assoc]
  exact p_at Z ⟨a + r.val, by omega⟩ j

theorem tap0_at (i : S4096x1024.Idx) : val_main_v11 (F := Ideal) W i = cw W 0 (i 1) := by
  rw [val_main_v11_apply, val_main_v10_apply, val_main_v8_apply, val_main_v7_apply]
  exact congrArg W (Shape.idx_ext₂ rfl (Nat.mod_eq_of_lt (i 1).isLt))
theorem tap1_at (i : S4096x1024.Idx) : val_main_v17 (F := Ideal) W i = cw W 1 (i 1) := by
  rw [val_main_v17_apply, val_main_v16_apply, val_main_v14_apply, val_main_v13_apply]
  exact congrArg W (Shape.idx_ext₂ rfl (Nat.mod_eq_of_lt (i 1).isLt))
theorem tap2_at (i : S4096x1024.Idx) : val_main_v24 (F := Ideal) W i = cw W 2 (i 1) := by
  rw [val_main_v24_apply, val_main_v23_apply, val_main_v21_apply, val_main_v20_apply]
  exact congrArg W (Shape.idx_ext₂ rfl (Nat.mod_eq_of_lt (i 1).isLt))

theorem q_at (r : Fin 4096) (j : Fin 1024) : val_main_v26 (F := Ideal) Z W (ix2 r j) = q (z Z) (cw W) r.val j := by
  rw [val_main_v26_apply, val_main_v19_apply, val_main_v12_apply, val_main_v18_apply, val_main_v25_apply, tap0_at, tap1_at, tap2_at,
    val_main_v9_apply, val_main_v15_apply, val_main_v22_apply, shift Z 0 (by omega) r j (idx_main_v9 (ix2 r j)) (Nat.zero_add _).symm rfl,
    shift Z 1 (by omega) r j (idx_main_v15 (ix2 r j)) rfl rfl, shift Z 2 (by omega) r j (idx_main_v22 (ix2 r j)) rfl rfl]
  rfl

theorem out_at (r : Fin 4096) (l : Fin 1024) : val_main_v29 (F := Ideal) Z H W O (ix2 r l) = outAt (z Z) (h H) (cw W) (wo O) r l := by
  rw [val_main_v29_apply, val_main_v28_apply]
  refine congrArg (H (ix2 r l) + ·) (Finset.sum_congr rfl fun k _ => congrArg₂ (· * ·) ?_ (congrArg O (Shape.idx_ext₂ rfl rfl)))
  have hi : lidx_main_v28 (ix2 r l) k = ix2 r k := Shape.idx_ext₂ rfl rfl
  rw [hi, val_main_v27_apply, q_at, val_main_v1_apply, val_main_v0_apply]
  exact congrArg (· * q (z Z) (cw W) r.val k) (congrArg Z (Shape.idx_ext₂ rfl rfl))

/-! ### The two programs' results -/

open Cert.GateIdeal (cfg0)
open Cert.GateIdeal.Gen (dats)
open Cert.Proof.GateValue (a0 a1 a2 a3 end_out)

variable (m : (ℓ : Loc Cert.GateIdeal.nD Cert.GateIdeal.τ Cert.GateIdeal.sig) → Buf (Elt Ideal) ℓ)

theorem eq_out (c : Dev Cert.GateIdeal.nD) : val_main_v29 (F := Ideal) (a0 m c) (a1 m c) (a2 m c) (a3 m c) = (dats m 0 c).arrAt 5 cfg0.N := by
  rw [end_out]
  funext i
  obtain ⟨r, k, rfl⟩ : ∃ (r : Fin 4096) (k : Fin 1024), i = ix2 r k := ⟨i 0, i 1, eq_ix2 i⟩
  exact out_at _ _ _ _ r k

theorem frame_ref : Cert.quiescent_GateRefIdeal := fun m ρ _ =>
  (θ_run Cert.GateRefIdeal.defs _ _).mono (fun _ h => ⟨fun c => (h c).2, sem_eq_zero_of_no_sems rfl _⟩) (Cert.GateRefIdeal.Value.run m ρ)

theorem algebraic : Cert.algebraic_GateIdeal_GateRefIdeal := by
  intro m ρ m' ρ' _ ha
  refine ⟨_, Cert.GateIdeal.Value.run_blocks m ρ, ?_⟩
  refine (θ_run Cert.GateRefIdeal.defs _ _).mono (fun r h c => ?_) (Cert.GateRefIdeal.Value.run m' ρ')
  obtain ⟨h0, kept⟩ := h c
  obtain ⟨b0, b1, b2, b3⟩ := ha c
  refine ⟨?_, kept⟩
  refine (h0.trans (val_main_v29_eq _ _ _ _)).trans ?_
  rw [b0, b1, b2, b3]
  exact eq_out m c

end Cert.Proof.GateRef

end
-- ==== Proof.ConvMath.lean ====
/- The third mixer, forward — a gated product, a depthwise convolution of 31 taps, a layer norm, a swish and a product — as
   formulas in the mixer's input `z`, the row `h`, the taps `dw` and the parameters. -/
module

public import Idealize.ShloMosaic.Lib.Pointwise
public import Idealize.ShloMosaic.Lib.ValueIdx

@[expose] public section

noncomputable section

namespace Cert.Proof.Conv

open Idealize.ShloMosaic

def leftCol (j : Fin 1024) : Fin 2048 := ⟨j.val, by omega⟩
def gateCol (j : Fin 1024) : Fin 2048 := ⟨1024 + j.val, by omega⟩

/-- `n` terms of `f` added to `x`, one after the other. -/
def acc (x : EReal) (f : ℕ → EReal) : ℕ → EReal
  | 0 => x
  | n + 1 => acc x f n + f n

theorem acc_add (x y : EReal) (f : ℕ → EReal) : ∀ n, acc (x + y) f n = acc x f n + y
  | 0 => rfl
  | n + 1 => by
    show acc (x + y) f n + f n = acc x f n + f n + y
    rw [acc_add x y f n, add_right_comm]

variable (z : Fin 4096 → Fin 2048 → EReal) (h : Fin 4096 → Fin 1024 → EReal) (dw : Fin 31 → Fin 1024 → EReal) (bd lg lb : Fin 1024 → EReal)
  (w : Fin 1024 → Fin 1024 → EReal) (b2 : Fin 1024 → EReal)

/-- The gated product, and the same after 32 rows of zeros. -/
def glu (r : Fin 4096) (j : Fin 1024) : EReal := z r (leftCol j) * Ideal.logistic (z r (gateCol j))
def p (s : ℕ) (j : Fin 1024) : EReal := if h : 32 ≤ s ∧ s < 4128 then glu z ⟨s - 32, by omega⟩ j else 0

def tap (k : ℕ) (j : Fin 1024) : EReal := if h : k < 31 then dw ⟨k, h⟩ j else 0

/-- The convolution: row `n` reads the rows from `n - 30` to `n`. -/
def u (n : ℕ) (j : Fin 1024) : EReal := acc 0 (fun k => tap dw k j * p z (2 + k + n) j) 31 + bd j

/-- The layer norm of a row and its swish. -/
def mean (x : Fin 1024 → EReal) : EReal := Ideal.div (∑ k, x k) (Ideal.ofBits .f32 0x44800000#32)
def cen (x : Fin 1024 → EReal) (k : Fin 1024) : EReal := x k - mean x
def norm (x : Fin 1024 → EReal) (k : Fin 1024) : EReal :=
  cen x k * Ideal.rsqrt (mean (fun k => cen x k * cen x k) + Ideal.ofBits .f32 0x3727C5AC#32) * lg k + lb k
def act (x : Fin 1024 → EReal) (k : Fin 1024) : EReal := norm lg lb x k * Ideal.logistic (norm lg lb x k)

/-- The mixer's product added to the row. -/
def out (x : Fin 1024 → EReal) (h : Fin 1024 → EReal) (l : Fin 1024) : EReal := h l + ((∑ k, act lg lb x k * w k l) + b2 l)

end Cert.Proof.Conv

end
-- ==== Proof.ConvRead.lean ====
/- The third mixer, forward: the reference's results read at an index, and their agreement with what the kernel's outputs hold
   at the end. -/
module

public import proofs.«01_k».proof.Proof.ConvMath
public import proofs.«01_k».proof.Proof.Pads
public import proofs.«01_k».proof.Proof.Gen.ConvRefIdeal.Read

@[expose] public section

set_option maxRecDepth 16384

noncomputable section

namespace Cert.Proof.ConvRead

open Idealize.ShloMosaic Cert.ConvRefIdeal Cert.ConvRefIdeal.Gen Cert.ConvRefIdeal.Read Cert.Proof.Conv Cert.Proof.Pads

variable (Z : S4096x2048.Idx → EReal) (H : S4096x1024.Idx → EReal) (T : S31x1024.Idx → EReal) (B G L : S1024.Idx → EReal)
  (W : S1024x1024.Idx → EReal) (Y : S1024.Idx → EReal)

abbrev z : Fin 4096 → Fin 2048 → EReal := fun r k => Z (ix2 r k)
abbrev h : Fin 4096 → Fin 1024 → EReal := fun r k => H (ix2 r k)
abbrev dw : Fin 31 → Fin 1024 → EReal := fun r k => T (ix2 r k)
abbrev vec (V : S1024.Idx → EReal) : Fin 1024 → EReal := fun k => V (ix1 k)
abbrev mat : Fin 1024 → Fin 1024 → EReal := fun r k => W (ix2 r k)

theorem cOne : Ideal.ofBits .f32 0x3F800000#32 = ((1 : ℝ) : EReal) := by
  simp [Ideal.ofBits, Ideal.ieee, -EReal.coe_mul]; norm_num

/-- The quotient the reference writes for a sigmoid. -/
theorem sig (x : EReal) : Ideal.div (Ideal.ofBits .f32 0x3F800000#32) (Ideal.ofBits .f32 0x3F800000#32 + Ideal.exp (-x)) = Ideal.logistic x := by
  rw [cOne]; rfl

theorem glu_at (r : Fin 4096) (j : Fin 1024) : val_main_v10 (F := Ideal) Z (ix2 r j) = glu (z Z) r j := by
  rw [val_main_v10_apply, val_main_v1_apply, val_main_v0_apply, val_main_v9_apply, val_main_v8_apply, val_main_v7_apply, val_main_v6_apply,
    val_main_v5_apply, val_main_v4_apply, val_main_v2_apply, val_main_v0_apply]
  have i1 : idx_main_v1 (ix2 r j) = ix2 r (leftCol j) := Shape.idx_ext₂ rfl rfl
  have i2 : idx_main_v2 (ix2 r j) = ix2 r (gateCol j) := Shape.idx_ext₂ rfl rfl
  rw [i1, i2]
  exact congrArg (Z (ix2 r (leftCol j)) * ·) (sig _)

/-- The gated product under 30 rows of zeros. -/
theorem p_at (s : Fin 4126) (j : Fin 1024) : val_main_v11 (F := Ideal) Z (ix2 s j) = p (z Z) (2 + s.val) j := by
  have hs := s.isLt
  unfold val_main_v11 p
  rcases Nat.lt_or_ge s.val 30 with h2 | h2
  · rw [dif_neg (by omega)]
    refine (cat_above _ _ _ s j ⟨s.val, h2⟩ rfl).trans ?_
    rw [val_main_v3_apply]
    exact Ideal.ofBits_zero_f32
  · rw [dif_pos ⟨by omega, by omega⟩]
    refine (cat_below _ _ _ s j ⟨2 + s.val - 32, by omega⟩ (by show s.val = 30 + (2 + s.val - 32); omega)).trans ?_
    exact glu_at Z _ j

/-- Tap `k` times the rows from `k` on. -/
theorem term_at (k : ℕ) (hk : k < 31) (hp) (ht) (r : Fin 4096) (j : Fin 1024) :
    mulf (F := Ideal) (φ := .f32) (broadcastInDim S4096x1024 ![0, 1] bcast_S1x1024_S4096x1024_0_1 (broadcastInDim S1x1024 ![1] bcast_S1024_S1x1024_1
      (shapeCast S1024 (extractStridedSlice S1x1024 ![k, 0] T ht) shapeCasts_S1x1024_S1024)))
      (extractStridedSlice S4096x1024 ![k, 0] (val_main_v11 (F := Ideal) Z) hp) (ix2 r j) = tap (dw T) k j * p (z Z) (2 + k + r.val) j := by
  refine congrArg₂ (· * ·) ?_ ?_
  · refine (broadcastInDim_apply _ bcast_S1x1024_S4096x1024_0_1 _ (ix2 r j) (ix2 0 j) fun a => ?_).trans ?_
    · match a with
      | ⟨0, _⟩ => rfl
      | ⟨1, _⟩ => rfl
    refine (broadcastInDim_apply _ bcast_S1024_S1x1024_1 _ (ix2 0 j) (ix1 j) fun a => ?_).trans ?_
    · match a with
      | ⟨0, _⟩ => rfl
    refine (shapeCast_apply _ shapeCasts_S1x1024_S1024 (ix1 j) (ix2 0 j) ?_).trans ?_
    · rw [Shape.rowMajor_val_two, Shape.rowMajor_val_one]
      exact Nat.zero_add _
    refine (extractStridedSlice_apply ![k, 0] T ht (ix2 0 j) (ix2 ⟨k, hk⟩ j) fun a => ?_).trans ?_
    · match a with
      | ⟨0, _⟩ => rfl
      | ⟨1, _⟩ => exact (Nat.zero_add _).symm
    rw [tap, dif_pos hk]
  · have hr := r.isLt
    refine (extractStridedSlice_apply ![k, 0] _ hp (ix2 r j) (ix2 ⟨k + r.val, by omega⟩ j) fun a => ?_).trans ?_
    · match a with
      | ⟨0, _⟩ => rfl
      | ⟨1, _⟩ => exact (Nat.zero_add _).symm
    rw [p_at, ← Nat.add_assoc]

theorem zero_at (r : Fin 4096) (j : Fin 1024) : val_main_v18 (F := Ideal) (ix2 r j) = 0 := by
  rw [val_main_v18_apply]
  exact Ideal.ofBits_zero_f32

abbrev terms (r : Fin 4096) (j : Fin 1024) : ℕ → EReal := fun k => tap (dw T) k j * p (z Z) (2 + k + r.val) j

/-- The running sum of the terms. -/
theorem sum_at (r : Fin 4096) (j : Fin 1024) : val_main_v229 (F := Ideal) Z T (ix2 r j) = acc 0 (terms Z T r j) 31 := by
  have a0 : val_main_v19 (F := Ideal) Z T (ix2 r j) = acc 0 (terms Z T r j) 1 := congrArg₂ (· + ·) (zero_at r j) (term_at Z T 0 (by omega) _ _ r j)
  have a1 : val_main_v26 (F := Ideal) Z T (ix2 r j) = acc 0 (terms Z T r j) 2 := congrArg₂ (· + ·) a0 (term_at Z T 1 (by omega) _ _ r j)
  have a2 : val_main_v33 (F := Ideal) Z T (ix2 r j) = acc 0 (terms Z T r j) 3 := congrArg₂ (· + ·) a1 (term_at Z T 2 (by omega) _ _ r j)
  have a3 : val_main_v40 (F := Ideal) Z T (ix2 r j) = acc 0 (terms Z T r j) 4 := congrArg₂ (· + ·) a2 (term_at Z T 3 (by omega) _ _ r j)
  have a4 : val_main_v47 (F := Ideal) Z T (ix2 r j) = acc 0 (terms Z T r j) 5 := congrArg₂ (· + ·) a3 (term_at Z T 4 (by omega) _ _ r j)
  have a5 : val_main_v54 (F := Ideal) Z T (ix2 r j) = acc 0 (terms Z T r j) 6 := congrArg₂ (· + ·) a4 (term_at Z T 5 (by omega) _ _ r j)
  have a6 : val_main_v61 (F := Ideal) Z T (ix2 r j) = acc 0 (terms Z T r j) 7 := congrArg₂ (· + ·) a5 (term_at Z T 6 (by omega) _ _ r j)
  have a7 : val_main_v68 (F := Ideal) Z T (ix2 r j) = acc 0 (terms Z T r j) 8 := congrArg₂ (· + ·) a6 (term_at Z T 7 (by omega) _ _ r j)
  have a8 : val_main_v75 (F := Ideal) Z T (ix2 r j) = acc 0 (terms Z T r j) 9 := congrArg₂ (· + ·) a7 (term_at Z T 8 (by omega) _ _ r j)
  have a9 : val_main_v82 (F := Ideal) Z T (ix2 r j) = acc 0 (terms Z T r j) 10 := congrArg₂ (· + ·) a8 (term_at Z T 9 (by omega) _ _ r j)
  have a10 : val_main_v89 (F := Ideal) Z T (ix2 r j) = acc 0 (terms Z T r j) 11 := congrArg₂ (· + ·) a9 (term_at Z T 10 (by omega) _ _ r j)
  have a11 : val_main_v96 (F := Ideal) Z T (ix2 r j) = acc 0 (terms Z T r j) 12 := congrArg₂ (· + ·) a10 (term_at Z T 11 (by omega) _ _ r j)
  have a12 : val_main_v103 (F := Ideal) Z T (ix2 r j) = acc 0 (terms Z T r j) 13 := congrArg₂ (· + ·) a11 (term_at Z T 12 (by omega) _ _ r j)
  have a13 : val_main_v110 (F := Ideal) Z T (ix2 r j) = acc 0 (terms Z T r j) 14 := congrArg₂ (· + ·) a12 (term_at Z T 13 (by omega) _ _ r j)
  have a14 : val_main_v117 (F := Ideal) Z T (ix2 r j) = acc 0 (terms Z T r j) 15 := congrArg₂ (· + ·) a13 (term_at Z T 14 (by omega) _ _ r j)
  have a15 : val_main_v124 (F := Ideal) Z T (ix2 r j) = acc 0 (terms Z T r j) 16 := congrArg₂ (· + ·) a14 (term_at Z T 15 (by omega) _ _ r j)
  have a16 : val_main_v131 (F := Ideal) Z T (ix2 r j) = acc 0 (terms Z T r j) 17 := congrArg₂ (· + ·) a15 (term_at Z T 16 (by omega) _ _ r j)
  have a17 : val_main_v138 (F := Ideal) Z T (ix2 r j) = acc 0 (terms Z T r j) 18 := congrArg₂ (· + ·) a16 (term_at Z T 17 (by omega) _ _ r j)
  have a18 : val_main_v145 (F := Ideal) Z T (ix2 r j) = acc 0 (terms Z T r j) 19 := congrArg₂ (· + ·) a17 (term_at Z T 18 (by omega) _ _ r j)
  have a19 : val_main_v152 (F := Ideal) Z T (ix2 r j) = acc 0 (terms Z T r j) 20 := congrArg₂ (· + ·) a18 (term_at Z T 19 (by omega) _ _ r j)
  have a20 : val_main_v159 (F := Ideal) Z T (ix2 r j) = acc 0 (terms Z T r j) 21 := congrArg₂ (· + ·) a19 (term_at Z T 20 (by omega) _ _ r j)
  have a21 : val_main_v166 (F := Ideal) Z T (ix2 r j) = acc 0 (terms Z T r j) 22 := congrArg₂ (· + ·) a20 (term_at Z T 21 (by omega) _ _ r j)
  have a22 : val_main_v173 (F := Ideal) Z T (ix2 r j) = acc 0 (terms Z T r j) 23 := congrArg₂ (· + ·) a21 (term_at Z T 22 (by omega) _ _ r j)
  have a23 : val_main_v180 (F := Ideal) Z T (ix2 r j) = acc 0 (terms Z T r j) 24 := congrArg₂ (· + ·) a22 (term_at Z T 23 (by omega) _ _ r j)
  have a24 : val_main_v187 (F := Ideal) Z T (ix2 r j) = acc 0 (terms Z T r j) 25 := congrArg₂ (· + ·) a23 (term_at Z T 24 (by omega) _ _ r j)
  have a25 : val_main_v194 (F := Ideal) Z T (ix2 r j) = acc 0 (terms Z T r j) 26 := congrArg₂ (· + ·) a24 (term_at Z T 25 (by omega) _ _ r j)
  have a26 : val_main_v201 (F := Ideal) Z T (ix2 r j) = acc 0 (terms Z T r j) 27 := congrArg₂ (· + ·) a25 (term_at Z T 26 (by omega) _ _ r j)
  have a27 : val_main_v208 (F := Ideal) Z T (ix2 r j) = acc 0 (terms Z T r j) 28 := congrArg₂ (· + ·) a26 (term_at Z T 27 (by omega) _ _ r j)
  have a28 : val_main_v215 (F := Ideal) Z T (ix2 r j) = acc 0 (terms Z T r j) 29 := congrArg₂ (· + ·) a27 (term_at Z T 28 (by omega) _ _ r j)
  have a29 : val_main_v222 (F := Ideal) Z T (ix2 r j) = acc 0 (terms Z T r j) 30 := congrArg₂ (· + ·) a28 (term_at Z T 29 (by omega) _ _ r j)
  have a30 : val_main_v229 (F := Ideal) Z T (ix2 r j) = acc 0 (terms Z T r j) 31 := congrArg₂ (· + ·) a29 (term_at Z T 30 (by omega) _ _ r j)
  exact a30

theorem u_at (r : Fin 4096) (j : Fin 1024) : val_main_v232 (F := Ideal) Z T B (ix2 r j) = u (z Z) (dw T) (vec B) r.val j := by
  rw [val_main_v232_apply, sum_at, val_main_v231_apply, val_main_v230_apply, show idx_main_v230 (idx_main_v231 (ix2 r j)) = ix1 j from eq_ix1 _]
  rfl

abbrev x (r : Fin 4096) : Fin 1024 → EReal := u (z Z) (dw T) (vec B) r.val

theorem mean_at (r : Fin 4096) : val_main_v236 (F := Ideal) Z T B (ix2 r 0) = mean (x Z T B r) := by
  have e : ∀ k, val_main_v232 (F := Ideal) Z T B (idx_main_v233 (idx_main_v234 (ix2 r 0)) k) = x Z T B r k := fun k => by
    rw [show idx_main_v233 (idx_main_v234 (ix2 r 0)) k = ix2 r k from Shape.idx_ext₂ rfl rfl, u_at]
  rw [val_main_v236_apply, val_main_v234_apply, val_main_v233_apply, val_main_v235_apply]
  simp only [e]
  show Ideal.div (Ideal.ofBits .f32 0x00000000#32 + _) (Ideal.ofBits .f32 0x44800000#32) = _
  rw [Ideal.ofBits_zero_f32, zero_add]
  rfl

theorem cen_at (r : Fin 4096) (k : Fin 1024) : val_main_v238 (F := Ideal) Z T B (ix2 r k) = cen (x Z T B r) k := by
  rw [val_main_v238_apply, u_at, val_main_v237_apply, show idx_main_v237 (ix2 r k) = ix2 r 0 from Shape.idx_ext₂ rfl rfl, mean_at]
  rfl

theorem var_at (r : Fin 4096) : val_main_v243 (F := Ideal) Z T B (ix2 r 0) = mean (fun k => cen (x Z T B r) k * cen (x Z T B r) k) := by
  have e : ∀ k, val_main_v239 (F := Ideal) Z T B (idx_main_v240 (idx_main_v241 (ix2 r 0)) k) = cen (x Z T B r) k * cen (x Z T B r) k := fun k => by
    rw [show idx_main_v240 (idx_main_v241 (ix2 r 0)) k = ix2 r k from Shape.idx_ext₂ rfl rfl, val_main_v239_apply, cen_at]; rfl
  rw [val_main_v243_apply, val_main_v241_apply, val_main_v240_apply, val_main_v242_apply]
  simp only [e]
  show Ideal.div (Ideal.ofBits .f32 0x00000000#32 + _) (Ideal.ofBits .f32 0x44800000#32) = _
  rw [Ideal.ofBits_zero_f32, zero_add]
  rfl

theorem norm_at (r : Fin 4096) (k : Fin 1024) : val_main_v254 (F := Ideal) Z T B G L (ix2 r k) = norm (vec G) (vec L) (x Z T B r) k := by
  rw [val_main_v254_apply, val_main_v251_apply, val_main_v248_apply, cen_at, val_main_v247_apply, show idx_main_v247 (ix2 r k) = ix2 r 0 from Shape.idx_ext₂ rfl rfl, val_main_v246_apply, val_main_v245_apply, var_at,
    val_main_v244_apply, val_main_v250_apply, val_main_v249_apply, val_main_v253_apply, val_main_v252_apply,
    show idx_main_v249 (idx_main_v250 (ix2 r k)) = ix1 k from eq_ix1 _, show idx_main_v252 (idx_main_v253 (ix2 r k)) = ix1 k from eq_ix1 _]
  rfl

theorem act_at (r : Fin 4096) (k : Fin 1024) : val_main_v255 (F := Ideal) Z T B G L (ix2 r k) = act (vec G) (vec L) (x Z T B r) k := by
  rw [val_main_v255_apply, val_main_call0_v5_apply, val_main_call0_v4_apply, val_main_call0_v3_apply, val_main_call0_v2_apply, val_main_call0_v1_apply,
    val_main_call0_v0_apply, norm_at]
  exact congrArg (norm (vec G) (vec L) (x Z T B r) k * ·) (sig _)

theorem out_at (r : Fin 4096) (l : Fin 1024) :
    val_main_v260 (F := Ideal) Z H T B G L W Y (ix2 r l) = out (vec G) (vec L) (mat W) (vec Y) (x Z T B r) (h H r) l := by
  rw [val_main_v260_apply, val_main_v259_apply, val_main_v256_apply, val_main_v258_apply, val_main_v257_apply,
    show idx_main_v257 (idx_main_v258 (ix2 r l)) = ix1 l from eq_ix1 _]
  refine congrArg (fun s => H (ix2 r l) + (s + Y (ix1 l))) (Finset.sum_congr rfl fun k _ => congrArg₂ (· * ·) ?_ (congrArg W (Shape.idx_ext₂ rfl rfl)))
  have hi : lidx_main_v256 (ix2 r l) k = ix2 r k := Shape.idx_ext₂ rfl rfl
  exact (congrArg (val_main_v255 (F := Ideal) Z T B G L) hi).trans (act_at Z T B G L r k)

end Cert.Proof.ConvRead

end
-- ==== Proof.ConvBlocks.lean ====
/- The third mixer, forward: what a point reads, and what it keeps of the gated product. A point reads its 256 rows of the mixer's
   input and the 32 rows before them, which it clears when the block is the first; it keeps the product's 288 rows, and seven
   copies of them moved up by one to seven rows. -/
module

public import proofs.«01_k».proof.Proof.Gen.ConvIdeal.Frame.Runs
public import proofs.«01_k».proof.Proof.Whole
public import proofs.«01_k».proof.Proof.Pieces
public import proofs.«01_k».proof.Proof.ConvMath
public import Idealize.ShloMosaic.Lib.Pointwise
public import Idealize.ShloMosaic.Lib.ValueIdx

@[expose] public section

set_option maxRecDepth 16384

noncomputable section

namespace Cert.Proof.ConvValue

open Idealize.ShloMosaic Idealize.SL.Sem Cert.ConvIdeal Cert.ConvIdeal.Gen Cert.Proof.Whole Cert.Proof.Pieces Cert.Proof.Conv
open Idealize.ShloMosaic.Pipeline (Dat Cfg Window)

variable (m : (ℓ : Loc nD τ sig) → Buf (Elt Ideal) ℓ)

abbrev a0 (c : Dev nD) : S4096x2048.Idx → EReal := m ((c.tc : Thread nD τ).loc main_arg0)
abbrev a1 (c : Dev nD) : S4096x1024.Idx → EReal := m ((c.tc : Thread nD τ).loc main_arg1)
abbrev a2 (c : Dev nD) : S31x1024.Idx → EReal := m ((c.tc : Thread nD τ).loc main_arg2)
abbrev a3 (c : Dev nD) : S1024.Idx → EReal := m ((c.tc : Thread nD τ).loc main_arg3)
abbrev a4 (c : Dev nD) : S1024.Idx → EReal := m ((c.tc : Thread nD τ).loc main_arg4)
abbrev a5 (c : Dev nD) : S1024.Idx → EReal := m ((c.tc : Thread nD τ).loc main_arg5)
abbrev a6 (c : Dev nD) : S1024x1024.Idx → EReal := m ((c.tc : Thread nD τ).loc main_arg6)
abbrev a7 (c : Dev nD) : S1024.Idx → EReal := m ((c.tc : Thread nD τ).loc main_arg7)
abbrev zA (c : Dev nD) : Fin 4096 → Fin 2048 → EReal := fun r k => a0 m c (ix2 r k)
abbrev hA (c : Dev nD) : Fin 4096 → Fin 1024 → EReal := fun r k => a1 m c (ix2 r k)
abbrev dwA (c : Dev nD) : Fin 31 → Fin 1024 → EReal := fun r k => a2 m c (ix2 r k)
abbrev bdA (c : Dev nD) : Fin 1024 → EReal := fun k => a3 m c (ix1 k)
abbrev lgA (c : Dev nD) : Fin 1024 → EReal := fun k => a4 m c (ix1 k)
abbrev lbA (c : Dev nD) : Fin 1024 → EReal := fun k => a5 m c (ix1 k)
abbrev wA (c : Dev nD) : Fin 1024 → Fin 1024 → EReal := fun r k => a6 m c (ix2 r k)
abbrev b2A (c : Dev nD) : Fin 1024 → EReal := fun k => a7 m c (ix1 k)

theorem lt16 (t : Fin cfg0.N) : t.val < 16 := lt_of_lt_of_eq t.isLt (show cfg0.N = 16 from N_0)

/-- Row `p` of block `t` in the whole array, and of the 32 rows before the block. -/
def row (t : Fin cfg0.N) (p : Fin 256) : Fin 4096 := ⟨t.val * 256 + p.val, by have := lt16 t; omega⟩
def before (t : Fin cfg0.N) (p : Fin 32) : Fin 4096 := ⟨(t.val * 8 - 1) * 32 + p.val, by have := lt16 t; omega⟩

/-! ### The blocks of the arguments -/

theorem rows_at : ∀ t : Fin cfg0.N, (win0_0.index t 0 = t.val ∧ win0_0.index t 1 = 0) ∧ (win0_1.index t 0 = t.val * 8 - 1 ∧ win0_1.index t 1 = 0) ∧ (win0_2.index t 0 = t.val ∧ win0_2.index t 1 = 0) ∧ (win0_9.index t 0 = t.val ∧ win0_9.index t 1 = 0) ∧ win0_10.index t 0 = t.val ∧ win0_10.index t 1 = 0 :=
  (by decide +kernel : ∀ t : Fin grid0.N, (win0_0.index t 0 = t.val ∧ win0_0.index t 1 = 0) ∧ (win0_1.index t 0 = t.val * 8 - 1 ∧ win0_1.index t 1 = 0) ∧ (win0_2.index t 0 = t.val ∧ win0_2.index t 1 = 0) ∧ (win0_9.index t 0 = t.val ∧ win0_9.index t 1 = 0) ∧ win0_10.index t 0 = t.val ∧ win0_10.index t 1 = 0)
theorem whole_at : ∀ t : Fin cfg0.N, (win0_3.index t 0 = 0 ∧ win0_3.index t 1 = 0) ∧ (win0_4.index t 0 = 0 ∧ win0_4.index t 1 = 0) ∧ (win0_5.index t 0 = 0 ∧ win0_5.index t 1 = 0) ∧ (win0_6.index t 0 = 0 ∧ win0_6.index t 1 = 0) ∧ (win0_7.index t 0 = 0 ∧ win0_7.index t 1 = 0) ∧ win0_8.index t 0 = 0 ∧ win0_8.index t 1 = 0 :=
  (by decide +kernel : ∀ t : Fin grid0.N, (win0_3.index t 0 = 0 ∧ win0_3.index t 1 = 0) ∧ (win0_4.index t 0 = 0 ∧ win0_4.index t 1 = 0) ∧ (win0_5.index t 0 = 0 ∧ win0_5.index t 1 = 0) ∧ (win0_6.index t 0 = 0 ∧ win0_6.index t 1 = 0) ∧ (win0_7.index t 0 = 0 ∧ win0_7.index t 1 = 0) ∧ win0_8.index t 0 = 0 ∧ win0_8.index t 1 = 0)

theorem emb0 (t : Fin cfg0.N) (p : Fin 256) (k : Fin 2048) : ((cfg0.win 0).blk t).view.emb (ix2 p k) = ix2 (row t p) k :=
  Shape.idx_ext₂ ((Window.rect_emb_val win0_0 t (ix2 p k) 0).trans (by rw [(rows_at t).1.1]; rfl))
    ((Window.rect_emb_val win0_0 t (ix2 p k) 1).trans (by rw [(rows_at t).1.2]; exact Nat.zero_add _))
theorem emb1 (t : Fin cfg0.N) (p : Fin 32) (k : Fin 2048) : ((cfg0.win 1).blk t).view.emb (ix2 p k) = ix2 (before t p) k :=
  Shape.idx_ext₂ ((Window.rect_emb_val win0_1 t (ix2 p k) 0).trans (by rw [(rows_at t).2.1.1]; rfl))
    ((Window.rect_emb_val win0_1 t (ix2 p k) 1).trans (by rw [(rows_at t).2.1.2]; exact Nat.zero_add _))
theorem emb2 (t : Fin cfg0.N) (p : Fin 256) (k : Fin 1024) : ((cfg0.win 2).blk t).view.emb (ix2 p k) = ix2 (row t p) k :=
  Shape.idx_ext₂ ((Window.rect_emb_val win0_2 t (ix2 p k) 0).trans (by rw [(rows_at t).2.2.1.1]; rfl))
    ((Window.rect_emb_val win0_2 t (ix2 p k) 1).trans (by rw [(rows_at t).2.2.1.2]; exact Nat.zero_add _))
theorem emb9 (t : Fin cfg0.N) (p : Fin 256) (k : Fin 1024) : ((cfg0.win 9).blk t).view.emb (ix2 p k) = ix2 (row t p) k :=
  Shape.idx_ext₂ ((Window.rect_emb_val win0_9 t (ix2 p k) 0).trans (by rw [(rows_at t).2.2.2.1.1]; rfl))
    ((Window.rect_emb_val win0_9 t (ix2 p k) 1).trans (by rw [(rows_at t).2.2.2.1.2]; exact Nat.zero_add _))
theorem emb10 (t : Fin cfg0.N) (p : Fin 256) (k : Fin 1024) : ((cfg0.win 10).blk t).view.emb (ix2 p k) = ix2 (row t p) k :=
  Shape.idx_ext₂ ((Window.rect_emb_val win0_10 t (ix2 p k) 0).trans (by rw [(rows_at t).2.2.2.2.1]; rfl))
    ((Window.rect_emb_val win0_10 t (ix2 p k) 1).trans (by rw [(rows_at t).2.2.2.2.2]; exact Nat.zero_add _))
theorem emb3 (t : Fin cfg0.N) (p : Fin 31) (k : Fin 1024) : ((cfg0.win 3).blk t).view.emb (ix2 p k) = ix2 p k :=
  Shape.idx_ext₂ ((Window.rect_emb_val win0_3 t (ix2 p k) 0).trans (by rw [(whole_at t).1.1]; exact Nat.zero_add _))
    ((Window.rect_emb_val win0_3 t (ix2 p k) 1).trans (by rw [(whole_at t).1.2]; exact Nat.zero_add _))
theorem emb4 (t : Fin cfg0.N) (p : Fin 1) (k : Fin 1024) : ((cfg0.win 4).blk t).view.emb (ix2 p k) = ix2 p k :=
  Shape.idx_ext₂ ((Window.rect_emb_val win0_4 t (ix2 p k) 0).trans (by rw [(whole_at t).2.1.1]; exact Nat.zero_add _))
    ((Window.rect_emb_val win0_4 t (ix2 p k) 1).trans (by rw [(whole_at t).2.1.2]; exact Nat.zero_add _))
theorem emb5 (t : Fin cfg0.N) (p : Fin 1) (k : Fin 1024) : ((cfg0.win 5).blk t).view.emb (ix2 p k) = ix2 p k :=
  Shape.idx_ext₂ ((Window.rect_emb_val win0_5 t (ix2 p k) 0).trans (by rw [(whole_at t).2.2.1.1]; exact Nat.zero_add _))
    ((Window.rect_emb_val win0_5 t (ix2 p k) 1).trans (by rw [(whole_at t).2.2.1.2]; exact Nat.zero_add _))
theorem emb6 (t : Fin cfg0.N) (p : Fin 1) (k : Fin 1024) : ((cfg0.win 6).blk t).view.emb (ix2 p k) = ix2 p k :=
  Shape.idx_ext₂ ((Window.rect_emb_val win0_6 t (ix2 p k) 0).trans (by rw [(whole_at t).2.2.2.1.1]; exact Nat.zero_add _))
    ((Window.rect_emb_val win0_6 t (ix2 p k) 1).trans (by rw [(whole_at t).2.2.2.1.2]; exact Nat.zero_add _))
theorem emb7 (t : Fin cfg0.N) (p : Fin 1024) (k : Fin 1024) : ((cfg0.win 7).blk t).view.emb (ix2 p k) = ix2 p k :=
  Shape.idx_ext₂ ((Window.rect_emb_val win0_7 t (ix2 p k) 0).trans (by rw [(whole_at t).2.2.2.2.1.1]; exact Nat.zero_add _))
    ((Window.rect_emb_val win0_7 t (ix2 p k) 1).trans (by rw [(whole_at t).2.2.2.2.1.2]; exact Nat.zero_add _))
theorem emb8 (t : Fin cfg0.N) (p : Fin 1) (k : Fin 1024) : ((cfg0.win 8).blk t).view.emb (ix2 p k) = ix2 p k :=
  Shape.idx_ext₂ ((Window.rect_emb_val win0_8 t (ix2 p k) 0).trans (by rw [(whole_at t).2.2.2.2.2.1]; exact Nat.zero_add _))
    ((Window.rect_emb_val win0_8 t (ix2 p k) 1).trans (by rw [(whole_at t).2.2.2.2.2.2]; exact Nat.zero_add _))

theorem blk0 (c : Dev nD) (t : Fin cfg0.N) (p : Fin 256) (k : Fin 2048) : iblk m c 0 t (ix2 p k) = zA m c (row t p) k := by
  unfold iblk
  rw [View.read_apply, emb0]
  show V m c main_arg0 _ = _
  rw [V_main_arg0]
theorem blk1 (c : Dev nD) (t : Fin cfg0.N) (p : Fin 32) (k : Fin 2048) : iblk m c 1 t (ix2 p k) = zA m c (before t p) k := by
  unfold iblk
  rw [View.read_apply, emb1]
  show V m c main_arg0 _ = _
  rw [V_main_arg0]
theorem blk2 (c : Dev nD) (t : Fin cfg0.N) (p : Fin 256) (k : Fin 1024) : iblk m c 2 t (ix2 p k) = hA m c (row t p) k := by
  unfold iblk
  rw [View.read_apply, emb2]
  show V m c main_arg1 _ = _
  rw [V_main_arg1]
theorem blk3 (c : Dev nD) (t : Fin cfg0.N) (i : Fin 31) (j : Fin 1024) : iblk m c 3 t (ix2 i j) = dwA m c i j := by
  unfold iblk
  rw [View.read_apply, emb3]
  show V m c main_v5 _ = _
  have hV : V m c main_v5 = extf (F := Ideal) .f32 (shapeCast S31x1024 (transpose S31x8x128 [1, 0, 2] (transpose S8x31x128 [1, 0, 2] (shapeCast S31x8x128 (truncf (F := Ideal) .bf16 (a2 m c) bitsLt_bf16_f32)
      shapeCasts_S31x1024_S31x8x128) transposes_S31x8x128_S8x31x128_1_0_2) transposes_S8x31x128_S31x8x128_1_0_2) shapeCasts_S31x8x128_S31x1024) bitsLt_bf16_f32 := by
    dsimp only [V]; after_results_simp <;> rfl
  rw [hV]
  pointwise
theorem blk7 (c : Dev nD) (t : Fin cfg0.N) (i : Fin 1024) (j : Fin 1024) : iblk m c 7 t (ix2 i j) = wA m c i j := by
  unfold iblk
  rw [View.read_apply, emb7]
  show V m c main_v8 _ = _
  have hV : V m c main_v8 = shapeCast S1024x1024 (shapeCast S8x128x1024 (truncf (F := Ideal) .bf16 (a6 m c) bitsLt_bf16_f32) shapeCasts_S1024x1024_S8x128x1024) shapeCasts_S8x128x1024_S1024x1024 := by
    dsimp only [V]; after_results_simp <;> rfl
  rw [hV]
  pointwise
theorem blk4 (c : Dev nD) (t : Fin cfg0.N) (j : Fin 1024) : iblk m c 4 t (ix2 (0 : Fin 1) j) = bdA m c j := by
  unfold iblk
  rw [View.read_apply, emb4]
  show V m c main_v9 _ = _
  have hV : V m c main_v9 = shapeCast S1x1024 (a3 m c) shapeCasts_S1024_S1x1024 := by
    dsimp only [V]; after_results_simp <;> rfl
  rw [hV]
  pointwise
theorem blk5 (c : Dev nD) (t : Fin cfg0.N) (j : Fin 1024) : iblk m c 5 t (ix2 (0 : Fin 1) j) = lgA m c j := by
  unfold iblk
  rw [View.read_apply, emb5]
  show V m c main_v10 _ = _
  have hV : V m c main_v10 = shapeCast S1x1024 (a4 m c) shapeCasts_S1024_S1x1024 := by
    dsimp only [V]; after_results_simp <;> rfl
  rw [hV]
  pointwise
theorem blk6 (c : Dev nD) (t : Fin cfg0.N) (j : Fin 1024) : iblk m c 6 t (ix2 (0 : Fin 1) j) = lbA m c j := by
  unfold iblk
  rw [View.read_apply, emb6]
  show V m c main_v11 _ = _
  have hV : V m c main_v11 = shapeCast S1x1024 (a5 m c) shapeCasts_S1024_S1x1024 := by
    dsimp only [V]; after_results_simp <;> rfl
  rw [hV]
  pointwise
theorem blk8 (c : Dev nD) (t : Fin cfg0.N) (j : Fin 1024) : iblk m c 8 t (ix2 (0 : Fin 1) j) = b2A m c j := by
  unfold iblk
  rw [View.read_apply, emb8]
  show V m c main_v12 _ = _
  have hV : V m c main_v12 = shapeCast S1x1024 (a7 m c) shapeCasts_S1024_S1x1024 := by
    dsimp only [V]; after_results_simp <;> rfl
  rw [hV]
  pointwise

/-! ### The gated product's rows -/

theorem first_iff (t : Fin cfg0.N) : Scalar.cmpi .eq (BitVec.ofNat 32 (grid0.coords t 0).val) 0#32 = 1#1 ↔ t.val = 0 :=
  (by decide +kernel : ∀ t : Fin grid0.N, Scalar.cmpi .eq (BitVec.ofNat 32 (grid0.coords t 0).val) 0#32 = 1#1 ↔ t.val = 0) t

theorem pay2_at (t : Fin cfg0.N) (v1 v3 : Vec Ideal S32x1024 .bf16) (p : Fin 32) (j : Fin 1024) :
    k0_pay2 (grid0.coords t) v1 v3 (ix2 p j) = if t.val = 0 then 0 else v1 (ix2 p j) * Ideal.logistic (v3 (ix2 p j)) := by
  simp only [← first_iff]
  pointwise [k0_pay2]
  rfl

theorem pay3_at (v12 v14 : Vec Ideal S256x1024 .bf16) (p : Fin 256) (j : Fin 1024) :
    k0_pay3 v12 v14 (ix2 p j) = v12 (ix2 p j) * Ideal.logistic (v14 (ix2 p j)) := by
  pointwise [k0_pay3]

/-- The product's rows from 32 before the block to its end. -/
abbrev pad (c : Dev nD) (t : Fin cfg0.N) : Vec Ideal S288x1024 .f32 :=
  View.canon [⟨Rect.unit (s := S288x1024) ![32, 0] ![256, 1024] inb_S288x1024_S256x1024_32_0, k0_pay3
      (View.ld (iblk m c 0 t) (Rect.unit (s := S256x2048) ![0, 0] ![256, 1024] inb_S256x2048_S256x1024_0_0))
      (View.ld (iblk m c 0 t) (Rect.unit (s := S256x2048) ![0, 1024] ![256, 1024] inb_S256x2048_S256x1024_0_1024))⟩,
    ⟨Rect.unit (s := S288x1024) ![0, 0] ![32, 1024] inb_S288x1024_S32x1024_0_0, k0_pay2 (grid0.coords t)
      (View.ld (iblk m c 1 t) (Rect.unit (s := S32x2048) ![0, 0] ![32, 1024] inb_S32x2048_S32x1024_0_0))
      (View.ld (iblk m c 1 t) (Rect.unit (s := S32x2048) ![0, 1024] ![32, 1024] inb_S32x2048_S32x1024_0_1024))⟩]

theorem pad_eq (c : Dev nD) (t : Fin cfg0.N) : pad m c t = fun y => p (zA m c) (t.val * 256 + (y 0).val) (y 1) := by
  have h16 := lt16 t
  refine canon_two (Val := Elt Ideal) (e := .f32) _ _ rfl _ _ (fun n j => p (zA m c) (t.val * 256 + n) j) (fun r j => ?_) (fun r j => ?_)
  · have e (b : ℕ) (i : Fin 2048) (hi : i.val = b + j.val) (inb) :
        View.ld (iblk m c 0 t) (Rect.unit (s := S256x2048) ![0, b] ![256, 1024] inb) (ix2 r j) = zA m c (row t r) i :=
      (ld_hit inb _ r j (ix2 r i) (Nat.zero_add _).symm hi).trans (blk0 m c t r i)
    rw [pay3_at, e 0 (leftCol j) (Nat.zero_add _).symm, e 1024 (gateCol j) rfl, p, dif_pos (by omega), glu]
    have e (h) : (⟨t.val * 256 + (32 + r.val) - 32, h⟩ : Fin 4096) = row t r := Fin.ext (by show t.val * 256 + (32 + r.val) - 32 = t.val * 256 + r.val; omega)
    rw [e]
  · have e (b : ℕ) (i : Fin 2048) (hi : i.val = b + j.val) (inb) :
        View.ld (iblk m c 1 t) (Rect.unit (s := S32x2048) ![0, b] ![32, 1024] inb) (ix2 r j) = zA m c (before t r) i :=
      (ld_hit inb _ r j (ix2 r i) (Nat.zero_add _).symm hi).trans (blk1 m c t r i)
    rw [pay2_at, e 0 (leftCol j) (Nat.zero_add _).symm, e 1024 (gateCol j) rfl]
    rcases Nat.eq_zero_or_pos t.val with h | h
    · rw [if_pos h, p, dif_neg (by omega)]
    · rw [if_neg (by omega), p, dif_pos (by omega), glu]
      have e' (h) : (⟨t.val * 256 + r.val - 32, h⟩ : Fin 4096) = before t r := Fin.ext (by show t.val * 256 + r.val - 32 = (t.val * 8 - 1) * 32 + r.val; omega)
      rw [e']

end Cert.Proof.ConvValue

end
-- ==== Proof.ConvLoads.lean ====
/- The third mixer, forward: the loads of a point's convolution. A tap's window starts at any row of the gated product's rows:
   at a multiple of eight it is read from the rows themselves, elsewhere from the copy moved up by the remainder. -/
module

public import proofs.«01_k».proof.Proof.Gen.ConvIdeal.Frame.RunA
public import proofs.«01_k».proof.Proof.ConvBlocks

@[expose] public section

set_option maxRecDepth 16384

noncomputable section

namespace Cert.Proof.ConvValue

open Idealize.ShloMosaic Idealize.SL.Sem Cert.ConvIdeal Cert.ConvIdeal.Gen Cert.Proof.Whole Cert.Proof.Pieces Cert.Proof.Conv
open Idealize.ShloMosaic.Pipeline (Dat Cfg Window)

/-- A rectangle of rows and columns stays inside. -/
theorem within2 {a b n l N L : ℕ} (h0 : a + n ≤ N) (h1 : b + l ≤ L) (x : Fin 2) : (![a, b] : Fin 2 → ℕ) x + (![n, l] : Fin 2 → ℕ) x ≤ (![N, L] : Fin 2 → ℕ) x := by
  obtain rfl | rfl : x = 0 ∨ x = 1 := (show ∀ c : Fin 2, c = 0 ∨ c = 1 by decide) x
  · exact h0
  · exact h1

theorem within3 {k : ℕ} (hk : k < 7) (x : Fin 3) : (![k, 0, 0] : Fin 3 → ℕ) x + (![1, 280, 1024] : Fin 3 → ℕ) x ≤ (![7, 280, 1024] : Fin 3 → ℕ) x := by
  obtain rfl | rfl | rfl : x = 0 ∨ x = 1 ∨ x = 2 := (show ∀ c : Fin 3, c = 0 ∨ c = 1 ∨ c = 2 by decide) x
  · exact hk
  · exact le_refl 280
  · exact le_refl 1024

theorem idx3 {d : Fin 3 → ℕ} {x y : (⟨3, d⟩ : Shape).Idx} (h0 : (x 0).val = (y 0).val) (h1 : (x 1).val = (y 1).val) (h2 : (x 2).val = (y 2).val) : x = y := by
  funext i
  obtain rfl | rfl | rfl : i = 0 ∨ i = 1 ∨ i = 2 := (show ∀ c : Fin 3, c = 0 ∨ c = 1 ∨ c = 2 by decide) i
  · exact Fin.ext h0
  · exact Fin.ext h1
  · exact Fin.ext h2

variable (m : (ℓ : Loc nD τ sig) → Buf (Elt Ideal) ℓ) (c : Dev nD) (t : Fin cfg0.N)
  (arg1 : Memref sig .tc .vmem S256x2048 .bf16) (harg1 : arg1.IsWhole) (arg2 : Memref sig .tc .vmem S32x2048 .bf16) (harg2 : arg2.IsWhole)
  (arg4 : Memref sig .tc .vmem S31x1024 .f32) (harg4 : arg4.IsWhole) (arg5 : Memref sig .tc .vmem S1x1024 .f32) (harg5 : arg5.IsWhole)
  (arg12 : Memref sig .tc .vmem S288x1024 .f32) (arg13 : Memref sig .tc .vmem S7x280x1024 .f32)

/-- The stores of the product's rows, and of the copies. -/
abbrev rowsL := kernelRun0_A.sl.HS0_2 (F := Ideal) c (grid0.coords t) arg1 harg1 arg2 harg2 (iblk m c 0 t) (iblk m c 1 t)
abbrev copiesL := kernelRun0_A.sl.HS1_7 (F := Ideal) c (grid0.coords t) arg1 harg1 arg2 harg2 arg12 (iblk m c 0 t) (iblk m c 1 t)

theorem rows_canon : View.canon (rowsL m c t arg1 harg1 arg2 harg2) = fun y => p (zA m c) (t.val * 256 + (y 0).val) (y 1) := by
  rw [← pad_eq]
  unfold rowsL kernelRun0_A.sl.HS0_2
  simp only [View.readAt_eq_ld, harg1.read_unread, harg2.read_unread]
  rfl

/-- A load of the rows. -/
theorem rows_load {n l a b : ℕ} (inb : ∀ x, (![a, b] : Fin 2 → ℕ) x + (![n, l] : Fin 2 → ℕ) x ≤ S288x1024.size x) (r : Fin n) (j : Fin l) (i : Fin 1024)
    (hi : i.val = b + j.val) :
    arg12.view.readCov (rowsL m c t arg1 harg1 arg2 harg2) (Rect.unit (s := S288x1024) ![a, b] ![n, l] inb).toLoadRect (ix2 r j)
      = p (zA m c) (t.val * 256 + (a + r.val)) i := by
  rw [readCov_ld, rows_canon]
  have ha : a + r.val < 288 := by
    have h : a + n ≤ 288 := inb 0
    have := r.isLt
    omega
  exact ld_hit inb _ r j (ix2 ⟨a + r.val, ha⟩ i) rfl hi

/-- A matrix read as an array with a leading unit axis. -/
theorem lead (X : Vec Ideal S280x1024 .f32) (r : Fin 280) (j : Fin 1024) : shapeCast S1x280x1024 X shapeCasts_S280x1024_S1x280x1024 (ix3 0 r j) = X (ix2 r j) := by
  pointwise

theorem copies_canon (k : Fin 7) (r : Fin 280) (j : Fin 1024) :
    View.canon (copiesL m c t arg1 harg1 arg2 harg2 arg12) (ix3 k r j) = p (zA m c) (t.val * 256 + (k.val + 1 + r.val)) j := by
  have one (n : ℕ) (inb inb3) (hn : n < 7) (w : Vec Ideal S1x280x1024 .f32)
      (hw : w = shapeCast S1x280x1024 (arg12.view.readCov (rowsL m c t arg1 harg1 arg2 harg2) (Rect.unit (s := S288x1024) ![n + 1, 0] ![280, 1024] inb).toLoadRect)
        shapeCasts_S280x1024_S1x280x1024) (x : S1x280x1024.Idx) :
      w x = (fun y : S7x280x1024.Idx => p (zA m c) (t.val * 256 + ((y 0).val + 1 + (y 1).val)) (y 2)) ((Rect.unit (s := S7x280x1024) ![n, 0, 0] ![1, 280, 1024] inb3).emb x) := by
    obtain ⟨i, r, j, rfl⟩ : ∃ (i : Fin 1) (r : Fin 280) (j : Fin 1024), x = ix3 i r j := ⟨x 0, x 1, x 2, eq_ix3 x⟩
    obtain rfl := Fin.eq_zero i
    have he : (Rect.unit (s := S7x280x1024) ![n, 0, 0] ![1, 280, 1024] inb3).emb (ix3 0 r j) = ix3 ⟨n, hn⟩ r j :=
      idx3 (show n + 1 * 0 = n by omega) (show 0 + 1 * r.val = r.val by omega) (show 0 + 1 * j.val = j.val by omega)
    rw [he, hw]
    exact (lead _ r j).trans (rows_load m c t arg1 harg1 arg2 harg2 arg12 inb r j j (Nat.zero_add _).symm)
  refine View.canon_apply_of_pieces (Val := Elt Ideal) (e := .f32) (fun y : S7x280x1024.Idx => p (zA m c) (t.val * 256 + ((y 0).val + 1 + (y 1).val)) (y 2)) _ ?_ (ix3 k r j) ?_
  · unfold copiesL kernelRun0_A.sl.HS1_7
    simp only [List.forall_mem_cons]
    exact ⟨one 6 _ _ (by decide) _ rfl, one 5 _ _ (by decide) _ rfl, one 4 _ _ (by decide) _ rfl, one 3 _ _ (by decide) _ rfl, one 2 _ _ (by decide) _ rfl,
      one 1 _ _ (by decide) _ rfl, one 0 _ _ (by decide) _ rfl, fun _ h => absurd h List.not_mem_nil⟩
  · have he (n : Fin 7) (inb3) : ix3 n r j ∈ (Rect.unit (s := S7x280x1024) ![n.val, 0, 0] ![1, 280, 1024] inb3).set := by
      refine (Rect.mem_set_unit (inb := inb3)).mpr fun x => ?_
      obtain rfl | rfl | rfl : x = 0 ∨ x = 1 ∨ x = 2 := (show ∀ c : Fin 3, c = 0 ∨ c = 1 ∨ c = 2 by decide) x
      · exact ⟨le_refl n.val, Nat.lt_succ_self n.val⟩
      · exact ⟨Nat.zero_le _, lt_of_lt_of_eq r.isLt (Nat.zero_add 280).symm⟩
      · exact ⟨Nat.zero_le _, lt_of_lt_of_eq j.isLt (Nat.zero_add 1024).symm⟩
    unfold copiesL kernelRun0_A.sl.HS1_7
    obtain rfl | rfl | rfl | rfl | rfl | rfl | rfl : k = 0 ∨ k = 1 ∨ k = 2 ∨ k = 3 ∨ k = 4 ∨ k = 5 ∨ k = 6 :=
      (show ∀ k : Fin 7, k = 0 ∨ k = 1 ∨ k = 2 ∨ k = 3 ∨ k = 4 ∨ k = 5 ∨ k = 6 by decide) k
    · exact ⟨_, .tail _ (.tail _ (.tail _ (.tail _ (.tail _ (.tail _ (.head _)))))), he 0 (within3 (by decide))⟩
    · exact ⟨_, .tail _ (.tail _ (.tail _ (.tail _ (.tail _ (.head _))))), he 1 (within3 (by decide))⟩
    · exact ⟨_, .tail _ (.tail _ (.tail _ (.tail _ (.head _)))), he 2 (within3 (by decide))⟩
    · exact ⟨_, .tail _ (.tail _ (.tail _ (.head _))), he 3 (within3 (by decide))⟩
    · exact ⟨_, .tail _ (.tail _ (.head _)), he 4 (within3 (by decide))⟩
    · exact ⟨_, .tail _ (.head _), he 5 (within3 (by decide))⟩
    · exact ⟨_, .head _, he 6 (within3 (by decide))⟩

/-- A load of 64 rows and 128 columns from a copy. -/
theorem copies_load {k a b : ℕ} (hk : k < 7) (inb3) (inb : ∀ x, (![a, b] : Fin 2 → ℕ) x + S64x128.size x ≤ S280x1024.size x) (h0) (hs) (h1) (hR)
    (r : Fin 64) (j : Fin 128) (i : Fin 1024) (hi : i.val = b + j.val) :
    (LoadRect.valAlong (lr := (Rect.unit (s := S280x1024) ![a, b] S64x128.size inb).toLoadRect) hR
      (arg13.view.readCov (copiesL m c t arg1 harg1 arg2 harg2 arg12) ((Rect.unit (s := S7x280x1024) ![k, 0, 0] S1x280x1024.size inb3).withinL
        (LoadRect.consLift (Rect.unit (s := S280x1024) ![a, b] S64x128.size inb).toLoadRect ![1, 280, 1024] h0 hs) h1)) : Vec Ideal S64x128 .f32) (ix2 r j)
      = p (zA m c) (t.val * 256 + (k + 1 + (a + r.val))) i := by
  have ha : a + r.val < 280 := by
    have h : a + 64 ≤ 280 := inb 0
    have := r.isLt
    omega
  rw [View.readCov_eq_canon']
  refine Eq.trans ?_ (copies_canon m c t arg1 harg1 arg2 harg2 arg12 ⟨k, hk⟩ ⟨a + r.val, ha⟩ i)
  show View.canon _ _ = _
  refine congrArg _ ?_
  rw [show Shape.reshapeEquiv hR (ix2 r j) = Fin.cons ⟨0, Nat.one_pos⟩ (ix2 r j) from Shape.reshapeEquiv_cons_one (d := S64x128.size) _ _]
  refine idx3 ?_ ?_ ?_
  · show k + 0 + 1 * 0 = k
    omega
  · show 0 + a + 1 * r.val = a + r.val
    omega
  · show 0 + b + 1 * j.val = i.val
    omega

end Cert.Proof.ConvValue

end
-- ==== Proof.ConvPieces.lean ====
/- The third mixer, forward: the convolution's rows. A point writes them in 32 blocks of 64 rows and 128 columns, each the sum of the
   31 taps' products, in the taps' order. -/
module

public import proofs.«01_k».proof.Proof.ConvLoads

@[expose] public section

set_option maxRecDepth 16384

noncomputable section

namespace Cert.Proof.ConvValue

open Idealize.ShloMosaic Idealize.SL.Sem Cert.ConvIdeal Cert.ConvIdeal.Gen Cert.Proof.Whole Cert.Proof.Pieces Cert.Proof.Conv
open Idealize.ShloMosaic.Pipeline (Dat Cfg Window)

/-- One tap's product added to a sum; and what the sum starts from. -/
def step (x : Vec Ideal S64x128 .f32) (v : Vec Ideal S1x128 .f32) (w : Vec Ideal S64x128 .f32) : Vec Ideal S64x128 .f32 :=
  addf (F := Ideal) (φ := .f32) x (mulf (F := Ideal) (φ := .f32) (broadcastTo S64x128 (shapeCast S1x128 v shapeCasts_S1x128_S1x128) broadcasts_S1x128_S64x128) w)

theorem step_at (x : Vec Ideal S64x128 .f32) (v : Vec Ideal S1x128 .f32) (w : Vec Ideal S64x128 .f32) (r : Fin 64) (j : Fin 128) {y f g : EReal}
    (hx : x (ix2 r j) = y) (hv : v (ix2 0 j) = f) (hw : w (ix2 r j) = g) : step x v w (ix2 r j) = y + f * g := by
  rw [← hx, ← hv, ← hw]
  unfold step
  pointwise

theorem pay11_at (v : Vec Ideal S1x128 .f32) (r : Fin 64) (j : Fin 128) : k0_pay11 v (ix2 r j) = 0 + v (ix2 0 j) := by
  pointwise [k0_pay11]

variable (m : (ℓ : Loc nD τ sig) → Buf (Elt Ideal) ℓ) (c : Dev nD) (t : Fin cfg0.N)
  (arg1 : Memref sig .tc .vmem S256x2048 .bf16) (harg1 : arg1.IsWhole) (arg2 : Memref sig .tc .vmem S32x2048 .bf16) (harg2 : arg2.IsWhole)
  (arg4 : Memref sig .tc .vmem S31x1024 .f32) (harg4 : arg4.IsWhole) (arg5 : Memref sig .tc .vmem S1x1024 .f32) (harg5 : arg5.IsWhole)
  (arg12 : Memref sig .tc .vmem S288x1024 .f32) (arg13 : Memref sig .tc .vmem S7x280x1024 .f32)

/-- The loads: the bias, a tap, and a window of the rows or of a copy. -/
def base (b : ℕ) (hb : b ≤ 896) : Vec Ideal S64x128 .f32 :=
  k0_pay11 (View.readAt (Elt Ideal) arg5.view (Rect.unit (s := S1x1024) ![0, b] S1x128.size (within2 (le_refl 1) (by omega))).toLoadRect (harg5.unread (iblk m c 4 t)))
def tapw (k b : ℕ) (hk : k < 31) (hb : b ≤ 896) : Vec Ideal S1x128 .f32 :=
  View.readAt (Elt Ideal) arg4.view (Rect.unit (s := S31x1024) ![k, b] S1x128.size (within2 hk (by omega))).toLoadRect (harg4.unread (iblk m c 3 t))
def wrow (a b : ℕ) (ha : a ≤ 224) (hb : b ≤ 896) : Vec Ideal S64x128 .f32 :=
  arg12.view.readCov (rowsL m c t arg1 harg1 arg2 harg2) (Rect.unit (s := S288x1024) ![a, b] S64x128.size (within2 (by omega) (by omega))).toLoadRect
def wcopy (k a b : ℕ) (hk : k < 7) (ha : a ≤ 216) (hb : b ≤ 896) : Vec Ideal S64x128 .f32 :=
  LoadRect.valAlong (lr := (Rect.unit (s := S280x1024) ![a, b] S64x128.size (within2 (by omega) (by omega))).toLoadRect) (LoadRect.numel_consLift _ ![1, 280, 1024] (by decide) (by decide))
    (arg13.view.readCov (copiesL m c t arg1 harg1 arg2 harg2 arg12) ((Rect.unit (s := S7x280x1024) ![k, 0, 0] S1x280x1024.size (within3 hk)).withinL
      (LoadRect.consLift (Rect.unit (s := S280x1024) ![a, b] S64x128.size (within2 (by omega) (by omega))).toLoadRect ![1, 280, 1024] (by decide) (by decide)) (fun _ => rfl)))

theorem base_at (b : ℕ) (hb : b ≤ 896) (r : Fin 64) (j : Fin 128) (i : Fin 1024) (hi : i.val = b + j.val) : base m c t arg5 harg5 b hb (ix2 r j) = 0 + bdA m c i := by
  unfold base
  rw [pay11_at, View.readAt_eq_ld, harg5.read_unread]
  exact congrArg (0 + ·) ((ld_hit _ _ (0 : Fin 1) j (ix2 (0 : Fin 1) i) rfl hi).trans (blk4 m c t i))
theorem tapw_at (k b : ℕ) (hk : k < 31) (hb : b ≤ 896) (j : Fin 128) (i : Fin 1024) (hi : i.val = b + j.val) :
    tapw m c t arg4 harg4 k b hk hb (ix2 0 j) = tap (dwA m c) k i := by
  unfold tapw tap
  rw [View.readAt_eq_ld, harg4.read_unread, dif_pos hk]
  exact (ld_hit _ _ (0 : Fin 1) j (ix2 (⟨k, hk⟩ : Fin 31) i) rfl hi).trans (blk3 m c t _ i)
theorem wrow_at (k n a b : ℕ) (ha : a ≤ 224) (hb : b ≤ 896) (r : Fin 64) (j : Fin 128) (i : Fin 1024) (hi : i.val = b + j.val) (hn : t.val * 256 + (a + r.val) = 2 + k + n) :
    wrow m c t arg1 harg1 arg2 harg2 arg12 a b ha hb (ix2 r j) = p (zA m c) (2 + k + n) i := by
  rw [← hn]
  exact rows_load m c t arg1 harg1 arg2 harg2 arg12 _ r j i hi
theorem wcopy_at (s k n a b : ℕ) (hs : s < 7) (ha : a ≤ 216) (hb : b ≤ 896) (r : Fin 64) (j : Fin 128) (i : Fin 1024) (hi : i.val = b + j.val)
    (hn : t.val * 256 + (s + 1 + (a + r.val)) = 2 + k + n) : wcopy m c t arg1 harg1 arg2 harg2 arg12 arg13 s a b hs ha hb (ix2 r j) = p (zA m c) (2 + k + n) i := by
  rw [← hn]
  exact copies_load m c t arg1 harg1 arg2 harg2 arg12 arg13 hs _ _ _ _ _ _ r j i hi

/-- The sum of the 31 taps' products for the block at row `o`, from its loads. -/
abbrev chain (z : Vec Ideal S64x128 .f32) (T : ∀ k, k < 31 → Vec Ideal S1x128 .f32) (R : ∀ a, a ≤ 224 → Vec Ideal S64x128 .f32)
    (C : ∀ k a, k < 7 → a ≤ 216 → Vec Ideal S64x128 .f32) (o : ℕ) (ho : o ≤ 192) : Vec Ideal S64x128 .f32 :=
  step (step (step (step (step (step (step (step (step (step (step (step (step (step (step (step (step (step (step (step (step (step (step (step (step (step (step (step (step (step (step z
    (T 0 (by omega)) (C 1 (0 + o) (by omega) (by omega)))
    (T 1 (by omega)) (C 2 (0 + o) (by omega) (by omega)))
    (T 2 (by omega)) (C 3 (0 + o) (by omega) (by omega)))
    (T 3 (by omega)) (C 4 (0 + o) (by omega) (by omega)))
    (T 4 (by omega)) (C 5 (0 + o) (by omega) (by omega)))
    (T 5 (by omega)) (C 6 (0 + o) (by omega) (by omega)))
    (T 6 (by omega)) (R (8 + o) (by omega)))
    (T 7 (by omega)) (C 0 (8 + o) (by omega) (by omega)))
    (T 8 (by omega)) (C 1 (8 + o) (by omega) (by omega)))
    (T 9 (by omega)) (C 2 (8 + o) (by omega) (by omega)))
    (T 10 (by omega)) (C 3 (8 + o) (by omega) (by omega)))
    (T 11 (by omega)) (C 4 (8 + o) (by omega) (by omega)))
    (T 12 (by omega)) (C 5 (8 + o) (by omega) (by omega)))
    (T 13 (by omega)) (C 6 (8 + o) (by omega) (by omega)))
    (T 14 (by omega)) (R (16 + o) (by omega)))
    (T 15 (by omega)) (C 0 (16 + o) (by omega) (by omega)))
    (T 16 (by omega)) (C 1 (16 + o) (by omega) (by omega)))
    (T 17 (by omega)) (C 2 (16 + o) (by omega) (by omega)))
    (T 18 (by omega)) (C 3 (16 + o) (by omega) (by omega)))
    (T 19 (by omega)) (C 4 (16 + o) (by omega) (by omega)))
    (T 20 (by omega)) (C 5 (16 + o) (by omega) (by omega)))
    (T 21 (by omega)) (C 6 (16 + o) (by omega) (by omega)))
    (T 22 (by omega)) (R (24 + o) (by omega)))
    (T 23 (by omega)) (C 0 (24 + o) (by omega) (by omega)))
    (T 24 (by omega)) (C 1 (24 + o) (by omega) (by omega)))
    (T 25 (by omega)) (C 2 (24 + o) (by omega) (by omega)))
    (T 26 (by omega)) (C 3 (24 + o) (by omega) (by omega)))
    (T 27 (by omega)) (C 4 (24 + o) (by omega) (by omega)))
    (T 28 (by omega)) (C 5 (24 + o) (by omega) (by omega)))
    (T 29 (by omega)) (C 6 (24 + o) (by omega) (by omega)))
    (T 30 (by omega)) (R (32 + o) (by omega))

/-- The block at row `o` and column `b`. -/
def block (o b : ℕ) (ho : o ≤ 192) (hb : b ≤ 896) : Vec Ideal S64x128 .f32 :=
  chain (base m c t arg5 harg5 b hb) (fun k hk => tapw m c t arg4 harg4 k b hk hb) (fun a ha => wrow m c t arg1 harg1 arg2 harg2 arg12 a b ha hb)
    (fun k a hk ha => wcopy m c t arg1 harg1 arg2 harg2 arg12 arg13 k a b hk ha hb) o ho

theorem block_at (o b : ℕ) (ho : o ≤ 192) (hb : b ≤ 896) (r : Fin 64) (j : Fin 128) (i : Fin 1024) (hi : i.val = b + j.val) :
    block m c t arg1 harg1 arg2 harg2 arg4 harg4 arg5 harg5 arg12 arg13 o b ho hb (ix2 r j) = u (zA m c) (dwA m c) (bdA m c) (t.val * 256 + (o + r.val)) i := by
  unfold u
  rw [← acc_add]
  have T := fun k hk => tapw_at m c t arg4 harg4 k b hk hb j i hi
  have R := fun k a ha hn => wrow_at m c t arg1 harg1 arg2 harg2 arg12 k (t.val * 256 + (o + r.val)) a b ha hb r j i hi hn
  have C := fun s k a hs ha hn => wcopy_at m c t arg1 harg1 arg2 harg2 arg12 arg13 s k (t.val * 256 + (o + r.val)) a b hs ha hb r j i hi hn
  unfold block
  refine Eq.trans (step_at _ _ _ r j (step_at _ _ _ r j (step_at _ _ _ r j (step_at _ _ _ r j (step_at _ _ _ r j (step_at _ _ _ r j (step_at _ _ _ r j (step_at _ _ _ r j (step_at _ _ _ r j (step_at _ _ _ r j (step_at _ _ _ r j (step_at _ _ _ r j (step_at _ _ _ r j (step_at _ _ _ r j (step_at _ _ _ r j (step_at _ _ _ r j (step_at _ _ _ r j (step_at _ _ _ r j (step_at _ _ _ r j (step_at _ _ _ r j (step_at _ _ _ r j (step_at _ _ _ r j (step_at _ _ _ r j (step_at _ _ _ r j (step_at _ _ _ r j (step_at _ _ _ r j (step_at _ _ _ r j (step_at _ _ _ r j (step_at _ _ _ r j (step_at _ _ _ r j (step_at _ _ _ r j (base_at m c t arg5 harg5 b hb r j i hi)
    (T 0 (by omega)) (C 1 0 (0 + o) (by omega) (by omega) (by omega)))
    (T 1 (by omega)) (C 2 1 (0 + o) (by omega) (by omega) (by omega)))
    (T 2 (by omega)) (C 3 2 (0 + o) (by omega) (by omega) (by omega)))
    (T 3 (by omega)) (C 4 3 (0 + o) (by omega) (by omega) (by omega)))
    (T 4 (by omega)) (C 5 4 (0 + o) (by omega) (by omega) (by omega)))
    (T 5 (by omega)) (C 6 5 (0 + o) (by omega) (by omega) (by omega)))
    (T 6 (by omega)) (R 6 (8 + o) (by omega) (by omega)))
    (T 7 (by omega)) (C 0 7 (8 + o) (by omega) (by omega) (by omega)))
    (T 8 (by omega)) (C 1 8 (8 + o) (by omega) (by omega) (by omega)))
    (T 9 (by omega)) (C 2 9 (8 + o) (by omega) (by omega) (by omega)))
    (T 10 (by omega)) (C 3 10 (8 + o) (by omega) (by omega) (by omega)))
    (T 11 (by omega)) (C 4 11 (8 + o) (by omega) (by omega) (by omega)))
    (T 12 (by omega)) (C 5 12 (8 + o) (by omega) (by omega) (by omega)))
    (T 13 (by omega)) (C 6 13 (8 + o) (by omega) (by omega) (by omega)))
    (T 14 (by omega)) (R 14 (16 + o) (by omega) (by omega)))
    (T 15 (by omega)) (C 0 15 (16 + o) (by omega) (by omega) (by omega)))
    (T 16 (by omega)) (C 1 16 (16 + o) (by omega) (by omega) (by omega)))
    (T 17 (by omega)) (C 2 17 (16 + o) (by omega) (by omega) (by omega)))
    (T 18 (by omega)) (C 3 18 (16 + o) (by omega) (by omega) (by omega)))
    (T 19 (by omega)) (C 4 19 (16 + o) (by omega) (by omega) (by omega)))
    (T 20 (by omega)) (C 5 20 (16 + o) (by omega) (by omega) (by omega)))
    (T 21 (by omega)) (C 6 21 (16 + o) (by omega) (by omega) (by omega)))
    (T 22 (by omega)) (R 22 (24 + o) (by omega) (by omega)))
    (T 23 (by omega)) (C 0 23 (24 + o) (by omega) (by omega) (by omega)))
    (T 24 (by omega)) (C 1 24 (24 + o) (by omega) (by omega) (by omega)))
    (T 25 (by omega)) (C 2 25 (24 + o) (by omega) (by omega) (by omega)))
    (T 26 (by omega)) (C 3 26 (24 + o) (by omega) (by omega) (by omega)))
    (T 27 (by omega)) (C 4 27 (24 + o) (by omega) (by omega) (by omega)))
    (T 28 (by omega)) (C 5 28 (24 + o) (by omega) (by omega) (by omega)))
    (T 29 (by omega)) (C 6 29 (24 + o) (by omega) (by omega) (by omega)))
    (T 30 (by omega)) (R 30 (32 + o) (by omega) (by omega))) ?_
  rfl

end Cert.Proof.ConvValue

end
-- ==== Proof.ConvRows.lean ====
/- The third mixer, forward: what a point's 32 blocks hold together. -/
module

public import proofs.«01_k».proof.Proof.ConvPieces

@[expose] public section

set_option maxRecDepth 16384

noncomputable section

namespace Cert.Proof.ConvValue

open Idealize.ShloMosaic Idealize.SL.Sem Cert.ConvIdeal Cert.ConvIdeal.Gen Cert.Proof.Whole Cert.Proof.Pieces Cert.Proof.Conv
open Idealize.ShloMosaic.Pipeline (Dat Cfg Window)

variable (m : (ℓ : Loc nD τ sig) → Buf (Elt Ideal) ℓ) (c : Dev nD) (t : Fin cfg0.N)
  (arg1 : Memref sig .tc .vmem S256x2048 .bf16) (harg1 : arg1.IsWhole) (arg2 : Memref sig .tc .vmem S32x2048 .bf16) (harg2 : arg2.IsWhole)
  (arg4 : Memref sig .tc .vmem S31x1024 .f32) (harg4 : arg4.IsWhole) (arg5 : Memref sig .tc .vmem S1x1024 .f32) (harg5 : arg5.IsWhole)
  (arg12 : Memref sig .tc .vmem S288x1024 .f32) (arg13 : Memref sig .tc .vmem S7x280x1024 .f32)

/-- The stores of the convolution's rows. -/
abbrev convL := kernelRun0_A.sl.H10_32 (F := Ideal) c (grid0.coords t) arg1 harg1 arg2 harg2 arg4 harg4 arg5 harg5 arg12 arg13 (iblk m c 0 t) (iblk m c 1 t) (iblk m c 3 t) (iblk m c 4 t)

/-- The convolution's rows of the point. -/
abbrev convB : Vec Ideal S256x1024 .f32 := fun y => u (zA m c) (dwA m c) (bdA m c) (t.val * 256 + (y 0).val) (y 1)

theorem piece (o b : ℕ) (ho : o ≤ 192) (hb : b ≤ 896) (inb : ∀ x, (![o, b] : Fin 2 → ℕ) x + S64x128.size x ≤ S256x1024.size x) (w : Vec Ideal S64x128 .f32)
    (hw : w = block m c t arg1 harg1 arg2 harg2 arg4 harg4 arg5 harg5 arg12 arg13 o b ho hb) (x : S64x128.Idx) :
    w x = convB m c t ((Rect.unit (s := S256x1024) ![o, b] S64x128.size inb).emb x) := by
  obtain ⟨r, j, rfl⟩ : ∃ (r : Fin 64) (j : Fin 128), x = ix2 r j := ⟨x 0, x 1, eq_ix2 x⟩
  have hr := r.isLt
  have hj := j.isLt
  have he : (Rect.unit (s := S256x1024) ![o, b] S64x128.size inb).emb (ix2 r j) = ix2 (⟨o + r.val, by omega⟩ : Fin 256) (⟨b + j.val, by omega⟩ : Fin 1024) :=
    Shape.idx_ext₂ (show o + 1 * r.val = o + r.val by omega) (show b + 1 * j.val = b + j.val by omega)
  rw [he, hw]
  exact block_at m c t arg1 harg1 arg2 harg2 arg4 harg4 arg5 harg5 arg12 arg13 o b ho hb r j _ rfl

theorem conv_pieces : ∀ q ∈ convL m c t arg1 harg1 arg2 harg2 arg4 harg4 arg5 harg5 arg12 arg13, ∀ x : q.1.shape.Idx, q.2 x = convB m c t (q.1.emb x) := by
  unfold convL kernelRun0_A.sl.H10_32
  have one := piece m c t arg1 harg1 arg2 harg2 arg4 harg4 arg5 harg5 arg12 arg13
  simp only [List.forall_mem_cons]
  exact ⟨one 192 896 (by decide) (by decide) _ _ rfl,
    one 128 896 (by decide) (by decide) _ _ rfl,
    one 64 896 (by decide) (by decide) _ _ rfl,
    one 0 896 (by decide) (by decide) _ _ rfl,
    one 192 768 (by decide) (by decide) _ _ rfl,
    one 128 768 (by decide) (by decide) _ _ rfl,
    one 64 768 (by decide) (by decide) _ _ rfl,
    one 0 768 (by decide) (by decide) _ _ rfl,
    one 192 640 (by decide) (by decide) _ _ rfl,
    one 128 640 (by decide) (by decide) _ _ rfl,
    one 64 640 (by decide) (by decide) _ _ rfl,
    one 0 640 (by decide) (by decide) _ _ rfl,
    one 192 512 (by decide) (by decide) _ _ rfl,
    one 128 512 (by decide) (by decide) _ _ rfl,
    one 64 512 (by decide) (by decide) _ _ rfl,
    one 0 512 (by decide) (by decide) _ _ rfl,
    one 192 384 (by decide) (by decide) _ _ rfl,
    one 128 384 (by decide) (by decide) _ _ rfl,
    one 64 384 (by decide) (by decide) _ _ rfl,
    one 0 384 (by decide) (by decide) _ _ rfl,
    one 192 256 (by decide) (by decide) _ _ rfl,
    one 128 256 (by decide) (by decide) _ _ rfl,
    one 64 256 (by decide) (by decide) _ _ rfl,
    one 0 256 (by decide) (by decide) _ _ rfl,
    one 192 128 (by decide) (by decide) _ _ rfl,
    one 128 128 (by decide) (by decide) _ _ rfl,
    one 64 128 (by decide) (by decide) _ _ rfl,
    one 0 128 (by decide) (by decide) _ _ rfl,
    one 192 0 (by decide) (by decide) _ _ rfl,
    one 128 0 (by decide) (by decide) _ _ rfl,
    one 64 0 (by decide) (by decide) _ _ rfl,
    one 0 0 (by decide) (by decide) _ _ rfl, fun _ h => absurd h List.not_mem_nil⟩

theorem conv_canon : View.canon (convL m c t arg1 harg1 arg2 harg2 arg4 harg4 arg5 harg5 arg12 arg13) = convB m c t :=
  funext fun y => View.canon_apply_of_pieces (Val := Elt Ideal) (e := .f32) (convB m c t) _ (conv_pieces m c t arg1 harg1 arg2 harg2 arg4 harg4 arg5 harg5 arg12 arg13) y
    (View.cover_of_tiledL (s := S256x1024) (convL m c t arg1 harg1 arg2 harg2 arg4 harg4 arg5 harg5 arg12 arg13) S64x128.size (by sl_kernel_rfl) y)

end Cert.Proof.ConvValue

end
-- ==== Proof.ConvValue.lean ====
/- The third mixer, forward: what the kernel's outputs hold at the end. -/
module

public import proofs.«01_k».proof.Proof.Gen.ConvIdeal.Value
public import proofs.«01_k».proof.Proof.ConvRows

@[expose] public section

set_option maxRecDepth 16384

noncomputable section

namespace Cert.Proof.ConvValue

open Idealize.ShloMosaic Idealize.SL.Sem Cert.ConvIdeal Cert.ConvIdeal.Gen Cert.Proof.Whole Cert.Proof.Pieces Cert.Proof.Conv
open Idealize.ShloMosaic.Pipeline (Dat Cfg Window)

/-! ### The layer norm and the product at an index -/

theorem pay459_at (x : Vec Ideal S256x1024 .f32) (r : Fin 256) (l : Fin 1024) : k0_pay459 x (ix2 r l) = cen (fun k => x (ix2 r k)) l := by
  pointwise [k0_pay459]
  rfl

theorem pay460_at (x : Vec Ideal S256x1024 .f32) (r : Fin 256) :
    k0_pay460 x (ix2 r 0) = mean (fun k => cen (fun k => x (ix2 r k)) k * cen (fun k => x (ix2 r k)) k) := by
  simp only [← pay459_at]
  pointwise [k0_pay460]
  rfl

theorem pay1_at (lg lb b2 : Vec Ideal S1x1024 .f32) (x h : Vec Ideal S256x1024 .f32) (w : Vec Ideal S1024x1024 .bf16) (r : Fin 256) (l : Fin 1024) :
    k0_pay1 (k0_pay457 lg) (k0_pay458 lb) (k0_pay459 x) (k0_pay460 x) (Scalar.ofBits (F := Ideal) .f32 0x3727C5AC#32) h w b2 (ix2 r l)
      = out (fun k => lg (ix2 0 k)) (fun k => lb (ix2 0 k)) (fun k l => w (ix2 k l)) (fun l => b2 (ix2 0 l)) (fun k => x (ix2 r k)) (fun l => h (ix2 r l)) l := by
  unfold out act Cert.Proof.Conv.norm
  rw [← add_assoc, ← pay460_at]
  simp only [← pay459_at]
  pointwise [k0_pay1, k0_pay457, k0_pay458]

variable (m : (ℓ : Loc nD τ sig) → Buf (Elt Ideal) ℓ)

/-! ### What a point leaves -/

theorem out10_eq (c : Dev nD) (t : Fin cfg0.N) : (outsAt0 m c t).2 = convB m c t := by
  unfold outsAt0 out0_A_10
  dsimp only
  refine (funext fun y => View.read_writes_junk_apply_eq_canon _ y _).trans ?_
  unfold kernelRun0_A
  exact conv_canon m c t (ms0_0 t) (hs0_0 t) (ms0_1 t) (hs0_1 t) (ms0_3 t) (hs0_3 t) (ms0_4 t) (hs0_4 t) scM0_0 scM0_1

/-- The point's rows of the mixer's output. -/
abbrev outB (c : Dev nD) (t : Fin cfg0.N) : Vec Ideal S256x1024 .f32 :=
  k0_pay1 (k0_pay457 (iblk m c 5 t)) (k0_pay458 (iblk m c 6 t)) (k0_pay459 (convB m c t)) (k0_pay460 (convB m c t)) (Scalar.ofBits (F := Ideal) .f32 0x3727C5AC#32)
    (iblk m c 2 t) (iblk m c 7 t) (iblk m c 8 t)

theorem out9_eq (c : Dev nD) (t : Fin cfg0.N) : (outsAt0 m c t).1 = outB m c t := by
  unfold outsAt0 out0_A_9
  dsimp only
  refine (funext fun y => View.read_writes_junk_apply_eq_canon _ y _).trans ?_
  unfold kernelRun0_A
  dsimp only
  unfold kernelRun0_A.sl.r_462 kernelRun0_A.sl.r_463 kernelRun0_A.sl.r_464 kernelRun0_A.sl.r_465 kernelRun0_A.sl.v7921 kernelRun0_A.sl.cst_6717
  refine (canon2 _ _ _).trans ?_
  simp only [readCov_ld, conv_canon, View.readAt_eq_ld, (hs0_2 t).read_unread, (hs0_5 t).read_unread, (hs0_6 t).read_unread, (hs0_7 t).read_unread, (hs0_8 t).read_unread, ld2]

theorem outB_at (c : Dev nD) (t : Fin cfg0.N) (r : Fin 256) (l : Fin 1024) :
    outB m c t (ix2 r l) = out (lgA m c) (lbA m c) (wA m c) (b2A m c) (u (zA m c) (dwA m c) (bdA m c) (row t r).val) (hA m c (row t r)) l := by
  refine (pay1_at _ _ _ _ _ _ r l).trans ?_
  simp only [blk2, blk5, blk6, blk7, blk8]
  rfl

/-! ### The arrays at the end -/

/-- The point that a row belongs to, and its place there. -/
theorem point (r : Fin 4096) : ∃ (t : Fin cfg0.N) (p : Fin 256), row t p = r := by
  have hr := r.isLt
  exact ⟨⟨r.val / 256, by rw [show cfg0.N = 16 from N_0]; omega⟩, ⟨r.val % 256, Nat.mod_lt _ (by norm_num)⟩,
    Fin.ext (show r.val / 256 * 256 + r.val % 256 = r.val by omega)⟩

theorem end_out (c : Dev nD) : (dats m 0 c).arrAt 9 cfg0.N
    = fun i : S4096x1024.Idx => out (lgA m c) (lbA m c) (wA m c) (b2A m c) (u (zA m c) (dwA m c) (bdA m c) (i 0).val) (hA m c (i 0)) (i 1) := by
  refine Dat.arrAt_eq_of_cover (dats m 0 c) 9 _ (fun t _ => ?_) (fun i => ?_)
  · rw [Value.flushed9]
    funext y
    obtain ⟨p, k, rfl⟩ : ∃ (p : Fin 256) (k : Fin 1024), y = ix2 p k := ⟨y 0, y 1, eq_ix2 y⟩
    rw [View.read_apply, emb9]
    exact (congrFun (out9_eq m c t) (ix2 p k)).trans (outB_at m c t p k)
  · obtain ⟨r, k, rfl⟩ : ∃ (r : Fin 4096) (k : Fin 1024), i = ix2 r k := ⟨i 0, i 1, eq_ix2 i⟩
    obtain ⟨t, p, rfl⟩ := point r
    have h := View.emb_mem_set ((cfg0.win 9).blk t).view (ix2 p k)
    rw [emb9] at h
    exact ⟨t, flush0_9 _, h⟩

theorem end_conv (c : Dev nD) : (dats m 0 c).arrAt 10 cfg0.N = fun i : S4096x1024.Idx => u (zA m c) (dwA m c) (bdA m c) (i 0).val (i 1) := by
  refine Dat.arrAt_eq_of_cover (dats m 0 c) 10 _ (fun t _ => ?_) (fun i => ?_)
  · rw [Value.flushed10]
    funext y
    obtain ⟨p, k, rfl⟩ : ∃ (p : Fin 256) (k : Fin 1024), y = ix2 p k := ⟨y 0, y 1, eq_ix2 y⟩
    rw [View.read_apply, emb10]
    exact congrFun (out10_eq m c t) (ix2 p k)
  · obtain ⟨r, k, rfl⟩ : ∃ (r : Fin 4096) (k : Fin 1024), i = ix2 r k := ⟨i 0, i 1, eq_ix2 i⟩
    obtain ⟨t, p, rfl⟩ := point r
    have h := View.emb_mem_set ((cfg0.win 10).blk t).view (ix2 p k)
    rw [emb10] at h
    exact ⟨t, flush0_10 _, h⟩

end Cert.Proof.ConvValue

end
-- ==== Proof.ConvRef.lean ====
/- The third mixer, forward: the reference's two results against what the kernel's outputs hold at the end. -/
module

public import proofs.«01_k».proof.Defs
public import proofs.«01_k».proof.Proof.ConvRead
public import proofs.«01_k».proof.Proof.ConvValue

@[expose] public section

set_option maxRecDepth 16384

noncomputable section

namespace Cert.Proof.ConvRef

open Idealize.ShloMosaic Idealize.SL.Sem Cert.ConvRefIdeal Cert.ConvRefIdeal.Read Cert.Proof.Conv
open Cert.ConvIdeal (cfg0)
open Cert.ConvIdeal.Gen (dats)
open Cert.Proof.ConvValue (a0 a1 a2 a3 a4 a5 a6 a7 end_out end_conv)

variable (m : (ℓ : Loc Cert.ConvIdeal.nD Cert.ConvIdeal.τ Cert.ConvIdeal.sig) → Buf (Elt Ideal) ℓ)

theorem eq_out (c : Dev Cert.ConvIdeal.nD) : val_main_v260 (F := Ideal) (a0 m c) (a1 m c) (a2 m c) (a3 m c) (a4 m c) (a5 m c) (a6 m c) (a7 m c) = (dats m 0 c).arrAt 9 cfg0.N := by
  rw [end_out]
  funext i
  obtain ⟨r, k, rfl⟩ : ∃ (r : Fin 4096) (k : Fin 1024), i = ix2 r k := ⟨i 0, i 1, eq_ix2 i⟩
  exact ConvRead.out_at _ _ _ _ _ _ _ _ r k

theorem eq_conv (c : Dev Cert.ConvIdeal.nD) : val_main_v232 (F := Ideal) (a0 m c) (a2 m c) (a3 m c) = (dats m 0 c).arrAt 10 cfg0.N := by
  rw [end_conv]
  funext i
  obtain ⟨r, k, rfl⟩ : ∃ (r : Fin 4096) (k : Fin 1024), i = ix2 r k := ⟨i 0, i 1, eq_ix2 i⟩
  exact ConvRead.u_at _ _ _ r k

theorem frame_ref : Cert.quiescent_ConvRefIdeal := fun m ρ _ =>
  (θ_run Cert.ConvRefIdeal.defs _ _).mono (fun _ h => ⟨fun c => (h c).2.2, sem_eq_zero_of_no_sems rfl _⟩) (Cert.ConvRefIdeal.Value.run m ρ)

theorem algebraic : Cert.algebraic_ConvIdeal_ConvRefIdeal := by
  intro m ρ m' ρ' _ ha
  refine ⟨_, _, Cert.ConvIdeal.Value.run_blocks m ρ, ?_⟩
  refine (θ_run Cert.ConvRefIdeal.defs _ _).mono (fun r h c => ?_) (Cert.ConvRefIdeal.Value.run m' ρ')
  obtain ⟨h0, h1, kept⟩ := h c
  obtain ⟨b0, b1, b2, b3, b4, b5, b6, b7⟩ := ha c
  have e0 : StableHlo.launchContents m' c (Proc.tc.devRef main_arg0) = a0 m c := b0
  have e1 : StableHlo.launchContents m' c (Proc.tc.devRef main_arg1) = a1 m c := b1
  have e2 : StableHlo.launchContents m' c (Proc.tc.devRef main_arg2) = a2 m c := b2
  have e3 : StableHlo.launchContents m' c (Proc.tc.devRef main_arg3) = a3 m c := b3
  have e4 : StableHlo.launchContents m' c (Proc.tc.devRef main_arg4) = a4 m c := b4
  have e5 : StableHlo.launchContents m' c (Proc.tc.devRef main_arg5) = a5 m c := b5
  have e6 : StableHlo.launchContents m' c (Proc.tc.devRef main_arg6) = a6 m c := b6
  have e7 : StableHlo.launchContents m' c (Proc.tc.devRef main_arg7) = a7 m c := b7
  refine ⟨?_, ?_, kept⟩
  · refine (h0.trans (val_main_v260_eq _)).trans ?_
    rw [e0, e1, e2, e3, e4, e5, e6, e7]
    exact eq_out m c
  · refine (h1.trans (val_main_v232_eq _)).trans ?_
    rw [e0, e2, e3]
    exact eq_conv m c

end Cert.Proof.ConvRef

end
-- ==== Proof.ConvFrames.lean ====
/- The third mixer, forward: the frames of the kernel at both readings of its numbers, from one run of the kernel. -/
module

public import proofs.«01_k».proof.Defs
public import proofs.«01_k».proof.Proof.Gen.Conv.Launch
public import proofs.«01_k».proof.Proof.Gen.ConvIdeal.Frame

@[expose] public section

set_option maxRecDepth 65536

noncomputable section

namespace Cert.Proof.ConvFrames

open Idealize.ShloMosaic

theorem ideal : Cert.quiescent_ConvIdeal := fun m ρ _ => Cert.ConvIdeal.Gen.frame m ρ

theorem compiled : Cert.quiescent_Conv := fun m ρ _ => by
  refine cast ?_ (Cert.ConvIdeal.Gen.frame (F := Bits) m ρ)
  sl_kernel_rfl

end Cert.Proof.ConvFrames

end
-- ==== Proof.PoolValue.lean ====
/- The second mixer, forward: what the kernel's output holds at the end. A point reads its 512 rows of the mixer's input and the
   32 rows before them, norms both, and takes each group's window means from the padded rows. -/
module

public import proofs.«01_k».proof.Proof.Gen.PoolIdeal.Value
public import proofs.«01_k».proof.Proof.BMixBlocks

@[expose] public section

set_option maxRecDepth 16384

noncomputable section

namespace Cert.Proof.PoolValue

open Idealize.ShloMosaic Idealize.SL.Sem Cert.PoolIdeal Cert.PoolIdeal.Gen Cert.Proof.Whole Cert.Proof.Pieces Cert.Proof.BMix Cert.Proof.Rms
open Cert.Proof.BMixPoint (ext3 ld_group)
open Cert.Proof.BMixBlocks (sum4 sum8 sum16 cases4 four)
open Idealize.ShloMosaic.Pipeline (Dat Cfg Window)

/-- The row with the scaled product of its mixed rows and the group's matrix, at channel `b` of group `g`. -/
def outG (h : Fin 4096 → Fin 1024 → EReal) (ga : Fin 1024 → EReal) (W : Fin 4 → Fin 256 → Fin 256 → EReal) (sc : Fin 1024 → EReal)
    (g : Fin 4) (r : Fin 4096) (b : Fin 256) : EReal := h r (col g b) + (∑ a, mixed h ga (wide g) g r.val a * W g a b) * sc (col g b)

variable (m : (ℓ : Loc nD τ sig) → Buf (Elt Ideal) ℓ)

abbrev a0 (c : Dev nD) : S4096x1024.Idx → EReal := m ((c.tc : Thread nD τ).loc main_arg0)
abbrev a1 (c : Dev nD) : S1024.Idx → EReal := m ((c.tc : Thread nD τ).loc main_arg1)
abbrev a2 (c : Dev nD) : S4x256x256.Idx → EReal := m ((c.tc : Thread nD τ).loc main_arg2)
abbrev a3 (c : Dev nD) : S1024.Idx → EReal := m ((c.tc : Thread nD τ).loc main_arg3)
abbrev hA (c : Dev nD) : Fin 4096 → Fin 1024 → EReal := fun r k => a0 m c (ix2 r k)
abbrev gaA (c : Dev nD) : Fin 1024 → EReal := fun k => a1 m c (ix1 k)
abbrev wA (c : Dev nD) : Fin 4 → Fin 256 → Fin 256 → EReal := fun g a b => a2 m c (ix3 g a b)
abbrev scA (c : Dev nD) : Fin 1024 → EReal := fun k => a3 m c (ix1 k)

theorem lt8 (t : Fin cfg0.N) : t.val < 8 := lt_of_lt_of_eq t.isLt (show cfg0.N = 8 from N_0)

/-- Row `p` of block `t` in the whole array, and of the 32 rows before the block. -/
def row (t : Fin cfg0.N) (p : Fin 512) : Fin 4096 := ⟨t.val * 512 + p.val, by have := lt8 t; omega⟩
def before (t : Fin cfg0.N) (p : Fin 32) : Fin 4096 := ⟨(t.val * 16 - 1) * 32 + p.val, by have := lt8 t; omega⟩

/-! ### The blocks of the arguments -/

theorem rows_at : ∀ t : Fin cfg0.N, (win0_0.index t 0 = t.val ∧ win0_0.index t 1 = 0) ∧ (win0_1.index t 0 = t.val * 16 - 1 ∧ win0_1.index t 1 = 0)
    ∧ win0_5.index t 0 = t.val ∧ win0_5.index t 1 = 0 :=
  (by decide +kernel : ∀ t : Fin grid0.N, (win0_0.index t 0 = t.val ∧ win0_0.index t 1 = 0) ∧ (win0_1.index t 0 = t.val * 16 - 1 ∧ win0_1.index t 1 = 0)
    ∧ win0_5.index t 0 = t.val ∧ win0_5.index t 1 = 0)
theorem whole_at : ∀ t : Fin cfg0.N, (win0_2.index t 0 = 0 ∧ win0_2.index t 1 = 0) ∧ (win0_3.index t 0 = 0 ∧ win0_3.index t 1 = 0 ∧ win0_3.index t 2 = 0)
    ∧ win0_4.index t 0 = 0 ∧ win0_4.index t 1 = 0 :=
  (by decide +kernel : ∀ t : Fin grid0.N, (win0_2.index t 0 = 0 ∧ win0_2.index t 1 = 0) ∧ (win0_3.index t 0 = 0 ∧ win0_3.index t 1 = 0 ∧ win0_3.index t 2 = 0)
    ∧ win0_4.index t 0 = 0 ∧ win0_4.index t 1 = 0)

theorem emb0 (t : Fin cfg0.N) (p : Fin 512) (k : Fin 1024) : ((cfg0.win 0).blk t).view.emb (ix2 p k) = ix2 (row t p) k :=
  Shape.idx_ext₂ ((Window.rect_emb_val win0_0 t (ix2 p k) 0).trans (by rw [(rows_at t).1.1]; rfl))
    ((Window.rect_emb_val win0_0 t (ix2 p k) 1).trans (by rw [(rows_at t).1.2]; exact Nat.zero_add _))
theorem emb1 (t : Fin cfg0.N) (p : Fin 32) (k : Fin 1024) : ((cfg0.win 1).blk t).view.emb (ix2 p k) = ix2 (before t p) k :=
  Shape.idx_ext₂ ((Window.rect_emb_val win0_1 t (ix2 p k) 0).trans (by rw [(rows_at t).2.1.1]; rfl))
    ((Window.rect_emb_val win0_1 t (ix2 p k) 1).trans (by rw [(rows_at t).2.1.2]; exact Nat.zero_add _))
theorem emb2 (t : Fin cfg0.N) (p : Fin 1) (k : Fin 1024) : ((cfg0.win 2).blk t).view.emb (ix2 p k) = ix2 p k :=
  Shape.idx_ext₂ ((Window.rect_emb_val win0_2 t (ix2 p k) 0).trans (by rw [(whole_at t).1.1]; exact Nat.zero_add _))
    ((Window.rect_emb_val win0_2 t (ix2 p k) 1).trans (by rw [(whole_at t).1.2]; exact Nat.zero_add _))
theorem emb3 (t : Fin cfg0.N) (g : Fin 4) (a b : Fin 256) : ((cfg0.win 3).blk t).view.emb (ix3 g a b) = ix3 g a b :=
  ext3 ((Window.rect_emb_val win0_3 t (ix3 g a b) 0).trans (by rw [(whole_at t).2.1.1]; exact Nat.zero_add _))
    ((Window.rect_emb_val win0_3 t (ix3 g a b) 1).trans (by rw [(whole_at t).2.1.2.1]; exact Nat.zero_add _))
    ((Window.rect_emb_val win0_3 t (ix3 g a b) 2).trans (by rw [(whole_at t).2.1.2.2]; exact Nat.zero_add _))
theorem emb4 (t : Fin cfg0.N) (p : Fin 1) (k : Fin 1024) : ((cfg0.win 4).blk t).view.emb (ix2 p k) = ix2 p k :=
  Shape.idx_ext₂ ((Window.rect_emb_val win0_4 t (ix2 p k) 0).trans (by rw [(whole_at t).2.2.1]; exact Nat.zero_add _))
    ((Window.rect_emb_val win0_4 t (ix2 p k) 1).trans (by rw [(whole_at t).2.2.2]; exact Nat.zero_add _))
theorem emb5 (t : Fin cfg0.N) (p : Fin 512) (k : Fin 1024) : ((cfg0.win 5).blk t).view.emb (ix2 p k) = ix2 (row t p) k :=
  Shape.idx_ext₂ ((Window.rect_emb_val win0_5 t (ix2 p k) 0).trans (by rw [(rows_at t).2.2.1]; rfl))
    ((Window.rect_emb_val win0_5 t (ix2 p k) 1).trans (by rw [(rows_at t).2.2.2]; exact Nat.zero_add _))

theorem blk0 (c : Dev nD) (t : Fin cfg0.N) (p : Fin 512) (k : Fin 1024) : iblk m c 0 t (ix2 p k) = hA m c (row t p) k := by
  unfold iblk
  rw [View.read_apply, emb0]
  show V m c main_arg0 _ = _
  rw [V_main_arg0]
theorem blk1 (c : Dev nD) (t : Fin cfg0.N) (p : Fin 32) (k : Fin 1024) : iblk m c 1 t (ix2 p k) = hA m c (before t p) k := by
  unfold iblk
  rw [View.read_apply, emb1]
  show V m c main_arg0 _ = _
  rw [V_main_arg0]
theorem blk2 (c : Dev nD) (t : Fin cfg0.N) (j : Fin 1024) : iblk m c 2 t (ix2 0 j) = gaA m c j := by
  unfold iblk
  rw [View.read_apply, emb2]
  show V m c main_v5 _ = _
  have hV : V m c main_v5 = shapeCast S1x1024 (a1 m c) shapeCasts_S1024_S1x1024 := by
    dsimp only [V]; after_results_simp <;> rfl
  rw [hV]
  pointwise
theorem blk3 (c : Dev nD) (t : Fin cfg0.N) (g : Fin 4) (a b : Fin 256) : iblk m c 3 t (ix3 g a b) = wA m c g a b := by
  unfold iblk
  rw [View.read_apply, emb3]
  show V m c main_v4 _ = _
  have hV : V m c main_v4 = shapeCast S4x256x256 (transpose S4x8x32x256 [1, 0, 2, 3] (transpose S8x4x32x256 [1, 0, 2, 3] (shapeCast S4x8x32x256
      (truncf (F := Ideal) .bf16 (a2 m c) bitsLt_bf16_f32) shapeCasts_S4x256x256_S4x8x32x256) transposes_S4x8x32x256_S8x4x32x256_1_0_2_3)
      transposes_S8x4x32x256_S4x8x32x256_1_0_2_3) shapeCasts_S4x8x32x256_S4x256x256 := by
    dsimp only [V]; after_results_simp <;> rfl
  rw [hV]
  pointwise
theorem blk4 (c : Dev nD) (t : Fin cfg0.N) (j : Fin 1024) : iblk m c 4 t (ix2 0 j) = scA m c j := by
  unfold iblk
  rw [View.read_apply, emb4]
  show V m c main_v6 _ = _
  have hV : V m c main_v6 = shapeCast S1x1024 (a3 m c) shapeCasts_S1024_S1x1024 := by
    dsimp only [V]; after_results_simp <;> rfl
  rw [hV]
  pointwise

abbrev hl (c : Dev nD) (t : Fin cfg0.N) (b : ℕ) (inb : ∀ x, (![0, b] : Fin 2 → ℕ) x + (![512, 256] : Fin 2 → ℕ) x ≤ S512x1024.size x := by decide) : Vec Ideal S512x256 .f32 :=
  View.ld (iblk m c 0 t) (Rect.unit (s := S512x1024) ![0, b] ![512, 256] inb)
abbrev scl (c : Dev nD) (t : Fin cfg0.N) (b : ℕ) (inb : ∀ x, (![0, b] : Fin 2 → ℕ) x + (![1, 256] : Fin 2 → ℕ) x ≤ S1x1024.size x := by decide) : Vec Ideal S1x256 .f32 :=
  View.ld (iblk m c 4 t) (Rect.unit (s := S1x1024) ![0, b] ![1, 256] inb)
abbrev mtl (c : Dev nD) (t : Fin cfg0.N) (g : ℕ) (inb : ∀ x, (![g, 0, 0] : Fin 3 → ℕ) x + (![1, 256, 256] : Fin 3 → ℕ) x ≤ S4x256x256.size x := by decide) : Vec Ideal S1x256x256 .bf16 :=
  View.ld (iblk m c 3 t) (Rect.unit (s := S4x256x256) ![g, 0, 0] ![1, 256, 256] inb)

/-! ### The kernel's expressions at an index -/

theorem coords0 : ∀ t : Fin cfg0.N, (grid0.coords t 0).val = t.val := (by decide +kernel : ∀ t : Fin grid0.N, (grid0.coords t 0).val = t.val)

/-- The same point of the gradient's grid: the two count their rows alike. -/
def twin (t : Fin cfg0.N) : Fin BMixIdeal.cfg0.N := ⟨t.val, (lt8 t).trans_eq (show BMixIdeal.cfg0.N = 8 from BMixIdeal.Gen.N_0).symm⟩
theorem twin_at (t : Fin cfg0.N) : (grid0.coords t 0).val = (BMixIdeal.grid0.coords (twin t) 0).val := (coords0 t).trans (BMixPoint.coords0 (twin t)).symm

theorem first_iff (t : Fin cfg0.N) : Scalar.cmpi .eq (BitVec.ofNat 32 (grid0.coords t 0).val) 0#32 = 1#1 ↔ t.val = 0 := by
  rw [twin_at]
  exact BMixPoint.first_iff (twin t)

theorem pay3_at (t : Fin cfg0.N) (g : Vec Ideal S1x1024 .f32) (x : Vec Ideal S32x1024 .f32) (p : Fin 32) (j : Fin 1024) :
    k0_pay3 (grid0.coords t) g x (ix2 p j) = if t.val = 0 then 0 else x (ix2 p j) * rr (fun k => x (ix2 p k)) * g (ix2 0 j) := by
  simp only [← first_iff]
  unfold rr under
  rw [← c1024, ← cEps]
  pointwise [k0_pay3, k0_pay2]
  rfl

theorem pay4_at (g : Vec Ideal S1x1024 .f32) (x : Vec Ideal S512x1024 .f32) (p : Fin 512) (j : Fin 1024) :
    k0_pay4 g x (ix2 p j) = x (ix2 p j) * rr (fun k => x (ix2 p k)) * g (ix2 0 j) := by
  unfold rr under
  rw [← c1024, ← cEps]
  pointwise [k0_pay4, k0_pay2]

/-- The scaled product of mixed rows with a matrix, added to the row. -/
def joined (x : FVec Ideal S512x256 .bf16) (w : Vec Ideal S1x256x256 .bf16) (h : Vec Ideal S512x256 .f32) (s : Vec Ideal S1x256 .f32) : FVec Ideal S512x256 .f32 :=
  addf h (mulf (matmul (φ₂ := .bf16) dot_S512x256_S256x256_S512x256_1_0_0_1_n_n none x (shapeCast S256x256 w shapeCasts_S1x256x256_S256x256) (constant S512x256 .f32 0x00000000#32))
    (broadcastTo S512x256 (shapeCast S1x256 s shapeCasts_S1x256_S1x256) broadcasts_S1x256_S512x256))

theorem joined_at (x : FVec Ideal S512x256 .bf16) (w : Vec Ideal S1x256x256 .bf16) (h : Vec Ideal S512x256 .f32) (s : Vec Ideal S1x256 .f32) (p : Fin 512) (b : Fin 256) :
    joined x w h s (ix2 p b) = h (ix2 p b) + (∑ a, x (ix2 p a) * w (ix3 0 a b)) * s (ix2 0 b) := by
  pointwise [joined]

/-! ### The normalised rows, from 32 rows before the block -/

abbrev pad (c : Dev nD) (t : Fin cfg0.N) : Vec Ideal S544x1024 .f32 :=
  View.canon [⟨Rect.unit (s := S544x1024) ![32, 0] ![512, 1024] inb_S544x1024_S512x1024_32_0, k0_pay4 (iblk m c 2 t) (iblk m c 0 t)⟩,
    ⟨Rect.unit (s := S544x1024) ![0, 0] ![32, 1024] inb_S544x1024_S32x1024_0_0, k0_pay3 (grid0.coords t) (iblk m c 2 t) (iblk m c 1 t)⟩]

theorem pad_eq (c : Dev nD) (t : Fin cfg0.N) : pad m c t = fun y => U (hA m c) (gaA m c) (t.val * 512 + (y 0).val) (y 1) := by
  have h8 := lt8 t
  refine canon_two (Val := Elt Ideal) (e := .f32) _ _ rfl _ _ (fun n j => U (hA m c) (gaA m c) (t.val * 512 + n) j) (fun r j => ?_) (fun r j => ?_)
  · rw [pay4_at, U, dif_pos (by omega)]
    have e : row t r = ⟨t.val * 512 + (32 + r.val) - 32, by omega⟩ := Fin.ext (by show t.val * 512 + r.val = t.val * 512 + (32 + r.val) - 32; omega)
    simp only [blk0, blk2]
    rw [← e]
    rfl
  · rw [pay3_at]
    simp only [blk1, blk2]
    by_cases h : t.val = 0
    · rw [if_pos h, U, dif_neg (by omega)]
    · rw [if_neg h, U, dif_pos (by omega)]
      have e : before t r = ⟨t.val * 512 + r.val - 32, by omega⟩ := Fin.ext (by show (t.val * 16 - 1) * 32 + r.val = t.val * 512 + r.val - 32; omega)
      rw [← e]
      rfl

abbrev pl (c : Dev nD) (t : Fin cfg0.N) (a b : ℕ) (inb : ∀ x, (![a, b] : Fin 2 → ℕ) x + (![512, 256] : Fin 2 → ℕ) x ≤ S544x1024.size x := by decide) : Vec Ideal S512x256 .f32 :=
  View.ld (pad m c t) (Rect.unit (s := S544x1024) ![a, b] ![512, 256] inb)

theorem pl_at (c : Dev nD) (t : Fin cfg0.N) (a b : ℕ) (inb) (p : Fin 512) (j : Fin 256) :
    pl m c t a b inb (ix2 p j) = U (hA m c) (gaA m c) (a + (row t p).val) (off b (inb 1) j) := by
  have ha : a + p.val < 544 := by
    have h : a + 512 ≤ 544 := inb 0
    have := p.isLt
    omega
  refine (ld_hit inb _ p j (ix2 ⟨a + p.val, ha⟩ (off b (inb 1) j)) rfl rfl).trans ?_
  rw [pad_eq]
  exact congrArg (fun n => U (hA m c) (gaA m c) n (off b (inb 1) j)) (Nat.add_left_comm (t.val * 512) a p.val)

/-! ### A group's output -/

/-- From a group's mixed rows to its output. -/
theorem group_at (c : Dev nD) (t : Fin cfg0.N) (g b : ℕ) (hb : b = g * 256) (i3 i0 i4) (x : FVec Ideal S512x256 .bf16)
    (hx : ∀ p a, x (ix2 p a) = mixed (hA m c) (gaA m c) (wide ⟨g, i3 0⟩) ⟨g, i3 0⟩ (row t p).val a) (p : Fin 512) (a : Fin 256) :
    joined x (mtl m c t g i3) (hl m c t b i0) (scl m c t b i4) (ix2 p a) = outG (hA m c) (gaA m c) (wA m c) (scA m c) ⟨g, i3 0⟩ (row t p) a := by
  subst hb
  refine (joined_at _ _ _ _ p a).trans (congrArg₂ (· + ·) ?_ (congrArg₂ (· * ·) (Finset.sum_congr rfl fun k _ => congrArg₂ (· * ·) (hx p k) ?_) ?_))
  · exact (ld_hit i0 _ p a (ix2 p (off (g * 256) (i0 1) a)) (Nat.zero_add _).symm rfl).trans (blk0 m c t p _)
  · exact (ld_group _ g i3 k a).trans (blk3 m c t _ k a)
  · exact (ld_hit i4 _ (0 : Fin 1) a (ix2 (0 : Fin 1) (off (g * 256) (i4 1) a)) (Nat.zero_add _).symm rfl).trans (blk4 m c t _)

abbrev mix0 (c : Dev nD) (t : Fin cfg0.N) : FVec Ideal S512x256 .bf16 :=
    BMixIdeal.Gen.k0_pay11 (BitVec.ofNat 32 (grid0.coords t 0).val) (pl m c t 32 0) (pl m c t 31 0)
theorem mix0_at (c : Dev nD) (t : Fin cfg0.N) (p : Fin 512) (a : Fin 256) : mix0 m c t (ix2 p a) = mixed (hA m c) (gaA m c) 2 0 (row t p).val a := by
  refine (BMixPoint.pay11_at _ _ _ p a).trans ?_
  rw [twin_at]
  simp only [pl_at, BMixPoint.pay10_at]
  unfold mixed win
  rw [Fin.sum_univ_two]
  rfl

abbrev out0 (c : Dev nD) (t : Fin cfg0.N) : Vec Ideal S512x256 .f32 :=
    k0_pay5 (Scalar.muli (BitVec.ofNat 32 (grid0.coords t 0).val) 512#32) (pl m c t 32 0) (pl m c t 31 0) (mtl m c t 0) (hl m c t 0) (scl m c t 0)
theorem out0_at (c : Dev nD) (t : Fin cfg0.N) (p : Fin 512) (a : Fin 256) : out0 m c t (ix2 p a) = outG (hA m c) (gaA m c) (wA m c) (scA m c) 0 (row t p) a := by
  have e : out0 m c t = joined (mix0 m c t) (mtl m c t 0) (hl m c t 0) (scl m c t 0) := rfl
  rw [e]
  exact group_at m c t 0 0 rfl _ _ _ _ (mix0_at m c t) p a

abbrev mix1 (c : Dev nD) (t : Fin cfg0.N) : FVec Ideal S512x256 .bf16 :=
    BMixIdeal.Gen.k0_pay21 (BitVec.ofNat 32 (grid0.coords t 0).val) (pl m c t 32 256) (pl m c t 31 256) (pl m c t 30 256) (pl m c t 29 256)
theorem mix1_at (c : Dev nD) (t : Fin cfg0.N) (p : Fin 512) (a : Fin 256) : mix1 m c t (ix2 p a) = mixed (hA m c) (gaA m c) 4 1 (row t p).val a := by
  refine (BMixPoint.pay21_at _ _ _ _ _ p a).trans ?_
  rw [twin_at]
  simp only [pl_at, BMixPoint.pay20_at]
  unfold mixed win
  rw [sum4]
  rfl

abbrev out1 (c : Dev nD) (t : Fin cfg0.N) : Vec Ideal S512x256 .f32 :=
    k0_pay7 (k0_pay6 (BitVec.ofNat 32 (grid0.coords t 0).val)) (pl m c t 32 256) (pl m c t 31 256) (pl m c t 30 256) (pl m c t 29 256) (mtl m c t 1)
    (hl m c t 256) (scl m c t 256)
theorem out1_at (c : Dev nD) (t : Fin cfg0.N) (p : Fin 512) (a : Fin 256) : out1 m c t (ix2 p a) = outG (hA m c) (gaA m c) (wA m c) (scA m c) 1 (row t p) a := by
  have e : out1 m c t = joined (mix1 m c t) (mtl m c t 1) (hl m c t 256) (scl m c t 256) := rfl
  rw [e]
  exact group_at m c t 1 256 rfl _ _ _ _ (mix1_at m c t) p a

abbrev mix2 (c : Dev nD) (t : Fin cfg0.N) : FVec Ideal S512x256 .bf16 :=
    BMixIdeal.Gen.k0_pay33 (BMixIdeal.Gen.k0_pay32 (BitVec.ofNat 32 (grid0.coords t 0).val)) (pl m c t 32 512)
    (pl m c t 31 512) (pl m c t 30 512) (pl m c t 29 512) (pl m c t 28 512) (pl m c t 27 512) (pl m c t 26 512)
    (pl m c t 25 512)
theorem mix2_at (c : Dev nD) (t : Fin cfg0.N) (p : Fin 512) (a : Fin 256) : mix2 m c t (ix2 p a) = mixed (hA m c) (gaA m c) 8 2 (row t p).val a := by
  refine (BMixPoint.pay33_at _ _ _ _ _ _ _ _ _ p a).trans ?_
  rw [twin_at]
  simp only [pl_at, BMixPoint.pay32_at]
  unfold mixed win
  rw [sum8]
  rfl

abbrev out2 (c : Dev nD) (t : Fin cfg0.N) : Vec Ideal S512x256 .f32 :=
    k0_pay9 (k0_pay8 (BitVec.ofNat 32 (grid0.coords t 0).val)) (pl m c t 32 512) (pl m c t 31 512) (pl m c t 30 512) (pl m c t 29 512) (pl m c t 28 512)
    (pl m c t 27 512) (pl m c t 26 512) (pl m c t 25 512) (mtl m c t 2) (hl m c t 512) (scl m c t 512)
theorem out2_at (c : Dev nD) (t : Fin cfg0.N) (p : Fin 512) (a : Fin 256) : out2 m c t (ix2 p a) = outG (hA m c) (gaA m c) (wA m c) (scA m c) 2 (row t p) a := by
  have e : out2 m c t = joined (mix2 m c t) (mtl m c t 2) (hl m c t 512) (scl m c t 512) := rfl
  rw [e]
  exact group_at m c t 2 512 rfl _ _ _ _ (mix2_at m c t) p a

abbrev mix3 (c : Dev nD) (t : Fin cfg0.N) : FVec Ideal S512x256 .bf16 :=
    BMixIdeal.Gen.k0_pay43 (BMixIdeal.Gen.k0_pay41 (BitVec.ofNat 32 (grid0.coords t 0).val)) (pl m c t 32 768) (BMixIdeal.Gen.k0_pay42 (pl m c t 32 768)
    (pl m c t 31 768)) (pl m c t 30 768) (pl m c t 29 768) (pl m c t 28 768) (pl m c t 27 768) (pl m c t 26 768) (pl m c t 25 768) (pl m c t 24 768)
    (pl m c t 23 768) (pl m c t 22 768) (pl m c t 21 768) (pl m c t 20 768) (pl m c t 19 768) (pl m c t 18 768) (pl m c t 17 768)
theorem mix3_at (c : Dev nD) (t : Fin cfg0.N) (p : Fin 512) (a : Fin 256) : mix3 m c t (ix2 p a) = mixed (hA m c) (gaA m c) 16 3 (row t p).val a := by
  refine (BMixPoint.pay43_at _ _ _ _ _ _ _ _ _ _ _ _ _ _ _ _ _ p a).trans ?_
  rw [twin_at]
  simp only [pl_at, BMixPoint.pay41_at]
  unfold mixed win
  rw [sum16]
  rfl

abbrev out3 (c : Dev nD) (t : Fin cfg0.N) : Vec Ideal S512x256 .f32 :=
    k0_pay1 (k0_pay11 (k0_pay10 (BitVec.ofNat 32 (grid0.coords t 0).val)) 16#32) (pl m c t 32 768) (k0_pay12
    (pl m c t 32 768) (pl m c t 31 768) (pl m c t 30 768) (pl m c t 29 768) (pl m c t 28 768) (pl m c t 27 768)
    (pl m c t 26 768) (pl m c t 25 768) (pl m c t 24 768) (pl m c t 23 768) (pl m c t 22 768) (pl m c t 21 768) (pl m c t 20 768)) (pl m c t 19 768)
    (pl m c t 18 768) (pl m c t 17 768) (mtl m c t 3) (hl m c t 768) (scl m c t 768)
theorem out3_at (c : Dev nD) (t : Fin cfg0.N) (p : Fin 512) (a : Fin 256) : out3 m c t (ix2 p a) = outG (hA m c) (gaA m c) (wA m c) (scA m c) 3 (row t p) a := by
  have e : out3 m c t = joined (mix3 m c t) (mtl m c t 3) (hl m c t 768) (scl m c t 768) := rfl
  rw [e]
  exact group_at m c t 3 768 rfl _ _ _ _ (mix3_at m c t) p a

/-- What the point leaves in its output. -/
abbrev outB (c : Dev nD) (t : Fin cfg0.N) : Vec Ideal S512x1024 .f32 :=
  View.canon [⟨Rect.unit (s := S512x1024) ![0, 768] ![512, 256] inb_S512x1024_S512x256_0_768, out3 m c t⟩,
    ⟨Rect.unit (s := S512x1024) ![0, 512] ![512, 256] inb_S512x1024_S512x256_0_512, out2 m c t⟩,
    ⟨Rect.unit (s := S512x1024) ![0, 256] ![512, 256] inb_S512x1024_S512x256_0_256, out1 m c t⟩,
    ⟨Rect.unit (s := S512x1024) ![0, 0] ![512, 256] inb_S512x1024_S512x256_0_0, out0 m c t⟩]

theorem outB_at (c : Dev nD) (t : Fin cfg0.N) (p : Fin 512) (g : Fin 4) (a : Fin 256) :
    outB m c t (ix2 p (col g a)) = outG (hA m c) (gaA m c) (wA m c) (scA m c) g (row t p) a :=
  four _ _ _ _ _ _ _ _ _ (fun p g a => outG (hA m c) (gaA m c) (wA m c) (scA m c) g (row t p) a) (out3_at m c t) (out2_at m c t) (out1_at m c t) (out0_at m c t) p g a

theorem out_eq (c : Dev nD) (t : Fin cfg0.N) : outsAt0 m c t = outB m c t := by
  unfold outsAt0 out0_A_5
  rw [View.read_writes_eq_canon]
  swap
  · apply cover0_A_5
  unfold kernelRun0_A
  dsimp only
  sl_unfold_words
  simp only [readCov_ld, View.readAt_eq_ld, (hs0_0 t).read_unread, (hs0_1 t).read_unread, (hs0_2 t).read_unread, (hs0_3 t).read_unread,
    (hs0_4 t).read_unread, ld2]
  rfl

/-! ### The array at the end -/

theorem point (r : Fin 4096) : ∃ (t : Fin cfg0.N) (p : Fin 512), row t p = r := by
  have hr := r.isLt
  exact ⟨⟨r.val / 512, by rw [show cfg0.N = 8 from N_0]; omega⟩, ⟨r.val % 512, Nat.mod_lt _ (by norm_num)⟩,
    Fin.ext (show r.val / 512 * 512 + r.val % 512 = r.val by omega)⟩

theorem end_out (c : Dev nD) : (dats m 0 c).arrAt 5 cfg0.N = fun i : S4096x1024.Idx =>
    outG (hA m c) (gaA m c) (wA m c) (scA m c) (grp (i 1)) (i 0) (pos (i 1)) := by
  refine Dat.arrAt_eq_of_cover (dats m 0 c) 5 _ (fun t _ => ?_) (fun i => ?_)
  · rw [Value.flushed5]
    funext y
    obtain ⟨p, k, rfl⟩ : ∃ (p : Fin 512) (k : Fin 1024), y = ix2 p k := ⟨y 0, y 1, eq_ix2 y⟩
    obtain ⟨g, a, rfl⟩ := cases4 k
    rw [View.read_apply, emb5]
    show outsAt0 m c t (ix2 p (col g a)) = outG (hA m c) (gaA m c) (wA m c) (scA m c) (grp (col g a)) (row t p) (pos (col g a))
    rw [out_eq, grp_col, pos_col]
    exact outB_at m c t p g a
  · obtain ⟨r, k, rfl⟩ : ∃ (r : Fin 4096) (k : Fin 1024), i = ix2 r k := ⟨i 0, i 1, eq_ix2 i⟩
    obtain ⟨t, p, rfl⟩ := point r
    have h := View.emb_mem_set ((cfg0.win 5).blk t).view (ix2 p k)
    rw [emb5] at h
    exact ⟨t, flush0_5 _, h⟩

end Cert.Proof.PoolValue

end
-- ==== Proof.PoolRef.lean ====
/- The second mixer, forward: the reference's result read at an index — its mixed rows are those the gradient's reference
   forms — and its agreement with what the kernel's output holds at the end. -/
module

public import proofs.«01_k».proof.Defs
public import proofs.«01_k».proof.Proof.PoolValue
public import proofs.«01_k».proof.Proof.BMixRef
public import proofs.«01_k».proof.Proof.Gen.PoolRefIdeal.Read
public import proofs.«01_k».proof.Proof.Gen.Pre_p_finite

@[expose] public section

set_option maxRecDepth 16384

noncomputable section

namespace Cert.Proof.PoolRef

open Idealize.ShloMosaic Idealize.SL.Sem Cert.PoolRefIdeal Cert.PoolRefIdeal.Read Cert.Proof.BMix
open Cert.Proof.Finite (IsReal fin_test)
open Cert.Proof.BMixPoint (ext3)
open Cert.Proof.BMixRef (h ga W sc)
open Cert.Proof.PoolValue (outG)

variable (X0 : S4096x1024.Idx → EReal) (X1 : S1024.Idx → EReal) (X2 : S4x256x256.Idx → EReal) (X3 : S1024.Idx → EReal)

/-- The mixed rows are the gradient's reference's. -/
theorem mixed_eq : val_main_v77 (F := Ideal) X0 X1 = BMixRefIdeal.Read.val_main_v84 (F := Ideal) X0 X1 := rfl

theorem scale_at (r : Fin 4096) (j : Fin 1024) : val_main_v82 (F := Ideal) X3 (ix2 r j) = sc X3 j := by
  rw [val_main_v82_apply, val_main_v81_apply]
  exact congrArg X3 ((eq_ix1 _).trans (congrArg ix1 (Fin.ext rfl)))

theorem prod_at (H : ∀ i, IsReal (X1 i)) (r : Fin 4096) (g : Fin 4) (b : Fin 256) :
    val_main_v80 (F := Ideal) X0 X1 X2 (ix2 r (col g b)) = ∑ a, mixed (h X0) (ga X1) (wide g) g r.val a * W X2 g a b := by
  have hg := g.isLt
  have hb := b.isLt
  rw [val_main_v80_apply, val_main_v79_apply, val_main_v78_apply, mixed_eq]
  refine Finset.sum_congr rfl fun a _ => (mul_comm _ _).trans (congrArg₂ (· * ·) ?_ (congrArg X2 (ext3 ?_ rfl ?_)))
  · rw [← BMixRef.mixed_at X0 X1 H]
    refine congrArg (BMixRefIdeal.Read.val_main_v84 (F := Ideal) X0 X1) (ext3 ?_ ?_ rfl)
    · show (r.val * 1024 + (g.val * 256 + b.val)) / 1024 = r.val
      omega
    · show (r.val * 1024 + (g.val * 256 + b.val)) / 256 % 4 = g.val
      omega
  · show (r.val * 1024 + (g.val * 256 + b.val)) / 256 % 4 = g.val
    omega
  · show (r.val * 1024 + (g.val * 256 + b.val)) % 256 = b.val
    omega

theorem out_at (H : ∀ i, IsReal (X1 i)) (r : Fin 4096) (g : Fin 4) (b : Fin 256) :
    val_main_v84 (F := Ideal) X0 X1 X2 X3 (ix2 r (col g b)) = outG (h X0) (ga X1) (W X2) (sc X3) g r b := by
  rw [val_main_v84_apply, val_main_v83_apply, prod_at X0 X1 X2 H, scale_at]
  rfl

/-! ### The two programs' results -/

open Cert.PoolIdeal (cfg0)
open Cert.PoolIdeal.Gen (dats)
open Cert.Proof.PoolValue (a0 a1 a2 a3 end_out)

variable (m : (ℓ : Loc Cert.PoolIdeal.nD Cert.PoolIdeal.τ Cert.PoolIdeal.sig) → Buf (Elt Ideal) ℓ)

theorem eq_out (c : Dev Cert.PoolIdeal.nD) (H : ∀ i, IsReal (a1 m c i)) :
    val_main_v84 (F := Ideal) (a0 m c) (a1 m c) (a2 m c) (a3 m c) = (dats m 0 c).arrAt 5 cfg0.N := by
  rw [end_out]
  funext i
  obtain ⟨r, k, rfl⟩ : ∃ (r : Fin 4096) (k : Fin 1024), i = ix2 r k := ⟨i 0, i 1, eq_ix2 i⟩
  obtain ⟨g, b, rfl⟩ := BMixBlocks.cases4 k
  refine (out_at _ _ _ _ H r g b).trans ?_
  show _ = outG _ _ _ _ (grp (col g b)) r (pos (col g b))
  rw [grp_col, pos_col]

/-- The precondition says the gain is finite. -/
theorem fine (c : Dev Cert.PoolIdeal.nD) (hp : Cert.Pre_PoolIdeal_p_finite m) : ∀ i, IsReal (a1 m c i) := by
  have e := congrFun (hp c) (fun d => d.elim0)
  unfold Cert.Pre_p_finite.fn at e
  dsimp only at e
  haveI : Subsingleton (Shape.Idx Cert.Pre_p_finite.S_) := ⟨fun a b => funext fun d => d.elim0⟩
  exact fin_test _ _ _ _ _ _ _ e

theorem frame_ref : Cert.quiescent_PoolRefIdeal := fun m ρ _ =>
  (θ_run Cert.PoolRefIdeal.defs _ _).mono (fun _ h => ⟨fun c => (h c).2, sem_eq_zero_of_no_sems rfl _⟩) (Cert.PoolRefIdeal.Value.run m ρ)

theorem algebraic : Cert.algebraic_PoolIdeal_PoolRefIdeal_pre_p_finite := by
  intro m ρ m' ρ' hp ha
  refine ⟨_, Cert.PoolIdeal.Value.run_blocks m ρ, ?_⟩
  refine (θ_run Cert.PoolRefIdeal.defs _ _).mono (fun r h c => ?_) (Cert.PoolRefIdeal.Value.run m' ρ')
  obtain ⟨h0, kept⟩ := h c
  obtain ⟨b0, b1, b2, b3⟩ := ha c
  refine ⟨?_, kept⟩
  refine (h0.trans (val_main_v84_eq _ _)).trans ?_
  show val_main_v84 (F := Ideal) (m' (c.tc.loc Cert.PoolRefIdeal.main_arg0)) (m' (c.tc.loc Cert.PoolRefIdeal.main_arg1)) (m' (c.tc.loc Cert.PoolRefIdeal.main_arg2)) (m' (c.tc.loc Cert.PoolRefIdeal.main_arg3)) = _
  rw [b0, b1, b2, b3]
  exact eq_out m c (fine m c hp)

end Cert.Proof.PoolRef

end
-- ==== Proof.lean ====
/- The certificate: each program runs and leaves its arguments, and each kernel computes the gradient its reference states. -/
module

public import proofs.«01_k».proof.Defs
public import proofs.«01_k».proof.Proof.LossRef
public import proofs.«01_k».proof.Proof.Gen.LossRefIdeal.Read
public import proofs.«01_k».proof.Proof.Gen.Loss.Frame
public import proofs.«01_k».proof.Proof.Gen.LossIdeal.Frame
public import proofs.«01_k».proof.Proof.AMixRef
public import proofs.«01_k».proof.Proof.Gen.AMixRefIdeal
public import proofs.«01_k».proof.Proof.InProjRef
public import proofs.«01_k».proof.Proof.Gen.InProjRefIdeal.Read
public import proofs.«01_k».proof.Proof.Gen.InProj.Frame
public import proofs.«01_k».proof.Proof.Gen.InProjIdeal.Frame
public import proofs.«01_k».proof.Proof.Gen.AMix.Frame
public import proofs.«01_k».proof.Proof.Gen.AMixIdeal.Frame
public import proofs.«01_k».proof.Proof.Gen.InProjIdeal.Value
public import proofs.«01_k».proof.Proof.FfnFrames
public import proofs.«01_k».proof.Proof.FfnRef
public import proofs.«01_k».proof.Proof.Gen.FfnRefIdeal.Read
public import proofs.«01_k».proof.Proof.Gen.Ffn
public import proofs.«01_k».proof.Proof.Gen.Ffn.Skeleton
public import proofs.«01_k».proof.Proof.Gen.Ffn.Launch
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Regions
public import proofs.«01_k».proof.Proof.Gen.Pre_ffn_finite
public import proofs.«01_k».proof.Proof.BMixRef
public import proofs.«01_k».proof.Proof.Gen.BMixIdeal.Value
public import proofs.«01_k».proof.Proof.Gen.Pre_b_finite
public import proofs.«01_k».proof.Proof.Gen.BMixRefIdeal.Read
public import proofs.«01_k».proof.Proof.Gen.BMix.Frame
public import proofs.«01_k».proof.Proof.Gen.BMixIdeal.Frame
public import proofs.«01_k».proof.Proof.ProjRef
public import proofs.«01_k».proof.Proof.CMixFrames
public import proofs.«01_k».proof.Proof.GateRef
public import proofs.«01_k».proof.Proof.Gen.Proj.Frame
public import proofs.«01_k».proof.Proof.Gen.ProjIdeal.Frame
public import proofs.«01_k».proof.Proof.Gen.ProjIdeal.Value
public import proofs.«01_k».proof.Proof.Gen.ProjRefIdeal.Read
public import proofs.«01_k».proof.Proof.Gen.Gate.Frame
public import proofs.«01_k».proof.Proof.Gen.GateIdeal.Frame
public import proofs.«01_k».proof.Proof.Gen.GateIdeal.Value
public import proofs.«01_k».proof.Proof.Gen.GateRefIdeal.Read
public import proofs.«01_k».proof.Proof.Gen.CMix
public import proofs.«01_k».proof.Proof.Gen.CMix.Skeleton
public import proofs.«01_k».proof.Proof.Gen.CMix.Launch
public import proofs.«01_k».proof.Proof.Gen.CMixIdeal.Frame
public import proofs.«01_k».proof.Proof.ConvRef
public import proofs.«01_k».proof.Proof.ConvFrames
public import proofs.«01_k».proof.Proof.Gen.Conv
public import proofs.«01_k».proof.Proof.Gen.Conv.Skeleton
public import proofs.«01_k».proof.Proof.Gen.Conv.Launch
public import proofs.«01_k».proof.Proof.Gen.ConvIdeal.Frame
public import proofs.«01_k».proof.Proof.Gen.ConvIdeal.Value
public import proofs.«01_k».proof.Proof.Gen.ConvRefIdeal.Read
public import proofs.«01_k».proof.Proof.PoolRef
public import proofs.«01_k».proof.Proof.Gen.Pool.Frame
public import proofs.«01_k».proof.Proof.Gen.PoolIdeal.Frame
public import proofs.«01_k».proof.Proof.Gen.PoolIdeal.Value
public import proofs.«01_k».proof.Proof.Gen.PoolRefIdeal.Read
public import proofs.«01_k».proof.Proof.Gen.Pre_p_finite
public import Idealize.ShloMosaic.Adequacy
public import Idealize.ShloMosaic.Init

@[expose] public section

noncomputable section

namespace Cert.Proof

open Idealize.ShloMosaic Idealize.SL.Sem

theorem claim : Cert.Claim := ⟨
  Cert.Loss.Gen.facts, Cert.LossIdeal.Gen.facts, Cert.LossRefIdeal.Gen.facts,
  Cert.AMix.Gen.facts, Cert.AMixIdeal.Gen.facts, Cert.AMixRefIdeal.Gen.facts,
  Cert.InProj.Gen.facts, Cert.InProjIdeal.Gen.facts, Cert.InProjRefIdeal.Gen.facts,
  Cert.Ffn.Gen.facts, Cert.FfnIdeal.Gen.facts, Cert.FfnRefIdeal.Gen.facts,
  Cert.BMix.Gen.facts, Cert.BMixIdeal.Gen.facts, Cert.BMixRefIdeal.Gen.facts,
  Cert.Proj.Gen.facts, Cert.ProjIdeal.Gen.facts, Cert.ProjRefIdeal.Gen.facts,
  Cert.Gate.Gen.facts, Cert.GateIdeal.Gen.facts, Cert.GateRefIdeal.Gen.facts,
  Cert.CMix.Gen.facts, Cert.CMixIdeal.Gen.facts,
  Cert.Conv.Gen.facts, Cert.ConvIdeal.Gen.facts, Cert.ConvRefIdeal.Gen.facts,
  Cert.Pool.Gen.facts, Cert.PoolIdeal.Gen.facts, Cert.PoolRefIdeal.Gen.facts,
  Cert.Pre_ffn_finite.Gen.facts, Cert.Pre_b_finite.Gen.facts, Cert.Pre_p_finite.Gen.facts,
  fun m ρ _ => Cert.Loss.Gen.frame m ρ, fun m ρ _ => Cert.LossIdeal.Gen.frame m ρ, LossRef.frame_ref,
  fun m ρ _ => Cert.AMix.Gen.frame m ρ, fun m ρ _ => Cert.AMixIdeal.Gen.frame m ρ, AMixRef.frame_ref,
  fun m ρ _ => Cert.InProj.Gen.frame m ρ, fun m ρ _ => Cert.InProjIdeal.Gen.frame m ρ, InProjRef.frame_ref,
  FfnFrames.compiled, FfnFrames.ideal, fun m ρ _ => FfnFrames.ideal m ρ trivial, FfnRef.frame_ref, fun m ρ _ => FfnRef.frame_ref m ρ trivial,
  fun m ρ _ => Cert.BMix.Gen.frame m ρ, fun m ρ _ => Cert.BMixIdeal.Gen.frame m ρ, fun m ρ _ => Cert.BMixIdeal.Gen.frame m ρ, BMixRef.frame_ref, fun m ρ _ => BMixRef.frame_ref m ρ trivial,
  fun m ρ _ => Cert.Proj.Gen.frame m ρ, fun m ρ _ => Cert.ProjIdeal.Gen.frame m ρ, ProjRef.frame_ref,
  fun m ρ _ => Cert.Gate.Gen.frame m ρ, fun m ρ _ => Cert.GateIdeal.Gen.frame m ρ, GateRef.frame_ref,
  CMixFrames.compiled, CMixFrames.ideal,
  ConvFrames.compiled, ConvFrames.ideal, ConvRef.frame_ref,
  fun m ρ _ => Cert.Pool.Gen.frame m ρ, fun m ρ _ => Cert.PoolIdeal.Gen.frame m ρ, fun m ρ _ => Cert.PoolIdeal.Gen.frame m ρ, PoolRef.frame_ref, fun m ρ _ => PoolRef.frame_ref m ρ trivial,
  trivial, LossRef.algebraic,
  trivial, AMixRef.algebraic,
  trivial, InProjRef.algebraic,
  trivial, FfnRef.algebraic,
  trivial, BMixRef.algebraic,
  trivial, ProjRef.algebraic,
  trivial, GateRef.algebraic,
  trivial,
  trivial, ConvRef.algebraic,
  trivial, PoolRef.algebraic⟩

end Cert.Proof

end
